-- ==== Defs.lean ====
def Pre_Kernel [hPre_tables_ok : Cert.Pre_tables_ok.Facts] (m : (ℓ : Loc Cert.Kernel.nD Cert.Kernel.τ Cert.Kernel.sig) → Buf (Elt Bits) ℓ) : Prop :=
  ∀ c : Dev Cert.Kernel.nD,
    (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).1 = (fun _ => 1#1)
    ∧ (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.1 = (fun _ => 1#1)
    ∧ (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.1 = (fun _ => 1#1)
    ∧ (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.2.1 = (fun _ => 1#1)
    ∧ (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.2.2.1 = (fun _ => 1#1)
    ∧ (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.2.2.2.1 = (fun _ => 1#1)
    ∧ (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.2.2.2.2.1 = (fun _ => 1#1)
    ∧ (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.2.2.2.2.2.1 = (fun _ => 1#1)
    ∧ (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.2.2.2.2.2.2 = (fun _ => 1#1)

def Pre_KernelIdeal [hPre_tables_ok : Cert.Pre_tables_ok.Facts] (m : (ℓ : Loc Cert.KernelIdeal.nD Cert.KernelIdeal.τ Cert.KernelIdeal.sig) → Buf (Elt Ideal) ℓ) : Prop :=
  ∀ c : Dev Cert.KernelIdeal.nD,
    (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.1 = (fun _ => 1#1)
    ∧ (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tables_ok [hPre_tables_ok : Cert.Pre_tables_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.1 = (fun _ => 1#1)
    ∧ (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.2 = (fun _ => 1#1)

def quiescent_Kernel [hKernel : Cert.Kernel.Facts] [hPre_tables_ok : Cert.Pre_tables_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tables_ok [hReferenceIdeal : Cert.ReferenceIdeal.Facts] [hPre_tables_ok : Cert.Pre_tables_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tables_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tables_ok : Cert.Pre_tables_ok.Facts),
    quiescent_Kernel (hKernel := hKernel) (hPre_tables_ok := hPre_tables_ok)
    ∧ quiescent_KernelIdeal (hKernelIdeal := hKernelIdeal) (hPre_tables_ok := hPre_tables_ok)
    ∧ quiescent_ReferenceIdeal (hReferenceIdeal := hReferenceIdeal)
    ∧ quiescent_ReferenceIdeal_pre_tables_ok (hReferenceIdeal := hReferenceIdeal) (hPre_tables_ok := hPre_tables_ok)
    ∧ preserves_Kernel_KernelIdeal
    ∧ algebraic_KernelIdeal_ReferenceIdeal (hKernelIdeal := hKernelIdeal) (hReferenceIdeal := hReferenceIdeal) (hPre_tables_ok := hPre_tables_ok)
-- ==== Pre_tables_ok.lean ====
abbrev S6x4096x2048 : Shape := ⟨3, ![6, 4096, 2048]⟩
abbrev S6x4096x2 : Shape := ⟨3, ![6, 4096, 2]⟩
abbrev S49152x2048 : Shape := ⟨2, ![49152, 2048]⟩
abbrev S49152x16 : Shape := ⟨2, ![49152, 16]⟩
abbrev S192x4x128 : Shape := ⟨3, ![192, 4, 128]⟩
abbrev S192x128 : Shape := ⟨2, ![192, 128]⟩
abbrev S48x8 : Shape := ⟨2, ![48, 8]⟩
abbrev S_ : Shape := ⟨0, ![]⟩
abbrev S47x8 : Shape := ⟨2, ![47, 8]⟩
abbrev S49152 : Shape := ⟨1, ![49152]⟩
abbrev S49152x1 : Shape := ⟨2, ![49152, 1]⟩
abbrev S8 : Shape := ⟨1, ![8]⟩
abbrev S1x8 : Shape := ⟨2, ![1, 8]⟩
abbrev S49152x8 : Shape := ⟨2, ![49152, 8]⟩
abbrev S24576x2 : Shape := ⟨2, ![24576, 2]⟩
abbrev S192x2x64x2 : Shape := ⟨4, ![192, 2, 64, 2]⟩
abbrev S192x2x2x64 : Shape := ⟨4, ![192, 2, 2, 64]⟩
abbrev S192x2x128 : Shape := ⟨3, ![192, 2, 128]⟩
abbrev S192x2x64 : Shape := ⟨3, ![192, 2, 64]⟩
abbrev S192x2x48 : Shape := ⟨3, ![192, 2, 48]⟩
abbrev S192x2x128x48 : Shape := ⟨4, ![192, 2, 128, 48]⟩
abbrev S192x2x128x1 : Shape := ⟨4, ![192, 2, 128, 1]⟩
abbrev S192x2x1x48 : Shape := ⟨4, ![192, 2, 1, 48]⟩
abbrev S192x2x128x8 : Shape := ⟨4, ![192, 2, 128, 8]⟩
abbrev S48x1x8 : Shape := ⟨3, ![48, 1, 8]⟩
abbrev S48x4x8 : Shape := ⟨3, ![48, 4, 8]⟩
abbrev S192x1x1x8 : Shape := ⟨4, ![192, 1, 1, 8]⟩
abbrev S192x16 : Shape := ⟨2, ![192, 16]⟩
abbrev S192x2x1x8 : Shape := ⟨4, ![192, 2, 1, 8]⟩
abbrev S192x2x48x8 : Shape := ⟨4, ![192, 2, 48, 8]⟩
abbrev S192x2x48x1 : Shape := ⟨4, ![192, 2, 48, 1]⟩

class Facts : Prop where
  slicesBy_S192x128_S48x8_0s4_0s1 : S192x128.SlicesBy (![0, 0] : Fin 2 → Nat) ![4, 1] S48x8
  slicesBy_S192x128_S48x8_3s4_16s1 : S192x128.SlicesBy (![3, 16] : Fin 2 → Nat) ![4, 1] S48x8
  bcast_S_S48x8 : S_.BroadcastsInDim S48x8 (![] : Fin 0 → Fin S48x8.rank)
  slices_S48x8_S47x8_1_0 : S48x8.Slices ![1, 0] S47x8
  slices_S48x8_S47x8_0_0 : S48x8.Slices ![0, 0] S47x8
  shapeCasts_S6x4096x2_S49152 : S6x4096x2.ShapeCasts S49152
  bcast_S49152_S49152x1_0 : S49152.BroadcastsInDim S49152x1 (![0] : Fin 1 → Fin S49152x1.rank)
  bcast_S8_S1x8_1 : S8.BroadcastsInDim S1x8 (![1] : Fin 1 → Fin S1x8.rank)
  bcast_S49152x1_S49152x8_0_1 : S49152x1.BroadcastsInDim S49152x8 (![0, 1] : Fin 2 → Fin S49152x8.rank)
  bcast_S1x8_S49152x8_0_1 : S1x8.BroadcastsInDim S49152x8 (![0, 1] : Fin 2 → Fin S49152x8.rank)
  natLt_1_32 : 1 < 32
  bcast_S_S_ : S_.BroadcastsInDim S_ (![] : Fin 0 → Fin S_.rank)
  reduceWindows_S49152x8_S49152x8_w49152s1p49151_0_w1s1p0_0 : S49152x8.ReduceWindows (![49152, 1] : Fin 2 → Nat) ![1, 1] ![49151, 0] ![0, 0] S49152x8
  h_S_ : 0 < S_.numel
  slices_S49152x8_S1x8_49151_0 : S49152x8.Slices ![49151, 0] S1x8
  shapeCasts_S1x8_S8 : S1x8.ShapeCasts S8
  reduceWindows_S8_S8_w8s1p7_0 : S8.ReduceWindows (![8] : Fin 1 → Nat) ![1] ![7] ![0] S8
  bcast_S_S49152x8 : S_.BroadcastsInDim S49152x8 (![] : Fin 0 → Fin S49152x8.rank)
  reducesTo_S49152x8_S49152_d1 : S49152x8.ReducesTo [1] S49152
  shapeCasts_S49152_S24576x2 : S49152.ShapeCasts S24576x2
  shapeCasts_S24576x2_S192x2x64x2 : S24576x2.ShapeCasts S192x2x64x2
  transposes_S192x2x64x2_S192x2x2x64_0_1_3_2 : S192x2x64x2.Transposes [0, 1, 3, 2] S192x2x2x64
  shapeCasts_S192x2x2x64_S192x2x128 : S192x2x2x64.ShapeCasts S192x2x128
  slices_S192x4x128_S192x2x128_0_0_0 : S192x4x128.Slices ![0, 0, 0] S192x2x128
  bcast_S_S192x2x128 : S_.BroadcastsInDim S192x2x128 (![] : Fin 0 → Fin S192x2x128.rank)
  shapeCasts_S192x128_S192x2x64 : S192x128.ShapeCasts S192x2x64
  slices_S192x2x64_S192x2x48_0_0_0 : S192x2x64.Slices ![0, 0, 0] S192x2x48
  bcast_S192x2x128_S192x2x128x1_0_1_2 : S192x2x128.BroadcastsInDim S192x2x128x1 (![0, 1, 2] : Fin 3 → Fin S192x2x128x1.rank)
  bcast_S192x2x128x1_S192x2x128x48_0_1_2_3 : S192x2x128x1.BroadcastsInDim S192x2x128x48 (![0, 1, 2, 3] : Fin 4 → Fin S192x2x128x48.rank)
  bcast_S192x2x48_S192x2x1x48_0_1_3 : S192x2x48.BroadcastsInDim S192x2x1x48 (![0, 1, 3] : Fin 3 → Fin S192x2x1x48.rank)
  bcast_S_S192x2x1x48 : S_.BroadcastsInDim S192x2x1x48 (![] : Fin 0 → Fin S192x2x1x48.rank)
  bcast_S192x2x1x48_S192x2x128x48_0_1_2_3 : S192x2x1x48.BroadcastsInDim S192x2x128x48 (![0, 1, 2, 3] : Fin 4 → Fin S192x2x128x48.rank)
  bcast_S48x8_S48x1x8_0_2 : S48x8.BroadcastsInDim S48x1x8 (![0, 2] : Fin 2 → Fin S48x1x8.rank)
  bcast_S48x1x8_S48x4x8_0_1_2 : S48x1x8.BroadcastsInDim S48x4x8 (![0, 1, 2] : Fin 3 → Fin S48x4x8.rank)
  shapeCasts_S48x4x8_S192x1x1x8 : S48x4x8.ShapeCasts S192x1x1x8
  slices_S192x128_S192x16_0_0 : S192x128.Slices ![0, 0] S192x16
  shapeCasts_S192x16_S192x2x1x8 : S192x16.ShapeCasts S192x2x1x8
  bcast_S192x2x128x1_S192x2x128x8_0_1_2_3 : S192x2x128x1.BroadcastsInDim S192x2x128x8 (![0, 1, 2, 3] : Fin 4 → Fin S192x2x128x8.rank)
  bcast_S192x1x1x8_S192x2x128x8_0_1_2_3 : S192x1x1x8.BroadcastsInDim S192x2x128x8 (![0, 1, 2, 3] : Fin 4 → Fin S192x2x128x8.rank)
  bcast_S_S192x2x1x8 : S_.BroadcastsInDim S192x2x1x8 (![] : Fin 0 → Fin S192x2x1x8.rank)
  bcast_S192x2x1x8_S192x2x128x8_0_1_2_3 : S192x2x1x8.BroadcastsInDim S192x2x128x8 (![0, 1, 2, 3] : Fin 4 → Fin S192x2x128x8.rank)
  bcast_S_S192x16 : S_.BroadcastsInDim S192x16 (![] : Fin 0 → Fin S192x16.rank)
  slices_S192x128_S1x8_0_0 : S192x128.Slices ![0, 0] S1x8
  bcast_S1x8_S48x8_0_1 : S1x8.BroadcastsInDim S48x8 (![0, 1] : Fin 2 → Fin S48x8.rank)
  bcast_S192x2x48_S192x2x48x1_0_1_2 : S192x2x48.BroadcastsInDim S192x2x48x1 (![0, 1, 2] : Fin 3 → Fin S192x2x48x1.rank)
  bcast_S_S192x2x48x1 : S_.BroadcastsInDim S192x2x48x1 (![] : Fin 0 → Fin S192x2x48x1.rank)
  bcast_S_S192x2x48x8 : S_.BroadcastsInDim S192x2x48x8 (![] : Fin 0 → Fin S192x2x48x8.rank)
  bcast_S192x2x48x1_S192x2x48x8_0_1_2_3 : S192x2x48x1.BroadcastsInDim S192x2x48x8 (![0, 1, 2, 3] : Fin 4 → Fin S192x2x48x8.rank)
  bcast_S_S192x1x1x8 : S_.BroadcastsInDim S192x1x1x8 (![] : Fin 0 → Fin S192x1x1x8.rank)
  bcast_S192x1x1x8_S192x2x48x8_0_1_2_3 : S192x1x1x8.BroadcastsInDim S192x2x48x8 (![0, 1, 2, 3] : Fin 4 → Fin S192x2x48x8.rank)
  shapeCasts_S6x4096x2_S24576x2 : S6x4096x2.ShapeCasts S24576x2
  slices_S192x4x128_S192x2x128_0_2_0 : S192x4x128.Slices ![0, 2, 0] S192x2x128
  bcast_S_S49152x16 : S_.BroadcastsInDim S49152x16 (![] : Fin 0 → Fin S49152x16.rank)

variable [Facts]

def fn_cumsum_0 {F : FTy → Type} [FloatOps F] (arg0 : IVec S49152x8 32) : IVec S49152x8 32 :=
  let c : IVec S_ 32 := constantI S_ 32 0#32
  let v0 : IVec S_ 32 := broadcastInDim S_ ![] bcast_S_S_ c
  let v1 : IVec S49152x8 32 := (fun x v => Host.reduceWindow IntOp.addi ![49152, 1] ![1, 1] ![49151, 0] ![0, 0] x v reduceWindows_S49152x8_S49152x8_w49152s1p49151_0_w1s1p0_0 h_S_) arg0 v0
  v1

def fn_cumsum {F : FTy → Type} [FloatOps F] (arg0 : IVec S49152x8 32) : IVec S49152x8 32 :=
  let v0 : IVec S49152x8 32 := fn_cumsum_0 (F := F) arg0
  v0

def fn_cumsum_2 {F : FTy → Type} [FloatOps F] (arg0 : IVec S8 32) : IVec S8 32 :=
  let c : IVec S_ 32 := constantI S_ 32 0#32
  let v0 : IVec S_ 32 := broadcastInDim S_ ![] bcast_S_S_ c
  let v1 : IVec S8 32 := (fun x v => Host.reduceWindow IntOp.addi ![8] ![1] ![7] ![0] x v reduceWindows_S8_S8_w8s1p7_0 h_S_) arg0 v0
  v1

def fn_cumsum_1 {F : FTy → Type} [FloatOps F] (arg0 : IVec S8 32) : IVec S8 32 :=
  let v0 : IVec S8 32 := fn_cumsum_2 (F := F) arg0
  v0

def fn_where {F : FTy → Type} [FloatOps F] (arg0 : IVec S48x8 1) (arg1 : IVec S48x8 32) (arg2 : IVec S48x8 32) : IVec S48x8 32 :=
  let v0 : IVec S48x8 32 := select arg0 arg1 arg2
  v0

def fn_part10 {F : FTy → Type} [FloatOps F] (main_arg4 : IVec S49152x16 8) (main_v12 : IVec S48x8 1) (main_v15 : IVec S47x8 1) (main_v56 : IVec S192x2x128 1) (main_v89 : IVec S192x2x128x48 1) (main_v125 : IVec S192x2x128x8 1) (main_v128 : IVec S192x16 1) (main_v192 : IVec S192x2x48x8 1) (main_v199 : IVec S192x2x128 1) (main_v200 : FVec F S192x2x128 .f32) (main_cst : FVec F S_ .f32) : IVec S48x8 1 × IVec S47x8 1 × IVec S192x16 1 × IVec S192x2x128 1 × IVec S192x2x128x48 1 × IVec S192x2x128x8 1 × IVec S192x2x48x8 1 × IVec S192x2x128 1 × IVec S49152x16 1 :=
  let main_v201 : FVec F S192x2x128 .f32 := broadcastInDim S192x2x128 ![] bcast_S_S192x2x128 main_cst
  let main_v202 : IVec S192x2x128 1 := cmpf .olt main_v200 main_v201
  let main_v203 : IVec S192x2x128 1 := andi main_v199 main_v202
  let main_c_37 : IVec S_ 8 := constantI S_ 8 1#8
  let main_v204 : IVec S49152x16 8 := broadcastInDim S49152x16 ![] bcast_S_S49152x16 main_c_37
  let main_v205 : IVec S49152x16 1 := cmpi .uge main_arg4 main_v204
  let main_c_38 : IVec S_ 8 := constantI S_ 8 254#8
  let main_v206 : IVec S49152x16 8 := broadcastInDim S49152x16 ![] bcast_S_S49152x16 main_c_38
  let main_v207 : IVec S49152x16 1 := cmpi .ule main_arg4 main_v206
  let main_v208 : IVec S49152x16 1 := andi main_v205 main_v207
  (main_v12, main_v15, main_v128, main_v56, main_v89, main_v125, main_v192, main_v203, main_v208)

def fn_part9 {F : FTy → Type} [FloatOps F] (main_arg2 : FVec F S6x4096x2 .f32) (main_arg4 : IVec S49152x16 8) (main_arg5 : IVec S192x4x128 32) (main_v12 : IVec S48x8 1) (main_v15 : IVec S47x8 1) (main_v56 : IVec S192x2x128 1) (main_v89 : IVec S192x2x128x48 1) (main_v125 : IVec S192x2x128x8 1) (main_v128 : IVec S192x16 1) (main_v157 : IVec S192x1x1x8 32) (main_v160 : IVec S192x1x1x8 32) (main_v168 : IVec S192x2x48x8 32) (main_v174 : IVec S192x2x48x8 32) (main_v179 : IVec S192x2x48x1 1) : IVec S48x8 1 × IVec S47x8 1 × IVec S192x16 1 × IVec S192x2x128 1 × IVec S192x2x128x48 1 × IVec S192x2x128x8 1 × IVec S192x2x48x8 1 × IVec S192x2x128 1 × IVec S49152x16 1 :=
  let main_c_35 : IVec S_ 32 := constantI S_ 32 0#32
  let main_v180 : IVec S192x2x48x8 32 := broadcastInDim S192x2x48x8 ![] bcast_S_S192x2x48x8 main_c_35
  let main_v181 : IVec S192x2x48x8 1 := cmpi .slt main_v168 main_v180
  let main_c_36 : IVec S_ 32 := constantI S_ 32 40#32
  let main_v182 : IVec S192x2x48x8 32 := broadcastInDim S192x2x48x8 ![] bcast_S_S192x2x48x8 main_c_36
  let main_v183 : IVec S192x2x48x8 1 := cmpi .sge main_v168 main_v182
  let main_v184 : IVec S192x2x48x8 1 := ori main_v181 main_v183
  let main_v185 : IVec S192x2x48x8 32 := broadcastInDim S192x2x48x8 ![0, 1, 2, 3] bcast_S192x1x1x8_S192x2x48x8_0_1_2_3 main_v160
  let main_v186 : IVec S192x2x48x8 1 := cmpi .sle main_v185 main_v174
  let main_v187 : IVec S192x2x48x8 32 := broadcastInDim S192x2x48x8 ![0, 1, 2, 3] bcast_S192x1x1x8_S192x2x48x8_0_1_2_3 main_v157
  let main_v188 : IVec S192x2x48x8 1 := cmpi .sle main_v174 main_v187
  let main_v189 : IVec S192x2x48x8 1 := andi main_v186 main_v188
  let main_v190 : IVec S192x2x48x8 1 := ori main_v184 main_v189
  let main_v191 : IVec S192x2x48x8 1 := broadcastInDim S192x2x48x8 ![0, 1, 2, 3] bcast_S192x2x48x1_S192x2x48x8_0_1_2_3 main_v179
  let main_v192 : IVec S192x2x48x8 1 := andi main_v191 main_v190
  let main_v193 : FVec F S24576x2 .f32 := shapeCast S24576x2 main_arg2 shapeCasts_S6x4096x2_S24576x2
  let main_v194 : FVec F S192x2x64x2 .f32 := shapeCast S192x2x64x2 main_v193 shapeCasts_S24576x2_S192x2x64x2
  let main_v195 : FVec F S192x2x2x64 .f32 := (transpose S192x2x2x64 [0, 1, 3, 2] · transposes_S192x2x64x2_S192x2x2x64_0_1_3_2) main_v194
  let main_v196 : FVec F S192x2x128 .f32 := shapeCast S192x2x128 main_v195 shapeCasts_S192x2x2x64_S192x2x128
  let main_v197 : IVec S192x2x128 32 := (extractStridedSlice S192x2x128 ![0, 2, 0] · slices_S192x4x128_S192x2x128_0_2_0) main_arg5
  let main_v198 : FVec F S192x2x128 .f32 := bitcastToFloat .f32 main_v197
  let main_v199 : IVec S192x2x128 1 := cmpf .oeq main_v198 main_v196
  let main_v200 : FVec F S192x2x128 .f32 := Host.absf main_v196
  let main_cst : FVec F S_ .f32 := constant S_ .f32 0x7F800000#32
  fn_part10 (F := F) main_arg4 main_v12 main_v15 main_v56 main_v89 main_v125 main_v128 main_v192 main_v199 main_v200 main_cst

def fn_part8 {F : FTy → Type} [FloatOps F] (main_arg2 : FVec F S6x4096x2 .f32) (main_arg4 : IVec S49152x16 8) (main_arg5 : IVec S192x4x128 32) (main_v12 : IVec S48x8 1) (main_v15 : IVec S47x8 1) (main_v56 : IVec S192x2x128 1) (main_v58 : IVec S192x2x48 32) (main_v89 : IVec S192x2x128x48 1) (main_v125 : IVec S192x2x128x8 1) (main_v128 : IVec S192x16 1) (main_v154 : IVec S192x1x1x8 32) (main_v157 : IVec S192x1x1x8 32) (main_v160 : IVec S192x1x1x8 32) (main_v161 : IVec S192x2x48x8 32) : IVec S48x8 1 × IVec S47x8 1 × IVec S192x16 1 × IVec S192x2x128 1 × IVec S192x2x128x48 1 × IVec S192x2x128x8 1 × IVec S192x2x48x8 1 × IVec S192x2x128 1 × IVec S49152x16 1 :=
  let main_v162 : IVec S192x2x48x1 32 := broadcastInDim S192x2x48x1 ![0, 1, 2] bcast_S192x2x48_S192x2x48x1_0_1_2 main_v58
  let main_c_29 : IVec S_ 32 := constantI S_ 32 3#32
  let main_v163 : IVec S192x2x48x1 32 := broadcastInDim S192x2x48x1 ![] bcast_S_S192x2x48x1 main_c_29
  let main_v164 : IVec S192x2x48x1 32 := Host.shrsi main_v162 main_v163
  let main_c_30 : IVec S_ 32 := constantI S_ 32 40#32
  let main_v165 : IVec S192x2x48x8 32 := broadcastInDim S192x2x48x8 ![] bcast_S_S192x2x48x8 main_c_30
  let main_v166 : IVec S192x2x48x8 32 := muli main_v165 main_v161
  let main_v167 : IVec S192x2x48x8 32 := broadcastInDim S192x2x48x8 ![0, 1, 2, 3] bcast_S192x2x48x1_S192x2x48x8_0_1_2_3 main_v164
  let main_v168 : IVec S192x2x48x8 32 := subi main_v167 main_v166
  let main_c_31 : IVec S_ 32 := constantI S_ 32 1601#32
  let main_v169 : IVec S192x1x1x8 32 := broadcastInDim S192x1x1x8 ![] bcast_S_S192x1x1x8 main_c_31
  let main_v170 : IVec S192x1x1x8 32 := subi main_v169 main_v154
  let main_v171 : IVec S192x2x48x8 32 := broadcastInDim S192x2x48x8 ![0, 1, 2, 3] bcast_S192x1x1x8_S192x2x48x8_0_1_2_3 main_v170
  let main_v172 : IVec S192x2x48x8 32 := addi main_v168 main_v171
  let main_c_32 : IVec S_ 32 := constantI S_ 32 40#32
  let main_v173 : IVec S192x2x48x8 32 := broadcastInDim S192x2x48x8 ![] bcast_S_S192x2x48x8 main_c_32
  let main_v174 : IVec S192x2x48x8 32 := Host.remsi main_v172 main_v173
  let main_c_33 : IVec S_ 32 := constantI S_ 32 0#32
  let main_v175 : IVec S192x2x48x1 32 := broadcastInDim S192x2x48x1 ![] bcast_S_S192x2x48x1 main_c_33
  let main_v176 : IVec S192x2x48x1 1 := cmpi .sge main_v162 main_v175
  let main_c_34 : IVec S_ 32 := constantI S_ 32 2560#32
  let main_v177 : IVec S192x2x48x1 32 := broadcastInDim S192x2x48x1 ![] bcast_S_S192x2x48x1 main_c_34
  let main_v178 : IVec S192x2x48x1 1 := cmpi .slt main_v162 main_v177
  let main_v179 : IVec S192x2x48x1 1 := andi main_v176 main_v178
  fn_part9 (F := F) main_arg2 main_arg4 main_arg5 main_v12 main_v15 main_v56 main_v89 main_v125 main_v128 main_v157 main_v160 main_v168 main_v174 main_v179

def fn_part7 {F : FTy → Type} [FloatOps F] (main_arg2 : FVec F S6x4096x2 .f32) (main_arg4 : IVec S49152x16 8) (main_arg5 : IVec S192x4x128 32) (main_v0 : IVec S48x8 32) (main_v1 : IVec S48x8 32) (main_v12 : IVec S48x8 1) (main_v15 : IVec S47x8 1) (main_v56 : IVec S192x2x128 1) (main_v58 : IVec S192x2x48 32) (main_v89 : IVec S192x2x128x48 1) (main_v125 : IVec S192x2x128x8 1) (main_v128 : IVec S192x16 1) (main_v129 : IVec S1x8 32) (main_v138 : IVec S48x8 32) (main_v140 : IVec S48x8 1) : IVec S48x8 1 × IVec S47x8 1 × IVec S192x16 1 × IVec S192x2x128 1 × IVec S192x2x128x48 1 × IVec S192x2x128x8 1 × IVec S192x2x48x8 1 × IVec S192x2x128 1 × IVec S49152x16 1 :=
  let main_c_26 : IVec S_ 32 := constantI S_ 32 5#32
  let main_v141 : IVec S48x8 32 := broadcastInDim S48x8 ![] bcast_S_S48x8 main_c_26
  let main_v142 : IVec S48x8 32 := Host.shrsi main_v1 main_v141
  let main_c_27 : IVec S_ 32 := constantI S_ 32 31#32
  let main_v143 : IVec S48x8 32 := broadcastInDim S48x8 ![] bcast_S_S48x8 main_c_27
  let main_v144 : IVec S48x8 32 := addi main_v1 main_v143
  let main_c_28 : IVec S_ 32 := constantI S_ 32 5#32
  let main_v145 : IVec S48x8 32 := broadcastInDim S48x8 ![] bcast_S_S48x8 main_c_28
  let main_v146 : IVec S48x8 32 := Host.shrsi main_v144 main_v145
  let main_v147 : IVec S48x8 32 := fn_where (F := F) main_v140 main_v142 main_v146
  let main_v148 : IVec S48x8 32 := subi main_v147 main_v138
  let main_v149 : IVec S48x8 32 := broadcastInDim S48x8 ![0, 1] bcast_S1x8_S48x8_0_1 main_v129
  let main_v150 : IVec S48x8 1 := cmpi .eq main_v0 main_v149
  let main_v151 : IVec S48x8 32 := (extui 32 · natLt_1_32) main_v150
  let main_v152 : IVec S48x1x8 32 := broadcastInDim S48x1x8 ![0, 2] bcast_S48x8_S48x1x8_0_2 main_v138
  let main_v153 : IVec S48x4x8 32 := broadcastInDim S48x4x8 ![0, 1, 2] bcast_S48x1x8_S48x4x8_0_1_2 main_v152
  let main_v154 : IVec S192x1x1x8 32 := shapeCast S192x1x1x8 main_v153 shapeCasts_S48x4x8_S192x1x1x8
  let main_v155 : IVec S48x1x8 32 := broadcastInDim S48x1x8 ![0, 2] bcast_S48x8_S48x1x8_0_2 main_v148
  let main_v156 : IVec S48x4x8 32 := broadcastInDim S48x4x8 ![0, 1, 2] bcast_S48x1x8_S48x4x8_0_1_2 main_v155
  let main_v157 : IVec S192x1x1x8 32 := shapeCast S192x1x1x8 main_v156 shapeCasts_S48x4x8_S192x1x1x8
  let main_v158 : IVec S48x1x8 32 := broadcastInDim S48x1x8 ![0, 2] bcast_S48x8_S48x1x8_0_2 main_v151
  let main_v159 : IVec S48x4x8 32 := broadcastInDim S48x4x8 ![0, 1, 2] bcast_S48x1x8_S48x4x8_0_1_2 main_v158
  let main_v160 : IVec S192x1x1x8 32 := shapeCast S192x1x1x8 main_v159 shapeCasts_S48x4x8_S192x1x1x8
  let main_v161 : IVec S192x2x48x8 32 := iotaInDim S192x2x48x8 32 3
  fn_part8 (F := F) main_arg2 main_arg4 main_arg5 main_v12 main_v15 main_v56 main_v58 main_v89 main_v125 main_v128 main_v154 main_v157 main_v160 main_v161

def fn_part6 {F : FTy → Type} [FloatOps F] (main_arg2 : FVec F S6x4096x2 .f32) (main_arg4 : IVec S49152x16 8) (main_arg5 : IVec S192x4x128 32) (main_arg7 : IVec S192x128 32) (main_v0 : IVec S48x8 32) (main_v1 : IVec S48x8 32) (main_v12 : IVec S48x8 1) (main_v15 : IVec S47x8 1) (main_v39 : IVec S192x2x128 32) (main_v56 : IVec S192x2x128 1) (main_v58 : IVec S192x2x48 32) (main_v89 : IVec S192x2x128x48 1) (main_v101 : IVec S192x2x128x8 1) (main_v110 : IVec S192x2x128x8 1) (main_v120 : IVec S192x2x128x8 32) : IVec S48x8 1 × IVec S47x8 1 × IVec S192x16 1 × IVec S192x2x128 1 × IVec S192x2x128x48 1 × IVec S192x2x128x8 1 × IVec S192x2x48x8 1 × IVec S192x2x128 1 × IVec S49152x16 1 :=
  let main_v121 : IVec S192x2x128x1 32 := broadcastInDim S192x2x128x1 ![0, 1, 2] bcast_S192x2x128_S192x2x128x1_0_1_2 main_v39
  let main_v122 : IVec S192x2x128x8 32 := broadcastInDim S192x2x128x8 ![0, 1, 2, 3] bcast_S192x2x128x1_S192x2x128x8_0_1_2_3 main_v121
  let main_v123 : IVec S192x2x128x8 1 := cmpi .eq main_v120 main_v122
  let main_v124 : IVec S192x2x128x8 1 := andi main_v110 main_v123
  let main_v125 : IVec S192x2x128x8 1 := ori main_v101 main_v124
  let main_v126 : IVec S192x16 32 := (extractStridedSlice S192x16 ![0, 0] · slices_S192x128_S192x16_0_0) main_arg7
  let main_c_22 : IVec S_ 32 := constantI S_ 32 0#32
  let main_v127 : IVec S192x16 32 := broadcastInDim S192x16 ![] bcast_S_S192x16 main_c_22
  let main_v128 : IVec S192x16 1 := cmpi .sge main_v126 main_v127
  let main_v129 : IVec S1x8 32 := (extractStridedSlice S1x8 ![0, 0] · slices_S192x128_S1x8_0_0) main_arg7
  let main_v130 : IVec S48x8 32 := broadcastInDim S48x8 ![0, 1] bcast_S1x8_S48x8_0_1 main_v129
  let main_v131 : IVec S48x8 1 := cmpi .eq main_v0 main_v130
  let main_c_23 : IVec S_ 32 := constantI S_ 32 5#32
  let main_v132 : IVec S48x8 32 := broadcastInDim S48x8 ![] bcast_S_S48x8 main_c_23
  let main_v133 : IVec S48x8 32 := Host.shrsi main_v0 main_v132
  let main_c_24 : IVec S_ 32 := constantI S_ 32 31#32
  let main_v134 : IVec S48x8 32 := broadcastInDim S48x8 ![] bcast_S_S48x8 main_c_24
  let main_v135 : IVec S48x8 32 := addi main_v0 main_v134
  let main_c_25 : IVec S_ 32 := constantI S_ 32 5#32
  let main_v136 : IVec S48x8 32 := broadcastInDim S48x8 ![] bcast_S_S48x8 main_c_25
  let main_v137 : IVec S48x8 32 := Host.shrsi main_v135 main_v136
  let main_v138 : IVec S48x8 32 := fn_where (F := F) main_v131 main_v133 main_v137
  let main_v139 : IVec S48x8 32 := broadcastInDim S48x8 ![0, 1] bcast_S1x8_S48x8_0_1 main_v129
  let main_v140 : IVec S48x8 1 := cmpi .eq main_v1 main_v139
  fn_part7 (F := F) main_arg2 main_arg4 main_arg5 main_v0 main_v1 main_v12 main_v15 main_v56 main_v58 main_v89 main_v125 main_v128 main_v129 main_v138 main_v140

def fn_part5 {F : FTy → Type} [FloatOps F] (main_arg2 : FVec F S6x4096x2 .f32) (main_arg4 : IVec S49152x16 8) (main_arg5 : IVec S192x4x128 32) (main_arg7 : IVec S192x128 32) (main_v0 : IVec S48x8 32) (main_v1 : IVec S48x8 32) (main_v12 : IVec S48x8 1) (main_v15 : IVec S47x8 1) (main_v39 : IVec S192x2x128 32) (main_v46 : IVec S192x2x128 32) (main_v56 : IVec S192x2x128 1) (main_v58 : IVec S192x2x48 32) (main_v89 : IVec S192x2x128x48 1) (main_v90 : IVec S192x2x128x8 32) (main_v93 : IVec S192x1x1x8 32) (main_v96 : IVec S192x1x1x8 32) (main_v98 : IVec S192x2x1x8 32) (main_v99 : IVec S192x2x128x1 32) : IVec S48x8 1 × IVec S47x8 1 × IVec S192x16 1 × IVec S192x2x128 1 × IVec S192x2x128x48 1 × IVec S192x2x128x8 1 × IVec S192x2x48x8 1 × IVec S192x2x128 1 × IVec S49152x16 1 :=
  let main_v100 : IVec S192x2x128x8 32 := broadcastInDim S192x2x128x8 ![0, 1, 2, 3] bcast_S192x2x128x1_S192x2x128x8_0_1_2_3 main_v99
  let main_v101 : IVec S192x2x128x8 1 := cmpi .ne main_v100 main_v90
  let main_v102 : IVec S192x2x128x1 32 := broadcastInDim S192x2x128x1 ![0, 1, 2] bcast_S192x2x128_S192x2x128x1_0_1_2 main_v39
  let main_v103 : IVec S192x2x128x8 32 := broadcastInDim S192x2x128x8 ![0, 1, 2, 3] bcast_S192x1x1x8_S192x2x128x8_0_1_2_3 main_v93
  let main_v104 : IVec S192x2x128x8 32 := broadcastInDim S192x2x128x8 ![0, 1, 2, 3] bcast_S192x2x128x1_S192x2x128x8_0_1_2_3 main_v102
  let main_v105 : IVec S192x2x128x8 1 := cmpi .sle main_v103 main_v104
  let main_v106 : IVec S192x2x128x1 32 := broadcastInDim S192x2x128x1 ![0, 1, 2] bcast_S192x2x128_S192x2x128x1_0_1_2 main_v39
  let main_v107 : IVec S192x2x128x8 32 := broadcastInDim S192x2x128x8 ![0, 1, 2, 3] bcast_S192x2x128x1_S192x2x128x8_0_1_2_3 main_v106
  let main_v108 : IVec S192x2x128x8 32 := broadcastInDim S192x2x128x8 ![0, 1, 2, 3] bcast_S192x1x1x8_S192x2x128x8_0_1_2_3 main_v96
  let main_v109 : IVec S192x2x128x8 1 := cmpi .slt main_v107 main_v108
  let main_v110 : IVec S192x2x128x8 1 := andi main_v105 main_v109
  let main_v111 : IVec S192x2x128x1 32 := broadcastInDim S192x2x128x1 ![0, 1, 2] bcast_S192x2x128_S192x2x128x1_0_1_2 main_v46
  let main_c_19 : IVec S_ 32 := constantI S_ 32 7#32
  let main_v112 : IVec S192x2x1x8 32 := broadcastInDim S192x2x1x8 ![] bcast_S_S192x2x1x8 main_c_19
  let main_v113 : IVec S192x2x1x8 32 := Host.shrsi main_v98 main_v112
  let main_c_20 : IVec S_ 32 := constantI S_ 32 382#32
  let main_v114 : IVec S192x2x1x8 32 := broadcastInDim S192x2x1x8 ![] bcast_S_S192x2x1x8 main_c_20
  let main_v115 : IVec S192x2x1x8 32 := minsi main_v113 main_v114
  let main_c_21 : IVec S_ 32 := constantI S_ 32 128#32
  let main_v116 : IVec S192x2x1x8 32 := broadcastInDim S192x2x1x8 ![] bcast_S_S192x2x1x8 main_c_21
  let main_v117 : IVec S192x2x1x8 32 := muli main_v116 main_v115
  let main_v118 : IVec S192x2x128x8 32 := broadcastInDim S192x2x128x8 ![0, 1, 2, 3] bcast_S192x2x128x1_S192x2x128x8_0_1_2_3 main_v111
  let main_v119 : IVec S192x2x128x8 32 := broadcastInDim S192x2x128x8 ![0, 1, 2, 3] bcast_S192x2x1x8_S192x2x128x8_0_1_2_3 main_v117
  let main_v120 : IVec S192x2x128x8 32 := addi main_v118 main_v119
  fn_part6 (F := F) main_arg2 main_arg4 main_arg5 main_arg7 main_v0 main_v1 main_v12 main_v15 main_v39 main_v56 main_v58 main_v89 main_v101 main_v110 main_v120

def fn_part4 {F : FTy → Type} [FloatOps F] (main_arg2 : FVec F S6x4096x2 .f32) (main_arg4 : IVec S49152x16 8) (main_arg5 : IVec S192x4x128 32) (main_arg7 : IVec S192x128 32) (main_v0 : IVec S48x8 32) (main_v1 : IVec S48x8 32) (main_v12 : IVec S48x8 1) (main_v15 : IVec S47x8 1) (main_v39 : IVec S192x2x128 32) (main_v42 : IVec S192x2x128 32) (main_v46 : IVec S192x2x128 32) (main_v48 : IVec S192x2x128 32) (main_v56 : IVec S192x2x128 1) (main_v58 : IVec S192x2x48 32) (main_v70 : IVec S192x2x128 32) (main_v76 : IVec S192x2x128x48 1) (main_v77 : IVec S192x2x1x48 32) : IVec S48x8 1 × IVec S47x8 1 × IVec S192x16 1 × IVec S192x2x128 1 × IVec S192x2x128x48 1 × IVec S192x2x128x8 1 × IVec S192x2x48x8 1 × IVec S192x2x128 1 × IVec S49152x16 1 :=
  let main_c_17 : IVec S_ 32 := constantI S_ 32 4#32
  let main_v78 : IVec S192x2x1x48 32 := broadcastInDim S192x2x1x48 ![] bcast_S_S192x2x1x48 main_c_17
  let main_v79 : IVec S192x2x1x48 32 := muli main_v77 main_v78
  let main_c_18 : IVec S_ 32 := constantI S_ 32 3#32
  let main_v80 : IVec S192x2x128 32 := broadcastInDim S192x2x128 ![] bcast_S_S192x2x128 main_c_18
  let main_v81 : IVec S192x2x128 32 := andi main_v42 main_v80
  let main_v82 : IVec S192x2x128x1 32 := broadcastInDim S192x2x128x1 ![0, 1, 2] bcast_S192x2x128_S192x2x128x1_0_1_2 main_v81
  let main_v83 : IVec S192x2x128x48 32 := broadcastInDim S192x2x128x48 ![0, 1, 2, 3] bcast_S192x2x1x48_S192x2x128x48_0_1_2_3 main_v79
  let main_v84 : IVec S192x2x128x48 32 := broadcastInDim S192x2x128x48 ![0, 1, 2, 3] bcast_S192x2x128x1_S192x2x128x48_0_1_2_3 main_v82
  let main_v85 : IVec S192x2x128x48 32 := addi main_v83 main_v84
  let main_v86 : IVec S192x2x128x1 32 := broadcastInDim S192x2x128x1 ![0, 1, 2] bcast_S192x2x128_S192x2x128x1_0_1_2 main_v70
  let main_v87 : IVec S192x2x128x48 32 := broadcastInDim S192x2x128x48 ![0, 1, 2, 3] bcast_S192x2x128x1_S192x2x128x48_0_1_2_3 main_v86
  let main_v88 : IVec S192x2x128x48 1 := cmpi .eq main_v85 main_v87
  let main_v89 : IVec S192x2x128x48 1 := ori main_v76 main_v88
  let main_v90 : IVec S192x2x128x8 32 := iotaInDim S192x2x128x8 32 3
  let main_v91 : IVec S48x1x8 32 := broadcastInDim S48x1x8 ![0, 2] bcast_S48x8_S48x1x8_0_2 main_v0
  let main_v92 : IVec S48x4x8 32 := broadcastInDim S48x4x8 ![0, 1, 2] bcast_S48x1x8_S48x4x8_0_1_2 main_v91
  let main_v93 : IVec S192x1x1x8 32 := shapeCast S192x1x1x8 main_v92 shapeCasts_S48x4x8_S192x1x1x8
  let main_v94 : IVec S48x1x8 32 := broadcastInDim S48x1x8 ![0, 2] bcast_S48x8_S48x1x8_0_2 main_v1
  let main_v95 : IVec S48x4x8 32 := broadcastInDim S48x4x8 ![0, 1, 2] bcast_S48x1x8_S48x4x8_0_1_2 main_v94
  let main_v96 : IVec S192x1x1x8 32 := shapeCast S192x1x1x8 main_v95 shapeCasts_S48x4x8_S192x1x1x8
  let main_v97 : IVec S192x16 32 := (extractStridedSlice S192x16 ![0, 0] · slices_S192x128_S192x16_0_0) main_arg7
  let main_v98 : IVec S192x2x1x8 32 := shapeCast S192x2x1x8 main_v97 shapeCasts_S192x16_S192x2x1x8
  let main_v99 : IVec S192x2x128x1 32 := broadcastInDim S192x2x128x1 ![0, 1, 2] bcast_S192x2x128_S192x2x128x1_0_1_2 main_v48
  fn_part5 (F := F) main_arg2 main_arg4 main_arg5 main_arg7 main_v0 main_v1 main_v12 main_v15 main_v39 main_v46 main_v56 main_v58 main_v89 main_v90 main_v93 main_v96 main_v98 main_v99

def fn_part3 {F : FTy → Type} [FloatOps F] (main_arg2 : FVec F S6x4096x2 .f32) (main_arg4 : IVec S49152x16 8) (main_arg5 : IVec S192x4x128 32) (main_arg7 : IVec S192x128 32) (main_v0 : IVec S48x8 32) (main_v1 : IVec S48x8 32) (main_v12 : IVec S48x8 1) (main_v15 : IVec S47x8 1) (main_v39 : IVec S192x2x128 32) (main_v42 : IVec S192x2x128 32) (main_v46 : IVec S192x2x128 32) (main_v48 : IVec S192x2x128 32) (main_v56 : IVec S192x2x128 1) (main_v58 : IVec S192x2x48 32) (main_c_11 : IVec S_ 32) : IVec S48x8 1 × IVec S47x8 1 × IVec S192x16 1 × IVec S192x2x128 1 × IVec S192x2x128x48 1 × IVec S192x2x128x8 1 × IVec S192x2x48x8 1 × IVec S192x2x128 1 × IVec S49152x16 1 :=
  let main_v59 : IVec S192x2x128 32 := broadcastInDim S192x2x128 ![] bcast_S_S192x2x128 main_c_11
  let main_v60 : IVec S192x2x128 32 := muli main_v48 main_v59
  let main_c_12 : IVec S_ 32 := constantI S_ 32 5#32
  let main_v61 : IVec S192x2x128 32 := broadcastInDim S192x2x128 ![] bcast_S_S192x2x128 main_c_12
  let main_v62 : IVec S192x2x128 32 := Host.shrsi main_v39 main_v61
  let main_c_13 : IVec S_ 32 := constantI S_ 32 40#32
  let main_v63 : IVec S192x2x128 32 := broadcastInDim S192x2x128 ![] bcast_S_S192x2x128 main_c_13
  let main_v64 : IVec S192x2x128 32 := Host.remsi main_v62 main_v63
  let main_v65 : IVec S192x2x128 32 := addi main_v60 main_v64
  let main_c_14 : IVec S_ 32 := constantI S_ 32 32#32
  let main_v66 : IVec S192x2x128 32 := broadcastInDim S192x2x128 ![] bcast_S_S192x2x128 main_c_14
  let main_v67 : IVec S192x2x128 32 := muli main_v65 main_v66
  let main_c_15 : IVec S_ 32 := constantI S_ 32 31#32
  let main_v68 : IVec S192x2x128 32 := broadcastInDim S192x2x128 ![] bcast_S_S192x2x128 main_c_15
  let main_v69 : IVec S192x2x128 32 := andi main_v39 main_v68
  let main_v70 : IVec S192x2x128 32 := addi main_v67 main_v69
  let main_v71 : IVec S192x2x128x48 32 := iotaInDim S192x2x128x48 32 3
  let main_c_16 : IVec S_ 32 := constantI S_ 32 2#32
  let main_v72 : IVec S192x2x128 32 := broadcastInDim S192x2x128 ![] bcast_S_S192x2x128 main_c_16
  let main_v73 : IVec S192x2x128 32 := Host.shrsi main_v42 main_v72
  let main_v74 : IVec S192x2x128x1 32 := broadcastInDim S192x2x128x1 ![0, 1, 2] bcast_S192x2x128_S192x2x128x1_0_1_2 main_v73
  let main_v75 : IVec S192x2x128x48 32 := broadcastInDim S192x2x128x48 ![0, 1, 2, 3] bcast_S192x2x128x1_S192x2x128x48_0_1_2_3 main_v74
  let main_v76 : IVec S192x2x128x48 1 := cmpi .ne main_v75 main_v71
  let main_v77 : IVec S192x2x1x48 32 := broadcastInDim S192x2x1x48 ![0, 1, 3] bcast_S192x2x48_S192x2x1x48_0_1_3 main_v58
  fn_part4 (F := F) main_arg2 main_arg4 main_arg5 main_arg7 main_v0 main_v1 main_v12 main_v15 main_v39 main_v42 main_v46 main_v48 main_v56 main_v58 main_v70 main_v76 main_v77

def fn_part2 {F : FTy → Type} [FloatOps F] (main_arg2 : FVec F S6x4096x2 .f32) (main_arg4 : IVec S49152x16 8) (main_arg5 : IVec S192x4x128 32) (main_arg6 : IVec S192x128 32) (main_arg7 : IVec S192x128 32) (main_v0 : IVec S48x8 32) (main_v1 : IVec S48x8 32) (main_v12 : IVec S48x8 1) (main_v15 : IVec S47x8 1) (main_v39 : IVec S192x2x128 32) (main_v40 : IVec S192x2x128 32) (main_v41 : IVec S192x2x128 32) : IVec S48x8 1 × IVec S47x8 1 × IVec S192x16 1 × IVec S192x2x128 1 × IVec S192x2x128x48 1 × IVec S192x2x128x8 1 × IVec S192x2x48x8 1 × IVec S192x2x128 1 × IVec S49152x16 1 :=
  let main_v42 : IVec S192x2x128 32 := andi main_v40 main_v41
  let main_c_5 : IVec S_ 32 := constantI S_ 32 8#32
  let main_v43 : IVec S192x2x128 32 := broadcastInDim S192x2x128 ![] bcast_S_S192x2x128 main_c_5
  let main_v44 : IVec S192x2x128 32 := Host.shrsi main_v40 main_v43
  let main_c_6 : IVec S_ 32 := constantI S_ 32 255#32
  let main_v45 : IVec S192x2x128 32 := broadcastInDim S192x2x128 ![] bcast_S_S192x2x128 main_c_6
  let main_v46 : IVec S192x2x128 32 := andi main_v44 main_v45
  let main_c_7 : IVec S_ 32 := constantI S_ 32 16#32
  let main_v47 : IVec S192x2x128 32 := broadcastInDim S192x2x128 ![] bcast_S_S192x2x128 main_c_7
  let main_v48 : IVec S192x2x128 32 := Host.shrsi main_v40 main_v47
  let main_c_8 : IVec S_ 32 := constantI S_ 32 192#32
  let main_v49 : IVec S192x2x128 32 := broadcastInDim S192x2x128 ![] bcast_S_S192x2x128 main_c_8
  let main_v50 : IVec S192x2x128 1 := cmpi .slt main_v42 main_v49
  let main_c_9 : IVec S_ 32 := constantI S_ 32 0#32
  let main_v51 : IVec S192x2x128 32 := broadcastInDim S192x2x128 ![] bcast_S_S192x2x128 main_c_9
  let main_v52 : IVec S192x2x128 1 := cmpi .sge main_v48 main_v51
  let main_v53 : IVec S192x2x128 1 := andi main_v50 main_v52
  let main_c_10 : IVec S_ 32 := constantI S_ 32 8#32
  let main_v54 : IVec S192x2x128 32 := broadcastInDim S192x2x128 ![] bcast_S_S192x2x128 main_c_10
  let main_v55 : IVec S192x2x128 1 := cmpi .slt main_v48 main_v54
  let main_v56 : IVec S192x2x128 1 := andi main_v53 main_v55
  let main_v57 : IVec S192x2x64 32 := shapeCast S192x2x64 main_arg6 shapeCasts_S192x128_S192x2x64
  let main_v58 : IVec S192x2x48 32 := (extractStridedSlice S192x2x48 ![0, 0, 0] · slices_S192x2x64_S192x2x48_0_0_0) main_v57
  let main_c_11 : IVec S_ 32 := constantI S_ 32 40#32
  fn_part3 (F := F) main_arg2 main_arg4 main_arg5 main_arg7 main_v0 main_v1 main_v12 main_v15 main_v39 main_v42 main_v46 main_v48 main_v56 main_v58 main_c_11

def fn_part1 {F : FTy → Type} [FloatOps F] (main_arg2 : FVec F S6x4096x2 .f32) (main_arg4 : IVec S49152x16 8) (main_arg5 : IVec S192x4x128 32) (main_arg6 : IVec S192x128 32) (main_arg7 : IVec S192x128 32) (main_v0 : IVec S48x8 32) (main_v1 : IVec S48x8 32) (main_v12 : IVec S48x8 1) (main_v15 : IVec S47x8 1) (main_v19 : IVec S1x8 32) (main_v20 : IVec S49152x8 32) : IVec S48x8 1 × IVec S47x8 1 × IVec S192x16 1 × IVec S192x2x128 1 × IVec S192x2x128x48 1 × IVec S192x2x128x8 1 × IVec S192x2x48x8 1 × IVec S192x2x128 1 × IVec S49152x16 1 :=
  let main_v21 : IVec S49152x8 32 := broadcastInDim S49152x8 ![0, 1] bcast_S1x8_S49152x8_0_1 main_v19
  let main_v22 : IVec S49152x8 1 := cmpi .eq main_v20 main_v21
  let main_v23 : IVec S49152x8 32 := (extui 32 · natLt_1_32) main_v22
  let main_v24 : IVec S49152x8 32 := fn_cumsum (F := F) main_v23
  let main_v25 : IVec S1x8 32 := (extractStridedSlice S1x8 ![49151, 0] · slices_S49152x8_S1x8_49151_0) main_v24
  let main_v26 : IVec S8 32 := shapeCast S8 main_v25 shapeCasts_S1x8_S8
  let main_v27 : IVec S8 32 := fn_cumsum_1 (F := F) main_v26
  let main_v28 : IVec S8 32 := subi main_v27 main_v26
  let main_v29 : IVec S1x8 32 := broadcastInDim S1x8 ![1] bcast_S8_S1x8_1 main_v28
  let main_v30 : IVec S49152x8 32 := broadcastInDim S49152x8 ![0, 1] bcast_S1x8_S49152x8_0_1 main_v29
  let main_v31 : IVec S49152x8 32 := addi main_v30 main_v24
  let main_c_2 : IVec S_ 32 := constantI S_ 32 1#32
  let main_v32 : IVec S49152x8 32 := broadcastInDim S49152x8 ![] bcast_S_S49152x8 main_c_2
  let main_v33 : IVec S49152x8 32 := subi main_v31 main_v32
  let main_v34 : IVec S49152x8 32 := muli main_v33 main_v23
  let main_c_3 : IVec S_ 32 := constantI S_ 32 0#32
  let main_v35 : IVec S49152 32 := (fun x v => Host.reduce IntOp.addi x v reducesTo_S49152x8_S49152_d1 h_S_) main_v34 main_c_3
  let main_v36 : IVec S24576x2 32 := shapeCast S24576x2 main_v35 shapeCasts_S49152_S24576x2
  let main_v37 : IVec S192x2x64x2 32 := shapeCast S192x2x64x2 main_v36 shapeCasts_S24576x2_S192x2x64x2
  let main_v38 : IVec S192x2x2x64 32 := (transpose S192x2x2x64 [0, 1, 3, 2] · transposes_S192x2x64x2_S192x2x2x64_0_1_3_2) main_v37
  let main_v39 : IVec S192x2x128 32 := shapeCast S192x2x128 main_v38 shapeCasts_S192x2x2x64_S192x2x128
  let main_v40 : IVec S192x2x128 32 := (extractStridedSlice S192x2x128 ![0, 0, 0] · slices_S192x4x128_S192x2x128_0_0_0) main_arg5
  let main_c_4 : IVec S_ 32 := constantI S_ 32 255#32
  let main_v41 : IVec S192x2x128 32 := broadcastInDim S192x2x128 ![] bcast_S_S192x2x128 main_c_4
  fn_part2 (F := F) main_arg2 main_arg4 main_arg5 main_arg6 main_arg7 main_v0 main_v1 main_v12 main_v15 main_v39 main_v40 main_v41

def fn {F : FTy → Type} [FloatOps F] (main_arg0 : FVec F S6x4096x2048 .bf16) (main_arg1 : IVec S6x4096x2 32) (main_arg2 : FVec F S6x4096x2 .f32) (main_arg3 : FVec F S49152x2048 .fp8e4m3) (main_arg4 : IVec S49152x16 8) (main_arg5 : IVec S192x4x128 32) (main_arg6 : IVec S192x128 32) (main_arg7 : IVec S192x128 32) : IVec S48x8 1 × IVec S47x8 1 × IVec S192x16 1 × IVec S192x2x128 1 × IVec S192x2x128x48 1 × IVec S192x2x128x8 1 × IVec S192x2x48x8 1 × IVec S192x2x128 1 × IVec S49152x16 1 :=
  let main_v0 : IVec S48x8 32 := (Host.slice S48x8 ![0, 0] ![4, 1] · slicesBy_S192x128_S48x8_0s4_0s1) main_arg7
  let main_v1 : IVec S48x8 32 := (Host.slice S48x8 ![3, 16] ![4, 1] · slicesBy_S192x128_S48x8_3s4_16s1) main_arg7
  let main_c : IVec S_ 32 := constantI S_ 32 0#32
  let main_v2 : IVec S48x8 32 := broadcastInDim S48x8 ![] bcast_S_S48x8 main_c
  let main_v3 : IVec S48x8 1 := cmpi .sge main_v0 main_v2
  let main_v4 : IVec S48x8 1 := cmpi .sle main_v0 main_v1
  let main_v5 : IVec S48x8 1 := andi main_v3 main_v4
  let main_c_0 : IVec S_ 32 := constantI S_ 32 49152#32
  let main_v6 : IVec S48x8 32 := broadcastInDim S48x8 ![] bcast_S_S48x8 main_c_0
  let main_v7 : IVec S48x8 1 := cmpi .sle main_v1 main_v6
  let main_v8 : IVec S48x8 1 := andi main_v5 main_v7
  let main_v9 : IVec S48x8 32 := subi main_v1 main_v0
  let main_c_1 : IVec S_ 32 := constantI S_ 32 512#32
  let main_v10 : IVec S48x8 32 := broadcastInDim S48x8 ![] bcast_S_S48x8 main_c_1
  let main_v11 : IVec S48x8 1 := cmpi .sle main_v9 main_v10
  let main_v12 : IVec S48x8 1 := andi main_v8 main_v11
  let main_v13 : IVec S47x8 32 := (extractStridedSlice S47x8 ![1, 0] · slices_S48x8_S47x8_1_0) main_v0
  let main_v14 : IVec S47x8 32 := (extractStridedSlice S47x8 ![0, 0] · slices_S48x8_S47x8_0_0) main_v1
  let main_v15 : IVec S47x8 1 := cmpi .eq main_v13 main_v14
  let main_v16 : IVec S49152 32 := shapeCast S49152 main_arg1 shapeCasts_S6x4096x2_S49152
  let main_v17 : IVec S49152x1 32 := broadcastInDim S49152x1 ![0] bcast_S49152_S49152x1_0 main_v16
  let main_v18 : IVec S8 32 := iotaInDim S8 32 0
  let main_v19 : IVec S1x8 32 := broadcastInDim S1x8 ![1] bcast_S8_S1x8_1 main_v18
  let main_v20 : IVec S49152x8 32 := broadcastInDim S49152x8 ![0, 1] bcast_S49152x1_S49152x8_0_1 main_v17
  fn_part1 (F := F) main_arg2 main_arg4 main_arg5 main_arg6 main_arg7 main_v0 main_v1 main_v12 main_v15 main_v19 main_v20
-- ==== Kernel.lean ====
abbrev S6x4096x2048 : Shape := ⟨3, ![6, 4096, 2048]⟩
abbrev S6x4096x2 : Shape := ⟨3, ![6, 4096, 2]⟩
abbrev S49152x2048 : Shape := ⟨2, ![49152, 2048]⟩
abbrev S49152x16 : Shape := ⟨2, ![49152, 16]⟩
abbrev S192x4x128 : Shape := ⟨3, ![192, 4, 128]⟩
abbrev S192x128 : Shape := ⟨2, ![192, 128]⟩
abbrev S16x49152 : Shape := ⟨2, ![16, 49152]⟩
abbrev S24576x2048 : Shape := ⟨2, ![24576, 2048]⟩
abbrev S4x4x128 : Shape := ⟨3, ![4, 4, 128]⟩
abbrev S512x2048 : Shape := ⟨2, ![512, 2048]⟩
abbrev S10240x2048 : Shape := ⟨2, ![10240, 2048]⟩
abbrev S192x2048 : Shape := ⟨2, ![192, 2048]⟩
abbrev S1536x128 : Shape := ⟨2, ![1536, 128]⟩
abbrev S48x2048 : Shape := ⟨2, ![48, 2048]⟩
abbrev S2 : Shape := ⟨1, ![2]⟩
abbrev S1x1 : Shape := ⟨2, ![1, 1]⟩
abbrev S1 : Shape := ⟨1, ![1]⟩
abbrev S_ : Shape := ⟨0, ![]⟩
abbrev S32x2048 : Shape := ⟨2, ![32, 2048]⟩
abbrev S16x128 : Shape := ⟨2, ![16, 128]⟩
abbrev S4x128 : Shape := ⟨2, ![4, 128]⟩
abbrev S4x2048 : Shape := ⟨2, ![4, 2048]⟩
abbrev S1x1x128 : Shape := ⟨3, ![1, 1, 128]⟩
abbrev S1x128 : Shape := ⟨2, ![1, 128]⟩
abbrev S8x128 : Shape := ⟨2, ![8, 128]⟩
abbrev S8x128x1 : Shape := ⟨3, ![8, 128, 1]⟩
abbrev S56x128 : Shape := ⟨2, ![56, 128]⟩
abbrev S128x56 : Shape := ⟨2, ![128, 56]⟩
abbrev S128x48 : Shape := ⟨2, ![128, 48]⟩
abbrev S128x1 : Shape := ⟨2, ![128, 1]⟩
abbrev S128x192 : Shape := ⟨2, ![128, 192]⟩
abbrev S192x256 : Shape := ⟨2, ![192, 256]⟩
abbrev S128x256 : Shape := ⟨2, ![128, 256]⟩
abbrev S48x256 : Shape := ⟨2, ![48, 256]⟩
abbrev S64x256 : Shape := ⟨2, ![64, 256]⟩

abbrev nBuf : Space → Nat
  | .hbm => 9
  | .vmem => 11
  | .smem => 3
  | _ => 0

abbrev bufTy : (tb : Table) → Fin (tcTables nBuf tb) → BufTy
  | .hbm, ⟨0, _⟩ => ⟨S6x4096x2048, .bf16⟩
  | .hbm, ⟨1, _⟩ => ⟨S6x4096x2, .i32⟩
  | .hbm, ⟨2, _⟩ => ⟨S6x4096x2, .f32⟩
  | .hbm, ⟨3, _⟩ => ⟨S49152x2048, .fp8e4m3⟩
  | .hbm, ⟨4, _⟩ => ⟨S49152x16, .i8⟩
  | .hbm, ⟨5, _⟩ => ⟨S192x4x128, .i32⟩
  | .hbm, ⟨6, _⟩ => ⟨S16x49152, .i8⟩
  | .hbm, ⟨7, _⟩ => ⟨S24576x2048, .bf16⟩
  | .hbm, ⟨8, _⟩ => ⟨S24576x2048, .bf16⟩
  | .local _ .vmem, ⟨0, _⟩ => ⟨S4x4x128, .i32⟩
  | .local _ .vmem, ⟨1, _⟩ => ⟨S4x4x128, .i32⟩
  | .local _ .vmem, ⟨2, _⟩ => ⟨S16x49152, .i8⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S10240x2048, .fp8e4m3⟩
  | .local _ .vmem, ⟨8, _⟩ => ⟨S192x2048, .fp8e4m3⟩
  | .local _ .vmem, ⟨9, _⟩ => ⟨S1536x128, .i32⟩
  | .local _ .vmem, ⟨10, _⟩ => ⟨S48x2048, .bf16⟩
  | .local _ .smem, ⟨0, _⟩ => ⟨S192x128, .i32⟩
  | .local _ .smem, ⟨1, _⟩ => ⟨S192x128, .i32⟩
  | .local _ .smem, ⟨2, _⟩ => ⟨S2, .i32⟩
  | _, _ => ⟨S6x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_arg6 : Ref sig .tc := ⟨.smem, 0, rfl⟩
abbrev main_arg7 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

abbrev pre0 : Pipeline.Prefetch sig := ⟨2, ![main_arg6.idx, main_arg7.idx], fun | 0 => main_arg6.names | 1 => main_arg7.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_11 : BitVec 32 := 0#32
  let c8_i32_12 : BitVec 32 := 8#32
  let v17 : BitVec 32 := Scalar.addi c0_i32_11 c8_i32_12
  let c1_i32_13 : BitVec 32 := 1#32
  ⟨c0_i32_11, v17, c1_i32_13⟩
def k0_off1 (k0_t1 : Fin k0_t1_loop.trips) : Fin 2 → Nat :=
  let c0_21 : Index := 0#32
  let c0_i32_11 : BitVec 32 := 0#32
  let c1_i32_13 : BitVec 32 := 1#32
  let arg14 : BitVec 32 := Scf.iv c0_i32_11 c1_i32_13 k0_t1
  let v42 : Index := Scalar.indexCast arg14
  ![0, v42.toNat]
def k0_off2 (k0_t1 : Fin k0_t1_loop.trips) : Fin 2 → Nat :=
  let c3 : Index := 3#32
  let c16_i32 : BitVec 32 := 16#32
  let c0_i32_11 : BitVec 32 := 0#32
  let c1_i32_13 : BitVec 32 := 1#32
  let arg14 : BitVec 32 := Scf.iv c0_i32_11 c1_i32_13 k0_t1
  let v44 : BitVec 32 := Scalar.addi c16_i32 arg14
  let v45 : Index := Scalar.indexCast v44
  ![3, v45.toNat]
@[reducible] def k0_t2_loop (v43 : BitVec 32) (v46 : BitVec 32) (v48 : BitVec 32) : Scf.Loop 32 :=
  let v49 : BitVec 1 := Scalar.cmpi .eq v43 v48
  let c5_i32 : BitVec 32 := 5#32
  let v50 : BitVec 32 := Scalar.shrsi v43 c5_i32
  let c32_i32_23 : BitVec 32 := 32#32
  let v51 : BitVec 32 := Scalar.addi v43 c32_i32_23
  let c1_i32_24 : BitVec 32 := 1#32
  let v52 : BitVec 32 := Scalar.subi v51 c1_i32_24
  let c5_i32_25 : BitVec 32 := 5#32
  let v53 : BitVec 32 := Scalar.shrsi v52 c5_i32_25
  let v54 : BitVec 32 := Scalar.select v49 v50 v53
  let v55 : BitVec 1 := Scalar.cmpi .sgt v46 v43
  let c32_i32_26 : BitVec 32 := 32#32
  let v56 : BitVec 32 := Scalar.addi v46 c32_i32_26
  let c1_i32_27 : BitVec 32 := 1#32
  let v57 : BitVec 32 := Scalar.subi v56 c1_i32_27
  let c5_i32_28 : BitVec 32 := 5#32
  let v58 : BitVec 32 := Scalar.shrsi v57 c5_i32_28
  let v59 : BitVec 32 := Scalar.select v55 v58 v54
  let v60 : BitVec 32 := Scalar.subi v59 v54
  let c1_i32_30 : BitVec 32 := 1#32
  let v62 : BitVec 32 := Scalar.divsi v60 c1_i32_30
  let v63 : BitVec 32 := Scalar.muli v62 c1_i32_30
  let v64 : BitVec 32 := Scalar.addi v54 v63
  let c1_i32_31 : BitVec 32 := 1#32
  ⟨v54, v64, c1_i32_31⟩

def k0_mult1 (v43 : BitVec 32) (v46 : BitVec 32) (v48 : BitVec 32) (k0_t2 : Fin (k0_t2_loop v43 v46 v48).trips) : BitVec 32 :=
  let v49 : BitVec 1 := Scalar.cmpi .eq v43 v48
  let c5_i32 : BitVec 32 := 5#32
  let v50 : BitVec 32 := Scalar.shrsi v43 c5_i32
  let c32_i32_23 : BitVec 32 := 32#32
  let v51 : BitVec 32 := Scalar.addi v43 c32_i32_23
  let c1_i32_24 : BitVec 32 := 1#32
  let v52 : BitVec 32 := Scalar.subi v51 c1_i32_24
  let c5_i32_25 : BitVec 32 := 5#32
  let v53 : BitVec 32 := Scalar.shrsi v52 c5_i32_25
  let v54 : BitVec 32 := Scalar.select v49 v50 v53
  let c1_i32_31 : BitVec 32 := 1#32
  let arg16 : BitVec 32 := Scf.iv v54 c1_i32_31 k0_t2
  let c32_i32_35 : BitVec 32 := 32#32
  let v75 : BitVec 32 := Scalar.muli arg16 c32_i32_35
  v75
def k0_mult2 (k0_t1 : Fin k0_t1_loop.trips) (v43 : BitVec 32) (v46 : BitVec 32) (v48 : BitVec 32) (k0_t2 : Fin (k0_t2_loop v43 v46 v48).trips) : BitVec 32 :=
  let c0_i32_11 : BitVec 32 := 0#32
  let c1_i32_13 : BitVec 32 := 1#32
  let arg14 : BitVec 32 := Scf.iv c0_i32_11 c1_i32_13 k0_t1
  let c40_i32 : BitVec 32 := 40#32
  let v69 : BitVec 32 := Scalar.muli arg14 c40_i32
  let v49 : BitVec 1 := Scalar.cmpi .eq v43 v48
  let c5_i32 : BitVec 32 := 5#32
  let v50 : BitVec 32 := Scalar.shrsi v43 c5_i32
  let c32_i32_23 : BitVec 32 := 32#32
  let v51 : BitVec 32 := Scalar.addi v43 c32_i32_23
  let c1_i32_24 : BitVec 32 := 1#32
  let v52 : BitVec 32 := Scalar.subi v51 c1_i32_24
  let c5_i32_25 : BitVec 32 := 5#32
  let v53 : BitVec 32 := Scalar.shrsi v52 c5_i32_25
  let v54 : BitVec 32 := Scalar.select v49 v50 v53
  let c1_i32_31 : BitVec 32 := 1#32
  let arg16 : BitVec 32 := Scf.iv v54 c1_i32_31 k0_t2
  let c1639_i32 : BitVec 32 := 1639#32
  let v70 : BitVec 32 := Scalar.muli arg16 c1639_i32
  let c16_i32_33 : BitVec 32 := 16#32
  let v71 : BitVec 32 := Scalar.shrsi v70 c16_i32_33
  let c40_i32_34 : BitVec 32 := 40#32
  let v72 : BitVec 32 := Scalar.muli v71 c40_i32_34
  let v73 : BitVec 32 := Scalar.subi arg16 v72
  let v74 : BitVec 32 := Scalar.addi v69 v73
  let c32_i32_36 : BitVec 32 := 32#32
  let v77 : BitVec 32 := Scalar.muli v74 c32_i32_36
  v77
def k0_off3 (k0_t1 : Fin k0_t1_loop.trips) (v43 : BitVec 32) (v46 : BitVec 32) (v48 : BitVec 32) (k0_t2 : Fin (k0_t2_loop v43 v46 v48).trips) : Fin 2 → Nat :=
  let c0_i32_11 : BitVec 32 := 0#32
  let c1_i32_13 : BitVec 32 := 1#32
  let arg14 : BitVec 32 := Scf.iv c0_i32_11 c1_i32_13 k0_t1
  let c40_i32 : BitVec 32 := 40#32
  let v69 : BitVec 32 := Scalar.muli arg14 c40_i32
  let v49 : BitVec 1 := Scalar.cmpi .eq v43 v48
  let c5_i32 : BitVec 32 := 5#32
  let v50 : BitVec 32 := Scalar.shrsi v43 c5_i32
  let c32_i32_23 : BitVec 32 := 32#32
  let v51 : BitVec 32 := Scalar.addi v43 c32_i32_23
  let c1_i32_24 : BitVec 32 := 1#32
  let v52 : BitVec 32 := Scalar.subi v51 c1_i32_24
  let c5_i32_25 : BitVec 32 := 5#32
  let v53 : BitVec 32 := Scalar.shrsi v52 c5_i32_25
  let v54 : BitVec 32 := Scalar.select v49 v50 v53
  let c1_i32_31 : BitVec 32 := 1#32
  let arg16 : BitVec 32 := Scf.iv v54 c1_i32_31 k0_t2
  let c1639_i32 : BitVec 32 := 1639#32
  let v70 : BitVec 32 := Scalar.muli arg16 c1639_i32
  let c16_i32_33 : BitVec 32 := 16#32
  let v71 : BitVec 32 := Scalar.shrsi v70 c16_i32_33
  let c40_i32_34 : BitVec 32 := 40#32
  let v72 : BitVec 32 := Scalar.muli v71 c40_i32_34
  let v73 : BitVec 32 := Scalar.subi arg16 v72
  let v74 : BitVec 32 := Scalar.addi v69 v73
  let c32_i32_36 : BitVec 32 := 32#32
  let v77 : BitVec 32 := Scalar.muli v74 c32_i32_36
  let v78 : BitVec 32 := v77
  let c0_i32_38 : BitVec 32 := 0#32
  ![v78.toNat, 0]
def k0_off4 (v43 : BitVec 32) (v46 : BitVec 32) (v48 : BitVec 32) (k0_t2 : Fin (k0_t2_loop v43 v46 v48).trips) : Fin 2 → Nat :=
  let v49 : BitVec 1 := Scalar.cmpi .eq v43 v48
  let c5_i32 : BitVec 32 := 5#32
  let v50 : BitVec 32 := Scalar.shrsi v43 c5_i32
  let c32_i32_23 : BitVec 32 := 32#32
  let v51 : BitVec 32 := Scalar.addi v43 c32_i32_23
  let c1_i32_24 : BitVec 32 := 1#32
  let v52 : BitVec 32 := Scalar.subi v51 c1_i32_24
  let c5_i32_25 : BitVec 32 := 5#32
  let v53 : BitVec 32 := Scalar.shrsi v52 c5_i32_25
  let v54 : BitVec 32 := Scalar.select v49 v50 v53
  let c1_i32_31 : BitVec 32 := 1#32
  let arg16 : BitVec 32 := Scf.iv v54 c1_i32_31 k0_t2
  let c32_i32_35 : BitVec 32 := 32#32
  let v75 : BitVec 32 := Scalar.muli arg16 c32_i32_35
  let v76 : BitVec 32 := v75
  let c0_i32_39 : BitVec 32 := 0#32
  ![v76.toNat, 0]
@[reducible] def k0_t3_loop (v43 : BitVec 32) (v46 : BitVec 32) (v48 : BitVec 32) : Scf.Loop 32 :=
  let v49 : BitVec 1 := Scalar.cmpi .eq v43 v48
  let c5_i32 : BitVec 32 := 5#32
  let v50 : BitVec 32 := Scalar.shrsi v43 c5_i32
  let c32_i32_23 : BitVec 32 := 32#32
  let v51 : BitVec 32 := Scalar.addi v43 c32_i32_23
  let c1_i32_24 : BitVec 32 := 1#32
  let v52 : BitVec 32 := Scalar.subi v51 c1_i32_24
  let c5_i32_25 : BitVec 32 := 5#32
  let v53 : BitVec 32 := Scalar.shrsi v52 c5_i32_25
  let v54 : BitVec 32 := Scalar.select v49 v50 v53
  let v55 : BitVec 1 := Scalar.cmpi .sgt v46 v43
  let c32_i32_26 : BitVec 32 := 32#32
  let v56 : BitVec 32 := Scalar.addi v46 c32_i32_26
  let c1_i32_27 : BitVec 32 := 1#32
  let v57 : BitVec 32 := Scalar.subi v56 c1_i32_27
  let c5_i32_28 : BitVec 32 := 5#32
  let v58 : BitVec 32 := Scalar.shrsi v57 c5_i32_28
  let v59 : BitVec 32 := Scalar.select v55 v58 v54
  let v60 : BitVec 32 := Scalar.subi v59 v54
  let c1_i32_30 : BitVec 32 := 1#32
  let v62 : BitVec 32 := Scalar.divsi v60 c1_i32_30
  let v63 : BitVec 32 := Scalar.muli v62 c1_i32_30
  let v64 : BitVec 32 := Scalar.addi v54 v63
  let v61 : BitVec 32 := Scalar.addi v54 v60
  let c1_i32_32 : BitVec 32 := 1#32
  ⟨v64, v61, c1_i32_32⟩
def k0_mult3 (v43 : BitVec 32) (v46 : BitVec 32) (v48 : BitVec 32) (k0_t3 : Fin (k0_t3_loop v43 v46 v48).trips) : BitVec 32 :=
  let v49 : BitVec 1 := Scalar.cmpi .eq v43 v48
  let c5_i32 : BitVec 32 := 5#32
  let v50 : BitVec 32 := Scalar.shrsi v43 c5_i32
  let c32_i32_23 : BitVec 32 := 32#32
  let v51 : BitVec 32 := Scalar.addi v43 c32_i32_23
  let c1_i32_24 : BitVec 32 := 1#32
  let v52 : BitVec 32 := Scalar.subi v51 c1_i32_24
  let c5_i32_25 : BitVec 32 := 5#32
  let v53 : BitVec 32 := Scalar.shrsi v52 c5_i32_25
  let v54 : BitVec 32 := Scalar.select v49 v50 v53
  let v55 : BitVec 1 := Scalar.cmpi .sgt v46 v43
  let c32_i32_26 : BitVec 32 := 32#32
  let v56 : BitVec 32 := Scalar.addi v46 c32_i32_26
  let c1_i32_27 : BitVec 32 := 1#32
  let v57 : BitVec 32 := Scalar.subi v56 c1_i32_27
  let c5_i32_28 : BitVec 32 := 5#32
  let v58 : BitVec 32 := Scalar.shrsi v57 c5_i32_28
  let v59 : BitVec 32 := Scalar.select v55 v58 v54
  let v60 : BitVec 32 := Scalar.subi v59 v54
  let c1_i32_30 : BitVec 32 := 1#32
  let v62 : BitVec 32 := Scalar.divsi v60 c1_i32_30
  let v63 : BitVec 32 := Scalar.muli v62 c1_i32_30
  let v64 : BitVec 32 := Scalar.addi v54 v63
  let c1_i32_32 : BitVec 32 := 1#32
  let arg16 : BitVec 32 := Scf.iv v64 c1_i32_32 k0_t3
  let c32_i32_35 : BitVec 32 := 32#32
  let v75 : BitVec 32 := Scalar.muli arg16 c32_i32_35
  v75
def k0_mult4 (k0_t1 : Fin k0_t1_loop.trips) (v43 : BitVec 32) (v46 : BitVec 32) (v48 : BitVec 32) (k0_t3 : Fin (k0_t3_loop v43 v46 v48).trips) : BitVec 32 :=
  let c0_i32_11 : BitVec 32 := 0#32
  let c1_i32_13 : BitVec 32 := 1#32
  let arg14 : BitVec 32 := Scf.iv c0_i32_11 c1_i32_13 k0_t1
  let c40_i32 : BitVec 32 := 40#32
  let v69 : BitVec 32 := Scalar.muli arg14 c40_i32
  let v49 : BitVec 1 := Scalar.cmpi .eq v43 v48
  let c5_i32 : BitVec 32 := 5#32
  let v50 : BitVec 32 := Scalar.shrsi v43 c5_i32
  let c32_i32_23 : BitVec 32 := 32#32
  let v51 : BitVec 32 := Scalar.addi v43 c32_i32_23
  let c1_i32_24 : BitVec 32 := 1#32
  let v52 : BitVec 32 := Scalar.subi v51 c1_i32_24
  let c5_i32_25 : BitVec 32 := 5#32
  let v53 : BitVec 32 := Scalar.shrsi v52 c5_i32_25
  let v54 : BitVec 32 := Scalar.select v49 v50 v53
  let v55 : BitVec 1 := Scalar.cmpi .sgt v46 v43
  let c32_i32_26 : BitVec 32 := 32#32
  let v56 : BitVec 32 := Scalar.addi v46 c32_i32_26
  let c1_i32_27 : BitVec 32 := 1#32
  let v57 : BitVec 32 := Scalar.subi v56 c1_i32_27
  let c5_i32_28 : BitVec 32 := 5#32
  let v58 : BitVec 32 := Scalar.shrsi v57 c5_i32_28
  let v59 : BitVec 32 := Scalar.select v55 v58 v54
  let v60 : BitVec 32 := Scalar.subi v59 v54
  let c1_i32_30 : BitVec 32 := 1#32
  let v62 : BitVec 32 := Scalar.divsi v60 c1_i32_30
  let v63 : BitVec 32 := Scalar.muli v62 c1_i32_30
  let v64 : BitVec 32 := Scalar.addi v54 v63
  let c1_i32_32 : BitVec 32 := 1#32
  let arg16 : BitVec 32 := Scf.iv v64 c1_i32_32 k0_t3
  let c1639_i32 : BitVec 32 := 1639#32
  let v70 : BitVec 32 := Scalar.muli arg16 c1639_i32
  let c16_i32_33 : BitVec 32 := 16#32
  let v71 : BitVec 32 := Scalar.shrsi v70 c16_i32_33
  let c40_i32_34 : BitVec 32 := 40#32
  let v72 : BitVec 32 := Scalar.muli v71 c40_i32_34
  let v73 : BitVec 32 := Scalar.subi arg16 v72
  let v74 : BitVec 32 := Scalar.addi v69 v73
  let c32_i32_36 : BitVec 32 := 32#32
  let v77 : BitVec 32 := Scalar.muli v74 c32_i32_36
  v77
def k0_off5 (k0_t1 : Fin k0_t1_loop.trips) (v43 : BitVec 32) (v46 : BitVec 32) (v48 : BitVec 32) (k0_t3 : Fin (k0_t3_loop v43 v46 v48).trips) : Fin 2 → Nat :=
  let c0_i32_11 : BitVec 32 := 0#32
  let c1_i32_13 : BitVec 32 := 1#32
  let arg14 : BitVec 32 := Scf.iv c0_i32_11 c1_i32_13 k0_t1
  let c40_i32 : BitVec 32 := 40#32
  let v69 : BitVec 32 := Scalar.muli arg14 c40_i32
  let v49 : BitVec 1 := Scalar.cmpi .eq v43 v48
  let c5_i32 : BitVec 32 := 5#32
  let v50 : BitVec 32 := Scalar.shrsi v43 c5_i32
  let c32_i32_23 : BitVec 32 := 32#32
  let v51 : BitVec 32 := Scalar.addi v43 c32_i32_23
  let c1_i32_24 : BitVec 32 := 1#32
  let v52 : BitVec 32 := Scalar.subi v51 c1_i32_24
  let c5_i32_25 : BitVec 32 := 5#32
  let v53 : BitVec 32 := Scalar.shrsi v52 c5_i32_25
  let v54 : BitVec 32 := Scalar.select v49 v50 v53
  let v55 : BitVec 1 := Scalar.cmpi .sgt v46 v43
  let c32_i32_26 : BitVec 32 := 32#32
  let v56 : BitVec 32 := Scalar.addi v46 c32_i32_26
  let c1_i32_27 : BitVec 32 := 1#32
  let v57 : BitVec 32 := Scalar.subi v56 c1_i32_27
  let c5_i32_28 : BitVec 32 := 5#32
  let v58 : BitVec 32 := Scalar.shrsi v57 c5_i32_28
  let v59 : BitVec 32 := Scalar.select v55 v58 v54
  let v60 : BitVec 32 := Scalar.subi v59 v54
  let c1_i32_30 : BitVec 32 := 1#32
  let v62 : BitVec 32 := Scalar.divsi v60 c1_i32_30
  let v63 : BitVec 32 := Scalar.muli v62 c1_i32_30
  let v64 : BitVec 32 := Scalar.addi v54 v63
  let c1_i32_32 : BitVec 32 := 1#32
  let arg16 : BitVec 32 := Scf.iv v64 c1_i32_32 k0_t3
  let c1639_i32 : BitVec 32 := 1639#32
  let v70 : BitVec 32 := Scalar.muli arg16 c1639_i32
  let c16_i32_33 : BitVec 32 := 16#32
  let v71 : BitVec 32 := Scalar.shrsi v70 c16_i32_33
  let c40_i32_34 : BitVec 32 := 40#32
  let v72 : BitVec 32 := Scalar.muli v71 c40_i32_34
  let v73 : BitVec 32 := Scalar.subi arg16 v72
  let v74 : BitVec 32 := Scalar.addi v69 v73
  let c32_i32_36 : BitVec 32 := 32#32
  let v77 : BitVec 32 := Scalar.muli v74 c32_i32_36
  let v78 : BitVec 32 := v77
  let c0_i32_38 : BitVec 32 := 0#32
  ![v78.toNat, 0]
def k0_off6 (v43 : BitVec 32) (v46 : BitVec 32) (v48 : BitVec 32) (k0_t3 : Fin (k0_t3_loop v43 v46 v48).trips) : Fin 2 → Nat :=
  let v49 : BitVec 1 := Scalar.cmpi .eq v43 v48
  let c5_i32 : BitVec 32 := 5#32
  let v50 : BitVec 32 := Scalar.shrsi v43 c5_i32
  let c32_i32_23 : BitVec 32 := 32#32
  let v51 : BitVec 32 := Scalar.addi v43 c32_i32_23
  let c1_i32_24 : BitVec 32 := 1#32
  let v52 : BitVec 32 := Scalar.subi v51 c1_i32_24
  let c5_i32_25 : BitVec 32 := 5#32
  let v53 : BitVec 32 := Scalar.shrsi v52 c5_i32_25
  let v54 : BitVec 32 := Scalar.select v49 v50 v53
  let v55 : BitVec 1 := Scalar.cmpi .sgt v46 v43
  let c32_i32_26 : BitVec 32 := 32#32
  let v56 : BitVec 32 := Scalar.addi v46 c32_i32_26
  let c1_i32_27 : BitVec 32 := 1#32
  let v57 : BitVec 32 := Scalar.subi v56 c1_i32_27
  let c5_i32_28 : BitVec 32 := 5#32
  let v58 : BitVec 32 := Scalar.shrsi v57 c5_i32_28
  let v59 : BitVec 32 := Scalar.select v55 v58 v54
  let v60 : BitVec 32 := Scalar.subi v59 v54
  let c1_i32_30 : BitVec 32 := 1#32
  let v62 : BitVec 32 := Scalar.divsi v60 c1_i32_30
  let v63 : BitVec 32 := Scalar.muli v62 c1_i32_30
  let v64 : BitVec 32 := Scalar.addi v54 v63
  let c1_i32_32 : BitVec 32 := 1#32
  let arg16 : BitVec 32 := Scf.iv v64 c1_i32_32 k0_t3
  let c32_i32_35 : BitVec 32 := 32#32
  let v75 : BitVec 32 := Scalar.muli arg16 c32_i32_35
  let v76 : BitVec 32 := v75
  let c0_i32_39 : BitVec 32 := 0#32
  ![v76.toNat, 0]

def k0_chk1 (i : grid0.Coords) (k0_t1 : Fin k0_t1_loop.trips) (v43 : BitVec 32) (v46 : BitVec 32) (v48 : BitVec 32) : Prop :=
  (∀ (k0_h1 : k0_cond1 i = 1#1), (k0_t2_loop v43 v46 v48).OK) ∧
  (∀ k0_t2 : Fin (k0_t2_loop v43 v46 v48).trips, ∀ (k0_h1 : k0_cond1 i = 1#1), 32 ∣ (k0_mult1 v43 v46 v48 k0_t2).toNat) ∧
  (∀ k0_t2 : Fin (k0_t2_loop v43 v46 v48).trips, ∀ (k0_h1 : k0_cond1 i = 1#1), 32 ∣ (k0_mult2 k0_t1 v43 v46 v48 k0_t2).toNat) ∧
  (∀ k0_t2 : Fin (k0_t2_loop v43 v46 v48).trips, ∀ (k0_h1 : k0_cond1 i = 1#1), ∀ a, (k0_off3 k0_t1 v43 v46 v48 k0_t2) a + S32x2048.size a ≤ S10240x2048.size a) ∧
  (∀ k0_t2 : Fin (k0_t2_loop v43 v46 v48).trips, ∀ (k0_h1 : k0_cond1 i = 1#1), ∀ a, (k0_off4 v43 v46 v48 k0_t2) a + S32x2048.size a ≤ S49152x2048.size a) ∧
  (∀ k0_t2 : Fin (k0_t2_loop v43 v46 v48).trips, ∀ (k0_h1 : k0_cond1 i = 1#1), ∀ (hinb : ∀ a, (k0_off4 v43 v46 v48 k0_t2) a + S32x2048.size a ≤ S49152x2048.size a), (Rect.unit (s := S49152x2048) (k0_off4 v43 v46 v48 k0_t2) S32x2048.size hinb).WholeWords (EltTy.packing .fp8e4m3)) ∧
  (∀ k0_t2 : Fin (k0_t2_loop v43 v46 v48).trips, ∀ (k0_h1 : k0_cond1 i = 1#1), ∀ (hinb : ∀ a, (k0_off3 k0_t1 v43 v46 v48 k0_t2) a + S32x2048.size a ≤ S10240x2048.size a), (Rect.unit (s := S10240x2048) (k0_off3 k0_t1 v43 v46 v48 k0_t2) S32x2048.size hinb).WholeWords (EltTy.packing .fp8e4m3)) ∧
  (∀ (k0_h1 : k0_cond1 i = 1#1), (k0_t3_loop v43 v46 v48).OK) ∧
  (∀ k0_t3 : Fin (k0_t3_loop v43 v46 v48).trips, ∀ (k0_h1 : k0_cond1 i = 1#1), 32 ∣ (k0_mult3 v43 v46 v48 k0_t3).toNat) ∧
  (∀ k0_t3 : Fin (k0_t3_loop v43 v46 v48).trips, ∀ (k0_h1 : k0_cond1 i = 1#1), 32 ∣ (k0_mult4 k0_t1 v43 v46 v48 k0_t3).toNat) ∧
  (∀ k0_t3 : Fin (k0_t3_loop v43 v46 v48).trips, ∀ (k0_h1 : k0_cond1 i = 1#1), ∀ a, (k0_off5 k0_t1 v43 v46 v48 k0_t3) a + S32x2048.size a ≤ S10240x2048.size a) ∧
  (∀ k0_t3 : Fin (k0_t3_loop v43 v46 v48).trips, ∀ (k0_h1 : k0_cond1 i = 1#1), ∀ a, (k0_off6 v43 v46 v48 k0_t3) a + S32x2048.size a ≤ S49152x2048.size a) ∧
  (∀ k0_t3 : Fin (k0_t3_loop v43 v46 v48).trips, ∀ (k0_h1 : k0_cond1 i = 1#1), ∀ (hinb : ∀ a, (k0_off6 v43 v46 v48 k0_t3) a + S32x2048.size a ≤ S49152x2048.size a), (Rect.unit (s := S49152x2048) (k0_off6 v43 v46 v48 k0_t3) S32x2048.size hinb).WholeWords (EltTy.packing .fp8e4m3)) ∧
  (∀ k0_t3 : Fin (k0_t3_loop v43 v46 v48).trips, ∀ (k0_h1 : k0_cond1 i = 1#1), ∀ (hinb : ∀ a, (k0_off5 k0_t1 v43 v46 v48 k0_t3) a + S32x2048.size a ≤ S10240x2048.size a), (Rect.unit (s := S10240x2048) (k0_off5 k0_t1 v43 v46 v48 k0_t3) S32x2048.size hinb).WholeWords (EltTy.packing .fp8e4m3))
theorem k0_t2_ok : ∀ (i : grid0.Coords) (k0_t1 : Fin k0_t1_loop.trips) (v43 : BitVec 32) (v46 : BitVec 32) (v48 : BitVec 32) (k0_hw1 : k0_chk1 i k0_t1 v43 v46 v48), ∀ (k0_h1 : k0_cond1 i = 1#1), (k0_t2_loop v43 v46 v48).OK := fun i k0_t1 v43 v46 v48 k0_hw1 k0_h1 => k0_hw1.1 k0_h1
theorem k0_mult1_dvd : ∀ (i : grid0.Coords) (k0_t1 : Fin k0_t1_loop.trips) (v43 : BitVec 32) (v46 : BitVec 32) (v48 : BitVec 32) (k0_hw1 : k0_chk1 i k0_t1 v43 v46 v48) (k0_t2 : Fin (k0_t2_loop v43 v46 v48).trips), ∀ (k0_h1 : k0_cond1 i = 1#1), 32 ∣ (k0_mult1 v43 v46 v48 k0_t2).toNat := fun i k0_t1 v43 v46 v48 k0_hw1 k0_t2 k0_h1 => k0_hw1.2.1 k0_t2 k0_h1
theorem k0_mult2_dvd : ∀ (i : grid0.Coords) (k0_t1 : Fin k0_t1_loop.trips) (v43 : BitVec 32) (v46 : BitVec 32) (v48 : BitVec 32) (k0_hw1 : k0_chk1 i k0_t1 v43 v46 v48) (k0_t2 : Fin (k0_t2_loop v43 v46 v48).trips), ∀ (k0_h1 : k0_cond1 i = 1#1), 32 ∣ (k0_mult2 k0_t1 v43 v46 v48 k0_t2).toNat := fun i k0_t1 v43 v46 v48 k0_hw1 k0_t2 k0_h1 => k0_hw1.2.2.1 k0_t2 k0_h1
theorem k0_off3_inb : ∀ (i : grid0.Coords) (k0_t1 : Fin k0_t1_loop.trips) (v43 : BitVec 32) (v46 : BitVec 32) (v48 : BitVec 32) (k0_hw1 : k0_chk1 i k0_t1 v43 v46 v48) (k0_t2 : Fin (k0_t2_loop v43 v46 v48).trips), ∀ (k0_h1 : k0_cond1 i = 1#1), ∀ a, (k0_off3 k0_t1 v43 v46 v48 k0_t2) a + S32x2048.size a ≤ S10240x2048.size a := fun i k0_t1 v43 v46 v48 k0_hw1 k0_t2 k0_h1 => k0_hw1.2.2.2.1 k0_t2 k0_h1
theorem k0_off4_inb : ∀ (i : grid0.Coords) (k0_t1 : Fin k0_t1_loop.trips) (v43 : BitVec 32) (v46 : BitVec 32) (v48 : BitVec 32) (k0_hw1 : k0_chk1 i k0_t1 v43 v46 v48) (k0_t2 : Fin (k0_t2_loop v43 v46 v48).trips), ∀ (k0_h1 : k0_cond1 i = 1#1), ∀ a, (k0_off4 v43 v46 v48 k0_t2) a + S32x2048.size a ≤ S49152x2048.size a := fun i k0_t1 v43 v46 v48 k0_hw1 k0_t2 k0_h1 => k0_hw1.2.2.2.2.1 k0_t2 k0_h1
theorem k0_off4_wordsfp8e4m3 : ∀ (i : grid0.Coords) (k0_t1 : Fin k0_t1_loop.trips) (v43 : BitVec 32) (v46 : BitVec 32) (v48 : BitVec 32) (k0_hw1 : k0_chk1 i k0_t1 v43 v46 v48) (k0_t2 : Fin (k0_t2_loop v43 v46 v48).trips), ∀ (k0_h1 : k0_cond1 i = 1#1), (Rect.unit (s := S49152x2048) (k0_off4 v43 v46 v48 k0_t2) S32x2048.size (k0_off4_inb i k0_t1 v43 v46 v48 k0_hw1 k0_t2 k0_h1)).WholeWords (EltTy.packing .fp8e4m3) := fun i k0_t1 v43 v46 v48 k0_hw1 k0_t2 k0_h1 => k0_hw1.2.2.2.2.2.1 k0_t2 k0_h1 (k0_off4_inb i k0_t1 v43 v46 v48 k0_hw1 k0_t2 k0_h1)
theorem k0_off3_wordsfp8e4m3 : ∀ (i : grid0.Coords) (k0_t1 : Fin k0_t1_loop.trips) (v43 : BitVec 32) (v46 : BitVec 32) (v48 : BitVec 32) (k0_hw1 : k0_chk1 i k0_t1 v43 v46 v48) (k0_t2 : Fin (k0_t2_loop v43 v46 v48).trips), ∀ (k0_h1 : k0_cond1 i = 1#1), (Rect.unit (s := S10240x2048) (k0_off3 k0_t1 v43 v46 v48 k0_t2) S32x2048.size (k0_off3_inb i k0_t1 v43 v46 v48 k0_hw1 k0_t2 k0_h1)).WholeWords (EltTy.packing .fp8e4m3) := fun i k0_t1 v43 v46 v48 k0_hw1 k0_t2 k0_h1 => k0_hw1.2.2.2.2.2.2.1 k0_t2 k0_h1 (k0_off3_inb i k0_t1 v43 v46 v48 k0_hw1 k0_t2 k0_h1)
theorem k0_t3_ok : ∀ (i : grid0.Coords) (k0_t1 : Fin k0_t1_loop.trips) (v43 : BitVec 32) (v46 : BitVec 32) (v48 : BitVec 32) (k0_hw1 : k0_chk1 i k0_t1 v43 v46 v48), ∀ (k0_h1 : k0_cond1 i = 1#1), (k0_t3_loop v43 v46 v48).OK := fun i k0_t1 v43 v46 v48 k0_hw1 k0_h1 => k0_hw1.2.2.2.2.2.2.2.1 k0_h1
theorem k0_mult3_dvd : ∀ (i : grid0.Coords) (k0_t1 : Fin k0_t1_loop.trips) (v43 : BitVec 32) (v46 : BitVec 32) (v48 : BitVec 32) (k0_hw1 : k0_chk1 i k0_t1 v43 v46 v48) (k0_t3 : Fin (k0_t3_loop v43 v46 v48).trips), ∀ (k0_h1 : k0_cond1 i = 1#1), 32 ∣ (k0_mult3 v43 v46 v48 k0_t3).toNat := fun i k0_t1 v43 v46 v48 k0_hw1 k0_t3 k0_h1 => k0_hw1.2.2.2.2.2.2.2.2.1 k0_t3 k0_h1
theorem k0_mult4_dvd : ∀ (i : grid0.Coords) (k0_t1 : Fin k0_t1_loop.trips) (v43 : BitVec 32) (v46 : BitVec 32) (v48 : BitVec 32) (k0_hw1 : k0_chk1 i k0_t1 v43 v46 v48) (k0_t3 : Fin (k0_t3_loop v43 v46 v48).trips), ∀ (k0_h1 : k0_cond1 i = 1#1), 32 ∣ (k0_mult4 k0_t1 v43 v46 v48 k0_t3).toNat := fun i k0_t1 v43 v46 v48 k0_hw1 k0_t3 k0_h1 => k0_hw1.2.2.2.2.2.2.2.2.2.1 k0_t3 k0_h1
theorem k0_off5_inb : ∀ (i : grid0.Coords) (k0_t1 : Fin k0_t1_loop.trips) (v43 : BitVec 32) (v46 : BitVec 32) (v48 : BitVec 32) (k0_hw1 : k0_chk1 i k0_t1 v43 v46 v48) (k0_t3 : Fin (k0_t3_loop v43 v46 v48).trips), ∀ (k0_h1 : k0_cond1 i = 1#1), ∀ a, (k0_off5 k0_t1 v43 v46 v48 k0_t3) a + S32x2048.size a ≤ S10240x2048.size a := fun i k0_t1 v43 v46 v48 k0_hw1 k0_t3 k0_h1 => k0_hw1.2.2.2.2.2.2.2.2.2.2.1 k0_t3 k0_h1
theorem k0_off6_inb : ∀ (i : grid0.Coords) (k0_t1 : Fin k0_t1_loop.trips) (v43 : BitVec 32) (v46 : BitVec 32) (v48 : BitVec 32) (k0_hw1 : k0_chk1 i k0_t1 v43 v46 v48) (k0_t3 : Fin (k0_t3_loop v43 v46 v48).trips), ∀ (k0_h1 : k0_cond1 i = 1#1), ∀ a, (k0_off6 v43 v46 v48 k0_t3) a + S32x2048.size a ≤ S49152x2048.size a := fun i k0_t1 v43 v46 v48 k0_hw1 k0_t3 k0_h1 => k0_hw1.2.2.2.2.2.2.2.2.2.2.2.1 k0_t3 k0_h1
theorem k0_off6_wordsfp8e4m3 : ∀ (i : grid0.Coords) (k0_t1 : Fin k0_t1_loop.trips) (v43 : BitVec 32) (v46 : BitVec 32) (v48 : BitVec 32) (k0_hw1 : k0_chk1 i k0_t1 v43 v46 v48) (k0_t3 : Fin (k0_t3_loop v43 v46 v48).trips), ∀ (k0_h1 : k0_cond1 i = 1#1), (Rect.unit (s := S49152x2048) (k0_off6 v43 v46 v48 k0_t3) S32x2048.size (k0_off6_inb i k0_t1 v43 v46 v48 k0_hw1 k0_t3 k0_h1)).WholeWords (EltTy.packing .fp8e4m3) := fun i k0_t1 v43 v46 v48 k0_hw1 k0_t3 k0_h1 => k0_hw1.2.2.2.2.2.2.2.2.2.2.2.2.1 k0_t3 k0_h1 (k0_off6_inb i k0_t1 v43 v46 v48 k0_hw1 k0_t3 k0_h1)
theorem k0_off5_wordsfp8e4m3 : ∀ (i : grid0.Coords) (k0_t1 : Fin k0_t1_loop.trips) (v43 : BitVec 32) (v46 : BitVec 32) (v48 : BitVec 32) (k0_hw1 : k0_chk1 i k0_t1 v43 v46 v48) (k0_t3 : Fin (k0_t3_loop v43 v46 v48).trips), ∀ (k0_h1 : k0_cond1 i = 1#1), (Rect.unit (s := S10240x2048) (k0_off5 k0_t1 v43 v46 v48 k0_t3) S32x2048.size (k0_off5_inb i k0_t1 v43 v46 v48 k0_hw1 k0_t3 k0_h1)).WholeWords (EltTy.packing .fp8e4m3) := fun i k0_t1 v43 v46 v48 k0_hw1 k0_t3 k0_h1 => k0_hw1.2.2.2.2.2.2.2.2.2.2.2.2.2 k0_t3 k0_h1 (k0_off5_inb i k0_t1 v43 v46 v48 k0_hw1 k0_t3 k0_h1)

@[reducible] def k0_t4_loop : Scf.Loop 32 :=
  let c0_i32_15 : BitVec 32 := 0#32
  let c384_i32 : BitVec 32 := 384#32
  let v20 : BitVec 32 := Scalar.addi c0_i32_15 c384_i32
  let c1_i32_16 : BitVec 32 := 1#32
  ⟨c0_i32_15, v20, c1_i32_16⟩
def k0_mult5 (k0_t4 : Fin k0_t4_loop.trips) : BitVec 32 :=
  let c0_i32_15 : BitVec 32 := 0#32
  let c1_i32_16 : BitVec 32 := 1#32
  let arg14 : BitVec 32 := Scf.iv c0_i32_15 c1_i32_16 k0_t4
  let c128_i32 : BitVec 32 := 128#32
  let v42 : BitVec 32 := Scalar.muli arg14 c128_i32
  v42
def k0_off7 (k0_t4 : Fin k0_t4_loop.trips) : Fin 2 → Nat :=
  let c0_21 : Index := 0#32
  let c0_i32_15 : BitVec 32 := 0#32
  let c1_i32_16 : BitVec 32 := 1#32
  let arg14 : BitVec 32 := Scf.iv c0_i32_15 c1_i32_16 k0_t4
  let c128_i32 : BitVec 32 := 128#32
  let v42 : BitVec 32 := Scalar.muli arg14 c128_i32
  let v43 : BitVec 32 := v42
  let v44 : Index := Scalar.indexCast v43
  ![0, v44.toNat]
def k0_off8 (k0_t4 : Fin k0_t4_loop.trips) : Fin 2 → Nat :=
  let c0_i32_15 : BitVec 32 := 0#32
  let c1_i32_16 : BitVec 32 := 1#32
  let arg14 : BitVec 32 := Scf.iv c0_i32_15 c1_i32_16 k0_t4
  let c4_i32_22 : BitVec 32 := 4#32
  let v48 : BitVec 32 := Scalar.muli arg14 c4_i32_22
  let v49 : Index := Scalar.indexCast v48
  let c0_23 : Index := 0#32
  ![v49.toNat, 0]
def k0_cond2 (i : grid0.Coords) : BitVec 1 :=
  let arg0 : BitVec 32 := BitVec.ofNat 32 (i 0).val
  let c1_i32 : BitVec 32 := 1#32
  let v3 : BitVec 32 := Scalar.addi arg0 c1_i32
  let c48_i32 : BitVec 32 := 48#32
  let v4 : BitVec 1 := Scalar.cmpi .slt v3 c48_i32
  let v5 : BitVec 32 := Scalar.extui v4
  let c0_i32_1 : BitVec 32 := 0#32
  let v6 : BitVec 1 := Scalar.cmpi .ne v5 c0_i32_1
  v6

@[reducible] def k0_t5_loop : Scf.Loop 32 :=
  let c0_i32_13 : BitVec 32 := 0#32
  let c8_i32_14 : BitVec 32 := 8#32
  let v19 : BitVec 32 := Scalar.addi c0_i32_13 c8_i32_14
  let c1_i32_15 : BitVec 32 := 1#32
  ⟨c0_i32_13, v19, c1_i32_15⟩
def k0_off9 (i : grid0.Coords) (k0_t5 : Fin k0_t5_loop.trips) : Fin 2 → Nat :=
  let arg0 : BitVec 32 := BitVec.ofNat 32 (i 0).val
  let c1_i32_10 : BitVec 32 := 1#32
  let v17 : BitVec 32 := Scalar.addi arg0 c1_i32_10
  let c4_i32 : BitVec 32 := 4#32
  let v23 : BitVec 32 := Scalar.muli v17 c4_i32
  let v24 : Index := Scalar.indexCast v23
  let c0_i32_13 : BitVec 32 := 0#32
  let c1_i32_15 : BitVec 32 := 1#32
  let arg14 : BitVec 32 := Scf.iv c0_i32_13 c1_i32_15 k0_t5
  let v25 : Index := Scalar.indexCast arg14
  ![v24.toNat, v25.toNat]
def k0_off10 (i : grid0.Coords) (k0_t5 : Fin k0_t5_loop.trips) : Fin 2 → Nat :=
  let arg0 : BitVec 32 := BitVec.ofNat 32 (i 0).val
  let c1_i32_10 : BitVec 32 := 1#32
  let v17 : BitVec 32 := Scalar.addi arg0 c1_i32_10
  let c4_i32_17 : BitVec 32 := 4#32
  let v27 : BitVec 32 := Scalar.muli v17 c4_i32_17
  let c4_i32_18 : BitVec 32 := 4#32
  let v28 : BitVec 32 := Scalar.addi v27 c4_i32_18
  let c1_i32_19 : BitVec 32 := 1#32
  let v29 : BitVec 32 := Scalar.subi v28 c1_i32_19
  let v31 : Index := Scalar.indexCast v29
  let c16_i32 : BitVec 32 := 16#32
  let c0_i32_13 : BitVec 32 := 0#32
  let c1_i32_15 : BitVec 32 := 1#32
  let arg14 : BitVec 32 := Scf.iv c0_i32_13 c1_i32_15 k0_t5
  let v30 : BitVec 32 := Scalar.addi c16_i32 arg14
  let v32 : Index := Scalar.indexCast v30
  ![v31.toNat, v32.toNat]
def k0_off11 (k0_t5 : Fin k0_t5_loop.trips) : Fin 2 → Nat :=
  let c0 : Index := 0#32
  let c0_i32_13 : BitVec 32 := 0#32
  let c1_i32_15 : BitVec 32 := 1#32
  let arg14 : BitVec 32 := Scf.iv c0_i32_13 c1_i32_15 k0_t5
  let v34 : Index := Scalar.indexCast arg14
  ![0, v34.toNat]
@[reducible] def k0_t6_loop (v26 : BitVec 32) (v33 : BitVec 32) (v35 : BitVec 32) : Scf.Loop 32 :=
  let v36 : BitVec 1 := Scalar.cmpi .eq v26 v35
  let c5_i32 : BitVec 32 := 5#32
  let v37 : BitVec 32 := Scalar.shrsi v26 c5_i32
  let c32_i32_20 : BitVec 32 := 32#32
  let v38 : BitVec 32 := Scalar.addi v26 c32_i32_20
  let c1_i32_21 : BitVec 32 := 1#32
  let v39 : BitVec 32 := Scalar.subi v38 c1_i32_21
  let c5_i32_22 : BitVec 32 := 5#32
  let v40 : BitVec 32 := Scalar.shrsi v39 c5_i32_22
  let v41 : BitVec 32 := Scalar.select v36 v37 v40
  let v42 : BitVec 1 := Scalar.cmpi .sgt v33 v26
  let c32_i32_23 : BitVec 32 := 32#32
  let v43 : BitVec 32 := Scalar.addi v33 c32_i32_23
  let c1_i32_24 : BitVec 32 := 1#32
  let v44 : BitVec 32 := Scalar.subi v43 c1_i32_24
  let c5_i32_25 : BitVec 32 := 5#32
  let v45 : BitVec 32 := Scalar.shrsi v44 c5_i32_25
  let v46 : BitVec 32 := Scalar.select v42 v45 v41
  let v47 : BitVec 32 := Scalar.subi v46 v41
  let c1_i32_27 : BitVec 32 := 1#32
  let v49 : BitVec 32 := Scalar.divsi v47 c1_i32_27
  let v50 : BitVec 32 := Scalar.muli v49 c1_i32_27
  let v51 : BitVec 32 := Scalar.addi v41 v50
  let c1_i32_28 : BitVec 32 := 1#32
  ⟨v41, v51, c1_i32_28⟩

def k0_mult6 (v26 : BitVec 32) (v33 : BitVec 32) (v35 : BitVec 32) (k0_t6 : Fin (k0_t6_loop v26 v33 v35).trips) : BitVec 32 :=
  let v36 : BitVec 1 := Scalar.cmpi .eq v26 v35
  let c5_i32 : BitVec 32 := 5#32
  let v37 : BitVec 32 := Scalar.shrsi v26 c5_i32
  let c32_i32_20 : BitVec 32 := 32#32
  let v38 : BitVec 32 := Scalar.addi v26 c32_i32_20
  let c1_i32_21 : BitVec 32 := 1#32
  let v39 : BitVec 32 := Scalar.subi v38 c1_i32_21
  let c5_i32_22 : BitVec 32 := 5#32
  let v40 : BitVec 32 := Scalar.shrsi v39 c5_i32_22
  let v41 : BitVec 32 := Scalar.select v36 v37 v40
  let c1_i32_28 : BitVec 32 := 1#32
  let arg16 : BitVec 32 := Scf.iv v41 c1_i32_28 k0_t6
  let c32_i32_32 : BitVec 32 := 32#32
  let v62 : BitVec 32 := Scalar.muli arg16 c32_i32_32
  v62
def k0_mult7 (k0_t5 : Fin k0_t5_loop.trips) (v26 : BitVec 32) (v33 : BitVec 32) (v35 : BitVec 32) (k0_t6 : Fin (k0_t6_loop v26 v33 v35).trips) : BitVec 32 :=
  let c0_i32_13 : BitVec 32 := 0#32
  let c1_i32_15 : BitVec 32 := 1#32
  let arg14 : BitVec 32 := Scf.iv c0_i32_13 c1_i32_15 k0_t5
  let c40_i32 : BitVec 32 := 40#32
  let v56 : BitVec 32 := Scalar.muli arg14 c40_i32
  let v36 : BitVec 1 := Scalar.cmpi .eq v26 v35
  let c5_i32 : BitVec 32 := 5#32
  let v37 : BitVec 32 := Scalar.shrsi v26 c5_i32
  let c32_i32_20 : BitVec 32 := 32#32
  let v38 : BitVec 32 := Scalar.addi v26 c32_i32_20
  let c1_i32_21 : BitVec 32 := 1#32
  let v39 : BitVec 32 := Scalar.subi v38 c1_i32_21
  let c5_i32_22 : BitVec 32 := 5#32
  let v40 : BitVec 32 := Scalar.shrsi v39 c5_i32_22
  let v41 : BitVec 32 := Scalar.select v36 v37 v40
  let c1_i32_28 : BitVec 32 := 1#32
  let arg16 : BitVec 32 := Scf.iv v41 c1_i32_28 k0_t6
  let c1639_i32 : BitVec 32 := 1639#32
  let v57 : BitVec 32 := Scalar.muli arg16 c1639_i32
  let c16_i32_30 : BitVec 32 := 16#32
  let v58 : BitVec 32 := Scalar.shrsi v57 c16_i32_30
  let c40_i32_31 : BitVec 32 := 40#32
  let v59 : BitVec 32 := Scalar.muli v58 c40_i32_31
  let v60 : BitVec 32 := Scalar.subi arg16 v59
  let v61 : BitVec 32 := Scalar.addi v56 v60
  let c32_i32_33 : BitVec 32 := 32#32
  let v64 : BitVec 32 := Scalar.muli v61 c32_i32_33
  v64
def k0_off12 (i : grid0.Coords) : Fin 1 → Nat :=
  let arg0 : BitVec 32 := BitVec.ofNat 32 (i 0).val
  let c1_i32_10 : BitVec 32 := 1#32
  let v17 : BitVec 32 := Scalar.addi arg0 c1_i32_10
  let c1_i32_11 : BitVec 32 := 1#32
  let v18 : BitVec 32 := Scalar.andi v17 c1_i32_11
  ![v18.toNat]
def k0_off13 (k0_t5 : Fin k0_t5_loop.trips) (v26 : BitVec 32) (v33 : BitVec 32) (v35 : BitVec 32) (k0_t6 : Fin (k0_t6_loop v26 v33 v35).trips) : Fin 2 → Nat :=
  let c0_i32_13 : BitVec 32 := 0#32
  let c1_i32_15 : BitVec 32 := 1#32
  let arg14 : BitVec 32 := Scf.iv c0_i32_13 c1_i32_15 k0_t5
  let c40_i32 : BitVec 32 := 40#32
  let v56 : BitVec 32 := Scalar.muli arg14 c40_i32
  let v36 : BitVec 1 := Scalar.cmpi .eq v26 v35
  let c5_i32 : BitVec 32 := 5#32
  let v37 : BitVec 32 := Scalar.shrsi v26 c5_i32
  let c32_i32_20 : BitVec 32 := 32#32
  let v38 : BitVec 32 := Scalar.addi v26 c32_i32_20
  let c1_i32_21 : BitVec 32 := 1#32
  let v39 : BitVec 32 := Scalar.subi v38 c1_i32_21
  let c5_i32_22 : BitVec 32 := 5#32
  let v40 : BitVec 32 := Scalar.shrsi v39 c5_i32_22
  let v41 : BitVec 32 := Scalar.select v36 v37 v40
  let c1_i32_28 : BitVec 32 := 1#32
  let arg16 : BitVec 32 := Scf.iv v41 c1_i32_28 k0_t6
  let c1639_i32 : BitVec 32 := 1639#32
  let v57 : BitVec 32 := Scalar.muli arg16 c1639_i32
  let c16_i32_30 : BitVec 32 := 16#32
  let v58 : BitVec 32 := Scalar.shrsi v57 c16_i32_30
  let c40_i32_31 : BitVec 32 := 40#32
  let v59 : BitVec 32 := Scalar.muli v58 c40_i32_31
  let v60 : BitVec 32 := Scalar.subi arg16 v59
  let v61 : BitVec 32 := Scalar.addi v56 v60
  let c32_i32_33 : BitVec 32 := 32#32
  let v64 : BitVec 32 := Scalar.muli v61 c32_i32_33
  let v65 : BitVec 32 := v64
  let c0_i32_34 : BitVec 32 := 0#32
  ![v65.toNat, 0]
def k0_off14 (v26 : BitVec 32) (v33 : BitVec 32) (v35 : BitVec 32) (k0_t6 : Fin (k0_t6_loop v26 v33 v35).trips) : Fin 2 → Nat :=
  let v36 : BitVec 1 := Scalar.cmpi .eq v26 v35
  let c5_i32 : BitVec 32 := 5#32
  let v37 : BitVec 32 := Scalar.shrsi v26 c5_i32
  let c32_i32_20 : BitVec 32 := 32#32
  let v38 : BitVec 32 := Scalar.addi v26 c32_i32_20
  let c1_i32_21 : BitVec 32 := 1#32
  let v39 : BitVec 32 := Scalar.subi v38 c1_i32_21
  let c5_i32_22 : BitVec 32 := 5#32
  let v40 : BitVec 32 := Scalar.shrsi v39 c5_i32_22
  let v41 : BitVec 32 := Scalar.select v36 v37 v40
  let c1_i32_28 : BitVec 32 := 1#32
  let arg16 : BitVec 32 := Scf.iv v41 c1_i32_28 k0_t6
  let c32_i32_32 : BitVec 32 := 32#32
  let v62 : BitVec 32 := Scalar.muli arg16 c32_i32_32
  let v63 : BitVec 32 := v62
  let c0_i32_35 : BitVec 32 := 0#32
  ![v63.toNat, 0]
@[reducible] def k0_t7_loop (v26 : BitVec 32) (v33 : BitVec 32) (v35 : BitVec 32) : Scf.Loop 32 :=
  let v36 : BitVec 1 := Scalar.cmpi .eq v26 v35
  let c5_i32 : BitVec 32 := 5#32
  let v37 : BitVec 32 := Scalar.shrsi v26 c5_i32
  let c32_i32_20 : BitVec 32 := 32#32
  let v38 : BitVec 32 := Scalar.addi v26 c32_i32_20
  let c1_i32_21 : BitVec 32 := 1#32
  let v39 : BitVec 32 := Scalar.subi v38 c1_i32_21
  let c5_i32_22 : BitVec 32 := 5#32
  let v40 : BitVec 32 := Scalar.shrsi v39 c5_i32_22
  let v41 : BitVec 32 := Scalar.select v36 v37 v40
  let v42 : BitVec 1 := Scalar.cmpi .sgt v33 v26
  let c32_i32_23 : BitVec 32 := 32#32
  let v43 : BitVec 32 := Scalar.addi v33 c32_i32_23
  let c1_i32_24 : BitVec 32 := 1#32
  let v44 : BitVec 32 := Scalar.subi v43 c1_i32_24
  let c5_i32_25 : BitVec 32 := 5#32
  let v45 : BitVec 32 := Scalar.shrsi v44 c5_i32_25
  let v46 : BitVec 32 := Scalar.select v42 v45 v41
  let v47 : BitVec 32 := Scalar.subi v46 v41
  let c1_i32_27 : BitVec 32 := 1#32
  let v49 : BitVec 32 := Scalar.divsi v47 c1_i32_27
  let v50 : BitVec 32 := Scalar.muli v49 c1_i32_27
  let v51 : BitVec 32 := Scalar.addi v41 v50
  let v48 : BitVec 32 := Scalar.addi v41 v47
  let c1_i32_29 : BitVec 32 := 1#32
  ⟨v51, v48, c1_i32_29⟩
def k0_mult8 (v26 : BitVec 32) (v33 : BitVec 32) (v35 : BitVec 32) (k0_t7 : Fin (k0_t7_loop v26 v33 v35).trips) : BitVec 32 :=
  let v36 : BitVec 1 := Scalar.cmpi .eq v26 v35
  let c5_i32 : BitVec 32 := 5#32
  let v37 : BitVec 32 := Scalar.shrsi v26 c5_i32
  let c32_i32_20 : BitVec 32 := 32#32
  let v38 : BitVec 32 := Scalar.addi v26 c32_i32_20
  let c1_i32_21 : BitVec 32 := 1#32
  let v39 : BitVec 32 := Scalar.subi v38 c1_i32_21
  let c5_i32_22 : BitVec 32 := 5#32
  let v40 : BitVec 32 := Scalar.shrsi v39 c5_i32_22
  let v41 : BitVec 32 := Scalar.select v36 v37 v40
  let v42 : BitVec 1 := Scalar.cmpi .sgt v33 v26
  let c32_i32_23 : BitVec 32 := 32#32
  let v43 : BitVec 32 := Scalar.addi v33 c32_i32_23
  let c1_i32_24 : BitVec 32 := 1#32
  let v44 : BitVec 32 := Scalar.subi v43 c1_i32_24
  let c5_i32_25 : BitVec 32 := 5#32
  let v45 : BitVec 32 := Scalar.shrsi v44 c5_i32_25
  let v46 : BitVec 32 := Scalar.select v42 v45 v41
  let v47 : BitVec 32 := Scalar.subi v46 v41
  let c1_i32_27 : BitVec 32 := 1#32
  let v49 : BitVec 32 := Scalar.divsi v47 c1_i32_27
  let v50 : BitVec 32 := Scalar.muli v49 c1_i32_27
  let v51 : BitVec 32 := Scalar.addi v41 v50
  let c1_i32_29 : BitVec 32 := 1#32
  let arg16 : BitVec 32 := Scf.iv v51 c1_i32_29 k0_t7
  let c32_i32_32 : BitVec 32 := 32#32
  let v62 : BitVec 32 := Scalar.muli arg16 c32_i32_32
  v62
def k0_mult9 (k0_t5 : Fin k0_t5_loop.trips) (v26 : BitVec 32) (v33 : BitVec 32) (v35 : BitVec 32) (k0_t7 : Fin (k0_t7_loop v26 v33 v35).trips) : BitVec 32 :=
  let c0_i32_13 : BitVec 32 := 0#32
  let c1_i32_15 : BitVec 32 := 1#32
  let arg14 : BitVec 32 := Scf.iv c0_i32_13 c1_i32_15 k0_t5
  let c40_i32 : BitVec 32 := 40#32
  let v56 : BitVec 32 := Scalar.muli arg14 c40_i32
  let v36 : BitVec 1 := Scalar.cmpi .eq v26 v35
  let c5_i32 : BitVec 32 := 5#32
  let v37 : BitVec 32 := Scalar.shrsi v26 c5_i32
  let c32_i32_20 : BitVec 32 := 32#32
  let v38 : BitVec 32 := Scalar.addi v26 c32_i32_20
  let c1_i32_21 : BitVec 32 := 1#32
  let v39 : BitVec 32 := Scalar.subi v38 c1_i32_21
  let c5_i32_22 : BitVec 32 := 5#32
  let v40 : BitVec 32 := Scalar.shrsi v39 c5_i32_22
  let v41 : BitVec 32 := Scalar.select v36 v37 v40
  let v42 : BitVec 1 := Scalar.cmpi .sgt v33 v26
  let c32_i32_23 : BitVec 32 := 32#32
  let v43 : BitVec 32 := Scalar.addi v33 c32_i32_23
  let c1_i32_24 : BitVec 32 := 1#32
  let v44 : BitVec 32 := Scalar.subi v43 c1_i32_24
  let c5_i32_25 : BitVec 32 := 5#32
  let v45 : BitVec 32 := Scalar.shrsi v44 c5_i32_25
  let v46 : BitVec 32 := Scalar.select v42 v45 v41
  let v47 : BitVec 32 := Scalar.subi v46 v41
  let c1_i32_27 : BitVec 32 := 1#32
  let v49 : BitVec 32 := Scalar.divsi v47 c1_i32_27
  let v50 : BitVec 32 := Scalar.muli v49 c1_i32_27
  let v51 : BitVec 32 := Scalar.addi v41 v50
  let c1_i32_29 : BitVec 32 := 1#32
  let arg16 : BitVec 32 := Scf.iv v51 c1_i32_29 k0_t7
  let c1639_i32 : BitVec 32 := 1639#32
  let v57 : BitVec 32 := Scalar.muli arg16 c1639_i32
  let c16_i32_30 : BitVec 32 := 16#32
  let v58 : BitVec 32 := Scalar.shrsi v57 c16_i32_30
  let c40_i32_31 : BitVec 32 := 40#32
  let v59 : BitVec 32 := Scalar.muli v58 c40_i32_31
  let v60 : BitVec 32 := Scalar.subi arg16 v59
  let v61 : BitVec 32 := Scalar.addi v56 v60
  let c32_i32_33 : BitVec 32 := 32#32
  let v64 : BitVec 32 := Scalar.muli v61 c32_i32_33
  v64
def k0_off15 (i : grid0.Coords) : Fin 1 → Nat :=
  let arg0 : BitVec 32 := BitVec.ofNat 32 (i 0).val
  let c1_i32_10 : BitVec 32 := 1#32
  let v17 : BitVec 32 := Scalar.addi arg0 c1_i32_10
  let c1_i32_11 : BitVec 32 := 1#32
  let v18 : BitVec 32 := Scalar.andi v17 c1_i32_11
  ![v18.toNat]
def k0_off16 (k0_t5 : Fin k0_t5_loop.trips) (v26 : BitVec 32) (v33 : BitVec 32) (v35 : BitVec 32) (k0_t7 : Fin (k0_t7_loop v26 v33 v35).trips) : Fin 2 → Nat :=
  let c0_i32_13 : BitVec 32 := 0#32
  let c1_i32_15 : BitVec 32 := 1#32
  let arg14 : BitVec 32 := Scf.iv c0_i32_13 c1_i32_15 k0_t5
  let c40_i32 : BitVec 32 := 40#32
  let v56 : BitVec 32 := Scalar.muli arg14 c40_i32
  let v36 : BitVec 1 := Scalar.cmpi .eq v26 v35
  let c5_i32 : BitVec 32 := 5#32
  let v37 : BitVec 32 := Scalar.shrsi v26 c5_i32
  let c32_i32_20 : BitVec 32 := 32#32
  let v38 : BitVec 32 := Scalar.addi v26 c32_i32_20
  let c1_i32_21 : BitVec 32 := 1#32
  let v39 : BitVec 32 := Scalar.subi v38 c1_i32_21
  let c5_i32_22 : BitVec 32 := 5#32
  let v40 : BitVec 32 := Scalar.shrsi v39 c5_i32_22
  let v41 : BitVec 32 := Scalar.select v36 v37 v40
  let v42 : BitVec 1 := Scalar.cmpi .sgt v33 v26
  let c32_i32_23 : BitVec 32 := 32#32
  let v43 : BitVec 32 := Scalar.addi v33 c32_i32_23
  let c1_i32_24 : BitVec 32 := 1#32
  let v44 : BitVec 32 := Scalar.subi v43 c1_i32_24
  let c5_i32_25 : BitVec 32 := 5#32
  let v45 : BitVec 32 := Scalar.shrsi v44 c5_i32_25
  let v46 : BitVec 32 := Scalar.select v42 v45 v41
  let v47 : BitVec 32 := Scalar.subi v46 v41
  let c1_i32_27 : BitVec 32 := 1#32
  let v49 : BitVec 32 := Scalar.divsi v47 c1_i32_27
  let v50 : BitVec 32 := Scalar.muli v49 c1_i32_27
  let v51 : BitVec 32 := Scalar.addi v41 v50
  let c1_i32_29 : BitVec 32 := 1#32
  let arg16 : BitVec 32 := Scf.iv v51 c1_i32_29 k0_t7
  let c1639_i32 : BitVec 32 := 1639#32
  let v57 : BitVec 32 := Scalar.muli arg16 c1639_i32
  let c16_i32_30 : BitVec 32 := 16#32
  let v58 : BitVec 32 := Scalar.shrsi v57 c16_i32_30
  let c40_i32_31 : BitVec 32 := 40#32
  let v59 : BitVec 32 := Scalar.muli v58 c40_i32_31
  let v60 : BitVec 32 := Scalar.subi arg16 v59
  let v61 : BitVec 32 := Scalar.addi v56 v60
  let c32_i32_33 : BitVec 32 := 32#32
  let v64 : BitVec 32 := Scalar.muli v61 c32_i32_33
  let v65 : BitVec 32 := v64
  let c0_i32_34 : BitVec 32 := 0#32
  ![v65.toNat, 0]
def k0_off17 (v26 : BitVec 32) (v33 : BitVec 32) (v35 : BitVec 32) (k0_t7 : Fin (k0_t7_loop v26 v33 v35).trips) : Fin 2 → Nat :=
  let v36 : BitVec 1 := Scalar.cmpi .eq v26 v35
  let c5_i32 : BitVec 32 := 5#32
  let v37 : BitVec 32 := Scalar.shrsi v26 c5_i32
  let c32_i32_20 : BitVec 32 := 32#32
  let v38 : BitVec 32 := Scalar.addi v26 c32_i32_20
  let c1_i32_21 : BitVec 32 := 1#32
  let v39 : BitVec 32 := Scalar.subi v38 c1_i32_21
  let c5_i32_22 : BitVec 32 := 5#32
  let v40 : BitVec 32 := Scalar.shrsi v39 c5_i32_22
  let v41 : BitVec 32 := Scalar.select v36 v37 v40
  let v42 : BitVec 1 := Scalar.cmpi .sgt v33 v26
  let c32_i32_23 : BitVec 32 := 32#32
  let v43 : BitVec 32 := Scalar.addi v33 c32_i32_23
  let c1_i32_24 : BitVec 32 := 1#32
  let v44 : BitVec 32 := Scalar.subi v43 c1_i32_24
  let c5_i32_25 : BitVec 32 := 5#32
  let v45 : BitVec 32 := Scalar.shrsi v44 c5_i32_25
  let v46 : BitVec 32 := Scalar.select v42 v45 v41
  let v47 : BitVec 32 := Scalar.subi v46 v41
  let c1_i32_27 : BitVec 32 := 1#32
  let v49 : BitVec 32 := Scalar.divsi v47 c1_i32_27
  let v50 : BitVec 32 := Scalar.muli v49 c1_i32_27
  let v51 : BitVec 32 := Scalar.addi v41 v50
  let c1_i32_29 : BitVec 32 := 1#32
  let arg16 : BitVec 32 := Scf.iv v51 c1_i32_29 k0_t7
  let c32_i32_32 : BitVec 32 := 32#32
  let v62 : BitVec 32 := Scalar.muli arg16 c32_i32_32
  let v63 : BitVec 32 := v62
  let c0_i32_35 : BitVec 32 := 0#32
  ![v63.toNat, 0]

def k0_chk2 (i : grid0.Coords) (k0_t5 : Fin k0_t5_loop.trips) (v26 : BitVec 32) (v33 : BitVec 32) (v35 : BitVec 32) : Prop :=
  (∀ (k0_h2 : k0_cond2 i = 1#1), (k0_t6_loop v26 v33 v35).OK) ∧
  (∀ k0_t6 : Fin (k0_t6_loop v26 v33 v35).trips, ∀ (k0_h2 : k0_cond2 i = 1#1), 32 ∣ (k0_mult6 v26 v33 v35 k0_t6).toNat) ∧
  (∀ k0_t6 : Fin (k0_t6_loop v26 v33 v35).trips, ∀ (k0_h2 : k0_cond2 i = 1#1), 32 ∣ (k0_mult7 k0_t5 v26 v33 v35 k0_t6).toNat) ∧
  (∀ k0_t6 : Fin (k0_t6_loop v26 v33 v35).trips, ∀ (k0_h2 : k0_cond2 i = 1#1), ∀ a, (k0_off13 k0_t5 v26 v33 v35 k0_t6) a + S32x2048.size a ≤ S10240x2048.size a) ∧
  (∀ k0_t6 : Fin (k0_t6_loop v26 v33 v35).trips, ∀ (k0_h2 : k0_cond2 i = 1#1), ∀ a, (k0_off14 v26 v33 v35 k0_t6) a + S32x2048.size a ≤ S49152x2048.size a) ∧
  (∀ k0_t6 : Fin (k0_t6_loop v26 v33 v35).trips, ∀ (k0_h2 : k0_cond2 i = 1#1), ∀ (hinb : ∀ a, (k0_off14 v26 v33 v35 k0_t6) a + S32x2048.size a ≤ S49152x2048.size a), (Rect.unit (s := S49152x2048) (k0_off14 v26 v33 v35 k0_t6) S32x2048.size hinb).WholeWords (EltTy.packing .fp8e4m3)) ∧
  (∀ k0_t6 : Fin (k0_t6_loop v26 v33 v35).trips, ∀ (k0_h2 : k0_cond2 i = 1#1), ∀ (hinb : ∀ a, (k0_off13 k0_t5 v26 v33 v35 k0_t6) a + S32x2048.size a ≤ S10240x2048.size a), (Rect.unit (s := S10240x2048) (k0_off13 k0_t5 v26 v33 v35 k0_t6) S32x2048.size hinb).WholeWords (EltTy.packing .fp8e4m3)) ∧
  (∀ (k0_h2 : k0_cond2 i = 1#1), (k0_t7_loop v26 v33 v35).OK) ∧
  (∀ k0_t7 : Fin (k0_t7_loop v26 v33 v35).trips, ∀ (k0_h2 : k0_cond2 i = 1#1), 32 ∣ (k0_mult8 v26 v33 v35 k0_t7).toNat) ∧
  (∀ k0_t7 : Fin (k0_t7_loop v26 v33 v35).trips, ∀ (k0_h2 : k0_cond2 i = 1#1), 32 ∣ (k0_mult9 k0_t5 v26 v33 v35 k0_t7).toNat) ∧
  (∀ k0_t7 : Fin (k0_t7_loop v26 v33 v35).trips, ∀ (k0_h2 : k0_cond2 i = 1#1), ∀ a, (k0_off16 k0_t5 v26 v33 v35 k0_t7) a + S32x2048.size a ≤ S10240x2048.size a) ∧
  (∀ k0_t7 : Fin (k0_t7_loop v26 v33 v35).trips, ∀ (k0_h2 : k0_cond2 i = 1#1), ∀ a, (k0_off17 v26 v33 v35 k0_t7) a + S32x2048.size a ≤ S49152x2048.size a) ∧
  (∀ k0_t7 : Fin (k0_t7_loop v26 v33 v35).trips, ∀ (k0_h2 : k0_cond2 i = 1#1), ∀ (hinb : ∀ a, (k0_off17 v26 v33 v35 k0_t7) a + S32x2048.size a ≤ S49152x2048.size a), (Rect.unit (s := S49152x2048) (k0_off17 v26 v33 v35 k0_t7) S32x2048.size hinb).WholeWords (EltTy.packing .fp8e4m3)) ∧
  (∀ k0_t7 : Fin (k0_t7_loop v26 v33 v35).trips, ∀ (k0_h2 : k0_cond2 i = 1#1), ∀ (hinb : ∀ a, (k0_off16 k0_t5 v26 v33 v35 k0_t7) a + S32x2048.size a ≤ S10240x2048.size a), (Rect.unit (s := S10240x2048) (k0_off16 k0_t5 v26 v33 v35 k0_t7) S32x2048.size hinb).WholeWords (EltTy.packing .fp8e4m3))
theorem k0_t6_ok : ∀ (i : grid0.Coords) (k0_t5 : Fin k0_t5_loop.trips) (v26 : BitVec 32) (v33 : BitVec 32) (v35 : BitVec 32) (k0_hw2 : k0_chk2 i k0_t5 v26 v33 v35), ∀ (k0_h2 : k0_cond2 i = 1#1), (k0_t6_loop v26 v33 v35).OK := fun i k0_t5 v26 v33 v35 k0_hw2 k0_h2 => k0_hw2.1 k0_h2
theorem k0_mult6_dvd : ∀ (i : grid0.Coords) (k0_t5 : Fin k0_t5_loop.trips) (v26 : BitVec 32) (v33 : BitVec 32) (v35 : BitVec 32) (k0_hw2 : k0_chk2 i k0_t5 v26 v33 v35) (k0_t6 : Fin (k0_t6_loop v26 v33 v35).trips), ∀ (k0_h2 : k0_cond2 i = 1#1), 32 ∣ (k0_mult6 v26 v33 v35 k0_t6).toNat := fun i k0_t5 v26 v33 v35 k0_hw2 k0_t6 k0_h2 => k0_hw2.2.1 k0_t6 k0_h2
theorem k0_mult7_dvd : ∀ (i : grid0.Coords) (k0_t5 : Fin k0_t5_loop.trips) (v26 : BitVec 32) (v33 : BitVec 32) (v35 : BitVec 32) (k0_hw2 : k0_chk2 i k0_t5 v26 v33 v35) (k0_t6 : Fin (k0_t6_loop v26 v33 v35).trips), ∀ (k0_h2 : k0_cond2 i = 1#1), 32 ∣ (k0_mult7 k0_t5 v26 v33 v35 k0_t6).toNat := fun i k0_t5 v26 v33 v35 k0_hw2 k0_t6 k0_h2 => k0_hw2.2.2.1 k0_t6 k0_h2
theorem k0_off13_inb : ∀ (i : grid0.Coords) (k0_t5 : Fin k0_t5_loop.trips) (v26 : BitVec 32) (v33 : BitVec 32) (v35 : BitVec 32) (k0_hw2 : k0_chk2 i k0_t5 v26 v33 v35) (k0_t6 : Fin (k0_t6_loop v26 v33 v35).trips), ∀ (k0_h2 : k0_cond2 i = 1#1), ∀ a, (k0_off13 k0_t5 v26 v33 v35 k0_t6) a + S32x2048.size a ≤ S10240x2048.size a := fun i k0_t5 v26 v33 v35 k0_hw2 k0_t6 k0_h2 => k0_hw2.2.2.2.1 k0_t6 k0_h2
theorem k0_off14_inb : ∀ (i : grid0.Coords) (k0_t5 : Fin k0_t5_loop.trips) (v26 : BitVec 32) (v33 : BitVec 32) (v35 : BitVec 32) (k0_hw2 : k0_chk2 i k0_t5 v26 v33 v35) (k0_t6 : Fin (k0_t6_loop v26 v33 v35).trips), ∀ (k0_h2 : k0_cond2 i = 1#1), ∀ a, (k0_off14 v26 v33 v35 k0_t6) a + S32x2048.size a ≤ S49152x2048.size a := fun i k0_t5 v26 v33 v35 k0_hw2 k0_t6 k0_h2 => k0_hw2.2.2.2.2.1 k0_t6 k0_h2
theorem k0_off14_wordsfp8e4m3 : ∀ (i : grid0.Coords) (k0_t5 : Fin k0_t5_loop.trips) (v26 : BitVec 32) (v33 : BitVec 32) (v35 : BitVec 32) (k0_hw2 : k0_chk2 i k0_t5 v26 v33 v35) (k0_t6 : Fin (k0_t6_loop v26 v33 v35).trips), ∀ (k0_h2 : k0_cond2 i = 1#1), (Rect.unit (s := S49152x2048) (k0_off14 v26 v33 v35 k0_t6) S32x2048.size (k0_off14_inb i k0_t5 v26 v33 v35 k0_hw2 k0_t6 k0_h2)).WholeWords (EltTy.packing .fp8e4m3) := fun i k0_t5 v26 v33 v35 k0_hw2 k0_t6 k0_h2 => k0_hw2.2.2.2.2.2.1 k0_t6 k0_h2 (k0_off14_inb i k0_t5 v26 v33 v35 k0_hw2 k0_t6 k0_h2)
theorem k0_off13_wordsfp8e4m3 : ∀ (i : grid0.Coords) (k0_t5 : Fin k0_t5_loop.trips) (v26 : BitVec 32) (v33 : BitVec 32) (v35 : BitVec 32) (k0_hw2 : k0_chk2 i k0_t5 v26 v33 v35) (k0_t6 : Fin (k0_t6_loop v26 v33 v35).trips), ∀ (k0_h2 : k0_cond2 i = 1#1), (Rect.unit (s := S10240x2048) (k0_off13 k0_t5 v26 v33 v35 k0_t6) S32x2048.size (k0_off13_inb i k0_t5 v26 v33 v35 k0_hw2 k0_t6 k0_h2)).WholeWords (EltTy.packing .fp8e4m3) := fun i k0_t5 v26 v33 v35 k0_hw2 k0_t6 k0_h2 => k0_hw2.2.2.2.2.2.2.1 k0_t6 k0_h2 (k0_off13_inb i k0_t5 v26 v33 v35 k0_hw2 k0_t6 k0_h2)
theorem k0_t7_ok : ∀ (i : grid0.Coords) (k0_t5 : Fin k0_t5_loop.trips) (v26 : BitVec 32) (v33 : BitVec 32) (v35 : BitVec 32) (k0_hw2 : k0_chk2 i k0_t5 v26 v33 v35), ∀ (k0_h2 : k0_cond2 i = 1#1), (k0_t7_loop v26 v33 v35).OK := fun i k0_t5 v26 v33 v35 k0_hw2 k0_h2 => k0_hw2.2.2.2.2.2.2.2.1 k0_h2
theorem k0_mult8_dvd : ∀ (i : grid0.Coords) (k0_t5 : Fin k0_t5_loop.trips) (v26 : BitVec 32) (v33 : BitVec 32) (v35 : BitVec 32) (k0_hw2 : k0_chk2 i k0_t5 v26 v33 v35) (k0_t7 : Fin (k0_t7_loop v26 v33 v35).trips), ∀ (k0_h2 : k0_cond2 i = 1#1), 32 ∣ (k0_mult8 v26 v33 v35 k0_t7).toNat := fun i k0_t5 v26 v33 v35 k0_hw2 k0_t7 k0_h2 => k0_hw2.2.2.2.2.2.2.2.2.1 k0_t7 k0_h2
theorem k0_mult9_dvd : ∀ (i : grid0.Coords) (k0_t5 : Fin k0_t5_loop.trips) (v26 : BitVec 32) (v33 : BitVec 32) (v35 : BitVec 32) (k0_hw2 : k0_chk2 i k0_t5 v26 v33 v35) (k0_t7 : Fin (k0_t7_loop v26 v33 v35).trips), ∀ (k0_h2 : k0_cond2 i = 1#1), 32 ∣ (k0_mult9 k0_t5 v26 v33 v35 k0_t7).toNat := fun i k0_t5 v26 v33 v35 k0_hw2 k0_t7 k0_h2 => k0_hw2.2.2.2.2.2.2.2.2.2.1 k0_t7 k0_h2
theorem k0_off16_inb : ∀ (i : grid0.Coords) (k0_t5 : Fin k0_t5_loop.trips) (v26 : BitVec 32) (v33 : BitVec 32) (v35 : BitVec 32) (k0_hw2 : k0_chk2 i k0_t5 v26 v33 v35) (k0_t7 : Fin (k0_t7_loop v26 v33 v35).trips), ∀ (k0_h2 : k0_cond2 i = 1#1), ∀ a, (k0_off16 k0_t5 v26 v33 v35 k0_t7) a + S32x2048.size a ≤ S10240x2048.size a := fun i k0_t5 v26 v33 v35 k0_hw2 k0_t7 k0_h2 => k0_hw2.2.2.2.2.2.2.2.2.2.2.1 k0_t7 k0_h2
theorem k0_off17_inb : ∀ (i : grid0.Coords) (k0_t5 : Fin k0_t5_loop.trips) (v26 : BitVec 32) (v33 : BitVec 32) (v35 : BitVec 32) (k0_hw2 : k0_chk2 i k0_t5 v26 v33 v35) (k0_t7 : Fin (k0_t7_loop v26 v33 v35).trips), ∀ (k0_h2 : k0_cond2 i = 1#1), ∀ a, (k0_off17 v26 v33 v35 k0_t7) a + S32x2048.size a ≤ S49152x2048.size a := fun i k0_t5 v26 v33 v35 k0_hw2 k0_t7 k0_h2 => k0_hw2.2.2.2.2.2.2.2.2.2.2.2.1 k0_t7 k0_h2
theorem k0_off17_wordsfp8e4m3 : ∀ (i : grid0.Coords) (k0_t5 : Fin k0_t5_loop.trips) (v26 : BitVec 32) (v33 : BitVec 32) (v35 : BitVec 32) (k0_hw2 : k0_chk2 i k0_t5 v26 v33 v35) (k0_t7 : Fin (k0_t7_loop v26 v33 v35).trips), ∀ (k0_h2 : k0_cond2 i = 1#1), (Rect.unit (s := S49152x2048) (k0_off17 v26 v33 v35 k0_t7) S32x2048.size (k0_off17_inb i k0_t5 v26 v33 v35 k0_hw2 k0_t7 k0_h2)).WholeWords (EltTy.packing .fp8e4m3) := fun i k0_t5 v26 v33 v35 k0_hw2 k0_t7 k0_h2 => k0_hw2.2.2.2.2.2.2.2.2.2.2.2.2.1 k0_t7 k0_h2 (k0_off17_inb i k0_t5 v26 v33 v35 k0_hw2 k0_t7 k0_h2)
theorem k0_off16_wordsfp8e4m3 : ∀ (i : grid0.Coords) (k0_t5 : Fin k0_t5_loop.trips) (v26 : BitVec 32) (v33 : BitVec 32) (v35 : BitVec 32) (k0_hw2 : k0_chk2 i k0_t5 v26 v33 v35) (k0_t7 : Fin (k0_t7_loop v26 v33 v35).trips), ∀ (k0_h2 : k0_cond2 i = 1#1), (Rect.unit (s := S10240x2048) (k0_off16 k0_t5 v26 v33 v35 k0_t7) S32x2048.size (k0_off16_inb i k0_t5 v26 v33 v35 k0_hw2 k0_t7 k0_h2)).WholeWords (EltTy.packing .fp8e4m3) := fun i k0_t5 v26 v33 v35 k0_hw2 k0_t7 k0_h2 => k0_hw2.2.2.2.2.2.2.2.2.2.2.2.2.2 k0_t7 k0_h2 (k0_off16_inb i k0_t5 v26 v33 v35 k0_hw2 k0_t7 k0_h2)

def k0_off18 (i : grid0.Coords) : Fin 1 → Nat :=
  let arg0 : BitVec 32 := BitVec.ofNat 32 (i 0).val
  let c1_i32_10 : BitVec 32 := 1#32
  let v17 : BitVec 32 := Scalar.addi arg0 c1_i32_10
  let c1_i32_11 : BitVec 32 := 1#32
  let v18 : BitVec 32 := Scalar.andi v17 c1_i32_11
  let v21 : Index := Scalar.indexCast v18
  ![v21.toNat]
def k0_off19 (i : grid0.Coords) : Fin 1 → Nat :=
  let arg0 : BitVec 32 := BitVec.ofNat 32 (i 0).val
  let c1_i32_2 : BitVec 32 := 1#32
  let v7 : BitVec 32 := Scalar.andi arg0 c1_i32_2
  let v8 : Index := Scalar.indexCast v7
  ![v8.toNat]
def k0_mult10 (v9 : BitVec 32) : BitVec 32 :=
  let c32_i32 : BitVec 32 := 32#32
  let v10 : BitVec 32 := Scalar.muli v9 c32_i32
  v10

def k0_chk3 (v9 : BitVec 32) : Prop :=
  (32 ∣ (k0_mult10 v9).toNat)
theorem k0_mult10_dvd : ∀ (v9 : BitVec 32) (k0_hw3 : k0_chk3 v9), 32 ∣ (k0_mult10 v9).toNat := fun v9 k0_hw3 => k0_hw3

def k0_off20 (i : grid0.Coords) : Fin 1 → Nat :=
  let arg0 : BitVec 32 := BitVec.ofNat 32 (i 0).val
  let c1_i32_2 : BitVec 32 := 1#32
  let v7 : BitVec 32 := Scalar.andi arg0 c1_i32_2
  ![v7.toNat]
def k0_off21 (v9 : BitVec 32) : (Fin 2 → Nat) × (Fin 2 → Nat) :=
  let c0_i32_3 : BitVec 32 := 0#32
  let c0_i32_4 : BitVec 32 := 0#32
  let c32_i32 : BitVec 32 := 32#32
  let v10 : BitVec 32 := Scalar.muli v9 c32_i32
  let v11 : BitVec 32 := v10
  ⟨![0, 0], ![v11.toNat, 2048]⟩

def k0_off22 (v9 : BitVec 32) : (Fin 2 → Nat) × (Fin 2 → Nat) :=
  let c0_i32_5 : BitVec 32 := 0#32
  let c0_i32_6 : BitVec 32 := 0#32
  let c32_i32 : BitVec 32 := 32#32
  let v10 : BitVec 32 := Scalar.muli v9 c32_i32
  let v11 : BitVec 32 := v10
  ⟨![0, 0], ![v11.toNat, 2048]⟩

@[reducible] def k0_t8_loop : Scf.Loop 32 :=
  let c0_i32_7 : BitVec 32 := 0#32
  let c8_i32 : BitVec 32 := 8#32
  let v16 : BitVec 32 := Scalar.addi c0_i32_7 c8_i32
  let c1_i32_8 : BitVec 32 := 1#32
  ⟨c0_i32_7, v16, c1_i32_8⟩
@[reducible] def k0_t9_loop : Scf.Loop 32 :=
  let c0_i32_22 : BitVec 32 := 0#32
  let c48_i32_23 : BitVec 32 := 48#32
  let v46 : BitVec 32 := Scalar.addi c0_i32_22 c48_i32_23
  let c1_i32_24 : BitVec 32 := 1#32
  ⟨c0_i32_22, v46, c1_i32_24⟩
def k0_off23 (i : grid0.Coords) (k0_t8 : Fin k0_t8_loop.trips) (k0_t9 : Fin k0_t9_loop.trips) : Fin 2 → Nat :=
  let arg0 : BitVec 32 := BitVec.ofNat 32 (i 0).val
  let c4_i32 : BitVec 32 := 4#32
  let v44 : BitVec 32 := Scalar.muli arg0 c4_i32
  let c0_i32_7 : BitVec 32 := 0#32
  let c1_i32_8 : BitVec 32 := 1#32
  let arg14 : BitVec 32 := Scf.iv c0_i32_7 c1_i32_8 k0_t8
  let c0_i32_10 : BitVec 32 := 0#32
  let v18 : BitVec 1 := Scalar.cmpi .sgt arg14 c0_i32_10
  let v19 : BitVec 32 := Scalar.extui v18
  let c0_i32_11 : BitVec 32 := 0#32
  let v20 : BitVec 1 := Scalar.cmpi .slt arg14 c0_i32_11
  let v21 : BitVec 32 := Scalar.extui v20
  let v22 : BitVec 32 := Scalar.subi v19 v21
  let c2_i32 : BitVec 32 := 2#32
  let c0_i32_12 : BitVec 32 := 0#32
  let v23 : BitVec 1 := Scalar.cmpi .sgt c2_i32 c0_i32_12
  let v24 : BitVec 32 := Scalar.extui v23
  let c0_i32_13 : BitVec 32 := 0#32
  let v25 : BitVec 1 := Scalar.cmpi .slt c2_i32 c0_i32_13
  let v26 : BitVec 32 := Scalar.extui v25
  let v27 : BitVec 32 := Scalar.subi v24 v26
  let v28 : BitVec 1 := Scalar.cmpi .ne v22 v27
  let v29 : BitVec 32 := Scalar.remsi arg14 c2_i32
  let c0_i32_14 : BitVec 32 := 0#32
  let v30 : BitVec 1 := Scalar.cmpi .ne v29 c0_i32_14
  let v31 : BitVec 1 := Scalar.andi v28 v30
  let v17 : BitVec 32 := Scalar.divsi arg14 c2_i32
  let c1_i32_15 : BitVec 32 := 1#32
  let v32 : BitVec 32 := Scalar.subi v17 c1_i32_15
  let v33 : BitVec 32 := Scalar.select v31 v32 v17
  let v45 : BitVec 32 := Scalar.addi v44 v33
  let v460 : Index := Scalar.indexCast v45
  let c2_i32_16 : BitVec 32 := 2#32
  let c0_i32_17 : BitVec 32 := 0#32
  let v34 : BitVec 1 := Scalar.cmpi .eq c2_i32_16 c0_i32_17
  let c1_i32_18 : BitVec 32 := 1#32
  let v35 : BitVec 32 := Scalar.select v34 c1_i32_18 c2_i32_16
  let v36 : BitVec 32 := Scalar.remsi arg14 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c64_i32_174 : BitVec 32 := 64#32
  let v458 : BitVec 32 := Scalar.muli v43 c64_i32_174
  let c0_i32_22 : BitVec 32 := 0#32
  let c1_i32_24 : BitVec 32 := 1#32
  let arg15 : BitVec 32 := Scf.iv c0_i32_22 c1_i32_24 k0_t9
  let v459 : BitVec 32 := Scalar.addi v458 arg15
  let v461 : Index := Scalar.indexCast v459
  ![v460.toNat, v461.toNat]
def k0_mult11 (v462 : BitVec 32) : BitVec 32 :=
  let c4_i32_175 : BitVec 32 := 4#32
  let v463 : BitVec 32 := Scalar.muli v462 c4_i32_175
  v463

def k0_off24 (v462 : BitVec 32) : Fin 2 → Nat :=
  let c4_i32_175 : BitVec 32 := 4#32
  let v463 : BitVec 32 := Scalar.muli v462 c4_i32_175
  let v464 : BitVec 32 := v463
  let v465 : Index := Scalar.indexCast v464
  let c0_176 : Index := 0#32
  ![v465.toNat, 0]

def k0_chk4 (v462 : BitVec 32) : Prop :=
  (4 ∣ (k0_mult11 v462).toNat) ∧
  (∀ a, (k0_off24 v462) a + S4x2048.size a ≤ S10240x2048.size a)
theorem k0_mult11_dvd : ∀ (v462 : BitVec 32) (k0_hw4 : k0_chk4 v462), 4 ∣ (k0_mult11 v462).toNat := fun v462 k0_hw4 => k0_hw4.1
theorem k0_off24_inb : ∀ (v462 : BitVec 32) (k0_hw4 : k0_chk4 v462), ∀ a, (k0_off24 v462) a + S4x2048.size a ≤ S10240x2048.size a := fun v462 k0_hw4 => k0_hw4.2

def k0_mult12 (k0_t9 : Fin k0_t9_loop.trips) : BitVec 32 :=
  let c0_i32_22 : BitVec 32 := 0#32
  let c1_i32_24 : BitVec 32 := 1#32
  let arg15 : BitVec 32 := Scf.iv c0_i32_22 c1_i32_24 k0_t9
  let c4_i32_177 : BitVec 32 := 4#32
  let v467 : BitVec 32 := Scalar.muli arg15 c4_i32_177
  v467
def k0_off25 (k0_t9 : Fin k0_t9_loop.trips) : Fin 2 → Nat :=
  let c0_i32_22 : BitVec 32 := 0#32
  let c1_i32_24 : BitVec 32 := 1#32
  let arg15 : BitVec 32 := Scf.iv c0_i32_22 c1_i32_24 k0_t9
  let c4_i32_177 : BitVec 32 := 4#32
  let v467 : BitVec 32 := Scalar.muli arg15 c4_i32_177
  let v468 : BitVec 32 := v467
  let v469 : Index := Scalar.indexCast v468
  let c0_178 : Index := 0#32
  ![v469.toNat, 0]
def k0_off26 (k0_t8 : Fin k0_t8_loop.trips) : Fin 3 → Nat :=
  let c0_i32_7 : BitVec 32 := 0#32
  let c1_i32_8 : BitVec 32 := 1#32
  let arg14 : BitVec 32 := Scf.iv c0_i32_7 c1_i32_8 k0_t8
  let c0_i32_10 : BitVec 32 := 0#32
  let v18 : BitVec 1 := Scalar.cmpi .sgt arg14 c0_i32_10
  let v19 : BitVec 32 := Scalar.extui v18
  let c0_i32_11 : BitVec 32 := 0#32
  let v20 : BitVec 1 := Scalar.cmpi .slt arg14 c0_i32_11
  let v21 : BitVec 32 := Scalar.extui v20
  let v22 : BitVec 32 := Scalar.subi v19 v21
  let c2_i32 : BitVec 32 := 2#32
  let c0_i32_12 : BitVec 32 := 0#32
  let v23 : BitVec 1 := Scalar.cmpi .sgt c2_i32 c0_i32_12
  let v24 : BitVec 32 := Scalar.extui v23
  let c0_i32_13 : BitVec 32 := 0#32
  let v25 : BitVec 1 := Scalar.cmpi .slt c2_i32 c0_i32_13
  let v26 : BitVec 32 := Scalar.extui v25
  let v27 : BitVec 32 := Scalar.subi v24 v26
  let v28 : BitVec 1 := Scalar.cmpi .ne v22 v27
  let v29 : BitVec 32 := Scalar.remsi arg14 c2_i32
  let c0_i32_14 : BitVec 32 := 0#32
  let v30 : BitVec 1 := Scalar.cmpi .ne v29 c0_i32_14
  let v31 : BitVec 1 := Scalar.andi v28 v30
  let v17 : BitVec 32 := Scalar.divsi arg14 c2_i32
  let c1_i32_15 : BitVec 32 := 1#32
  let v32 : BitVec 32 := Scalar.subi v17 c1_i32_15
  let v33 : BitVec 32 := Scalar.select v31 v32 v17
  let v47 : Index := Scalar.indexCast v33
  let c2_i32_16 : BitVec 32 := 2#32
  let c0_i32_17 : BitVec 32 := 0#32
  let v34 : BitVec 1 := Scalar.cmpi .eq c2_i32_16 c0_i32_17
  let c1_i32_18 : BitVec 32 := 1#32
  let v35 : BitVec 32 := Scalar.select v34 c1_i32_18 c2_i32_16
  let v36 : BitVec 32 := Scalar.remsi arg14 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let v48 : Index := Scalar.indexCast v43
  let c0 : Index := 0#32
  ![v47.toNat, v48.toNat, 0]
def k0_off27 (k0_t8 : Fin k0_t8_loop.trips) : Fin 3 → Nat :=
  let c0_i32_7 : BitVec 32 := 0#32
  let c1_i32_8 : BitVec 32 := 1#32
  let arg14 : BitVec 32 := Scf.iv c0_i32_7 c1_i32_8 k0_t8
  let c0_i32_10 : BitVec 32 := 0#32
  let v18 : BitVec 1 := Scalar.cmpi .sgt arg14 c0_i32_10
  let v19 : BitVec 32 := Scalar.extui v18
  let c0_i32_11 : BitVec 32 := 0#32
  let v20 : BitVec 1 := Scalar.cmpi .slt arg14 c0_i32_11
  let v21 : BitVec 32 := Scalar.extui v20
  let v22 : BitVec 32 := Scalar.subi v19 v21
  let c2_i32 : BitVec 32 := 2#32
  let c0_i32_12 : BitVec 32 := 0#32
  let v23 : BitVec 1 := Scalar.cmpi .sgt c2_i32 c0_i32_12
  let v24 : BitVec 32 := Scalar.extui v23
  let c0_i32_13 : BitVec 32 := 0#32
  let v25 : BitVec 1 := Scalar.cmpi .slt c2_i32 c0_i32_13
  let v26 : BitVec 32 := Scalar.extui v25
  let v27 : BitVec 32 := Scalar.subi v24 v26
  let v28 : BitVec 1 := Scalar.cmpi .ne v22 v27
  let v29 : BitVec 32 := Scalar.remsi arg14 c2_i32
  let c0_i32_14 : BitVec 32 := 0#32
  let v30 : BitVec 1 := Scalar.cmpi .ne v29 c0_i32_14
  let v31 : BitVec 1 := Scalar.andi v28 v30
  let v17 : BitVec 32 := Scalar.divsi arg14 c2_i32
  let c1_i32_15 : BitVec 32 := 1#32
  let v32 : BitVec 32 := Scalar.subi v17 c1_i32_15
  let v33 : BitVec 32 := Scalar.select v31 v32 v17
  let v52 : Index := Scalar.indexCast v33
  let c2_i32_26 : BitVec 32 := 2#32
  let c2_i32_16 : BitVec 32 := 2#32
  let c0_i32_17 : BitVec 32 := 0#32
  let v34 : BitVec 1 := Scalar.cmpi .eq c2_i32_16 c0_i32_17
  let c1_i32_18 : BitVec 32 := 1#32
  let v35 : BitVec 32 := Scalar.select v34 c1_i32_18 c2_i32_16
  let v36 : BitVec 32 := Scalar.remsi arg14 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let v51 : BitVec 32 := Scalar.addi c2_i32_26 v43
  let v53 : Index := Scalar.indexCast v51
  let c0_27 : Index := 0#32
  ![v52.toNat, v53.toNat, 0]
def k0_off28 (i : grid0.Coords) (k0_t8 : Fin k0_t8_loop.trips) : Fin 2 → Nat :=
  let arg0 : BitVec 32 := BitVec.ofNat 32 (i 0).val
  let c4_i32 : BitVec 32 := 4#32
  let v44 : BitVec 32 := Scalar.muli arg0 c4_i32
  let c0_i32_7 : BitVec 32 := 0#32
  let c1_i32_8 : BitVec 32 := 1#32
  let arg14 : BitVec 32 := Scf.iv c0_i32_7 c1_i32_8 k0_t8
  let c0_i32_10 : BitVec 32 := 0#32
  let v18 : BitVec 1 := Scalar.cmpi .sgt arg14 c0_i32_10
  let v19 : BitVec 32 := Scalar.extui v18
  let c0_i32_11 : BitVec 32 := 0#32
  let v20 : BitVec 1 := Scalar.cmpi .slt arg14 c0_i32_11
  let v21 : BitVec 32 := Scalar.extui v20
  let v22 : BitVec 32 := Scalar.subi v19 v21
  let c2_i32 : BitVec 32 := 2#32
  let c0_i32_12 : BitVec 32 := 0#32
  let v23 : BitVec 1 := Scalar.cmpi .sgt c2_i32 c0_i32_12
  let v24 : BitVec 32 := Scalar.extui v23
  let c0_i32_13 : BitVec 32 := 0#32
  let v25 : BitVec 1 := Scalar.cmpi .slt c2_i32 c0_i32_13
  let v26 : BitVec 32 := Scalar.extui v25
  let v27 : BitVec 32 := Scalar.subi v24 v26
  let v28 : BitVec 1 := Scalar.cmpi .ne v22 v27
  let v29 : BitVec 32 := Scalar.remsi arg14 c2_i32
  let c0_i32_14 : BitVec 32 := 0#32
  let v30 : BitVec 1 := Scalar.cmpi .ne v29 c0_i32_14
  let v31 : BitVec 1 := Scalar.andi v28 v30
  let v17 : BitVec 32 := Scalar.divsi arg14 c2_i32
  let c1_i32_15 : BitVec 32 := 1#32
  let v32 : BitVec 32 := Scalar.subi v17 c1_i32_15
  let v33 : BitVec 32 := Scalar.select v31 v32 v17
  let v45 : BitVec 32 := Scalar.addi v44 v33
  let v72 : Index := Scalar.indexCast v45
  let c2_i32_16 : BitVec 32 := 2#32
  let c0_i32_17 : BitVec 32 := 0#32
  let v34 : BitVec 1 := Scalar.cmpi .eq c2_i32_16 c0_i32_17
  let c1_i32_18 : BitVec 32 := 1#32
  let v35 : BitVec 32 := Scalar.select v34 c1_i32_18 c2_i32_16
  let v36 : BitVec 32 := Scalar.remsi arg14 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c8_i32_31 : BitVec 32 := 8#32
  let v70 : BitVec 32 := Scalar.muli v43 c8_i32_31
  let c0_i32_32 : BitVec 32 := 0#32
  let v71 : BitVec 32 := Scalar.addi v70 c0_i32_32
  let v73 : Index := Scalar.indexCast v71
  ![v72.toNat, v73.toNat]
def k0_off29 (v74 : BitVec 32) : Fin 2 → Nat :=
  let c7_i32 : BitVec 32 := 7#32
  let v75 : BitVec 32 := Scalar.shrsi v74 c7_i32
  let c382_i32 : BitVec 32 := 382#32
  let v76 : BitVec 32 := Scalar.minsi v75 c382_i32
  let c4_i32_33 : BitVec 32 := 4#32
  let v77 : BitVec 32 := Scalar.muli v76 c4_i32_33
  let v78 : Index := Scalar.indexCast v77
  let c0_34 : Index := 0#32
  ![v78.toNat, 0]

def k0_chk5 (v74 : BitVec 32) : Prop :=
  (∀ a, (k0_off29 v74) a + S8x128.size a ≤ S1536x128.size a)
theorem k0_off29_inb : ∀ (v74 : BitVec 32) (k0_hw5 : k0_chk5 v74), ∀ a, (k0_off29 v74) a + S8x128.size a ≤ S1536x128.size a := fun v74 k0_hw5 => k0_hw5

def k0_off30 (i : grid0.Coords) (k0_t8 : Fin k0_t8_loop.trips) : Fin 2 → Nat :=
  let arg0 : BitVec 32 := BitVec.ofNat 32 (i 0).val
  let c4_i32 : BitVec 32 := 4#32
  let v44 : BitVec 32 := Scalar.muli arg0 c4_i32
  let c0_i32_7 : BitVec 32 := 0#32
  let c1_i32_8 : BitVec 32 := 1#32
  let arg14 : BitVec 32 := Scf.iv c0_i32_7 c1_i32_8 k0_t8
  let c0_i32_10 : BitVec 32 := 0#32
  let v18 : BitVec 1 := Scalar.cmpi .sgt arg14 c0_i32_10
  let v19 : BitVec 32 := Scalar.extui v18
  let c0_i32_11 : BitVec 32 := 0#32
  let v20 : BitVec 1 := Scalar.cmpi .slt arg14 c0_i32_11
  let v21 : BitVec 32 := Scalar.extui v20
  let v22 : BitVec 32 := Scalar.subi v19 v21
  let c2_i32 : BitVec 32 := 2#32
  let c0_i32_12 : BitVec 32 := 0#32
  let v23 : BitVec 1 := Scalar.cmpi .sgt c2_i32 c0_i32_12
  let v24 : BitVec 32 := Scalar.extui v23
  let c0_i32_13 : BitVec 32 := 0#32
  let v25 : BitVec 1 := Scalar.cmpi .slt c2_i32 c0_i32_13
  let v26 : BitVec 32 := Scalar.extui v25
  let v27 : BitVec 32 := Scalar.subi v24 v26
  let v28 : BitVec 1 := Scalar.cmpi .ne v22 v27
  let v29 : BitVec 32 := Scalar.remsi arg14 c2_i32
  let c0_i32_14 : BitVec 32 := 0#32
  let v30 : BitVec 1 := Scalar.cmpi .ne v29 c0_i32_14
  let v31 : BitVec 1 := Scalar.andi v28 v30
  let v17 : BitVec 32 := Scalar.divsi arg14 c2_i32
  let c1_i32_15 : BitVec 32 := 1#32
  let v32 : BitVec 32 := Scalar.subi v17 c1_i32_15
  let v33 : BitVec 32 := Scalar.select v31 v32 v17
  let v45 : BitVec 32 := Scalar.addi v44 v33
  let v95 : Index := Scalar.indexCast v45
  let c2_i32_16 : BitVec 32 := 2#32
  let c0_i32_17 : BitVec 32 := 0#32
  let v34 : BitVec 1 := Scalar.cmpi .eq c2_i32_16 c0_i32_17
  let c1_i32_18 : BitVec 32 := 1#32
  let v35 : BitVec 32 := Scalar.select v34 c1_i32_18 c2_i32_16
  let v36 : BitVec 32 := Scalar.remsi arg14 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c8_i32_37 : BitVec 32 := 8#32
  let v93 : BitVec 32 := Scalar.muli v43 c8_i32_37
  let c1_i32_38 : BitVec 32 := 1#32
  let v94 : BitVec 32 := Scalar.addi v93 c1_i32_38
  let v96 : Index := Scalar.indexCast v94
  ![v95.toNat, v96.toNat]
def k0_off31 (v97 : BitVec 32) : Fin 2 → Nat :=
  let c7_i32_39 : BitVec 32 := 7#32
  let v98 : BitVec 32 := Scalar.shrsi v97 c7_i32_39
  let c382_i32_40 : BitVec 32 := 382#32
  let v99 : BitVec 32 := Scalar.minsi v98 c382_i32_40
  let c4_i32_41 : BitVec 32 := 4#32
  let v100 : BitVec 32 := Scalar.muli v99 c4_i32_41
  let v101 : Index := Scalar.indexCast v100
  let c0_42 : Index := 0#32
  ![v101.toNat, 0]

def k0_chk6 (v97 : BitVec 32) : Prop :=
  (∀ a, (k0_off31 v97) a + S8x128.size a ≤ S1536x128.size a)
theorem k0_off31_inb : ∀ (v97 : BitVec 32) (k0_hw6 : k0_chk6 v97), ∀ a, (k0_off31 v97) a + S8x128.size a ≤ S1536x128.size a := fun v97 k0_hw6 => k0_hw6

def k0_off32 (i : grid0.Coords) (k0_t8 : Fin k0_t8_loop.trips) : Fin 2 → Nat :=
  let arg0 : BitVec 32 := BitVec.ofNat 32 (i 0).val
  let c4_i32 : BitVec 32 := 4#32
  let v44 : BitVec 32 := Scalar.muli arg0 c4_i32
  let c0_i32_7 : BitVec 32 := 0#32
  let c1_i32_8 : BitVec 32 := 1#32
  let arg14 : BitVec 32 := Scf.iv c0_i32_7 c1_i32_8 k0_t8
  let c0_i32_10 : BitVec 32 := 0#32
  let v18 : BitVec 1 := Scalar.cmpi .sgt arg14 c0_i32_10
  let v19 : BitVec 32 := Scalar.extui v18
  let c0_i32_11 : BitVec 32 := 0#32
  let v20 : BitVec 1 := Scalar.cmpi .slt arg14 c0_i32_11
  let v21 : BitVec 32 := Scalar.extui v20
  let v22 : BitVec 32 := Scalar.subi v19 v21
  let c2_i32 : BitVec 32 := 2#32
  let c0_i32_12 : BitVec 32 := 0#32
  let v23 : BitVec 1 := Scalar.cmpi .sgt c2_i32 c0_i32_12
  let v24 : BitVec 32 := Scalar.extui v23
  let c0_i32_13 : BitVec 32 := 0#32
  let v25 : BitVec 1 := Scalar.cmpi .slt c2_i32 c0_i32_13
  let v26 : BitVec 32 := Scalar.extui v25
  let v27 : BitVec 32 := Scalar.subi v24 v26
  let v28 : BitVec 1 := Scalar.cmpi .ne v22 v27
  let v29 : BitVec 32 := Scalar.remsi arg14 c2_i32
  let c0_i32_14 : BitVec 32 := 0#32
  let v30 : BitVec 1 := Scalar.cmpi .ne v29 c0_i32_14
  let v31 : BitVec 1 := Scalar.andi v28 v30
  let v17 : BitVec 32 := Scalar.divsi arg14 c2_i32
  let c1_i32_15 : BitVec 32 := 1#32
  let v32 : BitVec 32 := Scalar.subi v17 c1_i32_15
  let v33 : BitVec 32 := Scalar.select v31 v32 v17
  let v45 : BitVec 32 := Scalar.addi v44 v33
  let v118 : Index := Scalar.indexCast v45
  let c2_i32_16 : BitVec 32 := 2#32
  let c0_i32_17 : BitVec 32 := 0#32
  let v34 : BitVec 1 := Scalar.cmpi .eq c2_i32_16 c0_i32_17
  let c1_i32_18 : BitVec 32 := 1#32
  let v35 : BitVec 32 := Scalar.select v34 c1_i32_18 c2_i32_16
  let v36 : BitVec 32 := Scalar.remsi arg14 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c8_i32_46 : BitVec 32 := 8#32
  let v116 : BitVec 32 := Scalar.muli v43 c8_i32_46
  let c2_i32_47 : BitVec 32 := 2#32
  let v117 : BitVec 32 := Scalar.addi v116 c2_i32_47
  let v119 : Index := Scalar.indexCast v117
  ![v118.toNat, v119.toNat]
def k0_off33 (v120 : BitVec 32) : Fin 2 → Nat :=
  let c7_i32_48 : BitVec 32 := 7#32
  let v121 : BitVec 32 := Scalar.shrsi v120 c7_i32_48
  let c382_i32_49 : BitVec 32 := 382#32
  let v122 : BitVec 32 := Scalar.minsi v121 c382_i32_49
  let c4_i32_50 : BitVec 32 := 4#32
  let v123 : BitVec 32 := Scalar.muli v122 c4_i32_50
  let v124 : Index := Scalar.indexCast v123
  let c0_51 : Index := 0#32
  ![v124.toNat, 0]

def k0_chk7 (v120 : BitVec 32) : Prop :=
  (∀ a, (k0_off33 v120) a + S8x128.size a ≤ S1536x128.size a)
theorem k0_off33_inb : ∀ (v120 : BitVec 32) (k0_hw7 : k0_chk7 v120), ∀ a, (k0_off33 v120) a + S8x128.size a ≤ S1536x128.size a := fun v120 k0_hw7 => k0_hw7

def k0_off34 (i : grid0.Coords) (k0_t8 : Fin k0_t8_loop.trips) : Fin 2 → Nat :=
  let arg0 : BitVec 32 := BitVec.ofNat 32 (i 0).val
  let c4_i32 : BitVec 32 := 4#32
  let v44 : BitVec 32 := Scalar.muli arg0 c4_i32
  let c0_i32_7 : BitVec 32 := 0#32
  let c1_i32_8 : BitVec 32 := 1#32
  let arg14 : BitVec 32 := Scf.iv c0_i32_7 c1_i32_8 k0_t8
  let c0_i32_10 : BitVec 32 := 0#32
  let v18 : BitVec 1 := Scalar.cmpi .sgt arg14 c0_i32_10
  let v19 : BitVec 32 := Scalar.extui v18
  let c0_i32_11 : BitVec 32 := 0#32
  let v20 : BitVec 1 := Scalar.cmpi .slt arg14 c0_i32_11
  let v21 : BitVec 32 := Scalar.extui v20
  let v22 : BitVec 32 := Scalar.subi v19 v21
  let c2_i32 : BitVec 32 := 2#32
  let c0_i32_12 : BitVec 32 := 0#32
  let v23 : BitVec 1 := Scalar.cmpi .sgt c2_i32 c0_i32_12
  let v24 : BitVec 32 := Scalar.extui v23
  let c0_i32_13 : BitVec 32 := 0#32
  let v25 : BitVec 1 := Scalar.cmpi .slt c2_i32 c0_i32_13
  let v26 : BitVec 32 := Scalar.extui v25
  let v27 : BitVec 32 := Scalar.subi v24 v26
  let v28 : BitVec 1 := Scalar.cmpi .ne v22 v27
  let v29 : BitVec 32 := Scalar.remsi arg14 c2_i32
  let c0_i32_14 : BitVec 32 := 0#32
  let v30 : BitVec 1 := Scalar.cmpi .ne v29 c0_i32_14
  let v31 : BitVec 1 := Scalar.andi v28 v30
  let v17 : BitVec 32 := Scalar.divsi arg14 c2_i32
  let c1_i32_15 : BitVec 32 := 1#32
  let v32 : BitVec 32 := Scalar.subi v17 c1_i32_15
  let v33 : BitVec 32 := Scalar.select v31 v32 v17
  let v45 : BitVec 32 := Scalar.addi v44 v33
  let v141 : Index := Scalar.indexCast v45
  let c2_i32_16 : BitVec 32 := 2#32
  let c0_i32_17 : BitVec 32 := 0#32
  let v34 : BitVec 1 := Scalar.cmpi .eq c2_i32_16 c0_i32_17
  let c1_i32_18 : BitVec 32 := 1#32
  let v35 : BitVec 32 := Scalar.select v34 c1_i32_18 c2_i32_16
  let v36 : BitVec 32 := Scalar.remsi arg14 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c8_i32_55 : BitVec 32 := 8#32
  let v139 : BitVec 32 := Scalar.muli v43 c8_i32_55
  let c3_i32 : BitVec 32 := 3#32
  let v140 : BitVec 32 := Scalar.addi v139 c3_i32
  let v142 : Index := Scalar.indexCast v140
  ![v141.toNat, v142.toNat]
def k0_off35 (v143 : BitVec 32) : Fin 2 → Nat :=
  let c7_i32_56 : BitVec 32 := 7#32
  let v144 : BitVec 32 := Scalar.shrsi v143 c7_i32_56
  let c382_i32_57 : BitVec 32 := 382#32
  let v145 : BitVec 32 := Scalar.minsi v144 c382_i32_57
  let c4_i32_58 : BitVec 32 := 4#32
  let v146 : BitVec 32 := Scalar.muli v145 c4_i32_58
  let v147 : Index := Scalar.indexCast v146
  let c0_59 : Index := 0#32
  ![v147.toNat, 0]

def k0_chk8 (v143 : BitVec 32) : Prop :=
  (∀ a, (k0_off35 v143) a + S8x128.size a ≤ S1536x128.size a)
theorem k0_off35_inb : ∀ (v143 : BitVec 32) (k0_hw8 : k0_chk8 v143), ∀ a, (k0_off35 v143) a + S8x128.size a ≤ S1536x128.size a := fun v143 k0_hw8 => k0_hw8

def k0_off36 (i : grid0.Coords) (k0_t8 : Fin k0_t8_loop.trips) : Fin 2 → Nat :=
  let arg0 : BitVec 32 := BitVec.ofNat 32 (i 0).val
  let c4_i32 : BitVec 32 := 4#32
  let v44 : BitVec 32 := Scalar.muli arg0 c4_i32
  let c0_i32_7 : BitVec 32 := 0#32
  let c1_i32_8 : BitVec 32 := 1#32
  let arg14 : BitVec 32 := Scf.iv c0_i32_7 c1_i32_8 k0_t8
  let c0_i32_10 : BitVec 32 := 0#32
  let v18 : BitVec 1 := Scalar.cmpi .sgt arg14 c0_i32_10
  let v19 : BitVec 32 := Scalar.extui v18
  let c0_i32_11 : BitVec 32 := 0#32
  let v20 : BitVec 1 := Scalar.cmpi .slt arg14 c0_i32_11
  let v21 : BitVec 32 := Scalar.extui v20
  let v22 : BitVec 32 := Scalar.subi v19 v21
  let c2_i32 : BitVec 32 := 2#32
  let c0_i32_12 : BitVec 32 := 0#32
  let v23 : BitVec 1 := Scalar.cmpi .sgt c2_i32 c0_i32_12
  let v24 : BitVec 32 := Scalar.extui v23
  let c0_i32_13 : BitVec 32 := 0#32
  let v25 : BitVec 1 := Scalar.cmpi .slt c2_i32 c0_i32_13
  let v26 : BitVec 32 := Scalar.extui v25
  let v27 : BitVec 32 := Scalar.subi v24 v26
  let v28 : BitVec 1 := Scalar.cmpi .ne v22 v27
  let v29 : BitVec 32 := Scalar.remsi arg14 c2_i32
  let c0_i32_14 : BitVec 32 := 0#32
  let v30 : BitVec 1 := Scalar.cmpi .ne v29 c0_i32_14
  let v31 : BitVec 1 := Scalar.andi v28 v30
  let v17 : BitVec 32 := Scalar.divsi arg14 c2_i32
  let c1_i32_15 : BitVec 32 := 1#32
  let v32 : BitVec 32 := Scalar.subi v17 c1_i32_15
  let v33 : BitVec 32 := Scalar.select v31 v32 v17
  let v45 : BitVec 32 := Scalar.addi v44 v33
  let v164 : Index := Scalar.indexCast v45
  let c2_i32_16 : BitVec 32 := 2#32
  let c0_i32_17 : BitVec 32 := 0#32
  let v34 : BitVec 1 := Scalar.cmpi .eq c2_i32_16 c0_i32_17
  let c1_i32_18 : BitVec 32 := 1#32
  let v35 : BitVec 32 := Scalar.select v34 c1_i32_18 c2_i32_16
  let v36 : BitVec 32 := Scalar.remsi arg14 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c8_i32_63 : BitVec 32 := 8#32
  let v162 : BitVec 32 := Scalar.muli v43 c8_i32_63
  let c4_i32_64 : BitVec 32 := 4#32
  let v163 : BitVec 32 := Scalar.addi v162 c4_i32_64
  let v165 : Index := Scalar.indexCast v163
  ![v164.toNat, v165.toNat]
def k0_off37 (v166 : BitVec 32) : Fin 2 → Nat :=
  let c7_i32_65 : BitVec 32 := 7#32
  let v167 : BitVec 32 := Scalar.shrsi v166 c7_i32_65
  let c382_i32_66 : BitVec 32 := 382#32
  let v168 : BitVec 32 := Scalar.minsi v167 c382_i32_66
  let c4_i32_67 : BitVec 32 := 4#32
  let v169 : BitVec 32 := Scalar.muli v168 c4_i32_67
  let v170 : Index := Scalar.indexCast v169
  let c0_68 : Index := 0#32
  ![v170.toNat, 0]

def k0_chk9 (v166 : BitVec 32) : Prop :=
  (∀ a, (k0_off37 v166) a + S8x128.size a ≤ S1536x128.size a)
theorem k0_off37_inb : ∀ (v166 : BitVec 32) (k0_hw9 : k0_chk9 v166), ∀ a, (k0_off37 v166) a + S8x128.size a ≤ S1536x128.size a := fun v166 k0_hw9 => k0_hw9

def k0_off38 (i : grid0.Coords) (k0_t8 : Fin k0_t8_loop.trips) : Fin 2 → Nat :=
  let arg0 : BitVec 32 := BitVec.ofNat 32 (i 0).val
  let c4_i32 : BitVec 32 := 4#32
  let v44 : BitVec 32 := Scalar.muli arg0 c4_i32
  let c0_i32_7 : BitVec 32 := 0#32
  let c1_i32_8 : BitVec 32 := 1#32
  let arg14 : BitVec 32 := Scf.iv c0_i32_7 c1_i32_8 k0_t8
  let c0_i32_10 : BitVec 32 := 0#32
  let v18 : BitVec 1 := Scalar.cmpi .sgt arg14 c0_i32_10
  let v19 : BitVec 32 := Scalar.extui v18
  let c0_i32_11 : BitVec 32 := 0#32
  let v20 : BitVec 1 := Scalar.cmpi .slt arg14 c0_i32_11
  let v21 : BitVec 32 := Scalar.extui v20
  let v22 : BitVec 32 := Scalar.subi v19 v21
  let c2_i32 : BitVec 32 := 2#32
  let c0_i32_12 : BitVec 32 := 0#32
  let v23 : BitVec 1 := Scalar.cmpi .sgt c2_i32 c0_i32_12
  let v24 : BitVec 32 := Scalar.extui v23
  let c0_i32_13 : BitVec 32 := 0#32
  let v25 : BitVec 1 := Scalar.cmpi .slt c2_i32 c0_i32_13
  let v26 : BitVec 32 := Scalar.extui v25
  let v27 : BitVec 32 := Scalar.subi v24 v26
  let v28 : BitVec 1 := Scalar.cmpi .ne v22 v27
  let v29 : BitVec 32 := Scalar.remsi arg14 c2_i32
  let c0_i32_14 : BitVec 32 := 0#32
  let v30 : BitVec 1 := Scalar.cmpi .ne v29 c0_i32_14
  let v31 : BitVec 1 := Scalar.andi v28 v30
  let v17 : BitVec 32 := Scalar.divsi arg14 c2_i32
  let c1_i32_15 : BitVec 32 := 1#32
  let v32 : BitVec 32 := Scalar.subi v17 c1_i32_15
  let v33 : BitVec 32 := Scalar.select v31 v32 v17
  let v45 : BitVec 32 := Scalar.addi v44 v33
  let v187 : Index := Scalar.indexCast v45
  let c2_i32_16 : BitVec 32 := 2#32
  let c0_i32_17 : BitVec 32 := 0#32
  let v34 : BitVec 1 := Scalar.cmpi .eq c2_i32_16 c0_i32_17
  let c1_i32_18 : BitVec 32 := 1#32
  let v35 : BitVec 32 := Scalar.select v34 c1_i32_18 c2_i32_16
  let v36 : BitVec 32 := Scalar.remsi arg14 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c8_i32_72 : BitVec 32 := 8#32
  let v185 : BitVec 32 := Scalar.muli v43 c8_i32_72
  let c5_i32 : BitVec 32 := 5#32
  let v186 : BitVec 32 := Scalar.addi v185 c5_i32
  let v188 : Index := Scalar.indexCast v186
  ![v187.toNat, v188.toNat]
def k0_off39 (v189 : BitVec 32) : Fin 2 → Nat :=
  let c7_i32_73 : BitVec 32 := 7#32
  let v190 : BitVec 32 := Scalar.shrsi v189 c7_i32_73
  let c382_i32_74 : BitVec 32 := 382#32
  let v191 : BitVec 32 := Scalar.minsi v190 c382_i32_74
  let c4_i32_75 : BitVec 32 := 4#32
  let v192 : BitVec 32 := Scalar.muli v191 c4_i32_75
  let v193 : Index := Scalar.indexCast v192
  let c0_76 : Index := 0#32
  ![v193.toNat, 0]

def k0_chk10 (v189 : BitVec 32) : Prop :=
  (∀ a, (k0_off39 v189) a + S8x128.size a ≤ S1536x128.size a)
theorem k0_off39_inb : ∀ (v189 : BitVec 32) (k0_hw10 : k0_chk10 v189), ∀ a, (k0_off39 v189) a + S8x128.size a ≤ S1536x128.size a := fun v189 k0_hw10 => k0_hw10

def k0_off40 (i : grid0.Coords) (k0_t8 : Fin k0_t8_loop.trips) : Fin 2 → Nat :=
  let arg0 : BitVec 32 := BitVec.ofNat 32 (i 0).val
  let c4_i32 : BitVec 32 := 4#32
  let v44 : BitVec 32 := Scalar.muli arg0 c4_i32
  let c0_i32_7 : BitVec 32 := 0#32
  let c1_i32_8 : BitVec 32 := 1#32
  let arg14 : BitVec 32 := Scf.iv c0_i32_7 c1_i32_8 k0_t8
  let c0_i32_10 : BitVec 32 := 0#32
  let v18 : BitVec 1 := Scalar.cmpi .sgt arg14 c0_i32_10
  let v19 : BitVec 32 := Scalar.extui v18
  let c0_i32_11 : BitVec 32 := 0#32
  let v20 : BitVec 1 := Scalar.cmpi .slt arg14 c0_i32_11
  let v21 : BitVec 32 := Scalar.extui v20
  let v22 : BitVec 32 := Scalar.subi v19 v21
  let c2_i32 : BitVec 32 := 2#32
  let c0_i32_12 : BitVec 32 := 0#32
  let v23 : BitVec 1 := Scalar.cmpi .sgt c2_i32 c0_i32_12
  let v24 : BitVec 32 := Scalar.extui v23
  let c0_i32_13 : BitVec 32 := 0#32
  let v25 : BitVec 1 := Scalar.cmpi .slt c2_i32 c0_i32_13
  let v26 : BitVec 32 := Scalar.extui v25
  let v27 : BitVec 32 := Scalar.subi v24 v26
  let v28 : BitVec 1 := Scalar.cmpi .ne v22 v27
  let v29 : BitVec 32 := Scalar.remsi arg14 c2_i32
  let c0_i32_14 : BitVec 32 := 0#32
  let v30 : BitVec 1 := Scalar.cmpi .ne v29 c0_i32_14
  let v31 : BitVec 1 := Scalar.andi v28 v30
  let v17 : BitVec 32 := Scalar.divsi arg14 c2_i32
  let c1_i32_15 : BitVec 32 := 1#32
  let v32 : BitVec 32 := Scalar.subi v17 c1_i32_15
  let v33 : BitVec 32 := Scalar.select v31 v32 v17
  let v45 : BitVec 32 := Scalar.addi v44 v33
  let v210 : Index := Scalar.indexCast v45
  let c2_i32_16 : BitVec 32 := 2#32
  let c0_i32_17 : BitVec 32 := 0#32
  let v34 : BitVec 1 := Scalar.cmpi .eq c2_i32_16 c0_i32_17
  let c1_i32_18 : BitVec 32 := 1#32
  let v35 : BitVec 32 := Scalar.select v34 c1_i32_18 c2_i32_16
  let v36 : BitVec 32 := Scalar.remsi arg14 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c8_i32_80 : BitVec 32 := 8#32
  let v208 : BitVec 32 := Scalar.muli v43 c8_i32_80
  let c6_i32 : BitVec 32 := 6#32
  let v209 : BitVec 32 := Scalar.addi v208 c6_i32
  let v211 : Index := Scalar.indexCast v209
  ![v210.toNat, v211.toNat]
def k0_off41 (v212 : BitVec 32) : Fin 2 → Nat :=
  let c7_i32_81 : BitVec 32 := 7#32
  let v213 : BitVec 32 := Scalar.shrsi v212 c7_i32_81
  let c382_i32_82 : BitVec 32 := 382#32
  let v214 : BitVec 32 := Scalar.minsi v213 c382_i32_82
  let c4_i32_83 : BitVec 32 := 4#32
  let v215 : BitVec 32 := Scalar.muli v214 c4_i32_83
  let v216 : Index := Scalar.indexCast v215
  let c0_84 : Index := 0#32
  ![v216.toNat, 0]

def k0_chk11 (v212 : BitVec 32) : Prop :=
  (∀ a, (k0_off41 v212) a + S8x128.size a ≤ S1536x128.size a)
theorem k0_off41_inb : ∀ (v212 : BitVec 32) (k0_hw11 : k0_chk11 v212), ∀ a, (k0_off41 v212) a + S8x128.size a ≤ S1536x128.size a := fun v212 k0_hw11 => k0_hw11

def k0_off42 (i : grid0.Coords) (k0_t8 : Fin k0_t8_loop.trips) : Fin 2 → Nat :=
  let arg0 : BitVec 32 := BitVec.ofNat 32 (i 0).val
  let c4_i32 : BitVec 32 := 4#32
  let v44 : BitVec 32 := Scalar.muli arg0 c4_i32
  let c0_i32_7 : BitVec 32 := 0#32
  let c1_i32_8 : BitVec 32 := 1#32
  let arg14 : BitVec 32 := Scf.iv c0_i32_7 c1_i32_8 k0_t8
  let c0_i32_10 : BitVec 32 := 0#32
  let v18 : BitVec 1 := Scalar.cmpi .sgt arg14 c0_i32_10
  let v19 : BitVec 32 := Scalar.extui v18
  let c0_i32_11 : BitVec 32 := 0#32
  let v20 : BitVec 1 := Scalar.cmpi .slt arg14 c0_i32_11
  let v21 : BitVec 32 := Scalar.extui v20
  let v22 : BitVec 32 := Scalar.subi v19 v21
  let c2_i32 : BitVec 32 := 2#32
  let c0_i32_12 : BitVec 32 := 0#32
  let v23 : BitVec 1 := Scalar.cmpi .sgt c2_i32 c0_i32_12
  let v24 : BitVec 32 := Scalar.extui v23
  let c0_i32_13 : BitVec 32 := 0#32
  let v25 : BitVec 1 := Scalar.cmpi .slt c2_i32 c0_i32_13
  let v26 : BitVec 32 := Scalar.extui v25
  let v27 : BitVec 32 := Scalar.subi v24 v26
  let v28 : BitVec 1 := Scalar.cmpi .ne v22 v27
  let v29 : BitVec 32 := Scalar.remsi arg14 c2_i32
  let c0_i32_14 : BitVec 32 := 0#32
  let v30 : BitVec 1 := Scalar.cmpi .ne v29 c0_i32_14
  let v31 : BitVec 1 := Scalar.andi v28 v30
  let v17 : BitVec 32 := Scalar.divsi arg14 c2_i32
  let c1_i32_15 : BitVec 32 := 1#32
  let v32 : BitVec 32 := Scalar.subi v17 c1_i32_15
  let v33 : BitVec 32 := Scalar.select v31 v32 v17
  let v45 : BitVec 32 := Scalar.addi v44 v33
  let v233 : Index := Scalar.indexCast v45
  let c2_i32_16 : BitVec 32 := 2#32
  let c0_i32_17 : BitVec 32 := 0#32
  let v34 : BitVec 1 := Scalar.cmpi .eq c2_i32_16 c0_i32_17
  let c1_i32_18 : BitVec 32 := 1#32
  let v35 : BitVec 32 := Scalar.select v34 c1_i32_18 c2_i32_16
  let v36 : BitVec 32 := Scalar.remsi arg14 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c8_i32_88 : BitVec 32 := 8#32
  let v231 : BitVec 32 := Scalar.muli v43 c8_i32_88
  let c7_i32_89 : BitVec 32 := 7#32
  let v232 : BitVec 32 := Scalar.addi v231 c7_i32_89
  let v234 : Index := Scalar.indexCast v232
  ![v233.toNat, v234.toNat]
def k0_off43 (v235 : BitVec 32) : Fin 2 → Nat :=
  let c7_i32_90 : BitVec 32 := 7#32
  let v236 : BitVec 32 := Scalar.shrsi v235 c7_i32_90
  let c382_i32_91 : BitVec 32 := 382#32
  let v237 : BitVec 32 := Scalar.minsi v236 c382_i32_91
  let c4_i32_92 : BitVec 32 := 4#32
  let v238 : BitVec 32 := Scalar.muli v237 c4_i32_92
  let v239 : Index := Scalar.indexCast v238
  let c0_93 : Index := 0#32
  ![v239.toNat, 0]

def k0_chk12 (v235 : BitVec 32) : Prop :=
  (∀ a, (k0_off43 v235) a + S8x128.size a ≤ S1536x128.size a)
theorem k0_off43_inb : ∀ (v235 : BitVec 32) (k0_hw12 : k0_chk12 v235), ∀ a, (k0_off43 v235) a + S8x128.size a ≤ S1536x128.size a := fun v235 k0_hw12 => k0_hw12

def k0_mult13 (k0_t8 : Fin k0_t8_loop.trips) : BitVec 32 :=
  let c0_i32_7 : BitVec 32 := 0#32
  let c1_i32_8 : BitVec 32 := 1#32
  let arg14 : BitVec 32 := Scf.iv c0_i32_7 c1_i32_8 k0_t8
  let c64_i32 : BitVec 32 := 64#32
  let v312 : BitVec 32 := Scalar.muli arg14 c64_i32
  v312
def k0_off44 (k0_t8 : Fin k0_t8_loop.trips) : Fin 2 → Nat :=
  let c0_i32_7 : BitVec 32 := 0#32
  let c1_i32_8 : BitVec 32 := 1#32
  let arg14 : BitVec 32 := Scf.iv c0_i32_7 c1_i32_8 k0_t8
  let c64_i32 : BitVec 32 := 64#32
  let v312 : BitVec 32 := Scalar.muli arg14 c64_i32
  let v313 : BitVec 32 := v312
  let v321 : Index := Scalar.indexCast v313
  let c0_116 : Index := 0#32
  ![v321.toNat, 0]
def k0_off45 (k0_t8 : Fin k0_t8_loop.trips) : Fin 2 → Nat :=
  let c0_i32_7 : BitVec 32 := 0#32
  let c1_i32_8 : BitVec 32 := 1#32
  let arg14 : BitVec 32 := Scf.iv c0_i32_7 c1_i32_8 k0_t8
  let c64_i32 : BitVec 32 := 64#32
  let v312 : BitVec 32 := Scalar.muli arg14 c64_i32
  let v313 : BitVec 32 := v312
  let v339 : Index := Scalar.indexCast v313
  let c256_124 : Index := 256#32
  ![v339.toNat, 256]
def k0_off46 (k0_t8 : Fin k0_t8_loop.trips) : Fin 2 → Nat :=
  let c0_i32_7 : BitVec 32 := 0#32
  let c1_i32_8 : BitVec 32 := 1#32
  let arg14 : BitVec 32 := Scf.iv c0_i32_7 c1_i32_8 k0_t8
  let c64_i32 : BitVec 32 := 64#32
  let v312 : BitVec 32 := Scalar.muli arg14 c64_i32
  let v313 : BitVec 32 := v312
  let v357 : Index := Scalar.indexCast v313
  let c512_132 : Index := 512#32
  ![v357.toNat, 512]
def k0_off47 (k0_t8 : Fin k0_t8_loop.trips) : Fin 2 → Nat :=
  let c0_i32_7 : BitVec 32 := 0#32
  let c1_i32_8 : BitVec 32 := 1#32
  let arg14 : BitVec 32 := Scf.iv c0_i32_7 c1_i32_8 k0_t8
  let c64_i32 : BitVec 32 := 64#32
  let v312 : BitVec 32 := Scalar.muli arg14 c64_i32
  let v313 : BitVec 32 := v312
  let v375 : Index := Scalar.indexCast v313
  let c768_140 : Index := 768#32
  ![v375.toNat, 768]
def k0_off48 (k0_t8 : Fin k0_t8_loop.trips) : Fin 2 → Nat :=
  let c0_i32_7 : BitVec 32 := 0#32
  let c1_i32_8 : BitVec 32 := 1#32
  let arg14 : BitVec 32 := Scf.iv c0_i32_7 c1_i32_8 k0_t8
  let c64_i32 : BitVec 32 := 64#32
  let v312 : BitVec 32 := Scalar.muli arg14 c64_i32
  let v313 : BitVec 32 := v312
  let v393 : Index := Scalar.indexCast v313
  let c1024_148 : Index := 1024#32
  ![v393.toNat, 1024]
def k0_off49 (k0_t8 : Fin k0_t8_loop.trips) : Fin 2 → Nat :=
  let c0_i32_7 : BitVec 32 := 0#32
  let c1_i32_8 : BitVec 32 := 1#32
  let arg14 : BitVec 32 := Scf.iv c0_i32_7 c1_i32_8 k0_t8
  let c64_i32 : BitVec 32 := 64#32
  let v312 : BitVec 32 := Scalar.muli arg14 c64_i32
  let v313 : BitVec 32 := v312
  let v411 : Index := Scalar.indexCast v313
  let c1280_156 : Index := 1280#32
  ![v411.toNat, 1280]
def k0_off50 (k0_t8 : Fin k0_t8_loop.trips) : Fin 2 → Nat :=
  let c0_i32_7 : BitVec 32 := 0#32
  let c1_i32_8 : BitVec 32 := 1#32
  let arg14 : BitVec 32 := Scf.iv c0_i32_7 c1_i32_8 k0_t8
  let c64_i32 : BitVec 32 := 64#32
  let v312 : BitVec 32 := Scalar.muli arg14 c64_i32
  let v313 : BitVec 32 := v312
  let v429 : Index := Scalar.indexCast v313
  let c1536_164 : Index := 1536#32
  ![v429.toNat, 1536]
def k0_off51 (k0_t8 : Fin k0_t8_loop.trips) : Fin 2 → Nat :=
  let c0_i32_7 : BitVec 32 := 0#32
  let c1_i32_8 : BitVec 32 := 1#32
  let arg14 : BitVec 32 := Scf.iv c0_i32_7 c1_i32_8 k0_t8
  let c64_i32 : BitVec 32 := 64#32
  let v312 : BitVec 32 := Scalar.muli arg14 c64_i32
  let v313 : BitVec 32 := v312
  let v447 : Index := Scalar.indexCast v313
  let c1792_172 : Index := 1792#32
  ![v447.toNat, 1792]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x4x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x49152 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S6x4096x2048 : Shape := ⟨3, ![6, 4096, 2048]⟩
abbrev S6x4096x2 : Shape := ⟨3, ![6, 4096, 2]⟩
abbrev S49152x2048 : Shape := ⟨2, ![49152, 2048]⟩
abbrev S49152x16 : Shape := ⟨2, ![49152, 16]⟩
abbrev S192x4x128 : Shape := ⟨3, ![192, 4, 128]⟩
abbrev S192x128 : Shape := ⟨2, ![192, 128]⟩
abbrev S49152 : Shape := ⟨1, ![49152]⟩
abbrev S49152x1 : Shape := ⟨2, ![49152, 1]⟩
abbrev S8 : Shape := ⟨1, ![8]⟩
abbrev S1x8 : Shape := ⟨2, ![1, 8]⟩
abbrev S49152x8 : Shape := ⟨2, ![49152, 8]⟩
abbrev S_ : Shape := ⟨0, ![]⟩
abbrev S24576x2 : Shape := ⟨2, ![24576, 2]⟩
abbrev S24576x1 : Shape := ⟨2, ![24576, 1]⟩
abbrev S24576 : Shape := ⟨1, ![24576]⟩
abbrev S24576x2048 : Shape := ⟨2, ![24576, 2048]⟩
abbrev S24576x16 : Shape := ⟨2, ![24576, 16]⟩
abbrev S24576x16x1 : Shape := ⟨3, ![24576, 16, 1]⟩
abbrev S24576x16x128 : Shape := ⟨3, ![24576, 16, 128]⟩
abbrev S6x4096x1 : Shape := ⟨3, ![6, 4096, 1]⟩
abbrev S6x4096 : Shape := ⟨2, ![6, 4096]⟩

abbrev nBuf : Space → Nat
  | .hbm => 79
  | .vmem => 8
  | .smem => 0
  | _ => 0

abbrev bufTy : (tb : Table) → Fin (tcTables nBuf tb) → BufTy
  | .hbm, ⟨0, _⟩ => ⟨S6x4096x2048, .bf16⟩
  | .hbm, ⟨1, _⟩ => ⟨S6x4096x2, .i32⟩
  | .hbm, ⟨2, _⟩ => ⟨S6x4096x2, .f32⟩
  | .hbm, ⟨3, _⟩ => ⟨S49152x2048, .fp8e4m3⟩
  | .hbm, ⟨4, _⟩ => ⟨S49152x16, .i8⟩
  | .hbm, ⟨5, _⟩ => ⟨S192x4x128, .i32⟩
  | .hbm, ⟨6, _⟩ => ⟨S192x128, .i32⟩
  | .hbm, ⟨7, _⟩ => ⟨S192x128, .i32⟩
  | .hbm, ⟨8, _⟩ => ⟨S49152, .i32⟩
  | .hbm, ⟨9, _⟩ => ⟨S49152x1, .i32⟩
  | .hbm, ⟨10, _⟩ => ⟨S8, .i32⟩
  | .hbm, ⟨11, _⟩ => ⟨S1x8, .i32⟩
  | .hbm, ⟨12, _⟩ => ⟨S49152x8, .i32⟩
  | .hbm, ⟨13, _⟩ => ⟨S49152x8, .i32⟩
  | .hbm, ⟨14, _⟩ => ⟨S49152x8, .i1⟩
  | .hbm, ⟨15, _⟩ => ⟨S49152x8, .i32⟩
  | .hbm, ⟨16, _⟩ => ⟨S_, .i32⟩
  | .hbm, ⟨17, _⟩ => ⟨S_, .i32⟩
  | .hbm, ⟨18, _⟩ => ⟨S49152x8, .i32⟩
  | .hbm, ⟨19, _⟩ => ⟨S1x8, .i32⟩
  | .hbm, ⟨20, _⟩ => ⟨S8, .i32⟩
  | .hbm, ⟨21, _⟩ => ⟨S_, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S1x8, .i32⟩
  | .hbm, ⟨26, _⟩ => ⟨S49152x8, .i32⟩
  | .hbm, ⟨27, _⟩ => ⟨S49152x8, .i32⟩
  | .hbm, ⟨28, _⟩ => ⟨S_, .i32⟩
  | .hbm, ⟨29, _⟩ => ⟨S49152x8, .i32⟩
  | .hbm, ⟨30, _⟩ => ⟨S49152x8, .i32⟩
  | .hbm, ⟨31, _⟩ => ⟨S49152x8, .i32⟩
  | .hbm, ⟨32, _⟩ => ⟨S_, .i32⟩
  | .hbm, ⟨33, _⟩ => ⟨S49152, .i32⟩
  | .hbm, ⟨34, _⟩ => ⟨S24576x2, .i32⟩
  | .hbm, ⟨35, _⟩ => ⟨S24576x1, .i32⟩
  | .hbm, ⟨36, _⟩ => ⟨S24576, .i32⟩
  | .hbm, ⟨37, _⟩ => ⟨S24576x1, .i32⟩
  | .hbm, ⟨38, _⟩ => ⟨S24576x2048, .fp8e4m3⟩
  | .hbm, ⟨39, _⟩ => ⟨S24576x1, .i32⟩
  | .hbm, ⟨40, _⟩ => ⟨S24576x16, .i8⟩
  | .hbm, ⟨41, _⟩ => ⟨S24576x16, .i32⟩
  | .hbm, ⟨42, _⟩ => ⟨S_, .i32⟩
  | .hbm, ⟨43, _⟩ => ⟨S24576x16, .i32⟩
  | .hbm, ⟨44, _⟩ => ⟨S24576x16, .i32⟩
  | .hbm, ⟨45, _⟩ => ⟨S24576x16, .f32⟩
  | .hbm, ⟨46, _⟩ => ⟨S_, .f32⟩
  | .hbm, ⟨47, _⟩ => ⟨S24576x16, .f32⟩
  | .hbm, ⟨48, _⟩ => ⟨S24576x16, .f32⟩
  | .hbm, ⟨49, _⟩ => ⟨S24576x16x1, .f32⟩
  | .hbm, ⟨50, _⟩ => ⟨S24576x16x128, .f32⟩
  | .hbm, ⟨51, _⟩ => ⟨S24576x2048, .f32⟩
  | .hbm, ⟨52, _⟩ => ⟨S6x4096x1, .f32⟩
  | .hbm, ⟨53, _⟩ => ⟨S6x4096, .f32⟩
  | .hbm, ⟨54, _⟩ => ⟨S24576x1, .f32⟩
  | .hbm, ⟨55, _⟩ => ⟨S24576x2048, .f32⟩
  | .hbm, ⟨56, _⟩ => ⟨S24576x1, .i32⟩
  | .hbm, ⟨57, _⟩ => ⟨S24576, .i32⟩
  | .hbm, ⟨58, _⟩ => ⟨S24576x1, .i32⟩
  | .hbm, ⟨59, _⟩ => ⟨S24576x2048, .fp8e4m3⟩
  | .hbm, ⟨60, _⟩ => ⟨S24576x1, .i32⟩
  | .hbm, ⟨61, _⟩ => ⟨S24576x16, .i8⟩
  | .hbm, ⟨62, _⟩ => ⟨S24576x16, .i32⟩
  | .hbm, ⟨63, _⟩ => ⟨S_, .i32⟩
  | .hbm, ⟨64, _⟩ => ⟨S24576x16, .i32⟩
  | .hbm, ⟨65, _⟩ => ⟨S24576x16, .i32⟩
  | .hbm, ⟨66, _⟩ => ⟨S24576x16, .f32⟩
  | .hbm, ⟨67, _⟩ => ⟨S_, .f32⟩
  | .hbm, ⟨68, _⟩ => ⟨S24576x16, .f32⟩
  | .hbm, ⟨69, _⟩ => ⟨S24576x16, .f32⟩
  | .hbm, ⟨70, _⟩ => ⟨S24576x16x1, .f32⟩
  | .hbm, ⟨71, _⟩ => ⟨S24576x16x128, .f32⟩
  | .hbm, ⟨72, _⟩ => ⟨S24576x2048, .f32⟩
  | .hbm, ⟨73, _⟩ => ⟨S6x4096x1, .f32⟩
  | .hbm, ⟨74, _⟩ => ⟨S6x4096, .f32⟩
  | .hbm, ⟨75, _⟩ => ⟨S24576x1, .f32⟩
  | .hbm, ⟨76, _⟩ => ⟨S24576x2048, .f32⟩
  | .hbm, ⟨77, _⟩ => ⟨S24576x2048, .bf16⟩
  | .hbm, ⟨78, _⟩ => ⟨S24576x2048, .bf16⟩
  | .local _ .vmem, ⟨0, _⟩ => ⟨S24576x2048, .bf16⟩
  | .local _ .vmem, ⟨1, _⟩ => ⟨S24576x2048, .fp8e4m3⟩
  | .local _ .vmem, ⟨2, _⟩ => ⟨S24576x2048, .fp8e4m3⟩
  | .local _ .vmem, ⟨3, _⟩ => ⟨S24576x2048, .f32⟩
  | .local _ .vmem, ⟨4, _⟩ => ⟨S24576x2048, .f32⟩
  | .local _ .vmem, ⟨5, _⟩ => ⟨S24576x2048, .f32⟩
  | .local _ .vmem, ⟨6, _⟩ => ⟨S24576x2048, .f32⟩
  | .local _ .vmem, ⟨7, _⟩ => ⟨S24576x2048, .bf16⟩
  | _, _ => ⟨S6x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_call0_c : Ref sig .tc := ⟨.hbm, 16, rfl⟩
abbrev main_call0_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_call0_c : Ref sig .tc := ⟨.hbm, 21, rfl⟩
abbrev main_call1_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call2_v0 : Ref sig .tc := ⟨.hbm, 37, rfl⟩
abbrev main_v23 : Ref sig .tc := ⟨.hbm, 38, rfl⟩
abbrev main_call3_v0 : Ref sig .tc := ⟨.hbm, 39, rfl⟩
abbrev main_v24 : Ref sig .tc := ⟨.hbm, 40, rfl⟩
abbrev main_v25 : Ref sig .tc := ⟨.hbm, 41, rfl⟩
abbrev main_c_1 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_call4_v0 : Ref sig .tc := ⟨.hbm, 58, rfl⟩
abbrev main_v40 : Ref sig .tc := ⟨.hbm, 59, rfl⟩
abbrev main_call5_v0 : Ref sig .tc := ⟨.hbm, 60, rfl⟩
abbrev main_v41 : Ref sig .tc := ⟨.hbm, 61, rfl⟩
abbrev main_v42 : Ref sig .tc := ⟨.hbm, 62, rfl⟩
abbrev main_c_2 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_3 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S24576x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Fill.lean ====
/-
  Indices by their coordinates, where a unit-stride rectangle puts them, and what a store over a window leaves at one.
-/
module

public import Idealize.ShloMosaic.Lib.VecWindow

@[expose] public section

namespace Cert.Fill

open Idealize.ShloMosaic

/-- The index of row `r`, column `k`. -/
def mk2 (R K : ℕ) [NeZero R] [NeZero K] (r k : ℕ) : Shape.Idx ⟨2, ![R, K]⟩ := fun a => ⟨(![r, k] a) % (![R, K] a), by
  fin_cases a
  · exact Nat.mod_lt _ (Nat.pos_of_ne_zero (NeZero.ne R))
  · exact Nat.mod_lt _ (Nat.pos_of_ne_zero (NeZero.ne K))⟩

variable {R K : ℕ} [NeZero R] [NeZero K]

theorem mk2_eq {r k : ℕ} (x : Shape.Idx ⟨2, ![R, K]⟩) (h0 : r = (x 0).val) (h1 : k = (x 1).val) : mk2 R K r k = x := by
  funext a
  apply Fin.ext
  fin_cases a
  · show r % R = (x 0).val
    rw [h0]; exact Nat.mod_eq_of_lt (x 0).isLt
  · show k % K = (x 1).val
    rw [h1]; exact Nat.mod_eq_of_lt (x 1).isLt

theorem mk2_0 {r k : ℕ} (h : r < R) : ((mk2 R K r k) 0).val = r := Nat.mod_eq_of_lt h
theorem mk2_1 {r k : ℕ} (h : k < K) : ((mk2 R K r k) 1).val = k := Nat.mod_eq_of_lt h

theorem emb2 {off size : Fin 2 → ℕ} {inb} (r k : ℕ) (h : off = ![r, k])
    (y : (Rect.unit (s := ⟨2, ![R, K]⟩) off size inb).shape.Idx) :
    (Rect.unit (s := ⟨2, ![R, K]⟩) off size inb).emb y = mk2 R K (r + (y 0).val) (k + (y 1).val) := by
  subst h
  refine (mk2_eq _ ?_ ?_).symm
  · show r + (y 0).val = r + 1 * (y 0).val
    omega
  · show k + (y 1).val = k + 1 * (y 1).val
    omega

variable {s : Shape} {α : Type}

theorem put_in {X : s.Idx → α} {off size : Fin s.rank → ℕ} {w : ((a : Fin s.rank) → Fin (size a)) → α} {x : s.Idx}
    (h : ∀ a, off a ≤ (x a).val ∧ (x a).val < off a + size a) (y : (a : Fin s.rank) → Fin (size a))
    (hy : ∀ a, (y a).val = (x a).val - off a) : VecWindow.put X off size w x = w y := by
  unfold VecWindow.put
  rw [dif_pos h]
  congr 1
  funext a
  exact Fin.ext (hy a).symm

theorem put_out {X : s.Idx → α} {off size : Fin s.rank → ℕ} {w : ((a : Fin s.rank) → Fin (size a)) → α} {x : s.Idx}
    (a : Fin s.rank) (h : (x a).val < off a ∨ off a + size a ≤ (x a).val) : VecWindow.put X off size w x = X x := by
  unfold VecWindow.put
  rw [dif_neg]
  intro g; have := g a; omega

end Cert.Fill
-- ==== Proof.Rules.lean ====
/-
  A buffer held by values: the elements of a memref at the indices `S`, holding what `X` says there. The rules for one
  load, one store, one word of scalar memory, one assumed side condition and one transfer of a batch, each over a
  single operation, for programs taken apart at their binds.
-/
module

public import Idealize.ShloMosaic.Lib.Batch
public import Idealize.ShloMosaic.Lib.Memref
public import Idealize.ShloMosaic.Lib.VecWindow
public import Idealize.ShloMosaic.Lib.Scf

@[expose] public section

noncomputable section

namespace Cert.Held

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} [∀ e, Nonempty (Val e)]
variable {Name : Type} [DecidableEq Name] {U : Type} [URA U] {Lvl : Type}

local notation "𝕄" => MT nD τ sig Ix Val Name U Lvl

/-- The elements of `m` at the indices `S`, at share `q`, holding `X`. -/
def held (c : Thread nD τ) {sp : Space} {s : Shape} {e : EltTy} (m : Memref sig c.2.kind sp s e) (S : Finset s.Idx)
    (q : PosShare TreeShare) (X : s.Idx → Val e) : sProp 𝕄 :=
  m.view.loc c ↦[m.view.setOn S]{q} m.view.rep X

section Facts

variable (c : Thread nD τ) {sp : Space} {s : Shape} {e : EltTy} (m : Memref sig c.2.kind sp s e)

theorem rep_congr {S : Finset s.Idx} {X Y : s.Idx → Val e} (h : ∀ x ∈ S, X x = Y x) :
    ∀ i ∈ m.view.setOn S, m.view.rep X i = m.view.rep Y i := by
  intro i hi
  obtain ⟨x, hx, rfl⟩ := Finset.mem_map.mp hi
  rw [View.rep_emb, View.rep_emb, h x hx]

theorem held_congr {S : Finset s.Idx} {q : PosShare TreeShare} {X Y : s.Idx → Val e} (h : ∀ x ∈ S, X x = Y x) :
    (held c m S q X : sProp 𝕄) = held c m S q Y :=
  pointsTo_congr (rep_congr c m h)

/-- Whatever the memref's elements hold, they hold what the memref reads. -/
theorem held_of (g : Buf Val (m.view.loc c)) (q : PosShare TreeShare) :
    (m.view.loc c ↦[m.view.set]{q} g : sProp 𝕄) ⊢ held c m Finset.univ q (m.view.read Val g) := by
  unfold held
  exact Entails.of_eq (pointsTo_congr fun i hi => by
    obtain ⟨x, -, rfl⟩ := Finset.mem_map.mp hi
    rw [View.rep_emb, View.read_apply, cast_cast, cast_eq])

theorem held_union {S T : Finset s.Idx} (h : Disjoint S T) {q : PosShare TreeShare} {X : s.Idx → Val e} :
    (held c m (S ∪ T) q X : sProp 𝕄) ⊣⊢ iprop(held c m S q X ∗ held c m T q X) := by
  unfold held
  rw [show m.view.setOn (S ∪ T) = m.view.setOn S ∪ m.view.setOn T from Finset.map_union ..]
  exact pointsTo_union ((Finset.disjoint_map _).mpr h)

theorem held_empty {q : PosShare TreeShare} {X : s.Idx → Val e} : (held c m ∅ q X : sProp 𝕄) = BIBase.emp := by
  unfold held
  rw [show m.view.setOn ∅ = ∅ from Finset.map_empty _, pointsTo_empty]

instance held_storable (S : Finset s.Idx) (q : PosShare TreeShare) (X : s.Idx → Val e) :
    BI.Storable (upEmb : UEmb _ 𝕄) (held c m S q X) := by
  unfold held; infer_instance

theorem held_of_owns (q : PosShare TreeShare) (X : s.Idx → Val e) : (owns c m q X : sProp 𝕄) ⊢ held c m Finset.univ q X := by
  unfold owns
  iintro ⟨%f, %h, H⟩
  subst h
  iapply (held_of c m f q) $$ H

theorem owns_of_held (q : PosShare TreeShare) (X : s.Idx → Val e) : (held c m Finset.univ q X : sProp 𝕄) ⊢ owns c m q X := by
  unfold owns held
  iintro H
  iexists m.view.rep X
  isplitr
  · ipureintro; exact View.read_rep m.view X
  · iexact H

/-- Disjoint pieces of one contents are the whole of it. -/
theorem held_pieces {I : Type} [DecidableEq I] (K : Finset I) {S : I → Finset s.Idx}
    (h : ∀ i ∈ K, ∀ j ∈ K, i ≠ j → Disjoint (S i) (S j)) {q : PosShare TreeShare} {X : s.Idx → Val e} :
    (bigSep K (fun i => held c m (S i) q X) : sProp 𝕄) ⊢ held c m (K.biUnion S) q X := by
  induction K using Finset.induction_on with
  | empty =>
    rw [Finset.biUnion_empty, held_empty, bigSep_empty]; exact Entails.of_eq rfl
  | insert i K hi ih =>
    rw [bigSep_insert hi, Finset.biUnion_insert]
    show iprop(held c m (S i) q X ∗ bigSep K (fun i => held c m (S i) q X)) ⊢ held c m (S i ∪ K.biUnion S) q X
    iintro ⟨H1, H2⟩
    iapply (held_union c m ?_).2
    · rw [Finset.disjoint_biUnion_right]
      intro j hj
      exact h i (Finset.mem_insert_self ..) j (Finset.mem_insert_of_mem hj) (fun e => hi (e ▸ hj))
    isplitl [H1]; · iexact H1
    iapply (ih fun i hi j hj => h i (Finset.mem_insert_of_mem hi) j (Finset.mem_insert_of_mem hj)) $$ H2

end Facts

section Rules

variable [Preorder Lvl] {Λ : Labels} {defs : Defs nD τ sig Val Λ} (𝒱 : Variants) (c : Thread nD τ) (bd : Option 𝒱.V)
variable (E : Set Name) {s : Shape} {e : EltTy}

theorem wp_load {cs : CoreSpace} {m : Memref sig c.2.kind cs s e} {r : Rect s} {hl : m.view.LoadsAt r}
    {S : Finset s.Idx} {q : PosShare TreeShare} {X : s.Idx → Val e} (hS : r.set ⊆ S)
    {Q : (r.shape.Idx → Val e) → sProp 𝕄} :
    (held c m S q X : sProp 𝕄)
      ⊢ iprop((held c m S q X -∗ Q (fun y => X (r.emb y)))
        -∗ wp frame (wpE defs 𝒱 c bd) E (Prog.lift (.load m r hl)) Q) := by
  unfold held
  have h1 : (m.access r).set ⊆ m.view.setOn S := by
    rw [View.set_slice]; exact Finset.map_subset_map.mpr hS
  have h2 : (m.access r).read Val (m.view.rep X) = fun y => X (r.emb y) := by
    funext y; exact congrFun (View.read_rep m.view X) (r.emb y)
  iintro H K
  iapply (wp_load_rect 𝒱 c bd E (m := m) (r := r) h1) $$ H
  iintro H
  rw [h2]
  rw [wp_ret]
  imodintro
  iapply K; iexact H

theorem wp_word {m : Memref sig c.2.kind .smem s e} {r : Rect s} {h1 : r.shape.numel = 1} {hp : e.packing = 1}
    {S : Finset s.Idx} {q : PosShare TreeShare} {X : s.Idx → Val e} (hS : r.set ⊆ S) {Q : Val e → sProp 𝕄} :
    (held c m S q X : sProp 𝕄)
      ⊢ iprop((held c m S q X -∗ Q (X (r.emb (Shape.Idx.first (h1.symm ▸ Nat.one_pos)))))
        -∗ wp frame (wpE defs 𝒱 c bd) E (smemLoad m r h1 hp) Q) := by
  unfold held
  have h1' : (m.access r).set ⊆ m.view.setOn S := by
    rw [View.set_slice]; exact Finset.map_subset_map.mpr hS
  have h2 : ∀ y, (m.access r).read Val (m.view.rep X) y = X (r.emb y) := by
    intro y; exact congrFun (View.read_rep m.view X) (r.emb y)
  iintro H K
  unfold smemLoad
  iapply (wp_smemLoadElt 𝒱 c bd E (m := m) (r := r) h1') $$ H
  iintro H
  rw [h2]
  rw [wp_ret]
  imodintro
  iapply K; iexact H

theorem wp_store {cs : CoreSpace} {m : Memref sig c.2.kind cs s e} {off size : Fin s.rank → ℕ}
    {inb : ∀ a, off a + size a ≤ s.size a} {w : (Rect.unit off size inb).shape.Idx → Val e}
    {hx : (m.access (Rect.unit off size inb)).Stores Finset.univ}
    {hm : (Finset.univ : Finset (Rect.unit off size inb).shape.Idx) = Finset.univ ∨ ∀ a, (Rect.unit off size inb).stride a = 1}
    {X : s.Idx → Val e} {Q : PUnit → sProp 𝕄} :
    (held c m Finset.univ fullShare X : sProp 𝕄)
      ⊢ iprop((held c m Finset.univ fullShare (VecWindow.put X off size w) -∗ Q ⟨⟩)
        -∗ wp frame (wpE defs 𝒱 c bd) E (Prog.lift (.store m (Rect.unit off size inb) w Finset.univ hx hm)) Q) := by
  iintro H K
  iapply (Idealize.ShloMosaic.wp_store 𝒱 c bd E (S := m.view.setOn Finset.univ) (f := m.view.rep X) ?_) $$ [H]
  · rw [show (m.access (Rect.unit off size inb)).setOn Finset.univ = (m.access (Rect.unit off size inb)).set from rfl,
      View.set_slice]
    exact Finset.map_subset_map.mpr (Finset.subset_univ _)
  · unfold held; iexact H
  iintro H
  rw [wp_ret]
  imodintro
  iapply K
  have h0 : ((m.access (Rect.unit off size inb)).loc c ↦[m.view.setOn Finset.univ]{fullShare}
      (m.access (Rect.unit off size inb)).write Val (m.view.rep X) w Finset.univ : sProp 𝕄)
      ⊢ held c m Finset.univ fullShare (m.view.read Val
        ((m.access (Rect.unit off size inb)).write Val (m.view.rep X) w Finset.univ)) :=
    held_of c m _ fullShare
  ihave H := h0 $$ H
  have h3 : m.view.read Val ((m.access (Rect.unit off size inb)).write Val (m.view.rep X) w Finset.univ)
      = VecWindow.put X off size w := View.read_writes_rep_unit m.view X inb w rfl
  rw [h3]; iexact H

theorem wp_assume {P : Prop} {d : Decidable P} (h : P) {Q : PLift P → sProp 𝕄} :
    Q ⟨h⟩ ⊢ wp frame (wpE defs 𝒱 c bd) E (Prog.lift (.assume P d)) Q := by
  iintro H
  iapply (Idealize.ShloMosaic.wp_assume 𝒱 c bd E h)
  rw [wp_ret]
  imodintro; iexact H

open Transfers in
/-- One transfer of a batch: from a rectangle of `m'`, held at any share, into a rectangle of `m`. Half of the source's
    share goes with the transfer. -/
theorem wp_issue (EC : UEmb Counters 𝕄) [Infinite Name] [EC.LandsIn (upEmb : UEmb _ 𝕄)] {sp sp' : Space} {n : ℕ}
    {d d' size : Fin n → ℕ} {m' : Memref sig c.2.kind sp' ⟨n, d'⟩ e} {m : Memref sig c.2.kind sp ⟨n, d⟩ e}
    {off off' : Fin n → ℕ} {inb : ∀ a, off a + size a ≤ d a} {inb' : ∀ a, off' a + size a ≤ d' a}
    {h h'} {sem : DmaSem sig}
    {hsrc : (m'.slice (Rect.unit (s := ⟨n, d'⟩) off' size inb') h').view.WordExact}
    {hdst : (m.slice (Rect.unit (s := ⟨n, d⟩) off size inb) h).view.WordExact}
    {hsem : DmaTarget.Typed (nD := nD) sp' (.dma sem) (.here (m.slice (Rect.unit (s := ⟨n, d⟩) off size inb) h))}
    {T : ℕ} {D : Fin T → sProp 𝕄} {j : ℕ} (ι : Ix) (N : ℕ)
    (hN : (m.slice (Rect.unit (s := ⟨n, d⟩) off size inb) h).view.dmaCredit = N) (hj : j < T)
    {X Z : Shape.Idx ⟨n, d⟩ → Val e} {Y : Shape.Idx ⟨n, d'⟩ → Val e}
    (hZ : ∀ y, Z ((Rect.unit (s := ⟨n, d⟩) off size inb).emb y) = Y ((Rect.unit (s := ⟨n, d'⟩) off' size inb').emb y))
    (hD : held c m (Rect.unit (s := ⟨n, d⟩) off size inb).set fullShare Z ⊢ D ⟨j, hj⟩) {Q : PUnit → sProp 𝕄} :
    iprop((∃ q, held c m' Finset.univ q Y) ∗ held c m (Rect.unit (s := ⟨n, d⟩) off size inb).set fullShare X
        ∗ Batch EC c (.dma sem) ι N D j 0)
      ⊢ iprop(((∃ q, held c m' Finset.univ q Y) ∗ Batch EC c (.dma sem) ι N D (j + 1) 0 -∗ Q ⟨⟩)
        -∗ wp frame (wpE defs 𝒱 c bd) Set.univ (Prog.lift (.enqueueDma
          (m'.slice (Rect.unit (s := ⟨n, d'⟩) off' size inb') h')
          (.here (m.slice (Rect.unit (s := ⟨n, d⟩) off size inb) h)) (.dma sem) hsrc hdst hsem)) Q) := by
  have hset : (m.slice (Rect.unit (s := ⟨n, d⟩) off size inb) h).view.set
      = m.view.setOn (Rect.unit (s := ⟨n, d⟩) off size inb).set := View.set_slice m.view _
  have hset' : (m'.slice (Rect.unit (s := ⟨n, d'⟩) off' size inb') h').view.set
      ⊆ m'.view.setOn Finset.univ := by
    rw [show (m'.slice (Rect.unit (s := ⟨n, d'⟩) off' size inb') h').view.set = _ from View.set_slice m'.view _]
    exact Finset.map_subset_map.mpr (Finset.subset_univ _)
  iintro ⟨⟨%q, Hy⟩, Hm, HB⟩ K
  unfold held
  ihave Hy := (pointsTo_share (PosShare.mem_left_op_right q)).1 $$ Hy
  icases Hy with ⟨Hy, Hy2⟩
  ihave Hs := (pointsTo_split_subset hset').1 $$ Hy
  icases Hs with ⟨Hs, -⟩
  iapply (wp_dmaBatch EC 𝒱 c bd (src := m'.slice (Rect.unit (s := ⟨n, d'⟩) off' size inb') h')
    (dst := m.slice (Rect.unit (s := ⟨n, d⟩) off size inb) h) (via := .same) (sm := .dma sem) (D := D) (j := j) (u := 0)
    (fs := m'.view.rep Y) (fd := m.view.rep X) (q := q.left) ι N hN (le_of_eq hset) hj (Nat.zero_le _) ?_) $$ [Hs Hm HB]
  · iintro ⟨Hd, -⟩
    iapply hD
    unfold held
    have e1 : (m.view.loc c ↦[m.view.setOn (Rect.unit (s := ⟨n, d⟩) off size inb).set]{fullShare}
          ((m.slice (Rect.unit (s := ⟨n, d⟩) off size inb) h).view.write Val (m.view.rep X)
            (ReadAs.same.apply ((m'.slice (Rect.unit (s := ⟨n, d'⟩) off' size inb') h').view.read Val (m'.view.rep Y)))
            Finset.univ) : sProp 𝕄)
        = (m.view.loc c ↦[m.view.setOn (Rect.unit (s := ⟨n, d⟩) off size inb).set]{fullShare} m.view.rep Z) := by
      refine pointsTo_congr fun i hi => ?_
      obtain ⟨x, hx, rfl⟩ := Finset.mem_map.mp hi
      rw [← Rect.map_emb_univ] at hx
      obtain ⟨y, -, rfl⟩ := Finset.mem_map.mp hx
      rw [View.rep_emb]
      refine (View.write_emb_of_mem (v := (m.slice (Rect.unit (s := ⟨n, d⟩) off size inb) h).view) _ _ (Finset.mem_univ y)).trans ?_
      rw [hZ]
      have := congrFun (View.read_rep m'.view Y) ((Rect.unit (s := ⟨n, d'⟩) off' size inb').emb y)
      exact congrArg _ this
    iapply (Entails.of_eq e1)
    iexact Hd
  · isplitl [Hs]; · iexact Hs
    isplitl [Hm]; · iexact Hm
    iexact HB
  iintro HB
  rw [wp_ret]
  imodintro
  iapply K
  isplitl [Hy2]; · iexists q.right; iexact Hy2
  iexact HB

open Transfers in
/-- The wait that brings a batch to its end. -/
theorem wp_drain (EC : UEmb Counters 𝕄) [EC.LandsIn (upEmb : UEmb _ 𝕄)] {κ' : Kind} {sem : DmaSem sig} {b : Ref sig κ'}
    {hk : c.2 = .tc ∨ b.HasMemref s e} (ι : Ix) {N T : ℕ} (hN : 0 < N) (hJ : b.dmaCredit s e = N * T)
    {D : Fin T → sProp 𝕄} {W : Waits sig Ix} {Q : PUnit → sProp 𝕄} :
    iprop(Batch EC c (.dma sem) ι N D T 0 ∗ owes c 0 W)
      ⊢ iprop((bigSep Finset.univ D ∗ semVal (c, .dma sem) 0 ∗ owes c 0 (insert (SemLoc.dma sem, ι) W) -∗ Q ⟨⟩)
        -∗ wp frame (wpE defs 𝒱 c bd) Set.univ (Prog.lift (.waitDma sem b s e hk)) Q) := by
  iintro H K
  iapply (wp_waitBatchAllSized EC 𝒱 c bd ι hJ hN (Nat.zero_add _)) $$ H
  iintro H
  rw [wp_ret]
  imodintro
  iapply K; iexact H

end Rules

end Cert.Held
-- ==== Proof.Chunks.lean ====
/-
  The arithmetic of the kernel's chunk schedule, of any program: experts' rows are cut at `L s e`, the first row of
  expert `e` that step `s` uses. Step `s` loads the chunks (32 rows) `C s e`, …, `C (s+1) e - 1` of every expert
  `e`, chunk `c` into the window of 32 ring rows at `(40 e + c mod 40) · 32`.
-/
module

public import Mathlib.Algebra.BigOperators.Group.Finset.Basic
public import Mathlib.Algebra.Order.BigOperators.Group.Finset

@[expose] public section

namespace Cert.Chunks

/-- What the tables say of the cuts: they rise by at most 512 rows a step and end within the array. -/
structure Good (L : ℕ → ℕ → ℕ) : Prop where
  mono : ∀ s e, L s e ≤ L (s + 1) e
  step : ∀ s e, L (s + 1) e ≤ L s e + 512
  top : ∀ s e, L s e ≤ 49152

/-- The first chunk step `s` loads of expert `e`. -/
def C (L : ℕ → ℕ → ℕ) (s e : ℕ) : ℕ := if L s e = L 0 e then L 0 e / 32 else (L s e + 31) / 32

/-- How many chunks step `s` loads of expert `e`. -/
def n (L : ℕ → ℕ → ℕ) (s e : ℕ) : ℕ := C L (s + 1) e - C L s e

/-- How many chunks step `s` loads of the experts before `e`. -/
def P (L : ℕ → ℕ → ℕ) (s e : ℕ) : ℕ := ∑ k ∈ Finset.range e, n L s k

/-- Ring row `row` is in the window of chunk `c` of expert `e`. -/
def Win (e c row : ℕ) : Prop := (e * 40 + c % 40) * 32 ≤ row ∧ row < (e * 40 + c % 40) * 32 + 32

/-- Ring row `row` is in a window that step `s` loads, its transfer the `j`-th or later; -/
def InGe (L : ℕ → ℕ → ℕ) (s j row : ℕ) : Prop :=
  ∃ e c, e < 8 ∧ C L s e ≤ c ∧ c < C L (s + 1) e ∧ j ≤ P L s e + (c - C L s e) ∧ Win e c row
/-- its transfer the `j`-th. -/
def InAt (L : ℕ → ℕ → ℕ) (s j row : ℕ) : Prop :=
  ∃ e c, e < 8 ∧ C L s e ≤ c ∧ c < C L (s + 1) e ∧ j = P L s e + (c - C L s e) ∧ Win e c row

/-- The array row whose copy ring row `row` holds once step `s` has waited: the one in the chunk with the ring row's
    residue among the 40 from `C s e - 1` on. -/
def src (L : ℕ → ℕ → ℕ) (s row : ℕ) : ℕ :=
  (C L s (row / 1280) + (row / 32 % 40 + 1601 - C L s (row / 1280)) % 40 - 1) * 32 + row % 32

variable {L : ℕ → ℕ → ℕ} (h : Good L)
include h

theorem L_zero_le (s e : ℕ) : L 0 e ≤ L s e := by
  induction s with
  | zero => exact le_rfl
  | succ s ih => exact ih.trans (h.mono s e)

theorem C_mono (s e : ℕ) : C L s e ≤ C L (s + 1) e := by
  have h1 := h.mono s e; have h2 := L_zero_le h s e
  unfold C; split <;> split <;> omega

theorem C_step (s e : ℕ) : C L (s + 1) e ≤ C L s e + 17 := by
  have h1 := h.mono s e; have h2 := L_zero_le h s e; have h3 := h.step s e
  unfold C; split <;> split <;> omega

theorem C_zero_le (s e : ℕ) : C L 0 e ≤ C L s e := by
  have h2 := L_zero_le h s e
  unfold C; split <;> split <;> omega

theorem C_top (s e : ℕ) : C L s e ≤ 1536 := by
  have h1 := h.top s e; have h2 := L_zero_le h s e
  unfold C; split <;> omega

theorem n_add (s e : ℕ) : C L s e + n L s e = C L (s + 1) e := by
  have := C_mono h s e; unfold n; omega

theorem n_le (s e : ℕ) : n L s e ≤ 17 := by
  have := C_step h s e; unfold n; omega

omit h in
theorem P_succ (s e : ℕ) : P L s (e + 1) = P L s e + n L s e := Finset.sum_range_succ _ _

omit h in
theorem P_zero (s : ℕ) : P L s 0 = 0 := rfl

omit h in
theorem P_mono (s : ℕ) {e e' : ℕ} (he : e ≤ e') : P L s e ≤ P L s e' :=
  Finset.sum_le_sum_of_subset (Finset.range_mono he)

theorem P_le (s e : ℕ) : P L s e ≤ 17 * e := by
  induction e with
  | zero => exact le_rfl
  | succ e ih => have := n_le h s e; rw [P_succ]; omega

omit h in
theorem Win_row {e c row : ℕ} (w : Win e c row) : row / 1280 = e ∧ row / 32 % 40 = c % 40 := by
  unfold Win at w; omega

omit h in
theorem Win_inj {e c e' c' row : ℕ} (w : Win e c row) (w' : Win e' c' row) : e = e' ∧ c % 40 = c' % 40 := by
  unfold Win at w w'; omega

/-- The transfer number determines the chunk. -/
theorem job_inj {s e c e' c' : ℕ} (hc : C L s e ≤ c) (hc2 : c < C L (s + 1) e) (hc' : C L s e' ≤ c')
    (hc2' : c' < C L (s + 1) e') (hj : P L s e + (c - C L s e) = P L s e' + (c' - C L s e')) : e = e' ∧ c = c' := by
  have a := n_add h s e; have b := n_add h s e'
  have p := P_succ (L := L) s e; have p' := P_succ (L := L) s e'
  rcases Nat.lt_trichotomy e e' with lt | rfl | lt
  · have := P_mono (L := L) s (Nat.succ_le_of_lt lt); simp only [Nat.succ_eq_add_one] at this; omega
  · refine ⟨rfl, ?_⟩; omega
  · have := P_mono (L := L) s (Nat.succ_le_of_lt lt); simp only [Nat.succ_eq_add_one] at this; omega

theorem InAt_iff {s e c : ℕ} (he : e < 8) (hc : C L s e ≤ c) (hc2 : c < C L (s + 1) e) (row : ℕ) :
    InAt L s (P L s e + (c - C L s e)) row ↔ Win e c row := by
  constructor
  · rintro ⟨e', c', he', hc', hc2', hj, w⟩
    obtain ⟨rfl, rfl⟩ := job_inj h hc hc2 hc' hc2' hj; exact w
  · exact fun w => ⟨e, c, he, hc, hc2, rfl, w⟩

omit h in
theorem InGe_split (s j row : ℕ) : InGe L s j row ↔ InAt L s j row ∨ InGe L s (j + 1) row := by
  constructor
  · rintro ⟨e, c, he, hc, hc2, hj, w⟩
    rcases Nat.eq_or_lt_of_le hj with e1 | l
    · exact .inl ⟨e, c, he, hc, hc2, e1, w⟩
    · exact .inr ⟨e, c, he, hc, hc2, l, w⟩
  · rintro (⟨e, c, he, hc, hc2, hj, w⟩ | ⟨e, c, he, hc, hc2, hj, w⟩)
    · exact ⟨e, c, he, hc, hc2, hj.le, w⟩
    · exact ⟨e, c, he, hc, hc2, by omega, w⟩

/-- A ring row is in at most one of a step's windows. -/
theorem chunk_inj {s e c e' c' row : ℕ} (hc : C L s e ≤ c + 1) (hc2 : c < C L (s + 1) e) (hc' : C L s e' ≤ c' + 1)
    (hc2' : c' < C L (s + 1) e') (w : Win e c row) (w' : Win e' c' row) : e = e' ∧ c = c' := by
  obtain ⟨rfl, hm⟩ := Win_inj w w'
  have := C_step h s e
  refine ⟨rfl, ?_⟩; omega

theorem InAt_disj (s j j' row : ℕ) (a : InAt L s j row) (b : InAt L s j' row) : j = j' := by
  obtain ⟨e, c, he, hc, hc2, hj, w⟩ := a
  obtain ⟨e', c', he', hc', hc2', hj', w'⟩ := b
  obtain ⟨rfl, rfl⟩ := chunk_inj h (by omega) hc2 (by omega) hc2' w w'
  omega

theorem InAt_InGe (s j row : ℕ) (a : InAt L s j row) (b : InGe L s (j + 1) row) : False := by
  obtain ⟨e, c, he, hc, hc2, hj, w⟩ := b
  have := InAt_disj h s j _ row a ⟨e, c, he, hc, hc2, rfl, w⟩
  omega

theorem InGe_end (s row : ℕ) : ¬ InGe L s (P L s 8) row := by
  rintro ⟨e, c, he, hc, hc2, hj, w⟩
  have := P_mono (L := L) s (Nat.succ_le_of_lt he); have := P_succ (L := L) s e; have := n_add h s e
  simp only [Nat.succ_eq_add_one] at *; omega

theorem InGe_iff_InAt (s row : ℕ) : InGe L s 0 row ↔ ∃ j : Fin (P L s 8), InAt L s j.val row := by
  constructor
  · rintro ⟨e, c, he, hc, hc2, -, w⟩
    have := P_mono (L := L) s (Nat.succ_le_of_lt he); have := P_succ (L := L) s e; have := n_add h s e
    simp only [Nat.succ_eq_add_one] at *
    exact ⟨⟨P L s e + (c - C L s e), by omega⟩, e, c, he, hc, hc2, rfl, w⟩
  · rintro ⟨j, e, c, he, hc, hc2, -, w⟩; exact ⟨e, c, he, hc, hc2, Nat.zero_le _, w⟩

/-- A chunk that step `s` can read is in no window of the next step; -/
theorem not_next {s e c row : ℕ} (hc : C L s e ≤ c + 1) (hc2 : c < C L (s + 1) e) (w : Win e c row) :
    ¬ InGe L (s + 1) 0 row := by
  rintro ⟨e', c', he', hc', hc2', -, w'⟩
  obtain ⟨rfl, hm⟩ := Win_inj w w'
  have := C_step h s e; have := C_step h (s + 1) e
  omega

/-- nor is the chunk before the step's first in the step's own. -/
theorem not_own {s e c row : ℕ} (hc : c + 1 = C L s e) (w : Win e c row) : ¬ InGe L s 0 row := by
  rintro ⟨e', c', he', hc', hc2', -, w'⟩
  obtain ⟨rfl, hm⟩ := Win_inj w w'
  have := C_step h s e
  omega

theorem InGe_disj (s row : ℕ) (a : InGe L s 0 row) : ¬ InGe L (s + 1) 0 row := by
  obtain ⟨e, c, he, hc, hc2, -, w⟩ := a
  exact not_next h (by omega) hc2 w

theorem src_eq {s e c row : ℕ} (hc : C L s e ≤ c + 1) (hc2 : c < C L s e + 39) (w : Win e c row) :
    src L s row = c * 32 + (row - (e * 40 + c % 40) * 32) := by
  obtain ⟨h1, h2⟩ := Win_row w
  have h3 := C_top h s e
  unfold src; rw [h1, h2]; unfold Win at w
  have h4 : (c % 40 + 1601 - C L s e) % 40 = c + 1 - C L s e := by omega
  rw [h4]
  have h5 : row % 32 = row - (e * 40 + c % 40) * 32 := by omega
  rw [h5]; congr 1; congr 1; omega

end Cert.Chunks
-- ==== Proof.Words.lean ====
/-
  Words: the kernel's index arithmetic on words that hold small numbers, and the tables' words. `Tables base gran` is
  what the proof of the runs uses of the two index tables.
-/
module

public import Idealize.ShloMosaic.Lib.Affine
public import proofs.«01_k».proof.Proof.Chunks

@[expose] public section

namespace Cert.Words

open Idealize.ShloMosaic

/-- The word of a number. -/
abbrev w (n : ℕ) : BitVec 32 := BitVec.ofNat 32 n

theorem toNat_w {n : ℕ} (h : n < 2 ^ 32) : (w n).toNat = n := by
  rw [BitVec.toNat_ofNat]; exact Nat.mod_eq_of_lt h

theorem toInt_w {n : ℕ} (h : n < 2 ^ 31) : (w n).toInt = n := by
  rw [BitVec.toInt_eq_toNat_cond, toNat_w (by omega), if_pos (by omega)]

theorem addi_w (a b : ℕ) : Scalar.addi (w a) (w b) = w (a + b) := (BitVec.ofNat_add a b).symm

theorem muli_w (a b : ℕ) : Scalar.muli (w a) (w b) = w (a * b) := (BitVec.ofNat_mul a b).symm

theorem subi_w {a b : ℕ} (h : b ≤ a) (ha : a < 2 ^ 31) : Scalar.subi (w a) (w b) = w (a - b) := by
  apply BitVec.eq_of_toNat_eq
  show (w a - w b).toNat = _
  rw [BitVec.toNat_sub, toNat_w (by omega), toNat_w (by omega), toNat_w (by omega)]
  omega

theorem iv_w (a k : ℕ) : Scf.iv (w a) 1#32 k = w (a + k) := by
  show w a + w k * 1#32 = _
  rw [BitVec.mul_one]; exact (BitVec.ofNat_add a k).symm

theorem shrsi_w {a k : ℕ} (h : a < 2 ^ 31) (hk : k < 32) : Scalar.shrsi (w a) (w k) = w (a / 2 ^ k) := by
  show IntOp.shrsi .scalar (w a) (w k) = _
  unfold IntOp.shrsi
  have e : (w k).toNat = k := toNat_w (by omega)
  rw [e, if_pos hk, BitVec.sshiftRight', e]
  have hm : (w a).msb = false := by
    rw [BitVec.msb_eq_decide, toNat_w (by omega)]; simp; omega
  rw [BitVec.sshiftRight_eq_of_msb_false hm]
  apply BitVec.eq_of_toNat_eq
  have : a / 2 ^ k ≤ a := Nat.div_le_self _ _
  rw [BitVec.toNat_ushiftRight, toNat_w (by omega), toNat_w (by omega), Nat.shiftRight_eq_div_pow]

theorem divsi_one (x : BitVec 32) : Scalar.divsi x 1#32 = x := by
  apply BitVec.eq_of_toInt_eq
  have h : Affine.IsInt (Scalar.divsi x 1#32) x.toInt :=
    Affine.divsi_one (Affine.word x) (Affine.ofNat 1 (e := 1) (by omega)) ⟨rfl, rfl⟩
  unfold Affine.IsInt at h
  exact h

theorem select_eq {α : Type} {a b : ℕ} (ha : a < 2 ^ 31) (hb : b < 2 ^ 31) (x y : α) :
    Scalar.select (Scalar.cmpi .eq (w a) (w b)) x y = if a = b then x else y := by
  unfold Scalar.select
  by_cases h : a = b
  · rw [if_pos h, if_pos (show Scalar.cmpi .eq (w a) (w b) = 1 from Affine.eq_holds (Affine.ofNat a ⟨rfl, ha⟩) (Affine.ofNat b ⟨rfl, hb⟩) (by omega))]
  · rw [if_neg h, if_neg (show ¬ Scalar.cmpi .eq (w a) (w b) = 1 from Affine.eq_fails (Affine.ofNat a ⟨rfl, ha⟩) (Affine.ofNat b ⟨rfl, hb⟩) (by omega))]

theorem select_gt {α : Type} {a b : ℕ} (ha : a < 2 ^ 31) (hb : b < 2 ^ 31) (x y : α) :
    Scalar.select (Scalar.cmpi .sgt (w a) (w b)) x y = if b < a then x else y := by
  unfold Scalar.select
  by_cases h : b < a
  · rw [if_pos h, if_pos (show Scalar.cmpi .sgt (w a) (w b) = 1 from Affine.sgt_holds (Affine.ofNat a ⟨rfl, ha⟩) (Affine.ofNat b ⟨rfl, hb⟩) (by omega))]
  · rw [if_neg h, if_neg (show ¬ Scalar.cmpi .sgt (w a) (w b) = 1 from Affine.sgt_fails (Affine.ofNat a ⟨rfl, ha⟩) (Affine.ofNat b ⟨rfl, hb⟩) (by omega))]

theorem trips_w {a b : ℕ} (h : a ≤ b) (hb : b < 2 ^ 31) : Scf.trips (w a) (w b) 1#32 = b - a := by
  unfold Scf.trips
  rw [toInt_w (n := a) (by omega), toInt_w hb, show (1#32 : BitVec 32).toInt = 1 from rfl]
  omega

/-- The chunk a cut begins at, as the kernel computes it: of the cut `x`, the expert's first cut `f`; -/
def start (x f : BitVec 32) : BitVec 32 :=
  Scalar.select (Scalar.cmpi .eq x f) (Scalar.shrsi x 5#32) (Scalar.shrsi (Scalar.subi (Scalar.addi x 32#32) 1#32) 5#32)
/-- and the chunk after the last one of a step. -/
def stop (x y f : BitVec 32) : BitVec 32 :=
  Scalar.select (Scalar.cmpi .sgt y x) (Scalar.shrsi (Scalar.subi (Scalar.addi y 32#32) 1#32) 5#32) (start x f)

theorem start_w {x f : ℕ} (hx : x ≤ 49152) (hf : f ≤ 49152) :
    start (w x) (w f) = w (if x = f then x / 32 else (x + 31) / 32) := by
  unfold start
  rw [select_eq (by omega) (by omega), addi_w, subi_w (by omega) (by omega), shrsi_w (by omega) (by omega),
    shrsi_w (by omega) (by omega), show x + 32 - 1 = x + 31 by omega]
  split <;> rfl

theorem stop_w {x y f : ℕ} (hx : x ≤ 49152) (hy : y ≤ 49152) (hf : f ≤ x) (hxy : x ≤ y) :
    stop (w x) (w y) (w f) = w (if y = f then y / 32 else (y + 31) / 32) := by
  unfold stop
  rw [select_gt (by omega) (by omega), start_w hx (by omega), addi_w, subi_w (by omega) (by omega),
    shrsi_w (by omega) (by omega), show y + 32 - 1 = y + 31 by omega]
  by_cases h : x < y
  · rw [if_pos h, if_neg (by omega)]; rfl
  · obtain rfl : x = y := by omega
    rw [if_neg h]

/-- A chunk's ring slot among an expert's 40, as the kernel computes it. -/
theorem slot_w {c : ℕ} (hc : c ≤ 1600) :
    Scalar.subi (w c) (Scalar.muli (Scalar.shrsi (Scalar.muli (w c) 1639#32) 16#32) 40#32) = w (c % 40) := by
  rw [muli_w, shrsi_w (by omega) (by omega), muli_w, subi_w (by omega) (by omega)]
  congr 1
  omega

/-! ### The tables -/

/-- An index table. -/
abbrev Table := Shape.Idx ⟨2, ![192, 128]⟩ → BitVec 32

/-- The index of row `r`, lane `k`. -/
def ix (r k : ℕ) : Shape.Idx ⟨2, ![192, 128]⟩ := fun a => ⟨(![r, k] a) % (![192, 128] a), by
  fin_cases a <;> exact Nat.mod_lt _ (by decide)⟩

/-- The first row of expert `e` that step `s` uses. -/
def cut (base : Table) (s e : ℕ) : ℕ := if s < 48 then (base (ix (4 * s) (e % 8))).toNat else (base (ix 191 (16 + e % 8))).toNat

/-- What the runs use of the tables. -/
structure Tables (base gran : Table) : Prop where
  good : Chunks.Good (cut base)
  hi : ∀ s e, s < 48 → e < 8 → base (ix (4 * s + 3) (16 + e)) = w (cut base (s + 1) e)
  win : ∀ g k, g < 192 → k < 16 → 0 ≤ (base (ix g k)).toInt
  word : ∀ g k, g < 192 → k < 128 → k % 64 < 48 → ∃ e c o, e < 8 ∧ o < 8 ∧
    Chunks.C (cut base) (g / 4) e ≤ c + 1 ∧ Chunks.C (cut base) 0 e ≤ c ∧ c < Chunks.C (cut base) (g / 4 + 1) e ∧
    gran (ix g k) = w ((e * 40 + c % 40) * 8 + o)

namespace Tables

variable {base gran : Table} (T : Tables base gran)
include T

omit T in
theorem lo {s e : ℕ} (he : e < 8) (hs : s < 48) : base (ix (4 * s) e) = w (cut base s e) := by
  unfold cut; rw [if_pos hs, Nat.mod_eq_of_lt he]
  exact BitVec.eq_of_toNat_eq (toNat_w (BitVec.isLt _)).symm

theorem start_eq {s : ℕ} (e : ℕ) :
    start (w (cut base s e)) (w (cut base 0 e)) = w (Chunks.C (cut base) s e) := by
  rw [start_w (T.good.top _ _) (T.good.top _ _)]
  unfold Chunks.C
  split
  · rename_i h; rw [h]
  · rfl

theorem stop_eq {s : ℕ} (e : ℕ) :
    stop (w (cut base s e)) (w (cut base (s + 1) e)) (w (cut base 0 e)) = w (Chunks.C (cut base) (s + 1) e) := by
  rw [stop_w (T.good.top _ _) (T.good.top _ _) (Chunks.L_zero_le T.good s e) (T.good.mono s e)]
  unfold Chunks.C
  split
  · rename_i h; rw [h]
  · rfl

end Tables

end Cert.Words
-- ==== Proof.Kernel.Offsets.lean ====
/-
  The kernel's offsets and conditions in closed form, and the side conditions it assumes once it has read a word of an
  index table, from what the tables hold.
-/
module

public import Idealize.ShloMosaic.Lib.Affine
public import proofs.«01_k».proof.Proof.Words
public import proofs.«01_k».proof.Proof.Gen.Kernel.Skeleton

@[expose] public section

set_option maxRecDepth 100000

namespace Cert.Kernel.Run

open Idealize.ShloMosaic Cert.Words

/-! ### Steps -/

/-- The coordinates of a step. -/
def co (t : Fin 48) : grid0.Coords := fun | 0 => t

theorem coords_eq (i : grid0.Coords) : i = co (i 0) := by funext a; fin_cases a; rfl

theorem cond1_iff (i : grid0.Coords) : k0_cond1 i = 1#1 ↔ (i 0).val = 0 := by
  have : ∀ t : Fin 48, k0_cond1 (co t) = 1#1 ↔ t.val = 0 := by decide +kernel
  have e := coords_eq i; have := this (i 0); rw [← e] at this; exact this

theorem cond2_iff (i : grid0.Coords) : k0_cond2 i = 1#1 ↔ (i 0).val + 1 < 48 := by
  have : ∀ t : Fin 48, k0_cond2 (co t) = 1#1 ↔ t.val + 1 < 48 := by decide +kernel
  have e := coords_eq i; have := this (i 0); rw [← e] at this; exact this

theorem off1_eq (e : Fin k0_t1_loop.trips) : k0_off1 e = ![0, e.val] := by revert e; decide +kernel
theorem off2_eq (e : Fin k0_t1_loop.trips) : k0_off2 e = ![3, 16 + e.val] := by revert e; decide +kernel
theorem off7_eq (k : Fin k0_t4_loop.trips) : k0_off7 k = ![0, 128 * k.val] := by revert k; decide +kernel
theorem off8_eq (k : Fin k0_t4_loop.trips) : k0_off8 k = ![4 * k.val, 0] := by revert k; decide +kernel

theorem off9_eq (i : grid0.Coords) (e : Fin k0_t5_loop.trips) (h : (i 0).val + 1 < 48) :
    k0_off9 i e = ![4 * ((i 0).val + 1), e.val] := by
  have : ∀ (t : Fin 48) (e : Fin k0_t5_loop.trips), t.val + 1 < 48 → k0_off9 (co t) e = ![4 * (t.val + 1), e.val] := by
    decide +kernel
  have e' := coords_eq i; have := this (i 0) e h; rw [← e'] at this; exact this
theorem off10_eq (i : grid0.Coords) (e : Fin k0_t5_loop.trips) (h : (i 0).val + 1 < 48) :
    k0_off10 i e = ![4 * ((i 0).val + 1) + 3, 16 + e.val] := by
  have : ∀ (t : Fin 48) (e : Fin k0_t5_loop.trips), t.val + 1 < 48 → k0_off10 (co t) e = ![4 * (t.val + 1) + 3, 16 + e.val] := by
    decide +kernel
  have e' := coords_eq i; have := this (i 0) e h; rw [← e'] at this; exact this
theorem off11_eq (e : Fin k0_t5_loop.trips) : k0_off11 e = ![0, e.val] := off1_eq e

theorem off12_eq (i : grid0.Coords) : k0_off12 i = ![((i 0).val + 1) % 2] := by
  have : ∀ t : Fin 48, k0_off12 (co t) = ![(t.val + 1) % 2] := by decide +kernel
  have e := coords_eq i; have := this (i 0); rw [← e] at this; exact this
theorem off18_eq (i : grid0.Coords) : k0_off18 i = ![((i 0).val + 1) % 2] := off12_eq i
theorem off19_eq (i : grid0.Coords) : k0_off19 i = ![(i 0).val % 2] := by
  have : ∀ t : Fin 48, k0_off19 (co t) = ![t.val % 2] := by decide +kernel
  have e := coords_eq i; have := this (i 0); rw [← e] at this; exact this
theorem off20_eq (i : grid0.Coords) : k0_off20 i = ![(i 0).val % 2] := off19_eq i

theorem off23_eq (i : grid0.Coords) (b : Fin k0_t8_loop.trips) (k : Fin k0_t9_loop.trips) :
    k0_off23 i b k = ![4 * (i 0).val + b.val / 2, b.val % 2 * 64 + k.val] := by
  have h0 : ∀ (t : Fin 48) (b : Fin k0_t8_loop.trips), k0_off23 (co t) b ⟨0, by decide⟩ 0 = 4 * t.val + b.val / 2 := by
    decide +kernel
  have h1 : ∀ (b : Fin k0_t8_loop.trips) (k : Fin k0_t9_loop.trips), k0_off23 (co 0) b k 1 = b.val % 2 * 64 + k.val := by
    decide +kernel
  have e := coords_eq i
  funext a
  fin_cases a
  · have := h0 (i 0) b; rw [← e] at this; exact this
  · exact h1 b k
theorem off25_eq (k : Fin k0_t9_loop.trips) : k0_off25 k = ![4 * k.val, 0] := by revert k; decide +kernel
theorem off26_eq (b : Fin k0_t8_loop.trips) : k0_off26 b = ![b.val / 2, b.val % 2, 0] := by revert b; decide +kernel
theorem off27_eq (b : Fin k0_t8_loop.trips) : k0_off27 b = ![b.val / 2, 2 + b.val % 2, 0] := by revert b; decide +kernel
theorem off28_eq (i : grid0.Coords) (b : Fin k0_t8_loop.trips) : k0_off28 i b = ![4 * (i 0).val + b.val / 2, b.val % 2 * 8] := by
  have : ∀ (t : Fin 48) (b : Fin k0_t8_loop.trips), k0_off28 (co t) b = ![4 * t.val + b.val / 2, b.val % 2 * 8] := by
    decide +kernel
  have e := coords_eq i; have := this (i 0) b; rw [← e] at this; exact this
theorem off30_eq (i : grid0.Coords) (b : Fin k0_t8_loop.trips) : k0_off30 i b = ![4 * (i 0).val + b.val / 2, b.val % 2 * 8 + 1] := by
  have : ∀ (t : Fin 48) (b : Fin k0_t8_loop.trips), k0_off30 (co t) b = ![4 * t.val + b.val / 2, b.val % 2 * 8 + 1] := by
    decide +kernel
  have e := coords_eq i; have := this (i 0) b; rw [← e] at this; exact this
theorem off32_eq (i : grid0.Coords) (b : Fin k0_t8_loop.trips) : k0_off32 i b = ![4 * (i 0).val + b.val / 2, b.val % 2 * 8 + 2] := by
  have : ∀ (t : Fin 48) (b : Fin k0_t8_loop.trips), k0_off32 (co t) b = ![4 * t.val + b.val / 2, b.val % 2 * 8 + 2] := by
    decide +kernel
  have e := coords_eq i; have := this (i 0) b; rw [← e] at this; exact this
theorem off34_eq (i : grid0.Coords) (b : Fin k0_t8_loop.trips) : k0_off34 i b = ![4 * (i 0).val + b.val / 2, b.val % 2 * 8 + 3] := by
  have : ∀ (t : Fin 48) (b : Fin k0_t8_loop.trips), k0_off34 (co t) b = ![4 * t.val + b.val / 2, b.val % 2 * 8 + 3] := by
    decide +kernel
  have e := coords_eq i; have := this (i 0) b; rw [← e] at this; exact this
theorem off36_eq (i : grid0.Coords) (b : Fin k0_t8_loop.trips) : k0_off36 i b = ![4 * (i 0).val + b.val / 2, b.val % 2 * 8 + 4] := by
  have : ∀ (t : Fin 48) (b : Fin k0_t8_loop.trips), k0_off36 (co t) b = ![4 * t.val + b.val / 2, b.val % 2 * 8 + 4] := by
    decide +kernel
  have e := coords_eq i; have := this (i 0) b; rw [← e] at this; exact this
theorem off38_eq (i : grid0.Coords) (b : Fin k0_t8_loop.trips) : k0_off38 i b = ![4 * (i 0).val + b.val / 2, b.val % 2 * 8 + 5] := by
  have : ∀ (t : Fin 48) (b : Fin k0_t8_loop.trips), k0_off38 (co t) b = ![4 * t.val + b.val / 2, b.val % 2 * 8 + 5] := by
    decide +kernel
  have e := coords_eq i; have := this (i 0) b; rw [← e] at this; exact this
theorem off40_eq (i : grid0.Coords) (b : Fin k0_t8_loop.trips) : k0_off40 i b = ![4 * (i 0).val + b.val / 2, b.val % 2 * 8 + 6] := by
  have : ∀ (t : Fin 48) (b : Fin k0_t8_loop.trips), k0_off40 (co t) b = ![4 * t.val + b.val / 2, b.val % 2 * 8 + 6] := by
    decide +kernel
  have e := coords_eq i; have := this (i 0) b; rw [← e] at this; exact this
theorem off42_eq (i : grid0.Coords) (b : Fin k0_t8_loop.trips) : k0_off42 i b = ![4 * (i 0).val + b.val / 2, b.val % 2 * 8 + 7] := by
  have : ∀ (t : Fin 48) (b : Fin k0_t8_loop.trips), k0_off42 (co t) b = ![4 * t.val + b.val / 2, b.val % 2 * 8 + 7] := by
    decide +kernel
  have e := coords_eq i; have := this (i 0) b; rw [← e] at this; exact this
theorem off44_eq (b : Fin k0_t8_loop.trips) : k0_off44 b = ![64 * b.val, 0] := by revert b; decide +kernel
theorem off45_eq (b : Fin k0_t8_loop.trips) : k0_off45 b = ![64 * b.val, 256] := by revert b; decide +kernel
theorem off46_eq (b : Fin k0_t8_loop.trips) : k0_off46 b = ![64 * b.val, 512] := by revert b; decide +kernel
theorem off47_eq (b : Fin k0_t8_loop.trips) : k0_off47 b = ![64 * b.val, 768] := by revert b; decide +kernel
theorem off48_eq (b : Fin k0_t8_loop.trips) : k0_off48 b = ![64 * b.val, 1024] := by revert b; decide +kernel
theorem off49_eq (b : Fin k0_t8_loop.trips) : k0_off49 b = ![64 * b.val, 1280] := by revert b; decide +kernel
theorem off50_eq (b : Fin k0_t8_loop.trips) : k0_off50 b = ![64 * b.val, 1536] := by revert b; decide +kernel
theorem off51_eq (b : Fin k0_t8_loop.trips) : k0_off51 b = ![64 * b.val, 1792] := by revert b; decide +kernel

end Cert.Kernel.Run
-- ==== Proof.Kernel.Checks.lean ====
/-
  The side conditions the kernel assumes once it has read a word of an index table, from what the tables hold.
-/
module

public import proofs.«01_k».proof.Proof.Kernel.Offsets

@[expose] public section

set_option maxRecDepth 100000

namespace Cert.Kernel.Run

open Idealize.ShloMosaic Cert.Words Cert.Chunks

theorem emb_word {off : Fin 2 → ℕ} {inb} (r k : ℕ) (h : off = ![r, k])
    (p : 0 < (Rect.unit (s := S192x128) off S1x1.size inb).shape.numel) :
    (Rect.unit (s := S192x128) off S1x1.size inb).emb (Shape.Idx.first p) = ix r k := by
  subst h
  have h0 := inb 0; have h1 := inb 1
  funext a
  apply Fin.ext
  fin_cases a
  · show r + 1 * 0 = r % 192
    have : r + 1 ≤ 192 := h0
    omega
  · show k + 1 * 0 = k % 128
    have : k + 1 ≤ 128 := h1
    omega

variable {base gran : Words.Table} (T : Tables base gran)

/-- The word of the first row of expert `e` that step `s` uses. -/
abbrev cw (base : Words.Table) (s e : ℕ) : BitVec 32 := w (cut base s e)

/-! ### The loop over an expert's chunks -/

section Loop

include T

theorem loop_lb (s e : ℕ) : (k0_t2_loop (cw base s e) (cw base (s + 1) e) (cw base 0 e)).lb = w (C (cut base) s e) :=
  T.start_eq e

theorem loop_ub (s e : ℕ) : (k0_t2_loop (cw base s e) (cw base (s + 1) e) (cw base 0 e)).ub = w (C (cut base) (s + 1) e) := by
  show Scalar.addi (start (cw base s e) (cw base 0 e)) (Scalar.muli (Scalar.divsi (Scalar.subi
    (stop (cw base s e) (cw base (s + 1) e) (cw base 0 e)) (start (cw base s e) (cw base 0 e))) 1#32) 1#32) = _
  have := C_top T.good (s + 1) e
  have hm := C_mono T.good s e
  rw [T.start_eq, T.stop_eq, divsi_one, subi_w hm (by omega), muli_w, addi_w]
  congr 1; omega

theorem loop_trips (s e : ℕ) : (k0_t2_loop (cw base s e) (cw base (s + 1) e) (cw base 0 e)).trips = n (cut base) s e := by
  have := C_top T.good (s + 1) e
  show Scf.trips (k0_t2_loop (cw base s e) (cw base (s + 1) e) (cw base 0 e)).lb (k0_t2_loop (cw base s e) (cw base (s + 1) e) (cw base 0 e)).ub 1#32 = _
  rw [loop_lb T, loop_ub T, trips_w (C_mono T.good s e) (by omega)]; rfl

theorem loop_ok (s e : ℕ) : (k0_t2_loop (cw base s e) (cw base (s + 1) e) (cw base 0 e)).OK := by
  have := C_top T.good s e; have := n_le T.good s e
  refine ⟨show (0 : ℤ) < (1#32 : BitVec 32).toInt by decide, ?_⟩
  have ht : Scf.trips (k0_t2_loop (cw base s e) (cw base (s + 1) e) (cw base 0 e)).lb
    (k0_t2_loop (cw base s e) (cw base (s + 1) e) (cw base 0 e)).ub (k0_t2_loop (cw base s e) (cw base (s + 1) e) (cw base 0 e)).st = n (cut base) s e := loop_trips T s e
  rw [ht, loop_lb T, toInt_w (by omega), show (k0_t2_loop (cw base s e) (cw base (s + 1) e) (cw base 0 e)).st.toInt = 1 from rfl]
  omega

theorem rest_lb (s e : ℕ) : (k0_t3_loop (cw base s e) (cw base (s + 1) e) (cw base 0 e)).lb = w (C (cut base) (s + 1) e) :=
  loop_ub T s e

theorem rest_ub (s e : ℕ) : (k0_t3_loop (cw base s e) (cw base (s + 1) e) (cw base 0 e)).ub = w (C (cut base) (s + 1) e) := by
  show Scalar.addi (start (cw base s e) (cw base 0 e)) (Scalar.subi
    (stop (cw base s e) (cw base (s + 1) e) (cw base 0 e)) (start (cw base s e) (cw base 0 e))) = _
  have := C_top T.good (s + 1) e
  have hm := C_mono T.good s e
  rw [T.start_eq, T.stop_eq, subi_w hm (by omega), addi_w]
  congr 1; omega

theorem rest_trips (s e : ℕ) : (k0_t3_loop (cw base s e) (cw base (s + 1) e) (cw base 0 e)).trips = 0 := by
  have := C_top T.good (s + 1) e
  show Scf.trips (k0_t3_loop (cw base s e) (cw base (s + 1) e) (cw base 0 e)).lb (k0_t3_loop (cw base s e) (cw base (s + 1) e) (cw base 0 e)).ub 1#32 = _
  rw [rest_lb T, rest_ub T, trips_w le_rfl (by omega)]; omega

theorem rest_ok (s e : ℕ) : (k0_t3_loop (cw base s e) (cw base (s + 1) e) (cw base 0 e)).OK := by
  have := C_top T.good (s + 1) e
  refine ⟨show (0 : ℤ) < (1#32 : BitVec 32).toInt by decide, ?_⟩
  have ht : Scf.trips (k0_t3_loop (cw base s e) (cw base (s + 1) e) (cw base 0 e)).lb
    (k0_t3_loop (cw base s e) (cw base (s + 1) e) (cw base 0 e)).ub (k0_t3_loop (cw base s e) (cw base (s + 1) e) (cw base 0 e)).st = 0 := rest_trips T s e
  rw [ht, rest_lb T, toInt_w (by omega)]
  omega

theorem iv_eq (s e k : ℕ) : Scf.iv (start (cw base s e) (cw base 0 e)) 1#32 k = w (C (cut base) s e + k) := by
  rw [T.start_eq, iv_w]

/-- The array row a chunk's transfer begins at, -/
theorem off4_eq (s e : ℕ) (k : Fin (k0_t2_loop (cw base s e) (cw base (s + 1) e) (cw base 0 e)).trips) :
    k0_off4 _ _ _ k = ![(C (cut base) s e + k.val) * 32, 0] := by
  have hk : k.val < n (cut base) s e := Nat.lt_of_lt_of_eq k.isLt (loop_trips T s e)
  have := C_top T.good s e; have := n_le T.good s e
  show ![(Scalar.muli (Scf.iv (start (cw base s e) (cw base 0 e)) 1#32 k.val) 32#32).toNat, 0] = _
  rw [iv_eq T, muli_w, toNat_w (by omega)]

/-- and the ring row. -/
theorem off3_eq (s e : ℕ) (e' : Fin k0_t1_loop.trips) (he : e'.val = e)
    (k : Fin (k0_t2_loop (cw base s e) (cw base (s + 1) e) (cw base 0 e)).trips) :
    k0_off3 e' _ _ _ k = ![(e * 40 + (C (cut base) s e + k.val) % 40) * 32, 0] := by
  have hk : k.val < n (cut base) s e := Nat.lt_of_lt_of_eq k.isLt (loop_trips T s e)
  have := C_top T.good s e; have := n_le T.good s e
  have hb : e < 8 := he ▸ e'.isLt
  show ![(Scalar.muli (Scalar.addi (Scalar.muli (Scf.iv 0#32 1#32 e'.val) 40#32)
    (Scalar.subi (Scf.iv (start (cw base s e) (cw base 0 e)) 1#32 k.val)
      (Scalar.muli (Scalar.shrsi (Scalar.muli (Scf.iv (start (cw base s e) (cw base 0 e)) 1#32 k.val) 1639#32) 16#32) 40#32))) 32#32).toNat, 0] = _
  rw [iv_eq T, slot_w (by omega), iv_w 0, muli_w, addi_w, muli_w, toNat_w (by omega), he]
  congr 2; omega

theorem chk1_of (i : grid0.Coords) (s e : ℕ) (e' : Fin k0_t1_loop.trips) (he : e'.val = e) :
    k0_chk1 i e' (cw base s e) (cw base (s + 1) e) (cw base 0 e) := by
  have hb : e < 8 := he ▸ e'.isLt
  have lt : ∀ k : Fin (k0_t2_loop (cw base s e) (cw base (s + 1) e) (cw base 0 e)).trips, C (cut base) s e + k.val < 1536 := fun k => by
    have := Nat.lt_of_lt_of_eq k.isLt (loop_trips T s e); have := C_top T.good (s + 1) e; have := n_add T.good s e; omega
  have no : ∀ {p : Prop}, Fin (k0_t3_loop (cw base s e) (cw base (s + 1) e) (cw base 0 e)).trips → p := fun k =>
    (Nat.not_lt_zero _ (Nat.lt_of_lt_of_eq k.isLt (rest_trips T s e))).elim
  refine ⟨fun _ => loop_ok T s e, fun k _ => ?_, fun k _ => ?_, fun k _ => ?_, fun k _ => ?_, fun k _ hinb => ?_, fun k _ hinb => ?_,
    fun _ => rest_ok T s e, fun k => no k, fun k => no k, fun k => no k, fun k => no k, fun k => no k, fun k => no k⟩
  · have h := congrFun (off4_eq T s e k) 0
    have h' : (k0_mult1 _ _ _ k).toNat = (C (cut base) s e + k.val) * 32 := h
    rw [h']; exact Dvd.intro_left _ rfl
  · have h := congrFun (off3_eq T s e e' he k) 0
    have h' : (k0_mult2 e' _ _ _ k).toNat = (e * 40 + (C (cut base) s e + k.val) % 40) * 32 := h
    rw [h']; exact Dvd.intro_left _ rfl
  · rw [off3_eq T s e e' he k]
    intro a
    fin_cases a
    · show (e * 40 + (C (cut base) s e + k.val) % 40) * 32 + 32 ≤ 10240
      omega
    · show 0 + 2048 ≤ 2048
      omega
  · rw [off4_eq T s e k]
    have := lt k
    intro a
    fin_cases a
    · show (C (cut base) s e + k.val) * 32 + 32 ≤ 49152
      omega
    · show 0 + 2048 ≤ 2048
      omega
  · exact .inl (.inr ⟨show 2 ≤ 2 from le_rfl, rfl, .inl ⟨by
      show 4 ∣ k0_off4 _ _ _ k 0
      rw [off4_eq T s e k]; exact Dvd.dvd.mul_left (by decide) _, show 4 ∣ 32 by decide⟩⟩)
  · exact .inl (.inr ⟨show 2 ≤ 2 from le_rfl, rfl, .inl ⟨by
      show 4 ∣ k0_off3 e' _ _ _ k 0
      rw [off3_eq T s e e' he k]; exact Dvd.dvd.mul_left (by decide) _, show 4 ∣ 32 by decide⟩⟩)

theorem chk2_of (i : grid0.Coords) (s e : ℕ) (e' : Fin k0_t5_loop.trips) (he : e'.val = e) :
    k0_chk2 i e' (cw base s e) (cw base (s + 1) e) (cw base 0 e) := by
  have i0 : grid0.Coords := co 0
  have h := chk1_of T (co 0) s e e' he
  have h0 : k0_cond1 (co 0) = 1#1 := (cond1_iff _).2 rfl
  obtain ⟨a1, a2, a3, a4, a5, a6, a7, a8, a9, a10, a11, a12, a13, a14⟩ := h
  exact ⟨fun _ => a1 h0, fun k _ => a2 k h0, fun k _ => a3 k h0, fun k _ => a4 k h0, fun k _ => a5 k h0, fun k _ => a6 k h0,
    fun k _ => a7 k h0, fun _ => a8 h0, fun k _ => a9 k h0, fun k _ => a10 k h0, fun k _ => a11 k h0, fun k _ => a12 k h0,
    fun k _ => a13 k h0, fun k _ => a14 k h0⟩

end Loop

/-! ### The other words -/

theorem chk3_of {P : ℕ} (hP : P ≤ 136) : k0_chk3 (w P) := by
  show 32 ∣ (Scalar.muli (w P) 32#32).toNat
  rw [muli_w, toNat_w (by omega)]; exact Dvd.intro_left _ rfl

theorem off21_eq {P : ℕ} (hP : P ≤ 136) : k0_off21 (w P) = (![0, 0], ![P * 32, 2048]) := by
  show (![0, 0], ![(Scalar.muli (w P) 32#32).toNat, 2048]) = _
  rw [muli_w, toNat_w (by omega)]

theorem off24_eq {a : ℕ} (ha : a < 2560) : k0_off24 (w a) = ![a * 4, 0] := by
  show ![(Scalar.muli (w a) 4#32).toNat, 0] = _
  rw [muli_w, toNat_w (by omega)]

theorem chk4_of {a : ℕ} (ha : a < 2560) : k0_chk4 (w a) := by
  constructor
  · show 4 ∣ (Scalar.muli (w a) 4#32).toNat
    rw [muli_w, toNat_w (by omega)]; exact Dvd.intro_left _ rfl
  · rw [off24_eq ha]
    intro k
    fin_cases k
    · show a * 4 + 4 ≤ 10240
      omega
    · show 0 + 2048 ≤ 2048
      omega

/-- Eight rows of the scales that a word of a row's window names. -/
theorem off29_eq {v : BitVec 32} (hv : 0 ≤ v.toInt) : k0_off29 v = ![min (v.toNat / 128) 382 * 4, 0] := by
  have hv' : v.toNat < 2 ^ 31 := by
    rw [BitVec.toInt_eq_toNat_cond] at hv
    have := v.isLt
    split at hv <;> omega
  have hw : v = w v.toNat := BitVec.eq_of_toNat_eq (toNat_w v.isLt).symm
  generalize v.toNat = m at hw hv'
  subst hw
  show ![(Scalar.muli (Scalar.minsi (Scalar.shrsi (w m) (w 7)) 382#32) 4#32).toNat, 0] = _
  rw [shrsi_w (by omega) (by omega)]
  have : Scalar.minsi (w (m / 2 ^ 7)) (w 382) = w (min (m / 128) 382) := by
    show (if (w (m / 2 ^ 7)).slt (w 382) then w (m / 2 ^ 7) else w 382) = _
    rw [BitVec.slt_eq_decide, toInt_w (by omega), toInt_w (by omega)]
    by_cases h : m / 128 < 382
    · rw [if_pos (decide_eq_true (by omega)), Nat.min_eq_left (by omega)]; rfl
    · rw [if_neg (by rw [decide_eq_true_eq]; omega), Nat.min_eq_right (by omega)]
  rw [this, muli_w, toNat_w (by omega)]

theorem chk5_of {v : BitVec 32} (hv : 0 ≤ v.toInt) : k0_chk5 v := by
  unfold k0_chk5
  rw [off29_eq hv]
  intro k
  fin_cases k
  · show min (v.toNat / 128) 382 * 4 + 8 ≤ 1536
    omega
  · show 0 + 128 ≤ 128
    omega

end Cert.Kernel.Run
-- ==== Proof.Kernel.State.lean ====
/-
  What the kernel holds between grid steps: the resource algebra, the ring's windows, what each transfer brings, and the
  contents of the scratch buffers.
-/
module

public import Idealize.ShloMosaic.Lib.Pipeline.KitQuiescent
public import Idealize.ShloMosaic.Lib.Tactic
public import proofs.«01_k».proof.Proof.Rules
public import proofs.«01_k».proof.Proof.Kernel.Checks
public import proofs.«01_k».proof.Proof.Gen.Kernel.Launch

@[expose] public section

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.Kernel.Gen

variable {F : FTy → Type} [FloatOps F]

/-- The proof's component of the machine's algebra: the pipeline's and the transfers'. -/
abbrev UU : Type := UR sig nD τ × Counters

local notation "𝕄" => MT nD τ sig Unit (Elt F) ℕ UU ℕ

abbrev EP : Emb (UR sig nD τ) (MT nD τ sig Unit (Elt F) ℕ UU ℕ) := embL
abbrev EC : UEmb Counters (MT nD τ sig Unit (Elt F) ℕ UU ℕ) := countersEmb
abbrev 𝒱₀ : Variants := Variants.none

/-! ### Indices -/

/-- The index of row `r`, column `k` of the array of rows. -/
def yx (r k : ℕ) : S49152x2048.Idx := fun a => ⟨(![r, k] a) % (![49152, 2048] a), by
  fin_cases a <;> exact Nat.mod_lt _ (by decide)⟩

/-! ### The ring -/

open Classical in
/-- The ring's indices in the windows of a step's transfers from the `j`-th on, -/
def from_ (L : ℕ → ℕ → ℕ) (s j : ℕ) : Finset S10240x2048.Idx := Finset.univ.filter fun x => InGe L s j (x 0).val
open Classical in
/-- and in the window of the `j`-th. -/
def at_ (L : ℕ → ℕ → ℕ) (s j : ℕ) : Finset S10240x2048.Idx := Finset.univ.filter fun x => InAt L s j (x 0).val

theorem mem_from {L : ℕ → ℕ → ℕ} {s j : ℕ} {x : S10240x2048.Idx} : x ∈ from_ L s j ↔ InGe L s j (x 0).val := by
  unfold from_; simp
theorem mem_at {L : ℕ → ℕ → ℕ} {s j : ℕ} {x : S10240x2048.Idx} : x ∈ at_ L s j ↔ InAt L s j (x 0).val := by
  unfold at_; simp

section Sets

variable {L : ℕ → ℕ → ℕ} (h : Good L)
include h

theorem from_split (s j : ℕ) : from_ L s j = at_ L s j ∪ from_ L s (j + 1) := by
  ext x; rw [Finset.mem_union, mem_from, mem_from, mem_at]; exact InGe_split s j _

theorem from_disj (s j : ℕ) : Disjoint (at_ L s j) (from_ L s (j + 1)) := by
  rw [Finset.disjoint_left]; intro x a b
  exact InAt_InGe h s j _ (mem_at.mp a) (mem_from.mp b)

theorem at_disj (s : ℕ) {j j' : ℕ} (hj : j ≠ j') : Disjoint (at_ L s j) (at_ L s j') := by
  rw [Finset.disjoint_left]; intro x a b
  exact hj (InAt_disj h s j j' _ (mem_at.mp a) (mem_at.mp b))

theorem from_zero (s : ℕ) : from_ L s 0 = Finset.univ.biUnion fun j : Fin (P L s 8) => at_ L s j.val := by
  ext x
  rw [mem_from, InGe_iff_InAt h]
  simp [mem_at]

theorem from_next (s : ℕ) : Disjoint (from_ L s 0) (from_ L (s + 1) 0) := by
  rw [Finset.disjoint_left]; intro x a b
  exact InGe_disj h s _ (mem_from.mp a) (mem_from.mp b)

/-- A transfer's window is the rectangle it goes to. -/
theorem at_rect {s e c : ℕ} (he : e < 8) (hc : C L s e ≤ c) (hc2 : c < C L (s + 1) e) {off : Fin 2 → ℕ}
    {inb : ∀ a, off a + S32x2048.size a ≤ S10240x2048.size a} (ho : off = ![(e * 40 + c % 40) * 32, 0]) :
    (Rect.unit (s := S10240x2048) off S32x2048.size inb).set = at_ L s (P L s e + (c - C L s e)) := by
  subst ho
  ext x
  rw [Rect.mem_set_unit, mem_at, InAt_iff h he hc hc2]
  constructor
  · intro a; exact a 0
  · intro a k
    fin_cases k
    · exact a
    · exact ⟨Nat.zero_le _, (x 1).isLt⟩

end Sets

/-- What the ring holds in a step's windows once the step has waited. -/
def land (L : ℕ → ℕ → ℕ) (Y : S49152x2048.Idx → Elt F .fp8e4m3) (s : ℕ) : S10240x2048.Idx → Elt F .fp8e4m3 :=
  fun x => Y (yx (src L s (x 0).val) (x 1).val)

theorem land_emb {L : ℕ → ℕ → ℕ} (h : Good L) (Y : S49152x2048.Idx → Elt F .fp8e4m3) {s e c : ℕ}
    (hc : C L s e ≤ c + 1) (hc2 : c < C L (s + 1) e) {off off' : Fin 2 → ℕ}
    {inb : ∀ a, off a + S32x2048.size a ≤ S10240x2048.size a} {inb' : ∀ a, off' a + S32x2048.size a ≤ S49152x2048.size a}
    (ho : off = ![(e * 40 + c % 40) * 32, 0]) (ho' : off' = ![c * 32, 0]) (y : S32x2048.Idx) :
    land L Y s ((Rect.unit (s := S10240x2048) off S32x2048.size inb).emb y)
      = Y ((Rect.unit (s := S49152x2048) off' S32x2048.size inb').emb y) := by
  subst ho ho'
  have hb : c * 32 + 32 ≤ 49152 := inb' 0
  have hy : (y 0).val < 32 := (y 0).isLt
  have hy1 : (y 1).val < 2048 := (y 1).isLt
  have st := C_step h s e
  have e0 : (((Rect.unit (s := S10240x2048) _ S32x2048.size inb).emb y) 0).val = (e * 40 + c % 40) * 32 + (y 0).val := by
    show (e * 40 + c % 40) * 32 + 1 * (y 0).val = _
    omega
  have e1 : (((Rect.unit (s := S10240x2048) _ S32x2048.size inb).emb y) 1).val = (y 1).val := by
    show 0 + 1 * (y 1).val = _
    omega
  unfold land
  rw [e0, e1, src_eq h hc (by omega) (show Win e c _ from ⟨by omega, by omega⟩)]
  congr 1
  funext a
  apply Fin.ext
  fin_cases a
  · show (c * 32 + _) % 49152 = c * 32 + 1 * (y 0).val
    omega
  · show (y 1).val % 2048 = 0 + 1 * (y 1).val
    omega

/-! ### The transfers -/

/-- What a transfer of whole chunks credits. -/
theorem credit_rows (n : ℕ) : RefSig.tileCredit ⟨2, ![n * 32, 2048]⟩ .fp8e4m3 = 2048 * n := by
  have h1 : RefSig.lead ⟨2, ![n * 32, 2048]⟩ = 1 := by
    unfold RefSig.lead
    rw [show (Finset.univ.filter fun a : Fin 2 => a.val + 2 < 2) = ∅ from by decide]
    rfl
  have h2 : RefSig.roundUp (n * 32) 32 = n * 32 := by
    unfold RefSig.roundUp; rw [if_neg (by decide)]; omega
  have h3 : RefSig.roundUp 2048 128 = 2048 := by decide
  show RefSig.lead ⟨2, ![n * 32, 2048]⟩ * RefSig.roundUp (n * 32) 32 * RefSig.roundUp 2048 128 * 8 / 8 / 32 = _
  rw [h1, h2, h3]; omega

theorem credit_one {m : Memref sig .tc .vmem S32x2048 .fp8e4m3} : m.view.dmaCredit = 2048 :=
  (credit_rows 1).trans rfl

/-- The semaphore of a step's transfers. -/
def tok (a : DmaSems sig S2) (b : ℕ) (hb : b < 2) : DmaSem sig :=
  ((a.slice (Rect.unit (s := S2) ![b] S1.size (by intro k; fin_cases k; show b + 1 ≤ 2; omega))).squeeze S_ squeezes_S1_S_).sem

theorem tok_eq (a : DmaSems sig S2) {off : Fin 1 → ℕ} {inb} {b : ℕ} (hb : b < 2) (ho : off = ![b]) :
    ((a.slice (Rect.unit (s := S2) off S1.size inb)).squeeze S_ squeezes_S1_S_).sem = tok a b hb := by
  subst ho; rfl

section Batch

variable (c : Dev nD) (ring : Memref sig .tc .vmem S10240x2048 .fp8e4m3) (L : ℕ → ℕ → ℕ) (Y : S49152x2048.Idx → Elt F .fp8e4m3)

/-- What a step's transfers bring. -/
def brings (s : ℕ) (j : Fin (P L s 8)) : sProp 𝕄 :=
  held (c : Thread nD τ) ring (at_ L s j.val) fullShare (land L Y s)

instance (s : ℕ) (j : Fin (P L s 8)) : BI.Storable (upEmb : UEmb _ 𝕄) (brings c ring L Y s j) := by
  unfold brings; infer_instance

/-- A step's transfers, `j` of them begun. -/
abbrev sent (a : DmaSem sig) (s j : ℕ) : sProp 𝕄 :=
  Transfers.Batch EC (c : Thread nD τ) (.dma a) () 2048 (brings c ring L Y s) j 0

end Batch

end Cert.Kernel.Run
-- ==== Proof.Kernel.Issue.lean ====
/-
  The loops that begin a step's transfers: every chunk the step needs and the ring does not hold yet, expert by expert.
-/
module

public import proofs.«01_k».proof.Proof.Kernel.State

@[expose] public section

set_option maxRecDepth 100000

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.Kernel.Gen

variable {F : FTy → Type} [FloatOps F]

local notation "𝕄" => MT nD τ sig Unit (Elt F) ℕ UU ℕ

variable (c : Dev nD) (i : grid0.Coords)
variable (arg1 : Memref sig .tc .smem S192x128 .i32) (harg1 : arg1.IsWhole) (arg2 : Memref sig .tc .smem S192x128 .i32) (harg2 : arg2.IsWhole) (arg3 : Memref sig .tc .vmem S4x4x128 .i32) (harg3 : arg3.IsWhole) (arg4 : Memref sig .tc .vmem S16x49152 .i8) (harg4 : arg4.IsWhole) (arg5 : Memref sig .tc .vmem S512x2048 .bf16) (harg5 : arg5.IsWhole) (arg6 : Memref sig .tc .hbm S49152x2048 .fp8e4m3) (harg6 : arg6.IsWhole) (arg7 : Memref sig .tc .vmem S512x2048 .bf16) (harg7 : arg7.IsWhole) (arg8 : Memref sig .tc .vmem S10240x2048 .fp8e4m3) (harg8 : arg8.IsWhole) (arg9 : Memref sig .tc .vmem S192x2048 .fp8e4m3) (harg9 : arg9.IsWhole) (arg10 : Memref sig .tc .vmem S1536x128 .i32) (harg10 : arg10.IsWhole) (arg11 : Memref sig .tc .vmem S48x2048 .bf16) (harg11 : arg11.IsWhole) (arg12 : Memref sig .tc .smem S2 .i32) (harg12 : arg12.IsWhole) (arg13 : DmaSems sig S2)

variable {base gran : Words.Table} (T : Tables base gran) (Y : S49152x2048.Idx → Elt F .fp8e4m3) (X : S10240x2048.Idx → Elt F .fp8e4m3)
variable (q : PosShare TreeShare)

/-- What the loops hold, `j` of a step's transfers begun: the array at some share, the cuts' table, the windows still to
    be used, and the transfers. -/
def going (a : DmaSem sig) (s j : ℕ) : sProp 𝕄 :=
  iprop((∃ q, held (c : Thread nD τ) arg6 Finset.univ q Y) ∗ held (c : Thread nD τ) arg2 Finset.univ q (base : S192x128.Idx → Elt F .i32)
    ∗ held (c : Thread nD τ) arg8 (from_ (cut base) s j) fullShare X ∗ sent c arg8 (cut base) Y a s j)

include T

/-- One chunk of the first step: a transfer into its window. -/
theorem first_chunk (hc : k0_cond1 i = 1#1) {s e : ℕ} (e' : Fin k0_t1_loop.trips) (he : e'.val = e)
    (hw : k0_chk1 i e' (cw base s e) (cw base (s + 1) e) (cw base 0 e)) (b : DmaSem sig)
    (hb : ((arg13.slice (Rect.unit (s := S2) ![0] S1.size inb_S2_S1_0)).squeeze S_ squeezes_S1_S_).sem = b)
    (k : Fin (k0_t2_loop (cw base s e) (cw base (s + 1) e) (cw base 0 e)).trips) (acc : BitVec 32) :
    (going c arg2 arg6 arg8 Y X q (base := base) b s (P (cut base) s e + k.val) : sProp 𝕄)
      ⊢ wp frame (wpE (defs₀ (F := F)) 𝒱₀ (c : Thread nD τ) none) Set.univ
        (k0_t2_body (F := F) i arg1 harg1 arg2 harg2 arg3 harg3 arg4 harg4 arg5 harg5 arg6 harg6 arg7 harg7 arg8 harg8 arg9 harg9 arg10 harg10 arg11 harg11 arg12 harg12 arg13 hc e' (cw base s e) (cw base (s + 1) e) (cw base 0 e) hw k acc)
        fun _ => going c arg2 arg6 arg8 Y X q (base := base) b s (P (cut base) s e + (k.val + 1)) := by
  have h8 : e < 8 := he ▸ e'.isLt
  have o1 : k0_off3 e' (cw base s e) (cw base (s + 1) e) (cw base 0 e) k = ![(e * 40 + (C (cut base) s e + k.val) % 40) * 32, 0] := off3_eq T s e e' he k
  have o2 : k0_off4 (cw base s e) (cw base (s + 1) e) (cw base 0 e) k = ![(C (cut base) s e + k.val) * 32, 0] := off4_eq T s e k
  have hk : k.val < n (cut base) s e := Nat.lt_of_lt_of_eq k.isLt (loop_trips T s e)
  have hn := n_add T.good s e
  have hp : P (cut base) s e + k.val < P (cut base) s 8 := by
    have := P_succ (L := cut base) s e; have := P_mono (L := cut base) s (show e + 1 ≤ 8 by omega); omega
  have hr : ∀ inb, (Rect.unit (s := S10240x2048) (k0_off3 e' _ _ _ k) S32x2048.size inb).set
      = at_ (cut base) s (P (cut base) s e + k.val) := fun inb => by
    have := at_rect T.good (s := s) (c := C (cut base) s e + k.val) h8 (Nat.le_add_right _ _) (by omega) (inb := inb) (off3_eq T s e e' he k)
    rw [Nat.add_sub_cancel_left] at this; exact this
  unfold k0_t2_body going
  rw [from_split T.good]
  rw [wp_bind]
  subst hb
  iintro ⟨Hy, Hb, Hr, HB⟩
  ihave Hr := (held_union (c : Thread nD τ) arg8 (from_disj T.good s _)).1 $$ Hr
  icases Hr with ⟨Hw, Hr⟩
  iapply (Held.wp_issue 𝒱₀ (c : Thread nD τ) none EC (size := S32x2048.size) (T := P (cut base) s 8) (D := brings c arg8 (cut base) Y s)
    (j := P (cut base) s e + k.val) (X := X) (Z := land (cut base) Y s) (Y := Y) () 2048 credit_one hp
    (fun y => land_emb T.good Y (c := C (cut base) s e + k.val) (by omega) (by omega) o1 o2 y) ?_) $$ [Hy Hw HB]
  · rw [hr]; exact Entails.of_eq rfl
  · isplitl [Hy]; · iexact Hy
    isplitl [Hw]
    · rw [hr]; iexact Hw
    iexact HB
  iintro ⟨Hy, HB⟩
  rw [wp_pure]
  imodintro
  isplitl [Hy]; · iexact Hy
  isplitl [Hb]; · iexact Hb
  isplitl [Hr]; · iexact Hr
  iexact HB

/-- One expert's chunks of the first step. -/
theorem first_expert (hc : k0_cond1 i = 1#1) {s : ℕ} (hs : s < 48) (hi : s = 0) (b : DmaSem sig)
    (hb : ((arg13.slice (Rect.unit (s := S2) ![0] S1.size inb_S2_S1_0)).squeeze S_ squeezes_S1_S_).sem = b)
    (e' : Fin k0_t1_loop.trips) (acc : BitVec 32) :
    iprop(⌜acc = w (P (cut base) s e'.val)⌝ ∗ going c arg2 arg6 arg8 Y X q (base := base) b s (P (cut base) s e'.val) : sProp 𝕄)
      ⊢ wp frame (wpE (defs₀ (F := F)) 𝒱₀ (c : Thread nD τ) none) Set.univ
        (k0_t1_body (F := F) i arg1 harg1 arg2 harg2 arg3 harg3 arg4 harg4 arg5 harg5 arg6 harg6 arg7 harg7 arg8 harg8 arg9 harg9 arg10 harg10 arg11 harg11 arg12 harg12 arg13 hc e' acc)
        fun acc => iprop(⌜acc = w (P (cut base) s (e'.val + 1))⌝ ∗ going c arg2 arg6 arg8 Y X q (base := base) b s (P (cut base) s (e'.val + 1))) := by
  have h8 : e'.val < 8 := e'.isLt
  have w1 : ∀ inb p, base ((Rect.unit (s := S192x128) (k0_off1 e') S1x1.size inb).emb (Shape.Idx.first p)) = cw base s e'.val := fun inb p => by
    rw [emb_word _ _ (off1_eq e')]; subst hi; exact Tables.lo e'.isLt hs
  have w2 : ∀ inb p, base ((Rect.unit (s := S192x128) (k0_off2 e') S1x1.size inb).emb (Shape.Idx.first p)) = cw base (s + 1) e'.val := fun inb p => by
    rw [emb_word _ _ (off2_eq e')]; subst hi; exact T.hi 0 e'.val hs h8
  have w3 : ∀ inb p, base ((Rect.unit (s := S192x128) (k0_off1 e') S1x1.size inb).emb (Shape.Idx.first p)) = cw base 0 e'.val := fun inb p => by
    rw [emb_word _ _ (off1_eq e')]; exact Tables.lo (s := 0) e'.isLt (by decide)
  unfold k0_t1_body
  iintro ⟨%ha, H⟩
  unfold going
  icases H with ⟨Hy, Hb, Hr, HB⟩
  rw [wp_bind]
  iapply (Held.wp_word 𝒱₀ (c : Thread nD τ) none Set.univ (m := arg2) (X := (base : S192x128.Idx → Elt F .i32)) (S := Finset.univ) (Finset.subset_univ _)) $$ Hb
  iintro Hb
  rw [w1]
  rw [wp_bind]
  iapply (Held.wp_word 𝒱₀ (c : Thread nD τ) none Set.univ (m := arg2) (X := (base : S192x128.Idx → Elt F .i32)) (S := Finset.univ) (Finset.subset_univ _)) $$ Hb
  iintro Hb
  rw [w2]
  rw [wp_bind]
  iapply (Held.wp_word 𝒱₀ (c : Thread nD τ) none Set.univ (m := arg2) (X := (base : S192x128.Idx → Elt F .i32)) (S := Finset.univ) (Finset.subset_univ _)) $$ Hb
  iintro Hb
  rw [w3]
  rw [wp_bind]
  iapply (Held.wp_assume 𝒱₀ (c : Thread nD τ) none Set.univ (chk1_of T i s e'.val e' rfl))
  rw [wp_bind]
  iapply (Scf.wp_for _ _ _ _ _ _ _ _ _ (fun k _ => going c arg2 arg6 arg8 Y X q (base := base) b s (P (cut base) s e'.val + k)) ?_)
  · intro k a
    exact first_chunk c i arg1 harg1 arg2 harg2 arg3 harg3 arg4 harg4 arg5 harg5 arg6 harg6 arg7 harg7 arg8 harg8 arg9 harg9 arg10 harg10 arg11 harg11 arg12 harg12 arg13 T Y X q hc e' rfl _ b hb k a
  isplitl [Hy Hb Hr HB]
  · unfold going
    isplitl [Hy]; · iexact Hy
    isplitl [Hb]; · iexact Hb
    isplitl [Hr]; · iexact Hr
    iexact HB
  iintro %a H
  rw [wp_bind]
  iapply (Scf.wp_for _ _ _ _ _ _ _ _ _ (fun _ _ => iprop(emp)) ?_)
  · intro k a
    exact (Nat.not_lt_zero _ (Nat.lt_of_lt_of_eq k.isLt (rest_trips T s e'.val))).elim
  isplitr
  · iempintro
  iintro %a' -
  rw [wp_pure]
  imodintro
  isplitr
  · ipureintro
    subst ha
    have h1 : Scalar.subi (stop (cw base s e'.val) (cw base (s + 1) e'.val) (cw base 0 e'.val)) (start (cw base s e'.val) (cw base 0 e'.val))
        = w (n (cut base) s e'.val) := by
      have := C_top T.good (s + 1) e'.val
      rw [T.start_eq, T.stop_eq, subi_w (C_mono T.good s e'.val) (by omega)]; rfl
    show Scalar.addi (w (P (cut base) s e'.val)) (Scalar.subi (stop (cw base s e'.val) (cw base (s + 1) e'.val) (cw base 0 e'.val)) (start (cw base s e'.val) (cw base 0 e'.val))) = _
    rw [h1, addi_w, P_succ]
  · rw [P_succ]
    have ht := loop_trips T s e'.val
    have ht' : Scf.trips (k0_t2_loop (cw base s e'.val) (cw base (s + 1) e'.val) (cw base 0 e'.val)).lb
      (k0_t2_loop (cw base s e'.val) (cw base (s + 1) e'.val) (cw base 0 e'.val)).ub (k0_t2_loop (cw base s e'.val) (cw base (s + 1) e'.val) (cw base 0 e'.val)).st = n (cut base) s e'.val := ht
    rw [ht']
    unfold going
    iexact H

/-- The first step's transfers. -/
theorem first (hc : k0_cond1 i = 1#1) {s : ℕ} (hs : s < 48) (hi : s = 0) (b : DmaSem sig)
    (hb : ((arg13.slice (Rect.unit (s := S2) ![0] S1.size inb_S2_S1_0)).squeeze S_ squeezes_S1_S_).sem = b) {Q : BitVec 32 → sProp 𝕄} :
    iprop(going c arg2 arg6 arg8 Y X q (base := base) b s 0
        ∗ (going c arg2 arg6 arg8 Y X q (base := base) b s (P (cut base) s 8) -∗ Q (w (P (cut base) s 8))) : sProp 𝕄)
      ⊢ wp frame (wpE (defs₀ (F := F)) 𝒱₀ (c : Thread nD τ) none) Set.univ
        (Scf.Loop.for k0_t1_loop (k0_t1_ok i hc) 0#32 (k0_t1_body (F := F) i arg1 harg1 arg2 harg2 arg3 harg3 arg4 harg4 arg5 harg5 arg6 harg6 arg7 harg7 arg8 harg8 arg9 harg9 arg10 harg10 arg11 harg11 arg12 harg12 arg13 hc)) Q := by
  iintro ⟨H, K⟩
  iapply (Scf.wp_for _ _ _ _ _ _ _ _ _ (fun e acc => iprop(⌜acc = w (P (cut base) s e)⌝ ∗ going c arg2 arg6 arg8 Y X q (base := base) b s (P (cut base) s e))) ?_)
  · intro e acc
    exact first_expert c i arg1 harg1 arg2 harg2 arg3 harg3 arg4 harg4 arg5 harg5 arg6 harg6 arg7 harg7 arg8 harg8 arg9 harg9 arg10 harg10 arg11 harg11 arg12 harg12 arg13 T Y X q hc hs hi b hb e acc
  isplitl [H]
  · isplitr
    · ipureintro; rfl
    · rw [P_zero]; iexact H
  rw [show Scf.trips k0_t1_loop.lb k0_t1_loop.ub k0_t1_loop.st = 8 by decide +kernel]
  iintro %acc ⟨%ha, H⟩
  subst ha
  iapply K
  iexact H

/-- One chunk of the step after the first: a transfer into its window. -/
theorem next_chunk (hc : k0_cond2 i = 1#1) {s e : ℕ} (e' : Fin k0_t5_loop.trips) (he : e'.val = e)
    (hw : k0_chk2 i e' (cw base s e) (cw base (s + 1) e) (cw base 0 e)) (b : DmaSem sig)
    (hb : ((arg13.slice (Rect.unit (s := S2) (k0_off12 i) S1.size (k0_off12_inb i hc))).squeeze S_ squeezes_S1_S_).sem = b)
    (k : Fin (k0_t6_loop (cw base s e) (cw base (s + 1) e) (cw base 0 e)).trips) (acc : BitVec 32) :
    (going c arg2 arg6 arg8 Y X q (base := base) b s (P (cut base) s e + k.val) : sProp 𝕄)
      ⊢ wp frame (wpE (defs₀ (F := F)) 𝒱₀ (c : Thread nD τ) none) Set.univ
        (k0_t6_body (F := F) i arg1 harg1 arg2 harg2 arg3 harg3 arg4 harg4 arg5 harg5 arg6 harg6 arg7 harg7 arg8 harg8 arg9 harg9 arg10 harg10 arg11 harg11 arg12 harg12 arg13 hc e' (cw base s e) (cw base (s + 1) e) (cw base 0 e) hw k acc)
        fun _ => going c arg2 arg6 arg8 Y X q (base := base) b s (P (cut base) s e + (k.val + 1)) := by
  have h8 : e < 8 := he ▸ e'.isLt
  have o1 : k0_off13 e' (cw base s e) (cw base (s + 1) e) (cw base 0 e) k = ![(e * 40 + (C (cut base) s e + k.val) % 40) * 32, 0] := off3_eq T s e e' he k
  have o2 : k0_off14 (cw base s e) (cw base (s + 1) e) (cw base 0 e) k = ![(C (cut base) s e + k.val) * 32, 0] := off4_eq T s e k
  have hk : k.val < n (cut base) s e := Nat.lt_of_lt_of_eq k.isLt (loop_trips T s e)
  have hn := n_add T.good s e
  have hp : P (cut base) s e + k.val < P (cut base) s 8 := by
    have := P_succ (L := cut base) s e; have := P_mono (L := cut base) s (show e + 1 ≤ 8 by omega); omega
  have hr : ∀ inb, (Rect.unit (s := S10240x2048) (k0_off13 e' _ _ _ k) S32x2048.size inb).set
      = at_ (cut base) s (P (cut base) s e + k.val) := fun inb => by
    have := at_rect T.good (s := s) (c := C (cut base) s e + k.val) h8 (Nat.le_add_right _ _) (by omega) (inb := inb) (off3_eq T s e e' he k)
    rw [Nat.add_sub_cancel_left] at this; exact this
  unfold k0_t6_body going
  rw [from_split T.good]
  rw [wp_bind]
  subst hb
  iintro ⟨Hy, Hb, Hr, HB⟩
  ihave Hr := (held_union (c : Thread nD τ) arg8 (from_disj T.good s _)).1 $$ Hr
  icases Hr with ⟨Hw, Hr⟩
  iapply (Held.wp_issue 𝒱₀ (c : Thread nD τ) none EC (size := S32x2048.size) (T := P (cut base) s 8) (D := brings c arg8 (cut base) Y s)
    (j := P (cut base) s e + k.val) (X := X) (Z := land (cut base) Y s) (Y := Y) () 2048 credit_one hp
    (fun y => land_emb T.good Y (c := C (cut base) s e + k.val) (by omega) (by omega) o1 o2 y) ?_) $$ [Hy Hw HB]
  · rw [hr]; exact Entails.of_eq rfl
  · isplitl [Hy]; · iexact Hy
    isplitl [Hw]
    · rw [hr]; iexact Hw
    iexact HB
  iintro ⟨Hy, HB⟩
  rw [wp_pure]
  imodintro
  isplitl [Hy]; · iexact Hy
  isplitl [Hb]; · iexact Hb
  isplitl [Hr]; · iexact Hr
  iexact HB

/-- One expert's chunks of the step after. -/
theorem next_expert (hc : k0_cond2 i = 1#1) {s : ℕ} (hs : s < 48) (hi : (i 0).val + 1 = s) (b : DmaSem sig)
    (hb : ((arg13.slice (Rect.unit (s := S2) (k0_off12 i) S1.size (k0_off12_inb i hc))).squeeze S_ squeezes_S1_S_).sem = b)
    (e' : Fin k0_t5_loop.trips) (acc : BitVec 32) :
    iprop(⌜acc = w (P (cut base) s e'.val)⌝ ∗ going c arg2 arg6 arg8 Y X q (base := base) b s (P (cut base) s e'.val) : sProp 𝕄)
      ⊢ wp frame (wpE (defs₀ (F := F)) 𝒱₀ (c : Thread nD τ) none) Set.univ
        (k0_t5_body (F := F) i arg1 harg1 arg2 harg2 arg3 harg3 arg4 harg4 arg5 harg5 arg6 harg6 arg7 harg7 arg8 harg8 arg9 harg9 arg10 harg10 arg11 harg11 arg12 harg12 arg13 hc e' acc)
        fun acc => iprop(⌜acc = w (P (cut base) s (e'.val + 1))⌝ ∗ going c arg2 arg6 arg8 Y X q (base := base) b s (P (cut base) s (e'.val + 1))) := by
  have h8 : e'.val < 8 := e'.isLt
  have w1 : ∀ inb p, base ((Rect.unit (s := S192x128) (k0_off9 i e') S1x1.size inb).emb (Shape.Idx.first p)) = cw base s e'.val := fun inb p => by
    rw [emb_word _ _ (off9_eq i e' (by omega))]; rw [hi]; exact Tables.lo e'.isLt hs
  have w2 : ∀ inb p, base ((Rect.unit (s := S192x128) (k0_off10 i e') S1x1.size inb).emb (Shape.Idx.first p)) = cw base (s + 1) e'.val := fun inb p => by
    rw [emb_word _ _ (off10_eq i e' (by omega))]; rw [hi]; exact T.hi s e'.val hs h8
  have w3 : ∀ inb p, base ((Rect.unit (s := S192x128) (k0_off11 e') S1x1.size inb).emb (Shape.Idx.first p)) = cw base 0 e'.val := fun inb p => by
    rw [emb_word _ _ (off11_eq e')]; exact Tables.lo (s := 0) e'.isLt (by decide)
  unfold k0_t5_body
  iintro ⟨%ha, H⟩
  unfold going
  icases H with ⟨Hy, Hb, Hr, HB⟩
  rw [wp_bind]
  iapply (Held.wp_word 𝒱₀ (c : Thread nD τ) none Set.univ (m := arg2) (X := (base : S192x128.Idx → Elt F .i32)) (S := Finset.univ) (Finset.subset_univ _)) $$ Hb
  iintro Hb
  rw [w1]
  rw [wp_bind]
  iapply (Held.wp_word 𝒱₀ (c : Thread nD τ) none Set.univ (m := arg2) (X := (base : S192x128.Idx → Elt F .i32)) (S := Finset.univ) (Finset.subset_univ _)) $$ Hb
  iintro Hb
  rw [w2]
  rw [wp_bind]
  iapply (Held.wp_word 𝒱₀ (c : Thread nD τ) none Set.univ (m := arg2) (X := (base : S192x128.Idx → Elt F .i32)) (S := Finset.univ) (Finset.subset_univ _)) $$ Hb
  iintro Hb
  rw [w3]
  rw [wp_bind]
  iapply (Held.wp_assume 𝒱₀ (c : Thread nD τ) none Set.univ (chk2_of T i s e'.val e' rfl))
  rw [wp_bind]
  iapply (Scf.wp_for _ _ _ _ _ _ _ _ _ (fun k _ => going c arg2 arg6 arg8 Y X q (base := base) b s (P (cut base) s e'.val + k)) ?_)
  · intro k a
    exact next_chunk c i arg1 harg1 arg2 harg2 arg3 harg3 arg4 harg4 arg5 harg5 arg6 harg6 arg7 harg7 arg8 harg8 arg9 harg9 arg10 harg10 arg11 harg11 arg12 harg12 arg13 T Y X q hc e' rfl _ b hb k a
  isplitl [Hy Hb Hr HB]
  · unfold going
    isplitl [Hy]; · iexact Hy
    isplitl [Hb]; · iexact Hb
    isplitl [Hr]; · iexact Hr
    iexact HB
  iintro %a H
  rw [wp_bind]
  iapply (Scf.wp_for _ _ _ _ _ _ _ _ _ (fun _ _ => iprop(emp)) ?_)
  · intro k a
    exact (Nat.not_lt_zero _ (Nat.lt_of_lt_of_eq k.isLt (rest_trips T s e'.val))).elim
  isplitr
  · iempintro
  iintro %a' -
  rw [wp_pure]
  imodintro
  isplitr
  · ipureintro
    subst ha
    have h1 : Scalar.subi (stop (cw base s e'.val) (cw base (s + 1) e'.val) (cw base 0 e'.val)) (start (cw base s e'.val) (cw base 0 e'.val))
        = w (n (cut base) s e'.val) := by
      have := C_top T.good (s + 1) e'.val
      rw [T.start_eq, T.stop_eq, subi_w (C_mono T.good s e'.val) (by omega)]; rfl
    show Scalar.addi (w (P (cut base) s e'.val)) (Scalar.subi (stop (cw base s e'.val) (cw base (s + 1) e'.val) (cw base 0 e'.val)) (start (cw base s e'.val) (cw base 0 e'.val))) = _
    rw [h1, addi_w, P_succ]
  · rw [P_succ]
    have ht := loop_trips T s e'.val
    have ht' : Scf.trips (k0_t6_loop (cw base s e'.val) (cw base (s + 1) e'.val) (cw base 0 e'.val)).lb
      (k0_t6_loop (cw base s e'.val) (cw base (s + 1) e'.val) (cw base 0 e'.val)).ub (k0_t6_loop (cw base s e'.val) (cw base (s + 1) e'.val) (cw base 0 e'.val)).st = n (cut base) s e'.val := ht
    rw [ht']
    unfold going
    iexact H

/-- The next step's transfers. -/
theorem next (hc : k0_cond2 i = 1#1) {s : ℕ} (hs : s < 48) (hi : (i 0).val + 1 = s) (b : DmaSem sig)
    (hb : ((arg13.slice (Rect.unit (s := S2) (k0_off12 i) S1.size (k0_off12_inb i hc))).squeeze S_ squeezes_S1_S_).sem = b) {Q : BitVec 32 → sProp 𝕄} :
    iprop(going c arg2 arg6 arg8 Y X q (base := base) b s 0
        ∗ (going c arg2 arg6 arg8 Y X q (base := base) b s (P (cut base) s 8) -∗ Q (w (P (cut base) s 8))) : sProp 𝕄)
      ⊢ wp frame (wpE (defs₀ (F := F)) 𝒱₀ (c : Thread nD τ) none) Set.univ
        (Scf.Loop.for k0_t5_loop (k0_t5_ok i hc) 0#32 (k0_t5_body (F := F) i arg1 harg1 arg2 harg2 arg3 harg3 arg4 harg4 arg5 harg5 arg6 harg6 arg7 harg7 arg8 harg8 arg9 harg9 arg10 harg10 arg11 harg11 arg12 harg12 arg13 hc)) Q := by
  iintro ⟨H, K⟩
  iapply (Scf.wp_for _ _ _ _ _ _ _ _ _ (fun e acc => iprop(⌜acc = w (P (cut base) s e)⌝ ∗ going c arg2 arg6 arg8 Y X q (base := base) b s (P (cut base) s e))) ?_)
  · intro e acc
    exact next_expert c i arg1 harg1 arg2 harg2 arg3 harg3 arg4 harg4 arg5 harg5 arg6 harg6 arg7 harg7 arg8 harg8 arg9 harg9 arg10 harg10 arg11 harg11 arg12 harg12 arg13 T Y X q hc hs hi b hb e acc
  isplitl [H]
  · isplitr
    · ipureintro; rfl
    · rw [P_zero]; iexact H
  rw [show Scf.trips k0_t5_loop.lb k0_t5_loop.ub k0_t5_loop.st = 8 by decide +kernel]
  iintro %acc ⟨%ha, H⟩
  subst ha
  iapply K
  iexact H

end Cert.Kernel.Run
-- ==== Proof.Kernel.Setup.lean ====
/-
  What the body holds between steps, and the beginning of the first step: its transfers, the copy of the scales, the
  expansion matrix.
-/
module

public import proofs.«01_k».proof.Proof.Fill
public import proofs.«01_k».proof.Proof.Kernel.Issue

@[expose] public section

set_option maxRecDepth 100000

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.Fill Cert.Kernel.Gen

variable {F : FTy → Type} [FloatOps F]

local notation "𝕄" => MT nD τ sig Unit (Elt F) ℕ UU ℕ

variable (c : Dev nD) (i : grid0.Coords)
variable (arg1 : Memref sig .tc .smem S192x128 .i32) (harg1 : arg1.IsWhole) (arg2 : Memref sig .tc .smem S192x128 .i32) (harg2 : arg2.IsWhole) (arg3 : Memref sig .tc .vmem S4x4x128 .i32) (harg3 : arg3.IsWhole) (arg4 : Memref sig .tc .vmem S16x49152 .i8) (harg4 : arg4.IsWhole) (arg5 : Memref sig .tc .vmem S512x2048 .bf16) (harg5 : arg5.IsWhole) (arg6 : Memref sig .tc .hbm S49152x2048 .fp8e4m3) (harg6 : arg6.IsWhole) (arg7 : Memref sig .tc .vmem S512x2048 .bf16) (harg7 : arg7.IsWhole) (arg8 : Memref sig .tc .vmem S10240x2048 .fp8e4m3) (harg8 : arg8.IsWhole) (arg9 : Memref sig .tc .vmem S192x2048 .fp8e4m3) (harg9 : arg9.IsWhole) (arg10 : Memref sig .tc .vmem S1536x128 .i32) (harg10 : arg10.IsWhole) (arg11 : Memref sig .tc .vmem S48x2048 .bf16) (harg11 : arg11.IsWhole) (arg12 : Memref sig .tc .smem S2 .i32) (harg12 : arg12.IsWhole) (arg13 : DmaSems sig S2)

variable {base gran : Words.Table} (T : Tables base gran) (Y : S49152x2048.Idx → Elt F .fp8e4m3)
variable (SCT : S16x49152.Idx → Elt F .i8) (q : PosShare TreeShare)

/-! ### What is held between the steps -/

/-- The copy of the scales the first step makes, from the scales as the window holds them. -/
def scaleOf : S1536x128.Idx → Elt F .i32 := fun x =>
  k0_pay1 (F := F) (fun y : S16x128.Idx => SCT (mk2 16 49152 (y 0).val (128 * ((x 0).val / 4) + (y 1).val))) (mk2 4 128 ((x 0).val % 4) (x 1).val)

/-- The word of the counts. -/
def i2 (b : ℕ) : S2.Idx := fun a => ⟨(![b] a) % (![2] a), by fin_cases a; exact Nat.mod_lt _ (by decide)⟩

/-- The ring keeps, of every expert, the last chunk loaded before step `t`. -/
def Kept (L : ℕ → ℕ → ℕ) (t : ℕ) (X : S10240x2048.Idx → Elt F .fp8e4m3) : Prop :=
  ∀ e c, e < 8 → C L 0 e ≤ c → c + 1 = C L t e → ∀ x, Win e c (x 0).val →
    X x = Y (yx (c * 32 + ((x 0).val - (e * 40 + c % 40) * 32)) (x 1).val)

/-- The count of step `t`'s transfers. -/
def Count (L : ℕ → ℕ → ℕ) (t : ℕ) (cnt : S2.Idx → Elt F .i32) : Prop := t < 48 → cnt (i2 (t % 2)) = w (P L t 8)

theorem two_pos (t : ℕ) : t % 2 < 2 := Nat.mod_lt _ (by decide)

/-- The transfers of step `t`, begun; of no step after the last. -/
def begun (base : Words.Table) (t : ℕ) : sProp 𝕄 :=
  if t < 48 then sent c arg8 (cut base) Y (tok arg13 (t % 2) (two_pos t)) t (P (cut base) t 8)
  else semVal ((c : Thread nD τ), SemLoc.dma (tok arg13 (t % 2) (two_pos t))) 0

/-- What the body holds before step `t`, its transfers begun. -/
def mid (base : Words.Table) (t : ℕ) : sProp 𝕄 :=
  iprop(∃ X : S10240x2048.Idx → Elt F .fp8e4m3, ∃ cnt : S2.Idx → Elt F .i32, ⌜Kept Y (cut base) t X ∧ Count (F := F) (cut base) t cnt⌝
    ∗ (∃ q, held (c : Thread nD τ) arg6 Finset.univ q Y) ∗ held (c : Thread nD τ) arg2 Finset.univ q (base : S192x128.Idx → Elt F .i32)
    ∗ held (c : Thread nD τ) arg8 (Finset.univ \ from_ (cut base) t 0) fullShare X
    ∗ begun c arg8 arg13 Y base t
    ∗ semVal ((c : Thread nD τ), SemLoc.dma (tok arg13 ((t + 1) % 2) (two_pos _))) 0
    ∗ held (c : Thread nD τ) arg10 Finset.univ fullShare (scaleOf SCT)
    ∗ held (c : Thread nD τ) arg11 Finset.univ fullShare (k0_pay2 (F := F))
    ∗ held (c : Thread nD τ) arg12 Finset.univ fullShare cnt)

/-- What it holds before the first step: the scratch as it is, no transfer begun. -/
def fresh (base : Words.Table) : sProp 𝕄 :=
  iprop((∃ q, held (c : Thread nD τ) arg6 Finset.univ q Y) ∗ held (c : Thread nD τ) arg2 Finset.univ q (base : S192x128.Idx → Elt F .i32)
    ∗ (∃ X, held (c : Thread nD τ) arg8 Finset.univ fullShare X)
    ∗ semVal ((c : Thread nD τ), SemLoc.dma (tok arg13 0 (two_pos 0))) 0
    ∗ semVal ((c : Thread nD τ), SemLoc.dma (tok arg13 1 (two_pos 1))) 0
    ∗ (∃ X, held (c : Thread nD τ) arg10 Finset.univ fullShare X)
    ∗ (∃ X, held (c : Thread nD τ) arg11 Finset.univ fullShare X)
    ∗ (∃ X, held (c : Thread nD τ) arg12 Finset.univ fullShare X))

/-! ### The copy of the scales -/

theorem scale_row (hc : k0_cond1 i = 1#1) (k : Fin k0_t4_loop.trips) (acc : Unit) :
    iprop(held (c : Thread nD τ) arg4 Finset.univ q SCT ∗ (∃ Z, ⌜∀ x : S1536x128.Idx, (x 0).val < 4 * k.val → Z x = scaleOf SCT x⌝
        ∗ held (c : Thread nD τ) arg10 Finset.univ fullShare Z) : sProp 𝕄)
      ⊢ wp frame (wpE (defs₀ (F := F)) 𝒱₀ (c : Thread nD τ) none) Set.univ
        (k0_t4_body (F := F) i arg1 harg1 arg2 harg2 arg3 harg3 arg4 harg4 arg5 harg5 arg6 harg6 arg7 harg7 arg8 harg8 arg9 harg9 arg10 harg10 arg11 harg11 arg12 harg12 arg13 hc k acc)
        fun _ => iprop(held (c : Thread nD τ) arg4 Finset.univ q SCT ∗ (∃ Z, ⌜∀ x : S1536x128.Idx, (x 0).val < 4 * (k.val + 1) → Z x = scaleOf SCT x⌝
          ∗ held (c : Thread nD τ) arg10 Finset.univ fullShare Z)) := by
  unfold k0_t4_body
  iintro ⟨H4, %Z, %hZ, H10⟩
  rw [wp_bind]
  iapply (Held.wp_load 𝒱₀ (c : Thread nD τ) none Set.univ (m := arg4) (X := SCT) (S := Finset.univ) (Finset.subset_univ _)) $$ H4
  iintro H4
  rw [wp_bind]
  iapply (Held.wp_load 𝒱₀ (c : Thread nD τ) none Set.univ (m := arg10) (X := Z) (S := Finset.univ) (Finset.subset_univ _)) $$ H10
  iintro H10
  rw [wp_bind]
  iapply (Held.wp_store 𝒱₀ (c : Thread nD τ) none Set.univ (m := arg10) (X := Z)) $$ H10
  iintro H10
  rw [wp_pure]
  imodintro
  isplitl [H4]; · iexact H4
  iexists _
  isplitr
  rotate_left
  · iexact H10
  ipureintro
  intro x hx
  by_cases hk : 4 * k.val ≤ (x 0).val
  · have hx0 : (x 0).val < 1536 := (x 0).isLt
    have hx1 : (x 1).val < 128 := (x 1).isLt
    have e8 := off8_eq k
    have hd : (x 0).val / 4 = k.val := by omega
    refine (put_in (s := S1536x128) ?_ (mk2 4 128 ((x 0).val % 4) (x 1).val) ?_).trans ?_
    · rw [e8]; intro a; fin_cases a
      · exact ⟨hk, show (x 0).val < 4 * k.val + 4 by omega⟩
      · exact ⟨Nat.zero_le _, show (x 1).val < 0 + 128 by omega⟩
    · rw [e8]; intro a; fin_cases a
      · show ((x 0).val % 4) % 4 = (x 0).val - 4 * k.val
        omega
      · show (x 1).val % 128 = (x 1).val - 0
        omega
    · unfold scaleOf
      refine congrFun (congrArg (k0_pay1 (F := F)) ?_) _
      funext y
      rw [hd]
      refine congrArg SCT ?_
      refine (emb2 (R := 16) (K := 49152) 0 (128 * k.val) (off7_eq k) y).trans ?_
      rw [Nat.zero_add]
  · refine (put_out (s := S1536x128) (0 : Fin 2) (.inl ?_)).trans (hZ x (by omega))
    rw [off8_eq k]
    show (x 0).val < 4 * k.val
    omega

theorem scale_all (hc : k0_cond1 i = 1#1) (Z : S1536x128.Idx → Elt F .i32) {Q : Unit → sProp 𝕄} :
    iprop(held (c : Thread nD τ) arg4 Finset.univ q SCT ∗ held (c : Thread nD τ) arg10 Finset.univ fullShare Z
        ∗ (held (c : Thread nD τ) arg4 Finset.univ q SCT ∗ held (c : Thread nD τ) arg10 Finset.univ fullShare (scaleOf SCT) -∗ Q ⟨⟩) : sProp 𝕄)
      ⊢ wp frame (wpE (defs₀ (F := F)) 𝒱₀ (c : Thread nD τ) none) Set.univ
        (Scf.Loop.for k0_t4_loop (k0_t4_ok i hc) ⟨⟩ (k0_t4_body (F := F) i arg1 harg1 arg2 harg2 arg3 harg3 arg4 harg4 arg5 harg5 arg6 harg6 arg7 harg7 arg8 harg8 arg9 harg9 arg10 harg10 arg11 harg11 arg12 harg12 arg13 hc)) Q := by
  iintro ⟨H4, H10, K⟩
  iapply (Scf.wp_for _ _ _ _ _ _ _ _ _ (fun k _ => iprop(held (c : Thread nD τ) arg4 Finset.univ q SCT ∗ (∃ Z, ⌜∀ x : S1536x128.Idx, (x 0).val < 4 * k → Z x = scaleOf SCT x⌝
        ∗ held (c : Thread nD τ) arg10 Finset.univ fullShare Z))) ?_)
  · intro k acc
    exact scale_row c i arg1 harg1 arg2 harg2 arg3 harg3 arg4 harg4 arg5 harg5 arg6 harg6 arg7 harg7 arg8 harg8 arg9 harg9 arg10 harg10 arg11 harg11 arg12 harg12 arg13 SCT q hc k acc
  isplitl [H4 H10]
  · isplitl [H4]; · iexact H4
    iexists Z
    isplitr
    · ipureintro; intro x hx; exact absurd hx (Nat.not_lt_zero _)
    · iexact H10
  rw [show Scf.trips k0_t4_loop.lb k0_t4_loop.ub k0_t4_loop.st = 384 by decide +kernel]
  iintro %acc ⟨H4, %Z', %hZ, H10⟩
  iapply K
  isplitl [H4]; · iexact H4
  have e : Z' = scaleOf SCT := funext fun x => hZ x (show (x 0).val < 4 * 384 from (x 0).isLt)
  subst e
  iexact H10

/-! ### The counts -/

theorem put_count {X : S2.Idx → Elt F .i32} {off : Fin 1 → ℕ} {b b' : ℕ} (hb : b < 2) (hb' : b' < 2) (ho : off = ![b]) (v : Elt F .i32) :
    VecWindow.put (s := S2) X off S1.size (fun _ => v) (i2 b') = if b' = b then v else X (i2 b') := by
  subst ho
  have e : ((i2 b') 0).val = b' := Nat.mod_eq_of_lt hb'
  split
  · rename_i h
    refine (put_in (s := S2) ?_ (fun a => ⟨0, by fin_cases a; decide⟩) ?_)
    · intro a; fin_cases a
      show b ≤ ((i2 b') 0).val ∧ ((i2 b') 0).val < b + 1
      omega
    · intro a; fin_cases a
      show 0 = ((i2 b') 0).val - b
      omega
  · rename_i h
    refine put_out (s := S2) (0 : Fin 1) ?_
    show ((i2 b') 0).val < b ∨ b + 1 ≤ ((i2 b') 0).val
    omega

theorem emb_count {off : Fin 1 → ℕ} {b : ℕ} (ho : off = ![b]) {inb} (p : 0 < (Rect.unit (s := S2) off S1.size inb).shape.numel) :
    (Rect.unit (s := S2) off S1.size inb).emb (Shape.Idx.first p) = i2 b := by
  subst ho
  have h := inb 0
  have h' : b + 1 ≤ 2 := h
  funext a; fin_cases a
  apply Fin.ext
  show b + 1 * 0 = b % 2
  omega

theorem put_full (X w : S48x2048.Idx → Elt F .bf16) : VecWindow.put (s := S48x2048) X ![0, 0] S48x2048.size w = w := by
  funext x
  refine put_in (s := S48x2048) ?_ x ?_
  · intro a; fin_cases a
    · exact ⟨Nat.zero_le _, by show (x 0).val < 0 + 48; have : (x 0).val < 48 := (x 0).isLt; omega⟩
    · exact ⟨Nat.zero_le _, by show (x 1).val < 0 + 2048; have : (x 1).val < 2048 := (x 1).isLt; omega⟩
  · intro a; fin_cases a <;> rfl

/-! ### The first step's beginning -/

include T

theorem setup (t : ℕ) (ht : (i 0).val = t) {Q : PUnit → sProp 𝕄} :
    iprop((if t = 0 then fresh c arg2 arg6 arg8 arg10 arg11 arg12 arg13 Y q base
          else mid c arg2 arg6 arg8 arg10 arg11 arg12 arg13 Y SCT q base t)
        ∗ held (c : Thread nD τ) arg4 Finset.univ fullShare SCT
        ∗ (mid c arg2 arg6 arg8 arg10 arg11 arg12 arg13 Y SCT q base t ∗ held (c : Thread nD τ) arg4 Finset.univ fullShare SCT -∗ Q ⟨⟩) : sProp 𝕄)
      ⊢ wp frame (wpE (defs₀ (F := F)) 𝒱₀ (c : Thread nD τ) none) Set.univ
        (if k0_h1 : k0_cond1 i = 1#1 then do
    let v18 : BitVec 32 ← Scf.Loop.for k0_t1_loop (k0_t1_ok i k0_h1) 0#32 (k0_t1_body i arg1 harg1 arg2 harg2 arg3 harg3 arg4 harg4 arg5 harg5 arg6 harg6 arg7 harg7 arg8 harg8 arg9 harg9 arg10 harg10 arg11 harg11 arg12 harg12 arg13 k0_h1)
    let v19 : Elt F .i32 ← smemLoad arg12 (Rect.unit (s := S2) ![0] S1.size inb_S2_S1_0) numel1_S1 rfl
    Prog.lift (.store arg12 (Rect.unit (s := S2) ![0] S1.size inb_S2_S1_0) (fun _ => v18) Finset.univ (View.stores_smem_one rfl numel1_S1) (.inl rfl))
    Scf.Loop.for k0_t4_loop (k0_t4_ok i k0_h1) ⟨⟩ (k0_t4_body i arg1 harg1 arg2 harg2 arg3 harg3 arg4 harg4 arg5 harg5 arg6 harg6 arg7 harg7 arg8 harg8 arg9 harg9 arg10 harg10 arg11 harg11 arg12 harg12 arg13 k0_h1)
    let v39 : Vec F S48x2048 .bf16 ← Prog.lift (.load arg11 (Rect.unit (s := S48x2048) ![0, 0] S48x2048.size inb_S48x2048_S48x2048_0_0).toLoadRect (View.loadsAt_vmem h_S48x2048))
    Prog.lift (.store arg11 (Rect.unit (s := S48x2048) ![0, 0] S48x2048.size inb_S48x2048_S48x2048_0_0) (k0_pay2 (F := F)) Finset.univ (View.stores_vmem h_S48x2048 (harg11.storeExact_slice rfl _ packedbf16_S48x2048_S48x2048_0_0) (fun _ => rfl)) (.inl rfl))
    pure ⟨⟩
  else do
    pure ⟨⟩ : Prog (TpuEff nD τ sig (Elt F) Λ₀ .tc) PUnit) Q := by
  by_cases h0 : t = 0
  · have hc : k0_cond1 i = 1#1 := (cond1_iff i).2 (by omega)
    rw [dif_pos hc, if_pos h0]
    subst h0
    unfold fresh
    iintro ⟨⟨Hy, Hb, ⟨%X, H8⟩, Hs0, Hs1, ⟨%Z, H10⟩, ⟨%E, H11⟩, ⟨%N, H12⟩⟩, H4, K⟩
    imod (Transfers.batch_alloc' EC (c : Thread nD τ) (sm := SemLoc.dma (tok arg13 0 (two_pos 0))) () 2048 (brings c arg8 (cut base) Y 0) (E := Set.univ)) $$ Hs0 with HB
    rw [show (Finset.univ : Finset S10240x2048.Idx) = from_ (cut base) 0 0 ∪ (Finset.univ \ from_ (cut base) 0 0) from
      (Finset.union_sdiff_of_subset (Finset.subset_univ _)).symm]
    ihave H8 := (held_union (c : Thread nD τ) arg8 Finset.disjoint_sdiff).1 $$ H8
    icases H8 with ⟨H8, H8r⟩
    rw [wp_bind]
    iapply (first c i arg1 harg1 arg2 harg2 arg3 harg3 arg4 harg4 arg5 harg5 arg6 harg6 arg7 harg7 arg8 harg8 arg9 harg9 arg10 harg10 arg11 harg11 arg12 harg12 arg13 T Y X q hc (s := 0) (by decide) rfl (tok arg13 0 (two_pos 0)) (tok_eq arg13 _ rfl))
    isplitl [Hy Hb H8 HB]
    · unfold going
      isplitl [Hy]; · iexact Hy
      isplitl [Hb]; · iexact Hb
      isplitl [H8]; · iexact H8
      iexact HB
    unfold going
    iintro ⟨Hy, Hb, -, HB⟩
    rw [wp_bind]
    iapply (Held.wp_word 𝒱₀ (c : Thread nD τ) none Set.univ (m := arg12) (X := N) (S := Finset.univ) (Finset.subset_univ _)) $$ H12
    iintro H12
    rw [wp_bind]
    iapply (Held.wp_store 𝒱₀ (c : Thread nD τ) none Set.univ (m := arg12) (X := N)) $$ H12
    iintro H12
    rw [wp_bind]
    iapply (scale_all c i arg1 harg1 arg2 harg2 arg3 harg3 arg4 harg4 arg5 harg5 arg6 harg6 arg7 harg7 arg8 harg8 arg9 harg9 arg10 harg10 arg11 harg11 arg12 harg12 arg13 SCT fullShare hc Z)
    isplitl [H4]; · iexact H4
    isplitl [H10]; · iexact H10
    iintro ⟨H4, H10⟩
    rw [wp_bind]
    iapply (Held.wp_load 𝒱₀ (c : Thread nD τ) none Set.univ (m := arg11) (X := E) (S := Finset.univ) (Finset.subset_univ _)) $$ H11
    iintro H11
    rw [wp_bind]
    iapply (Held.wp_store 𝒱₀ (c : Thread nD τ) none Set.univ (m := arg11) (X := E)) $$ H11
    iintro H11
    rw [wp_pure]
    imodintro
    iapply K
    isplitr [H4]
    · unfold mid
      iexists X, _
      isplitr
      rotate_left
      · isplitl [Hy]; · iexact Hy
        isplitl [Hb]; · iexact Hb
        isplitl [H8r]; · iexact H8r
        isplitl [HB]
        · unfold begun; rw [if_pos (by decide)]; iexact HB
        isplitl [Hs1]; · iexact Hs1
        isplitl [H10]; · iexact H10
        isplitl [H11]
        · have e := put_full (F := F) E (k0_pay2 (F := F))
          rw [e]; iexact H11
        iexact H12
      · ipureintro
        refine ⟨fun e c _ h1 h2 => by omega, fun _ => ?_⟩
        exact (put_count (F := F) (by decide) (by decide) rfl _).trans (if_pos rfl)
    · iexact H4
  · have hc : ¬ k0_cond1 i = 1#1 := fun h => h0 (by have := (cond1_iff i).1 h; omega)
    rw [dif_neg hc, if_neg h0]
    iintro ⟨H, H4, K⟩
    rw [wp_pure]
    imodintro
    iapply K
    isplitl [H]; · iexact H
    iexact H4

end Cert.Kernel.Run
-- ==== Proof.Kernel.Wait.lean ====
/-
  The next step's transfers begun, and the wait for this step's: after it the ring holds every chunk the step may read.
-/
module

public import proofs.«01_k».proof.Proof.Kernel.Setup

@[expose] public section

set_option maxRecDepth 100000

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.Fill Cert.Kernel.Gen

variable {F : FTy → Type} [FloatOps F]

local notation "𝕄" => MT nD τ sig Unit (Elt F) ℕ UU ℕ

variable (c : Dev nD) (i : grid0.Coords)
variable (arg1 : Memref sig .tc .smem S192x128 .i32) (harg1 : arg1.IsWhole) (arg2 : Memref sig .tc .smem S192x128 .i32) (harg2 : arg2.IsWhole) (arg3 : Memref sig .tc .vmem S4x4x128 .i32) (harg3 : arg3.IsWhole) (arg4 : Memref sig .tc .vmem S16x49152 .i8) (harg4 : arg4.IsWhole) (arg5 : Memref sig .tc .vmem S512x2048 .bf16) (harg5 : arg5.IsWhole) (arg6 : Memref sig .tc .hbm S49152x2048 .fp8e4m3) (harg6 : arg6.IsWhole) (arg7 : Memref sig .tc .vmem S512x2048 .bf16) (harg7 : arg7.IsWhole) (arg8 : Memref sig .tc .vmem S10240x2048 .fp8e4m3) (harg8 : arg8.IsWhole) (arg9 : Memref sig .tc .vmem S192x2048 .fp8e4m3) (harg9 : arg9.IsWhole) (arg10 : Memref sig .tc .vmem S1536x128 .i32) (harg10 : arg10.IsWhole) (arg11 : Memref sig .tc .vmem S48x2048 .bf16) (harg11 : arg11.IsWhole) (arg12 : Memref sig .tc .smem S2 .i32) (harg12 : arg12.IsWhole) (arg13 : DmaSems sig S2)

variable {base gran : Words.Table} (T : Tables base gran) (Y : S49152x2048.Idx → Elt F .fp8e4m3)
variable (SCT : S16x49152.Idx → Elt F .i8) (q : PosShare TreeShare)

/-- Every chunk step `t` may read is in the ring. -/
def Read (L : ℕ → ℕ → ℕ) (t : ℕ) (X : S10240x2048.Idx → Elt F .fp8e4m3) : Prop :=
  ∀ e c, e < 8 → C L 0 e ≤ c → C L t e ≤ c + 1 → c < C L (t + 1) e → ∀ x, Win e c (x 0).val →
    X x = Y (yx (c * 32 + ((x 0).val - (e * 40 + c % 40) * 32)) (x 1).val)

theorem Read.kept {L : ℕ → ℕ → ℕ} (h : Good L) {t : ℕ} {X : S10240x2048.Idx → Elt F .fp8e4m3} (r : Read Y L t X) :
    Kept Y L (t + 1) X := fun e c he h0 h1 x wx =>
  r e c he h0 (by have := C_mono h t e; omega) (by omega) x wx

/-- No transfer is left after the last step. -/
theorem from_end (L : ℕ → ℕ → ℕ) (s : ℕ) (h : ∀ e, C L (s + 1) e = C L s e) : from_ L s 0 = ∅ := by
  ext x
  rw [mem_from]
  constructor
  · rintro ⟨e, c, -, h1, h2, -⟩
    have := h e; omega
  · intro hx; exact absurd hx (Finset.notMem_empty x)

theorem C_end (e : ℕ) : C (cut base) 49 e = C (cut base) 48 e := rfl

/-- What the body holds before it waits: step `t`'s transfers and the next step's. -/
def ready (base : Words.Table) (t : ℕ) : sProp 𝕄 :=
  iprop(∃ X : S10240x2048.Idx → Elt F .fp8e4m3, ∃ cnt : S2.Idx → Elt F .i32,
    ⌜Kept Y (cut base) t X ∧ Count (F := F) (cut base) t cnt ∧ Count (F := F) (cut base) (t + 1) cnt⌝
    ∗ (∃ q, held (c : Thread nD τ) arg6 Finset.univ q Y) ∗ held (c : Thread nD τ) arg2 Finset.univ q (base : S192x128.Idx → Elt F .i32)
    ∗ held (c : Thread nD τ) arg8 ((Finset.univ \ from_ (cut base) t 0) \ from_ (cut base) (t + 1) 0) fullShare X
    ∗ begun c arg8 arg13 Y base t
    ∗ begun c arg8 arg13 Y base (t + 1)
    ∗ held (c : Thread nD τ) arg10 Finset.univ fullShare (scaleOf SCT)
    ∗ held (c : Thread nD τ) arg11 Finset.univ fullShare (k0_pay2 (F := F))
    ∗ held (c : Thread nD τ) arg12 Finset.univ fullShare cnt)

/-- What it holds once it has waited. -/
def after (base : Words.Table) (t : ℕ) : sProp 𝕄 :=
  iprop(∃ X : S10240x2048.Idx → Elt F .fp8e4m3, ∃ cnt : S2.Idx → Elt F .i32,
    ⌜Read Y (cut base) t X ∧ Count (F := F) (cut base) (t + 1) cnt⌝
    ∗ (∃ q, held (c : Thread nD τ) arg6 Finset.univ q Y) ∗ held (c : Thread nD τ) arg2 Finset.univ q (base : S192x128.Idx → Elt F .i32)
    ∗ held (c : Thread nD τ) arg8 (Finset.univ \ from_ (cut base) (t + 1) 0) fullShare X
    ∗ begun c arg8 arg13 Y base (t + 1)
    ∗ semVal ((c : Thread nD τ), SemLoc.dma (tok arg13 (t % 2) (two_pos _))) 0
    ∗ held (c : Thread nD τ) arg10 Finset.univ fullShare (scaleOf SCT)
    ∗ held (c : Thread nD τ) arg11 Finset.univ fullShare (k0_pay2 (F := F))
    ∗ held (c : Thread nD τ) arg12 Finset.univ fullShare cnt)

include T

theorem from_sub (t : ℕ) : from_ (cut base) (t + 1) 0 ⊆ Finset.univ \ from_ (cut base) t 0 := by
  intro x hx
  rw [Finset.mem_sdiff]
  exact ⟨Finset.mem_univ _, fun h => (Finset.disjoint_left.mp (from_next T.good t) h hx)⟩

theorem prep (t : ℕ) (ht : (i 0).val = t) {Q : PUnit → sProp 𝕄} :
    iprop(mid c arg2 arg6 arg8 arg10 arg11 arg12 arg13 Y SCT q base t
        ∗ (ready c arg2 arg6 arg8 arg10 arg11 arg12 arg13 Y SCT q base t -∗ Q ⟨⟩) : sProp 𝕄)
      ⊢ wp frame (wpE (defs₀ (F := F)) 𝒱₀ (c : Thread nD τ) none) Set.univ
        (if k0_h2 : k0_cond2 i = 1#1 then do
    let v20 : BitVec 32 ← Scf.Loop.for k0_t5_loop (k0_t5_ok i k0_h2) 0#32 (k0_t5_body i arg1 harg1 arg2 harg2 arg3 harg3 arg4 harg4 arg5 harg5 arg6 harg6 arg7 harg7 arg8 harg8 arg9 harg9 arg10 harg10 arg11 harg11 arg12 harg12 arg13 k0_h2)
    let v22 : Elt F .i32 ← smemLoad arg12 (Rect.unit (s := S2) (k0_off18 i) S1.size (k0_off18_inb i k0_h2)) numel1_S1 rfl
    Prog.lift (.store arg12 (Rect.unit (s := S2) (k0_off18 i) S1.size (k0_off18_inb i k0_h2)) (fun _ => v20) Finset.univ (View.stores_smem_one rfl numel1_S1) (.inl rfl))
    pure ⟨⟩
  else do
    pure ⟨⟩ : Prog (TpuEff nD τ sig (Elt F) Λ₀ .tc) PUnit) Q := by
  have hlt : t < 48 := ht ▸ (i 0).isLt
  unfold mid
  by_cases h0 : t + 1 < 48
  · have hc : k0_cond2 i = 1#1 := (cond2_iff i).2 (by omega)
    rw [dif_pos hc]
    iintro ⟨⟨%X, %cnt, %hX, Hy, Hb, H8, HB, Hs, H10, H11, H12⟩, K⟩
    obtain ⟨hK, hC⟩ := hX
    imod (Transfers.batch_alloc' EC (c : Thread nD τ) (sm := SemLoc.dma (tok arg13 ((t + 1) % 2) (two_pos (t + 1)))) () 2048 (brings c arg8 (cut base) Y (t + 1)) (E := Set.univ)) $$ Hs with HB'
    rw [show (Finset.univ : Finset S10240x2048.Idx) \ from_ (cut base) t 0
        = from_ (cut base) (t + 1) 0 ∪ ((Finset.univ \ from_ (cut base) t 0) \ from_ (cut base) (t + 1) 0) from
      (Finset.union_sdiff_of_subset (from_sub T t)).symm]
    ihave H8 := (held_union (c : Thread nD τ) arg8 Finset.disjoint_sdiff).1 $$ H8
    icases H8 with ⟨H8, H8r⟩
    rw [wp_bind]
    iapply (next c i arg1 harg1 arg2 harg2 arg3 harg3 arg4 harg4 arg5 harg5 arg6 harg6 arg7 harg7 arg8 harg8 arg9 harg9 arg10 harg10 arg11 harg11 arg12 harg12 arg13 T Y X q hc (s := t + 1) h0 (by rw [ht]) (tok arg13 ((t + 1) % 2) (two_pos (t + 1))) (tok_eq arg13 _ (by rw [off12_eq, ht])))
    isplitl [Hy Hb H8 HB']
    · unfold going
      isplitl [Hy]; · iexact Hy
      isplitl [Hb]; · iexact Hb
      isplitl [H8]; · iexact H8
      iexact HB'
    unfold going
    iintro ⟨Hy, Hb, -, HB'⟩
    rw [wp_bind]
    iapply (Held.wp_word 𝒱₀ (c : Thread nD τ) none Set.univ (m := arg12) (X := cnt) (S := Finset.univ) (Finset.subset_univ _)) $$ H12
    iintro H12
    rw [wp_bind]
    iapply (Held.wp_store 𝒱₀ (c : Thread nD τ) none Set.univ (m := arg12) (X := cnt)) $$ H12
    iintro H12
    rw [wp_pure]
    imodintro
    iapply K
    unfold ready
    iexists X, _
    isplitr
    rotate_left
    · isplitl [Hy]; · iexact Hy
      isplitl [Hb]; · iexact Hb
      isplitl [H8r]; · iexact H8r
      isplitl [HB]; · iexact HB
      isplitl [HB']
      · unfold begun; rw [if_pos h0]; iexact HB'
      isplitl [H10]; · iexact H10
      isplitl [H11]; · iexact H11
      iexact H12
    · ipureintro
      have ho : k0_off18 i = ![(t + 1) % 2] := by rw [off18_eq, ht]
      refine ⟨hK, fun h => ?_, fun _ => ?_⟩
      · exact (put_count (F := F) (two_pos _) (two_pos _) ho _).trans ((if_neg (by omega)).trans (hC h))
      · exact (put_count (F := F) (two_pos _) (two_pos _) ho _).trans (if_pos rfl)
  · have hc : ¬ k0_cond2 i = 1#1 := fun h => h0 (by have := (cond2_iff i).1 h; omega)
    rw [dif_neg hc]
    iintro ⟨⟨%X, %cnt, %hX, Hy, Hb, H8, HB, Hs, H10, H11, H12⟩, K⟩
    obtain ⟨hK, hC⟩ := hX
    rw [wp_pure]
    imodintro
    iapply K
    unfold ready
    iexists X, cnt
    isplitr
    · ipureintro
      exact ⟨hK, hC, fun h => absurd h h0⟩
    isplitl [Hy]; · iexact Hy
    isplitl [Hb]; · iexact Hb
    isplitl [H8]
    · have e48 : t = 47 := by omega
      subst e48
      rw [from_end (cut base) (47 + 1) (fun e => C_end e), Finset.sdiff_empty]
      iexact H8
    isplitl [HB]; · iexact HB
    isplitl [Hs]
    · unfold begun; rw [if_neg h0]; iexact Hs
    isplitl [H10]; · iexact H10
    isplitl [H11]; · iexact H11
    iexact H12

/-- The wait for step `t`'s transfers. -/
theorem wait (t : ℕ) (ht : (i 0).val = t) (b : DmaSem sig) (hb : b = tok arg13 (t % 2) (two_pos t)) {W : Waits sig Unit} {v9 : BitVec 32} (hv : v9 = w (P (cut base) t 8))
    {hk} {Q : PUnit → sProp 𝕄} :
    iprop(ready c arg2 arg6 arg8 arg10 arg11 arg12 arg13 Y SCT q base t ∗ owes (c : Thread nD τ) 0 W
        ∗ (after c arg2 arg6 arg8 arg10 arg11 arg12 arg13 Y SCT q base t
            ∗ owes (c : Thread nD τ) 0 (insert (SemLoc.dma (tok arg13 (t % 2) (two_pos t)), ()) W) -∗ Q ⟨⟩) : sProp 𝕄)
      ⊢ wp frame (wpE (defs₀ (F := F)) 𝒱₀ (c : Thread nD τ) none) Set.univ
        (Prog.lift (.waitDma b arg8.view.ref (⟨2, (k0_off21 v9).2⟩ : Shape) .fp8e4m3 hk)) Q := by
  have hlt : t < 48 := ht ▸ (i 0).isLt
  have hp : P (cut base) t 8 ≤ 136 := P_le T.good t 8
  subst hb hv
  unfold ready
  iintro ⟨⟨%X, %cnt, %hX, Hy, Hb, H8, HB, HB', H10, H11, H12⟩, HO, K⟩
  obtain ⟨hK, hC, hC'⟩ := hX
  have hB : begun c arg8 arg13 Y base t ⊢ sent c arg8 (cut base) Y (tok arg13 (t % 2) (two_pos t)) t (P (cut base) t 8) :=
    Entails.of_eq (if_pos hlt)
  ihave HB := hB $$ HB
  have hJ : arg8.view.ref.dmaCredit (⟨2, (k0_off21 (w (P (cut base) t 8))).2⟩ : Shape) .fp8e4m3 = 2048 * P (cut base) t 8 := by
    rw [off21_eq hp]; exact credit_rows _
  iapply (Held.wp_drain 𝒱₀ (c : Thread nD τ) none EC () (N := 2048) (T := P (cut base) t 8) (D := brings c arg8 (cut base) Y t) (W := W) (by decide) hJ) $$ [HB HO]
  · isplitl [HB]; · iexact HB
    iexact HO
  iintro ⟨HD, Hs, HO⟩
  iapply K
  isplitr [HO]
  · unfold after
    have hpc : (bigSep Finset.univ (brings c arg8 (cut base) Y t) : sProp 𝕄)
        ⊢ held (c : Thread nD τ) arg8 (from_ (cut base) t 0) fullShare (land (cut base) Y t) := by
      rw [from_zero T.good]
      exact held_pieces (c : Thread nD τ) arg8 Finset.univ (S := fun j : Fin (P (cut base) t 8) => at_ (cut base) t j.val)
        (fun i _ j _ hij => at_disj T.good t (fun h => hij (Fin.ext h)))
    ihave HD := hpc $$ HD
    have e1 : (held (c : Thread nD τ) arg8 (from_ (cut base) t 0) fullShare (land (cut base) Y t) : sProp 𝕄)
        = held (c : Thread nD τ) arg8 (from_ (cut base) t 0) fullShare (fun x => if x ∈ from_ (cut base) t 0 then land (cut base) Y t x else X x) :=
      held_congr _ _ fun x hx => (if_pos hx).symm
    have e2 : (held (c : Thread nD τ) arg8 ((Finset.univ \ from_ (cut base) t 0) \ from_ (cut base) (t + 1) 0) fullShare X : sProp 𝕄)
        = held (c : Thread nD τ) arg8 ((Finset.univ \ from_ (cut base) t 0) \ from_ (cut base) (t + 1) 0) fullShare (fun x => if x ∈ from_ (cut base) t 0 then land (cut base) Y t x else X x) :=
      held_congr _ _ fun x hx => (if_neg (Finset.mem_sdiff.mp (Finset.mem_sdiff.mp hx).1).2).symm
    ihave HD := Entails.of_eq e1 $$ HD
    ihave H8 := Entails.of_eq e2 $$ H8
    iexists (fun x => if x ∈ from_ (cut base) t 0 then land (cut base) Y t x else X x), cnt
    isplitr
    · ipureintro
      refine ⟨fun e k he h0 h1 h2 x wx => ?_, hC'⟩
      by_cases hx : x ∈ from_ (cut base) t 0
      · refine (if_pos hx).trans ?_
        unfold land
        have := C_step T.good t e
        rw [src_eq T.good h1 (by omega) wx]
      · refine (if_neg hx).trans ?_
        by_cases hq : C (cut base) t e ≤ k
        · exact absurd (mem_from.mpr ⟨e, k, he, hq, h2, Nat.zero_le _, wx⟩) hx
        · exact hK e k he h0 (by omega) x wx
    isplitl [Hy]; · iexact Hy
    isplitl [Hb]; · iexact Hb
    isplitl [H8 HD]
    · have hs : Finset.univ \ from_ (cut base) (t + 1) 0
          = from_ (cut base) t 0 ∪ ((Finset.univ \ from_ (cut base) t 0) \ from_ (cut base) (t + 1) 0) := by
        have hd := from_next T.good t
        ext x
        simp only [Finset.mem_sdiff, Finset.mem_union, Finset.mem_univ, true_and]
        constructor
        · intro h; by_cases hx : x ∈ from_ (cut base) t 0
          · exact .inl hx
          · exact .inr ⟨hx, h⟩
        · rintro (h | h)
          · exact Finset.disjoint_left.mp hd h
          · exact h.2
      rw [hs]
      iapply (held_union (c : Thread nD τ) arg8 ?_).2
      · rw [Finset.disjoint_left]
        intro x hx hx'
        exact (Finset.mem_sdiff.mp (Finset.mem_sdiff.mp hx').1).2 hx
      isplitl [HD]; · iexact HD
      iexact H8
    isplitl [HB']; · iexact HB'
    isplitl [Hs]; · iexact Hs
    isplitl [H10]; · iexact H10
    isplitl [H11]; · iexact H11
    iexact H12
  · iexact HO

end Cert.Kernel.Run
-- ==== Proof.Kernel.Gather.lean ====
/-
  The gather of a block: forty-eight words, four rows of the ring each.
-/
module

public import proofs.«01_k».proof.Proof.Kernel.Wait

@[expose] public section

set_option maxRecDepth 100000

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.Fill Cert.Kernel.Gen

variable {F : FTy → Type} [FloatOps F]

local notation "𝕄" => MT nD τ sig Unit (Elt F) ℕ UU ℕ

variable (c : Dev nD) (i : grid0.Coords)
variable (arg1 : Memref sig .tc .smem S192x128 .i32) (harg1 : arg1.IsWhole) (arg2 : Memref sig .tc .smem S192x128 .i32) (harg2 : arg2.IsWhole) (arg3 : Memref sig .tc .vmem S4x4x128 .i32) (harg3 : arg3.IsWhole) (arg4 : Memref sig .tc .vmem S16x49152 .i8) (harg4 : arg4.IsWhole) (arg5 : Memref sig .tc .vmem S512x2048 .bf16) (harg5 : arg5.IsWhole) (arg6 : Memref sig .tc .hbm S49152x2048 .fp8e4m3) (harg6 : arg6.IsWhole) (arg7 : Memref sig .tc .vmem S512x2048 .bf16) (harg7 : arg7.IsWhole) (arg8 : Memref sig .tc .vmem S10240x2048 .fp8e4m3) (harg8 : arg8.IsWhole) (arg9 : Memref sig .tc .vmem S192x2048 .fp8e4m3) (harg9 : arg9.IsWhole) (arg10 : Memref sig .tc .vmem S1536x128 .i32) (harg10 : arg10.IsWhole) (arg11 : Memref sig .tc .vmem S48x2048 .bf16) (harg11 : arg11.IsWhole) (arg12 : Memref sig .tc .smem S2 .i32) (harg12 : arg12.IsWhole) (arg13 : DmaSems sig S2)

variable {base gran : Words.Table} (T : Tables base gran) (Y : S49152x2048.Idx → Elt F .fp8e4m3)
variable (X : S10240x2048.Idx → Elt F .fp8e4m3) (q : PosShare TreeShare)

/-- The rows a block's words gather, four by four. -/
def packOf (base gran : Words.Table) (t b : ℕ) : S192x2048.Idx → Elt F .fp8e4m3 := fun x =>
  Y (yx (src (cut base) t ((gran (ix (4 * t + b / 2) (b % 2 * 64 + (x 0).val / 4))).toNat * 4 + (x 0).val % 4)) (x 1).val)

theorem pay3_eq (v : Vec F S4x2048 .fp8e4m3) : k0_pay3 v = v := by
  funext y
  show v (Shape.reshapeEquiv _ y) = v y
  rw [Shape.reshapeEquiv_self]

include T

/-- A ring row a word names is among the readable ones, and holds the row of the array that `src` says. -/
theorem word_row {t : ℕ} (hR : Read Y (cut base) t X) {g k : ℕ} (hg : g < 192) (hgt : g / 4 = t) (hk : k < 128) (hk' : k % 64 < 48) (j : ℕ) (hj : j < 4)
    (x : S10240x2048.Idx) (hx : (x 0).val = (gran (ix g k)).toNat * 4 + j) :
    x ∉ from_ (cut base) (t + 1) 0 ∧ X x = Y (yx (src (cut base) t ((gran (ix g k)).toNat * 4 + j)) (x 1).val) := by
  obtain ⟨e, k', o, he, ho, h1, h0, h2, hw⟩ := T.word g k hg hk hk'
  rw [hgt] at h1 h2
  have h3 := C_step T.good t e
  have hn : (gran (ix g k)).toNat = (e * 40 + k' % 40) * 8 + o := by rw [hw, toNat_w (by omega)]
  have wx : Win e k' (x 0).val := by unfold Win; omega
  refine ⟨fun h => not_next T.good h1 h2 wx (mem_from.mp h), ?_⟩
  rw [hR e k' he h0 h1 h2 x wx, ← hx, src_eq T.good h1 (by omega) wx]

/-- One word: four rows from the ring. -/
theorem word_step {t : ℕ} (ht : (i 0).val = t) (hR : Read Y (cut base) t X) (b : Fin k0_t8_loop.trips) (a0 a1 a2 : BitVec 32)
    (k : Fin k0_t9_loop.trips) (acc : Unit) :
    iprop(held (c : Thread nD τ) arg1 Finset.univ q (gran : S192x128.Idx → Elt F .i32)
        ∗ held (c : Thread nD τ) arg8 (Finset.univ \ from_ (cut base) (t + 1) 0) fullShare X
        ∗ (∃ W, ⌜∀ x : S192x2048.Idx, (x 0).val < 4 * k.val → W x = packOf Y base gran t b.val x⌝
          ∗ held (c : Thread nD τ) arg9 Finset.univ fullShare W) : sProp 𝕄)
      ⊢ wp frame (wpE (defs₀ (F := F)) 𝒱₀ (c : Thread nD τ) none) Set.univ
        (k0_t9_body (F := F) i arg1 harg1 arg2 harg2 arg3 harg3 arg4 harg4 arg5 harg5 arg6 harg6 arg7 harg7 arg8 harg8 arg9 harg9 arg10 harg10 arg11 harg11 arg12 harg12 arg13 a0 a1 a2 b k acc)
        fun _ => iprop(held (c : Thread nD τ) arg1 Finset.univ q (gran : S192x128.Idx → Elt F .i32)
          ∗ held (c : Thread nD τ) arg8 (Finset.univ \ from_ (cut base) (t + 1) 0) fullShare X
          ∗ (∃ W, ⌜∀ x : S192x2048.Idx, (x 0).val < 4 * (k.val + 1) → W x = packOf Y base gran t b.val x⌝
            ∗ held (c : Thread nD τ) arg9 Finset.univ fullShare W)) := by
  have hlt : t < 48 := ht ▸ (i 0).isLt
  have hb : b.val < 8 := b.isLt
  have hk : k.val < 48 := k.isLt
  have w1 : ∀ inb p, gran ((Rect.unit (s := S192x128) (k0_off23 i b k) S1x1.size inb).emb (Shape.Idx.first p)) = gran (ix (4 * t + b.val / 2) (b.val % 2 * 64 + k.val)) := fun inb p => by
    rw [emb_word _ _ (off23_eq i b k), ht]
  obtain ⟨e, k', o, he, ho, h1, h0, h2, hw⟩ := T.word (4 * t + b.val / 2) (b.val % 2 * 64 + k.val) (by omega) (by omega) (by omega)
  have ha : (e * 40 + k' % 40) * 8 + o < 2560 := by omega
  have hv : ∀ j : ℕ, (gran (ix (4 * t + b.val / 2) (b.val % 2 * 64 + k.val))).toNat = (e * 40 + k' % 40) * 8 + o := fun j => by
    rw [hw, toNat_w (by omega)]
  have o24 : k0_off24 (gran (ix (4 * t + b.val / 2) (b.val % 2 * 64 + k.val))) = ![(gran (ix (4 * t + b.val / 2) (b.val % 2 * 64 + k.val))).toNat * 4, 0] := by
    rw [hv 0, hw]; exact off24_eq ha
  unfold k0_t9_body
  iintro ⟨H1, H8, %W, %hW, H9⟩
  rw [wp_bind]
  iapply (Held.wp_word 𝒱₀ (c : Thread nD τ) none Set.univ (m := arg1) (X := (gran : S192x128.Idx → Elt F .i32)) (S := Finset.univ) (Finset.subset_univ _)) $$ H1
  iintro H1
  rw [w1]
  rw [wp_bind]
  iapply (Held.wp_assume 𝒱₀ (c : Thread nD τ) none Set.univ (by rw [hw]; exact chk4_of ha))
  rw [wp_bind]
  iapply (Held.wp_load 𝒱₀ (c : Thread nD τ) none Set.univ (m := arg8) (X := X) (S := Finset.univ \ from_ (cut base) (t + 1) 0) ?_) $$ H8
  · intro x hx
    rw [Finset.mem_sdiff]
    refine ⟨Finset.mem_univ _, ?_⟩
    rw [Rect.mem_set_unit] at hx
    have h := hx 0
    rw [o24] at h
    have h' : (gran (ix (4 * t + b.val / 2) (b.val % 2 * 64 + k.val))).toNat * 4 ≤ (x 0).val ∧ (x 0).val < (gran (ix (4 * t + b.val / 2) (b.val % 2 * 64 + k.val))).toNat * 4 + 4 := h
    exact (word_row T Y X hR (g := 4 * t + b.val / 2) (k := b.val % 2 * 64 + k.val) (by omega) (by omega) (by omega) (by omega) ((x 0).val - (gran (ix (4 * t + b.val / 2) (b.val % 2 * 64 + k.val))).toNat * 4) (by omega) x (by omega)).1
  iintro H8
  rw [wp_bind]
  iapply (Held.wp_load 𝒱₀ (c : Thread nD τ) none Set.univ (m := arg9) (X := W) (S := Finset.univ) (Finset.subset_univ _)) $$ H9
  iintro H9
  rw [wp_bind]
  iapply (Held.wp_store 𝒱₀ (c : Thread nD τ) none Set.univ (m := arg9) (X := W)) $$ H9
  iintro H9
  rw [wp_pure]
  imodintro
  isplitl [H1]; · iexact H1
  isplitl [H8]; · iexact H8
  iexists _
  isplitr
  rotate_left
  · iexact H9
  ipureintro
  intro x hx
  have hx1 : (x 1).val < 2048 := (x 1).isLt
  by_cases hk4 : 4 * k.val ≤ (x 0).val
  · have e25 := off25_eq k
    have hd : (x 0).val / 4 = k.val := by omega
    refine (put_in (s := S192x2048) ?_ (mk2 4 2048 ((x 0).val % 4) (x 1).val) ?_).trans ?_
    · rw [e25]; intro a; fin_cases a
      · exact ⟨hk4, show (x 0).val < 4 * k.val + 4 by omega⟩
      · exact ⟨Nat.zero_le _, show (x 1).val < 0 + 2048 by omega⟩
    · rw [e25]; intro a; fin_cases a
      · show ((x 0).val % 4) % 4 = (x 0).val - 4 * k.val
        omega
      · show (x 1).val % 2048 = (x 1).val - 0
        omega
    · have hm0 : ((mk2 4 2048 ((x 0).val % 4) (x 1).val) 0).val = (x 0).val % 4 := mk2_0 (by omega)
      have hm1 : ((mk2 4 2048 ((x 0).val % 4) (x 1).val) 1).val = (x 1).val := mk2_1 hx1
      have r := word_row T Y X hR (g := 4 * t + b.val / 2) (k := b.val % 2 * 64 + k.val) (by omega) (by omega) (by omega) (by omega) ((x 0).val % 4) (by omega)
        (mk2 10240 2048 ((gran (ix (4 * t + b.val / 2) (b.val % 2 * 64 + k.val))).toNat * 4 + (x 0).val % 4) (x 1).val)
        (mk2_0 (by rw [hv 0]; omega))
      unfold packOf
      rw [hd]
      refine Eq.trans ?_ (r.2.trans ?_)
      · rw [pay3_eq]
        show X ((Rect.unit (s := S10240x2048) _ S4x2048.size _).emb _) = _
        refine congrArg X ?_
        refine (emb2 (R := 10240) (K := 2048) _ 0 o24 _).trans ?_
        refine congr (congrArg (mk2 10240 2048) ?_) ?_
        · exact congrArg (_ + ·) hm0
        · exact (Nat.zero_add _).trans hm1
      · rw [mk2_1 hx1]
  · refine (put_out (s := S192x2048) (0 : Fin 2) (.inl ?_)).trans (hW x (by omega))
    rw [off25_eq k]
    show (x 0).val < 4 * k.val
    omega

/-- A block's words. -/
theorem gather {t : ℕ} (ht : (i 0).val = t) (hR : Read Y (cut base) t X) (b : Fin k0_t8_loop.trips) (a0 a1 a2 : BitVec 32)
    {Q : Unit → sProp 𝕄} :
    iprop(held (c : Thread nD τ) arg1 Finset.univ q (gran : S192x128.Idx → Elt F .i32)
        ∗ held (c : Thread nD τ) arg8 (Finset.univ \ from_ (cut base) (t + 1) 0) fullShare X
        ∗ (∃ W, held (c : Thread nD τ) arg9 Finset.univ fullShare W)
        ∗ (held (c : Thread nD τ) arg1 Finset.univ q (gran : S192x128.Idx → Elt F .i32)
          ∗ held (c : Thread nD τ) arg8 (Finset.univ \ from_ (cut base) (t + 1) 0) fullShare X
          ∗ held (c : Thread nD τ) arg9 Finset.univ fullShare (packOf Y base gran t b.val) -∗ Q ⟨⟩) : sProp 𝕄)
      ⊢ wp frame (wpE (defs₀ (F := F)) 𝒱₀ (c : Thread nD τ) none) Set.univ
        (Scf.Loop.for k0_t9_loop k0_t9_ok ⟨⟩ (k0_t9_body (F := F) i arg1 harg1 arg2 harg2 arg3 harg3 arg4 harg4 arg5 harg5 arg6 harg6 arg7 harg7 arg8 harg8 arg9 harg9 arg10 harg10 arg11 harg11 arg12 harg12 arg13 a0 a1 a2 b)) Q := by
  iintro ⟨H1, H8, ⟨%W, H9⟩, K⟩
  iapply (Scf.wp_for _ _ _ _ _ _ _ _ _ (fun k _ => iprop(held (c : Thread nD τ) arg1 Finset.univ q (gran : S192x128.Idx → Elt F .i32)
        ∗ held (c : Thread nD τ) arg8 (Finset.univ \ from_ (cut base) (t + 1) 0) fullShare X
        ∗ (∃ W, ⌜∀ x : S192x2048.Idx, (x 0).val < 4 * k → W x = packOf Y base gran t b.val x⌝
          ∗ held (c : Thread nD τ) arg9 Finset.univ fullShare W))) ?_)
  · intro k acc
    exact word_step c i arg1 harg1 arg2 harg2 arg3 harg3 arg4 harg4 arg5 harg5 arg6 harg6 arg7 harg7 arg8 harg8 arg9 harg9 arg10 harg10 arg11 harg11 arg12 harg12 arg13 T Y X q ht hR b a0 a1 a2 k acc
  isplitl [H1 H8 H9]
  · isplitl [H1]; · iexact H1
    isplitl [H8]; · iexact H8
    iexists W
    isplitr
    · ipureintro; intro x hx; exact absurd hx (Nat.not_lt_zero _)
    · iexact H9
  rw [show Scf.trips k0_t9_loop.lb k0_t9_loop.ub k0_t9_loop.st = 48 by decide +kernel]
  iintro %acc ⟨H1, H8, %W', %hW, H9⟩
  iapply K
  isplitl [H1]; · iexact H1
  isplitl [H8]; · iexact H8
  have e : W' = packOf Y base gran t b.val := funext fun x => hW x (show (x 0).val < 4 * 48 from (x 0).isLt)
  subst e
  iexact H9

end Cert.Kernel.Run
-- ==== Proof.Kernel.Columns.lean ====
/-
  A block's columns: 256 at a time, the products and the sum of what the block leaves.
-/
module

public import proofs.«01_k».proof.Proof.Kernel.Wait

@[expose] public section

set_option maxRecDepth 100000

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.Fill Cert.Kernel.Gen

variable {F : FTy → Type} [FloatOps F]

local notation "𝕄" => MT nD τ sig Unit (Elt F) ℕ UU ℕ

variable (c : Dev nD) (i : grid0.Coords)
variable (arg1 : Memref sig .tc .smem S192x128 .i32) (harg1 : arg1.IsWhole) (arg2 : Memref sig .tc .smem S192x128 .i32) (harg2 : arg2.IsWhole) (arg3 : Memref sig .tc .vmem S4x4x128 .i32) (harg3 : arg3.IsWhole) (arg4 : Memref sig .tc .vmem S16x49152 .i8) (harg4 : arg4.IsWhole) (arg5 : Memref sig .tc .vmem S512x2048 .bf16) (harg5 : arg5.IsWhole) (arg6 : Memref sig .tc .hbm S49152x2048 .fp8e4m3) (harg6 : arg6.IsWhole) (arg7 : Memref sig .tc .vmem S512x2048 .bf16) (harg7 : arg7.IsWhole) (arg8 : Memref sig .tc .vmem S10240x2048 .fp8e4m3) (harg8 : arg8.IsWhole) (arg9 : Memref sig .tc .vmem S192x2048 .fp8e4m3) (harg9 : arg9.IsWhole) (arg10 : Memref sig .tc .vmem S1536x128 .i32) (harg10 : arg10.IsWhole) (arg11 : Memref sig .tc .vmem S48x2048 .bf16) (harg11 : arg11.IsWhole) (arg12 : Memref sig .tc .smem S2 .i32) (harg12 : arg12.IsWhole) (arg13 : DmaSems sig S2)

variable (PK : S192x2048.Idx → Elt F .fp8e4m3) (EX : S48x2048.Idx → Elt F .bf16) (XB G : S512x2048.Idx → Elt F .bf16)
variable (v302 : FVec F S128x48 .bf16) (v311 : FVec F S128x192 .fp8e4m3)

/-- Columns `128 j` to `128 j + 127` of the gathered rows, -/
def pk (j : ℕ) : Vec F S192x128 .fp8e4m3 := fun y => PK (mk2 192 2048 (y 0).val (128 * j + (y 1).val))
/-- columns `256 k` to `256 k + 255` of the expansion matrix, -/
def ex (k : ℕ) : Vec F S48x256 .bf16 := fun y => EX (mk2 48 2048 (y 0).val (256 * k + (y 1).val))
/-- and of the block's 64 rows of `x`. -/
def xb (b k : ℕ) : Vec F S64x256 .bf16 := fun y => XB (mk2 512 2048 (64 * b + (y 0).val) (256 * k + (y 1).val))

/-- What the block leaves at an index of its rows. -/
def colOf (b : ℕ) : S512x2048.Idx → Elt F .bf16 := fun x =>
  k0_pay23 v302 v311 (pk PK (2 * ((x 1).val / 256))) (pk PK (2 * ((x 1).val / 256) + 1)) (ex EX ((x 1).val / 256)) (xb XB b ((x 1).val / 256))
    (mk2 64 256 ((x 0).val % 64) ((x 1).val % 256))

/-- The rows before the block's are `G`'s, and the block's first `256 k` columns are done. -/
def Cols (b k : ℕ) (O : S512x2048.Idx → Elt F .bf16) : Prop :=
  (∀ x, (x 0).val < 64 * b → O x = G x) ∧ ∀ x, (x 0).val / 64 = b → (x 1).val < 256 * k → O x = colOf PK EX XB v302 v311 b x

theorem pk_eq (j : ℕ) {off : Fin 2 → ℕ} (h : off = ![0, 128 * j]) {inb} :
    (fun y => PK ((Rect.unit (s := S192x2048) off S192x128.size inb).emb y)) = pk PK j := by
  funext y
  refine congrArg PK ((emb2 (R := 192) (K := 2048) 0 (128 * j) h y).trans ?_)
  rw [Nat.zero_add]

theorem ex_eq (j : ℕ) {off : Fin 2 → ℕ} (h : off = ![0, 256 * j]) {inb} :
    (fun y => EX ((Rect.unit (s := S48x2048) off S48x256.size inb).emb y)) = ex EX j := by
  funext y
  refine congrArg EX ((emb2 (R := 48) (K := 2048) 0 (256 * j) h y).trans ?_)
  rw [Nat.zero_add]

theorem xb_eq (b j : ℕ) {off : Fin 2 → ℕ} (h : off = ![64 * b, 256 * j]) {inb} :
    (fun y => XB ((Rect.unit (s := S512x2048) off S64x256.size inb).emb y)) = xb XB b j := by
  funext y
  exact congrArg XB (emb2 (R := 512) (K := 2048) (64 * b) (256 * j) h y)

theorem cols_eq {v302 : FVec F S128x48 .bf16} {v311 : FVec F S128x192 .fp8e4m3}
    (p : FVec F S128x48 .bf16 → FVec F S128x192 .fp8e4m3 → Vec F S192x128 .fp8e4m3 → Vec F S192x128 .fp8e4m3 → Vec F S48x256 .bf16 → Vec F S64x256 .bf16 → FVec F S64x256 .bf16)
    (hp : p = k0_pay23) {a a' d d' : Vec F S192x128 .fp8e4m3} {e e' : Vec F S48x256 .bf16} {x x' : Vec F S64x256 .bf16}
    (h1 : a = a') (h2 : d = d') (h3 : e = e') (h4 : x = x') : p v302 v311 a d e x = k0_pay23 v302 v311 a' d' e' x' := by
  subst hp h1 h2 h3 h4; rfl

theorem col_put (b k : ℕ) {O : S512x2048.Idx → Elt F .bf16} (hO : Cols PK EX XB G v302 v311 b k O) {off : Fin 2 → ℕ}
    (ho : off = ![64 * b, 256 * k]) (v : FVec F S64x256 .bf16)
    (hv : v = k0_pay23 v302 v311 (pk PK (2 * k)) (pk PK (2 * k + 1)) (ex EX k) (xb XB b k)) :
    Cols PK EX XB G v302 v311 b (k + 1) (VecWindow.put (s := S512x2048) O off S64x256.size v) := by
  subst ho
  constructor
  · intro x hx
    exact (put_out (s := S512x2048) (0 : Fin 2) (.inl hx)).trans (hO.1 x hx)
  · intro x hx hx1
    by_cases hk : 256 * k ≤ (x 1).val
    · have hd : (x 1).val / 256 = k := by omega
      refine (put_in (s := S512x2048) ?_ (mk2 64 256 ((x 0).val % 64) ((x 1).val % 256)) ?_).trans ?_
      · intro a; fin_cases a
        · show 64 * b ≤ (x 0).val ∧ (x 0).val < 64 * b + 64
          omega
        · show 256 * k ≤ (x 1).val ∧ (x 1).val < 256 * k + 256
          omega
      · intro a; fin_cases a
        · show (x 0).val % 64 % 64 = (x 0).val - 64 * b
          omega
        · show (x 1).val % 256 % 256 = (x 1).val - 256 * k
          omega
      · unfold colOf
        rw [hd, hv]
    · exact (put_out (s := S512x2048) (1 : Fin 2) (.inl (by show (x 1).val < 256 * k; omega))).trans (hO.2 x hx (by omega))

theorem part8_run (b : Fin k0_t8_loop.trips) (arg14 c64 : BitVec 32) {Q} :
    iprop(held (c : Thread nD τ) arg9 Finset.univ fullShare PK ∗ held (c : Thread nD τ) arg11 Finset.univ fullShare EX
        ∗ held (c : Thread nD τ) arg5 Finset.univ fullShare XB ∗ (∃ O, ⌜Cols PK EX XB G v302 v311 b.val 0 O⌝ ∗ held (c : Thread nD τ) arg7 Finset.univ fullShare O)
        ∗ (∀ r, held (c : Thread nD τ) arg9 Finset.univ fullShare PK ∗ held (c : Thread nD τ) arg11 Finset.univ fullShare EX
        ∗ held (c : Thread nD τ) arg5 Finset.univ fullShare XB ∗ (∃ O, ⌜Cols PK EX XB G v302 v311 b.val 2 O⌝ ∗ held (c : Thread nD τ) arg7 Finset.univ fullShare O) -∗ Q r) : sProp 𝕄)
      ⊢ wp frame (wpE (defs₀ (F := F)) 𝒱₀ (c : Thread nD τ) none) Set.univ (k0_part8 (F := F) i arg1 harg1 arg2 harg2 arg3 harg3 arg4 harg4 arg5 harg5 arg6 harg6 arg7 harg7 arg8 harg8 arg9 harg9 arg10 harg10 arg11 harg11 arg12 harg12 arg13 b arg14 v302 v311 c64) Q := by
  rw [k0_part8_eq_skeleton]
  unfold k0_part8_skel
  iintro ⟨H9, H11, H5, ⟨%O, %hO, H7⟩, K⟩
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg11) (X := EX) (S := Finset.univ) (Finset.subset_univ _)) $$ H11
  iintro H11
  rw [wp_bind]
  iapply (Held.wp_load 𝒱₀ (c : Thread nD τ) none Set.univ (m := arg5) (X := XB) (S := Finset.univ) (Finset.subset_univ _)) $$ H5
  iintro H5
  rw [wp_bind]
  iapply (Held.wp_load 𝒱₀ (c : Thread nD τ) none Set.univ (m := arg7) (X := _) (S := Finset.univ) (Finset.subset_univ _)) $$ H7
  iintro H7
  rw [wp_bind]
  iapply (Held.wp_store 𝒱₀ (c : Thread nD τ) none Set.univ (m := arg7)) $$ H7
  iintro H7
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg11) (X := EX) (S := Finset.univ) (Finset.subset_univ _)) $$ H11
  iintro H11
  rw [wp_bind]
  iapply (Held.wp_load 𝒱₀ (c : Thread nD τ) none Set.univ (m := arg5) (X := XB) (S := Finset.univ) (Finset.subset_univ _)) $$ H5
  iintro H5
  rw [wp_bind]
  iapply (Held.wp_load 𝒱₀ (c : Thread nD τ) none Set.univ (m := arg7) (X := _) (S := Finset.univ) (Finset.subset_univ _)) $$ H7
  iintro H7
  rw [wp_bind]
  iapply (Held.wp_store 𝒱₀ (c : Thread nD τ) none Set.univ (m := arg7)) $$ H7
  iintro H7
  rw [wp_pure]
  imodintro
  iapply K
  isplitl [H9]; · iexact H9
  isplitl [H11]; · iexact H11
  isplitl [H5]; · iexact H5
  iexists _
  isplitr
  rotate_left
  · iexact H7
  ipureintro
  exact (col_put PK EX XB G v302 v311 b.val 1 (col_put PK EX XB G v302 v311 b.val 0 hO (off44_eq b) _
    (by first | exact cols_eq k0_pay23 rfl (pk_eq PK 0 rfl) (pk_eq PK 1 rfl) (ex_eq EX 0 rfl) (xb_eq XB b.val 0 (off44_eq b)))) (off45_eq b) _
    (by first | exact cols_eq k0_pay24 rfl (pk_eq PK 2 rfl) (pk_eq PK 3 rfl) (ex_eq EX 1 rfl) (xb_eq XB b.val 1 (off45_eq b))))

theorem part9_run (b : Fin k0_t8_loop.trips) (v313 : BitVec 32) {Q} :
    iprop(held (c : Thread nD τ) arg9 Finset.univ fullShare PK ∗ held (c : Thread nD τ) arg11 Finset.univ fullShare EX
        ∗ held (c : Thread nD τ) arg5 Finset.univ fullShare XB ∗ (∃ O, ⌜Cols PK EX XB G v302 v311 b.val 2 O⌝ ∗ held (c : Thread nD τ) arg7 Finset.univ fullShare O)
        ∗ (∀ r, held (c : Thread nD τ) arg9 Finset.univ fullShare PK ∗ held (c : Thread nD τ) arg11 Finset.univ fullShare EX
        ∗ held (c : Thread nD τ) arg5 Finset.univ fullShare XB ∗ (∃ O, ⌜Cols PK EX XB G v302 v311 b.val 4 O⌝ ∗ held (c : Thread nD τ) arg7 Finset.univ fullShare O) -∗ Q r) : sProp 𝕄)
      ⊢ wp frame (wpE (defs₀ (F := F)) 𝒱₀ (c : Thread nD τ) none) Set.univ (k0_part9 (F := F) i arg1 harg1 arg2 harg2 arg3 harg3 arg4 harg4 arg5 harg5 arg6 harg6 arg7 harg7 arg8 harg8 arg9 harg9 arg10 harg10 arg11 harg11 arg12 harg12 arg13 b v302 v311 v313) Q := by
  rw [k0_part9_eq_skeleton]
  unfold k0_part9_skel
  iintro ⟨H9, H11, H5, ⟨%O, %hO, H7⟩, K⟩
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg11) (X := EX) (S := Finset.univ) (Finset.subset_univ _)) $$ H11
  iintro H11
  rw [wp_bind]
  iapply (Held.wp_load 𝒱₀ (c : Thread nD τ) none Set.univ (m := arg5) (X := XB) (S := Finset.univ) (Finset.subset_univ _)) $$ H5
  iintro H5
  rw [wp_bind]
  iapply (Held.wp_load 𝒱₀ (c : Thread nD τ) none Set.univ (m := arg7) (X := _) (S := Finset.univ) (Finset.subset_univ _)) $$ H7
  iintro H7
  rw [wp_bind]
  iapply (Held.wp_store 𝒱₀ (c : Thread nD τ) none Set.univ (m := arg7)) $$ H7
  iintro H7
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg11) (X := EX) (S := Finset.univ) (Finset.subset_univ _)) $$ H11
  iintro H11
  rw [wp_bind]
  iapply (Held.wp_load 𝒱₀ (c : Thread nD τ) none Set.univ (m := arg5) (X := XB) (S := Finset.univ) (Finset.subset_univ _)) $$ H5
  iintro H5
  rw [wp_bind]
  iapply (Held.wp_load 𝒱₀ (c : Thread nD τ) none Set.univ (m := arg7) (X := _) (S := Finset.univ) (Finset.subset_univ _)) $$ H7
  iintro H7
  rw [wp_bind]
  iapply (Held.wp_store 𝒱₀ (c : Thread nD τ) none Set.univ (m := arg7)) $$ H7
  iintro H7
  rw [wp_pure]
  imodintro
  iapply K
  isplitl [H9]; · iexact H9
  isplitl [H11]; · iexact H11
  isplitl [H5]; · iexact H5
  iexists _
  isplitr
  rotate_left
  · iexact H7
  ipureintro
  exact (col_put PK EX XB G v302 v311 b.val 3 (col_put PK EX XB G v302 v311 b.val 2 hO (off46_eq b) _
    (by first | exact cols_eq k0_pay25 rfl (pk_eq PK 4 rfl) (pk_eq PK 5 rfl) (ex_eq EX 2 rfl) (xb_eq XB b.val 2 (off46_eq b)))) (off47_eq b) _
    (by first | exact cols_eq k0_pay26 rfl (pk_eq PK 6 rfl) (pk_eq PK 7 rfl) (ex_eq EX 3 rfl) (xb_eq XB b.val 3 (off47_eq b))))

theorem part10_run (b : Fin k0_t8_loop.trips) (v313 : BitVec 32) {Q} :
    iprop(held (c : Thread nD τ) arg9 Finset.univ fullShare PK ∗ held (c : Thread nD τ) arg11 Finset.univ fullShare EX
        ∗ held (c : Thread nD τ) arg5 Finset.univ fullShare XB ∗ (∃ O, ⌜Cols PK EX XB G v302 v311 b.val 4 O⌝ ∗ held (c : Thread nD τ) arg7 Finset.univ fullShare O)
        ∗ (held (c : Thread nD τ) arg9 Finset.univ fullShare PK ∗ held (c : Thread nD τ) arg11 Finset.univ fullShare EX
        ∗ held (c : Thread nD τ) arg5 Finset.univ fullShare XB ∗ (∃ O, ⌜Cols PK EX XB G v302 v311 b.val 6 O⌝ ∗ held (c : Thread nD τ) arg7 Finset.univ fullShare O) -∗ Q (pk PK 12)) : sProp 𝕄)
      ⊢ wp frame (wpE (defs₀ (F := F)) 𝒱₀ (c : Thread nD τ) none) Set.univ (k0_part10 (F := F) i arg1 harg1 arg2 harg2 arg3 harg3 arg4 harg4 arg5 harg5 arg6 harg6 arg7 harg7 arg8 harg8 arg9 harg9 arg10 harg10 arg11 harg11 arg12 harg12 arg13 b v302 v311 v313) Q := by
  rw [k0_part10_eq_skeleton]
  unfold k0_part10_skel
  iintro ⟨H9, H11, H5, ⟨%O, %hO, H7⟩, K⟩
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg11) (X := EX) (S := Finset.univ) (Finset.subset_univ _)) $$ H11
  iintro H11
  rw [wp_bind]
  iapply (Held.wp_load 𝒱₀ (c : Thread nD τ) none Set.univ (m := arg5) (X := XB) (S := Finset.univ) (Finset.subset_univ _)) $$ H5
  iintro H5
  rw [wp_bind]
  iapply (Held.wp_load 𝒱₀ (c : Thread nD τ) none Set.univ (m := arg7) (X := _) (S := Finset.univ) (Finset.subset_univ _)) $$ H7
  iintro H7
  rw [wp_bind]
  iapply (Held.wp_store 𝒱₀ (c : Thread nD τ) none Set.univ (m := arg7)) $$ H7
  iintro H7
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg11) (X := EX) (S := Finset.univ) (Finset.subset_univ _)) $$ H11
  iintro H11
  rw [wp_bind]
  iapply (Held.wp_load 𝒱₀ (c : Thread nD τ) none Set.univ (m := arg5) (X := XB) (S := Finset.univ) (Finset.subset_univ _)) $$ H5
  iintro H5
  rw [wp_bind]
  iapply (Held.wp_load 𝒱₀ (c : Thread nD τ) none Set.univ (m := arg7) (X := _) (S := Finset.univ) (Finset.subset_univ _)) $$ H7
  iintro H7
  rw [wp_bind]
  iapply (Held.wp_store 𝒱₀ (c : Thread nD τ) none Set.univ (m := arg7)) $$ H7
  iintro H7
  rw [wp_bind]
  iapply (Held.wp_load 𝒱₀ (c : Thread nD τ) none Set.univ (m := arg9) (X := PK) (S := Finset.univ) (Finset.subset_univ _)) $$ H9
  iintro H9
  rw [wp_pure]
  imodintro
  rw [pk_eq PK 12 rfl]
  iapply K
  isplitl [H9]; · iexact H9
  isplitl [H11]; · iexact H11
  isplitl [H5]; · iexact H5
  iexists _
  isplitr
  rotate_left
  · iexact H7
  ipureintro
  exact (col_put PK EX XB G v302 v311 b.val 5 (col_put PK EX XB G v302 v311 b.val 4 hO (off48_eq b) _
    (by first | exact cols_eq k0_pay27 rfl (pk_eq PK 8 rfl) (pk_eq PK 9 rfl) (ex_eq EX 4 rfl) (xb_eq XB b.val 4 (off48_eq b)))) (off49_eq b) _
    (by first | exact cols_eq k0_pay28 rfl (pk_eq PK 10 rfl) (pk_eq PK 11 rfl) (ex_eq EX 5 rfl) (xb_eq XB b.val 5 (off49_eq b))))

end Cert.Kernel.Run
-- ==== Proof.Kernel.Lanes.lean ====
/-
  The parts of a block before its products: the gather, and the weights and scales of its entries.
-/
module

public import proofs.«01_k».proof.Proof.Kernel.Gather
public import proofs.«01_k».proof.Proof.Kernel.Columns

@[expose] public section

set_option maxRecDepth 100000

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.Fill Cert.Kernel.Gen

variable {F : FTy → Type} [FloatOps F]

local notation "𝕄" => MT nD τ sig Unit (Elt F) ℕ UU ℕ

variable (c : Dev nD) (i : grid0.Coords)
variable (arg1 : Memref sig .tc .smem S192x128 .i32) (harg1 : arg1.IsWhole) (arg2 : Memref sig .tc .smem S192x128 .i32) (harg2 : arg2.IsWhole) (arg3 : Memref sig .tc .vmem S4x4x128 .i32) (harg3 : arg3.IsWhole) (arg4 : Memref sig .tc .vmem S16x49152 .i8) (harg4 : arg4.IsWhole) (arg5 : Memref sig .tc .vmem S512x2048 .bf16) (harg5 : arg5.IsWhole) (arg6 : Memref sig .tc .hbm S49152x2048 .fp8e4m3) (harg6 : arg6.IsWhole) (arg7 : Memref sig .tc .vmem S512x2048 .bf16) (harg7 : arg7.IsWhole) (arg8 : Memref sig .tc .vmem S10240x2048 .fp8e4m3) (harg8 : arg8.IsWhole) (arg9 : Memref sig .tc .vmem S192x2048 .fp8e4m3) (harg9 : arg9.IsWhole) (arg10 : Memref sig .tc .vmem S1536x128 .i32) (harg10 : arg10.IsWhole) (arg11 : Memref sig .tc .vmem S48x2048 .bf16) (harg11 : arg11.IsWhole) (arg12 : Memref sig .tc .smem S2 .i32) (harg12 : arg12.IsWhole) (arg13 : DmaSems sig S2)

variable {base gran : Words.Table} (T : Tables base gran) (Y : S49152x2048.Idx → Elt F .fp8e4m3)
variable (X : S10240x2048.Idx → Elt F .fp8e4m3) (q : PosShare TreeShare)
variable (M : S4x4x128.Idx → Elt F .i32) (SC : S1536x128.Idx → Elt F .i32)
variable (EX : S48x2048.Idx → Elt F .bf16) (XB G : S512x2048.Idx → Elt F .bf16)

/-- The index of `S4x4x128` at three naturals, each taken within its bound. -/
def m3 (a r k : ℕ) : S4x4x128.Idx := fun d => match d with
  | ⟨0, _⟩ => Fin.ofNat 4 a
  | ⟨1, _⟩ => Fin.ofNat 4 r
  | ⟨2, _⟩ => Fin.ofNat 128 k

/-- A lane row of the descriptors. -/
def mrow (a r : ℕ) : Vec F S1x1x128 .i32 := fun y => M (m3 a r (y 2).val)

theorem mrow_eq {a r : ℕ} {off : Fin 3 → ℕ} (h : off = ![a, r, 0]) {inb} :
    (fun y => M ((Rect.unit (s := S4x4x128) off S1x1x128.size inb).emb y)) = mrow M a r := by
  subst h
  funext y
  refine congrArg M ?_
  have h0 : a + 1 ≤ 4 := inb 0
  have h1 : r + 1 ≤ 4 := inb 1
  have y0 : (y 0).val < 1 := (y 0).isLt
  have y1 : (y 1).val < 1 := (y 1).isLt
  have y2 : (y 2).val < 128 := (y 2).isLt
  funext d
  apply Fin.ext
  rw [Rect.emb_apply]
  fin_cases d
  · show a + 1 * (y 0).val = a % 4
    omega
  · show r + 1 * (y 1).val = r % 4
    omega
  · show 0 + 1 * (y 2).val = (y 2).val % 128
    omega

/-- The window of scale words a table entry asks for: eight rows, from the chunk it names. -/
def scl (v : BitVec 32) : Vec F S8x128 .i32 := fun y => SC (mk2 1536 128 (min (v.toNat / 128) 382 * 4 + (y 0).val) (y 1).val)

theorem scl_eq {v : BitVec 32} (hv : 0 ≤ v.toInt) {off : Fin 2 → ℕ} (h : off = k0_off29 v) {inb} :
    (fun y => SC ((Rect.unit (s := S1536x128) off S8x128.size inb).emb y)) = scl SC v := by
  funext y
  refine congrArg SC ((emb2 (R := 1536) (K := 128) _ 0 (h.trans (off29_eq hv)) y).trans ?_)
  rw [Nat.zero_add]

/-- The two words of scale bytes of the block's entries, from the windows of the eight experts. -/
def scaleWords (v50 : IVec S1x128 32) (s : ℕ → Vec F S8x128 .i32) : IVec S4x128 32 × IVec S4x128 32 :=
  let v62 := k0_pay7 v50
  let v64 := k0_pay8 v50
  let v68 := k0_pay9 v50
  let v92 := k0_pay10 v50 (s 0)
  let v115 := k0_pay11 v64 v68 v92 (s 1)
  let v161 := k0_pay14 v64 v68 v115 (k0_pay12 v68 (s 2)) (k0_pay13 v64) (s 3)
  let v207 := k0_pay16 v64 v68 v161 (s 4) (k0_pay15 v68) (s 5)
  (k0_pay18 v62 v64 v68 v207 (s 6) (k0_pay17 v68) (s 7), k0_pay19 v62 v64 v68 v207 (s 6) (k0_pay17 v68) (s 7))

/-- The weights and scales of a block's 128 entries, -/
def lhsOf (base : Words.Table) (t b : ℕ) : FVec F S128x48 .bf16 :=
  let v50 := k0_pay4 (F := F) (mrow M (b / 2) (b % 2))
  let r := scaleWords v50 fun k => scl SC (base (ix (4 * t + b / 2) (b % 2 * 8 + k)))
  k0_pay21 (k0_pay5 (mrow M (b / 2) (2 + b % 2))) (k0_pay6 v50) r.1 r.2
/-- and the matrix that picks their rows. -/
def pickOf (base : Words.Table) (t b : ℕ) : FVec F S128x192 .fp8e4m3 :=
  let v50 := k0_pay4 (F := F) (mrow M (b / 2) (b % 2))
  let r := scaleWords v50 fun k => scl SC (base (ix (4 * t + b / 2) (b % 2 * 8 + k)))
  k0_pay22 (k0_pay5 (mrow M (b / 2) (2 + b % 2))) (k0_pay6 v50) r.1 r.2

/-- What a grid step leaves in its 512 rows. -/
def outOf (base gran : Words.Table) (t : ℕ) : S512x2048.Idx → Elt F .bf16 := fun x =>
  colOf (packOf Y base gran t ((x 0).val / 64)) EX XB (lhsOf M SC base t ((x 0).val / 64)) (pickOf M SC base t ((x 0).val / 64)) ((x 0).val / 64) x

include T

theorem nonneg {t : ℕ} (ht : (i 0).val = t) (b : Fin k0_t8_loop.trips) (k : ℕ) (hk : k < 8) :
    0 ≤ (base (ix (4 * t + b.val / 2) (b.val % 2 * 8 + k))).toInt := by
  have hlt : t < 48 := ht ▸ (i 0).isLt
  have hb : b.val < 8 := b.isLt
  exact T.win _ _ (by omega) (by omega)

theorem part2_run {t : ℕ} (ht : (i 0).val = t) (b : Fin k0_t8_loop.trips) (v43 v45 : BitVec 32) (v50 : IVec S1x128 32) {Q} :
    iprop(held (c : Thread nD τ) arg2 Finset.univ q (base : S192x128.Idx → Elt F .i32) ∗ held (c : Thread nD τ) arg10 Finset.univ fullShare SC
        ∗ held (c : Thread nD τ) arg3 Finset.univ fullShare M
        ∗ (∀ v94, held (c : Thread nD τ) arg2 Finset.univ q (base : S192x128.Idx → Elt F .i32) ∗ held (c : Thread nD τ) arg10 Finset.univ fullShare SC
          ∗ held (c : Thread nD τ) arg3 Finset.univ fullShare M
          -∗ Q ⟨k0_pay5 (mrow M (b.val / 2) (2 + b.val % 2)), k0_pay6 v50, k0_pay7 v50, k0_pay8 v50, k0_pay9 v50, k0_pay10 v50 (scl SC (base (ix (4 * t + b.val / 2) (b.val % 2 * 8 + 0)))), v94⟩) : sProp 𝕄)
      ⊢ wp frame (wpE (defs₀ (F := F)) 𝒱₀ (c : Thread nD τ) none) Set.univ (k0_part2 (F := F) i arg1 harg1 arg2 harg2 arg3 harg3 arg4 harg4 arg5 harg5 arg6 harg6 arg7 harg7 arg8 harg8 arg9 harg9 arg10 harg10 arg11 harg11 arg12 harg12 arg13 b v43 v45 v50) Q := by
  rw [k0_part2_eq_skeleton]
  unfold k0_part2_skel
  iintro ⟨H2, H10, H3, K⟩
  rw [wp_bind]
  iapply (Held.wp_load 𝒱₀ (c : Thread nD τ) none Set.univ (m := arg3) (X := M) (S := Finset.univ) (Finset.subset_univ _)) $$ H3
  iintro H3
  rw [mrow_eq M (off27_eq b)]
  rw [wp_bind]
  iapply (Held.wp_word 𝒱₀ (c : Thread nD τ) none Set.univ (m := arg2) (X := (base : S192x128.Idx → Elt F .i32)) (S := Finset.univ) (Finset.subset_univ _)) $$ H2
  iintro H2
  rw [emb_word _ (b.val % 2 * 8 + 0) (off28_eq i b), ht]
  rw [wp_bind]
  iapply (Held.wp_assume 𝒱₀ (c : Thread nD τ) none Set.univ (show k0_chk5 (base (ix (4 * t + b.val / 2) (b.val % 2 * 8 + 0))) from chk5_of (nonneg i T ht b 0 (by omega))))
  rw [wp_bind]
  iapply (Held.wp_load 𝒱₀ (c : Thread nD τ) none Set.univ (m := arg10) (X := SC) (S := Finset.univ) (Finset.subset_univ _)) $$ H10
  iintro H10
  rw [scl_eq SC (nonneg i T ht b 0 (by omega)) (off := k0_off29 (base (ix (4 * t + b.val / 2) (b.val % 2 * 8 + 0)))) rfl]
  rw [wp_pure]
  imodintro
  iapply K
  isplitl [H2]; · iexact H2
  isplitl [H10]; · iexact H10
  iexact H3

theorem part3_run {t : ℕ} (ht : (i 0).val = t) (b : Fin k0_t8_loop.trips) (v43 v45 : BitVec 32) (v64 : IVec S1x128 32) (v68 v92 : IVec S8x128 32) (v94 : BitVec 32) {Q} :
    iprop(held (c : Thread nD τ) arg2 Finset.univ q (base : S192x128.Idx → Elt F .i32) ∗ held (c : Thread nD τ) arg10 Finset.univ fullShare SC
        ∗ (held (c : Thread nD τ) arg2 Finset.univ q (base : S192x128.Idx → Elt F .i32) ∗ held (c : Thread nD τ) arg10 Finset.univ fullShare SC
          -∗ Q ⟨k0_pay11 v64 v68 v92 (scl SC (base (ix (4 * t + b.val / 2) (b.val % 2 * 8 + 1)))), k0_pay12 v68 (scl SC (base (ix (4 * t + b.val / 2) (b.val % 2 * 8 + 2)))), k0_pay13 v64⟩) : sProp 𝕄)
      ⊢ wp frame (wpE (defs₀ (F := F)) 𝒱₀ (c : Thread nD τ) none) Set.univ (k0_part3 (F := F) i arg1 harg1 arg2 harg2 arg3 harg3 arg4 harg4 arg5 harg5 arg6 harg6 arg7 harg7 arg8 harg8 arg9 harg9 arg10 harg10 arg11 harg11 arg12 harg12 arg13 b v43 v45 v64 v68 v92 v94) Q := by
  rw [k0_part3_eq_skeleton]
  unfold k0_part3_skel
  iintro ⟨H2, H10, K⟩
  rw [wp_bind]
  iapply (Held.wp_word 𝒱₀ (c : Thread nD τ) none Set.univ (m := arg2) (X := (base : S192x128.Idx → Elt F .i32)) (S := Finset.univ) (Finset.subset_univ _)) $$ H2
  iintro H2
  rw [emb_word _ (b.val % 2 * 8 + 1) (off30_eq i b), ht]
  rw [wp_bind]
  iapply (Held.wp_assume 𝒱₀ (c : Thread nD τ) none Set.univ (show k0_chk6 (base (ix (4 * t + b.val / 2) (b.val % 2 * 8 + 1))) from chk5_of (nonneg i T ht b 1 (by omega))))
  rw [wp_bind]
  iapply (Held.wp_load 𝒱₀ (c : Thread nD τ) none Set.univ (m := arg10) (X := SC) (S := Finset.univ) (Finset.subset_univ _)) $$ H10
  iintro H10
  rw [scl_eq SC (nonneg i T ht b 1 (by omega)) (off := k0_off31 (base (ix (4 * t + b.val / 2) (b.val % 2 * 8 + 1)))) rfl]
  rw [wp_bind]
  iapply (Held.wp_word 𝒱₀ (c : Thread nD τ) none Set.univ (m := arg2) (X := (base : S192x128.Idx → Elt F .i32)) (S := Finset.univ) (Finset.subset_univ _)) $$ H2
  iintro H2
  rw [emb_word _ (b.val % 2 * 8 + 2) (off32_eq i b), ht]
  rw [wp_bind]
  iapply (Held.wp_assume 𝒱₀ (c : Thread nD τ) none Set.univ (show k0_chk7 (base (ix (4 * t + b.val / 2) (b.val % 2 * 8 + 2))) from chk5_of (nonneg i T ht b 2 (by omega))))
  rw [wp_bind]
  iapply (Held.wp_load 𝒱₀ (c : Thread nD τ) none Set.univ (m := arg10) (X := SC) (S := Finset.univ) (Finset.subset_univ _)) $$ H10
  iintro H10
  rw [scl_eq SC (nonneg i T ht b 2 (by omega)) (off := k0_off33 (base (ix (4 * t + b.val / 2) (b.val % 2 * 8 + 2)))) rfl]
  rw [wp_pure]
  imodintro
  iapply K
  isplitl [H2]; · iexact H2
  iexact H10

theorem part4_run {t : ℕ} (ht : (i 0).val = t) (b : Fin k0_t8_loop.trips) (v43 v45 : BitVec 32) (v64 : IVec S1x128 32) (v68 v115 v133 : IVec S8x128 32) (v137 : IVec S8x128 1) {Q} :
    iprop(held (c : Thread nD τ) arg2 Finset.univ q (base : S192x128.Idx → Elt F .i32) ∗ held (c : Thread nD τ) arg10 Finset.univ fullShare SC
        ∗ (held (c : Thread nD τ) arg2 Finset.univ q (base : S192x128.Idx → Elt F .i32) ∗ held (c : Thread nD τ) arg10 Finset.univ fullShare SC
          -∗ Q ⟨k0_pay14 v64 v68 v115 v133 v137 (scl SC (base (ix (4 * t + b.val / 2) (b.val % 2 * 8 + 3)))), (scl SC (base (ix (4 * t + b.val / 2) (b.val % 2 * 8 + 4)))), k0_pay15 v68⟩) : sProp 𝕄)
      ⊢ wp frame (wpE (defs₀ (F := F)) 𝒱₀ (c : Thread nD τ) none) Set.univ (k0_part4 (F := F) i arg1 harg1 arg2 harg2 arg3 harg3 arg4 harg4 arg5 harg5 arg6 harg6 arg7 harg7 arg8 harg8 arg9 harg9 arg10 harg10 arg11 harg11 arg12 harg12 arg13 b v43 v45 v64 v68 v115 v133 v137) Q := by
  rw [k0_part4_eq_skeleton]
  unfold k0_part4_skel
  iintro ⟨H2, H10, K⟩
  rw [wp_bind]
  iapply (Held.wp_word 𝒱₀ (c : Thread nD τ) none Set.univ (m := arg2) (X := (base : S192x128.Idx → Elt F .i32)) (S := Finset.univ) (Finset.subset_univ _)) $$ H2
  iintro H2
  rw [emb_word _ (b.val % 2 * 8 + 3) (off34_eq i b), ht]
  rw [wp_bind]
  iapply (Held.wp_assume 𝒱₀ (c : Thread nD τ) none Set.univ (show k0_chk8 (base (ix (4 * t + b.val / 2) (b.val % 2 * 8 + 3))) from chk5_of (nonneg i T ht b 3 (by omega))))
  rw [wp_bind]
  iapply (Held.wp_load 𝒱₀ (c : Thread nD τ) none Set.univ (m := arg10) (X := SC) (S := Finset.univ) (Finset.subset_univ _)) $$ H10
  iintro H10
  rw [scl_eq SC (nonneg i T ht b 3 (by omega)) (off := k0_off35 (base (ix (4 * t + b.val / 2) (b.val % 2 * 8 + 3)))) rfl]
  rw [wp_bind]
  iapply (Held.wp_word 𝒱₀ (c : Thread nD τ) none Set.univ (m := arg2) (X := (base : S192x128.Idx → Elt F .i32)) (S := Finset.univ) (Finset.subset_univ _)) $$ H2
  iintro H2
  rw [emb_word _ (b.val % 2 * 8 + 4) (off36_eq i b), ht]
  rw [wp_bind]
  iapply (Held.wp_assume 𝒱₀ (c : Thread nD τ) none Set.univ (show k0_chk9 (base (ix (4 * t + b.val / 2) (b.val % 2 * 8 + 4))) from chk5_of (nonneg i T ht b 4 (by omega))))
  rw [wp_bind]
  iapply (Held.wp_load 𝒱₀ (c : Thread nD τ) none Set.univ (m := arg10) (X := SC) (S := Finset.univ) (Finset.subset_univ _)) $$ H10
  iintro H10
  rw [scl_eq SC (nonneg i T ht b 4 (by omega)) (off := k0_off37 (base (ix (4 * t + b.val / 2) (b.val % 2 * 8 + 4)))) rfl]
  rw [wp_pure]
  imodintro
  iapply K
  isplitl [H2]; · iexact H2
  iexact H10

theorem part5_run {t : ℕ} (ht : (i 0).val = t) (b : Fin k0_t8_loop.trips) (v43 v45 : BitVec 32) (v64 : IVec S1x128 32) (v68 v161 : IVec S8x128 32) (v171 : Vec F S8x128 .i32) (v178 : IVec S8x128 32) {Q} :
    iprop(held (c : Thread nD τ) arg2 Finset.univ q (base : S192x128.Idx → Elt F .i32) ∗ held (c : Thread nD τ) arg10 Finset.univ fullShare SC
        ∗ (held (c : Thread nD τ) arg2 Finset.univ q (base : S192x128.Idx → Elt F .i32) ∗ held (c : Thread nD τ) arg10 Finset.univ fullShare SC
          -∗ Q ⟨k0_pay16 v64 v68 v161 v171 v178 (scl SC (base (ix (4 * t + b.val / 2) (b.val % 2 * 8 + 5)))), (scl SC (base (ix (4 * t + b.val / 2) (b.val % 2 * 8 + 6)))), k0_pay17 v68⟩) : sProp 𝕄)
      ⊢ wp frame (wpE (defs₀ (F := F)) 𝒱₀ (c : Thread nD τ) none) Set.univ (k0_part5 (F := F) i arg1 harg1 arg2 harg2 arg3 harg3 arg4 harg4 arg5 harg5 arg6 harg6 arg7 harg7 arg8 harg8 arg9 harg9 arg10 harg10 arg11 harg11 arg12 harg12 arg13 b v43 v45 v64 v68 v161 v171 v178) Q := by
  rw [k0_part5_eq_skeleton]
  unfold k0_part5_skel
  iintro ⟨H2, H10, K⟩
  rw [wp_bind]
  iapply (Held.wp_word 𝒱₀ (c : Thread nD τ) none Set.univ (m := arg2) (X := (base : S192x128.Idx → Elt F .i32)) (S := Finset.univ) (Finset.subset_univ _)) $$ H2
  iintro H2
  rw [emb_word _ (b.val % 2 * 8 + 5) (off38_eq i b), ht]
  rw [wp_bind]
  iapply (Held.wp_assume 𝒱₀ (c : Thread nD τ) none Set.univ (show k0_chk10 (base (ix (4 * t + b.val / 2) (b.val % 2 * 8 + 5))) from chk5_of (nonneg i T ht b 5 (by omega))))
  rw [wp_bind]
  iapply (Held.wp_load 𝒱₀ (c : Thread nD τ) none Set.univ (m := arg10) (X := SC) (S := Finset.univ) (Finset.subset_univ _)) $$ H10
  iintro H10
  rw [scl_eq SC (nonneg i T ht b 5 (by omega)) (off := k0_off39 (base (ix (4 * t + b.val / 2) (b.val % 2 * 8 + 5)))) rfl]
  rw [wp_bind]
  iapply (Held.wp_word 𝒱₀ (c : Thread nD τ) none Set.univ (m := arg2) (X := (base : S192x128.Idx → Elt F .i32)) (S := Finset.univ) (Finset.subset_univ _)) $$ H2
  iintro H2
  rw [emb_word _ (b.val % 2 * 8 + 6) (off40_eq i b), ht]
  rw [wp_bind]
  iapply (Held.wp_assume 𝒱₀ (c : Thread nD τ) none Set.univ (show k0_chk11 (base (ix (4 * t + b.val / 2) (b.val % 2 * 8 + 6))) from chk5_of (nonneg i T ht b 6 (by omega))))
  rw [wp_bind]
  iapply (Held.wp_load 𝒱₀ (c : Thread nD τ) none Set.univ (m := arg10) (X := SC) (S := Finset.univ) (Finset.subset_univ _)) $$ H10
  iintro H10
  rw [scl_eq SC (nonneg i T ht b 6 (by omega)) (off := k0_off41 (base (ix (4 * t + b.val / 2) (b.val % 2 * 8 + 6)))) rfl]
  rw [wp_pure]
  imodintro
  iapply K
  isplitl [H2]; · iexact H2
  iexact H10

theorem part6_run {t : ℕ} (ht : (i 0).val = t) (b : Fin k0_t8_loop.trips) (v43 v45 : BitVec 32) (v62 v64 : IVec S1x128 32) (v68 v207 : IVec S8x128 32) (v217 : Vec F S8x128 .i32) (v219 : IVec S8x128 1) {Q} :
    iprop(held (c : Thread nD τ) arg2 Finset.univ q (base : S192x128.Idx → Elt F .i32) ∗ held (c : Thread nD τ) arg10 Finset.univ fullShare SC
        ∗ (held (c : Thread nD τ) arg2 Finset.univ q (base : S192x128.Idx → Elt F .i32) ∗ held (c : Thread nD τ) arg10 Finset.univ fullShare SC
          -∗ Q ⟨k0_pay18 v62 v64 v68 v207 v217 v219 (scl SC (base (ix (4 * t + b.val / 2) (b.val % 2 * 8 + 7)))), k0_pay19 v62 v64 v68 v207 v217 v219 (scl SC (base (ix (4 * t + b.val / 2) (b.val % 2 * 8 + 7))))⟩) : sProp 𝕄)
      ⊢ wp frame (wpE (defs₀ (F := F)) 𝒱₀ (c : Thread nD τ) none) Set.univ (k0_part6 (F := F) i arg1 harg1 arg2 harg2 arg3 harg3 arg4 harg4 arg5 harg5 arg6 harg6 arg7 harg7 arg8 harg8 arg9 harg9 arg10 harg10 arg11 harg11 arg12 harg12 arg13 b v43 v45 v62 v64 v68 v207 v217 v219) Q := by
  rw [k0_part6_eq_skeleton]
  unfold k0_part6_skel
  iintro ⟨H2, H10, K⟩
  rw [wp_bind]
  iapply (Held.wp_word 𝒱₀ (c : Thread nD τ) none Set.univ (m := arg2) (X := (base : S192x128.Idx → Elt F .i32)) (S := Finset.univ) (Finset.subset_univ _)) $$ H2
  iintro H2
  rw [emb_word _ (b.val % 2 * 8 + 7) (off42_eq i b), ht]
  rw [wp_bind]
  iapply (Held.wp_assume 𝒱₀ (c : Thread nD τ) none Set.univ (show k0_chk12 (base (ix (4 * t + b.val / 2) (b.val % 2 * 8 + 7))) from chk5_of (nonneg i T ht b 7 (by omega))))
  rw [wp_bind]
  iapply (Held.wp_load 𝒱₀ (c : Thread nD τ) none Set.univ (m := arg10) (X := SC) (S := Finset.univ) (Finset.subset_univ _)) $$ H10
  iintro H10
  rw [scl_eq SC (nonneg i T ht b 7 (by omega)) (off := k0_off43 (base (ix (4 * t + b.val / 2) (b.val % 2 * 8 + 7)))) rfl]
  rw [wp_pure]
  imodintro
  iapply K
  isplitl [H2]; · iexact H2
  iexact H10

theorem part1_run {t : ℕ} (ht : (i 0).val = t) (hR : Read Y (cut base) t X) (b : Fin k0_t8_loop.trips) (a0 a1 a2 : BitVec 32) {Q} :
    iprop(held (c : Thread nD τ) arg1 Finset.univ q (gran : S192x128.Idx → Elt F .i32)
        ∗ held (c : Thread nD τ) arg8 (Finset.univ \ from_ (cut base) (t + 1) 0) fullShare X
        ∗ (∃ W, held (c : Thread nD τ) arg9 Finset.univ fullShare W)
        ∗ held (c : Thread nD τ) arg3 Finset.univ fullShare M
        ∗ (∀ r0 r1 r2, held (c : Thread nD τ) arg1 Finset.univ q (gran : S192x128.Idx → Elt F .i32)
          ∗ held (c : Thread nD τ) arg8 (Finset.univ \ from_ (cut base) (t + 1) 0) fullShare X
          ∗ held (c : Thread nD τ) arg9 Finset.univ fullShare (packOf Y base gran t b.val)
          ∗ held (c : Thread nD τ) arg3 Finset.univ fullShare M -∗ Q ⟨r0, r1, r2, k0_pay4 (mrow M (b.val / 2) (b.val % 2))⟩) : sProp 𝕄)
      ⊢ wp frame (wpE (defs₀ (F := F)) 𝒱₀ (c : Thread nD τ) none) Set.univ (k0_part1 (F := F) i arg1 harg1 arg2 harg2 arg3 harg3 arg4 harg4 arg5 harg5 arg6 harg6 arg7 harg7 arg8 harg8 arg9 harg9 arg10 harg10 arg11 harg11 arg12 harg12 arg13 a0 a1 a2 b) Q := by
  rw [k0_part1_eq_skeleton]
  unfold k0_part1_skel
  iintro ⟨H1, H8, H9, H3, K⟩
  rw [wp_bind]
  iapply (gather c i arg1 harg1 arg2 harg2 arg3 harg3 arg4 harg4 arg5 harg5 arg6 harg6 arg7 harg7 arg8 harg8 arg9 harg9 arg10 harg10 arg11 harg11 arg12 harg12 arg13 T Y X q ht hR b a0 a1 a2)
  isplitl [H1]; · iexact H1
  isplitl [H8]; · iexact H8
  isplitl [H9]; · iexact H9
  iintro ⟨H1, H8, H9⟩
  rw [wp_bind]
  iapply (Held.wp_load 𝒱₀ (c : Thread nD τ) none Set.univ (m := arg3) (X := M) (S := Finset.univ) (Finset.subset_univ _)) $$ H3
  iintro H3
  rw [mrow_eq M (off26_eq b)]
  rw [wp_pure]
  imodintro
  iapply K
  isplitl [H1]; · iexact H1
  isplitl [H8]; · iexact H8
  isplitl [H9]; · iexact H9
  iexact H3

end Cert.Kernel.Run
-- ==== Proof.Kernel.Block.lean ====
/-
  A block of 64 rows, and the eight of a grid step.
-/
module

public import proofs.«01_k».proof.Proof.Kernel.Lanes

@[expose] public section

set_option maxRecDepth 100000

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.Fill Cert.Kernel.Gen

variable {F : FTy → Type} [FloatOps F]

local notation "𝕄" => MT nD τ sig Unit (Elt F) ℕ UU ℕ

variable (c : Dev nD) (i : grid0.Coords)
variable (arg1 : Memref sig .tc .smem S192x128 .i32) (harg1 : arg1.IsWhole) (arg2 : Memref sig .tc .smem S192x128 .i32) (harg2 : arg2.IsWhole) (arg3 : Memref sig .tc .vmem S4x4x128 .i32) (harg3 : arg3.IsWhole) (arg4 : Memref sig .tc .vmem S16x49152 .i8) (harg4 : arg4.IsWhole) (arg5 : Memref sig .tc .vmem S512x2048 .bf16) (harg5 : arg5.IsWhole) (arg6 : Memref sig .tc .hbm S49152x2048 .fp8e4m3) (harg6 : arg6.IsWhole) (arg7 : Memref sig .tc .vmem S512x2048 .bf16) (harg7 : arg7.IsWhole) (arg8 : Memref sig .tc .vmem S10240x2048 .fp8e4m3) (harg8 : arg8.IsWhole) (arg9 : Memref sig .tc .vmem S192x2048 .fp8e4m3) (harg9 : arg9.IsWhole) (arg10 : Memref sig .tc .vmem S1536x128 .i32) (harg10 : arg10.IsWhole) (arg11 : Memref sig .tc .vmem S48x2048 .bf16) (harg11 : arg11.IsWhole) (arg12 : Memref sig .tc .smem S2 .i32) (harg12 : arg12.IsWhole) (arg13 : DmaSems sig S2)

variable {base gran : Words.Table} (T : Tables base gran) (Y : S49152x2048.Idx → Elt F .fp8e4m3)
variable (X : S10240x2048.Idx → Elt F .fp8e4m3) (q : PosShare TreeShare)
variable (M : S4x4x128.Idx → Elt F .i32) (SC : S1536x128.Idx → Elt F .i32)
variable (EX : S48x2048.Idx → Elt F .bf16) (XB G : S512x2048.Idx → Elt F .bf16)

/-- What a block uses and leaves alone. -/
def tools (base gran : Words.Table) (t : ℕ) : sProp 𝕄 :=
  iprop(held (c : Thread nD τ) arg1 Finset.univ q (gran : S192x128.Idx → Elt F .i32)
        ∗ held (c : Thread nD τ) arg2 Finset.univ q (base : S192x128.Idx → Elt F .i32)
        ∗ held (c : Thread nD τ) arg3 Finset.univ fullShare M
        ∗ held (c : Thread nD τ) arg5 Finset.univ fullShare XB
        ∗ held (c : Thread nD τ) arg8 (Finset.univ \ from_ (cut base) (t + 1) 0) fullShare X
        ∗ (∃ W, held (c : Thread nD τ) arg9 Finset.univ fullShare W)
        ∗ held (c : Thread nD τ) arg10 Finset.univ fullShare SC
        ∗ held (c : Thread nD τ) arg11 Finset.univ fullShare EX)

theorem part7_run {v56 : FVec F S1x128 .f32} {v58 : IVec S1x128 32} {v260 v264 : IVec S4x128 32} {L : FVec F S128x48 .bf16} {P : FVec F S128x192 .fp8e4m3}
    (h1 : k0_pay21 v56 v58 v260 v264 = L) (h2 : k0_pay22 v56 v58 v260 v264 = P) {Q} :
    (iprop(Q ⟨L, P, 64#32⟩) : sProp 𝕄) ⊢ wp frame (wpE (defs₀ (F := F)) 𝒱₀ (c : Thread nD τ) none) Set.univ (k0_part7 (F := F) i arg1 harg1 arg2 harg2 arg3 harg3 arg4 harg4 arg5 harg5 arg6 harg6 arg7 harg7 arg8 harg8 arg9 harg9 arg10 harg10 arg11 harg11 arg12 harg12 arg13 v56 v58 v260 v264) Q := by
  rw [k0_part7_eq_skeleton]
  unfold k0_part7_skel
  rw [wp_pure, h1, h2]
  iintro H
  imodintro
  iexact H

include T

theorem part11_run {t : ℕ} (ht : (i 0).val = t) (hR : Read Y (cut base) t X) (b : Fin k0_t8_loop.trips) (a0 a1 a2 : BitVec 32) {Q} :
    iprop(tools c arg1 arg2 arg3 arg5 arg8 arg9 arg10 arg11 X q M SC EX XB base gran t
        ∗ (∃ O, ⌜Cols (packOf Y base gran t b.val) EX XB G (lhsOf M SC base t b.val) (pickOf M SC base t b.val) b.val 0 O⌝ ∗ held (c : Thread nD τ) arg7 Finset.univ fullShare O)
        ∗ (∀ v, tools c arg1 arg2 arg3 arg5 arg8 arg9 arg10 arg11 X q M SC EX XB base gran t
        ∗ (∃ O, ⌜Cols (packOf Y base gran t b.val) EX XB G (lhsOf M SC base t b.val) (pickOf M SC base t b.val) b.val 7 O⌝ ∗ held (c : Thread nD τ) arg7 Finset.univ fullShare O) -∗ Q ⟨v, k0_pay23 (lhsOf M SC base t b.val) (pickOf M SC base t b.val) (pk (packOf Y base gran t b.val) 14) (pk (packOf Y base gran t b.val) 15) (ex EX 7) (xb XB b.val 7)⟩) : sProp 𝕄)
      ⊢ wp frame (wpE (defs₀ (F := F)) 𝒱₀ (c : Thread nD τ) none) Set.univ (k0_part11 (F := F) i arg1 harg1 arg2 harg2 arg3 harg3 arg4 harg4 arg5 harg5 arg6 harg6 arg7 harg7 arg8 harg8 arg9 harg9 arg10 harg10 arg11 harg11 arg12 harg12 arg13 a0 a1 a2 b) Q := by
  rw [k0_part11_eq_skeleton]
  unfold k0_part11_skel
  unfold tools
  iintro ⟨⟨H1, H2, H3, H5, H8, H9, H10, H11⟩, H7, K⟩
  rw [wp_bind]
  iapply (part1_run c i arg1 harg1 arg2 harg2 arg3 harg3 arg4 harg4 arg5 harg5 arg6 harg6 arg7 harg7 arg8 harg8 arg9 harg9 arg10 harg10 arg11 harg11 arg12 harg12 arg13 T Y X q M ht hR b a0 a1 a2)
  isplitl [H1]; · iexact H1
  isplitl [H8]; · iexact H8
  isplitl [H9]; · iexact H9
  isplitl [H3]; · iexact H3
  iintro %r0 %r1 %r2 ⟨H1, H8, H9, H3⟩
  rw [wp_bind]
  iapply (part2_run c i arg1 harg1 arg2 harg2 arg3 harg3 arg4 harg4 arg5 harg5 arg6 harg6 arg7 harg7 arg8 harg8 arg9 harg9 arg10 harg10 arg11 harg11 arg12 harg12 arg13 T q M SC ht b r1 r2 _)
  isplitl [H2]; · iexact H2
  isplitl [H10]; · iexact H10
  isplitl [H3]; · iexact H3
  iintro %v94 ⟨H2, H10, H3⟩
  rw [wp_bind]
  iapply (part3_run c i arg1 harg1 arg2 harg2 arg3 harg3 arg4 harg4 arg5 harg5 arg6 harg6 arg7 harg7 arg8 harg8 arg9 harg9 arg10 harg10 arg11 harg11 arg12 harg12 arg13 T q SC ht b r1 r2 _ _ _ _)
  isplitl [H2]; · iexact H2
  isplitl [H10]; · iexact H10
  iintro ⟨H2, H10⟩
  rw [wp_bind]
  iapply (part4_run c i arg1 harg1 arg2 harg2 arg3 harg3 arg4 harg4 arg5 harg5 arg6 harg6 arg7 harg7 arg8 harg8 arg9 harg9 arg10 harg10 arg11 harg11 arg12 harg12 arg13 T q SC ht b r1 r2 _ _ _ _ _)
  isplitl [H2]; · iexact H2
  isplitl [H10]; · iexact H10
  iintro ⟨H2, H10⟩
  rw [wp_bind]
  iapply (part5_run c i arg1 harg1 arg2 harg2 arg3 harg3 arg4 harg4 arg5 harg5 arg6 harg6 arg7 harg7 arg8 harg8 arg9 harg9 arg10 harg10 arg11 harg11 arg12 harg12 arg13 T q SC ht b r1 r2 _ _ _ _ _)
  isplitl [H2]; · iexact H2
  isplitl [H10]; · iexact H10
  iintro ⟨H2, H10⟩
  rw [wp_bind]
  iapply (part6_run c i arg1 harg1 arg2 harg2 arg3 harg3 arg4 harg4 arg5 harg5 arg6 harg6 arg7 harg7 arg8 harg8 arg9 harg9 arg10 harg10 arg11 harg11 arg12 harg12 arg13 T q SC ht b r1 r2 _ _ _ _ _ _)
  isplitl [H2]; · iexact H2
  isplitl [H10]; · iexact H10
  iintro ⟨H2, H10⟩
  rw [wp_bind]
  iapply (part7_run c i arg1 harg1 arg2 harg2 arg3 harg3 arg4 harg4 arg5 harg5 arg6 harg6 arg7 harg7 arg8 harg8 arg9 harg9 arg10 harg10 arg11 harg11 arg12 harg12 arg13 (L := lhsOf M SC base t b.val) (P := pickOf M SC base t b.val) rfl rfl)
  rw [wp_bind]
  iapply (part8_run c i arg1 harg1 arg2 harg2 arg3 harg3 arg4 harg4 arg5 harg5 arg6 harg6 arg7 harg7 arg8 harg8 arg9 harg9 arg10 harg10 arg11 harg11 arg12 harg12 arg13 (packOf Y base gran t b.val) EX XB G (lhsOf M SC base t b.val) (pickOf M SC base t b.val) b r0 64#32)
  isplitl [H9]; · iexact H9
  isplitl [H11]; · iexact H11
  isplitl [H5]; · iexact H5
  isplitl [H7]; · iexact H7
  iintro %v313 ⟨H9, H11, H5, H7⟩
  rw [wp_bind]
  iapply (part9_run c i arg1 harg1 arg2 harg2 arg3 harg3 arg4 harg4 arg5 harg5 arg6 harg6 arg7 harg7 arg8 harg8 arg9 harg9 arg10 harg10 arg11 harg11 arg12 harg12 arg13 (packOf Y base gran t b.val) EX XB G (lhsOf M SC base t b.val) (pickOf M SC base t b.val) b _)
  isplitl [H9]; · iexact H9
  isplitl [H11]; · iexact H11
  isplitl [H5]; · iexact H5
  isplitl [H7]; · iexact H7
  iintro %_u ⟨H9, H11, H5, H7⟩
  rw [wp_bind]
  iapply (part10_run c i arg1 harg1 arg2 harg2 arg3 harg3 arg4 harg4 arg5 harg5 arg6 harg6 arg7 harg7 arg8 harg8 arg9 harg9 arg10 harg10 arg11 harg11 arg12 harg12 arg13 (packOf Y base gran t b.val) EX XB G (lhsOf M SC base t b.val) (pickOf M SC base t b.val) b _)
  isplitl [H9]; · iexact H9
  isplitl [H11]; · iexact H11
  isplitl [H5]; · iexact H5
  isplitl [H7]; · iexact H7
  iintro ⟨H9, H11, H5, H7⟩
  icases H7 with ⟨%O, %hO, H7⟩
  rw [wp_bind]
  iapply (Held.wp_load 𝒱₀ (c : Thread nD τ) none Set.univ (m := arg9) (X := packOf Y base gran t b.val) (S := Finset.univ) (Finset.subset_univ _)) $$ H9
  iintro H9
  rw [wp_bind]
  iapply (Held.wp_load 𝒱₀ (c : Thread nD τ) none Set.univ (m := arg11) (X := EX) (S := Finset.univ) (Finset.subset_univ _)) $$ H11
  iintro H11
  rw [wp_bind]
  iapply (Held.wp_load 𝒱₀ (c : Thread nD τ) none Set.univ (m := arg5) (X := XB) (S := Finset.univ) (Finset.subset_univ _)) $$ H5
  iintro H5
  rw [wp_bind]
  iapply (Held.wp_load 𝒱₀ (c : Thread nD τ) none Set.univ (m := arg7) (X := _) (S := Finset.univ) (Finset.subset_univ _)) $$ H7
  iintro H7
  rw [wp_bind]
  iapply (Held.wp_store 𝒱₀ (c : Thread nD τ) none Set.univ (m := arg7)) $$ H7
  iintro H7
  rw [wp_bind]
  iapply (Held.wp_load 𝒱₀ (c : Thread nD τ) none Set.univ (m := arg9) (X := packOf Y base gran t b.val) (S := Finset.univ) (Finset.subset_univ _)) $$ H9
  iintro H9
  rw [wp_bind]
  iapply (Held.wp_load 𝒱₀ (c : Thread nD τ) none Set.univ (m := arg9) (X := packOf Y base gran t b.val) (S := Finset.univ) (Finset.subset_univ _)) $$ H9
  iintro H9
  rw [wp_bind]
  iapply (Held.wp_load 𝒱₀ (c : Thread nD τ) none Set.univ (m := arg11) (X := EX) (S := Finset.univ) (Finset.subset_univ _)) $$ H11
  iintro H11
  rw [wp_bind]
  iapply (Held.wp_load 𝒱₀ (c : Thread nD τ) none Set.univ (m := arg5) (X := XB) (S := Finset.univ) (Finset.subset_univ _)) $$ H5
  iintro H5
  rw [wp_pure]
  imodintro
  rw [show k0_pay30 (F := F) = k0_pay23 from rfl, pk_eq (packOf Y base gran t b.val) 14 rfl, pk_eq (packOf Y base gran t b.val) 15 rfl, ex_eq EX 7 rfl, xb_eq XB b.val 7 (off51_eq b)]
  iapply K
  isplitl [H1 H2 H3 H5 H8 H9 H10 H11]
  · isplitl [H1]; · iexact H1
    isplitl [H2]; · iexact H2
    isplitl [H3]; · iexact H3
    isplitl [H5]; · iexact H5
    isplitl [H8]; · iexact H8
    isplitl [H9]; · iexists _; iexact H9
    isplitl [H10]; · iexact H10
    iexact H11
  iexists _
  isplitr
  rotate_left
  · iexact H7
  ipureintro
  exact (col_put (packOf Y base gran t b.val) EX XB G (lhsOf M SC base t b.val) (pickOf M SC base t b.val) b.val 6 hO (off50_eq b) _
    (cols_eq k0_pay29 rfl (rfl) (pk_eq (packOf Y base gran t b.val) 13 rfl) (ex_eq EX 6 rfl) (xb_eq XB b.val 6 (off50_eq b))))

/-- One block of 64 rows. -/
theorem block_step {t : ℕ} (ht : (i 0).val = t) (hR : Read Y (cut base) t X) (a0 : BitVec 32) (b : Fin k0_t8_loop.trips) (acc : Unit) :
    iprop(tools c arg1 arg2 arg3 arg5 arg8 arg9 arg10 arg11 X q M SC EX XB base gran t
        ∗ (∃ O, ⌜∀ x : S512x2048.Idx, (x 0).val < 64 * b.val → O x = outOf Y M SC EX XB base gran t x⌝ ∗ held (c : Thread nD τ) arg7 Finset.univ fullShare O) : sProp 𝕄)
      ⊢ wp frame (wpE (defs₀ (F := F)) 𝒱₀ (c : Thread nD τ) none) Set.univ (k0_t8_body (F := F) i arg1 harg1 arg2 harg2 arg3 harg3 arg4 harg4 arg5 harg5 arg6 harg6 arg7 harg7 arg8 harg8 arg9 harg9 arg10 harg10 arg11 harg11 arg12 harg12 arg13 a0 b acc)
        fun _ => iprop(tools c arg1 arg2 arg3 arg5 arg8 arg9 arg10 arg11 X q M SC EX XB base gran t
        ∗ (∃ O, ⌜∀ x : S512x2048.Idx, (x 0).val < 64 * (b.val + 1) → O x = outOf Y M SC EX XB base gran t x⌝ ∗ held (c : Thread nD τ) arg7 Finset.univ fullShare O)) := by
  unfold k0_t8_body
  iintro ⟨HT, %O, %hO, H7⟩
  rw [wp_bind]
  iapply (part11_run c i arg1 harg1 arg2 harg2 arg3 harg3 arg4 harg4 arg5 harg5 arg6 harg6 arg7 harg7 arg8 harg8 arg9 harg9 arg10 harg10 arg11 harg11 arg12 harg12 arg13 T Y X q M SC EX XB (outOf Y M SC EX XB base gran t) ht hR b a0 _ _)
  isplitl [HT]; · iexact HT
  isplitl [H7]
  · iexists O
    isplitr
    · ipureintro
      exact ⟨hO, fun x _ h => absurd h (Nat.not_lt_zero _)⟩
    · iexact H7
  iintro %v ⟨HT, %O', %hO', H7⟩
  rw [wp_bind]
  iapply (Held.wp_load 𝒱₀ (c : Thread nD τ) none Set.univ (m := arg7) (X := O') (S := Finset.univ) (Finset.subset_univ _)) $$ H7
  iintro H7
  rw [wp_bind]
  iapply (Held.wp_store 𝒱₀ (c : Thread nD τ) none Set.univ (m := arg7)) $$ H7
  iintro H7
  rw [wp_pure]
  imodintro
  isplitl [HT]; · iexact HT
  iexists _
  isplitr
  rotate_left
  · iexact H7
  ipureintro
  intro x hx
  have r := col_put (packOf Y base gran t b.val) EX XB _ (lhsOf M SC base t b.val) (pickOf M SC base t b.val) b.val 7 hO' (off51_eq b) _ rfl
  by_cases h : (x 0).val < 64 * b.val
  · exact r.1 x h
  · have hd : (x 0).val / 64 = b.val := by omega
    refine (r.2 x hd (show (x 1).val < 256 * 8 from (x 1).isLt)).trans ?_
    unfold outOf
    rw [hd]

/-- The eight blocks of a grid step. -/
theorem blocks {t : ℕ} (ht : (i 0).val = t) (hR : Read Y (cut base) t X) (a0 : BitVec 32) {Q : Unit → sProp 𝕄} :
    iprop(tools c arg1 arg2 arg3 arg5 arg8 arg9 arg10 arg11 X q M SC EX XB base gran t
        ∗ (∃ O, held (c : Thread nD τ) arg7 Finset.univ fullShare O)
        ∗ (tools c arg1 arg2 arg3 arg5 arg8 arg9 arg10 arg11 X q M SC EX XB base gran t
          ∗ held (c : Thread nD τ) arg7 Finset.univ fullShare (outOf Y M SC EX XB base gran t) -∗ Q ⟨⟩) : sProp 𝕄)
      ⊢ wp frame (wpE (defs₀ (F := F)) 𝒱₀ (c : Thread nD τ) none) Set.univ (Scf.Loop.for k0_t8_loop k0_t8_ok ⟨⟩ (k0_t8_body (F := F) i arg1 harg1 arg2 harg2 arg3 harg3 arg4 harg4 arg5 harg5 arg6 harg6 arg7 harg7 arg8 harg8 arg9 harg9 arg10 harg10 arg11 harg11 arg12 harg12 arg13 a0)) Q := by
  iintro ⟨HT, ⟨%O, H7⟩, K⟩
  iapply (Scf.wp_for _ _ _ _ _ _ _ _ _ (fun k _ => iprop(tools c arg1 arg2 arg3 arg5 arg8 arg9 arg10 arg11 X q M SC EX XB base gran t
        ∗ (∃ O, ⌜∀ x : S512x2048.Idx, (x 0).val < 64 * k → O x = outOf Y M SC EX XB base gran t x⌝ ∗ held (c : Thread nD τ) arg7 Finset.univ fullShare O))) ?_)
  · intro k acc
    exact block_step c i arg1 harg1 arg2 harg2 arg3 harg3 arg4 harg4 arg5 harg5 arg6 harg6 arg7 harg7 arg8 harg8 arg9 harg9 arg10 harg10 arg11 harg11 arg12 harg12 arg13 T Y X q M SC EX XB ht hR a0 k acc
  isplitl [HT H7]
  · isplitl [HT]; · iexact HT
    iexists O
    isplitr
    · ipureintro; intro x hx; exact absurd hx (Nat.not_lt_zero _)
    · iexact H7
  rw [show Scf.trips k0_t8_loop.lb k0_t8_loop.ub k0_t8_loop.st = 8 by decide +kernel]
  iintro %acc ⟨HT, %O', %hO, H7⟩
  iapply K
  isplitl [HT]; · iexact HT
  have e : O' = outOf Y M SC EX XB base gran t := funext fun x => hO x (show (x 0).val < 64 * 8 from (x 0).isLt)
  subst e
  iexact H7

end Cert.Kernel.Run
-- ==== Proof.Kernel.Step.lean ====
/-
  A grid step of the kernel, whole.
-/
module

public import proofs.«01_k».proof.Proof.Kernel.Block

@[expose] public section

set_option maxRecDepth 100000

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.Fill Cert.Kernel.Gen

variable {F : FTy → Type} [FloatOps F]

local notation "𝕄" => MT nD τ sig Unit (Elt F) ℕ UU ℕ

variable (c : Dev nD) (i : grid0.Coords)
variable (arg1 : Memref sig .tc .smem S192x128 .i32) (harg1 : arg1.IsWhole) (arg2 : Memref sig .tc .smem S192x128 .i32) (harg2 : arg2.IsWhole) (arg3 : Memref sig .tc .vmem S4x4x128 .i32) (harg3 : arg3.IsWhole) (arg4 : Memref sig .tc .vmem S16x49152 .i8) (harg4 : arg4.IsWhole) (arg5 : Memref sig .tc .vmem S512x2048 .bf16) (harg5 : arg5.IsWhole) (arg6 : Memref sig .tc .hbm S49152x2048 .fp8e4m3) (harg6 : arg6.IsWhole) (arg7 : Memref sig .tc .vmem S512x2048 .bf16) (harg7 : arg7.IsWhole) (arg8 : Memref sig .tc .vmem S10240x2048 .fp8e4m3) (harg8 : arg8.IsWhole) (arg9 : Memref sig .tc .vmem S192x2048 .fp8e4m3) (harg9 : arg9.IsWhole) (arg10 : Memref sig .tc .vmem S1536x128 .i32) (harg10 : arg10.IsWhole) (arg11 : Memref sig .tc .vmem S48x2048 .bf16) (harg11 : arg11.IsWhole) (arg12 : Memref sig .tc .smem S2 .i32) (harg12 : arg12.IsWhole) (arg13 : DmaSems sig S2)

variable {base gran : Words.Table} (T : Tables base gran) (Y : S49152x2048.Idx → Elt F .fp8e4m3)
variable (SCT : S16x49152.Idx → Elt F .i8) (q : PosShare TreeShare)
variable (M : S4x4x128.Idx → Elt F .i32) (XB : S512x2048.Idx → Elt F .bf16)

/-- What the body holds before step `t`. -/
def inv (base gran : Words.Table) (t : ℕ) : sProp 𝕄 :=
  iprop((if t = 0 then fresh c arg2 arg6 arg8 arg10 arg11 arg12 arg13 Y q base
          else mid c arg2 arg6 arg8 arg10 arg11 arg12 arg13 Y SCT q base t)
    ∗ (∃ W, held (c : Thread nD τ) arg9 Finset.univ fullShare W)
    ∗ held (c : Thread nD τ) arg1 Finset.univ q (gran : S192x128.Idx → Elt F .i32))

/-- A word of the counts, read. -/
theorem count_at {t : ℕ} (ht : (i 0).val = t) {cnt : S2.Idx → Elt F .i32} (hC : Count (F := F) (cut base) t cnt) (p) :
    cnt ((Rect.unit (s := S2) (k0_off19 i) S1.size (k0_off19_inb i)).emb (Shape.Idx.first p)) = w (P (cut base) t 8) := by
  have hlt : t < 48 := ht ▸ (i 0).isLt
  rw [emb_count (off19_eq i), ht]
  exact hC hlt

/-- Step `t`'s count, read from what is held before the wait. -/
theorem read_count {t : ℕ} (ht : (i 0).val = t) {hn hr} {Q : Elt F .i32 → sProp 𝕄} :
    iprop(ready c arg2 arg6 arg8 arg10 arg11 arg12 arg13 Y SCT q base t
        ∗ (ready c arg2 arg6 arg8 arg10 arg11 arg12 arg13 Y SCT q base t -∗ Q (w (P (cut base) t 8))) : sProp 𝕄)
      ⊢ wp frame (wpE (defs₀ (F := F)) 𝒱₀ (c : Thread nD τ) none) Set.univ (smemLoad arg12 (Rect.unit (s := S2) (k0_off19 i) S1.size (k0_off19_inb i)) hn hr) Q := by
  unfold ready
  iintro ⟨⟨%X, %cnt, %hX, Hy, Hb, H8, HB, HB', H10, H11, H12⟩, K⟩
  iapply (Held.wp_word 𝒱₀ (c : Thread nD τ) none Set.univ (m := arg12) (X := cnt) (S := Finset.univ) (Finset.subset_univ _)) $$ H12
  iintro H12
  rw [count_at i ht hX.2.1]
  iapply K
  iexists X, cnt
  isplitr
  · ipureintro; exact hX
  isplitl [Hy]; · iexact Hy
  isplitl [Hb]; · iexact Hb
  isplitl [H8]; · iexact H8
  isplitl [HB]; · iexact HB
  isplitl [HB']; · iexact HB'
  isplitl [H10]; · iexact H10
  isplitl [H11]; · iexact H11
  iexact H12

/-- The rest of the step, after what it does at its beginning. -/
def tail : Prog (TpuEff nD τ sig (Elt F) Λ₀ .tc) PUnit := do
  let v9 : Elt F .i32 ← smemLoad arg12 (Rect.unit (s := S2) (k0_off19 i) S1.size (k0_off19_inb i)) numel1_S1 rfl
  have k0_hw3 : k0_chk3 v9 := (← Prog.lift (TpuEff.assume (k0_chk3 v9) (k0_chk3.dec v9))).down
  let v12 : DmaSems sig S1 := arg13.slice (Rect.unit (s := S2) (k0_off20 i) S1.size (k0_off20_inb i))
  let v13 : DmaSems sig S_ := v12.squeeze S_ squeezes_S1_S_
  Prog.lift (.waitDma v13.sem arg8.view.ref (⟨2, (k0_off21 v9).2⟩ : Shape) .fp8e4m3 (Or.inl rfl))
  Scf.Loop.for k0_t8_loop k0_t8_ok ⟨⟩ (k0_t8_body i arg1 harg1 arg2 harg2 arg3 harg3 arg4 harg4 arg5 harg5 arg6 harg6 arg7 harg7 arg8 harg8 arg9 harg9 arg10 harg10 arg11 harg11 arg12 harg12 arg13 (BitVec.ofNat 32 (i 0).val))
  pure ⟨⟩

set_option maxHeartbeats 1000000 in
/-- The step is its beginning, the transfers for the next step, and the rest, one after the other. -/
theorem parts : cc0_combine (F := F) i arg1 harg1 arg2 harg2 arg3 harg3 arg4 harg4 arg5 harg5 arg6 harg6 arg7 harg7 arg8 harg8 arg9 harg9 arg10 harg10 arg11 harg11 arg12 harg12 arg13 = (
    (if k0_h1 : k0_cond1 i = 1#1 then do
    let v18 : BitVec 32 ← Scf.Loop.for k0_t1_loop (k0_t1_ok i k0_h1) 0#32 (k0_t1_body i arg1 harg1 arg2 harg2 arg3 harg3 arg4 harg4 arg5 harg5 arg6 harg6 arg7 harg7 arg8 harg8 arg9 harg9 arg10 harg10 arg11 harg11 arg12 harg12 arg13 k0_h1)
    let v19 : Elt F .i32 ← smemLoad arg12 (Rect.unit (s := S2) ![0] S1.size inb_S2_S1_0) numel1_S1 rfl
    Prog.lift (.store arg12 (Rect.unit (s := S2) ![0] S1.size inb_S2_S1_0) (fun _ => v18) Finset.univ (View.stores_smem_one rfl numel1_S1) (.inl rfl))
    Scf.Loop.for k0_t4_loop (k0_t4_ok i k0_h1) ⟨⟩ (k0_t4_body i arg1 harg1 arg2 harg2 arg3 harg3 arg4 harg4 arg5 harg5 arg6 harg6 arg7 harg7 arg8 harg8 arg9 harg9 arg10 harg10 arg11 harg11 arg12 harg12 arg13 k0_h1)
    let v39 : Vec F S48x2048 .bf16 ← Prog.lift (.load arg11 (Rect.unit (s := S48x2048) ![0, 0] S48x2048.size inb_S48x2048_S48x2048_0_0).toLoadRect (View.loadsAt_vmem h_S48x2048))
    Prog.lift (.store arg11 (Rect.unit (s := S48x2048) ![0, 0] S48x2048.size inb_S48x2048_S48x2048_0_0) (k0_pay2 (F := F)) Finset.univ (View.stores_vmem h_S48x2048 (harg11.storeExact_slice rfl _ packedbf16_S48x2048_S48x2048_0_0) (fun _ => rfl)) (.inl rfl))
    pure ⟨⟩
  else do
    pure ⟨⟩ : Prog (TpuEff nD τ sig (Elt F) Λ₀ .tc) PUnit) >>= fun _ =>
    (if k0_h2 : k0_cond2 i = 1#1 then do
    let v20 : BitVec 32 ← Scf.Loop.for k0_t5_loop (k0_t5_ok i k0_h2) 0#32 (k0_t5_body i arg1 harg1 arg2 harg2 arg3 harg3 arg4 harg4 arg5 harg5 arg6 harg6 arg7 harg7 arg8 harg8 arg9 harg9 arg10 harg10 arg11 harg11 arg12 harg12 arg13 k0_h2)
    let v22 : Elt F .i32 ← smemLoad arg12 (Rect.unit (s := S2) (k0_off18 i) S1.size (k0_off18_inb i k0_h2)) numel1_S1 rfl
    Prog.lift (.store arg12 (Rect.unit (s := S2) (k0_off18 i) S1.size (k0_off18_inb i k0_h2)) (fun _ => v20) Finset.univ (View.stores_smem_one rfl numel1_S1) (.inl rfl))
    pure ⟨⟩
  else do
    pure ⟨⟩ : Prog (TpuEff nD τ sig (Elt F) Λ₀ .tc) PUnit) >>= fun _ =>
    tail i arg1 harg1 arg2 harg2 arg3 harg3 arg4 harg4 arg5 harg5 arg6 harg6 arg7 harg7 arg8 harg8 arg9 harg9 arg10 harg10 arg11 harg11 arg12 harg12 arg13) := by
  rw [cc0_combine_eq_skeleton]
  unfold cc0_combine_skel tail
  by_cases h1 : k0_cond1 i = 1#1 <;> by_cases h2 : k0_cond2 i = 1#1 <;>
    simp only [h1, h2, dite_true, dite_false, ↓reduceDIte, bind_assoc, pure_bind] <;> rfl

include T

/-- One grid step: it leaves the rows of the step's block, and what the next step starts from. -/
theorem step {t : ℕ} (ht : (i 0).val = t) (W : Waits sig Unit) :
    iprop(inv c arg1 arg2 arg6 arg8 arg9 arg10 arg11 arg12 arg13 Y SCT q base gran t
        ∗ held (c : Thread nD τ) arg3 Finset.univ fullShare M ∗ held (c : Thread nD τ) arg4 Finset.univ fullShare SCT
        ∗ held (c : Thread nD τ) arg5 Finset.univ fullShare XB ∗ (∃ O, held (c : Thread nD τ) arg7 Finset.univ fullShare O)
        ∗ owes (c : Thread nD τ) 0 W : sProp 𝕄)
      ⊢ wp frame (wpE (defs₀ (F := F)) 𝒱₀ (c : Thread nD τ) none) Set.univ (cc0_combine (F := F) i arg1 harg1 arg2 harg2 arg3 harg3 arg4 harg4 arg5 harg5 arg6 harg6 arg7 harg7 arg8 harg8 arg9 harg9 arg10 harg10 arg11 harg11 arg12 harg12 arg13)
        fun _ => iprop(inv c arg1 arg2 arg6 arg8 arg9 arg10 arg11 arg12 arg13 Y SCT q base gran (t + 1)
          ∗ held (c : Thread nD τ) arg3 Finset.univ fullShare M ∗ held (c : Thread nD τ) arg4 Finset.univ fullShare SCT
          ∗ held (c : Thread nD τ) arg5 Finset.univ fullShare XB
          ∗ held (c : Thread nD τ) arg7 Finset.univ fullShare (outOf Y M (scaleOf SCT) (k0_pay2 (F := F)) XB base gran t)
          ∗ ∃ W', owes (c : Thread nD τ) 0 W') := by
  have hp : P (cut base) t 8 ≤ 136 := P_le T.good t 8
  rw [parts]
  unfold inv
  iintro ⟨⟨HI, H9, H1⟩, H3, H4, H5, H7, HO⟩
  rw [wp_bind]
  iapply (setup c i arg1 harg1 arg2 harg2 arg3 harg3 arg4 harg4 arg5 harg5 arg6 harg6 arg7 harg7 arg8 harg8 arg9 harg9 arg10 harg10 arg11 harg11 arg12 harg12 arg13 T Y SCT q t ht)
  isplitl [HI]; · iexact HI
  isplitl [H4]; · iexact H4
  iintro ⟨HI, H4⟩
  rw [wp_bind]
  iapply (prep c i arg1 harg1 arg2 harg2 arg3 harg3 arg4 harg4 arg5 harg5 arg6 harg6 arg7 harg7 arg8 harg8 arg9 harg9 arg10 harg10 arg11 harg11 arg12 harg12 arg13 T Y SCT q t ht)
  isplitl [HI]; · iexact HI
  iintro HI
  unfold tail
  rw [wp_bind]
  iapply (read_count c i arg2 arg6 arg8 arg10 arg11 arg12 arg13 Y SCT q ht)
  isplitl [HI]; · iexact HI
  iintro HI
  rw [wp_bind]
  iapply (Held.wp_assume 𝒱₀ (c : Thread nD τ) none Set.univ (chk3_of hp))
  rw [wp_bind]
  iapply (wait c i arg2 arg6 arg8 arg10 arg11 arg12 arg13 T Y SCT q t ht _ (tok_eq arg13 (two_pos t) ((off20_eq i).trans (by rw [ht]))) (W := W) rfl)
  isplitl [HI]; · iexact HI
  isplitl [HO]; · iexact HO
  iintro ⟨HI, HO⟩
  unfold after
  icases HI with ⟨%X, %cnt, %hX, Hy, H2, H8, HB, Hs, H10, H11, H12⟩
  rw [wp_bind]
  iapply (blocks c i arg1 harg1 arg2 harg2 arg3 harg3 arg4 harg4 arg5 harg5 arg6 harg6 arg7 harg7 arg8 harg8 arg9 harg9 arg10 harg10 arg11 harg11 arg12 harg12 arg13 T Y X q M (scaleOf SCT) (k0_pay2 (F := F)) XB ht hX.1 _)
  isplitl [H1 H2 H3 H5 H8 H9 H10 H11]
  · unfold tools
    isplitl [H1]; · iexact H1
    isplitl [H2]; · iexact H2
    isplitl [H3]; · iexact H3
    isplitl [H5]; · iexact H5
    isplitl [H8]; · iexact H8
    isplitl [H9]; · iexact H9
    isplitl [H10]; · iexact H10
    iexact H11
  isplitl [H7]; · iexact H7
  unfold tools
  iintro ⟨⟨H1, H2, H3, H5, H8, H9, H10, H11⟩, H7⟩
  rw [wp_pure]
  imodintro
  isplitl [Hy H2 H8 HB Hs H10 H11 H12 H9 H1]
  · isplitl [Hy H2 H8 HB Hs H10 H11 H12]
    · rw [if_neg (Nat.succ_ne_zero t)]
      unfold mid
      iexists X, cnt
      isplitr
      · ipureintro; exact ⟨hX.1.kept Y T.good, hX.2⟩
      isplitl [Hy]; · iexact Hy
      isplitl [H2]; · iexact H2
      isplitl [H8]; · iexact H8
      isplitl [HB]; · iexact HB
      isplitl [Hs]
      · have e : ∀ b b' (h : b < 2) (h' : b' < 2), b = b' → (semVal ((c : Thread nD τ), SemLoc.dma (tok arg13 b h)) 0 : sProp 𝕄) = semVal ((c : Thread nD τ), SemLoc.dma (tok arg13 b' h')) 0 := fun b b' h h' hb => by subst hb; rfl
        iapply (Entails.of_eq (e _ _ (two_pos t) (two_pos (t + 1 + 1)) (by omega)))
        iexact Hs
      isplitl [H10]; · iexact H10
      isplitl [H11]; · iexact H11
      iexact H12
    isplitl [H9]; · iexact H9
    iexact H1
  isplitl [H3]; · iexact H3
  isplitl [H4]; · iexact H4
  isplitl [H5]; · iexact H5
  isplitl [H7]; · iexact H7
  iexists _
  iexact HO

/-- The same, with what follows the step. -/
theorem step_then {t : ℕ} (ht : (i 0).val = t) (W : Waits sig Unit) {Q : PUnit → sProp 𝕄} :
    iprop((inv c arg1 arg2 arg6 arg8 arg9 arg10 arg11 arg12 arg13 Y SCT q base gran t
        ∗ held (c : Thread nD τ) arg3 Finset.univ fullShare M ∗ held (c : Thread nD τ) arg4 Finset.univ fullShare SCT
        ∗ held (c : Thread nD τ) arg5 Finset.univ fullShare XB ∗ (∃ O, held (c : Thread nD τ) arg7 Finset.univ fullShare O)
        ∗ owes (c : Thread nD τ) 0 W)
      ∗ (inv c arg1 arg2 arg6 arg8 arg9 arg10 arg11 arg12 arg13 Y SCT q base gran (t + 1)
          ∗ held (c : Thread nD τ) arg3 Finset.univ fullShare M ∗ held (c : Thread nD τ) arg4 Finset.univ fullShare SCT
          ∗ held (c : Thread nD τ) arg5 Finset.univ fullShare XB
          ∗ held (c : Thread nD τ) arg7 Finset.univ fullShare (outOf Y M (scaleOf SCT) (k0_pay2 (F := F)) XB base gran t)
          ∗ (∃ W', owes (c : Thread nD τ) 0 W') -∗ Q ⟨⟩) : sProp 𝕄)
      ⊢ wp frame (wpE (defs₀ (F := F)) 𝒱₀ (c : Thread nD τ) none) Set.univ (cc0_combine (F := F) i arg1 harg1 arg2 harg2 arg3 harg3 arg4 harg4 arg5 harg5 arg6 harg6 arg7 harg7 arg8 harg8 arg9 harg9 arg10 harg10 arg11 harg11 arg12 harg12 arg13) Q := by
  iintro ⟨H, K⟩
  iapply (wp_wand_r)
  isplitl [H]
  · iapply (step c i arg1 harg1 arg2 harg2 arg3 harg3 arg4 harg4 arg5 harg5 arg6 harg6 arg7 harg7 arg8 harg8 arg9 harg9 arg10 harg10 arg11 harg11 arg12 harg12 arg13 T Y SCT q M XB ht W)
    iexact H
  iintro %a H
  iapply K
  iexact H

end Cert.Kernel.Run
-- ==== Proof.Kernel.Body.lean ====
/-
  The kernel under the pipeline: what every point finds and leaves.
-/
module

public import proofs.«01_k».proof.Proof.Kernel.Step

@[expose] public section

set_option maxRecDepth 100000

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.Fill Cert.Kernel.Gen

variable {F : FTy → Type} [FloatOps F]

local notation "𝕄" => MT nD τ sig Unit (Elt F) ℕ UU ℕ

open Idealize.ShloMosaic.Pipeline (Dat Cfg Window BodyObligation BodyObligationLoose cellOf kernel pipe)

variable (m : (ℓ : Loc nD τ sig) → Buf (Elt F) ℓ) (ρ : Dev nD → PrngReg)

/-! ### The contents -/

/-- The state the program is launched from. -/
abbrev s₀ : MemSt nD τ sig (Elt F) := ⟨m, fun _ => 0, ρ⟩

/-- The tables' contents at launch; -/
def pf : pre0.Contents (Elt F) := fun k => m ((((0 : Dev nD)) : Thread nD τ).loc (pre0.ref k))

/-- they are admissible whatever they are. -/
abbrev adm : (pcfg0 (F := F)).Adm := ⟨pf m, trivial⟩
abbrev cfgA : Pipeline.Cfg sig Λ₀ := cfg0 (adm m)

/-- The table of row numbers, and of the ring's words. -/
abbrev baseT : Words.Table := fun x => m ((((0 : Dev nD)) : Thread nD τ).loc main_arg7) x
abbrev granT : Words.Table := fun x => m ((((0 : Dev nD)) : Thread nD τ).loc main_arg6) x

/-- The array of rows. -/
abbrev codes (c : Dev nD) : S49152x2048.Idx → Elt F .fp8e4m3 := m ((c : Thread nD τ).loc main_arg3)

/-- The program's two host operations: the scales transposed, the inputs as one array of rows. -/
abbrev opT : HloOp τ sig (Elt F) := StableHlo.unary main_arg4 main_v0 ((transpose S16x49152 [1, 0] · transposes_S49152x16_S16x49152_1_0) : (⟨S49152x16, .i8⟩ : BufTy).Contents (Elt F) → (⟨S16x49152, .i8⟩ : BufTy).Contents (Elt F))
abbrev opR : HloOp τ sig (Elt F) := StableHlo.reshape main_arg0 main_v1 (rfl : (.bf16 : EltTy) = .bf16) shapeCasts_S6x4096x2048_S24576x2048

/-- The buffers at launch, after the first host operation, and when the kernel is entered. -/
abbrev V₀ (c : Dev nD) : Valuation τ sig (Elt F) := fun b => (s₀ m ρ).mem ((c : Dev nD), b)
abbrev V₁ (c : Dev nD) : Valuation τ sig (Elt F) := (opT : HloOp τ sig (Elt F)).result (V₀ m ρ c)
def V (c : Dev nD) (b : Ref sig .tc) : Buf (Elt F) ((c : Thread nD τ).loc b) := (opR : HloOp τ sig (Elt F)).result (V₁ m ρ c) b

theorem V_of_ne (c : Dev nD) {b : Ref sig .tc} (h : b ≠ main_v0) (h' : b ≠ main_v1) : V m ρ c b = (s₀ m ρ).mem ((c : Thread nD τ).loc b) :=
  (StableHlo.reshape_result_ne _ _ _ _ _ _ (V₁ m ρ c) h').trans (StableHlo.unary_result_ne (τ := τ) (x := main_arg4) (y := main_v0) _ _ _ (V₀ m ρ c) h)

/-- The scales as the kernel reads them, -/
abbrev scalesT (c : Dev nD) : S16x49152.Idx → Elt F .i8 := transpose S16x49152 [1, 0] (m ((c : Thread nD τ).loc main_arg4) : S49152x16.Idx → Elt F .i8) transposes_S49152x16_S16x49152_1_0
/-- and the inputs. -/
abbrev rowsX (c : Dev nD) : S24576x2048.Idx → Elt F .bf16 := shapeCast S24576x2048 (m ((c : Thread nD τ).loc main_arg0) : S6x4096x2048.Idx → Elt F .bf16) shapeCasts_S6x4096x2048_S24576x2048

theorem V_v0 (c : Dev nD) : V m ρ c main_v0 = scalesT m c :=
  (StableHlo.reshape_result_ne _ _ _ _ _ _ (V₁ m ρ c) (r := main_v0) (by decide)).trans (StableHlo.unary_result (Val := Elt F) main_arg4 main_v0 _ _ _ (V₀ m ρ c))

theorem V_v1 (c : Dev nD) : V m ρ c main_v1 = rowsX m c := by
  refine (StableHlo.reshape_result (Val := Elt F) main_arg0 main_v1 rfl shapeCasts_S6x4096x2048_S24576x2048 _ _ (V₁ m ρ c)).trans ?_
  have e : V₁ m ρ c main_arg0 = (s₀ m ρ).mem ((c : Thread nD τ).loc main_arg0) :=
    StableHlo.unary_result_ne (τ := τ) (x := main_arg4) (y := main_v0) _ _ _ (V₀ m ρ c) (r := main_arg0) (by decide)
  rw [e]; rfl

/-! ### The pipeline's proof data -/

/-- A window's block at a point, read off its array at entry. -/
def iblk (c : Dev nD) (w : Fin 4) (t : Fin (cfgA m).N) : (((cfgA m).win w).xblock ((cfgA m).grid.coords t)).Idx → Elt F ((cfgA m).win w).elt :=
  (((cfgA m).win w).blk t).view.read (Elt F) (V m ρ c (Pipeline.arrRef spec0 w))

/-- The rows the body leaves at a point. -/
def outAt (c : Dev nD) (t : Fin (cfgA m).N) : S512x2048.Idx → Elt F .bf16 :=
  outOf (codes m c) (iblk m ρ c 0 t) (scaleOf (scalesT m c)) (k0_pay2 (F := F)) (iblk m ρ c 2 t) (baseT m) (granT m) t.val

/-- What the body holds before point `t`. -/
def Φ (c : Dev nD) (t : ℕ) : sProp 𝕄 :=
  inv c (Memref.whole main_arg6) (Memref.whole main_arg7) (Memref.whole main_arg3) (Memref.whole cc0_scratch0) (Memref.whole cc0_scratch1)
    (Memref.whole cc0_scratch2) (Memref.whole cc0_scratch3) (Memref.whole cc0_scratch4) cc0_scratch5 (codes m c) (scalesT m c) fullShare.right (baseT m) (granT m) t

def dats (_ : Fin 1) (c : Dev nD) : Dat τ (Elt F) Unit ℕ UU ℕ (cfgA m) c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => outAt m ρ c t
  Φ t := Φ m c t.val
  q _ := fullShare
  owed _ := 0

theorem before_w0 (c : Dev nD) (t : Fin (cfgA m).N) (d) : (dats m ρ 0 c).before 0 t d = iblk m ρ c 0 t := by
  rw [(dats m ρ 0 c).before_in_eq_fetched 0 rfl (fun _ => rfl) (fun _ _ _ => rfl) (fun _ => rfl) t d]
  unfold Dat.fetched Dat.blockOf iblk; dsimp only [dats]; rfl
theorem before_w1 (c : Dev nD) (t : Fin (cfgA m).N) (d) : (dats m ρ 0 c).before 1 t d = iblk m ρ c 1 t := by
  rw [(dats m ρ 0 c).before_in_eq_fetched 1 rfl (fun _ => rfl) (fun _ _ _ => rfl) (fun _ => rfl) t d]
  unfold Dat.fetched Dat.blockOf iblk; dsimp only [dats]; rfl
theorem before_w2 (c : Dev nD) (t : Fin (cfgA m).N) (d) : (dats m ρ 0 c).before 2 t d = iblk m ρ c 2 t := by
  rw [(dats m ρ 0 c).before_in_eq_fetched 2 rfl (fun _ => rfl) (fun _ _ _ => rfl) (fun _ => rfl) t d]
  unfold Dat.fetched Dat.blockOf iblk; dsimp only [dats]; rfl
theorem after_w0 (c : Dev nD) (t : Fin (cfgA m).N) : (dats m ρ 0 c).after 0 t = iblk m ρ c 0 t := by dsimp only [dats]; rfl
theorem after_w1 (c : Dev nD) (t : Fin (cfgA m).N) : (dats m ρ 0 c).after 1 t = iblk m ρ c 1 t := by dsimp only [dats]; rfl
theorem after_w2 (c : Dev nD) (t : Fin (cfgA m).N) : (dats m ρ 0 c).after 2 t = iblk m ρ c 2 t := by dsimp only [dats]; rfl
theorem after_w3 (c : Dev nD) (t : Fin (cfgA m).N) : (dats m ρ 0 c).after 3 t = outAt m ρ c t := by dsimp only [dats]; rfl

/-- The scales' window is the whole array at every point. -/
theorem iblk_1 (c : Dev nD) (t : Fin (cfgA m).N) : iblk m ρ c 1 t = scalesT m c := by
  funext y
  unfold iblk
  rw [View.read_apply]
  refine (congrFun (V_v0 m ρ c) _).trans (congrArg (scalesT m c) ?_)
  funext a
  apply Fin.ext
  match a with
  | ⟨0, _⟩ => show 0 * 16 + 1 * (y 0).val = (y 0).val; omega
  | ⟨1, _⟩ => show 0 * 49152 + 1 * (y 1).val = (y 1).val; omega

theorem coords_val (t : Fin (cfgA m).N) : (((cfgA m).grid.coords t) 0).val = t.val := by
  have h : ∀ t : Fin grid0.N, ((grid0.coords t) 0).val = t.val := by decide +kernel
  exact h t

/-! ### The body -/

abbrev st0 (t : Fin (cfgA m).N) : Memref sig .tc .vmem S4x4x128 .i32 := spec0_0.stage ((cfgA m).slots t 0)
abbrev st1 (t : Fin (cfgA m).N) : Memref sig .tc .vmem S16x49152 .i8 := spec0_1.stage ((cfgA m).slots t 1)
abbrev st2 (t : Fin (cfgA m).N) : Memref sig .tc .vmem S512x2048 .bf16 := spec0_2.stage ((cfgA m).slots t 2)
abbrev st3 (t : Fin (cfgA m).N) : Memref sig .tc .vmem S512x2048 .bf16 := spec0_3.stage ((cfgA m).slots t 3)

/-- The kernel at a point and on staging buffers. -/
abbrev kernelAt (t : Fin grid0.N) (s : (w : Fin 4) → Fin (spec0 w).nbuf) : Prog (TpuEff nD τ sig (Elt F) Λ₀ .tc) PUnit :=
  cc0_combine (grid0.coords t) (Memref.whole main_arg6) (Memref.isWhole_whole _) (Memref.whole main_arg7) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole main_arg3) (Memref.isWhole_whole _) (spec0_3.stage (s 3)) (hstage0_3 ((s 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5

theorem defs_tc : (defs₀ (F := F)) .tc (cfgA m).body = fun a => kernelAt (F := F) a.1 a.2 := rfl
theorem prog_eq (t : Fin (cfgA m).N) : (defs₀ (F := F)) .tc (cfgA m).body ((cfgA m).bodyArgs t ((cfgA m).slots t)) = kernelAt (F := F) t ((cfgA m).slots t) :=
  (congrFun (defs_tc m) _).trans rfl

set_option backward.isDefEq.respectTransparency.types false in
theorem body_obligation (T : Tables (baseT m) (granT m)) (c : Dev nD) : BodyObligation (dats (F := F) m ρ 0 c) (defs₀ (F := F)) 𝒱₀ () Set.univ := fun t => by
  rw [bigSep_W0, bigSep_W0]
  dsimp only
  simp only [before_w0, before_w1, before_w2, after_w0, after_w1, after_w2, after_w3]
  rw [show (dats m ρ 0 c).Φ t.castSucc = Φ m c t.val from rfl, show (dats m ρ 0 c).Φ t.succ = Φ m c (t.val + 1) from rfl]
  unfold Dat.owesAt Pipeline.owesWithin
  rw [show (dats m ρ 0 c).owed t.castSucc = 0 from rfl, show (dats m ρ 0 c).owed t.succ = 0 from rfl]
  iintro ⟨HΦ, ⟨%W, -, HW⟩, ⟨%d0, H0⟩, ⟨%d1, H1⟩, ⟨%d2, H2⟩, ⟨%d3, H3⟩⟩
  rw [iblk_1]
  ihave H0 := (held_of_owns (c : Thread nD τ) (st0 m t) fullShare (iblk m ρ c 0 t)) $$ H0
  ihave H1 := (held_of_owns (c : Thread nD τ) (st1 m t) fullShare (scalesT m c)) $$ H1
  ihave H2 := (held_of_owns (c : Thread nD τ) (st2 m t) fullShare (iblk m ρ c 2 t)) $$ H2
  ihave H3 := (held_of_owns (c : Thread nD τ) (st3 m t) fullShare _) $$ H3
  sl_rw [prog_eq m t]
  unfold Φ kernelAt
  iapply (step_then c _ _ _ _ _ _ _ _ _ _ _ _ _ _ _ _ _ _ _ _ _ _ _ _ _ _ T (codes m c) (scalesT m c) fullShare.right (iblk m ρ c 0 t) (iblk m ρ c 2 t) (coords_val m t) W)
  isplitl [HΦ H0 H1 H2 H3 HW]
  · isplitl [HΦ]; · iexact HΦ
    isplitl [H0]; · iexact H0
    isplitl [H1]; · iexact H1
    isplitl [H2]; · iexact H2
    isplitl [H3]; · iexists _; iexact H3
    iexact HW
  iintro ⟨HΦ, H0, H1, H2, H3, ⟨%W', HW⟩⟩
  isplitl [HΦ]; · iexact HΦ
  isplitl [HW]
  · iexists W'; isplitr
    · ipureintro; exact fun _ _ => Or.inl trivial
    iexact HW
  isplitl [H0]; · iapply (owns_of_held (c : Thread nD τ) (st0 m t) fullShare (iblk m ρ c 0 t)); iexact H0
  isplitl [H1]; · iapply (owns_of_held (c : Thread nD τ) (st1 m t) fullShare (scalesT m c)); iexact H1
  isplitl [H2]; · iapply (owns_of_held (c : Thread nD τ) (st2 m t) fullShare (iblk m ρ c 2 t)); iexact H2
  iapply (owns_of_held (c : Thread nD τ) (st3 m t) fullShare (outAt m ρ c t)); iexact H3

end Cert.Kernel.Run
-- ==== Proof.Kernel.Launch.lean ====
/-
  The whole program: the kernel run at every grid point, and what the memory holds afterwards.
-/
module

public import proofs.«01_k».proof.Proof.Kernel.Body
public import Idealize.ShloMosaic.Lib.Pipeline.Quiescent
public import Idealize.ShloMosaic.Lib.StableHlo.Run

@[expose] public section

set_option maxRecDepth 100000

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.Fill Cert.Kernel.Gen

variable {F : FTy → Type} [FloatOps F]

local notation "𝕄" => MT nD τ sig Unit (Elt F) ℕ UU ℕ

open Idealize.ShloMosaic.Rounds
open Idealize.ShloMosaic.Pipeline (Dat Cfg Window BodyObligation BodyObligationLoose cellOf kernel pipe)

variable (m : (ℓ : Loc nD τ sig) → Buf (Elt F) ℓ) (ρ : Dev nD → PrngReg)

/-! ### Whole buffers -/

theorem of_whole (c : Dev nD) (b : Ref sig .tc) (q : PosShare TreeShare) (f : b.ty.Contents (Elt F)) :
    (((c : Thread nD τ).loc b ↦{q} f) : sProp 𝕄) ⊢ held (c : Thread nD τ) (Memref.whole b) Finset.univ q f := by
  iintro H
  iapply (held_of_owns (c : Thread nD τ) (Memref.whole b) q f)
  iapply (Entails.of_eq (owns_whole (c : Thread nD τ) b q f).symm) $$ H

theorem to_whole (c : Dev nD) (b : Ref sig .tc) (q : PosShare TreeShare) (f : b.ty.Contents (Elt F)) :
    (held (c : Thread nD τ) (Memref.whole b) Finset.univ q f : sProp 𝕄) ⊢ ((c : Thread nD τ).loc b ↦{q} f) := by
  iintro H
  iapply (Entails.of_eq (owns_whole (c : Thread nD τ) b q f))
  iapply (owns_of_held (c : Thread nD τ) (Memref.whole b) q f) $$ H

/-! ### The program up to the kernel -/

/-- The references the host operations run within. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

theorem opT_sub : (opT : HloOp τ sig (Elt F)).bufs ⊆ ucRefs := fun b hb =>
  Finset.mem_filter.mpr ⟨StableHlo.unary_bufs_sub _ _ _ _ _ hb, fun h => Bool.false_ne_true (((opT : HloOp τ sig (Elt F)).no_scoped b hb).symm.trans h)⟩

theorem opR_sub : (opR : HloOp τ sig (Elt F)).bufs ⊆ ucRefs := fun b hb =>
  Finset.mem_filter.mpr ⟨StableHlo.reshape_bufs_sub _ _ _ _ _ _ hb, fun h => Bool.false_ne_true (((opR : HloOp τ sig (Elt F)).no_scoped b hb).symm.trans h)⟩

theorem main_eq (c : Dev nD) : main (F := F) c
    = hlo rfl (opT : HloOp τ sig (Elt F)) fun _ => hlo rfl (opR : HloOp τ sig (Elt F)) fun _ =>
        .op (.customCall (Pipeline.entry 0) ()) fun _ => .ret ⟨⟩ := by
  simp only [main, Prog.lift, Prog.bind_op, Prog.bind_ret]
  rfl

set_option backward.isDefEq.respectTransparency.types false in
theorem main_run (c : Dev nD) (Q : PUnit → sProp 𝕄) :
    iprop((iprop(boundary (c : Thread nD τ) ∗ unscopedBufs c (V m ρ c))
            -∗ wp frame (wpE (defs (F := F)) (Variants.lift 𝒱₀) (c : Thread nD τ) none) Set.univ
                (.op (.customCall (Pipeline.entry (0 : Fin 1)) ()) fun _ => .ret ⟨⟩) Q)
        ∗ boundary (c : Thread nD τ) ∗ unscopedBufs c (fun b => m ((c : Thread nD τ).loc b)))
      ⊢ wp frame (wpE defs (Variants.lift 𝒱₀) (c : Thread nD τ) none) Set.univ (main c) Q := by
  rw [main_eq, show unscopedBufs c (V m ρ c) = StableHlo.held (c : Thread nD τ) ucRefs ((opR : HloOp τ sig (Elt F)).result (V₁ m ρ c))
      from unscopedBufs_held c ((opR : HloOp τ sig (Elt F)).result (V₁ m ρ c)),
    show unscopedBufs c (fun b => m ((c : Thread nD τ).loc b)) = StableHlo.held (c : Thread nD τ) ucRefs (V₀ m ρ c)
      from unscopedBufs_held c (V₀ m ρ c)]
  iintro ⟨Hk, Hb⟩
  iapply (StableHlo.wp_hlo_within (Variants.lift 𝒱₀) (c : Thread nD τ) none Set.univ opT_sub) $$ Hb
  iintro Hb
  iapply (StableHlo.wp_hlo_within (Variants.lift 𝒱₀) (c : Thread nD τ) none Set.univ opR_sub) $$ Hb
  iintro Hb
  iapply Hk; iexact Hb

/-! ### Into and out of the kernel -/

/-- The kernel's two semaphores. -/
def osem : Fin 2 → SemLoc sig := fun u => .dma (tok cc0_scratch5 u.val u.isLt)

theorem ownSemFacts : Pipeline.OwnSemFacts spec0 osem := by decide

theorem bigSep_fin2 (Φ : Fin 2 → sProp 𝕄) : bigSep Finset.univ Φ = iprop(Φ 0 ∗ Φ 1) :=
  bigSep_univ_eq_bigSepL [(0 : Fin 2), (1 : Fin 2)] (by decide) (by decide) Φ

theorem ownSems0_eq (c : Dev nD) : (Pipeline.ownSems0 (Ix := Unit) (Name := ℕ) (U := UU) (Lvl := ℕ) (Val := Elt F) (τ := τ) osem c : sProp 𝕄)
    = iprop(semVal ((c : Thread nD τ), SemLoc.dma (tok cc0_scratch5 0 (two_pos 0))) 0 ∗ semVal ((c : Thread nD τ), SemLoc.dma (tok cc0_scratch5 1 (two_pos 1))) 0) := by
  unfold Pipeline.ownSems0; rw [bigSep_fin2]; rfl

theorem prefHeld_pair (c : Dev nD) (q : Fin 2 → PosShare TreeShare) (v : pre0.Contents (Elt F)) :
    (Pipeline.prefHeld pre0 c q v : sProp 𝕄)
      = iprop((((c : Thread nD τ).loc main_arg6) ↦{q 0} (show Buf (Elt F) ((c : Thread nD τ).loc main_arg6) from v 0))
          ∗ (((c : Thread nD τ).loc main_arg7) ↦{q 1} (show Buf (Elt F) ((c : Thread nD τ).loc main_arg7) from v 1))) := by
  unfold Pipeline.prefHeld
  rw [show (Finset.univ : Finset (Fin 2)) = insert 0 {1} from by decide, bigSep_insert (by decide), bigSep_singleton]
  rfl

/-- What enters the kernel, -/
def intoK (c : Dev nD) : sProp 𝕄 :=
  iprop((((c : Thread nD τ).loc main_arg3) ↦{fullShare} m ((c : Thread nD τ).loc main_arg3)) ∗ Pipeline.ownSems0 osem c)
/-- what passes it by, -/
def besideK (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2))
    ∗ (((c : Thread nD τ).loc main_arg4) ↦{fullShare} m ((c : Thread nD τ).loc main_arg4)))
/-- and what leaves it. -/
def fromK (c : Dev nD) : sProp 𝕄 := iprop(∃ q, ((c : Thread nD τ).loc main_arg3) ↦{q} m ((c : Thread nD τ).loc main_arg3))

theorem enter (c : Dev nD) : iprop(Pipeline.unscopedRestP pre0 spec0 c (V m ρ c) ∗ Pipeline.ownSems0 osem c) ⊢ (iprop(intoK m c ∗ besideK m c) : sProp 𝕄) := by
  rw [unscopedRestP0_eq, V_of_ne m ρ c (b := main_arg0) (by decide) (by decide), V_of_ne m ρ c (b := main_arg1) (by decide) (by decide),
    V_of_ne m ρ c (b := main_arg2) (by decide) (by decide), V_of_ne m ρ c (b := main_arg3) (by decide) (by decide), V_of_ne m ρ c (b := main_arg4) (by decide) (by decide)]
  unfold intoK besideK
  iintro ⟨⟨H0, H1, H2, H3, H4⟩, HS⟩
  isplitl [H3 HS]
  · isplitl [H3]; · iexact H3
    iexact HS
  isplitl [H0]; · iexact H0
  isplitl [H1]; · iexact H1
  isplitl [H2]; · iexact H2
  iexact H4

theorem begin_ (c : Dev nD) : iprop(intoK m c ∗ Pipeline.prefHeld pre0 c (fun _ => fullShare.right) (pf m) ∗ Pipeline.scopedRest spec0 c) ⊢ Φ m c 0 := by
  rw [scopedRest0_eq, prefHeld_pair]
  unfold intoK Φ inv
  rw [ownSems0_eq, if_pos rfl]
  unfold fresh
  obtain rfl : c = 0 := Subsingleton.elim _ _
  iintro ⟨⟨H3, HS0, HS1⟩, ⟨H6, H7⟩, ⟨%f0, B0⟩, ⟨%f1, B1⟩, ⟨%f2, B2⟩, ⟨%f3, B3⟩, ⟨%f4, B4⟩⟩
  isplitr [H6 B1]
  · isplitl [H3]; · iexists fullShare; iapply (of_whole 0 main_arg3 fullShare _) $$ H3
    isplitl [H7]; · iapply (of_whole 0 main_arg7 fullShare.right _) $$ H7
    isplitl [B0]; · iexists f0; iapply (of_whole 0 cc0_scratch0 fullShare f0) $$ B0
    isplitl [HS0]; · iexact HS0
    isplitl [HS1]; · iexact HS1
    isplitl [B2]; · iexists f2; iapply (of_whole 0 cc0_scratch2 fullShare f2) $$ B2
    isplitl [B3]; · iexists f3; iapply (of_whole 0 cc0_scratch3 fullShare f3) $$ B3
    iexists f4; iapply (of_whole 0 cc0_scratch4 fullShare f4) $$ B4
  isplitl [B1]; · iexists f1; iapply (of_whole 0 cc0_scratch1 fullShare f1) $$ B1
  iapply (of_whole 0 main_arg6 fullShare.right _) $$ H6

theorem from_last (T : Tables (baseT m) (granT m)) : from_ (cut (baseT m)) 48 0 = ∅ := from_end (cut (baseT m)) 48 C_end

theorem leave (T : Tables (baseT m) (granT m)) (c : Dev nD) : Φ m c 48 ⊢ (iprop(fromK m c ∗ Pipeline.ownSems0 osem c ∗ Pipeline.scopedRest spec0 c) : sProp 𝕄) := by
  rw [scopedRest0_eq, ownSems0_eq]
  unfold Φ inv fromK
  rw [if_neg (by decide)]
  unfold mid begun
  rw [if_neg (by decide), from_last m T, Finset.sdiff_empty]
  iintro ⟨⟨%X, %cnt, -, ⟨%q, H3⟩, H7, B0, HS0, HS1, B2, B3, B4⟩, ⟨%W, B1⟩, H6⟩
  isplitl [H3]; · iexists q; iapply (to_whole c main_arg3 q _) $$ H3
  isplitl [HS0 HS1]
  · isplitl [HS0]; · iexact HS0
    iexact HS1
  isplitl [B0]; · iexists X; iapply (to_whole c cc0_scratch0 fullShare X) $$ B0
  isplitl [B1]; · iexists W; iapply (to_whole c cc0_scratch1 fullShare W) $$ B1
  isplitl [B2]; · iexists _; iapply (to_whole c cc0_scratch2 fullShare _) $$ B2
  isplitl [B3]; · iexists _; iapply (to_whole c cc0_scratch3 fullShare _) $$ B3
  iexists cnt; iapply (to_whole c cc0_scratch4 fullShare cnt) $$ B4

theorem V_pre (c : Dev nD) (k : Fin 2) : V m ρ c (pre0.ref k) = (adm m).1 k := by
  rw [V_of_ne m ρ c (b := pre0.ref k) (by revert k; decide) (by revert k; decide)]
  obtain rfl : c = 0 := Subsingleton.elim _ _
  rfl

/-! ### The run -/

def u₀ : UU := (initOf (Pipeline.PerCore.cells (Pipeline.pinD (pcfgs (F := F)) (fun _ _ => adm m)) (cellOf_inj (fun _ => adm m))) (Pipeline.PerCore.launchToks (Pipeline.pinD (pcfgs (F := F)) (fun _ _ => adm m)) (cellOf_inj (fun _ => adm m))), 1)

/-- What an array holds at the end. -/
def finalA (c : Dev nD) (w : Fin 4) : Buf (Elt F) ((spec0 w).arr.view.loc (c : Thread nD τ)) := (dats m ρ 0 c).arrAt w grid0.N

def QY (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4)

/-- What holds of the memory after the run: the arrays of the pipeline at what its write-backs leave, the tables and every
    argument as they were. -/
def QC : PUnit × MemSt nD τ sig (Elt F) → Prop := fun r =>
  ∀ c : Dev nD, (∀ w : Fin 4, r.2.mem ((spec0 w).arr.view.loc (c : Thread nD τ)) = finalA m ρ c w)
    ∧ (∀ k, r.2.mem ((c : Thread nD τ).loc (pre0.ref k)) = (adm m).1 k) ∧ QY m c r.2

set_option backward.isDefEq.respectTransparency.types false in
theorem run_main (T : Tables (baseT m) (granT m)) : θ_run defs (onTc (τ := τ) (main (F := F))) (s₀ m ρ) (fun r => QC m ρ r ∧ r.2.sem = fun _ => 0) :=
  Pipeline.PerCore.θ_run_region_pf_quiescent pcfgs (fun _ _ => adm m) (dats m ρ) () (cellOf_inj (fun _ => adm m)) (0 : Fin 1) (launch0 (F := F)).win.to₀ ownSemFacts (launch0 (F := F)).pre
    EP defs₀ 𝒱₀ m ρ main
    (hbody := fun c => (body_obligation m ρ T c).loose) (hne := (launch0 (F := F)).block_pos) (harr := (launch0 (F := F)).arr_whole) (hstage := (launch0 (F := F)).stage_whole)
    (howed := fun _ _ => rfl)
    (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m ρ)
    (hmain := main_run m ρ)
    (hsplit := fun c => Pipeline.PerCore.arrays_split (Pipeline.pinD (pcfgs (F := F)) (fun _ _ => adm m)) (dats m ρ) 0 c (launch0 (F := F)).win.arr_inj (launch0 (F := F)).arr_whole
      ((dats m ρ 0 c).share_full fun _ => rfl) (V m ρ c) _ fun _ => rfl)
    (hpf := V_pre m ρ)
    (X := intoK m) (Y := fromK m) (Z := besideK m)
    (hX := fun c => by
      iintro ⟨HU, HS, -, -, -⟩
      imodintro
      iapply (enter m ρ c)
      isplitl [HU]; · iexact HU
      iexact HS)
    (hin := fun c => begin_ m c)
    (hout := fun c => leave m T c)
    (QY := QY m)
    (hY := fun c s' => by
      unfold fromK besideK
      iintro ⟨⟨%q, H3⟩, ⟨H0, H1, H2, H4⟩, HSI⟩
      icombine HSI H0 gives %h0
      icombine HSI H1 gives %h1
      icombine HSI H2 gives %h2
      icombine HSI H3 gives %h3
      icombine HSI H4 gives %h4
      imodintro
      isplitr; · ipureintro; exact ⟨Buf.eq_of_forall_mem_univ h0, Buf.eq_of_forall_mem_univ h1, Buf.eq_of_forall_mem_univ h2, Buf.eq_of_forall_mem_univ h3, Buf.eq_of_forall_mem_univ h4⟩
      iexact HSI)
    (hQ := fun _ h hz => ⟨h, hz⟩)

theorem finalA_in (c : Dev nD) (w : Fin 4) (hw : ((cfgA m).win w).isOut = false) : finalA m ρ c w = V m ρ c (Pipeline.arrRef spec0 w) :=
  (dats (F := F) m ρ 0 c).arrAt_in w hw _

end Cert.Kernel.Run
-- ==== Proof.Kernel.Frame.lean ====
/-
  The run of `Kernel`, good tables given: what the arguments, the result and the semaphores are at the end.
-/
module

public import proofs.«01_k».proof.Proof.Kernel.Launch

@[expose] public section

set_option maxRecDepth 100000

noncomputable section

namespace Cert.Kernel.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.Fill Cert.Kernel.Gen

variable {F : FTy → Type} [FloatOps F]

local notation "𝕄" => MT nD τ sig Unit (Elt F) ℕ UU ℕ

variable (m : (ℓ : Loc nD τ sig) → Buf (Elt F) ℓ) (ρ : Dev nD → PrngReg)

/-- How a run ends, the tables being good: every argument as it was, the result array at what the write-backs leave, every
    semaphore at zero. -/
theorem ends (T : Tables (baseT m) (granT m)) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.mem ((c.tc : Thread nD τ).loc main_v2) = finalA m ρ c 3)
      ∧ r.2.sem = fun _ => 0) :=
  (θ_run defs _ _).mono
    (fun _ h => ⟨fun c => ⟨⟨(h.1 c).2.2.1, (h.1 c).2.2.2.1, (h.1 c).2.2.2.2.1, (h.1 c).2.2.2.2.2.1, (h.1 c).2.2.2.2.2.2,
        ((h.1 c).1 0).trans ((finalA_in m ρ c 0 rfl).trans (V_of_ne m ρ c (b := main_arg5) (by decide) (by decide))),
        by obtain rfl : c = 0 := Subsingleton.elim _ _; exact (h.1 0).2.1 0,
        by obtain rfl : c = 0 := Subsingleton.elim _ _; exact (h.1 0).2.1 1⟩,
        (h.1 c).1 3⟩, h.2⟩)
    (run_main m ρ T)

/-- The quiescent frame. -/
theorem frame (T : Tables (baseT m) (granT m)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).1, h.2⟩) (ends m ρ T)

end Cert.Kernel.Run
-- ==== Proof.KernelIdeal.Offsets.lean ====
/-
  The kernel's offsets and conditions in closed form, and the side conditions it assumes once it has read a word of an
  index table, from what the tables hold.
-/
module

public import Idealize.ShloMosaic.Lib.Affine
public import proofs.«01_k».proof.Proof.Words
public import proofs.«01_k».proof.Proof.Gen.KernelIdeal.Skeleton

@[expose] public section

set_option maxRecDepth 100000

namespace Cert.KernelIdeal.Run

open Idealize.ShloMosaic Cert.Words

/-! ### Steps -/

/-- The coordinates of a step. -/
def co (t : Fin 48) : grid0.Coords := fun | 0 => t

theorem coords_eq (i : grid0.Coords) : i = co (i 0) := by funext a; fin_cases a; rfl

theorem cond1_iff (i : grid0.Coords) : k0_cond1 i = 1#1 ↔ (i 0).val = 0 := by
  have : ∀ t : Fin 48, k0_cond1 (co t) = 1#1 ↔ t.val = 0 := by decide +kernel
  have e := coords_eq i; have := this (i 0); rw [← e] at this; exact this

theorem cond2_iff (i : grid0.Coords) : k0_cond2 i = 1#1 ↔ (i 0).val + 1 < 48 := by
  have : ∀ t : Fin 48, k0_cond2 (co t) = 1#1 ↔ t.val + 1 < 48 := by decide +kernel
  have e := coords_eq i; have := this (i 0); rw [← e] at this; exact this

theorem off1_eq (e : Fin k0_t1_loop.trips) : k0_off1 e = ![0, e.val] := by revert e; decide +kernel
theorem off2_eq (e : Fin k0_t1_loop.trips) : k0_off2 e = ![3, 16 + e.val] := by revert e; decide +kernel
theorem off7_eq (k : Fin k0_t4_loop.trips) : k0_off7 k = ![0, 128 * k.val] := by revert k; decide +kernel
theorem off8_eq (k : Fin k0_t4_loop.trips) : k0_off8 k = ![4 * k.val, 0] := by revert k; decide +kernel

theorem off9_eq (i : grid0.Coords) (e : Fin k0_t5_loop.trips) (h : (i 0).val + 1 < 48) :
    k0_off9 i e = ![4 * ((i 0).val + 1), e.val] := by
  have : ∀ (t : Fin 48) (e : Fin k0_t5_loop.trips), t.val + 1 < 48 → k0_off9 (co t) e = ![4 * (t.val + 1), e.val] := by
    decide +kernel
  have e' := coords_eq i; have := this (i 0) e h; rw [← e'] at this; exact this
theorem off10_eq (i : grid0.Coords) (e : Fin k0_t5_loop.trips) (h : (i 0).val + 1 < 48) :
    k0_off10 i e = ![4 * ((i 0).val + 1) + 3, 16 + e.val] := by
  have : ∀ (t : Fin 48) (e : Fin k0_t5_loop.trips), t.val + 1 < 48 → k0_off10 (co t) e = ![4 * (t.val + 1) + 3, 16 + e.val] := by
    decide +kernel
  have e' := coords_eq i; have := this (i 0) e h; rw [← e'] at this; exact this
theorem off11_eq (e : Fin k0_t5_loop.trips) : k0_off11 e = ![0, e.val] := off1_eq e

theorem off12_eq (i : grid0.Coords) : k0_off12 i = ![((i 0).val + 1) % 2] := by
  have : ∀ t : Fin 48, k0_off12 (co t) = ![(t.val + 1) % 2] := by decide +kernel
  have e := coords_eq i; have := this (i 0); rw [← e] at this; exact this
theorem off18_eq (i : grid0.Coords) : k0_off18 i = ![((i 0).val + 1) % 2] := off12_eq i
theorem off19_eq (i : grid0.Coords) : k0_off19 i = ![(i 0).val % 2] := by
  have : ∀ t : Fin 48, k0_off19 (co t) = ![t.val % 2] := by decide +kernel
  have e := coords_eq i; have := this (i 0); rw [← e] at this; exact this
theorem off20_eq (i : grid0.Coords) : k0_off20 i = ![(i 0).val % 2] := off19_eq i

theorem off23_eq (i : grid0.Coords) (b : Fin k0_t8_loop.trips) (k : Fin k0_t9_loop.trips) :
    k0_off23 i b k = ![4 * (i 0).val + b.val / 2, b.val % 2 * 64 + k.val] := by
  have h0 : ∀ (t : Fin 48) (b : Fin k0_t8_loop.trips), k0_off23 (co t) b ⟨0, by decide⟩ 0 = 4 * t.val + b.val / 2 := by
    decide +kernel
  have h1 : ∀ (b : Fin k0_t8_loop.trips) (k : Fin k0_t9_loop.trips), k0_off23 (co 0) b k 1 = b.val % 2 * 64 + k.val := by
    decide +kernel
  have e := coords_eq i
  funext a
  fin_cases a
  · have := h0 (i 0) b; rw [← e] at this; exact this
  · exact h1 b k
theorem off25_eq (k : Fin k0_t9_loop.trips) : k0_off25 k = ![4 * k.val, 0] := by revert k; decide +kernel
theorem off26_eq (b : Fin k0_t8_loop.trips) : k0_off26 b = ![b.val / 2, b.val % 2, 0] := by revert b; decide +kernel
theorem off27_eq (b : Fin k0_t8_loop.trips) : k0_off27 b = ![b.val / 2, 2 + b.val % 2, 0] := by revert b; decide +kernel
theorem off28_eq (i : grid0.Coords) (b : Fin k0_t8_loop.trips) : k0_off28 i b = ![4 * (i 0).val + b.val / 2, b.val % 2 * 8] := by
  have : ∀ (t : Fin 48) (b : Fin k0_t8_loop.trips), k0_off28 (co t) b = ![4 * t.val + b.val / 2, b.val % 2 * 8] := by
    decide +kernel
  have e := coords_eq i; have := this (i 0) b; rw [← e] at this; exact this
theorem off30_eq (i : grid0.Coords) (b : Fin k0_t8_loop.trips) : k0_off30 i b = ![4 * (i 0).val + b.val / 2, b.val % 2 * 8 + 1] := by
  have : ∀ (t : Fin 48) (b : Fin k0_t8_loop.trips), k0_off30 (co t) b = ![4 * t.val + b.val / 2, b.val % 2 * 8 + 1] := by
    decide +kernel
  have e := coords_eq i; have := this (i 0) b; rw [← e] at this; exact this
theorem off32_eq (i : grid0.Coords) (b : Fin k0_t8_loop.trips) : k0_off32 i b = ![4 * (i 0).val + b.val / 2, b.val % 2 * 8 + 2] := by
  have : ∀ (t : Fin 48) (b : Fin k0_t8_loop.trips), k0_off32 (co t) b = ![4 * t.val + b.val / 2, b.val % 2 * 8 + 2] := by
    decide +kernel
  have e := coords_eq i; have := this (i 0) b; rw [← e] at this; exact this
theorem off34_eq (i : grid0.Coords) (b : Fin k0_t8_loop.trips) : k0_off34 i b = ![4 * (i 0).val + b.val / 2, b.val % 2 * 8 + 3] := by
  have : ∀ (t : Fin 48) (b : Fin k0_t8_loop.trips), k0_off34 (co t) b = ![4 * t.val + b.val / 2, b.val % 2 * 8 + 3] := by
    decide +kernel
  have e := coords_eq i; have := this (i 0) b; rw [← e] at this; exact this
theorem off36_eq (i : grid0.Coords) (b : Fin k0_t8_loop.trips) : k0_off36 i b = ![4 * (i 0).val + b.val / 2, b.val % 2 * 8 + 4] := by
  have : ∀ (t : Fin 48) (b : Fin k0_t8_loop.trips), k0_off36 (co t) b = ![4 * t.val + b.val / 2, b.val % 2 * 8 + 4] := by
    decide +kernel
  have e := coords_eq i; have := this (i 0) b; rw [← e] at this; exact this
theorem off38_eq (i : grid0.Coords) (b : Fin k0_t8_loop.trips) : k0_off38 i b = ![4 * (i 0).val + b.val / 2, b.val % 2 * 8 + 5] := by
  have : ∀ (t : Fin 48) (b : Fin k0_t8_loop.trips), k0_off38 (co t) b = ![4 * t.val + b.val / 2, b.val % 2 * 8 + 5] := by
    decide +kernel
  have e := coords_eq i; have := this (i 0) b; rw [← e] at this; exact this
theorem off40_eq (i : grid0.Coords) (b : Fin k0_t8_loop.trips) : k0_off40 i b = ![4 * (i 0).val + b.val / 2, b.val % 2 * 8 + 6] := by
  have : ∀ (t : Fin 48) (b : Fin k0_t8_loop.trips), k0_off40 (co t) b = ![4 * t.val + b.val / 2, b.val % 2 * 8 + 6] := by
    decide +kernel
  have e := coords_eq i; have := this (i 0) b; rw [← e] at this; exact this
theorem off42_eq (i : grid0.Coords) (b : Fin k0_t8_loop.trips) : k0_off42 i b = ![4 * (i 0).val + b.val / 2, b.val % 2 * 8 + 7] := by
  have : ∀ (t : Fin 48) (b : Fin k0_t8_loop.trips), k0_off42 (co t) b = ![4 * t.val + b.val / 2, b.val % 2 * 8 + 7] := by
    decide +kernel
  have e := coords_eq i; have := this (i 0) b; rw [← e] at this; exact this
theorem off44_eq (b : Fin k0_t8_loop.trips) : k0_off44 b = ![64 * b.val, 0] := by revert b; decide +kernel
theorem off45_eq (b : Fin k0_t8_loop.trips) : k0_off45 b = ![64 * b.val, 256] := by revert b; decide +kernel
theorem off46_eq (b : Fin k0_t8_loop.trips) : k0_off46 b = ![64 * b.val, 512] := by revert b; decide +kernel
theorem off47_eq (b : Fin k0_t8_loop.trips) : k0_off47 b = ![64 * b.val, 768] := by revert b; decide +kernel
theorem off48_eq (b : Fin k0_t8_loop.trips) : k0_off48 b = ![64 * b.val, 1024] := by revert b; decide +kernel
theorem off49_eq (b : Fin k0_t8_loop.trips) : k0_off49 b = ![64 * b.val, 1280] := by revert b; decide +kernel
theorem off50_eq (b : Fin k0_t8_loop.trips) : k0_off50 b = ![64 * b.val, 1536] := by revert b; decide +kernel
theorem off51_eq (b : Fin k0_t8_loop.trips) : k0_off51 b = ![64 * b.val, 1792] := by revert b; decide +kernel

end Cert.KernelIdeal.Run
-- ==== Proof.KernelIdeal.Checks.lean ====
/-
  The side conditions the kernel assumes once it has read a word of an index table, from what the tables hold.
-/
module

public import proofs.«01_k».proof.Proof.KernelIdeal.Offsets

@[expose] public section

set_option maxRecDepth 100000

namespace Cert.KernelIdeal.Run

open Idealize.ShloMosaic Cert.Words Cert.Chunks

theorem emb_word {off : Fin 2 → ℕ} {inb} (r k : ℕ) (h : off = ![r, k])
    (p : 0 < (Rect.unit (s := S192x128) off S1x1.size inb).shape.numel) :
    (Rect.unit (s := S192x128) off S1x1.size inb).emb (Shape.Idx.first p) = ix r k := by
  subst h
  have h0 := inb 0; have h1 := inb 1
  funext a
  apply Fin.ext
  fin_cases a
  · show r + 1 * 0 = r % 192
    have : r + 1 ≤ 192 := h0
    omega
  · show k + 1 * 0 = k % 128
    have : k + 1 ≤ 128 := h1
    omega

variable {base gran : Words.Table} (T : Tables base gran)

/-- The word of the first row of expert `e` that step `s` uses. -/
abbrev cw (base : Words.Table) (s e : ℕ) : BitVec 32 := w (cut base s e)

/-! ### The loop over an expert's chunks -/

section Loop

include T

theorem loop_lb (s e : ℕ) : (k0_t2_loop (cw base s e) (cw base (s + 1) e) (cw base 0 e)).lb = w (C (cut base) s e) :=
  T.start_eq e

theorem loop_ub (s e : ℕ) : (k0_t2_loop (cw base s e) (cw base (s + 1) e) (cw base 0 e)).ub = w (C (cut base) (s + 1) e) := by
  show Scalar.addi (start (cw base s e) (cw base 0 e)) (Scalar.muli (Scalar.divsi (Scalar.subi
    (stop (cw base s e) (cw base (s + 1) e) (cw base 0 e)) (start (cw base s e) (cw base 0 e))) 1#32) 1#32) = _
  have := C_top T.good (s + 1) e
  have hm := C_mono T.good s e
  rw [T.start_eq, T.stop_eq, divsi_one, subi_w hm (by omega), muli_w, addi_w]
  congr 1; omega

theorem loop_trips (s e : ℕ) : (k0_t2_loop (cw base s e) (cw base (s + 1) e) (cw base 0 e)).trips = n (cut base) s e := by
  have := C_top T.good (s + 1) e
  show Scf.trips (k0_t2_loop (cw base s e) (cw base (s + 1) e) (cw base 0 e)).lb (k0_t2_loop (cw base s e) (cw base (s + 1) e) (cw base 0 e)).ub 1#32 = _
  rw [loop_lb T, loop_ub T, trips_w (C_mono T.good s e) (by omega)]; rfl

theorem loop_ok (s e : ℕ) : (k0_t2_loop (cw base s e) (cw base (s + 1) e) (cw base 0 e)).OK := by
  have := C_top T.good s e; have := n_le T.good s e
  refine ⟨show (0 : ℤ) < (1#32 : BitVec 32).toInt by decide, ?_⟩
  have ht : Scf.trips (k0_t2_loop (cw base s e) (cw base (s + 1) e) (cw base 0 e)).lb
    (k0_t2_loop (cw base s e) (cw base (s + 1) e) (cw base 0 e)).ub (k0_t2_loop (cw base s e) (cw base (s + 1) e) (cw base 0 e)).st = n (cut base) s e := loop_trips T s e
  rw [ht, loop_lb T, toInt_w (by omega), show (k0_t2_loop (cw base s e) (cw base (s + 1) e) (cw base 0 e)).st.toInt = 1 from rfl]
  omega

theorem rest_lb (s e : ℕ) : (k0_t3_loop (cw base s e) (cw base (s + 1) e) (cw base 0 e)).lb = w (C (cut base) (s + 1) e) :=
  loop_ub T s e

theorem rest_ub (s e : ℕ) : (k0_t3_loop (cw base s e) (cw base (s + 1) e) (cw base 0 e)).ub = w (C (cut base) (s + 1) e) := by
  show Scalar.addi (start (cw base s e) (cw base 0 e)) (Scalar.subi
    (stop (cw base s e) (cw base (s + 1) e) (cw base 0 e)) (start (cw base s e) (cw base 0 e))) = _
  have := C_top T.good (s + 1) e
  have hm := C_mono T.good s e
  rw [T.start_eq, T.stop_eq, subi_w hm (by omega), addi_w]
  congr 1; omega

theorem rest_trips (s e : ℕ) : (k0_t3_loop (cw base s e) (cw base (s + 1) e) (cw base 0 e)).trips = 0 := by
  have := C_top T.good (s + 1) e
  show Scf.trips (k0_t3_loop (cw base s e) (cw base (s + 1) e) (cw base 0 e)).lb (k0_t3_loop (cw base s e) (cw base (s + 1) e) (cw base 0 e)).ub 1#32 = _
  rw [rest_lb T, rest_ub T, trips_w le_rfl (by omega)]; omega

theorem rest_ok (s e : ℕ) : (k0_t3_loop (cw base s e) (cw base (s + 1) e) (cw base 0 e)).OK := by
  have := C_top T.good (s + 1) e
  refine ⟨show (0 : ℤ) < (1#32 : BitVec 32).toInt by decide, ?_⟩
  have ht : Scf.trips (k0_t3_loop (cw base s e) (cw base (s + 1) e) (cw base 0 e)).lb
    (k0_t3_loop (cw base s e) (cw base (s + 1) e) (cw base 0 e)).ub (k0_t3_loop (cw base s e) (cw base (s + 1) e) (cw base 0 e)).st = 0 := rest_trips T s e
  rw [ht, rest_lb T, toInt_w (by omega)]
  omega

theorem iv_eq (s e k : ℕ) : Scf.iv (start (cw base s e) (cw base 0 e)) 1#32 k = w (C (cut base) s e + k) := by
  rw [T.start_eq, iv_w]

/-- The array row a chunk's transfer begins at, -/
theorem off4_eq (s e : ℕ) (k : Fin (k0_t2_loop (cw base s e) (cw base (s + 1) e) (cw base 0 e)).trips) :
    k0_off4 _ _ _ k = ![(C (cut base) s e + k.val) * 32, 0] := by
  have hk : k.val < n (cut base) s e := Nat.lt_of_lt_of_eq k.isLt (loop_trips T s e)
  have := C_top T.good s e; have := n_le T.good s e
  show ![(Scalar.muli (Scf.iv (start (cw base s e) (cw base 0 e)) 1#32 k.val) 32#32).toNat, 0] = _
  rw [iv_eq T, muli_w, toNat_w (by omega)]

/-- and the ring row. -/
theorem off3_eq (s e : ℕ) (e' : Fin k0_t1_loop.trips) (he : e'.val = e)
    (k : Fin (k0_t2_loop (cw base s e) (cw base (s + 1) e) (cw base 0 e)).trips) :
    k0_off3 e' _ _ _ k = ![(e * 40 + (C (cut base) s e + k.val) % 40) * 32, 0] := by
  have hk : k.val < n (cut base) s e := Nat.lt_of_lt_of_eq k.isLt (loop_trips T s e)
  have := C_top T.good s e; have := n_le T.good s e
  have hb : e < 8 := he ▸ e'.isLt
  show ![(Scalar.muli (Scalar.addi (Scalar.muli (Scf.iv 0#32 1#32 e'.val) 40#32)
    (Scalar.subi (Scf.iv (start (cw base s e) (cw base 0 e)) 1#32 k.val)
      (Scalar.muli (Scalar.shrsi (Scalar.muli (Scf.iv (start (cw base s e) (cw base 0 e)) 1#32 k.val) 1639#32) 16#32) 40#32))) 32#32).toNat, 0] = _
  rw [iv_eq T, slot_w (by omega), iv_w 0, muli_w, addi_w, muli_w, toNat_w (by omega), he]
  congr 2; omega

theorem chk1_of (i : grid0.Coords) (s e : ℕ) (e' : Fin k0_t1_loop.trips) (he : e'.val = e) :
    k0_chk1 i e' (cw base s e) (cw base (s + 1) e) (cw base 0 e) := by
  have hb : e < 8 := he ▸ e'.isLt
  have lt : ∀ k : Fin (k0_t2_loop (cw base s e) (cw base (s + 1) e) (cw base 0 e)).trips, C (cut base) s e + k.val < 1536 := fun k => by
    have := Nat.lt_of_lt_of_eq k.isLt (loop_trips T s e); have := C_top T.good (s + 1) e; have := n_add T.good s e; omega
  have no : ∀ {p : Prop}, Fin (k0_t3_loop (cw base s e) (cw base (s + 1) e) (cw base 0 e)).trips → p := fun k =>
    (Nat.not_lt_zero _ (Nat.lt_of_lt_of_eq k.isLt (rest_trips T s e))).elim
  refine ⟨fun _ => loop_ok T s e, fun k _ => ?_, fun k _ => ?_, fun k _ => ?_, fun k _ => ?_, fun k _ hinb => ?_, fun k _ hinb => ?_,
    fun _ => rest_ok T s e, fun k => no k, fun k => no k, fun k => no k, fun k => no k, fun k => no k, fun k => no k⟩
  · have h := congrFun (off4_eq T s e k) 0
    have h' : (k0_mult1 _ _ _ k).toNat = (C (cut base) s e + k.val) * 32 := h
    rw [h']; exact Dvd.intro_left _ rfl
  · have h := congrFun (off3_eq T s e e' he k) 0
    have h' : (k0_mult2 e' _ _ _ k).toNat = (e * 40 + (C (cut base) s e + k.val) % 40) * 32 := h
    rw [h']; exact Dvd.intro_left _ rfl
  · rw [off3_eq T s e e' he k]
    intro a
    fin_cases a
    · show (e * 40 + (C (cut base) s e + k.val) % 40) * 32 + 32 ≤ 10240
      omega
    · show 0 + 2048 ≤ 2048
      omega
  · rw [off4_eq T s e k]
    have := lt k
    intro a
    fin_cases a
    · show (C (cut base) s e + k.val) * 32 + 32 ≤ 49152
      omega
    · show 0 + 2048 ≤ 2048
      omega
  · exact .inl (.inr ⟨show 2 ≤ 2 from le_rfl, rfl, .inl ⟨by
      show 4 ∣ k0_off4 _ _ _ k 0
      rw [off4_eq T s e k]; exact Dvd.dvd.mul_left (by decide) _, show 4 ∣ 32 by decide⟩⟩)
  · exact .inl (.inr ⟨show 2 ≤ 2 from le_rfl, rfl, .inl ⟨by
      show 4 ∣ k0_off3 e' _ _ _ k 0
      rw [off3_eq T s e e' he k]; exact Dvd.dvd.mul_left (by decide) _, show 4 ∣ 32 by decide⟩⟩)

theorem chk2_of (i : grid0.Coords) (s e : ℕ) (e' : Fin k0_t5_loop.trips) (he : e'.val = e) :
    k0_chk2 i e' (cw base s e) (cw base (s + 1) e) (cw base 0 e) := by
  have i0 : grid0.Coords := co 0
  have h := chk1_of T (co 0) s e e' he
  have h0 : k0_cond1 (co 0) = 1#1 := (cond1_iff _).2 rfl
  obtain ⟨a1, a2, a3, a4, a5, a6, a7, a8, a9, a10, a11, a12, a13, a14⟩ := h
  exact ⟨fun _ => a1 h0, fun k _ => a2 k h0, fun k _ => a3 k h0, fun k _ => a4 k h0, fun k _ => a5 k h0, fun k _ => a6 k h0,
    fun k _ => a7 k h0, fun _ => a8 h0, fun k _ => a9 k h0, fun k _ => a10 k h0, fun k _ => a11 k h0, fun k _ => a12 k h0,
    fun k _ => a13 k h0, fun k _ => a14 k h0⟩

end Loop

/-! ### The other words -/

theorem chk3_of {P : ℕ} (hP : P ≤ 136) : k0_chk3 (w P) := by
  show 32 ∣ (Scalar.muli (w P) 32#32).toNat
  rw [muli_w, toNat_w (by omega)]; exact Dvd.intro_left _ rfl

theorem off21_eq {P : ℕ} (hP : P ≤ 136) : k0_off21 (w P) = (![0, 0], ![P * 32, 2048]) := by
  show (![0, 0], ![(Scalar.muli (w P) 32#32).toNat, 2048]) = _
  rw [muli_w, toNat_w (by omega)]

theorem off24_eq {a : ℕ} (ha : a < 2560) : k0_off24 (w a) = ![a * 4, 0] := by
  show ![(Scalar.muli (w a) 4#32).toNat, 0] = _
  rw [muli_w, toNat_w (by omega)]

theorem chk4_of {a : ℕ} (ha : a < 2560) : k0_chk4 (w a) := by
  constructor
  · show 4 ∣ (Scalar.muli (w a) 4#32).toNat
    rw [muli_w, toNat_w (by omega)]; exact Dvd.intro_left _ rfl
  · rw [off24_eq ha]
    intro k
    fin_cases k
    · show a * 4 + 4 ≤ 10240
      omega
    · show 0 + 2048 ≤ 2048
      omega

/-- Eight rows of the scales that a word of a row's window names. -/
theorem off29_eq {v : BitVec 32} (hv : 0 ≤ v.toInt) : k0_off29 v = ![min (v.toNat / 128) 382 * 4, 0] := by
  have hv' : v.toNat < 2 ^ 31 := by
    rw [BitVec.toInt_eq_toNat_cond] at hv
    have := v.isLt
    split at hv <;> omega
  have hw : v = w v.toNat := BitVec.eq_of_toNat_eq (toNat_w v.isLt).symm
  generalize v.toNat = m at hw hv'
  subst hw
  show ![(Scalar.muli (Scalar.minsi (Scalar.shrsi (w m) (w 7)) 382#32) 4#32).toNat, 0] = _
  rw [shrsi_w (by omega) (by omega)]
  have : Scalar.minsi (w (m / 2 ^ 7)) (w 382) = w (min (m / 128) 382) := by
    show (if (w (m / 2 ^ 7)).slt (w 382) then w (m / 2 ^ 7) else w 382) = _
    rw [BitVec.slt_eq_decide, toInt_w (by omega), toInt_w (by omega)]
    by_cases h : m / 128 < 382
    · rw [if_pos (decide_eq_true (by omega)), Nat.min_eq_left (by omega)]; rfl
    · rw [if_neg (by rw [decide_eq_true_eq]; omega), Nat.min_eq_right (by omega)]
  rw [this, muli_w, toNat_w (by omega)]

theorem chk5_of {v : BitVec 32} (hv : 0 ≤ v.toInt) : k0_chk5 v := by
  unfold k0_chk5
  rw [off29_eq hv]
  intro k
  fin_cases k
  · show min (v.toNat / 128) 382 * 4 + 8 ≤ 1536
    omega
  · show 0 + 128 ≤ 128
    omega

end Cert.KernelIdeal.Run
-- ==== Proof.KernelIdeal.State.lean ====
/-
  What the kernel holds between grid steps: the resource algebra, the ring's windows, what each transfer brings, and the
  contents of the scratch buffers.
-/
module

public import Idealize.ShloMosaic.Lib.Pipeline.KitQuiescent
public import Idealize.ShloMosaic.Lib.Tactic
public import proofs.«01_k».proof.Proof.Rules
public import proofs.«01_k».proof.Proof.KernelIdeal.Checks
public import proofs.«01_k».proof.Proof.Gen.KernelIdeal.Launch

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.KernelIdeal.Gen

variable {F : FTy → Type} [FloatOps F]

/-- The proof's component of the machine's algebra: the pipeline's and the transfers'. -/
abbrev UU : Type := UR sig nD τ × Counters

local notation "𝕄" => MT nD τ sig Unit (Elt F) ℕ UU ℕ

abbrev EP : Emb (UR sig nD τ) (MT nD τ sig Unit (Elt F) ℕ UU ℕ) := embL
abbrev EC : UEmb Counters (MT nD τ sig Unit (Elt F) ℕ UU ℕ) := countersEmb
abbrev 𝒱₀ : Variants := Variants.none

/-! ### Indices -/

/-- The index of row `r`, column `k` of the array of rows. -/
def yx (r k : ℕ) : S49152x2048.Idx := fun a => ⟨(![r, k] a) % (![49152, 2048] a), by
  fin_cases a <;> exact Nat.mod_lt _ (by decide)⟩

/-! ### The ring -/

open Classical in
/-- The ring's indices in the windows of a step's transfers from the `j`-th on, -/
def from_ (L : ℕ → ℕ → ℕ) (s j : ℕ) : Finset S10240x2048.Idx := Finset.univ.filter fun x => InGe L s j (x 0).val
open Classical in
/-- and in the window of the `j`-th. -/
def at_ (L : ℕ → ℕ → ℕ) (s j : ℕ) : Finset S10240x2048.Idx := Finset.univ.filter fun x => InAt L s j (x 0).val

theorem mem_from {L : ℕ → ℕ → ℕ} {s j : ℕ} {x : S10240x2048.Idx} : x ∈ from_ L s j ↔ InGe L s j (x 0).val := by
  unfold from_; simp
theorem mem_at {L : ℕ → ℕ → ℕ} {s j : ℕ} {x : S10240x2048.Idx} : x ∈ at_ L s j ↔ InAt L s j (x 0).val := by
  unfold at_; simp

section Sets

variable {L : ℕ → ℕ → ℕ} (h : Good L)
include h

theorem from_split (s j : ℕ) : from_ L s j = at_ L s j ∪ from_ L s (j + 1) := by
  ext x; rw [Finset.mem_union, mem_from, mem_from, mem_at]; exact InGe_split s j _

theorem from_disj (s j : ℕ) : Disjoint (at_ L s j) (from_ L s (j + 1)) := by
  rw [Finset.disjoint_left]; intro x a b
  exact InAt_InGe h s j _ (mem_at.mp a) (mem_from.mp b)

theorem at_disj (s : ℕ) {j j' : ℕ} (hj : j ≠ j') : Disjoint (at_ L s j) (at_ L s j') := by
  rw [Finset.disjoint_left]; intro x a b
  exact hj (InAt_disj h s j j' _ (mem_at.mp a) (mem_at.mp b))

theorem from_zero (s : ℕ) : from_ L s 0 = Finset.univ.biUnion fun j : Fin (P L s 8) => at_ L s j.val := by
  ext x
  rw [mem_from, InGe_iff_InAt h]
  simp [mem_at]

theorem from_next (s : ℕ) : Disjoint (from_ L s 0) (from_ L (s + 1) 0) := by
  rw [Finset.disjoint_left]; intro x a b
  exact InGe_disj h s _ (mem_from.mp a) (mem_from.mp b)

/-- A transfer's window is the rectangle it goes to. -/
theorem at_rect {s e c : ℕ} (he : e < 8) (hc : C L s e ≤ c) (hc2 : c < C L (s + 1) e) {off : Fin 2 → ℕ}
    {inb : ∀ a, off a + S32x2048.size a ≤ S10240x2048.size a} (ho : off = ![(e * 40 + c % 40) * 32, 0]) :
    (Rect.unit (s := S10240x2048) off S32x2048.size inb).set = at_ L s (P L s e + (c - C L s e)) := by
  subst ho
  ext x
  rw [Rect.mem_set_unit, mem_at, InAt_iff h he hc hc2]
  constructor
  · intro a; exact a 0
  · intro a k
    fin_cases k
    · exact a
    · exact ⟨Nat.zero_le _, (x 1).isLt⟩

end Sets

/-- What the ring holds in a step's windows once the step has waited. -/
def land (L : ℕ → ℕ → ℕ) (Y : S49152x2048.Idx → Elt F .fp8e4m3) (s : ℕ) : S10240x2048.Idx → Elt F .fp8e4m3 :=
  fun x => Y (yx (src L s (x 0).val) (x 1).val)

theorem land_emb {L : ℕ → ℕ → ℕ} (h : Good L) (Y : S49152x2048.Idx → Elt F .fp8e4m3) {s e c : ℕ}
    (hc : C L s e ≤ c + 1) (hc2 : c < C L (s + 1) e) {off off' : Fin 2 → ℕ}
    {inb : ∀ a, off a + S32x2048.size a ≤ S10240x2048.size a} {inb' : ∀ a, off' a + S32x2048.size a ≤ S49152x2048.size a}
    (ho : off = ![(e * 40 + c % 40) * 32, 0]) (ho' : off' = ![c * 32, 0]) (y : S32x2048.Idx) :
    land L Y s ((Rect.unit (s := S10240x2048) off S32x2048.size inb).emb y)
      = Y ((Rect.unit (s := S49152x2048) off' S32x2048.size inb').emb y) := by
  subst ho ho'
  have hb : c * 32 + 32 ≤ 49152 := inb' 0
  have hy : (y 0).val < 32 := (y 0).isLt
  have hy1 : (y 1).val < 2048 := (y 1).isLt
  have st := C_step h s e
  have e0 : (((Rect.unit (s := S10240x2048) _ S32x2048.size inb).emb y) 0).val = (e * 40 + c % 40) * 32 + (y 0).val := by
    show (e * 40 + c % 40) * 32 + 1 * (y 0).val = _
    omega
  have e1 : (((Rect.unit (s := S10240x2048) _ S32x2048.size inb).emb y) 1).val = (y 1).val := by
    show 0 + 1 * (y 1).val = _
    omega
  unfold land
  rw [e0, e1, src_eq h hc (by omega) (show Win e c _ from ⟨by omega, by omega⟩)]
  congr 1
  funext a
  apply Fin.ext
  fin_cases a
  · show (c * 32 + _) % 49152 = c * 32 + 1 * (y 0).val
    omega
  · show (y 1).val % 2048 = 0 + 1 * (y 1).val
    omega

/-! ### The transfers -/

/-- What a transfer of whole chunks credits. -/
theorem credit_rows (n : ℕ) : RefSig.tileCredit ⟨2, ![n * 32, 2048]⟩ .fp8e4m3 = 2048 * n := by
  have h1 : RefSig.lead ⟨2, ![n * 32, 2048]⟩ = 1 := by
    unfold RefSig.lead
    rw [show (Finset.univ.filter fun a : Fin 2 => a.val + 2 < 2) = ∅ from by decide]
    rfl
  have h2 : RefSig.roundUp (n * 32) 32 = n * 32 := by
    unfold RefSig.roundUp; rw [if_neg (by decide)]; omega
  have h3 : RefSig.roundUp 2048 128 = 2048 := by decide
  show RefSig.lead ⟨2, ![n * 32, 2048]⟩ * RefSig.roundUp (n * 32) 32 * RefSig.roundUp 2048 128 * 8 / 8 / 32 = _
  rw [h1, h2, h3]; omega

theorem credit_one {m : Memref sig .tc .vmem S32x2048 .fp8e4m3} : m.view.dmaCredit = 2048 :=
  (credit_rows 1).trans rfl

/-- The semaphore of a step's transfers. -/
def tok (a : DmaSems sig S2) (b : ℕ) (hb : b < 2) : DmaSem sig :=
  ((a.slice (Rect.unit (s := S2) ![b] S1.size (by intro k; fin_cases k; show b + 1 ≤ 2; omega))).squeeze S_ squeezes_S1_S_).sem

theorem tok_eq (a : DmaSems sig S2) {off : Fin 1 → ℕ} {inb} {b : ℕ} (hb : b < 2) (ho : off = ![b]) :
    ((a.slice (Rect.unit (s := S2) off S1.size inb)).squeeze S_ squeezes_S1_S_).sem = tok a b hb := by
  subst ho; rfl

section Batch

variable (c : Dev nD) (ring : Memref sig .tc .vmem S10240x2048 .fp8e4m3) (L : ℕ → ℕ → ℕ) (Y : S49152x2048.Idx → Elt F .fp8e4m3)

/-- What a step's transfers bring. -/
def brings (s : ℕ) (j : Fin (P L s 8)) : sProp 𝕄 :=
  held (c : Thread nD τ) ring (at_ L s j.val) fullShare (land L Y s)

instance (s : ℕ) (j : Fin (P L s 8)) : BI.Storable (upEmb : UEmb _ 𝕄) (brings c ring L Y s j) := by
  unfold brings; infer_instance

/-- A step's transfers, `j` of them begun. -/
abbrev sent (a : DmaSem sig) (s j : ℕ) : sProp 𝕄 :=
  Transfers.Batch EC (c : Thread nD τ) (.dma a) () 2048 (brings c ring L Y s) j 0

end Batch

end Cert.KernelIdeal.Run
-- ==== Proof.KernelIdeal.Issue.lean ====
/-
  The loops that begin a step's transfers: every chunk the step needs and the ring does not hold yet, expert by expert.
-/
module

public import proofs.«01_k».proof.Proof.KernelIdeal.State

@[expose] public section

set_option maxRecDepth 100000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.KernelIdeal.Gen

variable {F : FTy → Type} [FloatOps F]

local notation "𝕄" => MT nD τ sig Unit (Elt F) ℕ UU ℕ

variable (c : Dev nD) (i : grid0.Coords)
variable (arg1 : Memref sig .tc .smem S192x128 .i32) (harg1 : arg1.IsWhole) (arg2 : Memref sig .tc .smem S192x128 .i32) (harg2 : arg2.IsWhole) (arg3 : Memref sig .tc .vmem S4x4x128 .i32) (harg3 : arg3.IsWhole) (arg4 : Memref sig .tc .vmem S16x49152 .i8) (harg4 : arg4.IsWhole) (arg5 : Memref sig .tc .vmem S512x2048 .bf16) (harg5 : arg5.IsWhole) (arg6 : Memref sig .tc .hbm S49152x2048 .fp8e4m3) (harg6 : arg6.IsWhole) (arg7 : Memref sig .tc .vmem S512x2048 .bf16) (harg7 : arg7.IsWhole) (arg8 : Memref sig .tc .vmem S10240x2048 .fp8e4m3) (harg8 : arg8.IsWhole) (arg9 : Memref sig .tc .vmem S192x2048 .fp8e4m3) (harg9 : arg9.IsWhole) (arg10 : Memref sig .tc .vmem S1536x128 .i32) (harg10 : arg10.IsWhole) (arg11 : Memref sig .tc .vmem S48x2048 .bf16) (harg11 : arg11.IsWhole) (arg12 : Memref sig .tc .smem S2 .i32) (harg12 : arg12.IsWhole) (arg13 : DmaSems sig S2)

variable {base gran : Words.Table} (T : Tables base gran) (Y : S49152x2048.Idx → Elt F .fp8e4m3) (X : S10240x2048.Idx → Elt F .fp8e4m3)
variable (q : PosShare TreeShare)

/-- What the loops hold, `j` of a step's transfers begun: the array at some share, the cuts' table, the windows still to
    be used, and the transfers. -/
def going (a : DmaSem sig) (s j : ℕ) : sProp 𝕄 :=
  iprop((∃ q, held (c : Thread nD τ) arg6 Finset.univ q Y) ∗ held (c : Thread nD τ) arg2 Finset.univ q (base : S192x128.Idx → Elt F .i32)
    ∗ held (c : Thread nD τ) arg8 (from_ (cut base) s j) fullShare X ∗ sent c arg8 (cut base) Y a s j)

include T

/-- One chunk of the first step: a transfer into its window. -/
theorem first_chunk (hc : k0_cond1 i = 1#1) {s e : ℕ} (e' : Fin k0_t1_loop.trips) (he : e'.val = e)
    (hw : k0_chk1 i e' (cw base s e) (cw base (s + 1) e) (cw base 0 e)) (b : DmaSem sig)
    (hb : ((arg13.slice (Rect.unit (s := S2) ![0] S1.size inb_S2_S1_0)).squeeze S_ squeezes_S1_S_).sem = b)
    (k : Fin (k0_t2_loop (cw base s e) (cw base (s + 1) e) (cw base 0 e)).trips) (acc : BitVec 32) :
    (going c arg2 arg6 arg8 Y X q (base := base) b s (P (cut base) s e + k.val) : sProp 𝕄)
      ⊢ wp frame (wpE (defs₀ (F := F)) 𝒱₀ (c : Thread nD τ) none) Set.univ
        (k0_t2_body (F := F) i arg1 harg1 arg2 harg2 arg3 harg3 arg4 harg4 arg5 harg5 arg6 harg6 arg7 harg7 arg8 harg8 arg9 harg9 arg10 harg10 arg11 harg11 arg12 harg12 arg13 hc e' (cw base s e) (cw base (s + 1) e) (cw base 0 e) hw k acc)
        fun _ => going c arg2 arg6 arg8 Y X q (base := base) b s (P (cut base) s e + (k.val + 1)) := by
  have h8 : e < 8 := he ▸ e'.isLt
  have o1 : k0_off3 e' (cw base s e) (cw base (s + 1) e) (cw base 0 e) k = ![(e * 40 + (C (cut base) s e + k.val) % 40) * 32, 0] := off3_eq T s e e' he k
  have o2 : k0_off4 (cw base s e) (cw base (s + 1) e) (cw base 0 e) k = ![(C (cut base) s e + k.val) * 32, 0] := off4_eq T s e k
  have hk : k.val < n (cut base) s e := Nat.lt_of_lt_of_eq k.isLt (loop_trips T s e)
  have hn := n_add T.good s e
  have hp : P (cut base) s e + k.val < P (cut base) s 8 := by
    have := P_succ (L := cut base) s e; have := P_mono (L := cut base) s (show e + 1 ≤ 8 by omega); omega
  have hr : ∀ inb, (Rect.unit (s := S10240x2048) (k0_off3 e' _ _ _ k) S32x2048.size inb).set
      = at_ (cut base) s (P (cut base) s e + k.val) := fun inb => by
    have := at_rect T.good (s := s) (c := C (cut base) s e + k.val) h8 (Nat.le_add_right _ _) (by omega) (inb := inb) (off3_eq T s e e' he k)
    rw [Nat.add_sub_cancel_left] at this; exact this
  unfold k0_t2_body going
  rw [from_split T.good]
  rw [wp_bind]
  subst hb
  iintro ⟨Hy, Hb, Hr, HB⟩
  ihave Hr := (held_union (c : Thread nD τ) arg8 (from_disj T.good s _)).1 $$ Hr
  icases Hr with ⟨Hw, Hr⟩
  iapply (Held.wp_issue 𝒱₀ (c : Thread nD τ) none EC (size := S32x2048.size) (T := P (cut base) s 8) (D := brings c arg8 (cut base) Y s)
    (j := P (cut base) s e + k.val) (X := X) (Z := land (cut base) Y s) (Y := Y) () 2048 credit_one hp
    (fun y => land_emb T.good Y (c := C (cut base) s e + k.val) (by omega) (by omega) o1 o2 y) ?_) $$ [Hy Hw HB]
  · rw [hr]; exact Entails.of_eq rfl
  · isplitl [Hy]; · iexact Hy
    isplitl [Hw]
    · rw [hr]; iexact Hw
    iexact HB
  iintro ⟨Hy, HB⟩
  rw [wp_pure]
  imodintro
  isplitl [Hy]; · iexact Hy
  isplitl [Hb]; · iexact Hb
  isplitl [Hr]; · iexact Hr
  iexact HB

/-- One expert's chunks of the first step. -/
theorem first_expert (hc : k0_cond1 i = 1#1) {s : ℕ} (hs : s < 48) (hi : s = 0) (b : DmaSem sig)
    (hb : ((arg13.slice (Rect.unit (s := S2) ![0] S1.size inb_S2_S1_0)).squeeze S_ squeezes_S1_S_).sem = b)
    (e' : Fin k0_t1_loop.trips) (acc : BitVec 32) :
    iprop(⌜acc = w (P (cut base) s e'.val)⌝ ∗ going c arg2 arg6 arg8 Y X q (base := base) b s (P (cut base) s e'.val) : sProp 𝕄)
      ⊢ wp frame (wpE (defs₀ (F := F)) 𝒱₀ (c : Thread nD τ) none) Set.univ
        (k0_t1_body (F := F) i arg1 harg1 arg2 harg2 arg3 harg3 arg4 harg4 arg5 harg5 arg6 harg6 arg7 harg7 arg8 harg8 arg9 harg9 arg10 harg10 arg11 harg11 arg12 harg12 arg13 hc e' acc)
        fun acc => iprop(⌜acc = w (P (cut base) s (e'.val + 1))⌝ ∗ going c arg2 arg6 arg8 Y X q (base := base) b s (P (cut base) s (e'.val + 1))) := by
  have h8 : e'.val < 8 := e'.isLt
  have w1 : ∀ inb p, base ((Rect.unit (s := S192x128) (k0_off1 e') S1x1.size inb).emb (Shape.Idx.first p)) = cw base s e'.val := fun inb p => by
    rw [emb_word _ _ (off1_eq e')]; subst hi; exact Tables.lo e'.isLt hs
  have w2 : ∀ inb p, base ((Rect.unit (s := S192x128) (k0_off2 e') S1x1.size inb).emb (Shape.Idx.first p)) = cw base (s + 1) e'.val := fun inb p => by
    rw [emb_word _ _ (off2_eq e')]; subst hi; exact T.hi 0 e'.val hs h8
  have w3 : ∀ inb p, base ((Rect.unit (s := S192x128) (k0_off1 e') S1x1.size inb).emb (Shape.Idx.first p)) = cw base 0 e'.val := fun inb p => by
    rw [emb_word _ _ (off1_eq e')]; exact Tables.lo (s := 0) e'.isLt (by decide)
  unfold k0_t1_body
  iintro ⟨%ha, H⟩
  unfold going
  icases H with ⟨Hy, Hb, Hr, HB⟩
  rw [wp_bind]
  iapply (Held.wp_word 𝒱₀ (c : Thread nD τ) none Set.univ (m := arg2) (X := (base : S192x128.Idx → Elt F .i32)) (S := Finset.univ) (Finset.subset_univ _)) $$ Hb
  iintro Hb
  rw [w1]
  rw [wp_bind]
  iapply (Held.wp_word 𝒱₀ (c : Thread nD τ) none Set.univ (m := arg2) (X := (base : S192x128.Idx → Elt F .i32)) (S := Finset.univ) (Finset.subset_univ _)) $$ Hb
  iintro Hb
  rw [w2]
  rw [wp_bind]
  iapply (Held.wp_word 𝒱₀ (c : Thread nD τ) none Set.univ (m := arg2) (X := (base : S192x128.Idx → Elt F .i32)) (S := Finset.univ) (Finset.subset_univ _)) $$ Hb
  iintro Hb
  rw [w3]
  rw [wp_bind]
  iapply (Held.wp_assume 𝒱₀ (c : Thread nD τ) none Set.univ (chk1_of T i s e'.val e' rfl))
  rw [wp_bind]
  iapply (Scf.wp_for _ _ _ _ _ _ _ _ _ (fun k _ => going c arg2 arg6 arg8 Y X q (base := base) b s (P (cut base) s e'.val + k)) ?_)
  · intro k a
    exact first_chunk c i arg1 harg1 arg2 harg2 arg3 harg3 arg4 harg4 arg5 harg5 arg6 harg6 arg7 harg7 arg8 harg8 arg9 harg9 arg10 harg10 arg11 harg11 arg12 harg12 arg13 T Y X q hc e' rfl _ b hb k a
  isplitl [Hy Hb Hr HB]
  · unfold going
    isplitl [Hy]; · iexact Hy
    isplitl [Hb]; · iexact Hb
    isplitl [Hr]; · iexact Hr
    iexact HB
  iintro %a H
  rw [wp_bind]
  iapply (Scf.wp_for _ _ _ _ _ _ _ _ _ (fun _ _ => iprop(emp)) ?_)
  · intro k a
    exact (Nat.not_lt_zero _ (Nat.lt_of_lt_of_eq k.isLt (rest_trips T s e'.val))).elim
  isplitr
  · iempintro
  iintro %a' -
  rw [wp_pure]
  imodintro
  isplitr
  · ipureintro
    subst ha
    have h1 : Scalar.subi (stop (cw base s e'.val) (cw base (s + 1) e'.val) (cw base 0 e'.val)) (start (cw base s e'.val) (cw base 0 e'.val))
        = w (n (cut base) s e'.val) := by
      have := C_top T.good (s + 1) e'.val
      rw [T.start_eq, T.stop_eq, subi_w (C_mono T.good s e'.val) (by omega)]; rfl
    show Scalar.addi (w (P (cut base) s e'.val)) (Scalar.subi (stop (cw base s e'.val) (cw base (s + 1) e'.val) (cw base 0 e'.val)) (start (cw base s e'.val) (cw base 0 e'.val))) = _
    rw [h1, addi_w, P_succ]
  · rw [P_succ]
    have ht := loop_trips T s e'.val
    have ht' : Scf.trips (k0_t2_loop (cw base s e'.val) (cw base (s + 1) e'.val) (cw base 0 e'.val)).lb
      (k0_t2_loop (cw base s e'.val) (cw base (s + 1) e'.val) (cw base 0 e'.val)).ub (k0_t2_loop (cw base s e'.val) (cw base (s + 1) e'.val) (cw base 0 e'.val)).st = n (cut base) s e'.val := ht
    rw [ht']
    unfold going
    iexact H

/-- The first step's transfers. -/
theorem first (hc : k0_cond1 i = 1#1) {s : ℕ} (hs : s < 48) (hi : s = 0) (b : DmaSem sig)
    (hb : ((arg13.slice (Rect.unit (s := S2) ![0] S1.size inb_S2_S1_0)).squeeze S_ squeezes_S1_S_).sem = b) {Q : BitVec 32 → sProp 𝕄} :
    iprop(going c arg2 arg6 arg8 Y X q (base := base) b s 0
        ∗ (going c arg2 arg6 arg8 Y X q (base := base) b s (P (cut base) s 8) -∗ Q (w (P (cut base) s 8))) : sProp 𝕄)
      ⊢ wp frame (wpE (defs₀ (F := F)) 𝒱₀ (c : Thread nD τ) none) Set.univ
        (Scf.Loop.for k0_t1_loop (k0_t1_ok i hc) 0#32 (k0_t1_body (F := F) i arg1 harg1 arg2 harg2 arg3 harg3 arg4 harg4 arg5 harg5 arg6 harg6 arg7 harg7 arg8 harg8 arg9 harg9 arg10 harg10 arg11 harg11 arg12 harg12 arg13 hc)) Q := by
  iintro ⟨H, K⟩
  iapply (Scf.wp_for _ _ _ _ _ _ _ _ _ (fun e acc => iprop(⌜acc = w (P (cut base) s e)⌝ ∗ going c arg2 arg6 arg8 Y X q (base := base) b s (P (cut base) s e))) ?_)
  · intro e acc
    exact first_expert c i arg1 harg1 arg2 harg2 arg3 harg3 arg4 harg4 arg5 harg5 arg6 harg6 arg7 harg7 arg8 harg8 arg9 harg9 arg10 harg10 arg11 harg11 arg12 harg12 arg13 T Y X q hc hs hi b hb e acc
  isplitl [H]
  · isplitr
    · ipureintro; rfl
    · rw [P_zero]; iexact H
  rw [show Scf.trips k0_t1_loop.lb k0_t1_loop.ub k0_t1_loop.st = 8 by decide +kernel]
  iintro %acc ⟨%ha, H⟩
  subst ha
  iapply K
  iexact H

/-- One chunk of the step after the first: a transfer into its window. -/
theorem next_chunk (hc : k0_cond2 i = 1#1) {s e : ℕ} (e' : Fin k0_t5_loop.trips) (he : e'.val = e)
    (hw : k0_chk2 i e' (cw base s e) (cw base (s + 1) e) (cw base 0 e)) (b : DmaSem sig)
    (hb : ((arg13.slice (Rect.unit (s := S2) (k0_off12 i) S1.size (k0_off12_inb i hc))).squeeze S_ squeezes_S1_S_).sem = b)
    (k : Fin (k0_t6_loop (cw base s e) (cw base (s + 1) e) (cw base 0 e)).trips) (acc : BitVec 32) :
    (going c arg2 arg6 arg8 Y X q (base := base) b s (P (cut base) s e + k.val) : sProp 𝕄)
      ⊢ wp frame (wpE (defs₀ (F := F)) 𝒱₀ (c : Thread nD τ) none) Set.univ
        (k0_t6_body (F := F) i arg1 harg1 arg2 harg2 arg3 harg3 arg4 harg4 arg5 harg5 arg6 harg6 arg7 harg7 arg8 harg8 arg9 harg9 arg10 harg10 arg11 harg11 arg12 harg12 arg13 hc e' (cw base s e) (cw base (s + 1) e) (cw base 0 e) hw k acc)
        fun _ => going c arg2 arg6 arg8 Y X q (base := base) b s (P (cut base) s e + (k.val + 1)) := by
  have h8 : e < 8 := he ▸ e'.isLt
  have o1 : k0_off13 e' (cw base s e) (cw base (s + 1) e) (cw base 0 e) k = ![(e * 40 + (C (cut base) s e + k.val) % 40) * 32, 0] := off3_eq T s e e' he k
  have o2 : k0_off14 (cw base s e) (cw base (s + 1) e) (cw base 0 e) k = ![(C (cut base) s e + k.val) * 32, 0] := off4_eq T s e k
  have hk : k.val < n (cut base) s e := Nat.lt_of_lt_of_eq k.isLt (loop_trips T s e)
  have hn := n_add T.good s e
  have hp : P (cut base) s e + k.val < P (cut base) s 8 := by
    have := P_succ (L := cut base) s e; have := P_mono (L := cut base) s (show e + 1 ≤ 8 by omega); omega
  have hr : ∀ inb, (Rect.unit (s := S10240x2048) (k0_off13 e' _ _ _ k) S32x2048.size inb).set
      = at_ (cut base) s (P (cut base) s e + k.val) := fun inb => by
    have := at_rect T.good (s := s) (c := C (cut base) s e + k.val) h8 (Nat.le_add_right _ _) (by omega) (inb := inb) (off3_eq T s e e' he k)
    rw [Nat.add_sub_cancel_left] at this; exact this
  unfold k0_t6_body going
  rw [from_split T.good]
  rw [wp_bind]
  subst hb
  iintro ⟨Hy, Hb, Hr, HB⟩
  ihave Hr := (held_union (c : Thread nD τ) arg8 (from_disj T.good s _)).1 $$ Hr
  icases Hr with ⟨Hw, Hr⟩
  iapply (Held.wp_issue 𝒱₀ (c : Thread nD τ) none EC (size := S32x2048.size) (T := P (cut base) s 8) (D := brings c arg8 (cut base) Y s)
    (j := P (cut base) s e + k.val) (X := X) (Z := land (cut base) Y s) (Y := Y) () 2048 credit_one hp
    (fun y => land_emb T.good Y (c := C (cut base) s e + k.val) (by omega) (by omega) o1 o2 y) ?_) $$ [Hy Hw HB]
  · rw [hr]; exact Entails.of_eq rfl
  · isplitl [Hy]; · iexact Hy
    isplitl [Hw]
    · rw [hr]; iexact Hw
    iexact HB
  iintro ⟨Hy, HB⟩
  rw [wp_pure]
  imodintro
  isplitl [Hy]; · iexact Hy
  isplitl [Hb]; · iexact Hb
  isplitl [Hr]; · iexact Hr
  iexact HB

/-- One expert's chunks of the step after. -/
theorem next_expert (hc : k0_cond2 i = 1#1) {s : ℕ} (hs : s < 48) (hi : (i 0).val + 1 = s) (b : DmaSem sig)
    (hb : ((arg13.slice (Rect.unit (s := S2) (k0_off12 i) S1.size (k0_off12_inb i hc))).squeeze S_ squeezes_S1_S_).sem = b)
    (e' : Fin k0_t5_loop.trips) (acc : BitVec 32) :
    iprop(⌜acc = w (P (cut base) s e'.val)⌝ ∗ going c arg2 arg6 arg8 Y X q (base := base) b s (P (cut base) s e'.val) : sProp 𝕄)
      ⊢ wp frame (wpE (defs₀ (F := F)) 𝒱₀ (c : Thread nD τ) none) Set.univ
        (k0_t5_body (F := F) i arg1 harg1 arg2 harg2 arg3 harg3 arg4 harg4 arg5 harg5 arg6 harg6 arg7 harg7 arg8 harg8 arg9 harg9 arg10 harg10 arg11 harg11 arg12 harg12 arg13 hc e' acc)
        fun acc => iprop(⌜acc = w (P (cut base) s (e'.val + 1))⌝ ∗ going c arg2 arg6 arg8 Y X q (base := base) b s (P (cut base) s (e'.val + 1))) := by
  have h8 : e'.val < 8 := e'.isLt
  have w1 : ∀ inb p, base ((Rect.unit (s := S192x128) (k0_off9 i e') S1x1.size inb).emb (Shape.Idx.first p)) = cw base s e'.val := fun inb p => by
    rw [emb_word _ _ (off9_eq i e' (by omega))]; rw [hi]; exact Tables.lo e'.isLt hs
  have w2 : ∀ inb p, base ((Rect.unit (s := S192x128) (k0_off10 i e') S1x1.size inb).emb (Shape.Idx.first p)) = cw base (s + 1) e'.val := fun inb p => by
    rw [emb_word _ _ (off10_eq i e' (by omega))]; rw [hi]; exact T.hi s e'.val hs h8
  have w3 : ∀ inb p, base ((Rect.unit (s := S192x128) (k0_off11 e') S1x1.size inb).emb (Shape.Idx.first p)) = cw base 0 e'.val := fun inb p => by
    rw [emb_word _ _ (off11_eq e')]; exact Tables.lo (s := 0) e'.isLt (by decide)
  unfold k0_t5_body
  iintro ⟨%ha, H⟩
  unfold going
  icases H with ⟨Hy, Hb, Hr, HB⟩
  rw [wp_bind]
  iapply (Held.wp_word 𝒱₀ (c : Thread nD τ) none Set.univ (m := arg2) (X := (base : S192x128.Idx → Elt F .i32)) (S := Finset.univ) (Finset.subset_univ _)) $$ Hb
  iintro Hb
  rw [w1]
  rw [wp_bind]
  iapply (Held.wp_word 𝒱₀ (c : Thread nD τ) none Set.univ (m := arg2) (X := (base : S192x128.Idx → Elt F .i32)) (S := Finset.univ) (Finset.subset_univ _)) $$ Hb
  iintro Hb
  rw [w2]
  rw [wp_bind]
  iapply (Held.wp_word 𝒱₀ (c : Thread nD τ) none Set.univ (m := arg2) (X := (base : S192x128.Idx → Elt F .i32)) (S := Finset.univ) (Finset.subset_univ _)) $$ Hb
  iintro Hb
  rw [w3]
  rw [wp_bind]
  iapply (Held.wp_assume 𝒱₀ (c : Thread nD τ) none Set.univ (chk2_of T i s e'.val e' rfl))
  rw [wp_bind]
  iapply (Scf.wp_for _ _ _ _ _ _ _ _ _ (fun k _ => going c arg2 arg6 arg8 Y X q (base := base) b s (P (cut base) s e'.val + k)) ?_)
  · intro k a
    exact next_chunk c i arg1 harg1 arg2 harg2 arg3 harg3 arg4 harg4 arg5 harg5 arg6 harg6 arg7 harg7 arg8 harg8 arg9 harg9 arg10 harg10 arg11 harg11 arg12 harg12 arg13 T Y X q hc e' rfl _ b hb k a
  isplitl [Hy Hb Hr HB]
  · unfold going
    isplitl [Hy]; · iexact Hy
    isplitl [Hb]; · iexact Hb
    isplitl [Hr]; · iexact Hr
    iexact HB
  iintro %a H
  rw [wp_bind]
  iapply (Scf.wp_for _ _ _ _ _ _ _ _ _ (fun _ _ => iprop(emp)) ?_)
  · intro k a
    exact (Nat.not_lt_zero _ (Nat.lt_of_lt_of_eq k.isLt (rest_trips T s e'.val))).elim
  isplitr
  · iempintro
  iintro %a' -
  rw [wp_pure]
  imodintro
  isplitr
  · ipureintro
    subst ha
    have h1 : Scalar.subi (stop (cw base s e'.val) (cw base (s + 1) e'.val) (cw base 0 e'.val)) (start (cw base s e'.val) (cw base 0 e'.val))
        = w (n (cut base) s e'.val) := by
      have := C_top T.good (s + 1) e'.val
      rw [T.start_eq, T.stop_eq, subi_w (C_mono T.good s e'.val) (by omega)]; rfl
    show Scalar.addi (w (P (cut base) s e'.val)) (Scalar.subi (stop (cw base s e'.val) (cw base (s + 1) e'.val) (cw base 0 e'.val)) (start (cw base s e'.val) (cw base 0 e'.val))) = _
    rw [h1, addi_w, P_succ]
  · rw [P_succ]
    have ht := loop_trips T s e'.val
    have ht' : Scf.trips (k0_t6_loop (cw base s e'.val) (cw base (s + 1) e'.val) (cw base 0 e'.val)).lb
      (k0_t6_loop (cw base s e'.val) (cw base (s + 1) e'.val) (cw base 0 e'.val)).ub (k0_t6_loop (cw base s e'.val) (cw base (s + 1) e'.val) (cw base 0 e'.val)).st = n (cut base) s e'.val := ht
    rw [ht']
    unfold going
    iexact H

/-- The next step's transfers. -/
theorem next (hc : k0_cond2 i = 1#1) {s : ℕ} (hs : s < 48) (hi : (i 0).val + 1 = s) (b : DmaSem sig)
    (hb : ((arg13.slice (Rect.unit (s := S2) (k0_off12 i) S1.size (k0_off12_inb i hc))).squeeze S_ squeezes_S1_S_).sem = b) {Q : BitVec 32 → sProp 𝕄} :
    iprop(going c arg2 arg6 arg8 Y X q (base := base) b s 0
        ∗ (going c arg2 arg6 arg8 Y X q (base := base) b s (P (cut base) s 8) -∗ Q (w (P (cut base) s 8))) : sProp 𝕄)
      ⊢ wp frame (wpE (defs₀ (F := F)) 𝒱₀ (c : Thread nD τ) none) Set.univ
        (Scf.Loop.for k0_t5_loop (k0_t5_ok i hc) 0#32 (k0_t5_body (F := F) i arg1 harg1 arg2 harg2 arg3 harg3 arg4 harg4 arg5 harg5 arg6 harg6 arg7 harg7 arg8 harg8 arg9 harg9 arg10 harg10 arg11 harg11 arg12 harg12 arg13 hc)) Q := by
  iintro ⟨H, K⟩
  iapply (Scf.wp_for _ _ _ _ _ _ _ _ _ (fun e acc => iprop(⌜acc = w (P (cut base) s e)⌝ ∗ going c arg2 arg6 arg8 Y X q (base := base) b s (P (cut base) s e))) ?_)
  · intro e acc
    exact next_expert c i arg1 harg1 arg2 harg2 arg3 harg3 arg4 harg4 arg5 harg5 arg6 harg6 arg7 harg7 arg8 harg8 arg9 harg9 arg10 harg10 arg11 harg11 arg12 harg12 arg13 T Y X q hc hs hi b hb e acc
  isplitl [H]
  · isplitr
    · ipureintro; rfl
    · rw [P_zero]; iexact H
  rw [show Scf.trips k0_t5_loop.lb k0_t5_loop.ub k0_t5_loop.st = 8 by decide +kernel]
  iintro %acc ⟨%ha, H⟩
  subst ha
  iapply K
  iexact H

end Cert.KernelIdeal.Run
-- ==== Proof.KernelIdeal.Setup.lean ====
/-
  What the body holds between steps, and the beginning of the first step: its transfers, the copy of the scales, the
  expansion matrix.
-/
module

public import proofs.«01_k».proof.Proof.Fill
public import proofs.«01_k».proof.Proof.KernelIdeal.Issue

@[expose] public section

set_option maxRecDepth 100000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.Fill Cert.KernelIdeal.Gen

variable {F : FTy → Type} [FloatOps F]

local notation "𝕄" => MT nD τ sig Unit (Elt F) ℕ UU ℕ

variable (c : Dev nD) (i : grid0.Coords)
variable (arg1 : Memref sig .tc .smem S192x128 .i32) (harg1 : arg1.IsWhole) (arg2 : Memref sig .tc .smem S192x128 .i32) (harg2 : arg2.IsWhole) (arg3 : Memref sig .tc .vmem S4x4x128 .i32) (harg3 : arg3.IsWhole) (arg4 : Memref sig .tc .vmem S16x49152 .i8) (harg4 : arg4.IsWhole) (arg5 : Memref sig .tc .vmem S512x2048 .bf16) (harg5 : arg5.IsWhole) (arg6 : Memref sig .tc .hbm S49152x2048 .fp8e4m3) (harg6 : arg6.IsWhole) (arg7 : Memref sig .tc .vmem S512x2048 .bf16) (harg7 : arg7.IsWhole) (arg8 : Memref sig .tc .vmem S10240x2048 .fp8e4m3) (harg8 : arg8.IsWhole) (arg9 : Memref sig .tc .vmem S192x2048 .fp8e4m3) (harg9 : arg9.IsWhole) (arg10 : Memref sig .tc .vmem S1536x128 .i32) (harg10 : arg10.IsWhole) (arg11 : Memref sig .tc .vmem S48x2048 .bf16) (harg11 : arg11.IsWhole) (arg12 : Memref sig .tc .smem S2 .i32) (harg12 : arg12.IsWhole) (arg13 : DmaSems sig S2)

variable {base gran : Words.Table} (T : Tables base gran) (Y : S49152x2048.Idx → Elt F .fp8e4m3)
variable (SCT : S16x49152.Idx → Elt F .i8) (q : PosShare TreeShare)

/-! ### What is held between the steps -/

/-- The copy of the scales the first step makes, from the scales as the window holds them. -/
def scaleOf : S1536x128.Idx → Elt F .i32 := fun x =>
  k0_pay1 (F := F) (fun y : S16x128.Idx => SCT (mk2 16 49152 (y 0).val (128 * ((x 0).val / 4) + (y 1).val))) (mk2 4 128 ((x 0).val % 4) (x 1).val)

/-- The word of the counts. -/
def i2 (b : ℕ) : S2.Idx := fun a => ⟨(![b] a) % (![2] a), by fin_cases a; exact Nat.mod_lt _ (by decide)⟩

/-- The ring keeps, of every expert, the last chunk loaded before step `t`. -/
def Kept (L : ℕ → ℕ → ℕ) (t : ℕ) (X : S10240x2048.Idx → Elt F .fp8e4m3) : Prop :=
  ∀ e c, e < 8 → C L 0 e ≤ c → c + 1 = C L t e → ∀ x, Win e c (x 0).val →
    X x = Y (yx (c * 32 + ((x 0).val - (e * 40 + c % 40) * 32)) (x 1).val)

/-- The count of step `t`'s transfers. -/
def Count (L : ℕ → ℕ → ℕ) (t : ℕ) (cnt : S2.Idx → Elt F .i32) : Prop := t < 48 → cnt (i2 (t % 2)) = w (P L t 8)

theorem two_pos (t : ℕ) : t % 2 < 2 := Nat.mod_lt _ (by decide)

/-- The transfers of step `t`, begun; of no step after the last. -/
def begun (base : Words.Table) (t : ℕ) : sProp 𝕄 :=
  if t < 48 then sent c arg8 (cut base) Y (tok arg13 (t % 2) (two_pos t)) t (P (cut base) t 8)
  else semVal ((c : Thread nD τ), SemLoc.dma (tok arg13 (t % 2) (two_pos t))) 0

/-- What the body holds before step `t`, its transfers begun. -/
def mid (base : Words.Table) (t : ℕ) : sProp 𝕄 :=
  iprop(∃ X : S10240x2048.Idx → Elt F .fp8e4m3, ∃ cnt : S2.Idx → Elt F .i32, ⌜Kept Y (cut base) t X ∧ Count (F := F) (cut base) t cnt⌝
    ∗ (∃ q, held (c : Thread nD τ) arg6 Finset.univ q Y) ∗ held (c : Thread nD τ) arg2 Finset.univ q (base : S192x128.Idx → Elt F .i32)
    ∗ held (c : Thread nD τ) arg8 (Finset.univ \ from_ (cut base) t 0) fullShare X
    ∗ begun c arg8 arg13 Y base t
    ∗ semVal ((c : Thread nD τ), SemLoc.dma (tok arg13 ((t + 1) % 2) (two_pos _))) 0
    ∗ held (c : Thread nD τ) arg10 Finset.univ fullShare (scaleOf SCT)
    ∗ held (c : Thread nD τ) arg11 Finset.univ fullShare (k0_pay2 (F := F))
    ∗ held (c : Thread nD τ) arg12 Finset.univ fullShare cnt)

/-- What it holds before the first step: the scratch as it is, no transfer begun. -/
def fresh (base : Words.Table) : sProp 𝕄 :=
  iprop((∃ q, held (c : Thread nD τ) arg6 Finset.univ q Y) ∗ held (c : Thread nD τ) arg2 Finset.univ q (base : S192x128.Idx → Elt F .i32)
    ∗ (∃ X, held (c : Thread nD τ) arg8 Finset.univ fullShare X)
    ∗ semVal ((c : Thread nD τ), SemLoc.dma (tok arg13 0 (two_pos 0))) 0
    ∗ semVal ((c : Thread nD τ), SemLoc.dma (tok arg13 1 (two_pos 1))) 0
    ∗ (∃ X, held (c : Thread nD τ) arg10 Finset.univ fullShare X)
    ∗ (∃ X, held (c : Thread nD τ) arg11 Finset.univ fullShare X)
    ∗ (∃ X, held (c : Thread nD τ) arg12 Finset.univ fullShare X))

/-! ### The copy of the scales -/

theorem scale_row (hc : k0_cond1 i = 1#1) (k : Fin k0_t4_loop.trips) (acc : Unit) :
    iprop(held (c : Thread nD τ) arg4 Finset.univ q SCT ∗ (∃ Z, ⌜∀ x : S1536x128.Idx, (x 0).val < 4 * k.val → Z x = scaleOf SCT x⌝
        ∗ held (c : Thread nD τ) arg10 Finset.univ fullShare Z) : sProp 𝕄)
      ⊢ wp frame (wpE (defs₀ (F := F)) 𝒱₀ (c : Thread nD τ) none) Set.univ
        (k0_t4_body (F := F) i arg1 harg1 arg2 harg2 arg3 harg3 arg4 harg4 arg5 harg5 arg6 harg6 arg7 harg7 arg8 harg8 arg9 harg9 arg10 harg10 arg11 harg11 arg12 harg12 arg13 hc k acc)
        fun _ => iprop(held (c : Thread nD τ) arg4 Finset.univ q SCT ∗ (∃ Z, ⌜∀ x : S1536x128.Idx, (x 0).val < 4 * (k.val + 1) → Z x = scaleOf SCT x⌝
          ∗ held (c : Thread nD τ) arg10 Finset.univ fullShare Z)) := by
  unfold k0_t4_body
  iintro ⟨H4, %Z, %hZ, H10⟩
  rw [wp_bind]
  iapply (Held.wp_load 𝒱₀ (c : Thread nD τ) none Set.univ (m := arg4) (X := SCT) (S := Finset.univ) (Finset.subset_univ _)) $$ H4
  iintro H4
  rw [wp_bind]
  iapply (Held.wp_load 𝒱₀ (c : Thread nD τ) none Set.univ (m := arg10) (X := Z) (S := Finset.univ) (Finset.subset_univ _)) $$ H10
  iintro H10
  rw [wp_bind]
  iapply (Held.wp_store 𝒱₀ (c : Thread nD τ) none Set.univ (m := arg10) (X := Z)) $$ H10
  iintro H10
  rw [wp_pure]
  imodintro
  isplitl [H4]; · iexact H4
  iexists _
  isplitr
  rotate_left
  · iexact H10
  ipureintro
  intro x hx
  by_cases hk : 4 * k.val ≤ (x 0).val
  · have hx0 : (x 0).val < 1536 := (x 0).isLt
    have hx1 : (x 1).val < 128 := (x 1).isLt
    have e8 := off8_eq k
    have hd : (x 0).val / 4 = k.val := by omega
    refine (put_in (s := S1536x128) ?_ (mk2 4 128 ((x 0).val % 4) (x 1).val) ?_).trans ?_
    · rw [e8]; intro a; fin_cases a
      · exact ⟨hk, show (x 0).val < 4 * k.val + 4 by omega⟩
      · exact ⟨Nat.zero_le _, show (x 1).val < 0 + 128 by omega⟩
    · rw [e8]; intro a; fin_cases a
      · show ((x 0).val % 4) % 4 = (x 0).val - 4 * k.val
        omega
      · show (x 1).val % 128 = (x 1).val - 0
        omega
    · unfold scaleOf
      refine congrFun (congrArg (k0_pay1 (F := F)) ?_) _
      funext y
      rw [hd]
      refine congrArg SCT ?_
      refine (emb2 (R := 16) (K := 49152) 0 (128 * k.val) (off7_eq k) y).trans ?_
      rw [Nat.zero_add]
  · refine (put_out (s := S1536x128) (0 : Fin 2) (.inl ?_)).trans (hZ x (by omega))
    rw [off8_eq k]
    show (x 0).val < 4 * k.val
    omega

theorem scale_all (hc : k0_cond1 i = 1#1) (Z : S1536x128.Idx → Elt F .i32) {Q : Unit → sProp 𝕄} :
    iprop(held (c : Thread nD τ) arg4 Finset.univ q SCT ∗ held (c : Thread nD τ) arg10 Finset.univ fullShare Z
        ∗ (held (c : Thread nD τ) arg4 Finset.univ q SCT ∗ held (c : Thread nD τ) arg10 Finset.univ fullShare (scaleOf SCT) -∗ Q ⟨⟩) : sProp 𝕄)
      ⊢ wp frame (wpE (defs₀ (F := F)) 𝒱₀ (c : Thread nD τ) none) Set.univ
        (Scf.Loop.for k0_t4_loop (k0_t4_ok i hc) ⟨⟩ (k0_t4_body (F := F) i arg1 harg1 arg2 harg2 arg3 harg3 arg4 harg4 arg5 harg5 arg6 harg6 arg7 harg7 arg8 harg8 arg9 harg9 arg10 harg10 arg11 harg11 arg12 harg12 arg13 hc)) Q := by
  iintro ⟨H4, H10, K⟩
  iapply (Scf.wp_for _ _ _ _ _ _ _ _ _ (fun k _ => iprop(held (c : Thread nD τ) arg4 Finset.univ q SCT ∗ (∃ Z, ⌜∀ x : S1536x128.Idx, (x 0).val < 4 * k → Z x = scaleOf SCT x⌝
        ∗ held (c : Thread nD τ) arg10 Finset.univ fullShare Z))) ?_)
  · intro k acc
    exact scale_row c i arg1 harg1 arg2 harg2 arg3 harg3 arg4 harg4 arg5 harg5 arg6 harg6 arg7 harg7 arg8 harg8 arg9 harg9 arg10 harg10 arg11 harg11 arg12 harg12 arg13 SCT q hc k acc
  isplitl [H4 H10]
  · isplitl [H4]; · iexact H4
    iexists Z
    isplitr
    · ipureintro; intro x hx; exact absurd hx (Nat.not_lt_zero _)
    · iexact H10
  rw [show Scf.trips k0_t4_loop.lb k0_t4_loop.ub k0_t4_loop.st = 384 by decide +kernel]
  iintro %acc ⟨H4, %Z', %hZ, H10⟩
  iapply K
  isplitl [H4]; · iexact H4
  have e : Z' = scaleOf SCT := funext fun x => hZ x (show (x 0).val < 4 * 384 from (x 0).isLt)
  subst e
  iexact H10

/-! ### The counts -/

theorem put_count {X : S2.Idx → Elt F .i32} {off : Fin 1 → ℕ} {b b' : ℕ} (hb : b < 2) (hb' : b' < 2) (ho : off = ![b]) (v : Elt F .i32) :
    VecWindow.put (s := S2) X off S1.size (fun _ => v) (i2 b') = if b' = b then v else X (i2 b') := by
  subst ho
  have e : ((i2 b') 0).val = b' := Nat.mod_eq_of_lt hb'
  split
  · rename_i h
    refine (put_in (s := S2) ?_ (fun a => ⟨0, by fin_cases a; decide⟩) ?_)
    · intro a; fin_cases a
      show b ≤ ((i2 b') 0).val ∧ ((i2 b') 0).val < b + 1
      omega
    · intro a; fin_cases a
      show 0 = ((i2 b') 0).val - b
      omega
  · rename_i h
    refine put_out (s := S2) (0 : Fin 1) ?_
    show ((i2 b') 0).val < b ∨ b + 1 ≤ ((i2 b') 0).val
    omega

theorem emb_count {off : Fin 1 → ℕ} {b : ℕ} (ho : off = ![b]) {inb} (p : 0 < (Rect.unit (s := S2) off S1.size inb).shape.numel) :
    (Rect.unit (s := S2) off S1.size inb).emb (Shape.Idx.first p) = i2 b := by
  subst ho
  have h := inb 0
  have h' : b + 1 ≤ 2 := h
  funext a; fin_cases a
  apply Fin.ext
  show b + 1 * 0 = b % 2
  omega

theorem put_full (X w : S48x2048.Idx → Elt F .bf16) : VecWindow.put (s := S48x2048) X ![0, 0] S48x2048.size w = w := by
  funext x
  refine put_in (s := S48x2048) ?_ x ?_
  · intro a; fin_cases a
    · exact ⟨Nat.zero_le _, by show (x 0).val < 0 + 48; have : (x 0).val < 48 := (x 0).isLt; omega⟩
    · exact ⟨Nat.zero_le _, by show (x 1).val < 0 + 2048; have : (x 1).val < 2048 := (x 1).isLt; omega⟩
  · intro a; fin_cases a <;> rfl

/-! ### The first step's beginning -/

include T

theorem setup (t : ℕ) (ht : (i 0).val = t) {Q : PUnit → sProp 𝕄} :
    iprop((if t = 0 then fresh c arg2 arg6 arg8 arg10 arg11 arg12 arg13 Y q base
          else mid c arg2 arg6 arg8 arg10 arg11 arg12 arg13 Y SCT q base t)
        ∗ held (c : Thread nD τ) arg4 Finset.univ fullShare SCT
        ∗ (mid c arg2 arg6 arg8 arg10 arg11 arg12 arg13 Y SCT q base t ∗ held (c : Thread nD τ) arg4 Finset.univ fullShare SCT -∗ Q ⟨⟩) : sProp 𝕄)
      ⊢ wp frame (wpE (defs₀ (F := F)) 𝒱₀ (c : Thread nD τ) none) Set.univ
        (if k0_h1 : k0_cond1 i = 1#1 then do
    let v18 : BitVec 32 ← Scf.Loop.for k0_t1_loop (k0_t1_ok i k0_h1) 0#32 (k0_t1_body i arg1 harg1 arg2 harg2 arg3 harg3 arg4 harg4 arg5 harg5 arg6 harg6 arg7 harg7 arg8 harg8 arg9 harg9 arg10 harg10 arg11 harg11 arg12 harg12 arg13 k0_h1)
    let v19 : Elt F .i32 ← smemLoad arg12 (Rect.unit (s := S2) ![0] S1.size inb_S2_S1_0) numel1_S1 rfl
    Prog.lift (.store arg12 (Rect.unit (s := S2) ![0] S1.size inb_S2_S1_0) (fun _ => v18) Finset.univ (View.stores_smem_one rfl numel1_S1) (.inl rfl))
    Scf.Loop.for k0_t4_loop (k0_t4_ok i k0_h1) ⟨⟩ (k0_t4_body i arg1 harg1 arg2 harg2 arg3 harg3 arg4 harg4 arg5 harg5 arg6 harg6 arg7 harg7 arg8 harg8 arg9 harg9 arg10 harg10 arg11 harg11 arg12 harg12 arg13 k0_h1)
    let v39 : Vec F S48x2048 .bf16 ← Prog.lift (.load arg11 (Rect.unit (s := S48x2048) ![0, 0] S48x2048.size inb_S48x2048_S48x2048_0_0).toLoadRect (View.loadsAt_vmem h_S48x2048))
    Prog.lift (.store arg11 (Rect.unit (s := S48x2048) ![0, 0] S48x2048.size inb_S48x2048_S48x2048_0_0) (k0_pay2 (F := F)) Finset.univ (View.stores_vmem h_S48x2048 (harg11.storeExact_slice rfl _ packedbf16_S48x2048_S48x2048_0_0) (fun _ => rfl)) (.inl rfl))
    pure ⟨⟩
  else do
    pure ⟨⟩ : Prog (TpuEff nD τ sig (Elt F) Λ₀ .tc) PUnit) Q := by
  by_cases h0 : t = 0
  · have hc : k0_cond1 i = 1#1 := (cond1_iff i).2 (by omega)
    rw [dif_pos hc, if_pos h0]
    subst h0
    unfold fresh
    iintro ⟨⟨Hy, Hb, ⟨%X, H8⟩, Hs0, Hs1, ⟨%Z, H10⟩, ⟨%E, H11⟩, ⟨%N, H12⟩⟩, H4, K⟩
    imod (Transfers.batch_alloc' EC (c : Thread nD τ) (sm := SemLoc.dma (tok arg13 0 (two_pos 0))) () 2048 (brings c arg8 (cut base) Y 0) (E := Set.univ)) $$ Hs0 with HB
    rw [show (Finset.univ : Finset S10240x2048.Idx) = from_ (cut base) 0 0 ∪ (Finset.univ \ from_ (cut base) 0 0) from
      (Finset.union_sdiff_of_subset (Finset.subset_univ _)).symm]
    ihave H8 := (held_union (c : Thread nD τ) arg8 Finset.disjoint_sdiff).1 $$ H8
    icases H8 with ⟨H8, H8r⟩
    rw [wp_bind]
    iapply (first c i arg1 harg1 arg2 harg2 arg3 harg3 arg4 harg4 arg5 harg5 arg6 harg6 arg7 harg7 arg8 harg8 arg9 harg9 arg10 harg10 arg11 harg11 arg12 harg12 arg13 T Y X q hc (s := 0) (by decide) rfl (tok arg13 0 (two_pos 0)) (tok_eq arg13 _ rfl))
    isplitl [Hy Hb H8 HB]
    · unfold going
      isplitl [Hy]; · iexact Hy
      isplitl [Hb]; · iexact Hb
      isplitl [H8]; · iexact H8
      iexact HB
    unfold going
    iintro ⟨Hy, Hb, -, HB⟩
    rw [wp_bind]
    iapply (Held.wp_word 𝒱₀ (c : Thread nD τ) none Set.univ (m := arg12) (X := N) (S := Finset.univ) (Finset.subset_univ _)) $$ H12
    iintro H12
    rw [wp_bind]
    iapply (Held.wp_store 𝒱₀ (c : Thread nD τ) none Set.univ (m := arg12) (X := N)) $$ H12
    iintro H12
    rw [wp_bind]
    iapply (scale_all c i arg1 harg1 arg2 harg2 arg3 harg3 arg4 harg4 arg5 harg5 arg6 harg6 arg7 harg7 arg8 harg8 arg9 harg9 arg10 harg10 arg11 harg11 arg12 harg12 arg13 SCT fullShare hc Z)
    isplitl [H4]; · iexact H4
    isplitl [H10]; · iexact H10
    iintro ⟨H4, H10⟩
    rw [wp_bind]
    iapply (Held.wp_load 𝒱₀ (c : Thread nD τ) none Set.univ (m := arg11) (X := E) (S := Finset.univ) (Finset.subset_univ _)) $$ H11
    iintro H11
    rw [wp_bind]
    iapply (Held.wp_store 𝒱₀ (c : Thread nD τ) none Set.univ (m := arg11) (X := E)) $$ H11
    iintro H11
    rw [wp_pure]
    imodintro
    iapply K
    isplitr [H4]
    · unfold mid
      iexists X, _
      isplitr
      rotate_left
      · isplitl [Hy]; · iexact Hy
        isplitl [Hb]; · iexact Hb
        isplitl [H8r]; · iexact H8r
        isplitl [HB]
        · unfold begun; rw [if_pos (by decide)]; iexact HB
        isplitl [Hs1]; · iexact Hs1
        isplitl [H10]; · iexact H10
        isplitl [H11]
        · have e := put_full (F := F) E (k0_pay2 (F := F))
          rw [e]; iexact H11
        iexact H12
      · ipureintro
        refine ⟨fun e c _ h1 h2 => by omega, fun _ => ?_⟩
        exact (put_count (F := F) (by decide) (by decide) rfl _).trans (if_pos rfl)
    · iexact H4
  · have hc : ¬ k0_cond1 i = 1#1 := fun h => h0 (by have := (cond1_iff i).1 h; omega)
    rw [dif_neg hc, if_neg h0]
    iintro ⟨H, H4, K⟩
    rw [wp_pure]
    imodintro
    iapply K
    isplitl [H]; · iexact H
    iexact H4

end Cert.KernelIdeal.Run
-- ==== Proof.KernelIdeal.Wait.lean ====
/-
  The next step's transfers begun, and the wait for this step's: after it the ring holds every chunk the step may read.
-/
module

public import proofs.«01_k».proof.Proof.KernelIdeal.Setup

@[expose] public section

set_option maxRecDepth 100000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.Fill Cert.KernelIdeal.Gen

variable {F : FTy → Type} [FloatOps F]

local notation "𝕄" => MT nD τ sig Unit (Elt F) ℕ UU ℕ

variable (c : Dev nD) (i : grid0.Coords)
variable (arg1 : Memref sig .tc .smem S192x128 .i32) (harg1 : arg1.IsWhole) (arg2 : Memref sig .tc .smem S192x128 .i32) (harg2 : arg2.IsWhole) (arg3 : Memref sig .tc .vmem S4x4x128 .i32) (harg3 : arg3.IsWhole) (arg4 : Memref sig .tc .vmem S16x49152 .i8) (harg4 : arg4.IsWhole) (arg5 : Memref sig .tc .vmem S512x2048 .bf16) (harg5 : arg5.IsWhole) (arg6 : Memref sig .tc .hbm S49152x2048 .fp8e4m3) (harg6 : arg6.IsWhole) (arg7 : Memref sig .tc .vmem S512x2048 .bf16) (harg7 : arg7.IsWhole) (arg8 : Memref sig .tc .vmem S10240x2048 .fp8e4m3) (harg8 : arg8.IsWhole) (arg9 : Memref sig .tc .vmem S192x2048 .fp8e4m3) (harg9 : arg9.IsWhole) (arg10 : Memref sig .tc .vmem S1536x128 .i32) (harg10 : arg10.IsWhole) (arg11 : Memref sig .tc .vmem S48x2048 .bf16) (harg11 : arg11.IsWhole) (arg12 : Memref sig .tc .smem S2 .i32) (harg12 : arg12.IsWhole) (arg13 : DmaSems sig S2)

variable {base gran : Words.Table} (T : Tables base gran) (Y : S49152x2048.Idx → Elt F .fp8e4m3)
variable (SCT : S16x49152.Idx → Elt F .i8) (q : PosShare TreeShare)

/-- Every chunk step `t` may read is in the ring. -/
def Read (L : ℕ → ℕ → ℕ) (t : ℕ) (X : S10240x2048.Idx → Elt F .fp8e4m3) : Prop :=
  ∀ e c, e < 8 → C L 0 e ≤ c → C L t e ≤ c + 1 → c < C L (t + 1) e → ∀ x, Win e c (x 0).val →
    X x = Y (yx (c * 32 + ((x 0).val - (e * 40 + c % 40) * 32)) (x 1).val)

theorem Read.kept {L : ℕ → ℕ → ℕ} (h : Good L) {t : ℕ} {X : S10240x2048.Idx → Elt F .fp8e4m3} (r : Read Y L t X) :
    Kept Y L (t + 1) X := fun e c he h0 h1 x wx =>
  r e c he h0 (by have := C_mono h t e; omega) (by omega) x wx

/-- No transfer is left after the last step. -/
theorem from_end (L : ℕ → ℕ → ℕ) (s : ℕ) (h : ∀ e, C L (s + 1) e = C L s e) : from_ L s 0 = ∅ := by
  ext x
  rw [mem_from]
  constructor
  · rintro ⟨e, c, -, h1, h2, -⟩
    have := h e; omega
  · intro hx; exact absurd hx (Finset.notMem_empty x)

theorem C_end (e : ℕ) : C (cut base) 49 e = C (cut base) 48 e := rfl

/-- What the body holds before it waits: step `t`'s transfers and the next step's. -/
def ready (base : Words.Table) (t : ℕ) : sProp 𝕄 :=
  iprop(∃ X : S10240x2048.Idx → Elt F .fp8e4m3, ∃ cnt : S2.Idx → Elt F .i32,
    ⌜Kept Y (cut base) t X ∧ Count (F := F) (cut base) t cnt ∧ Count (F := F) (cut base) (t + 1) cnt⌝
    ∗ (∃ q, held (c : Thread nD τ) arg6 Finset.univ q Y) ∗ held (c : Thread nD τ) arg2 Finset.univ q (base : S192x128.Idx → Elt F .i32)
    ∗ held (c : Thread nD τ) arg8 ((Finset.univ \ from_ (cut base) t 0) \ from_ (cut base) (t + 1) 0) fullShare X
    ∗ begun c arg8 arg13 Y base t
    ∗ begun c arg8 arg13 Y base (t + 1)
    ∗ held (c : Thread nD τ) arg10 Finset.univ fullShare (scaleOf SCT)
    ∗ held (c : Thread nD τ) arg11 Finset.univ fullShare (k0_pay2 (F := F))
    ∗ held (c : Thread nD τ) arg12 Finset.univ fullShare cnt)

/-- What it holds once it has waited. -/
def after (base : Words.Table) (t : ℕ) : sProp 𝕄 :=
  iprop(∃ X : S10240x2048.Idx → Elt F .fp8e4m3, ∃ cnt : S2.Idx → Elt F .i32,
    ⌜Read Y (cut base) t X ∧ Count (F := F) (cut base) (t + 1) cnt⌝
    ∗ (∃ q, held (c : Thread nD τ) arg6 Finset.univ q Y) ∗ held (c : Thread nD τ) arg2 Finset.univ q (base : S192x128.Idx → Elt F .i32)
    ∗ held (c : Thread nD τ) arg8 (Finset.univ \ from_ (cut base) (t + 1) 0) fullShare X
    ∗ begun c arg8 arg13 Y base (t + 1)
    ∗ semVal ((c : Thread nD τ), SemLoc.dma (tok arg13 (t % 2) (two_pos _))) 0
    ∗ held (c : Thread nD τ) arg10 Finset.univ fullShare (scaleOf SCT)
    ∗ held (c : Thread nD τ) arg11 Finset.univ fullShare (k0_pay2 (F := F))
    ∗ held (c : Thread nD τ) arg12 Finset.univ fullShare cnt)

include T

theorem from_sub (t : ℕ) : from_ (cut base) (t + 1) 0 ⊆ Finset.univ \ from_ (cut base) t 0 := by
  intro x hx
  rw [Finset.mem_sdiff]
  exact ⟨Finset.mem_univ _, fun h => (Finset.disjoint_left.mp (from_next T.good t) h hx)⟩

theorem prep (t : ℕ) (ht : (i 0).val = t) {Q : PUnit → sProp 𝕄} :
    iprop(mid c arg2 arg6 arg8 arg10 arg11 arg12 arg13 Y SCT q base t
        ∗ (ready c arg2 arg6 arg8 arg10 arg11 arg12 arg13 Y SCT q base t -∗ Q ⟨⟩) : sProp 𝕄)
      ⊢ wp frame (wpE (defs₀ (F := F)) 𝒱₀ (c : Thread nD τ) none) Set.univ
        (if k0_h2 : k0_cond2 i = 1#1 then do
    let v20 : BitVec 32 ← Scf.Loop.for k0_t5_loop (k0_t5_ok i k0_h2) 0#32 (k0_t5_body i arg1 harg1 arg2 harg2 arg3 harg3 arg4 harg4 arg5 harg5 arg6 harg6 arg7 harg7 arg8 harg8 arg9 harg9 arg10 harg10 arg11 harg11 arg12 harg12 arg13 k0_h2)
    let v22 : Elt F .i32 ← smemLoad arg12 (Rect.unit (s := S2) (k0_off18 i) S1.size (k0_off18_inb i k0_h2)) numel1_S1 rfl
    Prog.lift (.store arg12 (Rect.unit (s := S2) (k0_off18 i) S1.size (k0_off18_inb i k0_h2)) (fun _ => v20) Finset.univ (View.stores_smem_one rfl numel1_S1) (.inl rfl))
    pure ⟨⟩
  else do
    pure ⟨⟩ : Prog (TpuEff nD τ sig (Elt F) Λ₀ .tc) PUnit) Q := by
  have hlt : t < 48 := ht ▸ (i 0).isLt
  unfold mid
  by_cases h0 : t + 1 < 48
  · have hc : k0_cond2 i = 1#1 := (cond2_iff i).2 (by omega)
    rw [dif_pos hc]
    iintro ⟨⟨%X, %cnt, %hX, Hy, Hb, H8, HB, Hs, H10, H11, H12⟩, K⟩
    obtain ⟨hK, hC⟩ := hX
    imod (Transfers.batch_alloc' EC (c : Thread nD τ) (sm := SemLoc.dma (tok arg13 ((t + 1) % 2) (two_pos (t + 1)))) () 2048 (brings c arg8 (cut base) Y (t + 1)) (E := Set.univ)) $$ Hs with HB'
    rw [show (Finset.univ : Finset S10240x2048.Idx) \ from_ (cut base) t 0
        = from_ (cut base) (t + 1) 0 ∪ ((Finset.univ \ from_ (cut base) t 0) \ from_ (cut base) (t + 1) 0) from
      (Finset.union_sdiff_of_subset (from_sub T t)).symm]
    ihave H8 := (held_union (c : Thread nD τ) arg8 Finset.disjoint_sdiff).1 $$ H8
    icases H8 with ⟨H8, H8r⟩
    rw [wp_bind]
    iapply (next c i arg1 harg1 arg2 harg2 arg3 harg3 arg4 harg4 arg5 harg5 arg6 harg6 arg7 harg7 arg8 harg8 arg9 harg9 arg10 harg10 arg11 harg11 arg12 harg12 arg13 T Y X q hc (s := t + 1) h0 (by rw [ht]) (tok arg13 ((t + 1) % 2) (two_pos (t + 1))) (tok_eq arg13 _ (by rw [off12_eq, ht])))
    isplitl [Hy Hb H8 HB']
    · unfold going
      isplitl [Hy]; · iexact Hy
      isplitl [Hb]; · iexact Hb
      isplitl [H8]; · iexact H8
      iexact HB'
    unfold going
    iintro ⟨Hy, Hb, -, HB'⟩
    rw [wp_bind]
    iapply (Held.wp_word 𝒱₀ (c : Thread nD τ) none Set.univ (m := arg12) (X := cnt) (S := Finset.univ) (Finset.subset_univ _)) $$ H12
    iintro H12
    rw [wp_bind]
    iapply (Held.wp_store 𝒱₀ (c : Thread nD τ) none Set.univ (m := arg12) (X := cnt)) $$ H12
    iintro H12
    rw [wp_pure]
    imodintro
    iapply K
    unfold ready
    iexists X, _
    isplitr
    rotate_left
    · isplitl [Hy]; · iexact Hy
      isplitl [Hb]; · iexact Hb
      isplitl [H8r]; · iexact H8r
      isplitl [HB]; · iexact HB
      isplitl [HB']
      · unfold begun; rw [if_pos h0]; iexact HB'
      isplitl [H10]; · iexact H10
      isplitl [H11]; · iexact H11
      iexact H12
    · ipureintro
      have ho : k0_off18 i = ![(t + 1) % 2] := by rw [off18_eq, ht]
      refine ⟨hK, fun h => ?_, fun _ => ?_⟩
      · exact (put_count (F := F) (two_pos _) (two_pos _) ho _).trans ((if_neg (by omega)).trans (hC h))
      · exact (put_count (F := F) (two_pos _) (two_pos _) ho _).trans (if_pos rfl)
  · have hc : ¬ k0_cond2 i = 1#1 := fun h => h0 (by have := (cond2_iff i).1 h; omega)
    rw [dif_neg hc]
    iintro ⟨⟨%X, %cnt, %hX, Hy, Hb, H8, HB, Hs, H10, H11, H12⟩, K⟩
    obtain ⟨hK, hC⟩ := hX
    rw [wp_pure]
    imodintro
    iapply K
    unfold ready
    iexists X, cnt
    isplitr
    · ipureintro
      exact ⟨hK, hC, fun h => absurd h h0⟩
    isplitl [Hy]; · iexact Hy
    isplitl [Hb]; · iexact Hb
    isplitl [H8]
    · have e48 : t = 47 := by omega
      subst e48
      rw [from_end (cut base) (47 + 1) (fun e => C_end e), Finset.sdiff_empty]
      iexact H8
    isplitl [HB]; · iexact HB
    isplitl [Hs]
    · unfold begun; rw [if_neg h0]; iexact Hs
    isplitl [H10]; · iexact H10
    isplitl [H11]; · iexact H11
    iexact H12

/-- The wait for step `t`'s transfers. -/
theorem wait (t : ℕ) (ht : (i 0).val = t) (b : DmaSem sig) (hb : b = tok arg13 (t % 2) (two_pos t)) {W : Waits sig Unit} {v9 : BitVec 32} (hv : v9 = w (P (cut base) t 8))
    {hk} {Q : PUnit → sProp 𝕄} :
    iprop(ready c arg2 arg6 arg8 arg10 arg11 arg12 arg13 Y SCT q base t ∗ owes (c : Thread nD τ) 0 W
        ∗ (after c arg2 arg6 arg8 arg10 arg11 arg12 arg13 Y SCT q base t
            ∗ owes (c : Thread nD τ) 0 (insert (SemLoc.dma (tok arg13 (t % 2) (two_pos t)), ()) W) -∗ Q ⟨⟩) : sProp 𝕄)
      ⊢ wp frame (wpE (defs₀ (F := F)) 𝒱₀ (c : Thread nD τ) none) Set.univ
        (Prog.lift (.waitDma b arg8.view.ref (⟨2, (k0_off21 v9).2⟩ : Shape) .fp8e4m3 hk)) Q := by
  have hlt : t < 48 := ht ▸ (i 0).isLt
  have hp : P (cut base) t 8 ≤ 136 := P_le T.good t 8
  subst hb hv
  unfold ready
  iintro ⟨⟨%X, %cnt, %hX, Hy, Hb, H8, HB, HB', H10, H11, H12⟩, HO, K⟩
  obtain ⟨hK, hC, hC'⟩ := hX
  have hB : begun c arg8 arg13 Y base t ⊢ sent c arg8 (cut base) Y (tok arg13 (t % 2) (two_pos t)) t (P (cut base) t 8) :=
    Entails.of_eq (if_pos hlt)
  ihave HB := hB $$ HB
  have hJ : arg8.view.ref.dmaCredit (⟨2, (k0_off21 (w (P (cut base) t 8))).2⟩ : Shape) .fp8e4m3 = 2048 * P (cut base) t 8 := by
    rw [off21_eq hp]; exact credit_rows _
  iapply (Held.wp_drain 𝒱₀ (c : Thread nD τ) none EC () (N := 2048) (T := P (cut base) t 8) (D := brings c arg8 (cut base) Y t) (W := W) (by decide) hJ) $$ [HB HO]
  · isplitl [HB]; · iexact HB
    iexact HO
  iintro ⟨HD, Hs, HO⟩
  iapply K
  isplitr [HO]
  · unfold after
    have hpc : (bigSep Finset.univ (brings c arg8 (cut base) Y t) : sProp 𝕄)
        ⊢ held (c : Thread nD τ) arg8 (from_ (cut base) t 0) fullShare (land (cut base) Y t) := by
      rw [from_zero T.good]
      exact held_pieces (c : Thread nD τ) arg8 Finset.univ (S := fun j : Fin (P (cut base) t 8) => at_ (cut base) t j.val)
        (fun i _ j _ hij => at_disj T.good t (fun h => hij (Fin.ext h)))
    ihave HD := hpc $$ HD
    have e1 : (held (c : Thread nD τ) arg8 (from_ (cut base) t 0) fullShare (land (cut base) Y t) : sProp 𝕄)
        = held (c : Thread nD τ) arg8 (from_ (cut base) t 0) fullShare (fun x => if x ∈ from_ (cut base) t 0 then land (cut base) Y t x else X x) :=
      held_congr _ _ fun x hx => (if_pos hx).symm
    have e2 : (held (c : Thread nD τ) arg8 ((Finset.univ \ from_ (cut base) t 0) \ from_ (cut base) (t + 1) 0) fullShare X : sProp 𝕄)
        = held (c : Thread nD τ) arg8 ((Finset.univ \ from_ (cut base) t 0) \ from_ (cut base) (t + 1) 0) fullShare (fun x => if x ∈ from_ (cut base) t 0 then land (cut base) Y t x else X x) :=
      held_congr _ _ fun x hx => (if_neg (Finset.mem_sdiff.mp (Finset.mem_sdiff.mp hx).1).2).symm
    ihave HD := Entails.of_eq e1 $$ HD
    ihave H8 := Entails.of_eq e2 $$ H8
    iexists (fun x => if x ∈ from_ (cut base) t 0 then land (cut base) Y t x else X x), cnt
    isplitr
    · ipureintro
      refine ⟨fun e k he h0 h1 h2 x wx => ?_, hC'⟩
      by_cases hx : x ∈ from_ (cut base) t 0
      · refine (if_pos hx).trans ?_
        unfold land
        have := C_step T.good t e
        rw [src_eq T.good h1 (by omega) wx]
      · refine (if_neg hx).trans ?_
        by_cases hq : C (cut base) t e ≤ k
        · exact absurd (mem_from.mpr ⟨e, k, he, hq, h2, Nat.zero_le _, wx⟩) hx
        · exact hK e k he h0 (by omega) x wx
    isplitl [Hy]; · iexact Hy
    isplitl [Hb]; · iexact Hb
    isplitl [H8 HD]
    · have hs : Finset.univ \ from_ (cut base) (t + 1) 0
          = from_ (cut base) t 0 ∪ ((Finset.univ \ from_ (cut base) t 0) \ from_ (cut base) (t + 1) 0) := by
        have hd := from_next T.good t
        ext x
        simp only [Finset.mem_sdiff, Finset.mem_union, Finset.mem_univ, true_and]
        constructor
        · intro h; by_cases hx : x ∈ from_ (cut base) t 0
          · exact .inl hx
          · exact .inr ⟨hx, h⟩
        · rintro (h | h)
          · exact Finset.disjoint_left.mp hd h
          · exact h.2
      rw [hs]
      iapply (held_union (c : Thread nD τ) arg8 ?_).2
      · rw [Finset.disjoint_left]
        intro x hx hx'
        exact (Finset.mem_sdiff.mp (Finset.mem_sdiff.mp hx').1).2 hx
      isplitl [HD]; · iexact HD
      iexact H8
    isplitl [HB']; · iexact HB'
    isplitl [Hs]; · iexact Hs
    isplitl [H10]; · iexact H10
    isplitl [H11]; · iexact H11
    iexact H12
  · iexact HO

end Cert.KernelIdeal.Run
-- ==== Proof.KernelIdeal.Gather.lean ====
/-
  The gather of a block: forty-eight words, four rows of the ring each.
-/
module

public import proofs.«01_k».proof.Proof.KernelIdeal.Wait

@[expose] public section

set_option maxRecDepth 100000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.Fill Cert.KernelIdeal.Gen

variable {F : FTy → Type} [FloatOps F]

local notation "𝕄" => MT nD τ sig Unit (Elt F) ℕ UU ℕ

variable (c : Dev nD) (i : grid0.Coords)
variable (arg1 : Memref sig .tc .smem S192x128 .i32) (harg1 : arg1.IsWhole) (arg2 : Memref sig .tc .smem S192x128 .i32) (harg2 : arg2.IsWhole) (arg3 : Memref sig .tc .vmem S4x4x128 .i32) (harg3 : arg3.IsWhole) (arg4 : Memref sig .tc .vmem S16x49152 .i8) (harg4 : arg4.IsWhole) (arg5 : Memref sig .tc .vmem S512x2048 .bf16) (harg5 : arg5.IsWhole) (arg6 : Memref sig .tc .hbm S49152x2048 .fp8e4m3) (harg6 : arg6.IsWhole) (arg7 : Memref sig .tc .vmem S512x2048 .bf16) (harg7 : arg7.IsWhole) (arg8 : Memref sig .tc .vmem S10240x2048 .fp8e4m3) (harg8 : arg8.IsWhole) (arg9 : Memref sig .tc .vmem S192x2048 .fp8e4m3) (harg9 : arg9.IsWhole) (arg10 : Memref sig .tc .vmem S1536x128 .i32) (harg10 : arg10.IsWhole) (arg11 : Memref sig .tc .vmem S48x2048 .bf16) (harg11 : arg11.IsWhole) (arg12 : Memref sig .tc .smem S2 .i32) (harg12 : arg12.IsWhole) (arg13 : DmaSems sig S2)

variable {base gran : Words.Table} (T : Tables base gran) (Y : S49152x2048.Idx → Elt F .fp8e4m3)
variable (X : S10240x2048.Idx → Elt F .fp8e4m3) (q : PosShare TreeShare)

/-- The rows a block's words gather, four by four. -/
def packOf (base gran : Words.Table) (t b : ℕ) : S192x2048.Idx → Elt F .fp8e4m3 := fun x =>
  Y (yx (src (cut base) t ((gran (ix (4 * t + b / 2) (b % 2 * 64 + (x 0).val / 4))).toNat * 4 + (x 0).val % 4)) (x 1).val)

theorem pay3_eq (v : Vec F S4x2048 .fp8e4m3) : k0_pay3 v = v := by
  funext y
  show v (Shape.reshapeEquiv _ y) = v y
  rw [Shape.reshapeEquiv_self]

include T

/-- A ring row a word names is among the readable ones, and holds the row of the array that `src` says. -/
theorem word_row {t : ℕ} (hR : Read Y (cut base) t X) {g k : ℕ} (hg : g < 192) (hgt : g / 4 = t) (hk : k < 128) (hk' : k % 64 < 48) (j : ℕ) (hj : j < 4)
    (x : S10240x2048.Idx) (hx : (x 0).val = (gran (ix g k)).toNat * 4 + j) :
    x ∉ from_ (cut base) (t + 1) 0 ∧ X x = Y (yx (src (cut base) t ((gran (ix g k)).toNat * 4 + j)) (x 1).val) := by
  obtain ⟨e, k', o, he, ho, h1, h0, h2, hw⟩ := T.word g k hg hk hk'
  rw [hgt] at h1 h2
  have h3 := C_step T.good t e
  have hn : (gran (ix g k)).toNat = (e * 40 + k' % 40) * 8 + o := by rw [hw, toNat_w (by omega)]
  have wx : Win e k' (x 0).val := by unfold Win; omega
  refine ⟨fun h => not_next T.good h1 h2 wx (mem_from.mp h), ?_⟩
  rw [hR e k' he h0 h1 h2 x wx, ← hx, src_eq T.good h1 (by omega) wx]

/-- One word: four rows from the ring. -/
theorem word_step {t : ℕ} (ht : (i 0).val = t) (hR : Read Y (cut base) t X) (b : Fin k0_t8_loop.trips) (a0 a1 a2 : BitVec 32)
    (k : Fin k0_t9_loop.trips) (acc : Unit) :
    iprop(held (c : Thread nD τ) arg1 Finset.univ q (gran : S192x128.Idx → Elt F .i32)
        ∗ held (c : Thread nD τ) arg8 (Finset.univ \ from_ (cut base) (t + 1) 0) fullShare X
        ∗ (∃ W, ⌜∀ x : S192x2048.Idx, (x 0).val < 4 * k.val → W x = packOf Y base gran t b.val x⌝
          ∗ held (c : Thread nD τ) arg9 Finset.univ fullShare W) : sProp 𝕄)
      ⊢ wp frame (wpE (defs₀ (F := F)) 𝒱₀ (c : Thread nD τ) none) Set.univ
        (k0_t9_body (F := F) i arg1 harg1 arg2 harg2 arg3 harg3 arg4 harg4 arg5 harg5 arg6 harg6 arg7 harg7 arg8 harg8 arg9 harg9 arg10 harg10 arg11 harg11 arg12 harg12 arg13 a0 a1 a2 b k acc)
        fun _ => iprop(held (c : Thread nD τ) arg1 Finset.univ q (gran : S192x128.Idx → Elt F .i32)
          ∗ held (c : Thread nD τ) arg8 (Finset.univ \ from_ (cut base) (t + 1) 0) fullShare X
          ∗ (∃ W, ⌜∀ x : S192x2048.Idx, (x 0).val < 4 * (k.val + 1) → W x = packOf Y base gran t b.val x⌝
            ∗ held (c : Thread nD τ) arg9 Finset.univ fullShare W)) := by
  have hlt : t < 48 := ht ▸ (i 0).isLt
  have hb : b.val < 8 := b.isLt
  have hk : k.val < 48 := k.isLt
  have w1 : ∀ inb p, gran ((Rect.unit (s := S192x128) (k0_off23 i b k) S1x1.size inb).emb (Shape.Idx.first p)) = gran (ix (4 * t + b.val / 2) (b.val % 2 * 64 + k.val)) := fun inb p => by
    rw [emb_word _ _ (off23_eq i b k), ht]
  obtain ⟨e, k', o, he, ho, h1, h0, h2, hw⟩ := T.word (4 * t + b.val / 2) (b.val % 2 * 64 + k.val) (by omega) (by omega) (by omega)
  have ha : (e * 40 + k' % 40) * 8 + o < 2560 := by omega
  have hv : ∀ j : ℕ, (gran (ix (4 * t + b.val / 2) (b.val % 2 * 64 + k.val))).toNat = (e * 40 + k' % 40) * 8 + o := fun j => by
    rw [hw, toNat_w (by omega)]
  have o24 : k0_off24 (gran (ix (4 * t + b.val / 2) (b.val % 2 * 64 + k.val))) = ![(gran (ix (4 * t + b.val / 2) (b.val % 2 * 64 + k.val))).toNat * 4, 0] := by
    rw [hv 0, hw]; exact off24_eq ha
  unfold k0_t9_body
  iintro ⟨H1, H8, %W, %hW, H9⟩
  rw [wp_bind]
  iapply (Held.wp_word 𝒱₀ (c : Thread nD τ) none Set.univ (m := arg1) (X := (gran : S192x128.Idx → Elt F .i32)) (S := Finset.univ) (Finset.subset_univ _)) $$ H1
  iintro H1
  rw [w1]
  rw [wp_bind]
  iapply (Held.wp_assume 𝒱₀ (c : Thread nD τ) none Set.univ (by rw [hw]; exact chk4_of ha))
  rw [wp_bind]
  iapply (Held.wp_load 𝒱₀ (c : Thread nD τ) none Set.univ (m := arg8) (X := X) (S := Finset.univ \ from_ (cut base) (t + 1) 0) ?_) $$ H8
  · intro x hx
    rw [Finset.mem_sdiff]
    refine ⟨Finset.mem_univ _, ?_⟩
    rw [Rect.mem_set_unit] at hx
    have h := hx 0
    rw [o24] at h
    have h' : (gran (ix (4 * t + b.val / 2) (b.val % 2 * 64 + k.val))).toNat * 4 ≤ (x 0).val ∧ (x 0).val < (gran (ix (4 * t + b.val / 2) (b.val % 2 * 64 + k.val))).toNat * 4 + 4 := h
    exact (word_row T Y X hR (g := 4 * t + b.val / 2) (k := b.val % 2 * 64 + k.val) (by omega) (by omega) (by omega) (by omega) ((x 0).val - (gran (ix (4 * t + b.val / 2) (b.val % 2 * 64 + k.val))).toNat * 4) (by omega) x (by omega)).1
  iintro H8
  rw [wp_bind]
  iapply (Held.wp_load 𝒱₀ (c : Thread nD τ) none Set.univ (m := arg9) (X := W) (S := Finset.univ) (Finset.subset_univ _)) $$ H9
  iintro H9
  rw [wp_bind]
  iapply (Held.wp_store 𝒱₀ (c : Thread nD τ) none Set.univ (m := arg9) (X := W)) $$ H9
  iintro H9
  rw [wp_pure]
  imodintro
  isplitl [H1]; · iexact H1
  isplitl [H8]; · iexact H8
  iexists _
  isplitr
  rotate_left
  · iexact H9
  ipureintro
  intro x hx
  have hx1 : (x 1).val < 2048 := (x 1).isLt
  by_cases hk4 : 4 * k.val ≤ (x 0).val
  · have e25 := off25_eq k
    have hd : (x 0).val / 4 = k.val := by omega
    refine (put_in (s := S192x2048) ?_ (mk2 4 2048 ((x 0).val % 4) (x 1).val) ?_).trans ?_
    · rw [e25]; intro a; fin_cases a
      · exact ⟨hk4, show (x 0).val < 4 * k.val + 4 by omega⟩
      · exact ⟨Nat.zero_le _, show (x 1).val < 0 + 2048 by omega⟩
    · rw [e25]; intro a; fin_cases a
      · show ((x 0).val % 4) % 4 = (x 0).val - 4 * k.val
        omega
      · show (x 1).val % 2048 = (x 1).val - 0
        omega
    · have hm0 : ((mk2 4 2048 ((x 0).val % 4) (x 1).val) 0).val = (x 0).val % 4 := mk2_0 (by omega)
      have hm1 : ((mk2 4 2048 ((x 0).val % 4) (x 1).val) 1).val = (x 1).val := mk2_1 hx1
      have r := word_row T Y X hR (g := 4 * t + b.val / 2) (k := b.val % 2 * 64 + k.val) (by omega) (by omega) (by omega) (by omega) ((x 0).val % 4) (by omega)
        (mk2 10240 2048 ((gran (ix (4 * t + b.val / 2) (b.val % 2 * 64 + k.val))).toNat * 4 + (x 0).val % 4) (x 1).val)
        (mk2_0 (by rw [hv 0]; omega))
      unfold packOf
      rw [hd]
      refine Eq.trans ?_ (r.2.trans ?_)
      · rw [pay3_eq]
        show X ((Rect.unit (s := S10240x2048) _ S4x2048.size _).emb _) = _
        refine congrArg X ?_
        refine (emb2 (R := 10240) (K := 2048) _ 0 o24 _).trans ?_
        refine congr (congrArg (mk2 10240 2048) ?_) ?_
        · exact congrArg (_ + ·) hm0
        · exact (Nat.zero_add _).trans hm1
      · rw [mk2_1 hx1]
  · refine (put_out (s := S192x2048) (0 : Fin 2) (.inl ?_)).trans (hW x (by omega))
    rw [off25_eq k]
    show (x 0).val < 4 * k.val
    omega

/-- A block's words. -/
theorem gather {t : ℕ} (ht : (i 0).val = t) (hR : Read Y (cut base) t X) (b : Fin k0_t8_loop.trips) (a0 a1 a2 : BitVec 32)
    {Q : Unit → sProp 𝕄} :
    iprop(held (c : Thread nD τ) arg1 Finset.univ q (gran : S192x128.Idx → Elt F .i32)
        ∗ held (c : Thread nD τ) arg8 (Finset.univ \ from_ (cut base) (t + 1) 0) fullShare X
        ∗ (∃ W, held (c : Thread nD τ) arg9 Finset.univ fullShare W)
        ∗ (held (c : Thread nD τ) arg1 Finset.univ q (gran : S192x128.Idx → Elt F .i32)
          ∗ held (c : Thread nD τ) arg8 (Finset.univ \ from_ (cut base) (t + 1) 0) fullShare X
          ∗ held (c : Thread nD τ) arg9 Finset.univ fullShare (packOf Y base gran t b.val) -∗ Q ⟨⟩) : sProp 𝕄)
      ⊢ wp frame (wpE (defs₀ (F := F)) 𝒱₀ (c : Thread nD τ) none) Set.univ
        (Scf.Loop.for k0_t9_loop k0_t9_ok ⟨⟩ (k0_t9_body (F := F) i arg1 harg1 arg2 harg2 arg3 harg3 arg4 harg4 arg5 harg5 arg6 harg6 arg7 harg7 arg8 harg8 arg9 harg9 arg10 harg10 arg11 harg11 arg12 harg12 arg13 a0 a1 a2 b)) Q := by
  iintro ⟨H1, H8, ⟨%W, H9⟩, K⟩
  iapply (Scf.wp_for _ _ _ _ _ _ _ _ _ (fun k _ => iprop(held (c : Thread nD τ) arg1 Finset.univ q (gran : S192x128.Idx → Elt F .i32)
        ∗ held (c : Thread nD τ) arg8 (Finset.univ \ from_ (cut base) (t + 1) 0) fullShare X
        ∗ (∃ W, ⌜∀ x : S192x2048.Idx, (x 0).val < 4 * k → W x = packOf Y base gran t b.val x⌝
          ∗ held (c : Thread nD τ) arg9 Finset.univ fullShare W))) ?_)
  · intro k acc
    exact word_step c i arg1 harg1 arg2 harg2 arg3 harg3 arg4 harg4 arg5 harg5 arg6 harg6 arg7 harg7 arg8 harg8 arg9 harg9 arg10 harg10 arg11 harg11 arg12 harg12 arg13 T Y X q ht hR b a0 a1 a2 k acc
  isplitl [H1 H8 H9]
  · isplitl [H1]; · iexact H1
    isplitl [H8]; · iexact H8
    iexists W
    isplitr
    · ipureintro; intro x hx; exact absurd hx (Nat.not_lt_zero _)
    · iexact H9
  rw [show Scf.trips k0_t9_loop.lb k0_t9_loop.ub k0_t9_loop.st = 48 by decide +kernel]
  iintro %acc ⟨H1, H8, %W', %hW, H9⟩
  iapply K
  isplitl [H1]; · iexact H1
  isplitl [H8]; · iexact H8
  have e : W' = packOf Y base gran t b.val := funext fun x => hW x (show (x 0).val < 4 * 48 from (x 0).isLt)
  subst e
  iexact H9

end Cert.KernelIdeal.Run
-- ==== Proof.KernelIdeal.Columns.lean ====
/-
  A block's columns: 256 at a time, the products and the sum of what the block leaves.
-/
module

public import proofs.«01_k».proof.Proof.KernelIdeal.Wait

@[expose] public section

set_option maxRecDepth 100000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.Fill Cert.KernelIdeal.Gen

variable {F : FTy → Type} [FloatOps F]

local notation "𝕄" => MT nD τ sig Unit (Elt F) ℕ UU ℕ

variable (c : Dev nD) (i : grid0.Coords)
variable (arg1 : Memref sig .tc .smem S192x128 .i32) (harg1 : arg1.IsWhole) (arg2 : Memref sig .tc .smem S192x128 .i32) (harg2 : arg2.IsWhole) (arg3 : Memref sig .tc .vmem S4x4x128 .i32) (harg3 : arg3.IsWhole) (arg4 : Memref sig .tc .vmem S16x49152 .i8) (harg4 : arg4.IsWhole) (arg5 : Memref sig .tc .vmem S512x2048 .bf16) (harg5 : arg5.IsWhole) (arg6 : Memref sig .tc .hbm S49152x2048 .fp8e4m3) (harg6 : arg6.IsWhole) (arg7 : Memref sig .tc .vmem S512x2048 .bf16) (harg7 : arg7.IsWhole) (arg8 : Memref sig .tc .vmem S10240x2048 .fp8e4m3) (harg8 : arg8.IsWhole) (arg9 : Memref sig .tc .vmem S192x2048 .fp8e4m3) (harg9 : arg9.IsWhole) (arg10 : Memref sig .tc .vmem S1536x128 .i32) (harg10 : arg10.IsWhole) (arg11 : Memref sig .tc .vmem S48x2048 .bf16) (harg11 : arg11.IsWhole) (arg12 : Memref sig .tc .smem S2 .i32) (harg12 : arg12.IsWhole) (arg13 : DmaSems sig S2)

variable (PK : S192x2048.Idx → Elt F .fp8e4m3) (EX : S48x2048.Idx → Elt F .bf16) (XB G : S512x2048.Idx → Elt F .bf16)
variable (v302 : FVec F S128x48 .bf16) (v311 : FVec F S128x192 .fp8e4m3)

/-- Columns `128 j` to `128 j + 127` of the gathered rows, -/
def pk (j : ℕ) : Vec F S192x128 .fp8e4m3 := fun y => PK (mk2 192 2048 (y 0).val (128 * j + (y 1).val))
/-- columns `256 k` to `256 k + 255` of the expansion matrix, -/
def ex (k : ℕ) : Vec F S48x256 .bf16 := fun y => EX (mk2 48 2048 (y 0).val (256 * k + (y 1).val))
/-- and of the block's 64 rows of `x`. -/
def xb (b k : ℕ) : Vec F S64x256 .bf16 := fun y => XB (mk2 512 2048 (64 * b + (y 0).val) (256 * k + (y 1).val))

/-- What the block leaves at an index of its rows. -/
def colOf (b : ℕ) : S512x2048.Idx → Elt F .bf16 := fun x =>
  k0_pay23 v302 v311 (pk PK (2 * ((x 1).val / 256))) (pk PK (2 * ((x 1).val / 256) + 1)) (ex EX ((x 1).val / 256)) (xb XB b ((x 1).val / 256))
    (mk2 64 256 ((x 0).val % 64) ((x 1).val % 256))

/-- The rows before the block's are `G`'s, and the block's first `256 k` columns are done. -/
def Cols (b k : ℕ) (O : S512x2048.Idx → Elt F .bf16) : Prop :=
  (∀ x, (x 0).val < 64 * b → O x = G x) ∧ ∀ x, (x 0).val / 64 = b → (x 1).val < 256 * k → O x = colOf PK EX XB v302 v311 b x

theorem pk_eq (j : ℕ) {off : Fin 2 → ℕ} (h : off = ![0, 128 * j]) {inb} :
    (fun y => PK ((Rect.unit (s := S192x2048) off S192x128.size inb).emb y)) = pk PK j := by
  funext y
  refine congrArg PK ((emb2 (R := 192) (K := 2048) 0 (128 * j) h y).trans ?_)
  rw [Nat.zero_add]

theorem ex_eq (j : ℕ) {off : Fin 2 → ℕ} (h : off = ![0, 256 * j]) {inb} :
    (fun y => EX ((Rect.unit (s := S48x2048) off S48x256.size inb).emb y)) = ex EX j := by
  funext y
  refine congrArg EX ((emb2 (R := 48) (K := 2048) 0 (256 * j) h y).trans ?_)
  rw [Nat.zero_add]

theorem xb_eq (b j : ℕ) {off : Fin 2 → ℕ} (h : off = ![64 * b, 256 * j]) {inb} :
    (fun y => XB ((Rect.unit (s := S512x2048) off S64x256.size inb).emb y)) = xb XB b j := by
  funext y
  exact congrArg XB (emb2 (R := 512) (K := 2048) (64 * b) (256 * j) h y)

theorem cols_eq {v302 : FVec F S128x48 .bf16} {v311 : FVec F S128x192 .fp8e4m3}
    (p : FVec F S128x48 .bf16 → FVec F S128x192 .fp8e4m3 → Vec F S192x128 .fp8e4m3 → Vec F S192x128 .fp8e4m3 → Vec F S48x256 .bf16 → Vec F S64x256 .bf16 → FVec F S64x256 .bf16)
    (hp : p = k0_pay23) {a a' d d' : Vec F S192x128 .fp8e4m3} {e e' : Vec F S48x256 .bf16} {x x' : Vec F S64x256 .bf16}
    (h1 : a = a') (h2 : d = d') (h3 : e = e') (h4 : x = x') : p v302 v311 a d e x = k0_pay23 v302 v311 a' d' e' x' := by
  subst hp h1 h2 h3 h4; rfl

theorem col_put (b k : ℕ) {O : S512x2048.Idx → Elt F .bf16} (hO : Cols PK EX XB G v302 v311 b k O) {off : Fin 2 → ℕ}
    (ho : off = ![64 * b, 256 * k]) (v : FVec F S64x256 .bf16)
    (hv : v = k0_pay23 v302 v311 (pk PK (2 * k)) (pk PK (2 * k + 1)) (ex EX k) (xb XB b k)) :
    Cols PK EX XB G v302 v311 b (k + 1) (VecWindow.put (s := S512x2048) O off S64x256.size v) := by
  subst ho
  constructor
  · intro x hx
    exact (put_out (s := S512x2048) (0 : Fin 2) (.inl hx)).trans (hO.1 x hx)
  · intro x hx hx1
    by_cases hk : 256 * k ≤ (x 1).val
    · have hd : (x 1).val / 256 = k := by omega
      refine (put_in (s := S512x2048) ?_ (mk2 64 256 ((x 0).val % 64) ((x 1).val % 256)) ?_).trans ?_
      · intro a; fin_cases a
        · show 64 * b ≤ (x 0).val ∧ (x 0).val < 64 * b + 64
          omega
        · show 256 * k ≤ (x 1).val ∧ (x 1).val < 256 * k + 256
          omega
      · intro a; fin_cases a
        · show (x 0).val % 64 % 64 = (x 0).val - 64 * b
          omega
        · show (x 1).val % 256 % 256 = (x 1).val - 256 * k
          omega
      · unfold colOf
        rw [hd, hv]
    · exact (put_out (s := S512x2048) (1 : Fin 2) (.inl (by show (x 1).val < 256 * k; omega))).trans (hO.2 x hx (by omega))

theorem part8_run (b : Fin k0_t8_loop.trips) (arg14 c64 : BitVec 32) {Q} :
    iprop(held (c : Thread nD τ) arg9 Finset.univ fullShare PK ∗ held (c : Thread nD τ) arg11 Finset.univ fullShare EX
        ∗ held (c : Thread nD τ) arg5 Finset.univ fullShare XB ∗ (∃ O, ⌜Cols PK EX XB G v302 v311 b.val 0 O⌝ ∗ held (c : Thread nD τ) arg7 Finset.univ fullShare O)
        ∗ (∀ r, held (c : Thread nD τ) arg9 Finset.univ fullShare PK ∗ held (c : Thread nD τ) arg11 Finset.univ fullShare EX
        ∗ held (c : Thread nD τ) arg5 Finset.univ fullShare XB ∗ (∃ O, ⌜Cols PK EX XB G v302 v311 b.val 2 O⌝ ∗ held (c : Thread nD τ) arg7 Finset.univ fullShare O) -∗ Q r) : sProp 𝕄)
      ⊢ wp frame (wpE (defs₀ (F := F)) 𝒱₀ (c : Thread nD τ) none) Set.univ (k0_part8 (F := F) i arg1 harg1 arg2 harg2 arg3 harg3 arg4 harg4 arg5 harg5 arg6 harg6 arg7 harg7 arg8 harg8 arg9 harg9 arg10 harg10 arg11 harg11 arg12 harg12 arg13 b arg14 v302 v311 c64) Q := by
  rw [k0_part8_eq_skeleton]
  unfold k0_part8_skel
  iintro ⟨H9, H11, H5, ⟨%O, %hO, H7⟩, K⟩
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg11) (X := EX) (S := Finset.univ) (Finset.subset_univ _)) $$ H11
  iintro H11
  rw [wp_bind]
  iapply (Held.wp_load 𝒱₀ (c : Thread nD τ) none Set.univ (m := arg5) (X := XB) (S := Finset.univ) (Finset.subset_univ _)) $$ H5
  iintro H5
  rw [wp_bind]
  iapply (Held.wp_load 𝒱₀ (c : Thread nD τ) none Set.univ (m := arg7) (X := _) (S := Finset.univ) (Finset.subset_univ _)) $$ H7
  iintro H7
  rw [wp_bind]
  iapply (Held.wp_store 𝒱₀ (c : Thread nD τ) none Set.univ (m := arg7)) $$ H7
  iintro H7
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg11) (X := EX) (S := Finset.univ) (Finset.subset_univ _)) $$ H11
  iintro H11
  rw [wp_bind]
  iapply (Held.wp_load 𝒱₀ (c : Thread nD τ) none Set.univ (m := arg5) (X := XB) (S := Finset.univ) (Finset.subset_univ _)) $$ H5
  iintro H5
  rw [wp_bind]
  iapply (Held.wp_load 𝒱₀ (c : Thread nD τ) none Set.univ (m := arg7) (X := _) (S := Finset.univ) (Finset.subset_univ _)) $$ H7
  iintro H7
  rw [wp_bind]
  iapply (Held.wp_store 𝒱₀ (c : Thread nD τ) none Set.univ (m := arg7)) $$ H7
  iintro H7
  rw [wp_pure]
  imodintro
  iapply K
  isplitl [H9]; · iexact H9
  isplitl [H11]; · iexact H11
  isplitl [H5]; · iexact H5
  iexists _
  isplitr
  rotate_left
  · iexact H7
  ipureintro
  exact (col_put PK EX XB G v302 v311 b.val 1 (col_put PK EX XB G v302 v311 b.val 0 hO (off44_eq b) _
    (by first | exact cols_eq k0_pay23 rfl (pk_eq PK 0 rfl) (pk_eq PK 1 rfl) (ex_eq EX 0 rfl) (xb_eq XB b.val 0 (off44_eq b)))) (off45_eq b) _
    (by first | exact cols_eq k0_pay24 rfl (pk_eq PK 2 rfl) (pk_eq PK 3 rfl) (ex_eq EX 1 rfl) (xb_eq XB b.val 1 (off45_eq b))))

theorem part9_run (b : Fin k0_t8_loop.trips) (v313 : BitVec 32) {Q} :
    iprop(held (c : Thread nD τ) arg9 Finset.univ fullShare PK ∗ held (c : Thread nD τ) arg11 Finset.univ fullShare EX
        ∗ held (c : Thread nD τ) arg5 Finset.univ fullShare XB ∗ (∃ O, ⌜Cols PK EX XB G v302 v311 b.val 2 O⌝ ∗ held (c : Thread nD τ) arg7 Finset.univ fullShare O)
        ∗ (∀ r, held (c : Thread nD τ) arg9 Finset.univ fullShare PK ∗ held (c : Thread nD τ) arg11 Finset.univ fullShare EX
        ∗ held (c : Thread nD τ) arg5 Finset.univ fullShare XB ∗ (∃ O, ⌜Cols PK EX XB G v302 v311 b.val 4 O⌝ ∗ held (c : Thread nD τ) arg7 Finset.univ fullShare O) -∗ Q r) : sProp 𝕄)
      ⊢ wp frame (wpE (defs₀ (F := F)) 𝒱₀ (c : Thread nD τ) none) Set.univ (k0_part9 (F := F) i arg1 harg1 arg2 harg2 arg3 harg3 arg4 harg4 arg5 harg5 arg6 harg6 arg7 harg7 arg8 harg8 arg9 harg9 arg10 harg10 arg11 harg11 arg12 harg12 arg13 b v302 v311 v313) Q := by
  rw [k0_part9_eq_skeleton]
  unfold k0_part9_skel
  iintro ⟨H9, H11, H5, ⟨%O, %hO, H7⟩, K⟩
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg11) (X := EX) (S := Finset.univ) (Finset.subset_univ _)) $$ H11
  iintro H11
  rw [wp_bind]
  iapply (Held.wp_load 𝒱₀ (c : Thread nD τ) none Set.univ (m := arg5) (X := XB) (S := Finset.univ) (Finset.subset_univ _)) $$ H5
  iintro H5
  rw [wp_bind]
  iapply (Held.wp_load 𝒱₀ (c : Thread nD τ) none Set.univ (m := arg7) (X := _) (S := Finset.univ) (Finset.subset_univ _)) $$ H7
  iintro H7
  rw [wp_bind]
  iapply (Held.wp_store 𝒱₀ (c : Thread nD τ) none Set.univ (m := arg7)) $$ H7
  iintro H7
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg11) (X := EX) (S := Finset.univ) (Finset.subset_univ _)) $$ H11
  iintro H11
  rw [wp_bind]
  iapply (Held.wp_load 𝒱₀ (c : Thread nD τ) none Set.univ (m := arg5) (X := XB) (S := Finset.univ) (Finset.subset_univ _)) $$ H5
  iintro H5
  rw [wp_bind]
  iapply (Held.wp_load 𝒱₀ (c : Thread nD τ) none Set.univ (m := arg7) (X := _) (S := Finset.univ) (Finset.subset_univ _)) $$ H7
  iintro H7
  rw [wp_bind]
  iapply (Held.wp_store 𝒱₀ (c : Thread nD τ) none Set.univ (m := arg7)) $$ H7
  iintro H7
  rw [wp_pure]
  imodintro
  iapply K
  isplitl [H9]; · iexact H9
  isplitl [H11]; · iexact H11
  isplitl [H5]; · iexact H5
  iexists _
  isplitr
  rotate_left
  · iexact H7
  ipureintro
  exact (col_put PK EX XB G v302 v311 b.val 3 (col_put PK EX XB G v302 v311 b.val 2 hO (off46_eq b) _
    (by first | exact cols_eq k0_pay25 rfl (pk_eq PK 4 rfl) (pk_eq PK 5 rfl) (ex_eq EX 2 rfl) (xb_eq XB b.val 2 (off46_eq b)))) (off47_eq b) _
    (by first | exact cols_eq k0_pay26 rfl (pk_eq PK 6 rfl) (pk_eq PK 7 rfl) (ex_eq EX 3 rfl) (xb_eq XB b.val 3 (off47_eq b))))

theorem part10_run (b : Fin k0_t8_loop.trips) (v313 : BitVec 32) {Q} :
    iprop(held (c : Thread nD τ) arg9 Finset.univ fullShare PK ∗ held (c : Thread nD τ) arg11 Finset.univ fullShare EX
        ∗ held (c : Thread nD τ) arg5 Finset.univ fullShare XB ∗ (∃ O, ⌜Cols PK EX XB G v302 v311 b.val 4 O⌝ ∗ held (c : Thread nD τ) arg7 Finset.univ fullShare O)
        ∗ (held (c : Thread nD τ) arg9 Finset.univ fullShare PK ∗ held (c : Thread nD τ) arg11 Finset.univ fullShare EX
        ∗ held (c : Thread nD τ) arg5 Finset.univ fullShare XB ∗ (∃ O, ⌜Cols PK EX XB G v302 v311 b.val 6 O⌝ ∗ held (c : Thread nD τ) arg7 Finset.univ fullShare O) -∗ Q (pk PK 12)) : sProp 𝕄)
      ⊢ wp frame (wpE (defs₀ (F := F)) 𝒱₀ (c : Thread nD τ) none) Set.univ (k0_part10 (F := F) i arg1 harg1 arg2 harg2 arg3 harg3 arg4 harg4 arg5 harg5 arg6 harg6 arg7 harg7 arg8 harg8 arg9 harg9 arg10 harg10 arg11 harg11 arg12 harg12 arg13 b v302 v311 v313) Q := by
  rw [k0_part10_eq_skeleton]
  unfold k0_part10_skel
  iintro ⟨H9, H11, H5, ⟨%O, %hO, H7⟩, K⟩
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg11) (X := EX) (S := Finset.univ) (Finset.subset_univ _)) $$ H11
  iintro H11
  rw [wp_bind]
  iapply (Held.wp_load 𝒱₀ (c : Thread nD τ) none Set.univ (m := arg5) (X := XB) (S := Finset.univ) (Finset.subset_univ _)) $$ H5
  iintro H5
  rw [wp_bind]
  iapply (Held.wp_load 𝒱₀ (c : Thread nD τ) none Set.univ (m := arg7) (X := _) (S := Finset.univ) (Finset.subset_univ _)) $$ H7
  iintro H7
  rw [wp_bind]
  iapply (Held.wp_store 𝒱₀ (c : Thread nD τ) none Set.univ (m := arg7)) $$ H7
  iintro H7
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg9) (X := PK) (S := Finset.univ) (Finset.subset_univ _)) $$ H9
  iintro H9
  rw [wp_bind]
  iapply (Held.wp_load 𝒱₀ (c : Thread nD τ) none Set.univ (m := arg11) (X := EX) (S := Finset.univ) (Finset.subset_univ _)) $$ H11
  iintro H11
  rw [wp_bind]
  iapply (Held.wp_load 𝒱₀ (c : Thread nD τ) none Set.univ (m := arg5) (X := XB) (S := Finset.univ) (Finset.subset_univ _)) $$ H5
  iintro H5
  rw [wp_bind]
  iapply (Held.wp_load 𝒱₀ (c : Thread nD τ) none Set.univ (m := arg7) (X := _) (S := Finset.univ) (Finset.subset_univ _)) $$ H7
  iintro H7
  rw [wp_bind]
  iapply (Held.wp_store 𝒱₀ (c : Thread nD τ) none Set.univ (m := arg7)) $$ H7
  iintro H7
  rw [wp_bind]
  iapply (Held.wp_load 𝒱₀ (c : Thread nD τ) none Set.univ (m := arg9) (X := PK) (S := Finset.univ) (Finset.subset_univ _)) $$ H9
  iintro H9
  rw [wp_pure]
  imodintro
  rw [pk_eq PK 12 rfl]
  iapply K
  isplitl [H9]; · iexact H9
  isplitl [H11]; · iexact H11
  isplitl [H5]; · iexact H5
  iexists _
  isplitr
  rotate_left
  · iexact H7
  ipureintro
  exact (col_put PK EX XB G v302 v311 b.val 5 (col_put PK EX XB G v302 v311 b.val 4 hO (off48_eq b) _
    (by first | exact cols_eq k0_pay27 rfl (pk_eq PK 8 rfl) (pk_eq PK 9 rfl) (ex_eq EX 4 rfl) (xb_eq XB b.val 4 (off48_eq b)))) (off49_eq b) _
    (by first | exact cols_eq k0_pay28 rfl (pk_eq PK 10 rfl) (pk_eq PK 11 rfl) (ex_eq EX 5 rfl) (xb_eq XB b.val 5 (off49_eq b))))

end Cert.KernelIdeal.Run
-- ==== Proof.KernelIdeal.Lanes.lean ====
/-
  The parts of a block before its products: the gather, and the weights and scales of its entries.
-/
module

public import proofs.«01_k».proof.Proof.KernelIdeal.Gather
public import proofs.«01_k».proof.Proof.KernelIdeal.Columns

@[expose] public section

set_option maxRecDepth 100000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.Fill Cert.KernelIdeal.Gen

variable {F : FTy → Type} [FloatOps F]

local notation "𝕄" => MT nD τ sig Unit (Elt F) ℕ UU ℕ

variable (c : Dev nD) (i : grid0.Coords)
variable (arg1 : Memref sig .tc .smem S192x128 .i32) (harg1 : arg1.IsWhole) (arg2 : Memref sig .tc .smem S192x128 .i32) (harg2 : arg2.IsWhole) (arg3 : Memref sig .tc .vmem S4x4x128 .i32) (harg3 : arg3.IsWhole) (arg4 : Memref sig .tc .vmem S16x49152 .i8) (harg4 : arg4.IsWhole) (arg5 : Memref sig .tc .vmem S512x2048 .bf16) (harg5 : arg5.IsWhole) (arg6 : Memref sig .tc .hbm S49152x2048 .fp8e4m3) (harg6 : arg6.IsWhole) (arg7 : Memref sig .tc .vmem S512x2048 .bf16) (harg7 : arg7.IsWhole) (arg8 : Memref sig .tc .vmem S10240x2048 .fp8e4m3) (harg8 : arg8.IsWhole) (arg9 : Memref sig .tc .vmem S192x2048 .fp8e4m3) (harg9 : arg9.IsWhole) (arg10 : Memref sig .tc .vmem S1536x128 .i32) (harg10 : arg10.IsWhole) (arg11 : Memref sig .tc .vmem S48x2048 .bf16) (harg11 : arg11.IsWhole) (arg12 : Memref sig .tc .smem S2 .i32) (harg12 : arg12.IsWhole) (arg13 : DmaSems sig S2)

variable {base gran : Words.Table} (T : Tables base gran) (Y : S49152x2048.Idx → Elt F .fp8e4m3)
variable (X : S10240x2048.Idx → Elt F .fp8e4m3) (q : PosShare TreeShare)
variable (M : S4x4x128.Idx → Elt F .i32) (SC : S1536x128.Idx → Elt F .i32)
variable (EX : S48x2048.Idx → Elt F .bf16) (XB G : S512x2048.Idx → Elt F .bf16)

/-- The index of `S4x4x128` at three naturals, each taken within its bound. -/
def m3 (a r k : ℕ) : S4x4x128.Idx := fun d => match d with
  | ⟨0, _⟩ => Fin.ofNat 4 a
  | ⟨1, _⟩ => Fin.ofNat 4 r
  | ⟨2, _⟩ => Fin.ofNat 128 k

/-- A lane row of the descriptors. -/
def mrow (a r : ℕ) : Vec F S1x1x128 .i32 := fun y => M (m3 a r (y 2).val)

theorem mrow_eq {a r : ℕ} {off : Fin 3 → ℕ} (h : off = ![a, r, 0]) {inb} :
    (fun y => M ((Rect.unit (s := S4x4x128) off S1x1x128.size inb).emb y)) = mrow M a r := by
  subst h
  funext y
  refine congrArg M ?_
  have h0 : a + 1 ≤ 4 := inb 0
  have h1 : r + 1 ≤ 4 := inb 1
  have y0 : (y 0).val < 1 := (y 0).isLt
  have y1 : (y 1).val < 1 := (y 1).isLt
  have y2 : (y 2).val < 128 := (y 2).isLt
  funext d
  apply Fin.ext
  rw [Rect.emb_apply]
  fin_cases d
  · show a + 1 * (y 0).val = a % 4
    omega
  · show r + 1 * (y 1).val = r % 4
    omega
  · show 0 + 1 * (y 2).val = (y 2).val % 128
    omega

/-- The window of scale words a table entry asks for: eight rows, from the chunk it names. -/
def scl (v : BitVec 32) : Vec F S8x128 .i32 := fun y => SC (mk2 1536 128 (min (v.toNat / 128) 382 * 4 + (y 0).val) (y 1).val)

theorem scl_eq {v : BitVec 32} (hv : 0 ≤ v.toInt) {off : Fin 2 → ℕ} (h : off = k0_off29 v) {inb} :
    (fun y => SC ((Rect.unit (s := S1536x128) off S8x128.size inb).emb y)) = scl SC v := by
  funext y
  refine congrArg SC ((emb2 (R := 1536) (K := 128) _ 0 (h.trans (off29_eq hv)) y).trans ?_)
  rw [Nat.zero_add]

/-- The two words of scale bytes of the block's entries, from the windows of the eight experts. -/
def scaleWords (v50 : IVec S1x128 32) (s : ℕ → Vec F S8x128 .i32) : IVec S4x128 32 × IVec S4x128 32 :=
  let v62 := k0_pay7 v50
  let v64 := k0_pay8 v50
  let v68 := k0_pay9 v50
  let v92 := k0_pay10 v50 (s 0)
  let v115 := k0_pay11 v64 v68 v92 (s 1)
  let v161 := k0_pay14 v64 v68 v115 (k0_pay12 v68 (s 2)) (k0_pay13 v64) (s 3)
  let v207 := k0_pay16 v64 v68 v161 (s 4) (k0_pay15 v68) (s 5)
  (k0_pay18 v62 v64 v68 v207 (s 6) (k0_pay17 v68) (s 7), k0_pay19 v62 v64 v68 v207 (s 6) (k0_pay17 v68) (s 7))

/-- The weights and scales of a block's 128 entries, -/
def lhsOf (base : Words.Table) (t b : ℕ) : FVec F S128x48 .bf16 :=
  let v50 := k0_pay4 (F := F) (mrow M (b / 2) (b % 2))
  let r := scaleWords v50 fun k => scl SC (base (ix (4 * t + b / 2) (b % 2 * 8 + k)))
  k0_pay21 (k0_pay5 (mrow M (b / 2) (2 + b % 2))) (k0_pay6 v50) r.1 r.2
/-- and the matrix that picks their rows. -/
def pickOf (base : Words.Table) (t b : ℕ) : FVec F S128x192 .fp8e4m3 :=
  let v50 := k0_pay4 (F := F) (mrow M (b / 2) (b % 2))
  let r := scaleWords v50 fun k => scl SC (base (ix (4 * t + b / 2) (b % 2 * 8 + k)))
  k0_pay22 (k0_pay5 (mrow M (b / 2) (2 + b % 2))) (k0_pay6 v50) r.1 r.2

/-- What a grid step leaves in its 512 rows. -/
def outOf (base gran : Words.Table) (t : ℕ) : S512x2048.Idx → Elt F .bf16 := fun x =>
  colOf (packOf Y base gran t ((x 0).val / 64)) EX XB (lhsOf M SC base t ((x 0).val / 64)) (pickOf M SC base t ((x 0).val / 64)) ((x 0).val / 64) x

include T

theorem nonneg {t : ℕ} (ht : (i 0).val = t) (b : Fin k0_t8_loop.trips) (k : ℕ) (hk : k < 8) :
    0 ≤ (base (ix (4 * t + b.val / 2) (b.val % 2 * 8 + k))).toInt := by
  have hlt : t < 48 := ht ▸ (i 0).isLt
  have hb : b.val < 8 := b.isLt
  exact T.win _ _ (by omega) (by omega)

theorem part2_run {t : ℕ} (ht : (i 0).val = t) (b : Fin k0_t8_loop.trips) (v43 v45 : BitVec 32) (v50 : IVec S1x128 32) {Q} :
    iprop(held (c : Thread nD τ) arg2 Finset.univ q (base : S192x128.Idx → Elt F .i32) ∗ held (c : Thread nD τ) arg10 Finset.univ fullShare SC
        ∗ held (c : Thread nD τ) arg3 Finset.univ fullShare M
        ∗ (∀ v94, held (c : Thread nD τ) arg2 Finset.univ q (base : S192x128.Idx → Elt F .i32) ∗ held (c : Thread nD τ) arg10 Finset.univ fullShare SC
          ∗ held (c : Thread nD τ) arg3 Finset.univ fullShare M
          -∗ Q ⟨k0_pay5 (mrow M (b.val / 2) (2 + b.val % 2)), k0_pay6 v50, k0_pay7 v50, k0_pay8 v50, k0_pay9 v50, k0_pay10 v50 (scl SC (base (ix (4 * t + b.val / 2) (b.val % 2 * 8 + 0)))), v94⟩) : sProp 𝕄)
      ⊢ wp frame (wpE (defs₀ (F := F)) 𝒱₀ (c : Thread nD τ) none) Set.univ (k0_part2 (F := F) i arg1 harg1 arg2 harg2 arg3 harg3 arg4 harg4 arg5 harg5 arg6 harg6 arg7 harg7 arg8 harg8 arg9 harg9 arg10 harg10 arg11 harg11 arg12 harg12 arg13 b v43 v45 v50) Q := by
  rw [k0_part2_eq_skeleton]
  unfold k0_part2_skel
  iintro ⟨H2, H10, H3, K⟩
  rw [wp_bind]
  iapply (Held.wp_load 𝒱₀ (c : Thread nD τ) none Set.univ (m := arg3) (X := M) (S := Finset.univ) (Finset.subset_univ _)) $$ H3
  iintro H3
  rw [mrow_eq M (off27_eq b)]
  rw [wp_bind]
  iapply (Held.wp_word 𝒱₀ (c : Thread nD τ) none Set.univ (m := arg2) (X := (base : S192x128.Idx → Elt F .i32)) (S := Finset.univ) (Finset.subset_univ _)) $$ H2
  iintro H2
  rw [emb_word _ (b.val % 2 * 8 + 0) (off28_eq i b), ht]
  rw [wp_bind]
  iapply (Held.wp_assume 𝒱₀ (c : Thread nD τ) none Set.univ (show k0_chk5 (base (ix (4 * t + b.val / 2) (b.val % 2 * 8 + 0))) from chk5_of (nonneg i T ht b 0 (by omega))))
  rw [wp_bind]
  iapply (Held.wp_load 𝒱₀ (c : Thread nD τ) none Set.univ (m := arg10) (X := SC) (S := Finset.univ) (Finset.subset_univ _)) $$ H10
  iintro H10
  rw [scl_eq SC (nonneg i T ht b 0 (by omega)) (off := k0_off29 (base (ix (4 * t + b.val / 2) (b.val % 2 * 8 + 0)))) rfl]
  rw [wp_pure]
  imodintro
  iapply K
  isplitl [H2]; · iexact H2
  isplitl [H10]; · iexact H10
  iexact H3

theorem part3_run {t : ℕ} (ht : (i 0).val = t) (b : Fin k0_t8_loop.trips) (v43 v45 : BitVec 32) (v64 : IVec S1x128 32) (v68 v92 : IVec S8x128 32) (v94 : BitVec 32) {Q} :
    iprop(held (c : Thread nD τ) arg2 Finset.univ q (base : S192x128.Idx → Elt F .i32) ∗ held (c : Thread nD τ) arg10 Finset.univ fullShare SC
        ∗ (held (c : Thread nD τ) arg2 Finset.univ q (base : S192x128.Idx → Elt F .i32) ∗ held (c : Thread nD τ) arg10 Finset.univ fullShare SC
          -∗ Q ⟨k0_pay11 v64 v68 v92 (scl SC (base (ix (4 * t + b.val / 2) (b.val % 2 * 8 + 1)))), k0_pay12 v68 (scl SC (base (ix (4 * t + b.val / 2) (b.val % 2 * 8 + 2)))), k0_pay13 v64⟩) : sProp 𝕄)
      ⊢ wp frame (wpE (defs₀ (F := F)) 𝒱₀ (c : Thread nD τ) none) Set.univ (k0_part3 (F := F) i arg1 harg1 arg2 harg2 arg3 harg3 arg4 harg4 arg5 harg5 arg6 harg6 arg7 harg7 arg8 harg8 arg9 harg9 arg10 harg10 arg11 harg11 arg12 harg12 arg13 b v43 v45 v64 v68 v92 v94) Q := by
  rw [k0_part3_eq_skeleton]
  unfold k0_part3_skel
  iintro ⟨H2, H10, K⟩
  rw [wp_bind]
  iapply (Held.wp_word 𝒱₀ (c : Thread nD τ) none Set.univ (m := arg2) (X := (base : S192x128.Idx → Elt F .i32)) (S := Finset.univ) (Finset.subset_univ _)) $$ H2
  iintro H2
  rw [emb_word _ (b.val % 2 * 8 + 1) (off30_eq i b), ht]
  rw [wp_bind]
  iapply (Held.wp_assume 𝒱₀ (c : Thread nD τ) none Set.univ (show k0_chk6 (base (ix (4 * t + b.val / 2) (b.val % 2 * 8 + 1))) from chk5_of (nonneg i T ht b 1 (by omega))))
  rw [wp_bind]
  iapply (Held.wp_load 𝒱₀ (c : Thread nD τ) none Set.univ (m := arg10) (X := SC) (S := Finset.univ) (Finset.subset_univ _)) $$ H10
  iintro H10
  rw [scl_eq SC (nonneg i T ht b 1 (by omega)) (off := k0_off31 (base (ix (4 * t + b.val / 2) (b.val % 2 * 8 + 1)))) rfl]
  rw [wp_bind]
  iapply (Held.wp_word 𝒱₀ (c : Thread nD τ) none Set.univ (m := arg2) (X := (base : S192x128.Idx → Elt F .i32)) (S := Finset.univ) (Finset.subset_univ _)) $$ H2
  iintro H2
  rw [emb_word _ (b.val % 2 * 8 + 2) (off32_eq i b), ht]
  rw [wp_bind]
  iapply (Held.wp_assume 𝒱₀ (c : Thread nD τ) none Set.univ (show k0_chk7 (base (ix (4 * t + b.val / 2) (b.val % 2 * 8 + 2))) from chk5_of (nonneg i T ht b 2 (by omega))))
  rw [wp_bind]
  iapply (Held.wp_load 𝒱₀ (c : Thread nD τ) none Set.univ (m := arg10) (X := SC) (S := Finset.univ) (Finset.subset_univ _)) $$ H10
  iintro H10
  rw [scl_eq SC (nonneg i T ht b 2 (by omega)) (off := k0_off33 (base (ix (4 * t + b.val / 2) (b.val % 2 * 8 + 2)))) rfl]
  rw [wp_pure]
  imodintro
  iapply K
  isplitl [H2]; · iexact H2
  iexact H10

theorem part4_run {t : ℕ} (ht : (i 0).val = t) (b : Fin k0_t8_loop.trips) (v43 v45 : BitVec 32) (v64 : IVec S1x128 32) (v68 v115 v133 : IVec S8x128 32) (v137 : IVec S8x128 1) {Q} :
    iprop(held (c : Thread nD τ) arg2 Finset.univ q (base : S192x128.Idx → Elt F .i32) ∗ held (c : Thread nD τ) arg10 Finset.univ fullShare SC
        ∗ (held (c : Thread nD τ) arg2 Finset.univ q (base : S192x128.Idx → Elt F .i32) ∗ held (c : Thread nD τ) arg10 Finset.univ fullShare SC
          -∗ Q ⟨k0_pay14 v64 v68 v115 v133 v137 (scl SC (base (ix (4 * t + b.val / 2) (b.val % 2 * 8 + 3)))), (scl SC (base (ix (4 * t + b.val / 2) (b.val % 2 * 8 + 4)))), k0_pay15 v68⟩) : sProp 𝕄)
      ⊢ wp frame (wpE (defs₀ (F := F)) 𝒱₀ (c : Thread nD τ) none) Set.univ (k0_part4 (F := F) i arg1 harg1 arg2 harg2 arg3 harg3 arg4 harg4 arg5 harg5 arg6 harg6 arg7 harg7 arg8 harg8 arg9 harg9 arg10 harg10 arg11 harg11 arg12 harg12 arg13 b v43 v45 v64 v68 v115 v133 v137) Q := by
  rw [k0_part4_eq_skeleton]
  unfold k0_part4_skel
  iintro ⟨H2, H10, K⟩
  rw [wp_bind]
  iapply (Held.wp_word 𝒱₀ (c : Thread nD τ) none Set.univ (m := arg2) (X := (base : S192x128.Idx → Elt F .i32)) (S := Finset.univ) (Finset.subset_univ _)) $$ H2
  iintro H2
  rw [emb_word _ (b.val % 2 * 8 + 3) (off34_eq i b), ht]
  rw [wp_bind]
  iapply (Held.wp_assume 𝒱₀ (c : Thread nD τ) none Set.univ (show k0_chk8 (base (ix (4 * t + b.val / 2) (b.val % 2 * 8 + 3))) from chk5_of (nonneg i T ht b 3 (by omega))))
  rw [wp_bind]
  iapply (Held.wp_load 𝒱₀ (c : Thread nD τ) none Set.univ (m := arg10) (X := SC) (S := Finset.univ) (Finset.subset_univ _)) $$ H10
  iintro H10
  rw [scl_eq SC (nonneg i T ht b 3 (by omega)) (off := k0_off35 (base (ix (4 * t + b.val / 2) (b.val % 2 * 8 + 3)))) rfl]
  rw [wp_bind]
  iapply (Held.wp_word 𝒱₀ (c : Thread nD τ) none Set.univ (m := arg2) (X := (base : S192x128.Idx → Elt F .i32)) (S := Finset.univ) (Finset.subset_univ _)) $$ H2
  iintro H2
  rw [emb_word _ (b.val % 2 * 8 + 4) (off36_eq i b), ht]
  rw [wp_bind]
  iapply (Held.wp_assume 𝒱₀ (c : Thread nD τ) none Set.univ (show k0_chk9 (base (ix (4 * t + b.val / 2) (b.val % 2 * 8 + 4))) from chk5_of (nonneg i T ht b 4 (by omega))))
  rw [wp_bind]
  iapply (Held.wp_load 𝒱₀ (c : Thread nD τ) none Set.univ (m := arg10) (X := SC) (S := Finset.univ) (Finset.subset_univ _)) $$ H10
  iintro H10
  rw [scl_eq SC (nonneg i T ht b 4 (by omega)) (off := k0_off37 (base (ix (4 * t + b.val / 2) (b.val % 2 * 8 + 4)))) rfl]
  rw [wp_pure]
  imodintro
  iapply K
  isplitl [H2]; · iexact H2
  iexact H10

theorem part5_run {t : ℕ} (ht : (i 0).val = t) (b : Fin k0_t8_loop.trips) (v43 v45 : BitVec 32) (v64 : IVec S1x128 32) (v68 v161 : IVec S8x128 32) (v171 : Vec F S8x128 .i32) (v178 : IVec S8x128 32) {Q} :
    iprop(held (c : Thread nD τ) arg2 Finset.univ q (base : S192x128.Idx → Elt F .i32) ∗ held (c : Thread nD τ) arg10 Finset.univ fullShare SC
        ∗ (held (c : Thread nD τ) arg2 Finset.univ q (base : S192x128.Idx → Elt F .i32) ∗ held (c : Thread nD τ) arg10 Finset.univ fullShare SC
          -∗ Q ⟨k0_pay16 v64 v68 v161 v171 v178 (scl SC (base (ix (4 * t + b.val / 2) (b.val % 2 * 8 + 5)))), (scl SC (base (ix (4 * t + b.val / 2) (b.val % 2 * 8 + 6)))), k0_pay17 v68⟩) : sProp 𝕄)
      ⊢ wp frame (wpE (defs₀ (F := F)) 𝒱₀ (c : Thread nD τ) none) Set.univ (k0_part5 (F := F) i arg1 harg1 arg2 harg2 arg3 harg3 arg4 harg4 arg5 harg5 arg6 harg6 arg7 harg7 arg8 harg8 arg9 harg9 arg10 harg10 arg11 harg11 arg12 harg12 arg13 b v43 v45 v64 v68 v161 v171 v178) Q := by
  rw [k0_part5_eq_skeleton]
  unfold k0_part5_skel
  iintro ⟨H2, H10, K⟩
  rw [wp_bind]
  iapply (Held.wp_word 𝒱₀ (c : Thread nD τ) none Set.univ (m := arg2) (X := (base : S192x128.Idx → Elt F .i32)) (S := Finset.univ) (Finset.subset_univ _)) $$ H2
  iintro H2
  rw [emb_word _ (b.val % 2 * 8 + 5) (off38_eq i b), ht]
  rw [wp_bind]
  iapply (Held.wp_assume 𝒱₀ (c : Thread nD τ) none Set.univ (show k0_chk10 (base (ix (4 * t + b.val / 2) (b.val % 2 * 8 + 5))) from chk5_of (nonneg i T ht b 5 (by omega))))
  rw [wp_bind]
  iapply (Held.wp_load 𝒱₀ (c : Thread nD τ) none Set.univ (m := arg10) (X := SC) (S := Finset.univ) (Finset.subset_univ _)) $$ H10
  iintro H10
  rw [scl_eq SC (nonneg i T ht b 5 (by omega)) (off := k0_off39 (base (ix (4 * t + b.val / 2) (b.val % 2 * 8 + 5)))) rfl]
  rw [wp_bind]
  iapply (Held.wp_word 𝒱₀ (c : Thread nD τ) none Set.univ (m := arg2) (X := (base : S192x128.Idx → Elt F .i32)) (S := Finset.univ) (Finset.subset_univ _)) $$ H2
  iintro H2
  rw [emb_word _ (b.val % 2 * 8 + 6) (off40_eq i b), ht]
  rw [wp_bind]
  iapply (Held.wp_assume 𝒱₀ (c : Thread nD τ) none Set.univ (show k0_chk11 (base (ix (4 * t + b.val / 2) (b.val % 2 * 8 + 6))) from chk5_of (nonneg i T ht b 6 (by omega))))
  rw [wp_bind]
  iapply (Held.wp_load 𝒱₀ (c : Thread nD τ) none Set.univ (m := arg10) (X := SC) (S := Finset.univ) (Finset.subset_univ _)) $$ H10
  iintro H10
  rw [scl_eq SC (nonneg i T ht b 6 (by omega)) (off := k0_off41 (base (ix (4 * t + b.val / 2) (b.val % 2 * 8 + 6)))) rfl]
  rw [wp_pure]
  imodintro
  iapply K
  isplitl [H2]; · iexact H2
  iexact H10

theorem part6_run {t : ℕ} (ht : (i 0).val = t) (b : Fin k0_t8_loop.trips) (v43 v45 : BitVec 32) (v62 v64 : IVec S1x128 32) (v68 v207 : IVec S8x128 32) (v217 : Vec F S8x128 .i32) (v219 : IVec S8x128 1) {Q} :
    iprop(held (c : Thread nD τ) arg2 Finset.univ q (base : S192x128.Idx → Elt F .i32) ∗ held (c : Thread nD τ) arg10 Finset.univ fullShare SC
        ∗ (held (c : Thread nD τ) arg2 Finset.univ q (base : S192x128.Idx → Elt F .i32) ∗ held (c : Thread nD τ) arg10 Finset.univ fullShare SC
          -∗ Q ⟨k0_pay18 v62 v64 v68 v207 v217 v219 (scl SC (base (ix (4 * t + b.val / 2) (b.val % 2 * 8 + 7)))), k0_pay19 v62 v64 v68 v207 v217 v219 (scl SC (base (ix (4 * t + b.val / 2) (b.val % 2 * 8 + 7))))⟩) : sProp 𝕄)
      ⊢ wp frame (wpE (defs₀ (F := F)) 𝒱₀ (c : Thread nD τ) none) Set.univ (k0_part6 (F := F) i arg1 harg1 arg2 harg2 arg3 harg3 arg4 harg4 arg5 harg5 arg6 harg6 arg7 harg7 arg8 harg8 arg9 harg9 arg10 harg10 arg11 harg11 arg12 harg12 arg13 b v43 v45 v62 v64 v68 v207 v217 v219) Q := by
  rw [k0_part6_eq_skeleton]
  unfold k0_part6_skel
  iintro ⟨H2, H10, K⟩
  rw [wp_bind]
  iapply (Held.wp_word 𝒱₀ (c : Thread nD τ) none Set.univ (m := arg2) (X := (base : S192x128.Idx → Elt F .i32)) (S := Finset.univ) (Finset.subset_univ _)) $$ H2
  iintro H2
  rw [emb_word _ (b.val % 2 * 8 + 7) (off42_eq i b), ht]
  rw [wp_bind]
  iapply (Held.wp_assume 𝒱₀ (c : Thread nD τ) none Set.univ (show k0_chk12 (base (ix (4 * t + b.val / 2) (b.val % 2 * 8 + 7))) from chk5_of (nonneg i T ht b 7 (by omega))))
  rw [wp_bind]
  iapply (Held.wp_load 𝒱₀ (c : Thread nD τ) none Set.univ (m := arg10) (X := SC) (S := Finset.univ) (Finset.subset_univ _)) $$ H10
  iintro H10
  rw [scl_eq SC (nonneg i T ht b 7 (by omega)) (off := k0_off43 (base (ix (4 * t + b.val / 2) (b.val % 2 * 8 + 7)))) rfl]
  rw [wp_pure]
  imodintro
  iapply K
  isplitl [H2]; · iexact H2
  iexact H10

theorem part1_run {t : ℕ} (ht : (i 0).val = t) (hR : Read Y (cut base) t X) (b : Fin k0_t8_loop.trips) (a0 a1 a2 : BitVec 32) {Q} :
    iprop(held (c : Thread nD τ) arg1 Finset.univ q (gran : S192x128.Idx → Elt F .i32)
        ∗ held (c : Thread nD τ) arg8 (Finset.univ \ from_ (cut base) (t + 1) 0) fullShare X
        ∗ (∃ W, held (c : Thread nD τ) arg9 Finset.univ fullShare W)
        ∗ held (c : Thread nD τ) arg3 Finset.univ fullShare M
        ∗ (∀ r0 r1 r2, held (c : Thread nD τ) arg1 Finset.univ q (gran : S192x128.Idx → Elt F .i32)
          ∗ held (c : Thread nD τ) arg8 (Finset.univ \ from_ (cut base) (t + 1) 0) fullShare X
          ∗ held (c : Thread nD τ) arg9 Finset.univ fullShare (packOf Y base gran t b.val)
          ∗ held (c : Thread nD τ) arg3 Finset.univ fullShare M -∗ Q ⟨r0, r1, r2, k0_pay4 (mrow M (b.val / 2) (b.val % 2))⟩) : sProp 𝕄)
      ⊢ wp frame (wpE (defs₀ (F := F)) 𝒱₀ (c : Thread nD τ) none) Set.univ (k0_part1 (F := F) i arg1 harg1 arg2 harg2 arg3 harg3 arg4 harg4 arg5 harg5 arg6 harg6 arg7 harg7 arg8 harg8 arg9 harg9 arg10 harg10 arg11 harg11 arg12 harg12 arg13 a0 a1 a2 b) Q := by
  rw [k0_part1_eq_skeleton]
  unfold k0_part1_skel
  iintro ⟨H1, H8, H9, H3, K⟩
  rw [wp_bind]
  iapply (gather c i arg1 harg1 arg2 harg2 arg3 harg3 arg4 harg4 arg5 harg5 arg6 harg6 arg7 harg7 arg8 harg8 arg9 harg9 arg10 harg10 arg11 harg11 arg12 harg12 arg13 T Y X q ht hR b a0 a1 a2)
  isplitl [H1]; · iexact H1
  isplitl [H8]; · iexact H8
  isplitl [H9]; · iexact H9
  iintro ⟨H1, H8, H9⟩
  rw [wp_bind]
  iapply (Held.wp_load 𝒱₀ (c : Thread nD τ) none Set.univ (m := arg3) (X := M) (S := Finset.univ) (Finset.subset_univ _)) $$ H3
  iintro H3
  rw [mrow_eq M (off26_eq b)]
  rw [wp_pure]
  imodintro
  iapply K
  isplitl [H1]; · iexact H1
  isplitl [H8]; · iexact H8
  isplitl [H9]; · iexact H9
  iexact H3

end Cert.KernelIdeal.Run
-- ==== Proof.KernelIdeal.Block.lean ====
/-
  A block of 64 rows, and the eight of a grid step.
-/
module

public import proofs.«01_k».proof.Proof.KernelIdeal.Lanes

@[expose] public section

set_option maxRecDepth 100000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.Fill Cert.KernelIdeal.Gen

variable {F : FTy → Type} [FloatOps F]

local notation "𝕄" => MT nD τ sig Unit (Elt F) ℕ UU ℕ

variable (c : Dev nD) (i : grid0.Coords)
variable (arg1 : Memref sig .tc .smem S192x128 .i32) (harg1 : arg1.IsWhole) (arg2 : Memref sig .tc .smem S192x128 .i32) (harg2 : arg2.IsWhole) (arg3 : Memref sig .tc .vmem S4x4x128 .i32) (harg3 : arg3.IsWhole) (arg4 : Memref sig .tc .vmem S16x49152 .i8) (harg4 : arg4.IsWhole) (arg5 : Memref sig .tc .vmem S512x2048 .bf16) (harg5 : arg5.IsWhole) (arg6 : Memref sig .tc .hbm S49152x2048 .fp8e4m3) (harg6 : arg6.IsWhole) (arg7 : Memref sig .tc .vmem S512x2048 .bf16) (harg7 : arg7.IsWhole) (arg8 : Memref sig .tc .vmem S10240x2048 .fp8e4m3) (harg8 : arg8.IsWhole) (arg9 : Memref sig .tc .vmem S192x2048 .fp8e4m3) (harg9 : arg9.IsWhole) (arg10 : Memref sig .tc .vmem S1536x128 .i32) (harg10 : arg10.IsWhole) (arg11 : Memref sig .tc .vmem S48x2048 .bf16) (harg11 : arg11.IsWhole) (arg12 : Memref sig .tc .smem S2 .i32) (harg12 : arg12.IsWhole) (arg13 : DmaSems sig S2)

variable {base gran : Words.Table} (T : Tables base gran) (Y : S49152x2048.Idx → Elt F .fp8e4m3)
variable (X : S10240x2048.Idx → Elt F .fp8e4m3) (q : PosShare TreeShare)
variable (M : S4x4x128.Idx → Elt F .i32) (SC : S1536x128.Idx → Elt F .i32)
variable (EX : S48x2048.Idx → Elt F .bf16) (XB G : S512x2048.Idx → Elt F .bf16)

/-- What a block uses and leaves alone. -/
def tools (base gran : Words.Table) (t : ℕ) : sProp 𝕄 :=
  iprop(held (c : Thread nD τ) arg1 Finset.univ q (gran : S192x128.Idx → Elt F .i32)
        ∗ held (c : Thread nD τ) arg2 Finset.univ q (base : S192x128.Idx → Elt F .i32)
        ∗ held (c : Thread nD τ) arg3 Finset.univ fullShare M
        ∗ held (c : Thread nD τ) arg5 Finset.univ fullShare XB
        ∗ held (c : Thread nD τ) arg8 (Finset.univ \ from_ (cut base) (t + 1) 0) fullShare X
        ∗ (∃ W, held (c : Thread nD τ) arg9 Finset.univ fullShare W)
        ∗ held (c : Thread nD τ) arg10 Finset.univ fullShare SC
        ∗ held (c : Thread nD τ) arg11 Finset.univ fullShare EX)

theorem part7_run {v56 : FVec F S1x128 .f32} {v58 : IVec S1x128 32} {v260 v264 : IVec S4x128 32} {L : FVec F S128x48 .bf16} {P : FVec F S128x192 .fp8e4m3}
    (h1 : k0_pay21 v56 v58 v260 v264 = L) (h2 : k0_pay22 v56 v58 v260 v264 = P) {Q} :
    (iprop(Q ⟨L, P, 64#32⟩) : sProp 𝕄) ⊢ wp frame (wpE (defs₀ (F := F)) 𝒱₀ (c : Thread nD τ) none) Set.univ (k0_part7 (F := F) i arg1 harg1 arg2 harg2 arg3 harg3 arg4 harg4 arg5 harg5 arg6 harg6 arg7 harg7 arg8 harg8 arg9 harg9 arg10 harg10 arg11 harg11 arg12 harg12 arg13 v56 v58 v260 v264) Q := by
  rw [k0_part7_eq_skeleton]
  unfold k0_part7_skel
  rw [wp_pure, h1, h2]
  iintro H
  imodintro
  iexact H

include T

theorem part11_run {t : ℕ} (ht : (i 0).val = t) (hR : Read Y (cut base) t X) (b : Fin k0_t8_loop.trips) (a0 a1 a2 : BitVec 32) {Q} :
    iprop(tools c arg1 arg2 arg3 arg5 arg8 arg9 arg10 arg11 X q M SC EX XB base gran t
        ∗ (∃ O, ⌜Cols (packOf Y base gran t b.val) EX XB G (lhsOf M SC base t b.val) (pickOf M SC base t b.val) b.val 0 O⌝ ∗ held (c : Thread nD τ) arg7 Finset.univ fullShare O)
        ∗ (∀ v, tools c arg1 arg2 arg3 arg5 arg8 arg9 arg10 arg11 X q M SC EX XB base gran t
        ∗ (∃ O, ⌜Cols (packOf Y base gran t b.val) EX XB G (lhsOf M SC base t b.val) (pickOf M SC base t b.val) b.val 7 O⌝ ∗ held (c : Thread nD τ) arg7 Finset.univ fullShare O) -∗ Q ⟨v, k0_pay23 (lhsOf M SC base t b.val) (pickOf M SC base t b.val) (pk (packOf Y base gran t b.val) 14) (pk (packOf Y base gran t b.val) 15) (ex EX 7) (xb XB b.val 7)⟩) : sProp 𝕄)
      ⊢ wp frame (wpE (defs₀ (F := F)) 𝒱₀ (c : Thread nD τ) none) Set.univ (k0_part11 (F := F) i arg1 harg1 arg2 harg2 arg3 harg3 arg4 harg4 arg5 harg5 arg6 harg6 arg7 harg7 arg8 harg8 arg9 harg9 arg10 harg10 arg11 harg11 arg12 harg12 arg13 a0 a1 a2 b) Q := by
  rw [k0_part11_eq_skeleton]
  unfold k0_part11_skel
  unfold tools
  iintro ⟨⟨H1, H2, H3, H5, H8, H9, H10, H11⟩, H7, K⟩
  rw [wp_bind]
  iapply (part1_run c i arg1 harg1 arg2 harg2 arg3 harg3 arg4 harg4 arg5 harg5 arg6 harg6 arg7 harg7 arg8 harg8 arg9 harg9 arg10 harg10 arg11 harg11 arg12 harg12 arg13 T Y X q M ht hR b a0 a1 a2)
  isplitl [H1]; · iexact H1
  isplitl [H8]; · iexact H8
  isplitl [H9]; · iexact H9
  isplitl [H3]; · iexact H3
  iintro %r0 %r1 %r2 ⟨H1, H8, H9, H3⟩
  rw [wp_bind]
  iapply (part2_run c i arg1 harg1 arg2 harg2 arg3 harg3 arg4 harg4 arg5 harg5 arg6 harg6 arg7 harg7 arg8 harg8 arg9 harg9 arg10 harg10 arg11 harg11 arg12 harg12 arg13 T q M SC ht b r1 r2 _)
  isplitl [H2]; · iexact H2
  isplitl [H10]; · iexact H10
  isplitl [H3]; · iexact H3
  iintro %v94 ⟨H2, H10, H3⟩
  rw [wp_bind]
  iapply (part3_run c i arg1 harg1 arg2 harg2 arg3 harg3 arg4 harg4 arg5 harg5 arg6 harg6 arg7 harg7 arg8 harg8 arg9 harg9 arg10 harg10 arg11 harg11 arg12 harg12 arg13 T q SC ht b r1 r2 _ _ _ _)
  isplitl [H2]; · iexact H2
  isplitl [H10]; · iexact H10
  iintro ⟨H2, H10⟩
  rw [wp_bind]
  iapply (part4_run c i arg1 harg1 arg2 harg2 arg3 harg3 arg4 harg4 arg5 harg5 arg6 harg6 arg7 harg7 arg8 harg8 arg9 harg9 arg10 harg10 arg11 harg11 arg12 harg12 arg13 T q SC ht b r1 r2 _ _ _ _ _)
  isplitl [H2]; · iexact H2
  isplitl [H10]; · iexact H10
  iintro ⟨H2, H10⟩
  rw [wp_bind]
  iapply (part5_run c i arg1 harg1 arg2 harg2 arg3 harg3 arg4 harg4 arg5 harg5 arg6 harg6 arg7 harg7 arg8 harg8 arg9 harg9 arg10 harg10 arg11 harg11 arg12 harg12 arg13 T q SC ht b r1 r2 _ _ _ _ _)
  isplitl [H2]; · iexact H2
  isplitl [H10]; · iexact H10
  iintro ⟨H2, H10⟩
  rw [wp_bind]
  iapply (part6_run c i arg1 harg1 arg2 harg2 arg3 harg3 arg4 harg4 arg5 harg5 arg6 harg6 arg7 harg7 arg8 harg8 arg9 harg9 arg10 harg10 arg11 harg11 arg12 harg12 arg13 T q SC ht b r1 r2 _ _ _ _ _ _)
  isplitl [H2]; · iexact H2
  isplitl [H10]; · iexact H10
  iintro ⟨H2, H10⟩
  rw [wp_bind]
  iapply (part7_run c i arg1 harg1 arg2 harg2 arg3 harg3 arg4 harg4 arg5 harg5 arg6 harg6 arg7 harg7 arg8 harg8 arg9 harg9 arg10 harg10 arg11 harg11 arg12 harg12 arg13 (L := lhsOf M SC base t b.val) (P := pickOf M SC base t b.val) rfl rfl)
  rw [wp_bind]
  iapply (part8_run c i arg1 harg1 arg2 harg2 arg3 harg3 arg4 harg4 arg5 harg5 arg6 harg6 arg7 harg7 arg8 harg8 arg9 harg9 arg10 harg10 arg11 harg11 arg12 harg12 arg13 (packOf Y base gran t b.val) EX XB G (lhsOf M SC base t b.val) (pickOf M SC base t b.val) b r0 64#32)
  isplitl [H9]; · iexact H9
  isplitl [H11]; · iexact H11
  isplitl [H5]; · iexact H5
  isplitl [H7]; · iexact H7
  iintro %v313 ⟨H9, H11, H5, H7⟩
  rw [wp_bind]
  iapply (part9_run c i arg1 harg1 arg2 harg2 arg3 harg3 arg4 harg4 arg5 harg5 arg6 harg6 arg7 harg7 arg8 harg8 arg9 harg9 arg10 harg10 arg11 harg11 arg12 harg12 arg13 (packOf Y base gran t b.val) EX XB G (lhsOf M SC base t b.val) (pickOf M SC base t b.val) b _)
  isplitl [H9]; · iexact H9
  isplitl [H11]; · iexact H11
  isplitl [H5]; · iexact H5
  isplitl [H7]; · iexact H7
  iintro %_u ⟨H9, H11, H5, H7⟩
  rw [wp_bind]
  iapply (part10_run c i arg1 harg1 arg2 harg2 arg3 harg3 arg4 harg4 arg5 harg5 arg6 harg6 arg7 harg7 arg8 harg8 arg9 harg9 arg10 harg10 arg11 harg11 arg12 harg12 arg13 (packOf Y base gran t b.val) EX XB G (lhsOf M SC base t b.val) (pickOf M SC base t b.val) b _)
  isplitl [H9]; · iexact H9
  isplitl [H11]; · iexact H11
  isplitl [H5]; · iexact H5
  isplitl [H7]; · iexact H7
  iintro ⟨H9, H11, H5, H7⟩
  icases H7 with ⟨%O, %hO, H7⟩
  rw [wp_bind]
  iapply (Held.wp_load 𝒱₀ (c : Thread nD τ) none Set.univ (m := arg9) (X := packOf Y base gran t b.val) (S := Finset.univ) (Finset.subset_univ _)) $$ H9
  iintro H9
  rw [wp_bind]
  iapply (Held.wp_load 𝒱₀ (c : Thread nD τ) none Set.univ (m := arg11) (X := EX) (S := Finset.univ) (Finset.subset_univ _)) $$ H11
  iintro H11
  rw [wp_bind]
  iapply (Held.wp_load 𝒱₀ (c : Thread nD τ) none Set.univ (m := arg5) (X := XB) (S := Finset.univ) (Finset.subset_univ _)) $$ H5
  iintro H5
  rw [wp_bind]
  iapply (Held.wp_load 𝒱₀ (c : Thread nD τ) none Set.univ (m := arg7) (X := _) (S := Finset.univ) (Finset.subset_univ _)) $$ H7
  iintro H7
  rw [wp_bind]
  iapply (Held.wp_store 𝒱₀ (c : Thread nD τ) none Set.univ (m := arg7)) $$ H7
  iintro H7
  rw [wp_bind]
  iapply (Held.wp_load 𝒱₀ (c : Thread nD τ) none Set.univ (m := arg9) (X := packOf Y base gran t b.val) (S := Finset.univ) (Finset.subset_univ _)) $$ H9
  iintro H9
  rw [wp_bind]
  iapply (Held.wp_load 𝒱₀ (c : Thread nD τ) none Set.univ (m := arg9) (X := packOf Y base gran t b.val) (S := Finset.univ) (Finset.subset_univ _)) $$ H9
  iintro H9
  rw [wp_bind]
  iapply (Held.wp_load 𝒱₀ (c : Thread nD τ) none Set.univ (m := arg11) (X := EX) (S := Finset.univ) (Finset.subset_univ _)) $$ H11
  iintro H11
  rw [wp_bind]
  iapply (Held.wp_load 𝒱₀ (c : Thread nD τ) none Set.univ (m := arg5) (X := XB) (S := Finset.univ) (Finset.subset_univ _)) $$ H5
  iintro H5
  rw [wp_pure]
  imodintro
  rw [show k0_pay30 (F := F) = k0_pay23 from rfl, pk_eq (packOf Y base gran t b.val) 14 rfl, pk_eq (packOf Y base gran t b.val) 15 rfl, ex_eq EX 7 rfl, xb_eq XB b.val 7 (off51_eq b)]
  iapply K
  isplitl [H1 H2 H3 H5 H8 H9 H10 H11]
  · isplitl [H1]; · iexact H1
    isplitl [H2]; · iexact H2
    isplitl [H3]; · iexact H3
    isplitl [H5]; · iexact H5
    isplitl [H8]; · iexact H8
    isplitl [H9]; · iexists _; iexact H9
    isplitl [H10]; · iexact H10
    iexact H11
  iexists _
  isplitr
  rotate_left
  · iexact H7
  ipureintro
  exact (col_put (packOf Y base gran t b.val) EX XB G (lhsOf M SC base t b.val) (pickOf M SC base t b.val) b.val 6 hO (off50_eq b) _
    (cols_eq k0_pay29 rfl (rfl) (pk_eq (packOf Y base gran t b.val) 13 rfl) (ex_eq EX 6 rfl) (xb_eq XB b.val 6 (off50_eq b))))

/-- One block of 64 rows. -/
theorem block_step {t : ℕ} (ht : (i 0).val = t) (hR : Read Y (cut base) t X) (a0 : BitVec 32) (b : Fin k0_t8_loop.trips) (acc : Unit) :
    iprop(tools c arg1 arg2 arg3 arg5 arg8 arg9 arg10 arg11 X q M SC EX XB base gran t
        ∗ (∃ O, ⌜∀ x : S512x2048.Idx, (x 0).val < 64 * b.val → O x = outOf Y M SC EX XB base gran t x⌝ ∗ held (c : Thread nD τ) arg7 Finset.univ fullShare O) : sProp 𝕄)
      ⊢ wp frame (wpE (defs₀ (F := F)) 𝒱₀ (c : Thread nD τ) none) Set.univ (k0_t8_body (F := F) i arg1 harg1 arg2 harg2 arg3 harg3 arg4 harg4 arg5 harg5 arg6 harg6 arg7 harg7 arg8 harg8 arg9 harg9 arg10 harg10 arg11 harg11 arg12 harg12 arg13 a0 b acc)
        fun _ => iprop(tools c arg1 arg2 arg3 arg5 arg8 arg9 arg10 arg11 X q M SC EX XB base gran t
        ∗ (∃ O, ⌜∀ x : S512x2048.Idx, (x 0).val < 64 * (b.val + 1) → O x = outOf Y M SC EX XB base gran t x⌝ ∗ held (c : Thread nD τ) arg7 Finset.univ fullShare O)) := by
  unfold k0_t8_body
  iintro ⟨HT, %O, %hO, H7⟩
  rw [wp_bind]
  iapply (part11_run c i arg1 harg1 arg2 harg2 arg3 harg3 arg4 harg4 arg5 harg5 arg6 harg6 arg7 harg7 arg8 harg8 arg9 harg9 arg10 harg10 arg11 harg11 arg12 harg12 arg13 T Y X q M SC EX XB (outOf Y M SC EX XB base gran t) ht hR b a0 _ _)
  isplitl [HT]; · iexact HT
  isplitl [H7]
  · iexists O
    isplitr
    · ipureintro
      exact ⟨hO, fun x _ h => absurd h (Nat.not_lt_zero _)⟩
    · iexact H7
  iintro %v ⟨HT, %O', %hO', H7⟩
  rw [wp_bind]
  iapply (Held.wp_load 𝒱₀ (c : Thread nD τ) none Set.univ (m := arg7) (X := O') (S := Finset.univ) (Finset.subset_univ _)) $$ H7
  iintro H7
  rw [wp_bind]
  iapply (Held.wp_store 𝒱₀ (c : Thread nD τ) none Set.univ (m := arg7)) $$ H7
  iintro H7
  rw [wp_pure]
  imodintro
  isplitl [HT]; · iexact HT
  iexists _
  isplitr
  rotate_left
  · iexact H7
  ipureintro
  intro x hx
  have r := col_put (packOf Y base gran t b.val) EX XB _ (lhsOf M SC base t b.val) (pickOf M SC base t b.val) b.val 7 hO' (off51_eq b) _ rfl
  by_cases h : (x 0).val < 64 * b.val
  · exact r.1 x h
  · have hd : (x 0).val / 64 = b.val := by omega
    refine (r.2 x hd (show (x 1).val < 256 * 8 from (x 1).isLt)).trans ?_
    unfold outOf
    rw [hd]

/-- The eight blocks of a grid step. -/
theorem blocks {t : ℕ} (ht : (i 0).val = t) (hR : Read Y (cut base) t X) (a0 : BitVec 32) {Q : Unit → sProp 𝕄} :
    iprop(tools c arg1 arg2 arg3 arg5 arg8 arg9 arg10 arg11 X q M SC EX XB base gran t
        ∗ (∃ O, held (c : Thread nD τ) arg7 Finset.univ fullShare O)
        ∗ (tools c arg1 arg2 arg3 arg5 arg8 arg9 arg10 arg11 X q M SC EX XB base gran t
          ∗ held (c : Thread nD τ) arg7 Finset.univ fullShare (outOf Y M SC EX XB base gran t) -∗ Q ⟨⟩) : sProp 𝕄)
      ⊢ wp frame (wpE (defs₀ (F := F)) 𝒱₀ (c : Thread nD τ) none) Set.univ (Scf.Loop.for k0_t8_loop k0_t8_ok ⟨⟩ (k0_t8_body (F := F) i arg1 harg1 arg2 harg2 arg3 harg3 arg4 harg4 arg5 harg5 arg6 harg6 arg7 harg7 arg8 harg8 arg9 harg9 arg10 harg10 arg11 harg11 arg12 harg12 arg13 a0)) Q := by
  iintro ⟨HT, ⟨%O, H7⟩, K⟩
  iapply (Scf.wp_for _ _ _ _ _ _ _ _ _ (fun k _ => iprop(tools c arg1 arg2 arg3 arg5 arg8 arg9 arg10 arg11 X q M SC EX XB base gran t
        ∗ (∃ O, ⌜∀ x : S512x2048.Idx, (x 0).val < 64 * k → O x = outOf Y M SC EX XB base gran t x⌝ ∗ held (c : Thread nD τ) arg7 Finset.univ fullShare O))) ?_)
  · intro k acc
    exact block_step c i arg1 harg1 arg2 harg2 arg3 harg3 arg4 harg4 arg5 harg5 arg6 harg6 arg7 harg7 arg8 harg8 arg9 harg9 arg10 harg10 arg11 harg11 arg12 harg12 arg13 T Y X q M SC EX XB ht hR a0 k acc
  isplitl [HT H7]
  · isplitl [HT]; · iexact HT
    iexists O
    isplitr
    · ipureintro; intro x hx; exact absurd hx (Nat.not_lt_zero _)
    · iexact H7
  rw [show Scf.trips k0_t8_loop.lb k0_t8_loop.ub k0_t8_loop.st = 8 by decide +kernel]
  iintro %acc ⟨HT, %O', %hO, H7⟩
  iapply K
  isplitl [HT]; · iexact HT
  have e : O' = outOf Y M SC EX XB base gran t := funext fun x => hO x (show (x 0).val < 64 * 8 from (x 0).isLt)
  subst e
  iexact H7

end Cert.KernelIdeal.Run
-- ==== Proof.KernelIdeal.Step.lean ====
/-
  A grid step of the kernel, whole.
-/
module

public import proofs.«01_k».proof.Proof.KernelIdeal.Block

@[expose] public section

set_option maxRecDepth 100000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.Fill Cert.KernelIdeal.Gen

variable {F : FTy → Type} [FloatOps F]

local notation "𝕄" => MT nD τ sig Unit (Elt F) ℕ UU ℕ

variable (c : Dev nD) (i : grid0.Coords)
variable (arg1 : Memref sig .tc .smem S192x128 .i32) (harg1 : arg1.IsWhole) (arg2 : Memref sig .tc .smem S192x128 .i32) (harg2 : arg2.IsWhole) (arg3 : Memref sig .tc .vmem S4x4x128 .i32) (harg3 : arg3.IsWhole) (arg4 : Memref sig .tc .vmem S16x49152 .i8) (harg4 : arg4.IsWhole) (arg5 : Memref sig .tc .vmem S512x2048 .bf16) (harg5 : arg5.IsWhole) (arg6 : Memref sig .tc .hbm S49152x2048 .fp8e4m3) (harg6 : arg6.IsWhole) (arg7 : Memref sig .tc .vmem S512x2048 .bf16) (harg7 : arg7.IsWhole) (arg8 : Memref sig .tc .vmem S10240x2048 .fp8e4m3) (harg8 : arg8.IsWhole) (arg9 : Memref sig .tc .vmem S192x2048 .fp8e4m3) (harg9 : arg9.IsWhole) (arg10 : Memref sig .tc .vmem S1536x128 .i32) (harg10 : arg10.IsWhole) (arg11 : Memref sig .tc .vmem S48x2048 .bf16) (harg11 : arg11.IsWhole) (arg12 : Memref sig .tc .smem S2 .i32) (harg12 : arg12.IsWhole) (arg13 : DmaSems sig S2)

variable {base gran : Words.Table} (T : Tables base gran) (Y : S49152x2048.Idx → Elt F .fp8e4m3)
variable (SCT : S16x49152.Idx → Elt F .i8) (q : PosShare TreeShare)
variable (M : S4x4x128.Idx → Elt F .i32) (XB : S512x2048.Idx → Elt F .bf16)

/-- What the body holds before step `t`. -/
def inv (base gran : Words.Table) (t : ℕ) : sProp 𝕄 :=
  iprop((if t = 0 then fresh c arg2 arg6 arg8 arg10 arg11 arg12 arg13 Y q base
          else mid c arg2 arg6 arg8 arg10 arg11 arg12 arg13 Y SCT q base t)
    ∗ (∃ W, held (c : Thread nD τ) arg9 Finset.univ fullShare W)
    ∗ held (c : Thread nD τ) arg1 Finset.univ q (gran : S192x128.Idx → Elt F .i32))

/-- A word of the counts, read. -/
theorem count_at {t : ℕ} (ht : (i 0).val = t) {cnt : S2.Idx → Elt F .i32} (hC : Count (F := F) (cut base) t cnt) (p) :
    cnt ((Rect.unit (s := S2) (k0_off19 i) S1.size (k0_off19_inb i)).emb (Shape.Idx.first p)) = w (P (cut base) t 8) := by
  have hlt : t < 48 := ht ▸ (i 0).isLt
  rw [emb_count (off19_eq i), ht]
  exact hC hlt

/-- Step `t`'s count, read from what is held before the wait. -/
theorem read_count {t : ℕ} (ht : (i 0).val = t) {hn hr} {Q : Elt F .i32 → sProp 𝕄} :
    iprop(ready c arg2 arg6 arg8 arg10 arg11 arg12 arg13 Y SCT q base t
        ∗ (ready c arg2 arg6 arg8 arg10 arg11 arg12 arg13 Y SCT q base t -∗ Q (w (P (cut base) t 8))) : sProp 𝕄)
      ⊢ wp frame (wpE (defs₀ (F := F)) 𝒱₀ (c : Thread nD τ) none) Set.univ (smemLoad arg12 (Rect.unit (s := S2) (k0_off19 i) S1.size (k0_off19_inb i)) hn hr) Q := by
  unfold ready
  iintro ⟨⟨%X, %cnt, %hX, Hy, Hb, H8, HB, HB', H10, H11, H12⟩, K⟩
  iapply (Held.wp_word 𝒱₀ (c : Thread nD τ) none Set.univ (m := arg12) (X := cnt) (S := Finset.univ) (Finset.subset_univ _)) $$ H12
  iintro H12
  rw [count_at i ht hX.2.1]
  iapply K
  iexists X, cnt
  isplitr
  · ipureintro; exact hX
  isplitl [Hy]; · iexact Hy
  isplitl [Hb]; · iexact Hb
  isplitl [H8]; · iexact H8
  isplitl [HB]; · iexact HB
  isplitl [HB']; · iexact HB'
  isplitl [H10]; · iexact H10
  isplitl [H11]; · iexact H11
  iexact H12

/-- The rest of the step, after what it does at its beginning. -/
def tail : Prog (TpuEff nD τ sig (Elt F) Λ₀ .tc) PUnit := do
  let v9 : Elt F .i32 ← smemLoad arg12 (Rect.unit (s := S2) (k0_off19 i) S1.size (k0_off19_inb i)) numel1_S1 rfl
  have k0_hw3 : k0_chk3 v9 := (← Prog.lift (TpuEff.assume (k0_chk3 v9) (k0_chk3.dec v9))).down
  let v12 : DmaSems sig S1 := arg13.slice (Rect.unit (s := S2) (k0_off20 i) S1.size (k0_off20_inb i))
  let v13 : DmaSems sig S_ := v12.squeeze S_ squeezes_S1_S_
  Prog.lift (.waitDma v13.sem arg8.view.ref (⟨2, (k0_off21 v9).2⟩ : Shape) .fp8e4m3 (Or.inl rfl))
  Scf.Loop.for k0_t8_loop k0_t8_ok ⟨⟩ (k0_t8_body i arg1 harg1 arg2 harg2 arg3 harg3 arg4 harg4 arg5 harg5 arg6 harg6 arg7 harg7 arg8 harg8 arg9 harg9 arg10 harg10 arg11 harg11 arg12 harg12 arg13 (BitVec.ofNat 32 (i 0).val))
  pure ⟨⟩

set_option maxHeartbeats 1000000 in
/-- The step is its beginning, the transfers for the next step, and the rest, one after the other. -/
theorem parts : cc0_combine (F := F) i arg1 harg1 arg2 harg2 arg3 harg3 arg4 harg4 arg5 harg5 arg6 harg6 arg7 harg7 arg8 harg8 arg9 harg9 arg10 harg10 arg11 harg11 arg12 harg12 arg13 = (
    (if k0_h1 : k0_cond1 i = 1#1 then do
    let v18 : BitVec 32 ← Scf.Loop.for k0_t1_loop (k0_t1_ok i k0_h1) 0#32 (k0_t1_body i arg1 harg1 arg2 harg2 arg3 harg3 arg4 harg4 arg5 harg5 arg6 harg6 arg7 harg7 arg8 harg8 arg9 harg9 arg10 harg10 arg11 harg11 arg12 harg12 arg13 k0_h1)
    let v19 : Elt F .i32 ← smemLoad arg12 (Rect.unit (s := S2) ![0] S1.size inb_S2_S1_0) numel1_S1 rfl
    Prog.lift (.store arg12 (Rect.unit (s := S2) ![0] S1.size inb_S2_S1_0) (fun _ => v18) Finset.univ (View.stores_smem_one rfl numel1_S1) (.inl rfl))
    Scf.Loop.for k0_t4_loop (k0_t4_ok i k0_h1) ⟨⟩ (k0_t4_body i arg1 harg1 arg2 harg2 arg3 harg3 arg4 harg4 arg5 harg5 arg6 harg6 arg7 harg7 arg8 harg8 arg9 harg9 arg10 harg10 arg11 harg11 arg12 harg12 arg13 k0_h1)
    let v39 : Vec F S48x2048 .bf16 ← Prog.lift (.load arg11 (Rect.unit (s := S48x2048) ![0, 0] S48x2048.size inb_S48x2048_S48x2048_0_0).toLoadRect (View.loadsAt_vmem h_S48x2048))
    Prog.lift (.store arg11 (Rect.unit (s := S48x2048) ![0, 0] S48x2048.size inb_S48x2048_S48x2048_0_0) (k0_pay2 (F := F)) Finset.univ (View.stores_vmem h_S48x2048 (harg11.storeExact_slice rfl _ packedbf16_S48x2048_S48x2048_0_0) (fun _ => rfl)) (.inl rfl))
    pure ⟨⟩
  else do
    pure ⟨⟩ : Prog (TpuEff nD τ sig (Elt F) Λ₀ .tc) PUnit) >>= fun _ =>
    (if k0_h2 : k0_cond2 i = 1#1 then do
    let v20 : BitVec 32 ← Scf.Loop.for k0_t5_loop (k0_t5_ok i k0_h2) 0#32 (k0_t5_body i arg1 harg1 arg2 harg2 arg3 harg3 arg4 harg4 arg5 harg5 arg6 harg6 arg7 harg7 arg8 harg8 arg9 harg9 arg10 harg10 arg11 harg11 arg12 harg12 arg13 k0_h2)
    let v22 : Elt F .i32 ← smemLoad arg12 (Rect.unit (s := S2) (k0_off18 i) S1.size (k0_off18_inb i k0_h2)) numel1_S1 rfl
    Prog.lift (.store arg12 (Rect.unit (s := S2) (k0_off18 i) S1.size (k0_off18_inb i k0_h2)) (fun _ => v20) Finset.univ (View.stores_smem_one rfl numel1_S1) (.inl rfl))
    pure ⟨⟩
  else do
    pure ⟨⟩ : Prog (TpuEff nD τ sig (Elt F) Λ₀ .tc) PUnit) >>= fun _ =>
    tail i arg1 harg1 arg2 harg2 arg3 harg3 arg4 harg4 arg5 harg5 arg6 harg6 arg7 harg7 arg8 harg8 arg9 harg9 arg10 harg10 arg11 harg11 arg12 harg12 arg13) := by
  rw [cc0_combine_eq_skeleton]
  unfold cc0_combine_skel tail
  by_cases h1 : k0_cond1 i = 1#1 <;> by_cases h2 : k0_cond2 i = 1#1 <;>
    simp only [h1, h2, dite_true, dite_false, ↓reduceDIte, bind_assoc, pure_bind] <;> rfl

include T

/-- One grid step: it leaves the rows of the step's block, and what the next step starts from. -/
theorem step {t : ℕ} (ht : (i 0).val = t) (W : Waits sig Unit) :
    iprop(inv c arg1 arg2 arg6 arg8 arg9 arg10 arg11 arg12 arg13 Y SCT q base gran t
        ∗ held (c : Thread nD τ) arg3 Finset.univ fullShare M ∗ held (c : Thread nD τ) arg4 Finset.univ fullShare SCT
        ∗ held (c : Thread nD τ) arg5 Finset.univ fullShare XB ∗ (∃ O, held (c : Thread nD τ) arg7 Finset.univ fullShare O)
        ∗ owes (c : Thread nD τ) 0 W : sProp 𝕄)
      ⊢ wp frame (wpE (defs₀ (F := F)) 𝒱₀ (c : Thread nD τ) none) Set.univ (cc0_combine (F := F) i arg1 harg1 arg2 harg2 arg3 harg3 arg4 harg4 arg5 harg5 arg6 harg6 arg7 harg7 arg8 harg8 arg9 harg9 arg10 harg10 arg11 harg11 arg12 harg12 arg13)
        fun _ => iprop(inv c arg1 arg2 arg6 arg8 arg9 arg10 arg11 arg12 arg13 Y SCT q base gran (t + 1)
          ∗ held (c : Thread nD τ) arg3 Finset.univ fullShare M ∗ held (c : Thread nD τ) arg4 Finset.univ fullShare SCT
          ∗ held (c : Thread nD τ) arg5 Finset.univ fullShare XB
          ∗ held (c : Thread nD τ) arg7 Finset.univ fullShare (outOf Y M (scaleOf SCT) (k0_pay2 (F := F)) XB base gran t)
          ∗ ∃ W', owes (c : Thread nD τ) 0 W') := by
  have hp : P (cut base) t 8 ≤ 136 := P_le T.good t 8
  rw [parts]
  unfold inv
  iintro ⟨⟨HI, H9, H1⟩, H3, H4, H5, H7, HO⟩
  rw [wp_bind]
  iapply (setup c i arg1 harg1 arg2 harg2 arg3 harg3 arg4 harg4 arg5 harg5 arg6 harg6 arg7 harg7 arg8 harg8 arg9 harg9 arg10 harg10 arg11 harg11 arg12 harg12 arg13 T Y SCT q t ht)
  isplitl [HI]; · iexact HI
  isplitl [H4]; · iexact H4
  iintro ⟨HI, H4⟩
  rw [wp_bind]
  iapply (prep c i arg1 harg1 arg2 harg2 arg3 harg3 arg4 harg4 arg5 harg5 arg6 harg6 arg7 harg7 arg8 harg8 arg9 harg9 arg10 harg10 arg11 harg11 arg12 harg12 arg13 T Y SCT q t ht)
  isplitl [HI]; · iexact HI
  iintro HI
  unfold tail
  rw [wp_bind]
  iapply (read_count c i arg2 arg6 arg8 arg10 arg11 arg12 arg13 Y SCT q ht)
  isplitl [HI]; · iexact HI
  iintro HI
  rw [wp_bind]
  iapply (Held.wp_assume 𝒱₀ (c : Thread nD τ) none Set.univ (chk3_of hp))
  rw [wp_bind]
  iapply (wait c i arg2 arg6 arg8 arg10 arg11 arg12 arg13 T Y SCT q t ht _ (tok_eq arg13 (two_pos t) ((off20_eq i).trans (by rw [ht]))) (W := W) rfl)
  isplitl [HI]; · iexact HI
  isplitl [HO]; · iexact HO
  iintro ⟨HI, HO⟩
  unfold after
  icases HI with ⟨%X, %cnt, %hX, Hy, H2, H8, HB, Hs, H10, H11, H12⟩
  rw [wp_bind]
  iapply (blocks c i arg1 harg1 arg2 harg2 arg3 harg3 arg4 harg4 arg5 harg5 arg6 harg6 arg7 harg7 arg8 harg8 arg9 harg9 arg10 harg10 arg11 harg11 arg12 harg12 arg13 T Y X q M (scaleOf SCT) (k0_pay2 (F := F)) XB ht hX.1 _)
  isplitl [H1 H2 H3 H5 H8 H9 H10 H11]
  · unfold tools
    isplitl [H1]; · iexact H1
    isplitl [H2]; · iexact H2
    isplitl [H3]; · iexact H3
    isplitl [H5]; · iexact H5
    isplitl [H8]; · iexact H8
    isplitl [H9]; · iexact H9
    isplitl [H10]; · iexact H10
    iexact H11
  isplitl [H7]; · iexact H7
  unfold tools
  iintro ⟨⟨H1, H2, H3, H5, H8, H9, H10, H11⟩, H7⟩
  rw [wp_pure]
  imodintro
  isplitl [Hy H2 H8 HB Hs H10 H11 H12 H9 H1]
  · isplitl [Hy H2 H8 HB Hs H10 H11 H12]
    · rw [if_neg (Nat.succ_ne_zero t)]
      unfold mid
      iexists X, cnt
      isplitr
      · ipureintro; exact ⟨hX.1.kept Y T.good, hX.2⟩
      isplitl [Hy]; · iexact Hy
      isplitl [H2]; · iexact H2
      isplitl [H8]; · iexact H8
      isplitl [HB]; · iexact HB
      isplitl [Hs]
      · have e : ∀ b b' (h : b < 2) (h' : b' < 2), b = b' → (semVal ((c : Thread nD τ), SemLoc.dma (tok arg13 b h)) 0 : sProp 𝕄) = semVal ((c : Thread nD τ), SemLoc.dma (tok arg13 b' h')) 0 := fun b b' h h' hb => by subst hb; rfl
        iapply (Entails.of_eq (e _ _ (two_pos t) (two_pos (t + 1 + 1)) (by omega)))
        iexact Hs
      isplitl [H10]; · iexact H10
      isplitl [H11]; · iexact H11
      iexact H12
    isplitl [H9]; · iexact H9
    iexact H1
  isplitl [H3]; · iexact H3
  isplitl [H4]; · iexact H4
  isplitl [H5]; · iexact H5
  isplitl [H7]; · iexact H7
  iexists _
  iexact HO

/-- The same, with what follows the step. -/
theorem step_then {t : ℕ} (ht : (i 0).val = t) (W : Waits sig Unit) {Q : PUnit → sProp 𝕄} :
    iprop((inv c arg1 arg2 arg6 arg8 arg9 arg10 arg11 arg12 arg13 Y SCT q base gran t
        ∗ held (c : Thread nD τ) arg3 Finset.univ fullShare M ∗ held (c : Thread nD τ) arg4 Finset.univ fullShare SCT
        ∗ held (c : Thread nD τ) arg5 Finset.univ fullShare XB ∗ (∃ O, held (c : Thread nD τ) arg7 Finset.univ fullShare O)
        ∗ owes (c : Thread nD τ) 0 W)
      ∗ (inv c arg1 arg2 arg6 arg8 arg9 arg10 arg11 arg12 arg13 Y SCT q base gran (t + 1)
          ∗ held (c : Thread nD τ) arg3 Finset.univ fullShare M ∗ held (c : Thread nD τ) arg4 Finset.univ fullShare SCT
          ∗ held (c : Thread nD τ) arg5 Finset.univ fullShare XB
          ∗ held (c : Thread nD τ) arg7 Finset.univ fullShare (outOf Y M (scaleOf SCT) (k0_pay2 (F := F)) XB base gran t)
          ∗ (∃ W', owes (c : Thread nD τ) 0 W') -∗ Q ⟨⟩) : sProp 𝕄)
      ⊢ wp frame (wpE (defs₀ (F := F)) 𝒱₀ (c : Thread nD τ) none) Set.univ (cc0_combine (F := F) i arg1 harg1 arg2 harg2 arg3 harg3 arg4 harg4 arg5 harg5 arg6 harg6 arg7 harg7 arg8 harg8 arg9 harg9 arg10 harg10 arg11 harg11 arg12 harg12 arg13) Q := by
  iintro ⟨H, K⟩
  iapply (wp_wand_r)
  isplitl [H]
  · iapply (step c i arg1 harg1 arg2 harg2 arg3 harg3 arg4 harg4 arg5 harg5 arg6 harg6 arg7 harg7 arg8 harg8 arg9 harg9 arg10 harg10 arg11 harg11 arg12 harg12 arg13 T Y SCT q M XB ht W)
    iexact H
  iintro %a H
  iapply K
  iexact H

end Cert.KernelIdeal.Run
-- ==== Proof.KernelIdeal.Body.lean ====
/-
  The kernel under the pipeline: what every point finds and leaves.
-/
module

public import proofs.«01_k».proof.Proof.KernelIdeal.Step

@[expose] public section

set_option maxRecDepth 100000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.Fill Cert.KernelIdeal.Gen

variable {F : FTy → Type} [FloatOps F]

local notation "𝕄" => MT nD τ sig Unit (Elt F) ℕ UU ℕ

open Idealize.ShloMosaic.Pipeline (Dat Cfg Window BodyObligation BodyObligationLoose cellOf kernel pipe)

variable (m : (ℓ : Loc nD τ sig) → Buf (Elt F) ℓ) (ρ : Dev nD → PrngReg)

/-! ### The contents -/

/-- The state the program is launched from. -/
abbrev s₀ : MemSt nD τ sig (Elt F) := ⟨m, fun _ => 0, ρ⟩

/-- The tables' contents at launch; -/
def pf : pre0.Contents (Elt F) := fun k => m ((((0 : Dev nD)) : Thread nD τ).loc (pre0.ref k))

/-- they are admissible whatever they are. -/
abbrev adm : (pcfg0 (F := F)).Adm := ⟨pf m, trivial⟩
abbrev cfgA : Pipeline.Cfg sig Λ₀ := cfg0 (adm m)

/-- The table of row numbers, and of the ring's words. -/
abbrev baseT : Words.Table := fun x => m ((((0 : Dev nD)) : Thread nD τ).loc main_arg7) x
abbrev granT : Words.Table := fun x => m ((((0 : Dev nD)) : Thread nD τ).loc main_arg6) x

/-- The array of rows. -/
abbrev codes (c : Dev nD) : S49152x2048.Idx → Elt F .fp8e4m3 := m ((c : Thread nD τ).loc main_arg3)

/-- The program's two host operations: the scales transposed, the inputs as one array of rows. -/
abbrev opT : HloOp τ sig (Elt F) := StableHlo.unary main_arg4 main_v0 ((transpose S16x49152 [1, 0] · transposes_S49152x16_S16x49152_1_0) : (⟨S49152x16, .i8⟩ : BufTy).Contents (Elt F) → (⟨S16x49152, .i8⟩ : BufTy).Contents (Elt F))
abbrev opR : HloOp τ sig (Elt F) := StableHlo.reshape main_arg0 main_v1 (rfl : (.bf16 : EltTy) = .bf16) shapeCasts_S6x4096x2048_S24576x2048

/-- The buffers at launch, after the first host operation, and when the kernel is entered. -/
abbrev V₀ (c : Dev nD) : Valuation τ sig (Elt F) := fun b => (s₀ m ρ).mem ((c : Dev nD), b)
abbrev V₁ (c : Dev nD) : Valuation τ sig (Elt F) := (opT : HloOp τ sig (Elt F)).result (V₀ m ρ c)
def V (c : Dev nD) (b : Ref sig .tc) : Buf (Elt F) ((c : Thread nD τ).loc b) := (opR : HloOp τ sig (Elt F)).result (V₁ m ρ c) b

theorem V_of_ne (c : Dev nD) {b : Ref sig .tc} (h : b ≠ main_v0) (h' : b ≠ main_v1) : V m ρ c b = (s₀ m ρ).mem ((c : Thread nD τ).loc b) :=
  (StableHlo.reshape_result_ne _ _ _ _ _ _ (V₁ m ρ c) h').trans (StableHlo.unary_result_ne (τ := τ) (x := main_arg4) (y := main_v0) _ _ _ (V₀ m ρ c) h)

/-- The scales as the kernel reads them, -/
abbrev scalesT (c : Dev nD) : S16x49152.Idx → Elt F .i8 := transpose S16x49152 [1, 0] (m ((c : Thread nD τ).loc main_arg4) : S49152x16.Idx → Elt F .i8) transposes_S49152x16_S16x49152_1_0
/-- and the inputs. -/
abbrev rowsX (c : Dev nD) : S24576x2048.Idx → Elt F .bf16 := shapeCast S24576x2048 (m ((c : Thread nD τ).loc main_arg0) : S6x4096x2048.Idx → Elt F .bf16) shapeCasts_S6x4096x2048_S24576x2048

theorem V_v0 (c : Dev nD) : V m ρ c main_v0 = scalesT m c :=
  (StableHlo.reshape_result_ne _ _ _ _ _ _ (V₁ m ρ c) (r := main_v0) (by decide)).trans (StableHlo.unary_result (Val := Elt F) main_arg4 main_v0 _ _ _ (V₀ m ρ c))

theorem V_v1 (c : Dev nD) : V m ρ c main_v1 = rowsX m c := by
  refine (StableHlo.reshape_result (Val := Elt F) main_arg0 main_v1 rfl shapeCasts_S6x4096x2048_S24576x2048 _ _ (V₁ m ρ c)).trans ?_
  have e : V₁ m ρ c main_arg0 = (s₀ m ρ).mem ((c : Thread nD τ).loc main_arg0) :=
    StableHlo.unary_result_ne (τ := τ) (x := main_arg4) (y := main_v0) _ _ _ (V₀ m ρ c) (r := main_arg0) (by decide)
  rw [e]; rfl

/-! ### The pipeline's proof data -/

/-- A window's block at a point, read off its array at entry. -/
def iblk (c : Dev nD) (w : Fin 4) (t : Fin (cfgA m).N) : (((cfgA m).win w).xblock ((cfgA m).grid.coords t)).Idx → Elt F ((cfgA m).win w).elt :=
  (((cfgA m).win w).blk t).view.read (Elt F) (V m ρ c (Pipeline.arrRef spec0 w))

/-- The rows the body leaves at a point. -/
def outAt (c : Dev nD) (t : Fin (cfgA m).N) : S512x2048.Idx → Elt F .bf16 :=
  outOf (codes m c) (iblk m ρ c 0 t) (scaleOf (scalesT m c)) (k0_pay2 (F := F)) (iblk m ρ c 2 t) (baseT m) (granT m) t.val

/-- What the body holds before point `t`. -/
def Φ (c : Dev nD) (t : ℕ) : sProp 𝕄 :=
  inv c (Memref.whole main_arg6) (Memref.whole main_arg7) (Memref.whole main_arg3) (Memref.whole cc0_scratch0) (Memref.whole cc0_scratch1)
    (Memref.whole cc0_scratch2) (Memref.whole cc0_scratch3) (Memref.whole cc0_scratch4) cc0_scratch5 (codes m c) (scalesT m c) fullShare.right (baseT m) (granT m) t

def dats (_ : Fin 1) (c : Dev nD) : Dat τ (Elt F) Unit ℕ UU ℕ (cfgA m) c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => outAt m ρ c t
  Φ t := Φ m c t.val
  q _ := fullShare
  owed _ := 0

theorem before_w0 (c : Dev nD) (t : Fin (cfgA m).N) (d) : (dats m ρ 0 c).before 0 t d = iblk m ρ c 0 t := by
  rw [(dats m ρ 0 c).before_in_eq_fetched 0 rfl (fun _ => rfl) (fun _ _ _ => rfl) (fun _ => rfl) t d]
  unfold Dat.fetched Dat.blockOf iblk; dsimp only [dats]; rfl
theorem before_w1 (c : Dev nD) (t : Fin (cfgA m).N) (d) : (dats m ρ 0 c).before 1 t d = iblk m ρ c 1 t := by
  rw [(dats m ρ 0 c).before_in_eq_fetched 1 rfl (fun _ => rfl) (fun _ _ _ => rfl) (fun _ => rfl) t d]
  unfold Dat.fetched Dat.blockOf iblk; dsimp only [dats]; rfl
theorem before_w2 (c : Dev nD) (t : Fin (cfgA m).N) (d) : (dats m ρ 0 c).before 2 t d = iblk m ρ c 2 t := by
  rw [(dats m ρ 0 c).before_in_eq_fetched 2 rfl (fun _ => rfl) (fun _ _ _ => rfl) (fun _ => rfl) t d]
  unfold Dat.fetched Dat.blockOf iblk; dsimp only [dats]; rfl
theorem after_w0 (c : Dev nD) (t : Fin (cfgA m).N) : (dats m ρ 0 c).after 0 t = iblk m ρ c 0 t := by dsimp only [dats]; rfl
theorem after_w1 (c : Dev nD) (t : Fin (cfgA m).N) : (dats m ρ 0 c).after 1 t = iblk m ρ c 1 t := by dsimp only [dats]; rfl
theorem after_w2 (c : Dev nD) (t : Fin (cfgA m).N) : (dats m ρ 0 c).after 2 t = iblk m ρ c 2 t := by dsimp only [dats]; rfl
theorem after_w3 (c : Dev nD) (t : Fin (cfgA m).N) : (dats m ρ 0 c).after 3 t = outAt m ρ c t := by dsimp only [dats]; rfl

/-- The scales' window is the whole array at every point. -/
theorem iblk_1 (c : Dev nD) (t : Fin (cfgA m).N) : iblk m ρ c 1 t = scalesT m c := by
  funext y
  unfold iblk
  rw [View.read_apply]
  refine (congrFun (V_v0 m ρ c) _).trans (congrArg (scalesT m c) ?_)
  funext a
  apply Fin.ext
  match a with
  | ⟨0, _⟩ => show 0 * 16 + 1 * (y 0).val = (y 0).val; omega
  | ⟨1, _⟩ => show 0 * 49152 + 1 * (y 1).val = (y 1).val; omega

theorem coords_val (t : Fin (cfgA m).N) : (((cfgA m).grid.coords t) 0).val = t.val := by
  have h : ∀ t : Fin grid0.N, ((grid0.coords t) 0).val = t.val := by decide +kernel
  exact h t

/-! ### The body -/

abbrev st0 (t : Fin (cfgA m).N) : Memref sig .tc .vmem S4x4x128 .i32 := spec0_0.stage ((cfgA m).slots t 0)
abbrev st1 (t : Fin (cfgA m).N) : Memref sig .tc .vmem S16x49152 .i8 := spec0_1.stage ((cfgA m).slots t 1)
abbrev st2 (t : Fin (cfgA m).N) : Memref sig .tc .vmem S512x2048 .bf16 := spec0_2.stage ((cfgA m).slots t 2)
abbrev st3 (t : Fin (cfgA m).N) : Memref sig .tc .vmem S512x2048 .bf16 := spec0_3.stage ((cfgA m).slots t 3)

/-- The kernel at a point and on staging buffers. -/
abbrev kernelAt (t : Fin grid0.N) (s : (w : Fin 4) → Fin (spec0 w).nbuf) : Prog (TpuEff nD τ sig (Elt F) Λ₀ .tc) PUnit :=
  cc0_combine (grid0.coords t) (Memref.whole main_arg6) (Memref.isWhole_whole _) (Memref.whole main_arg7) (Memref.isWhole_whole _) (spec0_0.stage (s 0)) (hstage0_0 ((s 0).cast nbuf0_0)) (spec0_1.stage (s 1)) (hstage0_1 ((s 1).cast nbuf0_1)) (spec0_2.stage (s 2)) (hstage0_2 ((s 2).cast nbuf0_2)) (Memref.whole main_arg3) (Memref.isWhole_whole _) (spec0_3.stage (s 3)) (hstage0_3 ((s 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5

theorem defs_tc : (defs₀ (F := F)) .tc (cfgA m).body = fun a => kernelAt (F := F) a.1 a.2 := rfl
theorem prog_eq (t : Fin (cfgA m).N) : (defs₀ (F := F)) .tc (cfgA m).body ((cfgA m).bodyArgs t ((cfgA m).slots t)) = kernelAt (F := F) t ((cfgA m).slots t) :=
  (congrFun (defs_tc m) _).trans rfl

set_option backward.isDefEq.respectTransparency.types false in
theorem body_obligation (T : Tables (baseT m) (granT m)) (c : Dev nD) : BodyObligation (dats (F := F) m ρ 0 c) (defs₀ (F := F)) 𝒱₀ () Set.univ := fun t => by
  rw [bigSep_W0, bigSep_W0]
  dsimp only
  simp only [before_w0, before_w1, before_w2, after_w0, after_w1, after_w2, after_w3]
  rw [show (dats m ρ 0 c).Φ t.castSucc = Φ m c t.val from rfl, show (dats m ρ 0 c).Φ t.succ = Φ m c (t.val + 1) from rfl]
  unfold Dat.owesAt Pipeline.owesWithin
  rw [show (dats m ρ 0 c).owed t.castSucc = 0 from rfl, show (dats m ρ 0 c).owed t.succ = 0 from rfl]
  iintro ⟨HΦ, ⟨%W, -, HW⟩, ⟨%d0, H0⟩, ⟨%d1, H1⟩, ⟨%d2, H2⟩, ⟨%d3, H3⟩⟩
  rw [iblk_1]
  ihave H0 := (held_of_owns (c : Thread nD τ) (st0 m t) fullShare (iblk m ρ c 0 t)) $$ H0
  ihave H1 := (held_of_owns (c : Thread nD τ) (st1 m t) fullShare (scalesT m c)) $$ H1
  ihave H2 := (held_of_owns (c : Thread nD τ) (st2 m t) fullShare (iblk m ρ c 2 t)) $$ H2
  ihave H3 := (held_of_owns (c : Thread nD τ) (st3 m t) fullShare _) $$ H3
  sl_rw [prog_eq m t]
  unfold Φ kernelAt
  iapply (step_then c _ _ _ _ _ _ _ _ _ _ _ _ _ _ _ _ _ _ _ _ _ _ _ _ _ _ T (codes m c) (scalesT m c) fullShare.right (iblk m ρ c 0 t) (iblk m ρ c 2 t) (coords_val m t) W)
  isplitl [HΦ H0 H1 H2 H3 HW]
  · isplitl [HΦ]; · iexact HΦ
    isplitl [H0]; · iexact H0
    isplitl [H1]; · iexact H1
    isplitl [H2]; · iexact H2
    isplitl [H3]; · iexists _; iexact H3
    iexact HW
  iintro ⟨HΦ, H0, H1, H2, H3, ⟨%W', HW⟩⟩
  isplitl [HΦ]; · iexact HΦ
  isplitl [HW]
  · iexists W'; isplitr
    · ipureintro; exact fun _ _ => Or.inl trivial
    iexact HW
  isplitl [H0]; · iapply (owns_of_held (c : Thread nD τ) (st0 m t) fullShare (iblk m ρ c 0 t)); iexact H0
  isplitl [H1]; · iapply (owns_of_held (c : Thread nD τ) (st1 m t) fullShare (scalesT m c)); iexact H1
  isplitl [H2]; · iapply (owns_of_held (c : Thread nD τ) (st2 m t) fullShare (iblk m ρ c 2 t)); iexact H2
  iapply (owns_of_held (c : Thread nD τ) (st3 m t) fullShare (outAt m ρ c t)); iexact H3

end Cert.KernelIdeal.Run
-- ==== Proof.KernelIdeal.Launch.lean ====
/-
  The whole program: the kernel run at every grid point, and what the memory holds afterwards.
-/
module

public import proofs.«01_k».proof.Proof.KernelIdeal.Body
public import Idealize.ShloMosaic.Lib.Pipeline.Quiescent
public import Idealize.ShloMosaic.Lib.StableHlo.Run

@[expose] public section

set_option maxRecDepth 100000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.Fill Cert.KernelIdeal.Gen

variable {F : FTy → Type} [FloatOps F]

local notation "𝕄" => MT nD τ sig Unit (Elt F) ℕ UU ℕ

open Idealize.ShloMosaic.Rounds
open Idealize.ShloMosaic.Pipeline (Dat Cfg Window BodyObligation BodyObligationLoose cellOf kernel pipe)

variable (m : (ℓ : Loc nD τ sig) → Buf (Elt F) ℓ) (ρ : Dev nD → PrngReg)

/-! ### Whole buffers -/

theorem of_whole (c : Dev nD) (b : Ref sig .tc) (q : PosShare TreeShare) (f : b.ty.Contents (Elt F)) :
    (((c : Thread nD τ).loc b ↦{q} f) : sProp 𝕄) ⊢ held (c : Thread nD τ) (Memref.whole b) Finset.univ q f := by
  iintro H
  iapply (held_of_owns (c : Thread nD τ) (Memref.whole b) q f)
  iapply (Entails.of_eq (owns_whole (c : Thread nD τ) b q f).symm) $$ H

theorem to_whole (c : Dev nD) (b : Ref sig .tc) (q : PosShare TreeShare) (f : b.ty.Contents (Elt F)) :
    (held (c : Thread nD τ) (Memref.whole b) Finset.univ q f : sProp 𝕄) ⊢ ((c : Thread nD τ).loc b ↦{q} f) := by
  iintro H
  iapply (Entails.of_eq (owns_whole (c : Thread nD τ) b q f))
  iapply (owns_of_held (c : Thread nD τ) (Memref.whole b) q f) $$ H

/-! ### The program up to the kernel -/

/-- The references the host operations run within. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

theorem opT_sub : (opT : HloOp τ sig (Elt F)).bufs ⊆ ucRefs := fun b hb =>
  Finset.mem_filter.mpr ⟨StableHlo.unary_bufs_sub _ _ _ _ _ hb, fun h => Bool.false_ne_true (((opT : HloOp τ sig (Elt F)).no_scoped b hb).symm.trans h)⟩

theorem opR_sub : (opR : HloOp τ sig (Elt F)).bufs ⊆ ucRefs := fun b hb =>
  Finset.mem_filter.mpr ⟨StableHlo.reshape_bufs_sub _ _ _ _ _ _ hb, fun h => Bool.false_ne_true (((opR : HloOp τ sig (Elt F)).no_scoped b hb).symm.trans h)⟩

theorem main_eq (c : Dev nD) : main (F := F) c
    = hlo rfl (opT : HloOp τ sig (Elt F)) fun _ => hlo rfl (opR : HloOp τ sig (Elt F)) fun _ =>
        .op (.customCall (Pipeline.entry 0) ()) fun _ => .ret ⟨⟩ := by
  simp only [main, Prog.lift, Prog.bind_op, Prog.bind_ret]
  rfl

set_option backward.isDefEq.respectTransparency.types false in
theorem main_run (c : Dev nD) (Q : PUnit → sProp 𝕄) :
    iprop((iprop(boundary (c : Thread nD τ) ∗ unscopedBufs c (V m ρ c))
            -∗ wp frame (wpE (defs (F := F)) (Variants.lift 𝒱₀) (c : Thread nD τ) none) Set.univ
                (.op (.customCall (Pipeline.entry (0 : Fin 1)) ()) fun _ => .ret ⟨⟩) Q)
        ∗ boundary (c : Thread nD τ) ∗ unscopedBufs c (fun b => m ((c : Thread nD τ).loc b)))
      ⊢ wp frame (wpE defs (Variants.lift 𝒱₀) (c : Thread nD τ) none) Set.univ (main c) Q := by
  rw [main_eq, show unscopedBufs c (V m ρ c) = StableHlo.held (c : Thread nD τ) ucRefs ((opR : HloOp τ sig (Elt F)).result (V₁ m ρ c))
      from unscopedBufs_held c ((opR : HloOp τ sig (Elt F)).result (V₁ m ρ c)),
    show unscopedBufs c (fun b => m ((c : Thread nD τ).loc b)) = StableHlo.held (c : Thread nD τ) ucRefs (V₀ m ρ c)
      from unscopedBufs_held c (V₀ m ρ c)]
  iintro ⟨Hk, Hb⟩
  iapply (StableHlo.wp_hlo_within (Variants.lift 𝒱₀) (c : Thread nD τ) none Set.univ opT_sub) $$ Hb
  iintro Hb
  iapply (StableHlo.wp_hlo_within (Variants.lift 𝒱₀) (c : Thread nD τ) none Set.univ opR_sub) $$ Hb
  iintro Hb
  iapply Hk; iexact Hb

/-! ### Into and out of the kernel -/

/-- The kernel's two semaphores. -/
def osem : Fin 2 → SemLoc sig := fun u => .dma (tok cc0_scratch5 u.val u.isLt)

theorem ownSemFacts : Pipeline.OwnSemFacts spec0 osem := by decide

theorem bigSep_fin2 (Φ : Fin 2 → sProp 𝕄) : bigSep Finset.univ Φ = iprop(Φ 0 ∗ Φ 1) :=
  bigSep_univ_eq_bigSepL [(0 : Fin 2), (1 : Fin 2)] (by decide) (by decide) Φ

theorem ownSems0_eq (c : Dev nD) : (Pipeline.ownSems0 (Ix := Unit) (Name := ℕ) (U := UU) (Lvl := ℕ) (Val := Elt F) (τ := τ) osem c : sProp 𝕄)
    = iprop(semVal ((c : Thread nD τ), SemLoc.dma (tok cc0_scratch5 0 (two_pos 0))) 0 ∗ semVal ((c : Thread nD τ), SemLoc.dma (tok cc0_scratch5 1 (two_pos 1))) 0) := by
  unfold Pipeline.ownSems0; rw [bigSep_fin2]; rfl

theorem prefHeld_pair (c : Dev nD) (q : Fin 2 → PosShare TreeShare) (v : pre0.Contents (Elt F)) :
    (Pipeline.prefHeld pre0 c q v : sProp 𝕄)
      = iprop((((c : Thread nD τ).loc main_arg6) ↦{q 0} (show Buf (Elt F) ((c : Thread nD τ).loc main_arg6) from v 0))
          ∗ (((c : Thread nD τ).loc main_arg7) ↦{q 1} (show Buf (Elt F) ((c : Thread nD τ).loc main_arg7) from v 1))) := by
  unfold Pipeline.prefHeld
  rw [show (Finset.univ : Finset (Fin 2)) = insert 0 {1} from by decide, bigSep_insert (by decide), bigSep_singleton]
  rfl

/-- What enters the kernel, -/
def intoK (c : Dev nD) : sProp 𝕄 :=
  iprop((((c : Thread nD τ).loc main_arg3) ↦{fullShare} m ((c : Thread nD τ).loc main_arg3)) ∗ Pipeline.ownSems0 osem c)
/-- what passes it by, -/
def besideK (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2))
    ∗ (((c : Thread nD τ).loc main_arg4) ↦{fullShare} m ((c : Thread nD τ).loc main_arg4)))
/-- and what leaves it. -/
def fromK (c : Dev nD) : sProp 𝕄 := iprop(∃ q, ((c : Thread nD τ).loc main_arg3) ↦{q} m ((c : Thread nD τ).loc main_arg3))

theorem enter (c : Dev nD) : iprop(Pipeline.unscopedRestP pre0 spec0 c (V m ρ c) ∗ Pipeline.ownSems0 osem c) ⊢ (iprop(intoK m c ∗ besideK m c) : sProp 𝕄) := by
  rw [unscopedRestP0_eq, V_of_ne m ρ c (b := main_arg0) (by decide) (by decide), V_of_ne m ρ c (b := main_arg1) (by decide) (by decide),
    V_of_ne m ρ c (b := main_arg2) (by decide) (by decide), V_of_ne m ρ c (b := main_arg3) (by decide) (by decide), V_of_ne m ρ c (b := main_arg4) (by decide) (by decide)]
  unfold intoK besideK
  iintro ⟨⟨H0, H1, H2, H3, H4⟩, HS⟩
  isplitl [H3 HS]
  · isplitl [H3]; · iexact H3
    iexact HS
  isplitl [H0]; · iexact H0
  isplitl [H1]; · iexact H1
  isplitl [H2]; · iexact H2
  iexact H4

theorem begin_ (c : Dev nD) : iprop(intoK m c ∗ Pipeline.prefHeld pre0 c (fun _ => fullShare.right) (pf m) ∗ Pipeline.scopedRest spec0 c) ⊢ Φ m c 0 := by
  rw [scopedRest0_eq, prefHeld_pair]
  unfold intoK Φ inv
  rw [ownSems0_eq, if_pos rfl]
  unfold fresh
  obtain rfl : c = 0 := Subsingleton.elim _ _
  iintro ⟨⟨H3, HS0, HS1⟩, ⟨H6, H7⟩, ⟨%f0, B0⟩, ⟨%f1, B1⟩, ⟨%f2, B2⟩, ⟨%f3, B3⟩, ⟨%f4, B4⟩⟩
  isplitr [H6 B1]
  · isplitl [H3]; · iexists fullShare; iapply (of_whole 0 main_arg3 fullShare _) $$ H3
    isplitl [H7]; · iapply (of_whole 0 main_arg7 fullShare.right _) $$ H7
    isplitl [B0]; · iexists f0; iapply (of_whole 0 cc0_scratch0 fullShare f0) $$ B0
    isplitl [HS0]; · iexact HS0
    isplitl [HS1]; · iexact HS1
    isplitl [B2]; · iexists f2; iapply (of_whole 0 cc0_scratch2 fullShare f2) $$ B2
    isplitl [B3]; · iexists f3; iapply (of_whole 0 cc0_scratch3 fullShare f3) $$ B3
    iexists f4; iapply (of_whole 0 cc0_scratch4 fullShare f4) $$ B4
  isplitl [B1]; · iexists f1; iapply (of_whole 0 cc0_scratch1 fullShare f1) $$ B1
  iapply (of_whole 0 main_arg6 fullShare.right _) $$ H6

theorem from_last (T : Tables (baseT m) (granT m)) : from_ (cut (baseT m)) 48 0 = ∅ := from_end (cut (baseT m)) 48 C_end

theorem leave (T : Tables (baseT m) (granT m)) (c : Dev nD) : Φ m c 48 ⊢ (iprop(fromK m c ∗ Pipeline.ownSems0 osem c ∗ Pipeline.scopedRest spec0 c) : sProp 𝕄) := by
  rw [scopedRest0_eq, ownSems0_eq]
  unfold Φ inv fromK
  rw [if_neg (by decide)]
  unfold mid begun
  rw [if_neg (by decide), from_last m T, Finset.sdiff_empty]
  iintro ⟨⟨%X, %cnt, -, ⟨%q, H3⟩, H7, B0, HS0, HS1, B2, B3, B4⟩, ⟨%W, B1⟩, H6⟩
  isplitl [H3]; · iexists q; iapply (to_whole c main_arg3 q _) $$ H3
  isplitl [HS0 HS1]
  · isplitl [HS0]; · iexact HS0
    iexact HS1
  isplitl [B0]; · iexists X; iapply (to_whole c cc0_scratch0 fullShare X) $$ B0
  isplitl [B1]; · iexists W; iapply (to_whole c cc0_scratch1 fullShare W) $$ B1
  isplitl [B2]; · iexists _; iapply (to_whole c cc0_scratch2 fullShare _) $$ B2
  isplitl [B3]; · iexists _; iapply (to_whole c cc0_scratch3 fullShare _) $$ B3
  iexists cnt; iapply (to_whole c cc0_scratch4 fullShare cnt) $$ B4

theorem V_pre (c : Dev nD) (k : Fin 2) : V m ρ c (pre0.ref k) = (adm m).1 k := by
  rw [V_of_ne m ρ c (b := pre0.ref k) (by revert k; decide) (by revert k; decide)]
  obtain rfl : c = 0 := Subsingleton.elim _ _
  rfl

/-! ### The run -/

def u₀ : UU := (initOf (Pipeline.PerCore.cells (Pipeline.pinD (pcfgs (F := F)) (fun _ _ => adm m)) (cellOf_inj (fun _ => adm m))) (Pipeline.PerCore.launchToks (Pipeline.pinD (pcfgs (F := F)) (fun _ _ => adm m)) (cellOf_inj (fun _ => adm m))), 1)

/-- What an array holds at the end. -/
def finalA (c : Dev nD) (w : Fin 4) : Buf (Elt F) ((spec0 w).arr.view.loc (c : Thread nD τ)) := (dats m ρ 0 c).arrAt w grid0.N

def QY (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4)

/-- What holds of the memory after the run: the arrays of the pipeline at what its write-backs leave, the tables and every
    argument as they were. -/
def QC : PUnit × MemSt nD τ sig (Elt F) → Prop := fun r =>
  ∀ c : Dev nD, (∀ w : Fin 4, r.2.mem ((spec0 w).arr.view.loc (c : Thread nD τ)) = finalA m ρ c w)
    ∧ (∀ k, r.2.mem ((c : Thread nD τ).loc (pre0.ref k)) = (adm m).1 k) ∧ QY m c r.2

set_option backward.isDefEq.respectTransparency.types false in
theorem run_main (T : Tables (baseT m) (granT m)) : θ_run defs (onTc (τ := τ) (main (F := F))) (s₀ m ρ) (fun r => QC m ρ r ∧ r.2.sem = fun _ => 0) :=
  Pipeline.PerCore.θ_run_region_pf_quiescent pcfgs (fun _ _ => adm m) (dats m ρ) () (cellOf_inj (fun _ => adm m)) (0 : Fin 1) (launch0 (F := F)).win.to₀ ownSemFacts (launch0 (F := F)).pre
    EP defs₀ 𝒱₀ m ρ main
    (hbody := fun c => (body_obligation m ρ T c).loose) (hne := (launch0 (F := F)).block_pos) (harr := (launch0 (F := F)).arr_whole) (hstage := (launch0 (F := F)).stage_whole)
    (howed := fun _ _ => rfl)
    (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m ρ)
    (hmain := main_run m ρ)
    (hsplit := fun c => Pipeline.PerCore.arrays_split (Pipeline.pinD (pcfgs (F := F)) (fun _ _ => adm m)) (dats m ρ) 0 c (launch0 (F := F)).win.arr_inj (launch0 (F := F)).arr_whole
      ((dats m ρ 0 c).share_full fun _ => rfl) (V m ρ c) _ fun _ => rfl)
    (hpf := V_pre m ρ)
    (X := intoK m) (Y := fromK m) (Z := besideK m)
    (hX := fun c => by
      iintro ⟨HU, HS, -, -, -⟩
      imodintro
      iapply (enter m ρ c)
      isplitl [HU]; · iexact HU
      iexact HS)
    (hin := fun c => begin_ m c)
    (hout := fun c => leave m T c)
    (QY := QY m)
    (hY := fun c s' => by
      unfold fromK besideK
      iintro ⟨⟨%q, H3⟩, ⟨H0, H1, H2, H4⟩, HSI⟩
      icombine HSI H0 gives %h0
      icombine HSI H1 gives %h1
      icombine HSI H2 gives %h2
      icombine HSI H3 gives %h3
      icombine HSI H4 gives %h4
      imodintro
      isplitr; · ipureintro; exact ⟨Buf.eq_of_forall_mem_univ h0, Buf.eq_of_forall_mem_univ h1, Buf.eq_of_forall_mem_univ h2, Buf.eq_of_forall_mem_univ h3, Buf.eq_of_forall_mem_univ h4⟩
      iexact HSI)
    (hQ := fun _ h hz => ⟨h, hz⟩)

theorem finalA_in (c : Dev nD) (w : Fin 4) (hw : ((cfgA m).win w).isOut = false) : finalA m ρ c w = V m ρ c (Pipeline.arrRef spec0 w) :=
  (dats (F := F) m ρ 0 c).arrAt_in w hw _

end Cert.KernelIdeal.Run
-- ==== Proof.KernelIdeal.Frame.lean ====
/-
  The run of `KernelIdeal`, good tables given: what the arguments, the result and the semaphores are at the end.
-/
module

public import proofs.«01_k».proof.Proof.KernelIdeal.Launch

@[expose] public section

set_option maxRecDepth 100000

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Words Cert.Chunks Cert.Held Cert.Fill Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- How a run ends, the tables being good: every argument as it was, the result array at what the write-backs leave, every
    semaphore at zero. -/
theorem ends (T : Tables (baseT m) (granT m)) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.mem ((c.tc : Thread nD τ).loc main_v2) = finalA m ρ c 3)
      ∧ r.2.sem = fun _ => 0) :=
  (θ_run defs _ _).mono
    (fun _ h => ⟨fun c => ⟨⟨(h.1 c).2.2.1, (h.1 c).2.2.2.1, (h.1 c).2.2.2.2.1, (h.1 c).2.2.2.2.2.1, (h.1 c).2.2.2.2.2.2,
        ((h.1 c).1 0).trans ((finalA_in m ρ c 0 rfl).trans (V_of_ne m ρ c (b := main_arg5) (by decide) (by decide))),
        by obtain rfl : c = 0 := Subsingleton.elim _ _; exact (h.1 0).2.1 0,
        by obtain rfl : c = 0 := Subsingleton.elim _ _; exact (h.1 0).2.1 1⟩,
        (h.1 c).1 3⟩, h.2⟩)
    (run_main m ρ T)

/-- The quiescent frame. -/
theorem frame (T : Tables (baseT m) (granT m)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).1, h.2⟩) (ends m ρ T)

end Cert.KernelIdeal.Run
-- ==== Proof.Pre.lean ====
/-
  The precondition, read at an index: what each of its arrays says of the words of the tables.
-/
module

public import proofs.«01_k».proof.Proof.Gen.Pre_tables_ok
public import proofs.«01_k».proof.Proof.Words
public import proofs.«01_k».proof.Proof.Fill
public import Idealize.ShloMosaic.Lib.Pipeline.Value
public import Idealize.ShloMosaic.Lib.Affine

@[expose] public section

set_option maxRecDepth 100000

noncomputable section

namespace Cert.Pre_tables_ok.Read

open Idealize.ShloMosaic Cert.Pre_tables_ok Cert.Pre_tables_ok.Facts Cert.Words Cert.Fill

variable [Facts]
variable {F : FTy → Type} [FloatOps F]

theorem ix_eq {r k : ℕ} (x : S192x128.Idx) (h0 : (x 0).val = r) (h1 : (x 1).val = k) : x = ix r k := by
  funext a
  apply Fin.ext
  fin_cases a
  · show (x 0).val = r % 192
    rw [← h0]; exact (Nat.mod_eq_of_lt (x 0).isLt).symm
  · show (x 1).val = k % 128
    rw [← h1]; exact (Nat.mod_eq_of_lt (x 1).isLt).symm

/-- The index of three coordinates, -/
def at3 {n0 n1 n2 : ℕ} (a : Fin n0) (b : Fin n1) (c : Fin n2) : Shape.Idx ⟨3, ![n0, n1, n2]⟩ := fun
  | 0 => a
  | 1 => b
  | 2 => c
/-- of four. -/
def at4 {n0 n1 n2 n3 : ℕ} (a : Fin n0) (b : Fin n1) (c : Fin n2) (d : Fin n3) : Shape.Idx ⟨4, ![n0, n1, n2, n3]⟩ := fun
  | 0 => a
  | 1 => b
  | 2 => c
  | 3 => d

variable (a7 a6 : Words.Table)

/-! ### The arrays the conditions are made of -/

def LO : IVec S48x8 32 := Host.slice S48x8 ![0, 0] ![4, 1] a7 slicesBy_S192x128_S48x8_0s4_0s1
def HI : IVec S48x8 32 := Host.slice S48x8 ![3, 16] ![4, 1] a7 slicesBy_S192x128_S48x8_3s4_16s1
def FIRST : IVec S48x8 32 :=
  broadcastInDim S48x8 ![0, 1] bcast_S1x8_S48x8_0_1 (extractStridedSlice S1x8 ![0, 0] a7 slices_S192x128_S1x8_0_0)
def WORDS : IVec S192x2x48 32 :=
  extractStridedSlice S192x2x48 ![0, 0, 0] (shapeCast S192x2x64 a6 shapeCasts_S192x128_S192x2x64) slices_S192x2x64_S192x2x48_0_0_0
/-- An array of steps and experts at tiles and experts. -/
def UP (v : IVec S48x8 32) : IVec S192x1x1x8 32 :=
  shapeCast S192x1x1x8 (broadcastInDim S48x4x8 ![0, 1, 2] bcast_S48x1x8_S48x4x8_0_1_2 (broadcastInDim S48x1x8 ![0, 2] bcast_S48x8_S48x1x8_0_2 v)) shapeCasts_S48x4x8_S192x1x1x8
def chunk (x f : BitVec 32) : BitVec 32 :=
  Scalar.select (IntOp.cmpi .eq x f) (IntOp.shrsi .host x 5#32) (IntOp.shrsi .host (x + 31#32) 5#32)

theorem LO_at (j : S48x8.Idx) : LO a7 j = a7 (ix (4 * (j 0).val) (j 1).val) :=
  congrArg a7 (ix_eq _ (by show 0 + 4 * (j 0).val = _; omega) (by show 0 + 1 * (j 1).val = _; omega))
theorem HI_at (j : S48x8.Idx) : HI a7 j = a7 (ix (4 * (j 0).val + 3) (16 + (j 1).val)) :=
  congrArg a7 (ix_eq _ (by show 3 + 4 * (j 0).val = _; omega) (by show 16 + 1 * (j 1).val = _; omega))
theorem FIRST_at (j : S48x8.Idx) : FIRST a7 j = a7 (ix 0 (j 1).val) :=
  congrArg a7 (ix_eq _ rfl (by show 0 + (j 1).val = _; omega))
theorem UP_at (v : IVec S48x8 32) (g : Fin 192) (e : Fin 8) : UP v (at4 g 0 0 e) = v (mk2 48 8 (g.val / 4) e.val) := by
  have hg := g.isLt; have he := e.isLt
  unfold UP
  rw [shapeCast_apply _ _ _ (at3 (⟨g.val / 4, by omega⟩ : Fin 48) (⟨g.val % 4, by omega⟩ : Fin 4) e : S48x4x8.Idx) (by
    refine (Shape.rowMajor_val_three _).trans (Eq.trans ?_ (Shape.rowMajor_val_four _).symm)
    show (g.val / 4 * 4 + g.val % 4) * 8 + e.val = ((g.val * 1 + 0) * 1 + 0) * 8 + e.val
    omega)]
  refine congrArg v (mk2_eq _ rfl rfl).symm
theorem WORDS_at (g : Fin 192) (h : Fin 2) (k : Fin 48) : WORDS a6 (at3 g h k) = a6 (ix g.val (64 * h.val + k.val)) := by
  have hg := g.isLt; have hk := k.isLt; have hh := h.isLt
  unfold WORDS
  rw [extractStridedSlice_apply _ _ _ _ (at3 g h (⟨k.val, by omega⟩ : Fin 64) : S192x2x64.Idx) (fun a => by
    fin_cases a
    · show g.val = 0 + g.val; omega
    · show h.val = 0 + h.val; omega
    · show k.val = 0 + k.val; omega),
    shapeCast_apply _ _ _ (ix g.val (64 * h.val + k.val)) (by
      refine (Shape.rowMajor_val_two _).trans (Eq.trans ?_ (Shape.rowMajor_val_three _).symm)
      show (g.val % 192) * 128 + (64 * h.val + k.val) % 128 = (g.val * 2 + h.val) * 64 + k.val
      omega)]

variable (x : FVec F S6x4096x2048 .bf16) (ids : IVec S6x4096x2 32) (wts : FVec F S6x4096x2 .f32) (yc : FVec F S49152x2048 .fp8e4m3)
  (ys : IVec S49152x16 8) (mt : IVec S192x4x128 32)

/-! ### The conditions at an index -/

theorem steps_at (h : (fn x ids wts yc ys mt a6 a7).1 = fun _ => 1#1) (j : S48x8.Idx) :
    0 ≤ (LO a7 j).toInt ∧ (LO a7 j).toInt ≤ (HI a7 j).toInt ∧ (HI a7 j).toInt ≤ 49152 ∧ (HI a7 j - LO a7 j).toInt ≤ 512 := by
  have h := congrFun h j
  change IntOp.andi (IntOp.andi (IntOp.andi (IntOp.cmpi .sge (LO a7 j) 0#32) (IntOp.cmpi .sle (LO a7 j) (HI a7 j)))
    (IntOp.cmpi .sle (HI a7 j) 49152#32)) (IntOp.cmpi .sle (HI a7 j - LO a7 j) 512#32) = 1#1 at h
  simp only [IntOp.andi_eq_one, IntOp.cmpi_sge, IntOp.cmpi_sle] at h
  exact ⟨h.1.1.1, h.1.1.2, h.1.2, h.2⟩

theorem joined_at (h : (fn x ids wts yc ys mt a6 a7).2.1 = fun _ => 1#1) (t e : ℕ) (ht : t < 47) (he : e < 8) :
    LO a7 (mk2 48 8 (t + 1) e) = HI a7 (mk2 48 8 t e) := by
  have h := congrFun h (mk2 47 8 t e)
  change IntOp.cmpi .eq (extractStridedSlice S47x8 ![1, 0] (LO a7) slices_S48x8_S47x8_1_0 (mk2 47 8 t e))
    (extractStridedSlice S47x8 ![0, 0] (HI a7) slices_S48x8_S47x8_0_0 (mk2 47 8 t e)) = 1#1 at h
  rw [IntOp.cmpi_eq] at h
  rw [extractStridedSlice_apply _ _ _ _ (mk2 48 8 (t + 1) e) (fun a => by
      fin_cases a
      · show (t + 1) % 48 = 1 + t % 47
        omega
      · show e % 8 = 0 + e % 8
        omega),
    extractStridedSlice_apply _ _ _ _ (mk2 48 8 t e) (fun a => by
      fin_cases a
      · show t % 48 = 0 + t % 47
        omega
      · show e % 8 = 0 + e % 8
        omega)] at h
  exact h

theorem windows_at (h : (fn x ids wts yc ys mt a6 a7).2.2.1 = fun _ => 1#1) (g k : ℕ) (hg : g < 192) (hk : k < 16) :
    0 ≤ (a7 (ix g k)).toInt := by
  have h := congrFun h (mk2 192 16 g k)
  change IntOp.cmpi .sge (extractStridedSlice S192x16 ![0, 0] a7 slices_S192x128_S192x16_0_0 (mk2 192 16 g k)) 0#32 = 1#1 at h
  rw [IntOp.cmpi_sge, extractStridedSlice_apply _ _ _ _ (ix g k) (fun a => by
      fin_cases a
      · show g % 192 = 0 + g % 192
        omega
      · show k % 128 = 0 + k % 16
        omega)] at h
  exact h

/-- The three arrays of chunks at a tile's step. -/
def C0 (g : Fin 192) (e : Fin 8) : BitVec 32 := UP (fun j => chunk (LO a7 j) (FIRST a7 j)) (at4 g 0 0 e)
def NN (g : Fin 192) (e : Fin 8) : BitVec 32 := UP (fun j => chunk (HI a7 j) (FIRST a7 j) - chunk (LO a7 j) (FIRST a7 j)) (at4 g 0 0 e)
def COLD (g : Fin 192) (e : Fin 8) : BitVec 32 := UP (fun j => (IntOp.cmpi .eq (LO a7 j) (FIRST a7 j)).setWidth 32) (at4 g 0 0 e)

def slotOf (a : BitVec 32) (e : ℕ) : BitVec 32 := IntOp.shrsi .host a 3#32 - 40#32 * BitVec.ofNat 32 e

theorem resident_at (h : (fn x ids wts yc ys mt a6 a7).2.2.2.2.2.2.1 = fun _ => 1#1) (g : Fin 192) (hf : Fin 2) (k : Fin 48) (e : Fin 8)
    {a : BitVec 32} (ha : WORDS a6 (at3 g hf k) = a) :
    (0 ≤ a.toInt ∧ a.toInt < 2560) ∧ (((slotOf a e.val).toInt < 0 ∨ 40 ≤ (slotOf a e.val).toInt) ∨
      ((COLD a7 g e).toInt ≤ (IntOp.remsi .host (slotOf a e.val + (1601#32 - C0 a7 g e)) 40#32).toInt ∧
        (IntOp.remsi .host (slotOf a e.val + (1601#32 - C0 a7 g e)) 40#32).toInt ≤ (NN a7 g e).toInt)) := by
  have h := congrFun h (at4 g hf k e : S192x2x48x8.Idx)
  subst ha
  change IntOp.andi (IntOp.andi (IntOp.cmpi .sge (WORDS a6 (at3 g hf k)) 0#32) (IntOp.cmpi .slt (WORDS a6 (at3 g hf k)) 2560#32))
    (IntOp.ori (IntOp.ori (IntOp.cmpi .slt (slotOf (WORDS a6 (at3 g hf k)) e.val) 0#32) (IntOp.cmpi .sge (slotOf (WORDS a6 (at3 g hf k)) e.val) 40#32))
      (IntOp.andi (IntOp.cmpi .sle (COLD a7 g e) (IntOp.remsi .host (slotOf (WORDS a6 (at3 g hf k)) e.val + (1601#32 - C0 a7 g e)) 40#32))
        (IntOp.cmpi .sle (IntOp.remsi .host (slotOf (WORDS a6 (at3 g hf k)) e.val + (1601#32 - C0 a7 g e)) 40#32) (NN a7 g e)))) = 1#1 at h
  simp only [IntOp.andi_eq_one, IntOp.ori_eq_one, IntOp.cmpi_sge, IntOp.cmpi_sle, IntOp.cmpi_slt] at h
  exact h

end Cert.Pre_tables_ok.Read
-- ==== Proof.PreTables.lean ====
/-
  The precondition gives what the runs use of the tables.
-/
module

public import proofs.«01_k».proof.Proof.Pre

@[expose] public section

set_option maxRecDepth 100000

noncomputable section

namespace Cert.Pre_tables_ok.Read

open Idealize.ShloMosaic Cert.Pre_tables_ok Cert.Pre_tables_ok.Facts Cert.Words Cert.Fill Cert.Chunks

variable [Facts]
variable {F : FTy → Type} [FloatOps F]
variable (a7 a6 : Words.Table) (x : FVec F S6x4096x2048 .bf16) (ids : IVec S6x4096x2 32) (wts : FVec F S6x4096x2 .f32) (yc : FVec F S49152x2048 .fp8e4m3)
  (ys : IVec S49152x16 8) (mt : IVec S192x4x128 32)

/-- A word that reads as a number is that number's word. -/
theorem eq_w {x : BitVec 32} (h : 0 ≤ x.toInt) : x = w x.toInt.toNat := by
  apply BitVec.eq_of_toInt_eq
  rw [toInt_w (by have := BitVec.toInt_lt (x := x); omega)]
  omega

theorem toNat_eq {x : BitVec 32} (h : 0 ≤ x.toInt) : (x.toNat : ℤ) = x.toInt := by
  rw [BitVec.toInt_eq_toNat_cond] at h ⊢
  have := x.isLt
  split at h <;> split <;> omega

theorem LO_mk {t e : ℕ} (ht : t < 48) (he : e < 8) : LO a7 (mk2 48 8 t e) = a7 (ix (4 * t) e) := by
  rw [LO_at, mk2_0 ht, mk2_1 he]
theorem HI_mk {t e : ℕ} (ht : t < 48) (he : e < 8) : HI a7 (mk2 48 8 t e) = a7 (ix (4 * t + 3) (16 + e)) := by
  rw [HI_at, mk2_0 ht, mk2_1 he]
theorem FIRST_mk {t e : ℕ} (he : e < 8) : FIRST a7 (mk2 48 8 t e) = a7 (ix 0 e) := by
  rw [FIRST_at, mk2_1 he]

section
variable (hs : (fn x ids wts yc ys mt a6 a7).1 = fun _ => 1#1) (hj : (fn x ids wts yc ys mt a6 a7).2.1 = fun _ => 1#1)
include hs hj

/-- A step's first row and the row after its last, of an expert: two cuts. -/
theorem cuts {t e : ℕ} (ht : t < 48) (he : e < 8) :
    a7 (ix (4 * t) e) = w (cut a7 t e) ∧ a7 (ix (4 * t + 3) (16 + e)) = w (cut a7 (t + 1) e) ∧
      cut a7 t e ≤ cut a7 (t + 1) e ∧ cut a7 (t + 1) e ≤ 49152 ∧ cut a7 (t + 1) e ≤ cut a7 t e + 512 := by
  have h := steps_at a7 a6 x ids wts yc ys mt hs (mk2 48 8 t e)
  have hl : a7 (ix (4 * t) e) = w (cut a7 t e) := Tables.lo he ht
  have hh : a7 (ix (4 * t + 3) (16 + e)) = w (cut a7 (t + 1) e) := by
    by_cases h1 : t + 1 < 48
    · have h2 := joined_at a7 a6 x ids wts yc ys mt hj t e (by omega) he
      rw [LO_mk a7 h1 he, HI_mk a7 ht he] at h2
      rw [← h2]
      exact Tables.lo he h1
    · obtain rfl : t = 47 := by omega
      unfold cut
      rw [if_neg h1, Nat.mod_eq_of_lt he]
      exact BitVec.eq_of_toNat_eq (toNat_w (BitVec.isLt _)).symm
  rw [LO_mk a7 ht he, HI_mk a7 ht he] at h
  obtain ⟨p0, p1, p2, p3⟩ := h
  have n0 := toNat_eq p0
  have n1 := toNat_eq (p0.trans p1)
  have e0 : cut a7 t e = (a7 (ix (4 * t) e)).toNat := by
    unfold cut; rw [if_pos ht, Nat.mod_eq_of_lt he]
  have e1 : cut a7 (t + 1) e = (a7 (ix (4 * t + 3) (16 + e))).toNat := by
    rw [hh, toNat_w]
    unfold cut; split <;> exact BitVec.isLt _
  have b0 : cut a7 t e ≤ cut a7 (t + 1) e := by omega
  refine ⟨hl, hh, b0, by omega, ?_⟩
  have p4 := p3
  rw [hl, hh, show w (cut a7 (t + 1) e) - w (cut a7 t e) = w (cut a7 (t + 1) e - cut a7 t e) from subi_w b0 (by omega), toInt_w (by omega)] at p4
  omega

theorem good : Good (cut a7) := by
  have aux : ∀ s e, cut a7 s e = cut a7 s (e % 8) := by
    intro s e; unfold cut; rw [Nat.mod_mod]
  have top : ∀ s e, 48 ≤ s → cut a7 s e = cut a7 48 e := by
    intro s e h; unfold cut; rw [if_neg (by omega), if_neg (by omega)]
  have key : ∀ s e, cut a7 s e ≤ cut a7 (s + 1) e ∧ cut a7 (s + 1) e ≤ cut a7 s e + 512 ∧ cut a7 s e ≤ 49152 := by
    intro s e
    rw [aux s, aux (s + 1)]
    have he : e % 8 < 8 := Nat.mod_lt _ (by decide)
    by_cases h : s < 48
    · have := cuts a7 a6 x ids wts yc ys mt hs hj h he
      omega
    · rw [top s _ (by omega), top (s + 1) _ (by omega)]
      have := cuts a7 a6 x ids wts yc ys mt hs hj (t := 47) (by decide) he
      have h48 : cut a7 48 (e % 8) ≤ 49152 := this.2.2.2.1
      omega
  exact ⟨fun s e => (key s e).1, fun s e => (key s e).2.1, fun s e => (key s e).2.2⟩

theorem cmp_w {a b : ℕ} (ha : a < 2 ^ 31) (hb : b < 2 ^ 31) : (IntOp.cmpi .eq (w a) (w b) = 1#1) ↔ a = b := by
  rw [IntOp.cmpi_eq]
  constructor
  · intro h
    have := congrArg BitVec.toNat h
    rwa [toNat_w (by omega), toNat_w (by omega)] at this
  · rintro rfl; rfl

omit [Facts] hs hj in
theorem host_shrsi {a k : ℕ} (h : a < 2 ^ 31) (hk : k < 32) : IntOp.shrsi .host (w a) (w k) = w (a / 2 ^ k) := by
  rw [← shrsi_w h hk]
  show IntOp.shrsi .host (w a) (w k) = IntOp.shrsi .scalar (w a) (w k)
  unfold IntOp.shrsi
  rw [toNat_w (by omega), if_pos hk, if_pos hk]

theorem chunk_w {s e : ℕ} : chunk (w (cut a7 s e)) (w (cut a7 0 e)) = w (C (cut a7) s e) := by
  have G := good a7 a6 x ids wts yc ys mt hs hj
  have h0 := G.top s e
  have h1 := G.top 0 e
  unfold chunk
  rw [show w (cut a7 s e) + 31#32 = w (cut a7 s e + 31) from addi_w _ _,
    show (5#32 : BitVec 32) = w 5 from rfl, host_shrsi (by omega) (by decide), host_shrsi (by omega) (by decide),
    show IntOp.cmpi .eq (w (cut a7 s e)) (w (cut a7 0 e)) = Scalar.cmpi .eq (w (cut a7 s e)) (w (cut a7 0 e)) from rfl,
    select_eq (by omega) (by omega)]
  unfold C
  split
  · rename_i h; rw [h]; rfl
  · rfl

variable (hw : (fn x ids wts yc ys mt a6 a7).2.2.1 = fun _ => 1#1) (hr : (fn x ids wts yc ys mt a6 a7).2.2.2.2.2.2.1 = fun _ => 1#1)
include hw hr

theorem word {g k : ℕ} (hg : g < 192) (hk : k < 128) (hk' : k % 64 < 48) : ∃ e c o, e < 8 ∧ o < 8 ∧
    C (cut a7) (g / 4) e ≤ c + 1 ∧ C (cut a7) 0 e ≤ c ∧ c < C (cut a7) (g / 4 + 1) e ∧ a6 (ix g k) = w ((e * 40 + c % 40) * 8 + o) := by
  have G := good a7 a6 x ids wts yc ys mt hs hj
  have hwd : WORDS a6 (at3 (⟨g, hg⟩ : Fin 192) (⟨k / 64, by omega⟩ : Fin 2) (⟨k % 64, hk'⟩ : Fin 48)) = a6 (ix g k) := by
    rw [WORDS_at]
    show a6 (ix g (64 * (k / 64) + k % 64)) = _
    rw [Nat.div_add_mod]
  have hb := (resident_at a7 a6 x ids wts yc ys mt hr ⟨g, hg⟩ ⟨k / 64, by omega⟩ ⟨k % 64, hk'⟩ 0 hwd).1
  generalize a6 (ix g k) = a at hwd hb ⊢
  obtain ⟨A, rfl, hA⟩ : ∃ A, a = w A ∧ A < 2560 := ⟨_, eq_w hb.1, by omega⟩
  have he : A / 320 < 8 := by omega
  have h := (resident_at a7 a6 x ids wts yc ys mt hr ⟨g, hg⟩ ⟨k / 64, by omega⟩ ⟨k % 64, hk'⟩ ⟨A / 320, he⟩ hwd).2
  have ht : g / 4 < 48 := by omega
  obtain ⟨q0, q1, q2, q3, q4⟩ := cuts a7 a6 x ids wts yc ys mt hs hj ht he
  have q5 : a7 (ix 0 (A / 320)) = w (cut a7 0 (A / 320)) := (cuts a7 a6 x ids wts yc ys mt hs hj (t := 0) (by decide) he).1
  have c1 := C_mono G (g / 4) (A / 320)
  have c3 : C (cut a7) (g / 4 + 1) (A / 320) ≤ 1536 := by
    have := G.top (g / 4 + 1) (A / 320); have := G.top 0 (A / 320)
    unfold C; split <;> omega
  have hslot : slotOf (w A) (A / 320) = w (A / 8 % 40) := by
    unfold slotOf
    rw [show (3#32 : BitVec 32) = w 3 from rfl, host_shrsi (by omega) (by decide),
      show (40#32 : BitVec 32) * BitVec.ofNat 32 (A / 320) = w (40 * (A / 320)) from muli_w 40 (A / 320),
      show w (A / 2 ^ 3) - w (40 * (A / 320)) = w (A / 2 ^ 3 - 40 * (A / 320)) from subi_w (by omega) (by omega)]
    congr 1
    omega
  have hC0 : C0 a7 ⟨g, hg⟩ ⟨A / 320, he⟩ = w (C (cut a7) (g / 4) (A / 320)) := by
    unfold C0
    rw [UP_at]
    show chunk (LO a7 (mk2 48 8 (g / 4) (A / 320))) (FIRST a7 (mk2 48 8 (g / 4) (A / 320))) = _
    rw [LO_mk a7 ht he, FIRST_mk a7 he, q0, q5, chunk_w a7 a6 x ids wts yc ys mt hs hj]
  have hN : NN a7 ⟨g, hg⟩ ⟨A / 320, he⟩ = w (C (cut a7) (g / 4 + 1) (A / 320) - C (cut a7) (g / 4) (A / 320)) := by
    unfold NN
    rw [UP_at]
    show chunk (HI a7 (mk2 48 8 (g / 4) (A / 320))) (FIRST a7 (mk2 48 8 (g / 4) (A / 320)))
      - chunk (LO a7 (mk2 48 8 (g / 4) (A / 320))) (FIRST a7 (mk2 48 8 (g / 4) (A / 320))) = _
    rw [LO_mk a7 ht he, HI_mk a7 ht he, FIRST_mk a7 he, q0, q1, q5, chunk_w a7 a6 x ids wts yc ys mt hs hj, chunk_w a7 a6 x ids wts yc ys mt hs hj]
    exact subi_w c1 (by omega)
  have hcold : (cut a7 (g / 4) (A / 320) = cut a7 0 (A / 320) → 1 ≤ (COLD a7 ⟨g, hg⟩ ⟨A / 320, he⟩).toInt) ∧ 0 ≤ (COLD a7 ⟨g, hg⟩ ⟨A / 320, he⟩).toInt := by
    unfold COLD
    rw [UP_at]
    show (_ → 1 ≤ (((IntOp.cmpi .eq (LO a7 (mk2 48 8 (g / 4) (A / 320))) (FIRST a7 (mk2 48 8 (g / 4) (A / 320)))).setWidth 32 : BitVec 32)).toInt) ∧
      0 ≤ (((IntOp.cmpi .eq (LO a7 (mk2 48 8 (g / 4) (A / 320))) (FIRST a7 (mk2 48 8 (g / 4) (A / 320)))).setWidth 32 : BitVec 32)).toInt
    rw [LO_mk a7 ht he, FIRST_mk a7 he, q0, q5]
    constructor
    · intro h; rw [h, IntOp.cmpi_eq.2 rfl]; decide
    · generalize IntOp.cmpi .eq _ _ = b; revert b; decide
  have hahead : IntOp.remsi .host (slotOf (w A) (A / 320) + (1601#32 - C0 a7 ⟨g, hg⟩ ⟨A / 320, he⟩)) 40#32
      = w ((A / 8 % 40 + (1601 - C (cut a7) (g / 4) (A / 320))) % 40) := by
    rw [hslot, hC0, show (1601#32 : BitVec 32) - w (C (cut a7) (g / 4) (A / 320)) = w (1601 - C (cut a7) (g / 4) (A / 320)) from subi_w (by omega) (by omega),
      show w (A / 8 % 40) + w (1601 - C (cut a7) (g / 4) (A / 320)) = w (A / 8 % 40 + (1601 - C (cut a7) (g / 4) (A / 320))) from addi_w _ _]
    apply BitVec.eq_of_toNat_eq
    rw [IntOp.toNat_remsi _ (by rw [toNat_w (by omega)]; omega) 40 (by decide) (by decide), toNat_w (by omega), toNat_w (by omega)]
  rw [show slotOf (w A) (⟨A / 320, he⟩ : Fin 8).val = slotOf (w A) (A / 320) from rfl, hahead, hN, hslot, toInt_w (by omega), toInt_w (by omega), toInt_w (by omega)] at h
  have L0 := L_zero_le G (g / 4) (A / 320)
  refine ⟨A / 320, C (cut a7) (g / 4) (A / 320) + (A / 8 % 40 + (1601 - C (cut a7) (g / 4) (A / 320))) % 40 - 1, A % 8, he, Nat.mod_lt _ (by decide), ?_⟩
  have hge : C (cut a7) 0 (A / 320) + 1 ≤ C (cut a7) (g / 4) (A / 320) + (A / 8 % 40 + (1601 - C (cut a7) (g / 4) (A / 320))) % 40 := by
    by_cases hc : cut a7 (g / 4) (A / 320) = cut a7 0 (A / 320)
    · have := hcold.1 hc
      have hC : C (cut a7) (g / 4) (A / 320) = C (cut a7) 0 (A / 320) := by unfold C; rw [hc]
      omega
    · have : C (cut a7) 0 (A / 320) + 1 ≤ C (cut a7) (g / 4) (A / 320) := by
        unfold C; rw [if_neg hc, if_pos rfl]; omega
      omega
  refine ⟨by omega, by omega, by omega, ?_⟩
  congr 1
  omega

theorem tables : Tables a7 a6 where
  good := good a7 a6 x ids wts yc ys mt hs hj
  hi := fun _ _ h he => (cuts a7 a6 x ids wts yc ys mt hs hj h he).2.1
  win := fun g k hg hk => windows_at a7 a6 x ids wts yc ys mt hw g k hg hk
  word := fun _ _ hg hk hk' => word a7 a6 x ids wts yc ys mt hs hj hw hr hg hk hk'

end

end Cert.Pre_tables_ok.Read
-- ==== Proof.Value.Lane.lean ====
/-
  The scale word a lane of a block picks, out of the eight windows of scale words.
-/
module

public import proofs.«01_k».proof.Proof.KernelIdeal.Lanes
public import Idealize.ShloMosaic.Lib.Pointwise

@[expose] public section

set_option maxRecDepth 100000

noncomputable section

namespace Cert.KernelIdeal.Run

open Idealize.ShloMosaic Idealize.ShloMosaic.TcCoe
open Cert.Words Cert.Chunks Cert.Fill Cert.KernelIdeal.Gen

variable {F : FTy → Type} [FloatOps F]

/-- The scale word of lane `r`: of the window of the lane's expert `e`, in one of its two groups of four rows. -/
theorem scaleWords_at (v50 : IVec S1x128 32) (s : ℕ → Vec F S8x128 .i32) (q : Fin 4) (r : Fin 128) {sx e : ℕ}
    (hs : IntOp.andi (IntOp.shrsi .vector (v50 (ix2 0 r)) 8#32) 255#32 = w sx) (hsx : sx < 256)
    (hv : IntOp.shrsi .vector (v50 (ix2 0 r)) 16#32 = w e) (he : e < 8) :
    (scaleWords v50 s).1 (ix2 q r) = s e (ix2 ⟨q.val + (if 128 ≤ sx then 4 else 0), by split <;> omega⟩ ⟨sx % 128, by omega⟩) := by
  have hlane : IntOp.andi (w sx) 127#32 = w (sx % 128) := by
    have hd : ∀ n : Fin 256, IntOp.andi (w n.val) 127#32 = w (n.val % 128) := by decide
    exact hd ⟨sx, hsx⟩
  have hneg : IntOp.cmpi .slt (w (sx % 128)) 0#32 = 0#1 := by
    have hd : ∀ n : Fin 128, IntOp.cmpi .slt (w n.val) 0#32 = 0#1 := by decide
    exact hd ⟨sx % 128, by omega⟩
  have hge : IntOp.cmpi .sge (w sx) 128#32 = if 128 ≤ sx then 1#1 else 0#1 := by
    have h1 : (w sx).toInt = sx := toInt_w (by omega)
    have h2 : (128#32 : BitVec 32).toInt = 128 := by decide
    simp only [IntOp.cmpi, BitVec.sle_eq_decide, h1, h2]
    by_cases h : 128 ≤ sx
    · have : (128 : ℤ) ≤ sx := by omega
      simp [h, this]
    · have : ¬ (128 : ℤ) ≤ sx := by omega
      simp [h, this]
  have hlt : (w (sx % 128)).toNat % 128 = sx % 128 := by rw [toNat_w (by omega)]; omega
  unfold scaleWords k0_pay18 k0_pay17 k0_pay16 k0_pay15 k0_pay14 k0_pay13 k0_pay12 k0_pay11 k0_pay10 k0_pay9 k0_pay8 k0_pay7
  pointwise
  simp only [hs, hv]
  simp only [hlane, hneg, hge, Scalar.select, hlt]
  have c0 : (IntOp.cmpi .eq (w e) 0#32 = 1) = (e = 0) := by
    interval_cases e <;> decide
  have c1 : (IntOp.cmpi .eq (w e) 1#32 = 1) = (e = 1) := by
    interval_cases e <;> decide
  have c2 : (IntOp.cmpi .eq (w e) 2#32 = 1) = (e = 2) := by
    interval_cases e <;> decide
  have c3 : (IntOp.cmpi .eq (w e) 3#32 = 1) = (e = 3) := by
    interval_cases e <;> decide
  have c4 : (IntOp.cmpi .eq (w e) 4#32 = 1) = (e = 4) := by
    interval_cases e <;> decide
  have c5 : (IntOp.cmpi .eq (w e) 5#32 = 1) = (e = 5) := by
    interval_cases e <;> decide
  have c6 : (IntOp.cmpi .eq (w e) 6#32 = 1) = (e = 6) := by
    interval_cases e <;> decide
  have c7 : (IntOp.cmpi .eq (w e) 7#32 = 1) = (e = 7) := by
    interval_cases e <;> decide
  have hz : ((0#1 : BitVec 1) = 1) = False := by decide
  have ho : ((1#1 : BitVec 1) = 1) = True := by decide
  simp only [c0, c1, c2, c3, c4, c5, c6, c7, hz, if_false, hlt]
  by_cases h : 128 ≤ sx
  · simp only [h, if_true, ho, Nat.add_comm 4]
    interval_cases e <;> simp
  · simp only [h, if_false, hz, Nat.add_zero]
    interval_cases e <;> simp

end Cert.KernelIdeal.Run
-- ==== Proof.Value.Dots.lean ====
/-
  The block's two products over the extended reals: the one-hot product takes a row, the scale product takes a scale.
-/
module

public import proofs.«01_k».proof.Proof.KernelIdeal.Lanes
public import Idealize.ShloMosaic.Lib.Pointwise
public import Idealize.ShloMosaic.Lib.IdealHost

@[expose] public section

set_option maxRecDepth 100000

noncomputable section

namespace Cert.KernelIdeal.Run

open Idealize.ShloMosaic Idealize.ShloMosaic.TcCoe
open Cert.Words Cert.Chunks Cert.Fill Cert.KernelIdeal.Gen

/-- A word's arithmetic right shift, of a number. -/
theorem shr_vec {a k : ℕ} (h : a < 2 ^ 31) (hk : k < 32) : IntOp.shrsi .vector (w a) (w k) = w (a / 2 ^ k) := by
  rw [← shrsi_w h hk]
  show IntOp.shrsi .vector (w a) (w k) = IntOp.shrsi .scalar (w a) (w k)
  unfold IntOp.shrsi
  rw [toNat_w (by omega), if_pos hk, if_pos hk]

/-- The expand matrix: column `k` reads the scale of its group of 128. -/
theorem expand_at (j : Fin 48) (k : Fin 2048) : (k0_pay2 (F := Ideal)) (ix2 j k) = if j.val % 16 = 4 * (k.val / 128 % 4) + k.val / 512 then 1 else 0 := by
  unfold k0_pay2
  pointwise
  have hs : IntOp.shrsi .vector (w k.val) 7#32 = w (k.val / 128) := shr_vec (by omega) (by decide)
  have key : ∀ j : Fin 48, ∀ g : Fin 16, IntOp.cmpi .eq (IntOp.andi (w j.val) 15#32)
      (IntOp.addi (IntOp.muli (IntOp.andi (w g.val) 3#32) 4#32) (IntOp.shrsi .vector (w g.val) 2#32)) = if j.val % 16 = 4 * (g.val % 4) + g.val / 4 then 1 else 0 := by
    decide +kernel
  rw [hs]
  have hk := key j ⟨k.val / 128, by omega⟩
  simp only [] at hk
  rw [hk, show k.val / 128 / 4 = k.val / 512 by omega]
  split <;> rfl

variable (v56 : FVec Ideal S1x128 .f32) (v58 : IVec S1x128 32) (v260 v264 : IVec S4x128 32)

/-- The one-hot matrix: lane `r` picks the row its descriptor names. -/
theorem pick_at (r : Fin 128) (k : Fin 192) {p : ℕ} (hp : p < 192) (hv : v58 (ix2 0 r) = w p) :
    k0_pay22 v56 v58 v260 v264 (ix2 r k) = if k.val = p then 1 else 0 := by
  unfold k0_pay22 k0_pay20
  pointwise
  rw [hv]
  have h1 : (FloatOps.sitofp FTy.f32 (w p) : Ideal .f32) = ((((w p).toInt : ℤ) : ℝ) : EReal) := rfl
  have h2 : (FloatOps.sitofp FTy.f32 (w k.val) : Ideal .f32) = ((((w k.val).toInt : ℤ) : ℝ) : EReal) := rfl
  rw [h1, h2, toInt_w (by omega), toInt_w (by omega)]
  refine if_congr ?_ rfl rfl
  rw [EReal.coe_eq_coe_iff, Int.cast_natCast, Int.cast_natCast, Nat.cast_inj]
  exact eq_comm

/-- Weight times scale, of byte `b` of scale word `q` of a lane. -/
def wsAt (r : Fin 128) (b q : Fin 4) : EReal :=
  Ideal.ofBits .f32 (IntOp.shli .vector (IntOp.andi (IntOp.shrsi .vector (v260 (ix2 q r)) (w (8 * b.val))) 255#32) 23#32) * v56 (ix2 0 r)

/-- The scale row of each lane: its sixteen products, -/
theorem lhs_lo (h4 : ∀ q r, v264 (ix2 q r) = IntOp.andi (IntOp.shrsi .vector (v260 (ix2 q r)) 0#32) 255#32) (r : Fin 128) {j : ℕ} (hj : j < 16) :
    k0_pay21 v56 v58 v260 v264 (ix2 r ⟨j, by omega⟩) = wsAt v56 v260 r ⟨j / 4, by omega⟩ ⟨j % 4, by omega⟩ := by
  unfold k0_pay21 k0_pay20 wsAt
  interval_cases j <;> (pointwise [h4]; try rfl)

/-- their sixteen differences from themselves, -/
theorem lhs_mid (h4 : ∀ q r, v264 (ix2 q r) = IntOp.andi (IntOp.shrsi .vector (v260 (ix2 q r)) 0#32) 255#32) (r : Fin 128) {j : ℕ} (hj : j < 16) :
    k0_pay21 v56 v58 v260 v264 (ix2 r ⟨16 + j, by omega⟩)
      = wsAt v56 v260 r ⟨j / 4, by omega⟩ ⟨j % 4, by omega⟩ - wsAt v56 v260 r ⟨j / 4, by omega⟩ ⟨j % 4, by omega⟩ := by
  unfold k0_pay21 k0_pay20 wsAt
  interval_cases j <;> (pointwise [h4]; try rfl)

set_option maxHeartbeats 1000000 in
/-- and what those differences leave. -/
theorem lhs_low (h4 : ∀ q r, v264 (ix2 q r) = IntOp.andi (IntOp.shrsi .vector (v260 (ix2 q r)) 0#32) 255#32) (r : Fin 128) {j : ℕ} (hj : j < 16) :
    k0_pay21 v56 v58 v260 v264 (ix2 r ⟨32 + j, by omega⟩)
      = wsAt v56 v260 r ⟨j / 4, by omega⟩ ⟨j % 4, by omega⟩ - wsAt v56 v260 r ⟨j / 4, by omega⟩ ⟨j % 4, by omega⟩
        - (wsAt v56 v260 r ⟨j / 4, by omega⟩ ⟨j % 4, by omega⟩ - wsAt v56 v260 r ⟨j / 4, by omega⟩ ⟨j % 4, by omega⟩) := by
  unfold k0_pay21 k0_pay20 wsAt
  interval_cases j <;> (pointwise [h4]; try rfl)

/-- The last two are zero where the products are finite. -/
theorem lhs_hi (h4 : ∀ q r, v264 (ix2 q r) = IntOp.andi (IntOp.shrsi .vector (v260 (ix2 q r)) 0#32) 255#32) (r : Fin 128)
    (hf : ∀ b q, ∃ x : ℝ, wsAt v56 v260 r b q = (x : EReal)) {j : ℕ} (h : 16 ≤ j) (hj : j < 48) :
    k0_pay21 v56 v58 v260 v264 (ix2 r ⟨j, by omega⟩) = 0 := by
  have hs : ∀ b q, wsAt v56 v260 r b q - wsAt v56 v260 r b q = 0 := by
    intro b q
    obtain ⟨x, hx⟩ := hf b q
    rw [hx, ← EReal.coe_sub, sub_self, EReal.coe_zero]
  by_cases h2 : j < 32
  · obtain ⟨i, rfl⟩ : ∃ i, j = 16 + i := ⟨j - 16, by omega⟩
    rw [lhs_mid v56 v58 v260 v264 h4 r (by omega), hs]
  · obtain ⟨i, rfl⟩ : ∃ i, j = 32 + i := ⟨j - 32, by omega⟩
    rw [lhs_low v56 v58 v260 v264 h4 r (by omega), hs]
    simp

/-- A sum with one term that is not zero. -/
theorem sum_pick {n : ℕ} (a b : Fin n → EReal) (p : Fin n) (ha : ∀ k, k ≠ p → a k * b k = 0) : ∑ k, a k * b k = a p * b p :=
  Finset.sum_eq_single p (fun k _ h => ha k h) (fun h => absurd (Finset.mem_univ p) h)

/-- A column of the block: the input plus, of the two choices, the picked row's entry times the scale. -/
theorem col_at (lhs : FVec Ideal S128x48 .bf16) (pick : FVec Ideal S128x192 .fp8e4m3) (p0 p1 : Vec Ideal S192x128 .fp8e4m3)
    (ex : Vec Ideal S48x256 .bf16) (xb : Vec Ideal S64x256 .bf16) (r : Fin 64) (k : Fin 256) (A S : ℕ → EReal)
    (hA : ∀ r : Fin 128, ∑ x : Fin 192, pick (ix2 r x) * (if h : k.val < 128 then p0 (ix2 x ⟨k.val, h⟩) else p1 (ix2 x ⟨k.val - 128, by omega⟩)) = A r.val)
    (hS : ∀ r : Fin 128, ∑ x : Fin 48, lhs (ix2 r x) * ex (ix2 x k) = S r.val) :
    k0_pay23 lhs pick p0 p1 ex xb (ix2 r k) = xb (ix2 r k) + (A r.val * S r.val + A (64 + r.val) * S (64 + r.val)) := by
  unfold k0_pay23
  pointwise
  have e1 := hA ⟨r.val, by omega⟩
  have e2 := hA ⟨64 + r.val, by omega⟩
  have e3 := hS ⟨r.val, by omega⟩
  have e4 := hS ⟨64 + r.val, by omega⟩
  simp only [] at e1 e2 e3 e4
  rw [e1, e2, e3, e4]

end Cert.KernelIdeal.Run
-- ==== Proof.Value.Scale.lean ====
/-
  A scale byte as a power of two: as the kernel builds it from a word's bits, and as the reference computes it.
-/
module

public import proofs.«01_k».proof.Proof.Words
public import Idealize.ShloMosaic.Lib.Pointwise
public import Idealize.ShloMosaic.Lib.IdealHost

@[expose] public section

noncomputable section

namespace Cert.Scale

open Idealize.ShloMosaic Cert.Words

/-- The scale of a byte. -/
def two (n : ℕ) : EReal := (((2 : ℝ) ^ ((n : ℤ) - 127) : ℝ) : EReal)

/-- The kernel's: the byte at the exponent's place. -/
theorem bits_scale {n : ℕ} (h1 : 1 ≤ n) (h2 : n ≤ 254) : Ideal.ofBits .f32 (IntOp.shli .vector (w n) 23#32) = two n := by
  have hs : IntOp.shli .vector (w n) 23#32 = w (n * 2 ^ 23) := by
    unfold IntOp.shli
    apply BitVec.eq_of_toNat_eq
    have e : (23#32 : BitVec 32).toNat = 23 := rfl
    rw [e, if_pos (by decide), BitVec.shiftLeft_eq', BitVec.toNat_shiftLeft, e, toNat_w (by omega), toNat_w (by omega), Nat.shiftLeft_eq]
    omega
  rw [hs]
  show Ideal.ieee 8 23 (w (n * 2 ^ 23)) = _
  unfold Ideal.ieee
  have hx : ((w (n * 2 ^ 23)).extractLsb' 23 8).toNat = n := by
    rw [BitVec.extractLsb'_toNat, toNat_w (by omega), Nat.shiftRight_eq_div_pow]; omega
  have hf : ((w (n * 2 ^ 23)).extractLsb' 0 23).toNat = 0 := by
    rw [BitVec.extractLsb'_toNat, toNat_w (by omega), Nat.shiftRight_eq_div_pow]; omega
  have hn : ((w (n * 2 ^ 23)).extractLsb' 31 1).toNat = 0 := by
    rw [BitVec.extractLsb'_toNat, toNat_w (by omega), Nat.shiftRight_eq_div_pow]; omega
  have hn' : (w (n * 2 ^ 23)).extractLsb' (8 + 23) 1 = 0#1 := BitVec.eq_of_toNat_eq hn
  rw [hn']
  simp only [hx, hf]
  rw [if_neg (by omega), if_neg (by omega)]
  unfold two
  refine congrArg _ ?_
  have e : ((n : ℤ) - (2 ^ (8 - 1) - 1) - ((23 : ℕ) : ℤ)) = ((n : ℤ) - 127) - 23 := by norm_num
  rw [e, zpow_sub₀ (by norm_num : (2 : ℝ) ≠ 0)]
  norm_num
  exact mul_div_cancel₀ _ (by norm_num)

/-- The reference's: two to the byte less 127. -/
theorem host_scale (b : BitVec 8) {n : ℕ} (h1 : 1 ≤ n) (h2 : n ≤ 254) (h : b.toNat = n) :
    FloatOps.hostPowf (F := Ideal) (φ := .f32) (FloatOps.ofBits .f32 0x40000000#32) (FloatOps.sitofp .f32 (IntOp.subi (b.setWidth 32) 127#32)) = two n := by
  have e2 : (FloatOps.ofBits (F := Ideal) .f32 0x40000000#32) = ((2 : ℝ) : EReal) := by
    show Ideal.ieee 8 23 0x40000000#32 = _
    unfold Ideal.ieee
    have hx : ((0x40000000#32 : BitVec 32).extractLsb' 23 8).toNat = 128 := by decide
    have hf : ((0x40000000#32 : BitVec 32).extractLsb' 0 23).toNat = 0 := by decide
    have hn : (0x40000000#32 : BitVec 32).extractLsb' (8 + 23) 1 = 0#1 := by decide
    rw [hn]
    simp only [hx, hf]
    rw [if_neg (by omega), if_neg (by omega)]
    refine congrArg _ ?_
    norm_num
  have ei : (IntOp.subi (b.setWidth 32) 127#32).toInt = (n : ℤ) - 127 := by
    unfold IntOp.subi
    have hb : (b.setWidth 32).toNat = n := by rw [BitVec.toNat_setWidth, h]; omega
    rw [BitVec.toInt_sub, BitVec.toInt_eq_toNat_cond, hb]
    have e : (127#32 : BitVec 32).toInt = 127 := rfl
    rw [e, if_pos (by omega), Int.bmod_def]
    split <;> omega
  rw [e2]
  show Ideal.pow ((2 : ℝ) : EReal) (((IntOp.subi (b.setWidth 32) 127#32).toInt : ℝ) : EReal) = _
  rw [ei]
  show ((Real.rpow 2 (((n : ℤ) - 127 : ℤ) : ℝ) : ℝ) : EReal) = _
  unfold two
  refine congrArg _ ?_
  exact Real.rpow_intCast 2 ((n : ℤ) - 127)

end Cert.Scale
-- ==== Proof.Value.Block.lean ====
/-
  The kernel's result at an index of a grid step's rows: the input plus, of the two choices, code times scale times weight.
-/
module

public import proofs.«01_k».proof.Proof.KernelIdeal.Lanes
public import proofs.«01_k».proof.Proof.KernelIdeal.Setup
public import proofs.«01_k».proof.Proof.Value.Lane
public import proofs.«01_k».proof.Proof.Value.Dots
public import proofs.«01_k».proof.Proof.Value.Scale
public import Idealize.ShloMosaic.Lib.BitcastFour

@[expose] public section

set_option maxRecDepth 100000

noncomputable section

namespace Cert.KernelIdeal.Run

open Idealize.ShloMosaic Idealize.ShloMosaic.TcCoe
open Cert.Words Cert.Chunks Cert.Fill Cert.KernelIdeal.Gen

/-- Within bounds, the index at two naturals is the index at two bounded numbers. -/
theorem mk2_ix {R K : ℕ} [NeZero R] [NeZero K] {a b : ℕ} (ha : a < R) (hb : b < K) : mk2 R K a b = ix2 ⟨a, ha⟩ ⟨b, hb⟩ := by
  funext d
  apply Fin.ext
  match d with
  | ⟨0, _⟩ => exact Nat.mod_eq_of_lt ha
  | ⟨1, _⟩ => exact Nat.mod_eq_of_lt hb

/-- Byte `b` of a word made of four bytes of a column. -/
theorem byte_of (x : S16x128.Idx → BitVec 8) (h : S16x128.Bitcasts 8 S4x128 32) (q b : Fin 4) (l : Fin 128) :
    IntOp.andi (IntOp.shrsi .vector (bitcast S4x128 32 x h (ix2 q l)) (w (8 * b.val))) 255#32 = w (x (ix2 ⟨4 * q.val + b.val, by omega⟩ l)).toNat := by
  have e : w (x (ix2 ⟨4 * q.val + b.val, by omega⟩ l)).toNat = (x (ix2 ⟨4 * q.val + b.val, by omega⟩ l)).setWidth 32 := by
    apply BitVec.eq_of_toNat_eq
    rw [toNat_w (by have := (x (ix2 ⟨4 * q.val + b.val, by omega⟩ l)).isLt; omega), BitVec.toNat_setWidth]
    have := (x (ix2 ⟨4 * q.val + b.val, by omega⟩ l)).isLt
    omega
  rw [e]
  have hb : (w (8 * b.val)).toNat = 8 * b.val := toNat_w (by omega)
  apply BitVec.eq_of_getLsbD_eq
  intro i hi
  have h255 : (255#32 : BitVec 32).getLsbD i = decide (i < 8) := by
    interval_cases i <;> rfl
  unfold IntOp.andi IntOp.shrsi BitVec.sshiftRight'
  rw [hb, if_pos (by omega), BitVec.getLsbD_and, h255, BitVec.getLsbD_setWidth]
  by_cases h8 : i < 8
  · have e8 : (8 * b.val + i) % 8 = i := by omega
    have hlt : 8 * b.val + i < 32 := by omega
    have hbit : (bitcast S4x128 32 x h (ix2 q l)).getLsbD (8 * b.val + i) = (x (ix2 ⟨4 * q.val + b.val, by omega⟩ l)).getLsbD i := by
      have := bitcast_8_32_getLsbD_ix2 (R := 16) (r := 4) x h q l (8 * b.val + i) (by omega) ⟨4 * q.val + b.val, by omega⟩ (by simp only []; omega)
      rw [e8] at this
      exact this
    rw [BitVec.getLsbD_sshiftRight, if_pos hlt, hbit, decide_eq_true h8, decide_eq_true hi, decide_eq_false (by omega : ¬ 32 ≤ i), Bool.not_false, Bool.true_and, Bool.and_true]
  · have := (x (ix2 ⟨4 * q.val + b.val, by omega⟩ l)).getLsbD_of_ge i (by omega)
    simp [h8, this]

variable (Y : S49152x2048.Idx → Elt Ideal .fp8e4m3) (M : S4x4x128.Idx → BitVec 32) (SCT : S16x49152.Idx → BitVec 8)
  (base gran : Words.Table) (XB : S512x2048.Idx → Elt Ideal .bf16)

/-- What a lane of a block says of the route it serves. -/
structure Entry (t b : ℕ) (r : Fin 128) (p sx e row : ℕ) (wt : ℝ) : Prop where
  hp : p < 192
  hsx : sx < 256
  he : e < 8
  hrow : row < 49152
  pick : IntOp.andi (M (m3 (b / 2) (b % 2) r.val)) 255#32 = w p
  scale : IntOp.andi (IntOp.shrsi .vector (M (m3 (b / 2) (b % 2) r.val)) 8#32) 255#32 = w sx
  owner : IntOp.shrsi .vector (M (m3 (b / 2) (b % 2) r.val)) 16#32 = w e
  from_ : cut base t e ≤ row
  upto_ : row < cut base (t + 1) e
  window : sx + 128 * min ((base (ix (4 * t + b / 2) (b % 2 * 8 + e))).toNat / 128) 382 = row
  slot : (gran (ix (4 * t + b / 2) (b % 2 * 64 + p / 4))).toNat * 4 + p % 4 = (e * 40 + row / 32 % 40) * 32 + row % 32
  weight : Ideal.ofBits .f32 (M (m3 (b / 2) (2 + b % 2) r.val)) = (wt : EReal)
  bytes : ∀ k : Fin 16, 1 ≤ (SCT (ix2 k ⟨row, hrow⟩)).toNat ∧ (SCT (ix2 k ⟨row, hrow⟩)).toNat ≤ 254

variable {Y M SCT base gran}
variable {t b : ℕ} {r : Fin 128} {p sx e row : ℕ} {wt : ℝ} (E : Entry M SCT base gran t b r p sx e row wt)

/-- The packed row the lane picks is the route's row. -/
theorem pack_row (G : Good (cut base)) (E : Entry M SCT base gran t b r p sx e row wt) (k : Fin 2048) :
    packOf (F := Ideal) Y base gran t b (ix2 ⟨p, E.hp⟩ k) = Y (ix2 ⟨row, E.hrow⟩ k) := by
  unfold packOf
  have hs : src (cut base) t ((gran (ix (4 * t + b / 2) (b % 2 * 64 + p / 4))).toNat * 4 + p % 4) = row := by
    rw [E.slot]
    have h1 := E.from_
    have h2 := E.upto_
    have h3 := G.step t e
    rw [src_eq G (s := t) (e := e) (c := row / 32)]
    · omega
    · unfold C; split <;> omega
    · unfold C; split <;> omega
    · unfold Win; omega
  show Y (yx (src (cut base) t ((gran (ix (4 * t + b / 2) (b % 2 * 64 + p / 4))).toNat * 4 + p % 4)) k.val) = _
  rw [hs]
  refine congrArg Y ?_
  funext d
  apply Fin.ext
  match d with
  | ⟨0, _⟩ => exact Nat.mod_eq_of_lt E.hrow
  | ⟨1, _⟩ => exact Nat.mod_eq_of_lt k.isLt

/-- The descriptors of a block, at a lane. -/
theorem desc_at (r : Fin 128) (a c : ℕ) : k0_pay4 (F := Ideal) (mrow (F := Ideal) M a c) (ix2 0 r) = M (m3 a c r.val) := by
  unfold k0_pay4 mrow
  pointwise

/-- Its weights, at a lane. -/
theorem weight_at (r : Fin 128) (a c : ℕ) : k0_pay5 (F := Ideal) (mrow (F := Ideal) M a c) (ix2 0 r) = Ideal.ofBits .f32 (M (m3 a c r.val)) := by
  unfold k0_pay5 mrow
  pointwise

/-- The products over the packed rows: the picked row's. -/
theorem pick_sum (E : Entry M SCT base gran t b r p sx e row wt) (SC : S1536x128.Idx → BitVec 32) (P : Fin 192 → EReal) :
    ∑ x : Fin 192, pickOf (F := Ideal) M SC base t b (ix2 r x) * P x = P ⟨p, E.hp⟩ := by
  have hv : k0_pay6 (k0_pay4 (F := Ideal) (mrow (F := Ideal) M (b / 2) (b % 2))) (ix2 0 r) = w p := by
    unfold k0_pay6
    pointwise
    have := desc_at (M := M) r (b / 2) (b % 2)
    rw [this]
    exact E.pick
  have hat : ∀ x : Fin 192, pickOf (F := Ideal) M SC base t b (ix2 r x) = if x.val = p then (1 : EReal) else 0 :=
    fun x => pick_at _ _ _ _ r x E.hp hv
  rw [sum_pick _ _ ⟨p, E.hp⟩]
  · rw [hat, if_pos rfl, one_mul]
  · intro k hk
    rw [hat, if_neg (fun h => hk (Fin.ext h)), zero_mul]

/-- The scale word a window has for the route's row: of the row's own column of scales. -/
theorem word_at {v : BitVec 32} {sx row : ℕ} (hw : sx + 128 * min (v.toNat / 128) 382 = row) (hx : sx < 256) (hr : row < 49152) (q : Fin 4) :
    scl (F := Ideal) (scaleOf (F := Ideal) SCT) v (ix2 ⟨q.val + (if 128 ≤ sx then 4 else 0), by split <;> omega⟩ ⟨sx % 128, by omega⟩)
      = k0_pay1 (F := Ideal) (fun y : S16x128.Idx => SCT (mk2 16 49152 (y 0).val (128 * (row / 128) + (y 1).val))) (ix2 q ⟨row % 128, by omega⟩) := by
  unfold scl
  show scaleOf (F := Ideal) SCT (mk2 1536 128 (min (v.toNat / 128) 382 * 4 + (q.val + if 128 ≤ sx then 4 else 0)) (sx % 128)) = _
  generalize min (v.toNat / 128) 382 = W at hw ⊢
  have e1 : W * 4 + (q.val + if 128 ≤ sx then 4 else 0) = 4 * (row / 128) + q.val := by split <;> omega
  have e2 : sx % 128 = row % 128 := by omega
  rw [e1, e2, mk2_ix (by omega) (by omega)]
  unfold scaleOf
  show k0_pay1 (F := Ideal) (fun y : S16x128.Idx => SCT (mk2 16 49152 (y 0).val (128 * ((4 * (row / 128) + q.val) / 4) + (y 1).val)))
    (mk2 4 128 ((4 * (row / 128) + q.val) % 4) (row % 128)) = _
  have e3 : (4 * (row / 128) + q.val) / 4 = row / 128 := by omega
  have e4 : (4 * (row / 128) + q.val) % 4 = q.val := by omega
  rw [e3, e4, mk2_ix q.isLt (by omega)]

/-- The bytes of such a word. -/
theorem bytes_at {row : ℕ} (hr : row < 49152) (b' q : Fin 4) :
    IntOp.andi (IntOp.shrsi .vector (k0_pay1 (F := Ideal) (fun y : S16x128.Idx => SCT (mk2 16 49152 (y 0).val (128 * (row / 128) + (y 1).val))) (ix2 q ⟨row % 128, by omega⟩)) (w (8 * b'.val))) 255#32
      = w (SCT (ix2 ⟨4 * q.val + b'.val, by omega⟩ ⟨row, hr⟩)).toNat := by
  unfold k0_pay1
  have hc : ∀ (A : S16x128.Idx → BitVec 8), (shapeCast S4x128 (bitcast S4x128 32 (shapeCast S16x128 A shapeCasts_S16x128_S16x128) bitcasts_S16x128_w8_S4x128_w32) shapeCasts_S4x128_S4x128)
      = bitcast S4x128 32 A bitcasts_S16x128_w8_S4x128_w32 := by
    intro A
    rw [shapeCast_self, shapeCast_self]
  simp only [hc]
  rw [byte_of]
  have hm : mk2 16 49152 (4 * q.val + b'.val) (128 * (row / 128) + row % 128) = ix2 ⟨4 * q.val + b'.val, by omega⟩ ⟨row, hr⟩ := by
    rw [mk2_ix (by omega) (by omega)]
    congr 1
    apply Fin.ext
    simp only []
    omega
  show w (SCT (mk2 16 49152 (4 * q.val + b'.val) (128 * (row / 128) + row % 128))).toNat = _
  rw [hm]

/-- A scale times the weight, at a lane. -/
theorem ws_at (E : Entry M SCT base gran t b r p sx e row wt) (b' q : Fin 4) :
    wsAt (k0_pay5 (F := Ideal) (mrow (F := Ideal) M (b / 2) (2 + b % 2)))
      (scaleWords (k0_pay4 (F := Ideal) (mrow (F := Ideal) M (b / 2) (b % 2)))
        (fun k => scl (F := Ideal) (scaleOf (F := Ideal) SCT) (base (ix (4 * t + b / 2) (b % 2 * 8 + k))))).1 r b' q
      = Cert.Scale.two (SCT (ix2 ⟨4 * q.val + b'.val, by omega⟩ ⟨row, E.hrow⟩)).toNat * (wt : EReal) := by
  have hd := desc_at (M := M) r (b / 2) (b % 2)
  have hword : (scaleWords (k0_pay4 (F := Ideal) (mrow (F := Ideal) M (b / 2) (b % 2)))
        (fun k => scl (F := Ideal) (scaleOf (F := Ideal) SCT) (base (ix (4 * t + b / 2) (b % 2 * 8 + k))))).1 (ix2 q r)
      = k0_pay1 (F := Ideal) (fun y : S16x128.Idx => SCT (mk2 16 49152 (y 0).val (128 * (row / 128) + (y 1).val))) (ix2 q ⟨row % 128, by omega⟩) := by
    rw [scaleWords_at (F := Ideal) _ _ q r (by rw [hd]; exact E.scale) E.hsx (by rw [hd]; exact E.owner) E.he]
    exact word_at E.window E.hsx E.hrow q
  unfold wsAt
  rw [hword, bytes_at E.hrow, weight_at, E.weight, Cert.Scale.bits_scale (E.bytes _).1 (E.bytes _).2]

/-- The products over the expansion: the scale of the column's group times the weight. -/
theorem scale_sum (E : Entry M SCT base gran t b r p sx e row wt) (k : Fin 2048) :
    ∑ x : Fin 48, lhsOf (F := Ideal) M (scaleOf (F := Ideal) SCT) base t b (ix2 r x) * (k0_pay2 (F := Ideal)) (ix2 x k)
      = Cert.Scale.two (SCT (ix2 ⟨k.val / 128, by omega⟩ ⟨row, E.hrow⟩)).toNat * (wt : EReal) := by
  have h4 : ∀ q r, (scaleWords (k0_pay4 (F := Ideal) (mrow (F := Ideal) M (b / 2) (b % 2)))
        (fun k => scl (F := Ideal) (scaleOf (F := Ideal) SCT) (base (ix (4 * t + b / 2) (b % 2 * 8 + k))))).2 (ix2 q r)
      = IntOp.andi (IntOp.shrsi .vector ((scaleWords (k0_pay4 (F := Ideal) (mrow (F := Ideal) M (b / 2) (b % 2)))
        (fun k => scl (F := Ideal) (scaleOf (F := Ideal) SCT) (base (ix (4 * t + b / 2) (b % 2 * 8 + k))))).1 (ix2 q r)) 0#32) 255#32 := by
    intro q r
    unfold scaleWords k0_pay19
    rfl
  have hf : ∀ b' q, ∃ x : ℝ, wsAt (k0_pay5 (F := Ideal) (mrow (F := Ideal) M (b / 2) (2 + b % 2)))
      (scaleWords (k0_pay4 (F := Ideal) (mrow (F := Ideal) M (b / 2) (b % 2)))
        (fun k => scl (F := Ideal) (scaleOf (F := Ideal) SCT) (base (ix (4 * t + b / 2) (b % 2 * 8 + k))))).1 r b' q = (x : EReal) := by
    intro b' q
    rw [ws_at E b' q]
    exact ⟨_, (EReal.coe_mul _ _).symm⟩
  have hj : 4 * (k.val / 128 % 4) + k.val / 512 < 16 := by omega
  rw [sum_pick _ _ ⟨4 * (k.val / 128 % 4) + k.val / 512, by omega⟩]
  · rw [expand_at, if_pos (by simp only []; omega), mul_one]
    refine (lhs_lo _ _ _ _ h4 r hj).trans ?_
    rw [ws_at E]
    have h5 : k.val / 512 = k.val / 128 / 4 := by omega
    have h6 : (4 * (k.val / 128 % 4) + k.val / 512) / 4 = k.val / 128 % 4 := by omega
    have h7 : (4 * (k.val / 128 % 4) + k.val / 512) % 4 = k.val / 512 := by omega
    congr 5
    apply Fin.ext
    simp only []
    omega
  · intro j hne
    by_cases h16 : j.val < 16
    · rw [expand_at, if_neg, mul_zero]
      intro h
      exact hne (Fin.ext (by simp only []; omega))
    · have := lhs_hi _ (k0_pay6 (k0_pay4 (F := Ideal) (mrow (F := Ideal) M (b / 2) (b % 2)))) _ _ h4 r hf (j := j.val) (by omega) j.isLt
      have e : lhsOf (F := Ideal) M (scaleOf (F := Ideal) SCT) base t b (ix2 r j) = 0 := this
      rw [e, zero_mul]

/-- A block's rows at an index, from the two lanes of its token. -/
theorem block_at (G : Good (cut base)) {t b : ℕ} (hb : b < 8) {rr : Fin 64} {p0 sx0 e0 row0 p1 sx1 e1 row1 : ℕ} {wt0 wt1 : ℝ}
    (E0 : Entry M SCT base gran t b ⟨rr.val, by omega⟩ p0 sx0 e0 row0 wt0)
    (E1 : Entry M SCT base gran t b ⟨64 + rr.val, by omega⟩ p1 sx1 e1 row1 wt1) (k : Fin 2048) :
    outOf (F := Ideal) Y M (scaleOf (F := Ideal) SCT) (k0_pay2 (F := Ideal)) XB base gran t (ix2 ⟨64 * b + rr.val, by omega⟩ k)
      = XB (ix2 ⟨64 * b + rr.val, by omega⟩ k)
        + (Y (ix2 ⟨row0, E0.hrow⟩ k) * (Cert.Scale.two (SCT (ix2 ⟨k.val / 128, by omega⟩ ⟨row0, E0.hrow⟩)).toNat * (wt0 : EReal))
          + Y (ix2 ⟨row1, E1.hrow⟩ k) * (Cert.Scale.two (SCT (ix2 ⟨k.val / 128, by omega⟩ ⟨row1, E1.hrow⟩)).toNat * (wt1 : EReal))) := by
  have hb1 : (64 * b + rr.val) / 64 = b := by omega
  have hb2 : (64 * b + rr.val) % 64 = rr.val := by omega
  have hk : 256 * (k.val / 256) + k.val % 256 = k.val := by omega
  show colOf (packOf (F := Ideal) Y base gran t ((64 * b + rr.val) / 64)) (k0_pay2 (F := Ideal)) XB
      (lhsOf (F := Ideal) M (scaleOf (F := Ideal) SCT) base t ((64 * b + rr.val) / 64))
      (pickOf (F := Ideal) M (scaleOf (F := Ideal) SCT) base t ((64 * b + rr.val) / 64)) ((64 * b + rr.val) / 64) (ix2 ⟨64 * b + rr.val, by omega⟩ k) = _
  rw [hb1]
  unfold colOf
  show k0_pay23 _ _ (pk (packOf (F := Ideal) Y base gran t b) (2 * (k.val / 256))) (pk (packOf (F := Ideal) Y base gran t b) (2 * (k.val / 256) + 1))
    (ex (k0_pay2 (F := Ideal)) (k.val / 256)) (xb XB b (k.val / 256)) (mk2 64 256 ((64 * b + rr.val) % 64) (k.val % 256)) = _
  rw [hb2, mk2_ix rr.isLt (by omega)]
  have hex : ∀ x : Fin 48, ex (F := Ideal) (k0_pay2 (F := Ideal)) (k.val / 256) (ix2 x ⟨k.val % 256, by omega⟩) = (k0_pay2 (F := Ideal)) (ix2 x k) := by
    intro x
    show (k0_pay2 (F := Ideal)) (mk2 48 2048 x.val (256 * (k.val / 256) + k.val % 256)) = _
    rw [hk, mk2_ix x.isLt k.isLt]
  have hxb : xb (F := Ideal) XB b (k.val / 256) (ix2 rr ⟨k.val % 256, by omega⟩) = XB (ix2 ⟨64 * b + rr.val, by omega⟩ k) := by
    show XB (mk2 512 2048 (64 * b + rr.val) (256 * (k.val / 256) + k.val % 256)) = _
    rw [hk, mk2_ix (by omega) k.isLt]
  have hpk : ∀ x : Fin 192, (if h : k.val % 256 < 128 then pk (packOf (F := Ideal) Y base gran t b) (2 * (k.val / 256)) (ix2 x ⟨k.val % 256, h⟩)
      else pk (packOf (F := Ideal) Y base gran t b) (2 * (k.val / 256) + 1) (ix2 x ⟨k.val % 256 - 128, by omega⟩)) = packOf (F := Ideal) Y base gran t b (ix2 x k) := by
    intro x
    by_cases h : k.val % 256 < 128
    · rw [dif_pos h]
      show packOf (F := Ideal) Y base gran t b (mk2 192 2048 x.val (128 * (2 * (k.val / 256)) + k.val % 256)) = _
      have e : 128 * (2 * (k.val / 256)) + k.val % 256 = k.val := by omega
      rw [e, mk2_ix x.isLt k.isLt]
    · rw [dif_neg h]
      show packOf (F := Ideal) Y base gran t b (mk2 192 2048 x.val (128 * (2 * (k.val / 256) + 1) + (k.val % 256 - 128))) = _
      have e : 128 * (2 * (k.val / 256) + 1) + (k.val % 256 - 128) = k.val := by omega
      rw [e, mk2_ix x.isLt k.isLt]
  have hn : ∀ r : Fin 128, (⟨r.val % 128, by omega⟩ : Fin 128) = r := fun r => Fin.ext (Nat.mod_eq_of_lt r.isLt)
  rw [col_at _ _ _ _ _ _ rr ⟨k.val % 256, by omega⟩
    (fun n => ∑ x : Fin 192, pickOf (F := Ideal) M (scaleOf (F := Ideal) SCT) base t b (ix2 ⟨n % 128, by omega⟩ x) * packOf (F := Ideal) Y base gran t b (ix2 x k))
    (fun n => ∑ x : Fin 48, lhsOf (F := Ideal) M (scaleOf (F := Ideal) SCT) base t b (ix2 ⟨n % 128, by omega⟩ x) * (k0_pay2 (F := Ideal)) (ix2 x k))
    (fun r => by simp only [hn, hpk]) (fun r => by simp only [hn, hex])]
  rw [hxb]
  have n0 : (⟨rr.val % 128, by omega⟩ : Fin 128) = ⟨rr.val, by omega⟩ := Fin.ext (Nat.mod_eq_of_lt (by omega))
  have n1 : (⟨(64 + rr.val) % 128, by omega⟩ : Fin 128) = ⟨64 + rr.val, by omega⟩ := Fin.ext (Nat.mod_eq_of_lt (by omega))
  simp only [n0, n1]
  rw [pick_sum E0, pick_sum E1, scale_sum E0, scale_sum E1, pack_row G E0, pack_row G E1]

end Cert.KernelIdeal.Run
-- ==== Proof.Value.Final.lean ====
/-
  The kernel's result array, from the blocks its grid steps write back.
-/
module

public import proofs.«01_k».proof.Proof.KernelIdeal.Launch
public import Idealize.ShloMosaic.Lib.Pipeline.Value
public import Idealize.ShloMosaic.Lib.Pointwise

@[expose] public section

set_option maxRecDepth 100000

noncomputable section

namespace Cert.KernelIdeal.Run

open Idealize.ShloMosaic Idealize.ShloMosaic.TcCoe
open Cert.Words Cert.Chunks Cert.Fill Cert.KernelIdeal.Gen
open Idealize.ShloMosaic.Pipeline (Dat Cfg Window)

variable {F : FTy → Type} [FloatOps F]
variable (m : (ℓ : Loc nD τ sig) → Buf (Elt F) ℓ) (ρ : Dev nD → PrngReg)

/-- A grid step. -/
def pt (t : Fin 48) : Fin (cfgA m).N := ⟨t.val, t.isLt⟩

theorem coord_pt (t : Fin 48) : (((cfgA m).grid.coords (pt m t)) 0).val = t.val := coords_val m (pt m t)

theorem disjoint3 : ∀ t t' : Fin (cfgA m).N, ((cfgA m).win 3).flush t = true → ((cfgA m).win 3).flush t' = true → t ≠ t' →
    Disjoint (((cfgA m).win 3).blk t).view.set (((cfgA m).win 3).blk t').view.set := by
  intro t t' _ _ hne
  refine ((cfgA m).win 3).disjoint_blk fun h => hne ?_
  have := (by decide +kernel : ∀ t t' : Fin grid0.N, cc0_transform_4 (grid0.coords t) = cc0_transform_4 (grid0.coords t') → t = t')
  exact this t t' h

theorem flush3 (t : Fin 48) : ((cfgA m).win 3).flush (pt m t) = true := by
  have := (by decide +kernel : ∀ t : Fin grid0.N, Pipeline.Window.flushOf grid0 true cc0_transform_4 t = true)
  exact this t

/-- Where a step's block lies in the arrays of rows. -/
theorem emb3 (t : Fin 48) (r : Fin 512) (k : Fin 2048) :
    (((cfgA m).win 3).blk (pt m t)).view.emb (ix2 r k) = ix2 (⟨512 * t.val + r.val, by omega⟩ : Fin 24576) k := by
  have hc := coord_pt m t
  funext a
  apply Fin.ext
  match a with
  | ⟨0, _⟩ =>
    show (w ((((cfgA m).grid.coords (pt m t)) 0).val)).toNat * 512 + 1 * r.val = 512 * t.val + r.val
    rw [hc, toNat_w (by omega)]; omega
  | ⟨1, _⟩ => show 0 * 2048 + 1 * k.val = k.val; omega

/-- What a step writes back is what its body leaves. -/
theorem flushed3 (c : Dev nD) (t : Fin (cfgA m).N) :
    (dats m ρ 0 c).flushed 3 t = ((cfgA m).win 3).cut ((cfgA m).grid.coords t) (outAt m ρ c t) := by
  show ((cfgA m).win 3).cut ((cfgA m).grid.coords t) ((dats m ρ 0 c).after 3 t) = _
  rw [after_w3]

/-- The result array at an index of a step's rows. -/
theorem final_at (c : Dev nD) (t : Fin 48) (r : Fin 512) (k : Fin 2048) :
    finalA m ρ c 3 (ix2 (⟨512 * t.val + r.val, by omega⟩ : Fin 24576) k : S24576x2048.Idx) = outAt m ρ c (pt m t) (ix2 r k) := by
  have h := (dats m ρ 0 c).arrAt_emb_eq_flushed 3 (disjoint3 m) (pt m t) (flush3 m t) (ix2 r k : S512x2048.Idx)
  rw [flushed3] at h
  have e := emb3 m t r k
  unfold finalA
  exact (congrArg ((dats m ρ 0 c).arrAt 3 (cfgA m).N) e.symm).trans h

/-- The rows of the input a step's window shows, -/
theorem iblk_2 (c : Dev nD) (t : Fin 48) (r : Fin 512) (k : Fin 2048) :
    (iblk m ρ c 2 (pt m t) : S512x2048.Idx → Elt F .bf16) (ix2 r k) = rowsX m c (ix2 ⟨512 * t.val + r.val, by omega⟩ k) := by
  have hc := coord_pt m t
  unfold iblk
  rw [View.read_apply]
  refine (congrFun (V_v1 m ρ c) _).trans (congrArg (rowsX m c) ?_)
  funext a
  apply Fin.ext
  match a with
  | ⟨0, _⟩ =>
    show (w ((((cfgA m).grid.coords (pt m t)) 0).val)).toNat * 512 + 1 * r.val = 512 * t.val + r.val
    rw [hc, toNat_w (by omega)]; omega
  | ⟨1, _⟩ => show 0 * 2048 + 1 * k.val = k.val; omega

/-- and the descriptors. -/
theorem iblk_0 (c : Dev nD) (t : Fin 48) (a : Fin 4) (b : Fin 4) (k : Fin 128) :
    (iblk m ρ c 0 (pt m t) : S4x4x128.Idx → Elt F .i32) (ix3 a b k)
      = (m ((c : Thread nD τ).loc main_arg5) : S192x4x128.Idx → Elt F .i32) (ix3 ⟨4 * t.val + a.val, by omega⟩ b k) := by
  have hc := coord_pt m t
  unfold iblk
  rw [View.read_apply]
  refine (congrFun (V_of_ne m ρ c (b := main_arg5) (by decide) (by decide)) _).trans (congrArg (m ((c : Thread nD τ).loc main_arg5)) ?_)
  funext d
  apply Fin.ext
  match d with
  | ⟨0, _⟩ =>
    show (w ((((cfgA m).grid.coords (pt m t)) 0).val)).toNat * 4 + 1 * a.val = 4 * t.val + a.val
    rw [hc, toNat_w (by omega)]; omega
  | ⟨1, _⟩ => show 0 * 4 + 1 * b.val = b.val; omega
  | ⟨2, _⟩ => show 0 * 128 + 1 * k.val = k.val; omega

end Cert.KernelIdeal.Run
-- ==== Proof.Value.Routes.lean ====
/-
  The precondition, read at a lane of a tile: what its arrays say of the route the lane serves.
-/
module

public import proofs.«01_k».proof.Proof.PreTables
public import Idealize.ShloMosaic.Lib.Pointwise
public import Idealize.ShloMosaic.Lib.WordCmp

@[expose] public section

set_option maxRecDepth 100000

noncomputable section

namespace Cert.Pre_tables_ok.Read

open Idealize.ShloMosaic Cert.Pre_tables_ok Cert.Pre_tables_ok.Facts Cert.Words Cert.Fill Cert.Chunks

variable [Facts]
variable {F : FTy → Type} [FloatOps F]

theorem and_one (a b : BitVec 1) : IntOp.andi a b = 1#1 ↔ a = 1#1 ∧ b = 1#1 := by
  revert a b; decide
theorem zero_or (a : BitVec 1) : IntOp.ori 0#1 a = a := by
  revert a; decide
theorem bool_one (b : Bool) : BitVec.ofBool b = 1#1 ↔ b = true := by
  revert b; decide

/-- The row of `y` of each route. -/
def ROW (ids : IVec S6x4096x2 32) : IVec S49152 32 :=
  let v23 : IVec S49152x8 32 := extui 32 (cmpi .eq (broadcastInDim S49152x8 ![0, 1] bcast_S49152x1_S49152x8_0_1 (broadcastInDim S49152x1 ![0] bcast_S49152_S49152x1_0 (shapeCast S49152 ids shapeCasts_S6x4096x2_S49152)))
    (broadcastInDim S49152x8 ![0, 1] bcast_S1x8_S49152x8_0_1 (broadcastInDim S1x8 ![1] bcast_S8_S1x8_1 (iotaInDim S8 32 0)))) natLt_1_32
  let v24 : IVec S49152x8 32 := fn_cumsum (F := F) v23
  let v26 : IVec S8 32 := shapeCast S8 (extractStridedSlice S1x8 ![49151, 0] v24 slices_S49152x8_S1x8_49151_0) shapeCasts_S1x8_S8
  let v28 : IVec S8 32 := subi (fn_cumsum_1 (F := F) v26) v26
  Host.reduce IntOp.addi (muli (subi (addi (broadcastInDim S49152x8 ![0, 1] bcast_S1x8_S49152x8_0_1 (broadcastInDim S1x8 ![1] bcast_S8_S1x8_1 v28)) v24)
    (broadcastInDim S49152x8 ![] bcast_S_S49152x8 (constantI S_ 32 1#32))) v23) (constantI S_ 32 0#32) reducesTo_S49152x8_S49152_d1 h_S_

/-- The rows of the routes, at the lanes. -/
def LANES (R : IVec S49152 32) : IVec S192x2x128 32 :=
  shapeCast S192x2x128 (transpose S192x2x2x64 [0, 1, 3, 2] (shapeCast S192x2x64x2 (shapeCast S24576x2 R shapeCasts_S49152_S24576x2) shapeCasts_S24576x2_S192x2x64x2) transposes_S192x2x64x2_S192x2x2x64_0_1_3_2) shapeCasts_S192x2x2x64_S192x2x128

theorem LANES_at (R : IVec S49152 32) (g : Fin 192) (h : Fin 2) (r : Fin 128) :
    LANES R (ix3 g h r) = R (ix1 ⟨2 * (128 * g.val + 64 * h.val + r.val % 64) + r.val / 64, by omega⟩) := by
  unfold LANES
  pointwise
  congr 2
  apply Fin.ext
  simp only []
  omega

variable (x : FVec F S6x4096x2048 .bf16) (ids : IVec S6x4096x2 32) (wts : FVec F S6x4096x2 .f32)
  (yc : FVec F S49152x2048 .fp8e4m3) (ys : IVec S49152x16 8) (mt : IVec S192x4x128 32)
  (a6 a7 : IVec S192x128 32)

theorem fn_rows : ∃ L M B v12 v15, L = LANES (ROW (F := F) ids) ∧ M = extractStridedSlice S192x2x128 ![0, 0, 0] mt slices_S192x4x128_S192x2x128_0_0_0 ∧
    B = broadcastInDim S192x2x128 ![] bcast_S_S192x2x128 (constantI S_ 32 255#32) ∧
    fn x ids wts yc ys mt a6 a7 = fn_part2 (F := F) wts ys mt a6 a7 (LO a7) (HI a7) v12 v15 L M B :=
  ⟨_, _, _, _, _, rfl, rfl, rfl, rfl⟩

/-- A lane's descriptor. -/
abbrev desc (g : Fin 192) (hf : Fin 2) (r : Fin 128) : BitVec 32 := mt (ix3 g ⟨hf.val, by omega⟩ r)

/-- The row of `y` of a lane's route. -/
abbrev lrow (g : Fin 192) (hf : Fin 2) (r : Fin 128) : BitVec 32 := ROW (F := F) ids (ix1 ⟨2 * (128 * g.val + 64 * hf.val + r.val % 64) + r.val / 64, by omega⟩)

theorem inside_at (h : (fn x ids wts yc ys mt a6 a7).2.2.2.1 = fun _ => 1#1) (g : Fin 192) (hf : Fin 2) (r : Fin 128) :
    IntOp.andi (IntOp.andi (IntOp.cmpi .slt (IntOp.andi (desc mt g hf r) 255#32) 192#32) (IntOp.cmpi .sge (IntOp.shrsi .host (desc mt g hf r) 16#32) 0#32))
      (IntOp.cmpi .slt (IntOp.shrsi .host (desc mt g hf r) 16#32) 8#32) = 1#1 := by
  obtain ⟨L, M, B, v12, v15, hL, hM, hB, e⟩ := fn_rows x ids wts yc ys mt a6 a7
  rw [e] at h
  have := congrFun h (ix3 g hf r)
  clear hL
  unfold fn_part2 fn_part3 fn_part4 fn_part5 fn_part6 fn_part7 fn_part8 fn_part9 fn_part10 at this
  pointwise [hM, hB] at this
  exact this

theorem found_at (h : (fn x ids wts yc ys mt a6 a7).2.2.2.2.1 = fun _ => 1#1) (g : Fin 192) (hf : Fin 2) (r : Fin 128) (k : Fin 48) :
    IntOp.ori (IntOp.cmpi .ne (IntOp.shrsi .host (IntOp.andi (desc mt g hf r) 255#32) 2#32) (w k.val))
      (IntOp.cmpi .eq (IntOp.addi (IntOp.muli (a6 (ix2 g ⟨hf.val * 64 + k.val, by omega⟩)) 4#32) (IntOp.andi (IntOp.andi (desc mt g hf r) 255#32) 3#32))
        (IntOp.addi (IntOp.muli (IntOp.addi (IntOp.muli (IntOp.shrsi .host (desc mt g hf r) 16#32) 40#32)
          (IntOp.remsi .host (IntOp.shrsi .host (lrow (F := F) ids g hf r) 5#32) 40#32)) 32#32) (IntOp.andi (lrow (F := F) ids g hf r) 31#32))) = 1#1 := by
  obtain ⟨L, M, B, v12, v15, hL, hM, hB, e⟩ := fn_rows x ids wts yc ys mt a6 a7
  rw [e] at h
  have := congrFun h (ix4 g hf r k)
  unfold fn_part2 fn_part3 fn_part4 fn_part5 fn_part6 fn_part7 fn_part8 fn_part9 fn_part10 at this
  pointwise [hM, hB] at this
  rw [hL, LANES_at] at this
  exact this

theorem owned_at (h : (fn x ids wts yc ys mt a6 a7).2.2.2.2.2.1 = fun _ => 1#1) (g : Fin 192) (hf : Fin 2) (r : Fin 128) (k : Fin 8) :
    IntOp.ori (IntOp.cmpi .ne (IntOp.shrsi .host (desc mt g hf r) 16#32) (w k.val))
      (IntOp.andi (IntOp.andi (IntOp.cmpi .sle (LO a7 (ix2 ⟨g.val / 4, by omega⟩ k)) (lrow (F := F) ids g hf r))
          (IntOp.cmpi .slt (lrow (F := F) ids g hf r) (HI a7 (ix2 ⟨g.val / 4, by omega⟩ k))))
        (IntOp.cmpi .eq (IntOp.addi (IntOp.andi (IntOp.shrsi .host (desc mt g hf r) 8#32) 255#32)
          (IntOp.muli 128#32 (IntOp.minsi (IntOp.shrsi .host (a7 (ix2 g ⟨hf.val * 8 + k.val, by omega⟩)) 7#32) 382#32))) (lrow (F := F) ids g hf r))) = 1#1 := by
  obtain ⟨L, M, B, v12, v15, hL, hM, hB, e⟩ := fn_rows x ids wts yc ys mt a6 a7
  rw [e] at h
  have := congrFun h (ix4 g hf r k)
  unfold fn_part2 fn_part3 fn_part4 fn_part5 fn_part6 fn_part7 fn_part8 fn_part9 fn_part10 at this
  pointwise [hM, hB] at this
  rw [hL, LANES_at] at this
  exact this

theorem weights_at (h : (fn x ids wts yc ys mt a6 a7).2.2.2.2.2.2.2.1 = fun _ => 1#1) (g : Fin 192) (hf : Fin 2) (r : Fin 128) :
    IntOp.andi (FloatOps.cmpf .oeq (FloatOps.ofBits .f32 (mt (ix3 g ⟨2 + hf.val, by omega⟩ r)))
        (wts (ix3 ⟨g.val / 32, by omega⟩ ⟨g.val % 32 * 128 + hf.val * 64 + r.val % 64, by omega⟩ ⟨r.val / 64, by omega⟩)))
      (FloatOps.cmpf .olt (FloatOps.hostAbsf (wts (ix3 ⟨g.val / 32, by omega⟩ ⟨g.val % 32 * 128 + hf.val * 64 + r.val % 64, by omega⟩ ⟨r.val / 64, by omega⟩)))
        (FloatOps.ofBits .f32 2139095040#32)) = 1#1 := by
  obtain ⟨L, M, B, v12, v15, hL, hM, hB, e⟩ := fn_rows x ids wts yc ys mt a6 a7
  rw [e] at h
  have := congrFun h (ix3 g hf r)
  clear hL
  unfold fn_part2 fn_part3 fn_part4 fn_part5 fn_part6 fn_part7 fn_part8 fn_part9 fn_part10 at this
  pointwise [hM, hB] at this
  exact this

theorem scales_at (h : (fn x ids wts yc ys mt a6 a7).2.2.2.2.2.2.2.2 = fun _ => 1#1) (r : Fin 49152) (k : Fin 16) :
    1 ≤ (ys (ix2 r k)).toNat ∧ (ys (ix2 r k)).toNat ≤ 254 := by
  obtain ⟨L, M, B, v12, v15, hL, hM, hB, e⟩ := fn_rows x ids wts yc ys mt a6 a7
  rw [e] at h
  have := congrFun h (ix2 r k)
  clear hL
  unfold fn_part2 fn_part3 fn_part4 fn_part5 fn_part6 fn_part7 fn_part8 fn_part9 fn_part10 at this
  pointwise [hM, hB] at this
  rw [and_one, WordCmp.cmpi_uge_eq, WordCmp.cmpi_ule_eq, bool_one, bool_one, decide_eq_true_iff, decide_eq_true_iff] at this
  exact this

/-- The index of an index table, as the kernel's proof writes it. -/
theorem ix2_ix (g : Fin 192) (k : Fin 128) : (ix2 g k : Shape.Idx ⟨2, ![192, 128]⟩) = ix g.val k.val := by
  funext a
  apply Fin.ext
  fin_cases a
  · exact (Nat.mod_eq_of_lt g.isLt).symm
  · exact (Nat.mod_eq_of_lt k.isLt).symm

theorem minsi_w {a b : ℕ} (ha : a < 2 ^ 31) (hb : b < 2 ^ 31) : IntOp.minsi (w a) (w b) = w (min a b) := by
  unfold IntOp.minsi
  rw [BitVec.slt_eq_decide, toInt_w ha, toInt_w hb]
  by_cases h : a < b
  · rw [if_pos (by simpa using h), Nat.min_eq_left (by omega)]
  · rw [if_neg (by simpa using h), Nat.min_eq_right (by omega)]

theorem low_w {a k : ℕ} (h : a < 2 ^ 32) (hk : k < 32) : IntOp.andi (w a) (w (2 ^ k - 1)) = w (a % 2 ^ k) := by
  apply BitVec.eq_of_toNat_eq
  have h2 : 2 ^ k ≤ 2 ^ 31 := Nat.pow_le_pow_right (by decide) (by omega)
  have h3 : a % 2 ^ k ≤ a := Nat.mod_le _ _
  show (w a &&& w (2 ^ k - 1)).toNat = _
  rw [BitVec.toNat_and, toNat_w h, toNat_w (by omega), toNat_w (by omega), Nat.and_two_pow_sub_one_eq_mod]

theorem small (m : BitVec 32) : IntOp.andi m 255#32 = w (IntOp.andi m 255#32).toNat ∧ (IntOp.andi m 255#32).toNat < 256 := by
  refine ⟨BitVec.eq_of_toNat_eq ?_, ?_⟩
  · rw [toNat_w (BitVec.isLt _)]
  · show (m &&& 255#32).toNat < 256
    rw [BitVec.toNat_and]
    exact lt_of_le_of_lt Nat.and_le_right (by decide)

theorem host_vec (m : BitVec 32) {k : ℕ} (hk : k < 32) : IntOp.shrsi .host m (w k) = IntOp.shrsi .vector m (w k) := by
  unfold IntOp.shrsi
  rw [toNat_w (by omega), if_pos hk, if_pos hk]

variable (hs : (fn x ids wts yc ys mt a6 a7).1 = fun _ => 1#1) (hj : (fn x ids wts yc ys mt a6 a7).2.1 = fun _ => 1#1)
  (hw : (fn x ids wts yc ys mt a6 a7).2.2.1 = fun _ => 1#1) (hin : (fn x ids wts yc ys mt a6 a7).2.2.2.1 = fun _ => 1#1)
  (hfd : (fn x ids wts yc ys mt a6 a7).2.2.2.2.1 = fun _ => 1#1) (hown : (fn x ids wts yc ys mt a6 a7).2.2.2.2.2.1 = fun _ => 1#1)
  (hr : (fn x ids wts yc ys mt a6 a7).2.2.2.2.2.2.1 = fun _ => 1#1)

/-- What the precondition says of a lane: the packed row `p` it picks, its scale index `sx`, its expert `e` and its row of `y`. -/
structure Lane (g : Fin 192) (hf : Fin 2) (r : Fin 128) (p sx e row : ℕ) : Prop where
  hp : p < 192
  hsx : sx < 256
  he : e < 8
  hrow : row < 49152
  pick : IntOp.andi (desc mt g hf r) 255#32 = w p
  scale : IntOp.andi (IntOp.shrsi .vector (desc mt g hf r) 8#32) 255#32 = w sx
  owner : IntOp.shrsi .vector (desc mt g hf r) 16#32 = w e
  route : lrow (F := F) ids g hf r = w row
  from_ : cut a7 (g.val / 4) e ≤ row
  upto_ : row < cut a7 (g.val / 4 + 1) e
  window : sx + 128 * min ((a7 (ix g.val (hf.val * 8 + e))).toNat / 128) 382 = row
  slot : (a6 (ix g.val (hf.val * 64 + p / 4))).toNat * 4 + p % 4 = (e * 40 + row / 32 % 40) * 32 + row % 32

include hs hj hw hin hfd hown hr in
theorem lane_at (g : Fin 192) (hf : Fin 2) (r : Fin 128) : ∃ p sx e row, Lane (F := F) ids mt a6 a7 g hf r p sx e row := by
  have i1 := inside_at x ids wts yc ys mt a6 a7 hin g hf r
  have i2 := found_at x ids wts yc ys mt a6 a7 hfd g hf r
  have i3 := owned_at x ids wts yc ys mt a6 a7 hown g hf r
  generalize hR : lrow (F := F) ids g hf r = R at i2 i3
  rw [and_one, and_one, IntOp.cmpi_slt, IntOp.cmpi_sge, IntOp.cmpi_slt] at i1
  obtain ⟨⟨p1, e1⟩, e2⟩ := i1
  obtain ⟨hpw, hp256⟩ := small (desc mt g hf r)
  obtain ⟨hsw, hs256⟩ := small (IntOp.shrsi .host (desc mt g hf r) 8#32)
  generalize (IntOp.andi (desc mt g hf r) 255#32).toNat = p at hpw hp256
  generalize (IntOp.andi (IntOp.shrsi .host (desc mt g hf r) 8#32) 255#32).toNat = sx at hsw hs256
  rw [hpw, toInt_w (by omega)] at p1
  have hp : p < 192 := by have h : (192#32 : BitVec 32).toInt = 192 := by decide
                          omega
  have h0 : (0#32 : BitVec 32).toInt = 0 := by decide
  have h8 : (8#32 : BitVec 32).toInt = 8 := by decide
  rw [h0] at e1
  rw [h8] at e2
  obtain ⟨e, hew, he⟩ : ∃ e, IntOp.shrsi .host (desc mt g hf r) 16#32 = w e ∧ e < 8 := ⟨_, eq_w e1, by omega⟩
  have i3 := i3 ⟨e, he⟩
  have i2 := i2 ⟨p / 4, by omega⟩
  have ht : g.val / 4 < 48 := by omega
  obtain ⟨c1, c2, c3, c4, c5⟩ := cuts a7 a6 x ids wts yc ys mt hs hj ht he
  rw [ix2_ix] at i2 i3
  have hz := windows_at a7 a6 x ids wts yc ys mt hw g.val (hf.val * 8 + e) g.isLt (by omega)
  obtain ⟨e', c', o', he', ho', _, _, _, hA⟩ := word a7 a6 x ids wts yc ys mt hs hj hw hr (g := g.val) (k := hf.val * 64 + p / 4) g.isLt (by omega) (by omega)
  have hLO : LO a7 (ix2 (⟨g.val / 4, ht⟩ : Fin 48) (⟨e, he⟩ : Fin 8)) = w (cut a7 (g.val / 4) e) := by rw [LO_at]; exact c1
  have hHI : HI a7 (ix2 (⟨g.val / 4, ht⟩ : Fin 48) (⟨e, he⟩ : Fin 8)) = w (cut a7 (g.val / 4 + 1) e) := by rw [HI_at]; exact c2
  have hne : IntOp.cmpi .ne (w e) (w (⟨e, he⟩ : Fin 8).val) = 0#1 := by unfold IntOp.cmpi; simp
  rw [hew, hne, zero_or, and_one, and_one, IntOp.cmpi_sle, IntOp.cmpi_slt, IntOp.cmpi_eq, hLO, hHI, hsw, toInt_w (by omega), toInt_w (by omega)] at i3
  obtain ⟨⟨r1, r2⟩, r3⟩ := i3
  obtain ⟨row, hRw, hr1, hr2⟩ : ∃ row, R = w row ∧ cut a7 (g.val / 4) e ≤ row ∧ row < cut a7 (g.val / 4 + 1) e := by
    refine ⟨_, eq_w (by omega), ?_, ?_⟩ <;> omega
  have hz' : a7 (ix g.val (hf.val * 8 + e)) = w (a7 (ix g.val (hf.val * 8 + e))).toNat := BitVec.eq_of_toNat_eq (toNat_w (BitVec.isLt _)).symm
  have hz2 : (a7 (ix g.val (hf.val * 8 + e))).toNat < 2 ^ 31 := by
    have := toNat_eq hz; have := BitVec.toInt_lt (x := a7 (ix g.val (hf.val * 8 + e))); omega
  have hz3 : a7 (ix g.val (⟨hf.val * 8 + (⟨e, he⟩ : Fin 8).val, by omega⟩ : Fin 128).val) = w (a7 (ix g.val (hf.val * 8 + e))).toNat := hz'
  rw [hz3] at r3
  rw [show (7#32 : BitVec 32) = w 7 from rfl, host_shrsi hz2 (by decide), show (382#32 : BitVec 32) = w 382 from rfl, minsi_w (by omega) (by decide),
    show IntOp.muli 128#32 (w (min ((a7 (ix g.val (hf.val * 8 + e))).toNat / 2 ^ 7) 382)) = w (128 * min ((a7 (ix g.val (hf.val * 8 + e))).toNat / 2 ^ 7) 382) from muli_w _ _,
    show IntOp.addi (w sx) (w (128 * min ((a7 (ix g.val (hf.val * 8 + e))).toNat / 2 ^ 7) 382)) = w (sx + 128 * min ((a7 (ix g.val (hf.val * 8 + e))).toNat / 2 ^ 7) 382) from addi_w _ _, hRw] at r3
  have r4 := congrArg BitVec.toNat r3
  rw [toNat_w (by omega), toNat_w (by omega)] at r4
  refine ⟨p, sx, e, row, hp, hs256, he, by omega, hpw, ?_, ?_, ?_, hr1, hr2, r4, ?_⟩
  · rw [← hsw, show (8#32 : BitVec 32) = w 8 from rfl, host_vec _ (by decide)]
  · rw [← hew, show (16#32 : BitVec 32) = w 16 from rfl, host_vec _ (by decide)]
  · rw [hR, hRw]
  · have hA2 : a6 (ix g.val (⟨hf.val * 64 + (⟨p / 4, by omega⟩ : Fin 48).val, by omega⟩ : Fin 128).val) = w ((e' * 40 + c' % 40) * 8 + o') := hA
    rw [hA2] at i2
    rw [hA]
    rw [hpw, hew, hRw, show (2#32 : BitVec 32) = w 2 from rfl, host_shrsi (by omega) (by decide)] at i2
    have hne2 : IntOp.cmpi .ne (w (p / 2 ^ 2)) (w (⟨p / 4, by omega⟩ : Fin 48).val) = 0#1 := by
      show BitVec.ofBool (w (p / 4) != w (p / 4)) = 0#1
      rw [bne_self_eq_false]; rfl
    rw [hne2, zero_or, IntOp.cmpi_eq] at i2
    have m1 : IntOp.remsi .host (IntOp.shrsi .host (w row) 5#32) 40#32 = w (row / 32 % 40) := by
      rw [show (5#32 : BitVec 32) = w 5 from rfl, host_shrsi (by omega) (by decide)]
      apply BitVec.eq_of_toNat_eq
      rw [IntOp.toNat_remsi _ (by rw [toNat_w (by omega)]; omega) 40 (by decide) (by decide), toNat_w (by omega), toNat_w (by omega)]
      norm_num
    have m2 : IntOp.andi (w row) 31#32 = w (row % 32) := low_w (k := 5) (by omega) (by decide)
    have m3 : IntOp.andi (w p) 3#32 = w (p % 4) := low_w (k := 2) (by omega) (by decide)
    have mm : ∀ a b, IntOp.muli (w a) (w b) = w (a * b) := muli_w
    have ma : ∀ a b, IntOp.addi (w a) (w b) = w (a + b) := addi_w
    rw [m1, m2, m3, show (4#32 : BitVec 32) = w 4 from rfl, show (40#32 : BitVec 32) = w 40 from rfl, show (32#32 : BitVec 32) = w 32 from rfl,
      mm, ma, mm, ma, mm, ma] at i2
    have := congrArg BitVec.toNat i2
    rw [toNat_w (by omega), toNat_w (by omega)] at this
    rw [toNat_w (by omega)]
    exact this

end Cert.Pre_tables_ok.Read
-- ==== Proof.Value.Ref.lean ====
/-
  The reference's host operations: what the last region's windows hold at entry.
-/
module

public import proofs.«01_k».proof.Proof.Gen.ReferenceIdeal.Frame
public import proofs.«01_k».proof.Proof.Value.Routes
public import Idealize.ShloMosaic.Lib.StableHlo.RunRead
public import Idealize.ShloMosaic.Lib.StableHlo.ReadAt
public import Idealize.ShloMosaic.Lib.Routing.Ops

@[expose] public section

set_option maxRecDepth 100000

noncomputable section

namespace Cert.ReferenceIdeal.Val

open Idealize.ShloMosaic Idealize.ShloMosaic.TcCoe
open Cert.ReferenceIdeal Cert.ReferenceIdeal.Gen Cert.Words Cert.Pre_tables_ok.Read

variable {F : FTy → Type} [FloatOps F] [Cert.Pre_tables_ok.Facts]
variable (m : (ℓ : Loc nD τ sig) → Buf (Elt F) ℓ)

abbrev IDS (c : Dev nD) : IVec S6x4096x2 32 := m ((c : Thread nD τ).loc main_arg1)

/-- The reference's row of each route is the precondition's. -/
theorem V_v19 (c : Dev nD) : V m c main_v19 = ROW (F := F) (IDS m c) := by
  unfold V ROW Cert.Pre_tables_ok.fn_cumsum Cert.Pre_tables_ok.fn_cumsum_1 Cert.Pre_tables_ok.fn_cumsum_0 Cert.Pre_tables_ok.fn_cumsum_2
  after_reads_simp
  simp -implicitDefEqProofs only [StableHlo.TRef.toBuf, StableHlo.TRef.ofBuf, cast_cast, cast_eq]
  clean_types
  rfl

/-- The rows of choice 0, -/
theorem V_v22 (c : Dev nD) : V m c main_v22 = shapeCast S24576 (extractStridedSlice S24576x1 ![0, 0] (shapeCast S24576x2 (V m c main_v19 : IVec S49152 32) shapeCasts_S49152_S24576x2) slices_S24576x2_S24576x1_0_0) shapeCasts_S24576x1_S24576 := by
  unfold V
  after_reads_simp
  all_goals try simp -implicitDefEqProofs only [StableHlo.TRef.toBuf, StableHlo.TRef.ofBuf, cast_cast, cast_eq]
  all_goals rfl

/-- their codes, -/
theorem V_v23 (c : Dev nD) : V m c main_v23 = Host.gather gather_S49152x2048_S24576x1_S24576x2048_1_0_n_n_0_1_12048
    (m ((c : Thread nD τ).loc main_arg3) : FVec F S49152x2048 .fp8e4m3) (broadcastInDim S24576x1 ![0] bcast_S24576_S24576x1_0 (V m c main_v22 : IVec S24576 32)) := by
  unfold V
  after_reads_simp
  all_goals try simp -implicitDefEqProofs only [StableHlo.TRef.toBuf, StableHlo.TRef.ofBuf, cast_cast, cast_eq]
  all_goals rfl

/-- their scale bytes, -/
theorem V_v24 (c : Dev nD) : V m c main_v24 = Host.gather gather_S49152x16_S24576x1_S24576x16_1_0_n_n_0_1_116
    (m ((c : Thread nD τ).loc main_arg4) : IVec S49152x16 8) (broadcastInDim S24576x1 ![0] bcast_S24576_S24576x1_0 (V m c main_v22 : IVec S24576 32)) := by
  unfold V
  after_reads_simp
  all_goals try simp -implicitDefEqProofs only [StableHlo.TRef.toBuf, StableHlo.TRef.ofBuf, cast_cast, cast_eq]
  all_goals rfl

/-- their scales, -/
theorem V_v33 (c : Dev nD) : V m c main_v33 = shapeCast S24576x2048 (broadcastInDim S24576x16x128 ![0, 1, 2] bcast_S24576x16x1_S24576x16x128_0_1_2
    (broadcastInDim S24576x16x1 ![0, 1] bcast_S24576x16_S24576x16x1_0_1 (Host.powf (broadcastInDim S24576x16 ![] bcast_S_S24576x16 (constant S_ .f32 0x40000000#32))
      (sitofp (F := F) .f32 (subi (extui 32 (V m c main_v24 : IVec S24576x16 8) natLt_8_32) (broadcastInDim S24576x16 ![] bcast_S_S24576x16 (constantI S_ 32 127#32))))))) shapeCasts_S24576x16x128_S24576x2048 := by
  unfold V
  after_reads_simp
  all_goals try simp -implicitDefEqProofs only [StableHlo.TRef.toBuf, StableHlo.TRef.ofBuf, cast_cast, cast_eq]
  all_goals rfl

/-- and their weights. -/
theorem V_v37 (c : Dev nD) (t : Fin 24576) (k : Fin 2048) : V m c main_v37 (ix2 t k) = (m ((c : Thread nD τ).loc main_arg2) : FVec F S6x4096x2 .f32) (ix3 ⟨t.val / 4096, by omega⟩ ⟨t.val % 4096, by omega⟩ 0) := by
  unfold V
  after_reads_at
  all_goals rfl

/-- The rows of choice 1, -/
theorem V_v39 (c : Dev nD) : V m c main_v39 = shapeCast S24576 (extractStridedSlice S24576x1 ![0, 1] (shapeCast S24576x2 (V m c main_v19 : IVec S49152 32) shapeCasts_S49152_S24576x2) slices_S24576x2_S24576x1_0_1) shapeCasts_S24576x1_S24576 := by
  unfold V
  after_reads_simp
  all_goals try simp -implicitDefEqProofs only [StableHlo.TRef.toBuf, StableHlo.TRef.ofBuf, cast_cast, cast_eq]
  all_goals rfl

/-- their codes, -/
theorem V_v40 (c : Dev nD) : V m c main_v40 = Host.gather gather_S49152x2048_S24576x1_S24576x2048_1_0_n_n_0_1_12048
    (m ((c : Thread nD τ).loc main_arg3) : FVec F S49152x2048 .fp8e4m3) (broadcastInDim S24576x1 ![0] bcast_S24576_S24576x1_0 (V m c main_v39 : IVec S24576 32)) := by
  unfold V
  after_reads_simp
  all_goals try simp -implicitDefEqProofs only [StableHlo.TRef.toBuf, StableHlo.TRef.ofBuf, cast_cast, cast_eq]
  all_goals rfl

/-- their scale bytes, -/
theorem V_v41 (c : Dev nD) : V m c main_v41 = Host.gather gather_S49152x16_S24576x1_S24576x16_1_0_n_n_0_1_116
    (m ((c : Thread nD τ).loc main_arg4) : IVec S49152x16 8) (broadcastInDim S24576x1 ![0] bcast_S24576_S24576x1_0 (V m c main_v39 : IVec S24576 32)) := by
  unfold V
  after_reads_simp
  all_goals try simp -implicitDefEqProofs only [StableHlo.TRef.toBuf, StableHlo.TRef.ofBuf, cast_cast, cast_eq]
  all_goals rfl

/-- their scales, -/
theorem V_v50 (c : Dev nD) : V m c main_v50 = shapeCast S24576x2048 (broadcastInDim S24576x16x128 ![0, 1, 2] bcast_S24576x16x1_S24576x16x128_0_1_2
    (broadcastInDim S24576x16x1 ![0, 1] bcast_S24576x16_S24576x16x1_0_1 (Host.powf (broadcastInDim S24576x16 ![] bcast_S_S24576x16 (constant S_ .f32 0x40000000#32))
      (sitofp (F := F) .f32 (subi (extui 32 (V m c main_v41 : IVec S24576x16 8) natLt_8_32) (broadcastInDim S24576x16 ![] bcast_S_S24576x16 (constantI S_ 32 127#32))))))) shapeCasts_S24576x16x128_S24576x2048 := by
  unfold V
  after_reads_simp
  all_goals try simp -implicitDefEqProofs only [StableHlo.TRef.toBuf, StableHlo.TRef.ofBuf, cast_cast, cast_eq]
  all_goals rfl

/-- and their weights. -/
theorem V_v54 (c : Dev nD) (t : Fin 24576) (k : Fin 2048) : V m c main_v54 (ix2 t k) = (m ((c : Thread nD τ).loc main_arg2) : FVec F S6x4096x2 .f32) (ix3 ⟨t.val / 4096, by omega⟩ ⟨t.val % 4096, by omega⟩ 1) := by
  unfold V
  after_reads_at
  all_goals rfl

/-- The inputs, one token a row. -/
theorem V_v55 (c : Dev nD) : V m c main_v55 = shapeCast S24576x2048 (m ((c : Thread nD τ).loc main_arg0) : FVec F S6x4096x2048 .bf16) shapeCasts_S6x4096x2048_S24576x2048 := by
  unfold V
  after_reads_simp
  all_goals try simp -implicitDefEqProofs only [StableHlo.TRef.toBuf, StableHlo.TRef.ofBuf, cast_cast, cast_eq]
  all_goals rfl

end Cert.ReferenceIdeal.Val
-- ==== Proof.Value.RefVal.lean ====
/-
  The reference's result at an index: the input plus, of the two choices, code times scale times weight.
-/
module

public import proofs.«01_k».proof.Proof.Gen.ReferenceIdeal.Value
public import proofs.«01_k».proof.Proof.Value.Ref
public import proofs.«01_k».proof.Proof.Value.Scale

@[expose] public section

set_option maxRecDepth 100000

noncomputable section

namespace Cert.ReferenceIdeal.Val

open Idealize.ShloMosaic Idealize.ShloMosaic.TcCoe
open Cert.ReferenceIdeal Cert.ReferenceIdeal.Gen Cert.ReferenceIdeal.Value Cert.Words Cert.Pre_tables_ok.Read
open Idealize.ShloMosaic.Pipeline (Dat)

variable [Cert.Pre_tables_ok.Facts]

section
variable {F : FTy → Type} [FloatOps F]
variable (m : (ℓ : Loc nD τ sig) → Buf (Elt F) ℓ)

theorem iblk_0 (c : Dev nD) (t : Fin cfg0.N) : (iblk m c 0 t : Vec F S24576x2048 .bf16) = V m c main_v55 := by
  funext y
  unfold iblk
  rw [View.read_apply]
  refine congrArg (V m c main_v55) ?_
  funext a
  apply Fin.ext
  match a with
  | ⟨0, _⟩ => show 0 * 24576 + 1 * (y 0).val = (y 0).val; omega
  | ⟨1, _⟩ => show 0 * 2048 + 1 * (y 1).val = (y 1).val; omega

theorem iblk_1 (c : Dev nD) (t : Fin cfg0.N) : (iblk m c 1 t : Vec F S24576x2048 .fp8e4m3) = V m c main_v23 := by
  funext y
  unfold iblk
  rw [View.read_apply]
  refine congrArg (V m c main_v23) ?_
  funext a
  apply Fin.ext
  match a with
  | ⟨0, _⟩ => show 0 * 24576 + 1 * (y 0).val = (y 0).val; omega
  | ⟨1, _⟩ => show 0 * 2048 + 1 * (y 1).val = (y 1).val; omega

theorem iblk_2 (c : Dev nD) (t : Fin cfg0.N) : (iblk m c 2 t : Vec F S24576x2048 .fp8e4m3) = V m c main_v40 := by
  funext y
  unfold iblk
  rw [View.read_apply]
  refine congrArg (V m c main_v40) ?_
  funext a
  apply Fin.ext
  match a with
  | ⟨0, _⟩ => show 0 * 24576 + 1 * (y 0).val = (y 0).val; omega
  | ⟨1, _⟩ => show 0 * 2048 + 1 * (y 1).val = (y 1).val; omega

theorem iblk_3 (c : Dev nD) (t : Fin cfg0.N) : (iblk m c 3 t : Vec F S24576x2048 .f32) = V m c main_v33 := by
  funext y
  unfold iblk
  rw [View.read_apply]
  refine congrArg (V m c main_v33) ?_
  funext a
  apply Fin.ext
  match a with
  | ⟨0, _⟩ => show 0 * 24576 + 1 * (y 0).val = (y 0).val; omega
  | ⟨1, _⟩ => show 0 * 2048 + 1 * (y 1).val = (y 1).val; omega

theorem iblk_4 (c : Dev nD) (t : Fin cfg0.N) : (iblk m c 4 t : Vec F S24576x2048 .f32) = V m c main_v50 := by
  funext y
  unfold iblk
  rw [View.read_apply]
  refine congrArg (V m c main_v50) ?_
  funext a
  apply Fin.ext
  match a with
  | ⟨0, _⟩ => show 0 * 24576 + 1 * (y 0).val = (y 0).val; omega
  | ⟨1, _⟩ => show 0 * 2048 + 1 * (y 1).val = (y 1).val; omega

theorem iblk_5 (c : Dev nD) (t : Fin cfg0.N) : (iblk m c 5 t : Vec F S24576x2048 .f32) = V m c main_v37 := by
  funext y
  unfold iblk
  rw [View.read_apply]
  refine congrArg (V m c main_v37) ?_
  funext a
  apply Fin.ext
  match a with
  | ⟨0, _⟩ => show 0 * 24576 + 1 * (y 0).val = (y 0).val; omega
  | ⟨1, _⟩ => show 0 * 2048 + 1 * (y 1).val = (y 1).val; omega

theorem iblk_6 (c : Dev nD) (t : Fin cfg0.N) : (iblk m c 6 t : Vec F S24576x2048 .f32) = V m c main_v54 := by
  funext y
  unfold iblk
  rw [View.read_apply]
  refine congrArg (V m c main_v54) ?_
  funext a
  apply Fin.ext
  match a with
  | ⟨0, _⟩ => show 0 * 24576 + 1 * (y 0).val = (y 0).val; omega
  | ⟨1, _⟩ => show 0 * 2048 + 1 * (y 1).val = (y 1).val; omega

/-- The one point. -/
def p0 : Fin cfg0.N := ⟨0, by decide⟩

/-- The whole result, from the windows' arrays. -/
theorem arr7 (c : Dev nD) (y : S24576x2048.Idx) : (dats m 0 c).arrAt 7 cfg0.N y
    = E7 (V m c main_v55) (V m c main_v23) (V m c main_v33) (V m c main_v37) (V m c main_v40) (V m c main_v50) (V m c main_v54) y := by
  have h := congrFun ((blocks7 m c p0 rfl).trans (flushed7 m c p0)) y
  rw [View.read_apply] at h
  have e : ((cfg0.win 7).blk p0).view.emb y = y := by
    funext a
    apply Fin.ext
    match a with
    | ⟨0, _⟩ => show 0 * 24576 + 1 * (y 0).val = (y 0).val; omega
    | ⟨1, _⟩ => show 0 * 2048 + 1 * (y 1).val = (y 1).val; omega
  rw [e] at h
  refine h.trans ?_
  show out0_7 (iblk m c 0 p0) (iblk m c 1 p0) (iblk m c 2 p0) (iblk m c 3 p0) (iblk m c 4 p0) (iblk m c 5 p0) (iblk m c 6 p0) y = _
  rw [iblk_0, iblk_1, iblk_2, iblk_3, iblk_4, iblk_5, iblk_6]
  unfold out0_7
  have z : (![0, 0] : Fin 2 → ℕ) = fun _ => 0 := by funext a; fin_cases a <;> rfl
  rw [canon7_eq]
  have hl : ∀ {φ} (P : Vec F S24576x2048 φ), View.ld P r0_0 = P := fun P => View.ld_unit_zero z _ P
  simp only [hl]

/-- Of choice 0: its row, -/
theorem row0 (c : Dev nD) (t : Fin 24576) {R : ℕ} (h : ROW (F := F) (IDS m c) (ix1 ⟨2 * t.val + 0, by omega⟩) = w R) :
    (broadcastInDim S24576x1 ![0] bcast_S24576_S24576x1_0 (V m c main_v22 : IVec S24576 32)) (ix2 t 0) = w R := by
  rw [V_v22, V_v19]
  generalize ROW (F := F) (IDS m c) = A at h
  pointwise
  refine Eq.trans (congrArg A ?_) h
  congr 1
  apply Fin.ext
  simp only []
  omega

/-- its code, -/
theorem code0 (c : Dev nD) (t : Fin 24576) (k : Fin 2048) {R : ℕ} (hR : R < 49152) (h : ROW (F := F) (IDS m c) (ix1 ⟨2 * t.val + 0, by omega⟩) = w R) :
    V m c main_v23 (ix2 t k) = (m ((c : Thread nD τ).loc main_arg3) : FVec F S49152x2048 .fp8e4m3) (ix2 ⟨R, hR⟩ k) := by
  rw [V_v23]
  exact Routing.gather_row _ rfl rfl rfl rfl rfl _ _ t k ⟨R, hR⟩ (row0 m c t h) (by decide)

/-- and its scale byte. -/
theorem byte0 (c : Dev nD) (t : Fin 24576) (k : Fin 16) {R : ℕ} (hR : R < 49152) (h : ROW (F := F) (IDS m c) (ix1 ⟨2 * t.val + 0, by omega⟩) = w R) :
    V m c main_v24 (ix2 t k) = (m ((c : Thread nD τ).loc main_arg4) : IVec S49152x16 8) (ix2 ⟨R, hR⟩ k) := by
  rw [V_v24]
  exact Routing.gather_row _ rfl rfl rfl rfl rfl _ _ t k ⟨R, hR⟩ (row0 m c t h) (by decide)

/-- Of choice 1: its row, -/
theorem row1 (c : Dev nD) (t : Fin 24576) {R : ℕ} (h : ROW (F := F) (IDS m c) (ix1 ⟨2 * t.val + 1, by omega⟩) = w R) :
    (broadcastInDim S24576x1 ![0] bcast_S24576_S24576x1_0 (V m c main_v39 : IVec S24576 32)) (ix2 t 0) = w R := by
  rw [V_v39, V_v19]
  generalize ROW (F := F) (IDS m c) = A at h
  pointwise
  refine Eq.trans (congrArg A ?_) h
  congr 1
  apply Fin.ext
  simp only []
  omega

/-- its code, -/
theorem code1 (c : Dev nD) (t : Fin 24576) (k : Fin 2048) {R : ℕ} (hR : R < 49152) (h : ROW (F := F) (IDS m c) (ix1 ⟨2 * t.val + 1, by omega⟩) = w R) :
    V m c main_v40 (ix2 t k) = (m ((c : Thread nD τ).loc main_arg3) : FVec F S49152x2048 .fp8e4m3) (ix2 ⟨R, hR⟩ k) := by
  rw [V_v40]
  exact Routing.gather_row _ rfl rfl rfl rfl rfl _ _ t k ⟨R, hR⟩ (row1 m c t h) (by decide)

/-- and its scale byte. -/
theorem byte1 (c : Dev nD) (t : Fin 24576) (k : Fin 16) {R : ℕ} (hR : R < 49152) (h : ROW (F := F) (IDS m c) (ix1 ⟨2 * t.val + 1, by omega⟩) = w R) :
    V m c main_v41 (ix2 t k) = (m ((c : Thread nD τ).loc main_arg4) : IVec S49152x16 8) (ix2 ⟨R, hR⟩ k) := by
  rw [V_v41]
  exact Routing.gather_row _ rfl rfl rfl rfl rfl _ _ t k ⟨R, hR⟩ (row1 m c t h) (by decide)

end

variable (m : (ℓ : Loc nD τ sig) → Buf (Elt Ideal) ℓ)

/-- The scale of choice 0. -/
theorem scale0 (c : Dev nD) (t : Fin 24576) (k : Fin 2048) {n : ℕ} (h1 : 1 ≤ n) (h2 : n ≤ 254)
    (h : ((V m c main_v24 : IVec S24576x16 8) (ix2 t ⟨k.val / 128, by omega⟩)).toNat = n) :
    (V m c main_v33 : FVec Ideal S24576x2048 .f32) (ix2 t k) = Cert.Scale.two n := by
  rw [V_v33]
  generalize (V m c main_v24 : IVec S24576x16 8) = A at h
  pointwise
  exact Cert.Scale.host_scale _ h1 h2 h

/-- The scale of choice 1. -/
theorem scale1 (c : Dev nD) (t : Fin 24576) (k : Fin 2048) {n : ℕ} (h1 : 1 ≤ n) (h2 : n ≤ 254)
    (h : ((V m c main_v41 : IVec S24576x16 8) (ix2 t ⟨k.val / 128, by omega⟩)).toNat = n) :
    (V m c main_v50 : FVec Ideal S24576x2048 .f32) (ix2 t k) = Cert.Scale.two n := by
  rw [V_v50]
  generalize (V m c main_v41 : IVec S24576x16 8) = A at h
  pointwise
  exact Cert.Scale.host_scale _ h1 h2 h

/-- The arguments the result is made of: the inputs, the codes, the scale bytes, the weights. -/
def XR (c : Dev nD) : S24576x2048.Idx → EReal := shapeCast S24576x2048 (m ((c : Thread nD τ).loc main_arg0) : FVec Ideal S6x4096x2048 .bf16) shapeCasts_S6x4096x2048_S24576x2048
def YR (c : Dev nD) : S49152x2048.Idx → EReal := (m ((c : Thread nD τ).loc main_arg3) : FVec Ideal S49152x2048 .fp8e4m3)
def SR (c : Dev nD) : S49152x16.Idx → BitVec 8 := (m ((c : Thread nD τ).loc main_arg4) : IVec S49152x16 8)
def WR (c : Dev nD) : S6x4096x2.Idx → EReal := (m ((c : Thread nD τ).loc main_arg2) : FVec Ideal S6x4096x2 .f32)

theorem e7_at (P0 P1 P2 P3 P4 P5 P6 : S24576x2048.Idx → EReal) (y : S24576x2048.Idx) :
    E7 (F := Ideal) P0 P1 P2 P3 P4 P5 P6 y = P0 y + (P1 y * P2 y * P3 y + P4 y * P5 y * P6 y) := by
  unfold E7
  have hix : ∀ y : S24576x2048.Idx, ix7_0 y = y ∧ ix7_1 y = y ∧ ix7_2 y = y ∧ ix7_3 y = y ∧ ix7_4 y = y ∧ ix7_5 y = y ∧ ix7_6 y = y := by
    intro y
    refine ⟨?_, ?_, ?_, ?_, ?_, ?_, ?_⟩ <;> (funext a; apply Fin.ext; fin_cases a <;> rfl)
  obtain ⟨i0, i1, i2, i3, i4, i5, i6⟩ := hix y
  rw [i0, i1, i2, i3, i4, i5, i6]
  rfl

theorem mix {a a' b b' c c' d d' e e' f f' g g' : EReal} (h1 : a = a') (h2 : b = b') (h3 : c = c') (h4 : d = d') (h5 : e = e') (h6 : f = f') (h7 : g = g') :
    a + (b * c * d + e * f * g) = a' + (b' * c' * d' + e' * f' * g') := by
  subst h1 h2 h3 h4 h5 h6 h7
  rfl

/-- The reference's result at an index. -/
theorem ref_at (c : Dev nD) (t : Fin 24576) (k : Fin 2048) {R0 R1 : ℕ} (l0 : R0 < 49152) (l1 : R1 < 49152)
    (h0 : ROW (F := Ideal) (IDS m c) (ix1 ⟨2 * t.val + 0, by omega⟩) = w R0) (h1 : ROW (F := Ideal) (IDS m c) (ix1 ⟨2 * t.val + 1, by omega⟩) = w R1)
    (hb : ∀ (r : Fin 49152) (k : Fin 16), 1 ≤ (SR m c (ix2 r k)).toNat ∧ (SR m c (ix2 r k)).toNat ≤ 254) :
    (dats m 0 c).arrAt 7 cfg0.N (ix2 t k : S24576x2048.Idx)
      = XR m c (ix2 t k)
        + (YR m c (ix2 ⟨R0, l0⟩ k) * Cert.Scale.two (SR m c (ix2 ⟨R0, l0⟩ ⟨k.val / 128, by omega⟩)).toNat * WR m c (ix3 ⟨t.val / 4096, by omega⟩ ⟨t.val % 4096, by omega⟩ 0)
          + YR m c (ix2 ⟨R1, l1⟩ k) * Cert.Scale.two (SR m c (ix2 ⟨R1, l1⟩ ⟨k.val / 128, by omega⟩)).toNat * WR m c (ix3 ⟨t.val / 4096, by omega⟩ ⟨t.val % 4096, by omega⟩ 1)) := by
  refine (arr7 m c (ix2 t k)).trans ((e7_at _ _ _ _ _ _ _ _).trans (mix ?_ ?_ ?_ ?_ ?_ ?_ ?_))
  · exact congrFun (V_v55 m c) _
  · exact code0 m c t k l0 h0
  · exact scale0 m c t k (hb _ _).1 (hb _ _).2 (congrArg BitVec.toNat (byte0 m c t _ l0 h0))
  · exact V_v37 m c t k
  · exact code1 m c t k l1 h1
  · exact scale1 m c t k (hb _ _).1 (hb _ _).2 (congrArg BitVec.toNat (byte1 m c t _ l1 h1))
  · exact V_v54 m c t k

end Cert.ReferenceIdeal.Val
-- ==== Proof.Value.Join.lean ====
/-
  The kernel's result is the reference's, element by element over the extended reals.
-/
module

public import proofs.«01_k».proof.Defs
public import proofs.«01_k».proof.Proof.Gen.KernelIdeal
public import proofs.«01_k».proof.Proof.Gen.ReferenceIdeal
public import proofs.«01_k».proof.Proof.Gen.Pre_tables_ok
public import proofs.«01_k».proof.Proof.Value.Block
public import proofs.«01_k».proof.Proof.Value.Final
public import proofs.«01_k».proof.Proof.Value.Routes
public import proofs.«01_k».proof.Proof.Value.RefVal

@[expose] public section

set_option maxRecDepth 100000

noncomputable section

namespace Cert.Join

open Idealize.ShloMosaic Idealize.ShloMosaic.TcCoe
open Cert.Words Cert.Chunks Cert.Fill Cert.KernelIdeal Cert.KernelIdeal.Gen Cert.KernelIdeal.Run
open Cert.Pre_tables_ok.Read

/-- A number that equals a finite one is finite. -/
theorem real_of (a x : EReal) (h : IntOp.andi (Ideal.cmp .oeq a x) (Ideal.cmp .olt (max x (-x)) (Ideal.ofBits .f32 2139095040#32)) = 1#1) :
    a = x ∧ ∃ r : ℝ, x = (r : EReal) := by
  have hi : Ideal.ofBits .f32 2139095040#32 = (⊤ : EReal) := by
    show Ideal.ieee 8 23 2139095040#32 = _
    unfold Ideal.ieee
    have hx : ((2139095040#32 : BitVec 32).extractLsb' 23 8).toNat = 255 := by decide
    have hf : ((2139095040#32 : BitVec 32).extractLsb' 0 23).toNat = 0 := by decide
    have hn : (2139095040#32 : BitVec 32).extractLsb' (8 + 23) 1 = 0#1 := by decide
    rw [hn]
    simp only [hx, hf]
    rfl
  rw [and_one, hi] at h
  unfold Ideal.cmp at h
  rw [bool_one, bool_one] at h
  simp only [decide_eq_true_iff] at h
  refine ⟨h.1, ?_⟩
  have h2 := max_lt_iff.mp h.2
  induction x using EReal.rec with
  | bot => exact absurd h2.2 (by simp)
  | coe r => exact ⟨r, rfl⟩
  | top => exact absurd h2.1 (by simp)

variable [Cert.Pre_tables_ok.Facts]
variable (m : (ℓ : Loc nD τ sig) → Buf (Elt Ideal) ℓ) (ρ : Dev nD → PrngReg)

/-- The arguments, as arrays. -/
abbrev ax : FVec Ideal S6x4096x2048 .bf16 := m (((0 : Dev nD) : Thread nD τ).loc main_arg0)
abbrev aids : IVec S6x4096x2 32 := m (((0 : Dev nD) : Thread nD τ).loc main_arg1)
abbrev awts : FVec Ideal S6x4096x2 .f32 := m (((0 : Dev nD) : Thread nD τ).loc main_arg2)
abbrev ayc : FVec Ideal S49152x2048 .fp8e4m3 := m (((0 : Dev nD) : Thread nD τ).loc main_arg3)
abbrev ays : IVec S49152x16 8 := m (((0 : Dev nD) : Thread nD τ).loc main_arg4)
abbrev amt : IVec S192x4x128 32 := m (((0 : Dev nD) : Thread nD τ).loc main_arg5)

/-- The transposed scales at an index. -/
theorem scalesT_at (k : Fin 16) (r : Fin 49152) : scalesT m 0 (ix2 k r) = ays m (ix2 r k) := by
  unfold scalesT
  pointwise

theorem m3_ix (a b : Fin 4) (r : Fin 128) : m3 a.val b.val r.val = ix3 a b r := by
  funext d
  apply Fin.ext
  match d with
  | ⟨0, _⟩ => exact Nat.mod_eq_of_lt a.isLt
  | ⟨1, _⟩ => exact Nat.mod_eq_of_lt b.isLt
  | ⟨2, _⟩ => exact Nat.mod_eq_of_lt r.isLt

/-- The descriptors a step's window shows. -/
theorem meta_at (t : Fin 48) (b : Fin 8) (o : Fin 4) (r : Fin 128) :
    (iblk m ρ 0 0 (pt m t) : S4x4x128.Idx → BitVec 32) (m3 (b.val / 2) o.val r.val) = amt m (ix3 ⟨4 * t.val + b.val / 2, by omega⟩ o r) := by
  have e := m3_ix ⟨b.val / 2, by omega⟩ o r
  simp only [] at e
  rw [e]
  exact iblk_0 m ρ 0 t ⟨b.val / 2, by omega⟩ o r

variable (hw8 : (Cert.Pre_tables_ok.fn (F := Ideal) (ax m) (aids m) (awts m) (ayc m) (ays m) (amt m) (granT m) (baseT m)).2.2.2.2.2.2.2.1 = fun _ => 1#1)
  (hs9 : (Cert.Pre_tables_ok.fn (F := Ideal) (ax m) (aids m) (awts m) (ayc m) (ays m) (amt m) (granT m) (baseT m)).2.2.2.2.2.2.2.2 = fun _ => 1#1)
include hw8 hs9

/-- What the precondition says of a lane is what a block's value needs of it. -/
theorem entry_of (t : Fin 48) (b : Fin 8) (r : Fin 128) {p sx e row : ℕ}
    (L : Lane (F := Ideal) (aids m) (amt m) (granT m) (baseT m) ⟨4 * t.val + b.val / 2, by omega⟩ ⟨b.val % 2, by omega⟩ r p sx e row) :
    ∃ wt : ℝ, awts m (ix3 ⟨(512 * t.val + 64 * b.val + r.val % 64) / 4096, by omega⟩ ⟨(512 * t.val + 64 * b.val + r.val % 64) % 4096, by omega⟩ ⟨r.val / 64, by omega⟩) = (wt : EReal)
      ∧ Entry (iblk m ρ 0 0 (pt m t)) (scalesT m 0) (baseT m) (granT m) t.val b.val r p sx e row wt := by
  have hd : (iblk m ρ 0 0 (pt m t) : S4x4x128.Idx → BitVec 32) (m3 (b.val / 2) (b.val % 2) r.val)
      = desc (amt m) ⟨4 * t.val + b.val / 2, by omega⟩ ⟨b.val % 2, by omega⟩ r := meta_at m ρ t b ⟨b.val % 2, by omega⟩ r
  have hwt : (iblk m ρ 0 0 (pt m t) : S4x4x128.Idx → BitVec 32) (m3 (b.val / 2) (2 + b.val % 2) r.val)
      = amt m (ix3 ⟨4 * t.val + b.val / 2, by omega⟩ ⟨2 + b.val % 2, by omega⟩ r) := meta_at m ρ t b ⟨2 + b.val % 2, by omega⟩ r
  have hw := weights_at (ax m) (aids m) (awts m) (ayc m) (ays m) (amt m) (granT m) (baseT m) hw8 ⟨4 * t.val + b.val / 2, by omega⟩ ⟨b.val % 2, by omega⟩ r
  have hi : (ix3 (⟨(4 * t.val + b.val / 2) / 32, by omega⟩ : Fin 6) (⟨(4 * t.val + b.val / 2) % 32 * 128 + b.val % 2 * 64 + r.val % 64, by omega⟩ : Fin 4096) (⟨r.val / 64, by omega⟩ : Fin 2))
      = ix3 ⟨(512 * t.val + 64 * b.val + r.val % 64) / 4096, by omega⟩ ⟨(512 * t.val + 64 * b.val + r.val % 64) % 4096, by omega⟩ ⟨r.val / 64, by omega⟩ := by
    congr 1 <;> (apply Fin.ext; simp only []; omega)
  simp only [hi] at hw
  obtain ⟨h1, wt, h2⟩ := real_of _ _ hw
  refine ⟨wt, h2, ?_⟩
  exact {
    hp := L.hp, hsx := L.hsx, he := L.he, hrow := L.hrow
    pick := by rw [hd]; exact L.pick
    scale := by rw [hd]; exact L.scale
    owner := by rw [hd]; exact L.owner
    from_ := by
      have h := L.from_
      have e : (4 * t.val + b.val / 2) / 4 = t.val := by omega
      simp only [e] at h
      exact h
    upto_ := by
      have h := L.upto_
      have e : (4 * t.val + b.val / 2) / 4 = t.val := by omega
      simp only [e] at h
      exact h
    window := L.window
    slot := L.slot
    weight := by rw [hwt]; exact h1.trans h2
    bytes := by
      intro k
      rw [scalesT_at]
      exact scales_at (ax m) (aids m) (awts m) (ayc m) (ays m) (amt m) (granT m) (baseT m) hs9 ⟨row, L.hrow⟩ k }

omit hw8 hs9 in
theorem mix {a a' b b' c c' d d' e e' f f' g g' : EReal} (h1 : a = a') (h2 : b = b') (h3 : c = c') (h4 : d = d') (h5 : e = e') (h6 : f = f') (h7 : g = g') :
    a + (b * (c * d) + e * (f * g)) = a' + (b' * c' * d' + e' * f' * g') := by
  subst h1 h2 h3 h4 h5 h6 h7
  rw [mul_assoc, mul_assoc]

omit hw8 hs9 [Cert.Pre_tables_ok.Facts] in
theorem wix0 (t : Fin 48) (b : Fin 8) (rr : Fin 64) :
    (ix3 (⟨(512 * t.val + 64 * b.val + rr.val % 64) / 4096, by omega⟩ : Fin 6) (⟨(512 * t.val + 64 * b.val + rr.val % 64) % 4096, by omega⟩ : Fin 4096) (⟨rr.val / 64, by omega⟩ : Fin 2))
      = ix3 ⟨(512 * t.val + (64 * b.val + rr.val)) / 4096, by omega⟩ ⟨(512 * t.val + (64 * b.val + rr.val)) % 4096, by omega⟩ 0 := by
  have e1 : 512 * t.val + 64 * b.val + rr.val % 64 = 512 * t.val + (64 * b.val + rr.val) := by omega
  have e2 : (⟨rr.val / 64, by omega⟩ : Fin 2) = 0 := Fin.ext (by simp only [Fin.val_zero]; omega)
  rw [e2]
  simp only [e1]

omit hw8 hs9 [Cert.Pre_tables_ok.Facts] in
theorem wix1 (t : Fin 48) (b : Fin 8) (rr : Fin 64) :
    (ix3 (⟨(512 * t.val + 64 * b.val + (64 + rr.val) % 64) / 4096, by omega⟩ : Fin 6) (⟨(512 * t.val + 64 * b.val + (64 + rr.val) % 64) % 4096, by omega⟩ : Fin 4096)
        (⟨(64 + rr.val) / 64, by omega⟩ : Fin 2))
      = ix3 ⟨(512 * t.val + (64 * b.val + rr.val)) / 4096, by omega⟩ ⟨(512 * t.val + (64 * b.val + rr.val)) % 4096, by omega⟩ 1 := by
  have e1 : 512 * t.val + 64 * b.val + (64 + rr.val) % 64 = 512 * t.val + (64 * b.val + rr.val) := by omega
  have e2 : (⟨(64 + rr.val) / 64, by omega⟩ : Fin 2) = 1 := Fin.ext (by simp only [Fin.val_one]; omega)
  rw [e2]
  simp only [e1]

omit hw8 hs9 in
/-- The two results agree at an index, the step `t`, the block `b` and the row `rr` of the block given. -/
theorem value_at (m' : (ℓ : Loc Cert.ReferenceIdeal.nD Cert.ReferenceIdeal.τ Cert.ReferenceIdeal.sig) → Buf (Elt Ideal) ℓ)
    (h : Cert.Pre_KernelIdeal m)
    (hX : Cert.ReferenceIdeal.Val.XR m' 0 = rowsX m 0) (hI : Cert.ReferenceIdeal.Val.IDS m' 0 = aids m) (hW : Cert.ReferenceIdeal.Val.WR m' 0 = awts m)
    (hY : Cert.ReferenceIdeal.Val.YR m' 0 = ayc m) (hS : Cert.ReferenceIdeal.Val.SR m' 0 = ays m)
    (t : Fin 48) (b : Fin 8) (rr : Fin 64) (k : Fin 2048) :
    (finalA m ρ 0 3 (ix2 (⟨512 * t.val + (64 * b.val + rr.val), by omega⟩ : Fin 24576) k : S24576x2048.Idx) : EReal)
      = (Cert.ReferenceIdeal.Gen.dats m' 0 0).arrAt 7 Cert.ReferenceIdeal.cfg0.N (ix2 (⟨512 * t.val + (64 * b.val + rr.val), by omega⟩ : Fin 24576) k : S24576x2048.Idx) := by
  obtain ⟨c1, c2, c3, c4, c5, c6, c7, c8, c9⟩ := h 0
  have G := good (F := Ideal) (baseT m) (granT m) (ax m) (aids m) (awts m) (ayc m) (ays m) (amt m) c1 c2
  obtain ⟨p0, sx0, e0, row0, L0⟩ := lane_at (F := Ideal) (ax m) (aids m) (awts m) (ayc m) (ays m) (amt m) (granT m) (baseT m) c1 c2 c3 c4 c5 c6 c7
    ⟨4 * t.val + b.val / 2, by omega⟩ ⟨b.val % 2, by omega⟩ ⟨rr.val, by omega⟩
  obtain ⟨p1, sx1, e1, row1, L1⟩ := lane_at (F := Ideal) (ax m) (aids m) (awts m) (ayc m) (ays m) (amt m) (granT m) (baseT m) c1 c2 c3 c4 c5 c6 c7
    ⟨4 * t.val + b.val / 2, by omega⟩ ⟨b.val % 2, by omega⟩ ⟨64 + rr.val, by omega⟩
  obtain ⟨wt0, w0, E0⟩ := entry_of m ρ c8 c9 t b ⟨rr.val, by omega⟩ L0
  obtain ⟨wt1, w1, E1⟩ := entry_of m ρ c8 c9 t b ⟨64 + rr.val, by omega⟩ L1
  have r0 : ROW (F := Ideal) (Cert.ReferenceIdeal.Val.IDS m' 0) (ix1 ⟨2 * (512 * t.val + (64 * b.val + rr.val)) + 0, by omega⟩) = w row0 := by
    rw [hI]
    have e : (⟨2 * (512 * t.val + (64 * b.val + rr.val)) + 0, by omega⟩ : Fin 49152)
        = ⟨2 * (128 * (4 * t.val + b.val / 2) + 64 * (b.val % 2) + rr.val % 64) + rr.val / 64, by omega⟩ := Fin.ext (by simp only []; omega)
    have hr := L0.route
    unfold lrow at hr
    generalize ROW (F := Ideal) (aids m) = A at hr ⊢
    rw [e]
    exact hr
  have r1 : ROW (F := Ideal) (Cert.ReferenceIdeal.Val.IDS m' 0) (ix1 ⟨2 * (512 * t.val + (64 * b.val + rr.val)) + 1, by omega⟩) = w row1 := by
    rw [hI]
    have e : (⟨2 * (512 * t.val + (64 * b.val + rr.val)) + 1, by omega⟩ : Fin 49152)
        = ⟨2 * (128 * (4 * t.val + b.val / 2) + 64 * (b.val % 2) + (64 + rr.val) % 64) + (64 + rr.val) / 64, by omega⟩ := Fin.ext (by simp only []; omega)
    have hr := L1.route
    unfold lrow at hr
    generalize ROW (F := Ideal) (aids m) = A at hr ⊢
    rw [e]
    exact hr
  have hbytes : ∀ (r : Fin 49152) (k : Fin 16), 1 ≤ (Cert.ReferenceIdeal.Val.SR m' 0 (ix2 r k)).toNat ∧ (Cert.ReferenceIdeal.Val.SR m' 0 (ix2 r k)).toNat ≤ 254 := by
    rw [hS]
    exact scales_at (F := Ideal) (ax m) (aids m) (awts m) (ayc m) (ays m) (amt m) (granT m) (baseT m) c9
  have R := Cert.ReferenceIdeal.Val.ref_at m' 0 ⟨512 * t.val + (64 * b.val + rr.val), by omega⟩ k L0.hrow L1.hrow r0 r1 hbytes
  have K := block_at (Y := codes m 0) (iblk m ρ 0 2 (pt m t)) G b.isLt E0 E1 k
  have F := final_at m ρ 0 t ⟨64 * b.val + rr.val, by omega⟩ k
  refine (F.trans K).trans (Eq.trans ?_ R.symm)
  refine mix ?_ ?_ ?_ ?_ ?_ ?_ ?_
  · rw [hX]
    exact iblk_2 m ρ 0 t ⟨64 * b.val + rr.val, by omega⟩ k
  · rw [hY]
  · rw [hS, scalesT_at]
  · exact w0.symm.trans (((congrArg (awts m) (wix0 t b rr)).trans (congrFun hW _).symm))
  · rw [hY]
  · rw [hS, scalesT_at]
  · exact w1.symm.trans (((congrArg (awts m) (wix1 t b rr)).trans (congrFun hW _).symm))

omit hw8 hs9 in
/-- The two results are one array. -/
theorem value (m' : (ℓ : Loc Cert.ReferenceIdeal.nD Cert.ReferenceIdeal.τ Cert.ReferenceIdeal.sig) → Buf (Elt Ideal) ℓ)
    (h : Cert.Pre_KernelIdeal m)
    (hX : Cert.ReferenceIdeal.Val.XR m' 0 = rowsX m 0) (hI : Cert.ReferenceIdeal.Val.IDS m' 0 = aids m) (hW : Cert.ReferenceIdeal.Val.WR m' 0 = awts m)
    (hY : Cert.ReferenceIdeal.Val.YR m' 0 = ayc m) (hS : Cert.ReferenceIdeal.Val.SR m' 0 = ays m) (y : S24576x2048.Idx) :
    (finalA m ρ 0 3 y : EReal) = (Cert.ReferenceIdeal.Gen.dats m' 0 0).arrAt 7 Cert.ReferenceIdeal.cfg0.N y := by
  have y0 : (y 0).val < 24576 := (y 0).isLt
  have y1 : (y 1).val < 2048 := (y 1).isLt
  have e : y = ix2 (⟨512 * ((y 0).val / 512) + (64 * ((y 0).val % 512 / 64) + (y 0).val % 64), by omega⟩ : Fin 24576) (⟨(y 1).val, y1⟩ : Fin 2048) := by
    funext d
    apply Fin.ext
    match d with
    | ⟨0, _⟩ => show (y 0).val = 512 * ((y 0).val / 512) + (64 * ((y 0).val % 512 / 64) + (y 0).val % 64); omega
    | ⟨1, _⟩ => rfl
  have := value_at m ρ m' h hX hI hW hY hS ⟨(y 0).val / 512, by omega⟩ ⟨(y 0).val % 512 / 64, by omega⟩ ⟨(y 0).val % 64, by omega⟩ ⟨(y 1).val, y1⟩
  rw [e]
  exact this

end Cert.Join
-- ==== Proof.lean ====
/-
  The proof of `Cert.Claim`: the call of `combine` runs to its end, on the bits and over the reals, its arguments kept and every
  semaphore at zero, if the tables are good; so does the reference; and the two results are one array over the reals.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_tables_ok
public import proofs.«01_k».proof.Proof.Kernel.Frame
public import proofs.«01_k».proof.Proof.KernelIdeal.Frame
public import proofs.«01_k».proof.Proof.PreTables
public import proofs.«01_k».proof.Proof.Value.Join

@[expose] public section

noncomputable section

namespace Cert.Proof

open Idealize.ShloMosaic Idealize.SL.Sem Cert.Pre_tables_ok.Read

/-- The precondition gives good tables: of the program on bits, -/
theorem tables_bits (m : (ℓ : Loc Cert.Kernel.nD Cert.Kernel.τ Cert.Kernel.sig) → Buf (Elt Bits) ℓ)
    (h : Pre_Kernel (hPre_tables_ok := Cert.Pre_tables_ok.Gen.facts) m) : Words.Tables (Cert.Kernel.Run.baseT m) (Cert.Kernel.Run.granT m) :=
  have h := h 0
  letI := Cert.Pre_tables_ok.Gen.facts
  tables (F := Bits) (Cert.Kernel.Run.baseT m) (Cert.Kernel.Run.granT m) _ _ _ _ _ _ h.1 h.2.1 h.2.2.1 h.2.2.2.2.2.2.1

/-- and over the reals. -/
theorem tables_ideal (m : (ℓ : Loc Cert.KernelIdeal.nD Cert.KernelIdeal.τ Cert.KernelIdeal.sig) → Buf (Elt Ideal) ℓ)
    (h : Pre_KernelIdeal (hPre_tables_ok := Cert.Pre_tables_ok.Gen.facts) m) : Words.Tables (Cert.KernelIdeal.Run.baseT m) (Cert.KernelIdeal.Run.granT m) :=
  have h := h 0
  letI := Cert.Pre_tables_ok.Gen.facts
  tables (F := Ideal) (Cert.KernelIdeal.Run.baseT m) (Cert.KernelIdeal.Run.granT m) _ _ _ _ _ _ h.1 h.2.1 h.2.2.1 h.2.2.2.2.2.2.1

open Idealize.ShloMosaic.TcCoe in
/-- The kernel's result is the reference's over the extended reals. -/
theorem algebraic : Cert.algebraic_KernelIdeal_ReferenceIdeal (hKernelIdeal := Cert.KernelIdeal.Gen.facts) (hReferenceIdeal := Cert.ReferenceIdeal.Gen.facts)
    (hPre_tables_ok := Cert.Pre_tables_ok.Gen.facts) := by
  letI := Cert.Pre_tables_ok.Gen.facts
  intro m g m' g' h ha
  have hk := Cert.KernelIdeal.Run.ends m g (tables_ideal m h)
  have hr := Cert.ReferenceIdeal.Value.run_blocks m' g'
  have hX : Cert.ReferenceIdeal.Val.XR m' 0 = Cert.KernelIdeal.Run.rowsX m 0 := by
    unfold Cert.ReferenceIdeal.Val.XR
    rw [(ha 0).1]
  have hI : Cert.ReferenceIdeal.Val.IDS m' 0 = Cert.Join.aids m := (ha 0).2.1
  have hW : Cert.ReferenceIdeal.Val.WR m' 0 = Cert.Join.awts m := (ha 0).2.2.1
  have hY : Cert.ReferenceIdeal.Val.YR m' 0 = Cert.Join.ayc m := (ha 0).2.2.2.1
  have hS : Cert.ReferenceIdeal.Val.SR m' 0 = Cert.Join.ays m := (ha 0).2.2.2.2.1
  refine ⟨fun c => Cert.KernelIdeal.Run.finalA m g c 3, ?_, ?_⟩
  · exact (θ_run _ _ _).mono (fun _ r c => ⟨(r.1 c).2, (r.1 c).1⟩) hk
  · refine (θ_run _ _ _).mono (fun _ r c => ⟨?_, (r c).2⟩) hr
    obtain rfl : c = 0 := Subsingleton.elim _ _
    refine (r 0).1.trans ?_
    funext y
    exact (Cert.Join.value m g m' h hX hI hW hY hS y).symm

theorem claim : Cert.Claim :=
  ⟨Cert.Kernel.Gen.facts, Cert.KernelIdeal.Gen.facts, Cert.ReferenceIdeal.Gen.facts, Cert.Pre_tables_ok.Gen.facts,
    fun m ρ h => Cert.Kernel.Run.frame m ρ (tables_bits m h),
    fun m ρ h => Cert.KernelIdeal.Run.frame m ρ (tables_ideal m h),
    fun m ρ _ => Cert.ReferenceIdeal.Gen.frame m ρ,
    fun m ρ _ => Cert.ReferenceIdeal.Gen.frame m ρ,
    trivial,
    algebraic⟩

end Cert.Proof

end
